-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite27 [hPre_finite27 : Cert.Pre_finite27.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite27 [hPre_finite27 : Cert.Pre_finite27.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))) = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3))) = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3))) = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4))) = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1)) (m ((c.tc : Thread Cert.Reference25Ideal.nD Cert.Reference25Ideal.τ).loc Cert.Reference25Ideal.main_arg2)) (m ((c.tc : Thread Cert.Reference25Ideal.nD Cert.Reference25Ideal.τ).loc Cert.Reference25Ideal.main_arg3)) (m ((c.tc : Thread Cert.Reference25Ideal.nD Cert.Reference25Ideal.τ).loc Cert.Reference25Ideal.main_arg4))) = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite34 [hPre_finite34 : Cert.Pre_finite34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite34 [hPre_finite34 : Cert.Pre_finite34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))) = (fun _ => 1#1)

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_finite27 [hKernel27Ideal : Cert.Kernel27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite27 m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_finite27 [hReference27Ideal : Cert.Reference27Ideal.Facts] [hPre_finite27 : Cert.Pre_finite27.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite27 m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Kernel34Ideal_pre_finite34 [hKernel34Ideal : Cert.Kernel34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite34 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Reference34Ideal_pre_finite34 [hReference34Ideal : Cert.Reference34Ideal.Facts] [hPre_finite34 : Cert.Pre_finite34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v11) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v16) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v58) = v0 c
          ∧ r.2.mem ((c.tc : Thread Cert.Reference16Ideal.nD Cert.Reference16Ideal.τ).loc Cert.Reference16Ideal.main_v72) = v1 c
          ∧ r.2.mem ((c.tc : Thread Cert.Reference16Ideal.nD Cert.Reference16Ideal.τ).loc Cert.Reference16Ideal.main_v73) = v2 c
          ∧ r.2.mem ((c.tc : Thread Cert.Reference16Ideal.nD Cert.Reference16Ideal.τ).loc Cert.Reference16Ideal.main_v71) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v41) = v0 c
          ∧ r.2.mem ((c.tc : Thread Cert.Reference17Ideal.nD Cert.Reference17Ideal.τ).loc Cert.Reference17Ideal.main_v43) = v1 c
          ∧ r.2.mem ((c.tc : Thread Cert.Reference17Ideal.nD Cert.Reference17Ideal.τ).loc Cert.Reference17Ideal.main_v40) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v43) = v0 c
          ∧ r.2.mem ((c.tc : Thread Cert.Reference18Ideal.nD Cert.Reference18Ideal.τ).loc Cert.Reference18Ideal.main_v42) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel32_Kernel32Ideal : Prop :=
  IdealRules.named_const.Statement Cert.Kernel32Ideal.κ "c1" .f32 0x3FC48605#32 ((8388608 / 5463681 : ℝ) : EReal)
  ∧ IdealRules.named_const.Statement Cert.Kernel32Ideal.κ "c2" .f32 0x42C8E6D3#32 ((268435456 / 2672307 : ℝ) : EReal)

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel36_Kernel36Ideal : Prop :=
  IdealRules.named_const.Statement Cert.Kernel36Ideal.κ "c1" .f32 0x3FC48605#32 ((8388608 / 5463681 : ℝ) : EReal)
  ∧ IdealRules.named_const.Statement Cert.Kernel36Ideal.κ "c2" .f32 0x42C8E6D3#32 ((268435456 / 2672307 : ℝ) : EReal)

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  IdealRules.named_const.Statement Cert.Kernel37Ideal.κ "c1" .f32 0x3FC48605#32 ((8388608 / 5463681 : ℝ) : EReal)
  ∧ IdealRules.named_const.Statement Cert.Kernel37Ideal.κ "c2" .f32 0x42C8E6D3#32 ((268435456 / 2672307 : ℝ) : EReal)

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  IdealRules.named_const.Statement Cert.Kernel38Ideal.κ "c1" .f32 0x3FC48605#32 ((8388608 / 5463681 : ℝ) : EReal)
  ∧ IdealRules.named_const.Statement Cert.Kernel38Ideal.κ "c2" .f32 0x42C8E6D3#32 ((268435456 / 2672307 : ℝ) : EReal)

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  IdealRules.named_const.Statement Cert.Kernel39Ideal.κ "c1" .f32 0x3FC48605#32 ((8388608 / 5463681 : ℝ) : EReal)
  ∧ IdealRules.named_const.Statement Cert.Kernel39Ideal.κ "c2" .f32 0x42C8E6D3#32 ((268435456 / 2672307 : ℝ) : EReal)

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v36) = v1 c
          ∧ r.2.mem ((c.tc : Thread Cert.Reference23Ideal.nD Cert.Reference23Ideal.τ).loc Cert.Reference23Ideal.main_v37) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel40_Kernel40Ideal : Prop :=
  IdealRules.named_const.Statement Cert.Kernel40Ideal.κ "c1" .f32 0x3FC48605#32 ((8388608 / 5463681 : ℝ) : EReal)
  ∧ IdealRules.named_const.Statement Cert.Kernel40Ideal.κ "c2" .f32 0x42C8E6D3#32 ((268435456 / 2672307 : ℝ) : EReal)

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v46) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel27_Kernel27Ideal : Prop :=
  True

def algebraic_Kernel27Ideal_Reference27Ideal_pre_finite27 [hKernel27Ideal : Cert.Kernel27Ideal.Facts] [hReference27Ideal : Cert.Reference27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite27 m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v77) = v0 c
          ∧ r.2.mem ((c.tc : Thread Cert.Reference27Ideal.nD Cert.Reference27Ideal.τ).loc Cert.Reference27Ideal.main_v78) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v117) = v0 c
          ∧ r.2.mem ((c.tc : Thread Cert.Reference26Ideal.nD Cert.Reference26Ideal.τ).loc Cert.Reference26Ideal.main_v118) = v1 c
          ∧ r.2.mem ((c.tc : Thread Cert.Reference26Ideal.nD Cert.Reference26Ideal.τ).loc Cert.Reference26Ideal.main_v119) = v2 c
          ∧ r.2.mem ((c.tc : Thread Cert.Reference26Ideal.nD Cert.Reference26Ideal.τ).loc Cert.Reference26Ideal.main_v120) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v3_0)) (v1 : (c : Dev Cert.Kernel24Ideal.nD) → Buf (Elt Ideal) ((c.tc : Thread Cert.Kernel24Ideal.nD Cert.Kernel24Ideal.τ).loc Cert.Kernel24Ideal.main_v3_1)) (v2 : (c : Dev Cert.Kernel24Ideal.nD) → Buf (Elt Ideal) ((c.tc : Thread Cert.Kernel24Ideal.nD Cert.Kernel24Ideal.τ).loc Cert.Kernel24Ideal.main_v3_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3_0) = v0 c
          ∧ r.2.mem ((c.tc : Thread Cert.Kernel24Ideal.nD Cert.Kernel24Ideal.τ).loc Cert.Kernel24Ideal.main_v3_1) = v1 c
          ∧ r.2.mem ((c.tc : Thread Cert.Kernel24Ideal.nD Cert.Kernel24Ideal.τ).loc Cert.Kernel24Ideal.main_v3_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v46) = v0 c
          ∧ r.2.mem ((c.tc : Thread Cert.Reference24Ideal.nD Cert.Reference24Ideal.τ).loc Cert.Reference24Ideal.main_v47) = v1 c
          ∧ r.2.mem ((c.tc : Thread Cert.Reference24Ideal.nD Cert.Reference24Ideal.τ).loc Cert.Reference24Ideal.main_v48) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v20) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v2_0)) (v1 : (c : Dev Cert.Kernel31Ideal.nD) → Buf (Elt Ideal) ((c.tc : Thread Cert.Kernel31Ideal.nD Cert.Kernel31Ideal.τ).loc Cert.Kernel31Ideal.main_v2_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v2_0) = v0 c
          ∧ r.2.mem ((c.tc : Thread Cert.Kernel31Ideal.nD Cert.Kernel31Ideal.τ).loc Cert.Kernel31Ideal.main_v2_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v11) = v0 c
          ∧ r.2.mem ((c.tc : Thread Cert.Reference31Ideal.nD Cert.Reference31Ideal.τ).loc Cert.Reference31Ideal.main_v17) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v0) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0))

def preserves_Kernel25_Kernel25Ideal : Prop :=
  True

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v20_0)) (v1 : (c : Dev Cert.Kernel25Ideal.nD) → Buf (Elt Ideal) ((c.tc : Thread Cert.Kernel25Ideal.nD Cert.Kernel25Ideal.τ).loc Cert.Kernel25Ideal.main_v20_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v20_0) = v0 c
          ∧ r.2.mem ((c.tc : Thread Cert.Kernel25Ideal.nD Cert.Kernel25Ideal.τ).loc Cert.Kernel25Ideal.main_v20_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v35) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v43) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v104) = v0 c
          ∧ r.2.mem ((c.tc : Thread Cert.Reference28Ideal.nD Cert.Reference28Ideal.τ).loc Cert.Reference28Ideal.main_v105) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel34_Kernel34Ideal : Prop :=
  True

def algebraic_Kernel34Ideal_Reference34Ideal_pre_finite34 [hKernel34Ideal : Cert.Kernel34Ideal.Facts] [hReference34Ideal : Cert.Reference34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite34 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v104) = v0 c
          ∧ r.2.mem ((c.tc : Thread Cert.Reference34Ideal.nD Cert.Reference34Ideal.τ).loc Cert.Reference34Ideal.main_v105) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v29) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v3) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v2) = v0 c
          ∧ r.2.mem ((c.tc : Thread Cert.Reference44Ideal.nD Cert.Reference44Ideal.τ).loc Cert.Reference44Ideal.main_v5) = v1 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel32 : Cert.Kernel32.Facts) (hKernel32Ideal : Cert.Kernel32Ideal.Facts) (hReference32Ideal : Cert.Reference32Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel23 : Cert.Kernel23.Facts) (hKernel23Ideal : Cert.Kernel23Ideal.Facts) (hReference23Ideal : Cert.Reference23Ideal.Facts) (hKernel29 : Cert.Kernel29.Facts) (hKernel29Ideal : Cert.Kernel29Ideal.Facts) (hReference29Ideal : Cert.Reference29Ideal.Facts) (hKernel40 : Cert.Kernel40.Facts) (hKernel40Ideal : Cert.Kernel40Ideal.Facts) (hReference40Ideal : Cert.Reference40Ideal.Facts) (hKernel30 : Cert.Kernel30.Facts) (hKernel30Ideal : Cert.Kernel30Ideal.Facts) (hReference30Ideal : Cert.Reference30Ideal.Facts) (hKernel27 : Cert.Kernel27.Facts) (hKernel27Ideal : Cert.Kernel27Ideal.Facts) (hReference27Ideal : Cert.Reference27Ideal.Facts) (hKernel26 : Cert.Kernel26.Facts) (hKernel26Ideal : Cert.Kernel26Ideal.Facts) (hReference26Ideal : Cert.Reference26Ideal.Facts) (hKernel24 : Cert.Kernel24.Facts) (hKernel24Ideal : Cert.Kernel24Ideal.Facts) (hReference24Ideal : Cert.Reference24Ideal.Facts) (hKernel35 : Cert.Kernel35.Facts) (hKernel35Ideal : Cert.Kernel35Ideal.Facts) (hReference35Ideal : Cert.Reference35Ideal.Facts) (hKernel31 : Cert.Kernel31.Facts) (hKernel31Ideal : Cert.Kernel31Ideal.Facts) (hReference31Ideal : Cert.Reference31Ideal.Facts) (hKernel41 : Cert.Kernel41.Facts) (hKernel41Ideal : Cert.Kernel41Ideal.Facts) (hReference41Ideal : Cert.Reference41Ideal.Facts) (hKernel25 : Cert.Kernel25.Facts) (hKernel25Ideal : Cert.Kernel25Ideal.Facts) (hReference25Ideal : Cert.Reference25Ideal.Facts) (hKernel33 : Cert.Kernel33.Facts) (hKernel33Ideal : Cert.Kernel33Ideal.Facts) (hReference33Ideal : Cert.Reference33Ideal.Facts) (hKernel28 : Cert.Kernel28.Facts) (hKernel28Ideal : Cert.Kernel28Ideal.Facts) (hReference28Ideal : Cert.Reference28Ideal.Facts) (hKernel34 : Cert.Kernel34.Facts) (hKernel34Ideal : Cert.Kernel34Ideal.Facts) (hReference34Ideal : Cert.Reference34Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hPre_finite27 : Cert.Pre_finite27.Facts) (hPre_finite26 : Cert.Pre_finite26.Facts) (hPre_finite24 : Cert.Pre_finite24.Facts) (hPre_finite25 : Cert.Pre_finite25.Facts) (hPre_finite28 : Cert.Pre_finite28.Facts) (hPre_finite34 : Cert.Pre_finite34.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel27 (hKernel27 := hKernel27)
    ∧ quiescent_Kernel27Ideal (hKernel27Ideal := hKernel27Ideal)
    ∧ quiescent_Kernel27Ideal_pre_finite27 (hKernel27Ideal := hKernel27Ideal) (hPre_finite27 := hPre_finite27)
    ∧ quiescent_Reference27Ideal (hReference27Ideal := hReference27Ideal)
    ∧ quiescent_Reference27Ideal_pre_finite27 (hReference27Ideal := hReference27Ideal) (hPre_finite27 := hPre_finite27)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel34 (hKernel34 := hKernel34)
    ∧ quiescent_Kernel34Ideal (hKernel34Ideal := hKernel34Ideal)
    ∧ quiescent_Kernel34Ideal_pre_finite34 (hKernel34Ideal := hKernel34Ideal) (hPre_finite34 := hPre_finite34)
    ∧ quiescent_Reference34Ideal (hReference34Ideal := hReference34Ideal)
    ∧ quiescent_Reference34Ideal_pre_finite34 (hReference34Ideal := hReference34Ideal) (hPre_finite34 := hPre_finite34)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel32_Kernel32Ideal
    ∧ algebraic_Kernel32Ideal_Reference32Ideal (hKernel32Ideal := hKernel32Ideal) (hReference32Ideal := hReference32Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel23_Kernel23Ideal
    ∧ algebraic_Kernel23Ideal_Reference23Ideal (hKernel23Ideal := hKernel23Ideal) (hReference23Ideal := hReference23Ideal)
    ∧ preserves_Kernel29_Kernel29Ideal
    ∧ algebraic_Kernel29Ideal_Reference29Ideal (hKernel29Ideal := hKernel29Ideal) (hReference29Ideal := hReference29Ideal)
    ∧ preserves_Kernel40_Kernel40Ideal
    ∧ algebraic_Kernel40Ideal_Reference40Ideal (hKernel40Ideal := hKernel40Ideal) (hReference40Ideal := hReference40Ideal)
    ∧ preserves_Kernel30_Kernel30Ideal
    ∧ algebraic_Kernel30Ideal_Reference30Ideal (hKernel30Ideal := hKernel30Ideal) (hReference30Ideal := hReference30Ideal)
    ∧ preserves_Kernel27_Kernel27Ideal
    ∧ algebraic_Kernel27Ideal_Reference27Ideal_pre_finite27 (hKernel27Ideal := hKernel27Ideal) (hReference27Ideal := hReference27Ideal) (hPre_finite27 := hPre_finite27)
    ∧ preserves_Kernel26_Kernel26Ideal
    ∧ algebraic_Kernel26Ideal_Reference26Ideal_pre_finite26 (hKernel26Ideal := hKernel26Ideal) (hReference26Ideal := hReference26Ideal) (hPre_finite26 := hPre_finite26)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel35_Kernel35Ideal
    ∧ algebraic_Kernel35Ideal_Reference35Ideal (hKernel35Ideal := hKernel35Ideal) (hReference35Ideal := hReference35Ideal)
    ∧ preserves_Kernel31_Kernel31Ideal
    ∧ algebraic_Kernel31Ideal_Reference31Ideal (hKernel31Ideal := hKernel31Ideal) (hReference31Ideal := hReference31Ideal)
    ∧ preserves_Kernel41_Kernel41Ideal
    ∧ algebraic_Kernel41Ideal_Reference41Ideal (hKernel41Ideal := hKernel41Ideal) (hReference41Ideal := hReference41Ideal)
    ∧ preserves_Kernel25_Kernel25Ideal
    ∧ algebraic_Kernel25Ideal_Reference25Ideal_pre_finite25 (hKernel25Ideal := hKernel25Ideal) (hReference25Ideal := hReference25Ideal) (hPre_finite25 := hPre_finite25)
    ∧ preserves_Kernel33_Kernel33Ideal
    ∧ algebraic_Kernel33Ideal_Reference33Ideal (hKernel33Ideal := hKernel33Ideal) (hReference33Ideal := hReference33Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel34_Kernel34Ideal
    ∧ algebraic_Kernel34Ideal_Reference34Ideal_pre_finite34 (hKernel34Ideal := hKernel34Ideal) (hReference34Ideal := hReference34Ideal) (hPre_finite34 := hPre_finite34)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
-- ==== Pre_finite24.lean ====
abbrev S4096x2048 : Shape := ⟨2, ![4096, 2048]⟩
abbrev S4096x1024 : Shape := ⟨2, ![4096, 1024]⟩
abbrev S4096x7168 : Shape := ⟨2, ![4096, 7168]⟩
abbrev S1x128 : Shape := ⟨2, ![1, 128]⟩
abbrev S_ : Shape := ⟨0, ![]⟩

class Facts : Prop where
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x2048 .f32) (main_arg1 : FVec F S4096x1024 .f32) (main_arg2 : FVec F S4096x7168 .f32) (main_arg3 : FVec F S1x128 .f32) : IVec S_ 1 :=
  let main_v0 : FVec F S4096x1024 .f32 := (extractStridedSlice S4096x1024 ![0, 1024] · slices_S4096x2048_S4096x1024_0_1024) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x128 .f32 := Host.absf main_arg3
  let main_cst_0 : FVec F S_ .f32 := constant S_ .f32 0x7F800000#32
  let main_v6 : FVec F S1x128 .f32 := broadcastInDim S1x128 ![] bcast_S_S1x128 main_cst_0
  let main_v7 : IVec S1x128 1 := cmpf .olt main_v5 main_v6
  let main_c_1 : IVec S_ 1 := constantI S_ 1 1#1
  let main_v8 : IVec S_ 1 := (fun x v => Host.reduce IntOp.andi x v reducesTo_S1x128_S_d0_1 h_S_) main_v7 main_c_1
  let main_v9 : IVec S_ 1 := andi main_v4 main_v8
  main_v9
-- ==== Pre_finite25.lean ====
abbrev S8x4096x128 : Shape := ⟨3, ![8, 4096, 128]⟩
abbrev S4096x128 : Shape := ⟨2, ![4096, 128]⟩
abbrev S1x8 : Shape := ⟨2, ![1, 8]⟩
abbrev S_ : Shape := ⟨0, ![]⟩
abbrev S8x4096 : Shape := ⟨2, ![8, 4096]⟩
abbrev S4096x8 : Shape := ⟨2, ![4096, 8]⟩

class Facts : Prop where
  reducesTo_S8x4096x128_S8x4096_d2 : S8x4096x128.ReducesTo [2] S8x4096
  h_S_ : 0 < S_.numel
  bcast_S_S8x4096 : S_.BroadcastsInDim S8x4096 (![] : Fin 0 → Fin S8x4096.rank)
  reducesTo_S8x4096_S_d0_1 : S8x4096.ReducesTo [0, 1] S_
  slices_S4096x128_S4096x8_0_0 : S4096x128.Slices ![0, 0] S4096x8
  bcast_S1x8_S4096x8_0_1 : S1x8.BroadcastsInDim S4096x8 (![0, 1] : Fin 2 → Fin S4096x8.rank)
  bcast_S_S4096x8 : S_.BroadcastsInDim S4096x8 (![] : Fin 0 → Fin S4096x8.rank)
  reducesTo_S4096x8_S_d0_1 : S4096x8.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v12 : IVec S_ 1) (main_v16 : IVec S_ 1) : IVec S_ 1 :=
  let main_v17 : IVec S_ 1 := andi main_v12 main_v16
  main_v17

def fn {F : FTy → Type} [FloatOps F] (main_arg0 : FVec F S8x4096x128 .f32) (main_arg1 : FVec F S8x4096x128 .f32) (main_arg2 : FVec F S4096x128 .f32) (main_arg3 : FVec F S1x8 .f32) (main_arg4 : FVec F S1x8 .f32) : IVec S_ 1 :=
  let main_cst : FVec F S_ .f32 := constant S_ .f32 0x00000000#32
  let main_v0 : FVec F S8x4096 .f32 := (fun x v => Host.reduceAdd x v reducesTo_S8x4096x128_S8x4096_d2 h_S_) main_arg0 main_cst
  let main_v1 : FVec F S8x4096 .f32 := Host.absf main_v0
  let main_cst_0 : FVec F S_ .f32 := constant S_ .f32 0x7F800000#32
  let main_v2 : FVec F S8x4096 .f32 := broadcastInDim S8x4096 ![] bcast_S_S8x4096 main_cst_0
  let main_v3 : IVec S8x4096 1 := cmpf .olt main_v1 main_v2
  let main_c : IVec S_ 1 := constantI S_ 1 1#1
  let main_v4 : IVec S_ 1 := (fun x v => Host.reduce IntOp.andi x v reducesTo_S8x4096_S_d0_1 h_S_) main_v3 main_c
  let main_v5 : FVec F S4096x8 .f32 := (extractStridedSlice S4096x8 ![0, 0] · slices_S4096x128_S4096x8_0_0) main_arg2
  let main_v6 : FVec F S4096x8 .f32 := broadcastInDim S4096x8 ![0, 1] bcast_S1x8_S4096x8_0_1 main_arg4
  let main_v7 : FVec F S4096x8 .f32 := addf main_v5 main_v6
  let main_v8 : FVec F S4096x8 .f32 := Host.absf main_v7
  let main_cst_1 : FVec F S_ .f32 := constant S_ .f32 0x7F800000#32
  let main_v9 : FVec F S4096x8 .f32 := broadcastInDim S4096x8 ![] bcast_S_S4096x8 main_cst_1
  let main_v10 : IVec S4096x8 1 := cmpf .olt main_v8 main_v9
  let main_c_2 : IVec S_ 1 := constantI S_ 1 1#1
  let main_v11 : IVec S_ 1 := (fun x v => Host.reduce IntOp.andi x v reducesTo_S4096x8_S_d0_1 h_S_) main_v10 main_c_2
  let main_v12 : IVec S_ 1 := andi main_v4 main_v11
  let main_v13 : FVec F S1x8 .f32 := Host.absf main_arg3
  let main_cst_3 : FVec F S_ .f32 := constant S_ .f32 0x7F800000#32
  let main_v14 : FVec F S1x8 .f32 := broadcastInDim S1x8 ![] bcast_S_S1x8 main_cst_3
  let main_v15 : IVec S1x8 1 := cmpf .olt main_v13 main_v14
  let main_c_4 : IVec S_ 1 := constantI S_ 1 1#1
  let main_v16 : IVec S_ 1 := (fun x v => Host.reduce IntOp.andi x v reducesTo_S1x8_S_d0_1 h_S_) main_v15 main_c_4
  fn_part1 (F := F) main_v12 main_v16
-- ==== Pre_finite26.lean ====
abbrev S4096x5632 : Shape := ⟨2, ![4096, 5632]⟩
abbrev S3x5632 : Shape := ⟨2, ![3, 5632]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_

variable [Facts]

def fn {F : FTy → Type} [FloatOps F] (main_arg0 : FVec F S4096x5632 .f32) (main_arg1 : FVec F S4096x5632 .f32) (main_arg2 : FVec F S4096x5632 .f32) (main_arg3 : FVec F S3x5632 .f32) (main_arg4 : FVec F S3x5632 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x5632 .f32 := Host.absf main_arg2
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S3x5632 .f32 := Host.absf main_arg4
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  main_v13
-- ==== Pre_finite27.lean ====
abbrev S4096x1024 : Shape := ⟨2, ![4096, 1024]⟩
abbrev S4096x7168 : Shape := ⟨2, ![4096, 7168]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x7168 .f32) (main_arg2 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite28.lean ====
abbrev S4096x1024 : Shape := ⟨2, ![4096, 1024]⟩
abbrev S4096x7168 : Shape := ⟨2, ![4096, 7168]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x7168 .f32) (main_arg2 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite34.lean ====
abbrev S4096x1024 : Shape := ⟨2, ![4096, 1024]⟩
abbrev S4096x7168 : Shape := ⟨2, ![4096, 7168]⟩
abbrev S4x1024 : Shape := ⟨2, ![4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x7168 .f32) (main_arg2 : FVec F S4x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x2048 : Shape := ⟨2, ![4096, 2048]⟩
abbrev S4096x7168 : Shape := ⟨2, ![4096, 7168]⟩
abbrev S3x1024 : Shape := ⟨2, ![3, 1024]⟩
abbrev S4096x1024 : Shape := ⟨2, ![4096, 1024]⟩
abbrev S8x1024 : Shape := ⟨2, ![8, 1024]⟩
abbrev S8x512 : Shape := ⟨2, ![8, 512]⟩
abbrev S1024x512 : Shape := ⟨2, ![1024, 512]⟩
abbrev S3x512 : Shape := ⟨2, ![3, 512]⟩
abbrev S1040x512 : Shape := ⟨2, ![1040, 512]⟩
abbrev S1x512 : Shape := ⟨2, ![1, 512]⟩
abbrev S512 : Shape := ⟨1, ![512]⟩
abbrev S5x512 : Shape := ⟨2, ![5, 512]⟩

abbrev nBuf : Space → Nat
  | .hbm => 7
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x7168, .f32⟩
  | .hbm, ⟨2, _⟩ => ⟨S3x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S8x1024, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S1024x512, .f32⟩
  | .local _ .vmem, ⟨15, _⟩ => ⟨S1024x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S1024x512, .f32⟩
  | .local _ .vmem, ⟨21, _⟩ => ⟨S1024x512, .f32⟩
  | .local _ .vmem, ⟨22, _⟩ => ⟨S8x512, .f32⟩
  | .local _ .vmem, ⟨23, _⟩ => ⟨S8x512, .f32⟩
  | .local _ .vmem, ⟨24, _⟩ => ⟨S3x512, .f32⟩
  | .local _ .vmem, ⟨25, _⟩ => ⟨S3x512, .f32⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S8x512, .f32⟩
  | .local _ .vmem, ⟨33, _⟩ => ⟨S8x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_50 : BitVec 32 := 0#32
  let v97 : BitVec 1 := Scalar.cmpi .eq arg1 c0_i32_50
  let v98 : BitVec 32 := Scalar.extui v97
  let c0_i32_51 : BitVec 32 := 0#32
  let v99 : BitVec 1 := Scalar.cmpi .ne v98 c0_i32_51
  v99

def k0_cond2 (i : grid0.Coords) : BitVec 1 :=
  let arg1 : BitVec 32 := BitVec.ofNat 32 (i 1).val
  let c0_i32_52 : BitVec 32 := 0#32
  let v100 : BitVec 1 := Scalar.cmpi .sgt arg1 c0_i32_52
  let v101 : BitVec 32 := Scalar.extui v100
  let c0_i32_53 : BitVec 32 := 0#32
  let v102 : BitVec 1 := Scalar.cmpi .ne v101 c0_i32_53
  v102

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c2_i32 : BitVec 32 := 2#32
  let v3 : BitVec 32 := Scalar.addi arg0 c2_i32
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c4_i32 : BitVec 32 := 4#32
  let v3 : BitVec 32 := Scalar.addi arg0 c4_i32
  let c0_i32 : BitVec 32 := 0#32
  ![v2.toNat, v3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S4096x2048 : Shape := ⟨2, ![4096, 2048]⟩
abbrev S4096x7168 : Shape := ⟨2, ![4096, 7168]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x7168, .f32⟩
  | .hbm, ⟨2, _⟩ => ⟨S3x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S4096x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S3x1024, .f32⟩
  | .hbm, ⟨47, _⟩ => ⟨S_, .f32⟩
  | .hbm, ⟨48, _⟩ => ⟨S4098x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S_, .f32⟩
  | .hbm, ⟨62, _⟩ => ⟨S4098x1024, .f32⟩
  | .hbm, ⟨63, _⟩ => ⟨S4098x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S_, .f32⟩
  | .hbm, ⟨77, _⟩ => ⟨S4098x1024, .f32⟩
  | .hbm, ⟨78, _⟩ => ⟨S4098x1024, .f32⟩
  | .hbm, ⟨79, _⟩ => ⟨S2x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .bf16⟩
  | .hbm, ⟨84, _⟩ => ⟨S4096x1024, .bf16⟩
  | .hbm, ⟨85, _⟩ => ⟨S4096x1024, .bf16⟩
  | .hbm, ⟨86, _⟩ => ⟨S_, .i32⟩
  | .hbm, ⟨87, _⟩ => ⟨S_, .f32⟩
  | .hbm, ⟨88, _⟩ => ⟨S8x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_c : Ref sig .tc := ⟨.hbm, 86, rfl⟩
abbrev main_call0_v0 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Kernel2.lean ====
abbrev S4096x2048 : Shape := ⟨2, ![4096, 2048]⟩
abbrev S4096x7168 : Shape := ⟨2, ![4096, 7168]⟩
abbrev S2048x7168 : Shape := ⟨2, ![2048, 7168]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S2048x7168, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S_, .f32⟩
  | .hbm, ⟨3, _⟩ => ⟨S2048x7168, .f32⟩
  | .hbm, ⟨4, _⟩ => ⟨S4096x2048, .f32⟩
  | .hbm, ⟨5, _⟩ => ⟨S4096x7168, .f32⟩
  | .hbm, ⟨6, _⟩ => ⟨S4096x7168, .f32⟩
  | .hbm, ⟨7, _⟩ => ⟨S7168x2048, .f32⟩
  | .hbm, ⟨8, _⟩ => ⟨S2048x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x7168 : Shape := ⟨2, ![4096, 7168]⟩
abbrev S2048x7168 : Shape := ⟨2, ![2048, 7168]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S4096x2048, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x7168 : Shape := ⟨2, ![4096, 7168]⟩
abbrev S2048x7168 : Shape := ⟨2, ![2048, 7168]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S_, .f32⟩
  | .hbm, ⟨3, _⟩ => ⟨S4096x2048, .f32⟩
  | .hbm, ⟨4, _⟩ => ⟨S2048x7168, .f32⟩
  | .hbm, ⟨5, _⟩ => ⟨S4096x7168, .f32⟩
  | .hbm, ⟨6, _⟩ => ⟨S4096x7168, .f32⟩
  | .hbm, ⟨7, _⟩ => ⟨S4096x2048, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2048 : Shape := ⟨2, ![4096, 2048]⟩
abbrev S4096x5632 : Shape := ⟨2, ![4096, 5632]⟩
abbrev S2x2048x2816 : Shape := ⟨3, ![2, 2048, 2816]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2x2048x2816, .f32⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .f32⟩
  | .local _ .vmem, ⟨5, _⟩ => ⟨S1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x5632 : Shape := ⟨2, ![4096, 5632]⟩
abbrev S_ : Shape := ⟨0, ![]⟩
abbrev S2x2048x2816 : Shape := ⟨3, ![2, 2048, 2816]⟩
abbrev S2048x2x2816 : Shape := ⟨3, ![2048, 2, 2816]⟩
abbrev S2048x5632 : Shape := ⟨2, ![2048, 5632]⟩
abbrev S5632x2048 : Shape := ⟨2, ![5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2x2048x2816, .f32⟩
  | .hbm, ⟨4, _⟩ => ⟨S4096x2048, .f32⟩
  | .hbm, ⟨5, _⟩ => ⟨S2048x2x2816, .f32⟩
  | .hbm, ⟨6, _⟩ => ⟨S2048x5632, .f32⟩
  | .hbm, ⟨7, _⟩ => ⟨S4096x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S2048x2x2816, .f32⟩
  | .hbm, ⟨12, _⟩ => ⟨S2x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x5632 : Shape := ⟨2, ![4096, 5632]⟩
abbrev S4x2048x2816 : Shape := ⟨3, ![4, 2048, 2816]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg2 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S4x2048x2816 : Shape := ⟨3, ![4, 2048, 2816]⟩
abbrev S_ : Shape := ⟨0, ![]⟩
abbrev S4096x2048 : Shape := ⟨2, ![4096, 2048]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S_, .f32⟩
  | .hbm, ⟨3, _⟩ => ⟨S4096x2048, .f32⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x11264, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel8.lean ====
abbrev S4096x5632 : Shape := ⟨2, ![4096, 5632]⟩
abbrev S4x2048x2816 : Shape := ⟨3, ![4, 2048, 2816]⟩
abbrev S4096x2048 : Shape := ⟨2, ![4096, 2048]⟩
abbrev S1024x2816 : Shape := ⟨2, ![1024, 2816]⟩
abbrev S1x512x2816 : Shape := ⟨3, ![1, 512, 2816]⟩
abbrev S1024x512 : Shape := ⟨2, ![1024, 512]⟩
abbrev S512x2816 : Shape := ⟨2, ![512, 2816]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi c2_i32 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg2 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x5632 : Shape := ⟨2, ![4096, 5632]⟩
abbrev S4x2048x2816 : Shape := ⟨3, ![4, 2048, 2816]⟩
abbrev S4096x2048 : Shape := ⟨2, ![4096, 2048]⟩
abbrev S_ : Shape := ⟨0, ![]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 17
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x2816, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4x2048x2816, .f32⟩
  | .hbm, ⟨6, _⟩ => ⟨S2048x4x2816, .f32⟩
  | .hbm, ⟨7, _⟩ => ⟨S2048x11264, .f32⟩
  | .hbm, ⟨8, _⟩ => ⟨S4096x11264, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x11264, .f32⟩
  | .hbm, ⟨15, _⟩ => ⟨S4096x2048, .f32⟩
  | .hbm, ⟨16, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S2048x7168 : Shape := ⟨2, ![2048, 7168]⟩
abbrev S4096x7168 : Shape := ⟨2, ![4096, 7168]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x7168 : Shape := ⟨2, ![2048, 7168]⟩
abbrev S4096x7168 : Shape := ⟨2, ![4096, 7168]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x2048, .f32⟩
  | .hbm, ⟨3, _⟩ => ⟨S2048x7168, .f32⟩
  | .hbm, ⟨4, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S4x2048x2816 : Shape := ⟨3, ![4, 2048, 2816]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel13.lean ====
abbrev S4096x2048 : Shape := ⟨2, ![4096, 2048]⟩
abbrev S4x2048x2816 : Shape := ⟨3, ![4, 2048, 2816]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel14.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1x2048 : Shape := ⟨2, ![1, 2048]⟩
abbrev S128x2048 : Shape := ⟨2, ![128, 2048]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S2048 : Shape := ⟨1, ![2048]⟩
abbrev S6x2048 : Shape := ⟨2, ![6, 2048]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S4096x2048, .bf16⟩
  | .hbm, ⟨9, _⟩ => ⟨S128x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S8x2048, .f32⟩
  | .local _ .vmem, ⟨17, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference16Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S16x256x2048 : Shape := ⟨3, ![16, 256, 2048]⟩
abbrev S16x2048 : Shape := ⟨2, ![16, 2048]⟩
abbrev S16x1x2048 : Shape := ⟨3, ![16, 1, 2048]⟩
abbrev S16x2x2048 : Shape := ⟨3, ![16, 2, 2048]⟩
abbrev S16x6x2048 : Shape := ⟨3, ![16, 6, 2048]⟩
abbrev S16x8x2048 : Shape := ⟨3, ![16, 8, 2048]⟩
abbrev S128x2048 : Shape := ⟨2, ![128, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x2048, .f32⟩
  | .hbm, ⟨69, _⟩ => ⟨S4096x2048, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S16x256x2048, .f32⟩
  | .hbm, ⟨85, _⟩ => ⟨S_, .f32⟩
  | .hbm, ⟨86, _⟩ => ⟨S16x2048, .f32⟩
  | .hbm, ⟨87, _⟩ => ⟨S16x256x2048, .f32⟩
  | .hbm, ⟨88, _⟩ => ⟨S_, .f32⟩
  | .hbm, ⟨89, _⟩ => ⟨S16x2048, .f32⟩
  | .hbm, ⟨90, _⟩ => ⟨S16x1x2048, .f32⟩
  | .hbm, ⟨91, _⟩ => ⟨S16x1x2048, .f32⟩
  | .hbm, ⟨92, _⟩ => ⟨S16x2x2048, .f32⟩
  | .hbm, ⟨93, _⟩ => ⟨S_, .f32⟩
  | .hbm, ⟨94, _⟩ => ⟨S16x6x2048, .f32⟩
  | .hbm, ⟨95, _⟩ => ⟨S16x8x2048, .f32⟩
  | .hbm, ⟨96, _⟩ => ⟨S128x2048, .f32⟩
  | .hbm, ⟨97, _⟩ => ⟨S4096x2048, .bf16⟩
  | .hbm, ⟨98, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S1x2048 : Shape := ⟨2, ![1, 2048]⟩
abbrev S128x2048 : Shape := ⟨2, ![128, 2048]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S2048 : Shape := ⟨1, ![2048]⟩
abbrev S7x2048 : Shape := ⟨2, ![7, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S128x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x2048, .f32⟩
  | .local _ .vmem, ⟨13, _⟩ => ⟨S8x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference17Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S16x256x2048 : Shape := ⟨3, ![16, 256, 2048]⟩
abbrev S16x2048 : Shape := ⟨2, ![16, 2048]⟩
abbrev S16x1x2048 : Shape := ⟨3, ![16, 1, 2048]⟩
abbrev S16x7x2048 : Shape := ⟨3, ![16, 7, 2048]⟩
abbrev S16x8x2048 : Shape := ⟨3, ![16, 8, 2048]⟩
abbrev S128x2048 : Shape := ⟨2, ![128, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S16x256x2048, .f32⟩
  | .hbm, ⟨48, _⟩ => ⟨S_, .f32⟩
  | .hbm, ⟨49, _⟩ => ⟨S16x2048, .f32⟩
  | .hbm, ⟨50, _⟩ => ⟨S16x1x2048, .f32⟩
  | .hbm, ⟨51, _⟩ => ⟨S_, .f32⟩
  | .hbm, ⟨52, _⟩ => ⟨S16x7x2048, .f32⟩
  | .hbm, ⟨53, _⟩ => ⟨S16x8x2048, .f32⟩
  | .hbm, ⟨54, _⟩ => ⟨S128x2048, .f32⟩
  | .hbm, ⟨55, _⟩ => ⟨S4096x2048, .f32⟩
  | .hbm, ⟨56, _⟩ => ⟨S4096x2048, .f32⟩
  | .hbm, ⟨57, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel18.lean ====
abbrev S4096x128 : Shape := ⟨2, ![4096, 128]⟩
abbrev S2048x128 : Shape := ⟨2, ![2048, 128]⟩
abbrev S4096x2048 : Shape := ⟨2, ![4096, 2048]⟩
abbrev S1x2048 : Shape := ⟨2, ![1, 2048]⟩
abbrev S64x2048 : Shape := ⟨2, ![64, 2048]⟩
abbrev S512x128 : Shape := ⟨2, ![512, 128]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S2048 : Shape := ⟨1, ![2048]⟩
abbrev S7x2048 : Shape := ⟨2, ![7, 2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S64x2048, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S8x2048, .f32⟩
  | .local _ .vmem, ⟨13, _⟩ => ⟨S8x2048, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference18Ideal.lean ====
abbrev S4096x128 : Shape := ⟨2, ![4096, 128]⟩
abbrev S2048x128 : Shape := ⟨2, ![2048, 128]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S8x512x2048 : Shape := ⟨3, ![8, 512, 2048]⟩
abbrev S8x2048 : Shape := ⟨2, ![8, 2048]⟩
abbrev S8x1x2048 : Shape := ⟨3, ![8, 1, 2048]⟩
abbrev S8x7x2048 : Shape := ⟨3, ![8, 7, 2048]⟩
abbrev S8x8x2048 : Shape := ⟨3, ![8, 8, 2048]⟩
abbrev S64x2048 : Shape := ⟨2, ![64, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .hbm, ⟨6, _⟩ => ⟨S_, .f32⟩
  | .hbm, ⟨7, _⟩ => ⟨S4096x2048, .f32⟩
  | .hbm, ⟨8, _⟩ => ⟨S2048x128, .f32⟩
  | .hbm, ⟨9, _⟩ => ⟨S4096x128, .f32⟩
  | .hbm, ⟨10, _⟩ => ⟨S4096x128, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S8x512x2048, .f32⟩
  | .hbm, ⟨52, _⟩ => ⟨S_, .f32⟩
  | .hbm, ⟨53, _⟩ => ⟨S8x2048, .f32⟩
  | .hbm, ⟨54, _⟩ => ⟨S8x1x2048, .f32⟩
  | .hbm, ⟨55, _⟩ => ⟨S_, .f32⟩
  | .hbm, ⟨56, _⟩ => ⟨S8x7x2048, .f32⟩
  | .hbm, ⟨57, _⟩ => ⟨S8x8x2048, .f32⟩
  | .hbm, ⟨58, _⟩ => ⟨S64x2048, .f32⟩
  | .hbm, ⟨59, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel19.lean ====
abbrev S4096x256 : Shape := ⟨2, ![4096, 256]⟩
abbrev S4x256x512 : Shape := ⟨3, ![4, 256, 512]⟩
abbrev S4096x2048 : Shape := ⟨2, ![4096, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4x256x512, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x256 : Shape := ⟨2, ![4096, 256]⟩
abbrev S4x256x512 : Shape := ⟨3, ![4, 256, 512]⟩
abbrev S256x4x512 : Shape := ⟨3, ![256, 4, 512]⟩
abbrev S256x2048 : Shape := ⟨2, ![256, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x256x512, .bf16⟩
  | .hbm, ⟨2, _⟩ => ⟨S4x256x512, .f32⟩
  | .hbm, ⟨3, _⟩ => ⟨S256x4x512, .f32⟩
  | .hbm, ⟨4, _⟩ => ⟨S256x2048, .f32⟩
  | .hbm, ⟨5, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x256 : Shape := ⟨2, ![4096, 256]⟩
abbrev S4096x2048 : Shape := ⟨2, ![4096, 2048]⟩
abbrev S4x256x512 : Shape := ⟨3, ![4, 256, 512]⟩
abbrev S4096x512 : Shape := ⟨2, ![4096, 512]⟩
abbrev S1x256x512 : Shape := ⟨3, ![1, 256, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S4x256x512, .f32⟩
  | .local _ .vmem, ⟨0, _⟩ => ⟨S4096x256, .f32⟩
  | .local _ .vmem, ⟨1, _⟩ => ⟨S4096x512, .bf16⟩
  | .local _ .vmem, ⟨2, _⟩ => ⟨S4096x512, .bf16⟩
  | .local _ .vmem, ⟨3, _⟩ => ⟨S1x256x512, .f32⟩
  | .local _ .vmem, ⟨4, _⟩ => ⟨S1x256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x256 : Shape := ⟨2, ![4096, 256]⟩
abbrev S4096x2048 : Shape := ⟨2, ![4096, 2048]⟩
abbrev S_ : Shape := ⟨0, ![]⟩
abbrev S4x256x512 : Shape := ⟨3, ![4, 256, 512]⟩
abbrev S256x4x512 : Shape := ⟨3, ![256, 4, 512]⟩
abbrev S256x2048 : Shape := ⟨2, ![256, 2048]⟩
abbrev S2048x256 : Shape := ⟨2, ![2048, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S4x256x512, .f32⟩
  | .hbm, ⟨4, _⟩ => ⟨S256x4x512, .f32⟩
  | .hbm, ⟨5, _⟩ => ⟨S256x2048, .f32⟩
  | .hbm, ⟨6, _⟩ => ⟨S4096x2048, .f32⟩
  | .hbm, ⟨7, _⟩ => ⟨S4096x2048, .f32⟩
  | .hbm, ⟨8, _⟩ => ⟨S2048x256, .f32⟩
  | .hbm, ⟨9, _⟩ => ⟨S256x2048, .f32⟩
  | .hbm, ⟨10, _⟩ => ⟨S256x4x512, .f32⟩
  | .hbm, ⟨11, _⟩ => ⟨S4x256x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel21.lean ====
abbrev S4096x2048 : Shape := ⟨2, ![4096, 2048]⟩
abbrev S2048x128 : Shape := ⟨2, ![2048, 128]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x2048 : Shape := ⟨2, ![4096, 2048]⟩
abbrev S4096x128 : Shape := ⟨2, ![4096, 128]⟩
abbrev S2048x128 : Shape := ⟨2, ![2048, 128]⟩
abbrev S4096x1024 : Shape := ⟨2, ![4096, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel32Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference32Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S2048x1796 : Shape := ⟨2, ![2048, 1796]⟩
abbrev S1796x2048 : Shape := ⟨2, ![1796, 2048]⟩
abbrev S1796x256 : Shape := ⟨2, ![1796, 256]⟩

abbrev nBuf : Space → Nat
  | .hbm => 11
  | .vmem => 14
  | .smem => 0
  | _ => 0

abbrev bufTy : (tb : Table) → Fin (tcTables nBuf tb) → BufTy
  | .hbm, ⟨0, _⟩ => ⟨S2048x1796, .f32⟩
  | .hbm, ⟨1, _⟩ => ⟨S2048x1796, .f32⟩
  | .hbm, ⟨2, _⟩ => ⟨S2048x1796, .f32⟩
  | .hbm, ⟨3, _⟩ => ⟨S2048x1796, .f32⟩
  | .hbm, ⟨4, _⟩ => ⟨S1796x2048, .f32⟩
  | .hbm, ⟨5, _⟩ => ⟨S1796x2048, .f32⟩
  | .hbm, ⟨6, _⟩ => ⟨S1796x2048, .f32⟩
  | .hbm, ⟨7, _⟩ => ⟨S1796x2048, .f32⟩
  | .hbm, ⟨8, _⟩ => ⟨S1796x2048, .f32⟩
  | .hbm, ⟨9, _⟩ => ⟨S1796x2048, .f32⟩
  | .hbm, ⟨10, _⟩ => ⟨S1796x2048, .f32⟩
  | .local _ .vmem, ⟨0, _⟩ => ⟨S1796x256, .f32⟩
  | .local _ .vmem, ⟨1, _⟩ => ⟨S1796x256, .f32⟩
  | .local _ .vmem, ⟨2, _⟩ => ⟨S1796x256, .f32⟩
  | .local _ .vmem, ⟨3, _⟩ => ⟨S1796x256, .f32⟩
  | .local _ .vmem, ⟨4, _⟩ => ⟨S1796x256, .f32⟩
  | .local _ .vmem, ⟨5, _⟩ => ⟨S1796x256, .f32⟩
  | .local _ .vmem, ⟨6, _⟩ => ⟨S1796x256, .f32⟩
  | .local _ .vmem, ⟨7, _⟩ => ⟨S1796x256, .f32⟩
  | .local _ .vmem, ⟨8, _⟩ => ⟨S1796x256, .f32⟩
  | .local _ .vmem, ⟨9, _⟩ => ⟨S1796x256, .f32⟩
  | .local _ .vmem, ⟨10, _⟩ => ⟨S1796x256, .f32⟩
  | .local _ .vmem, ⟨11, _⟩ => ⟨S1796x256, .f32⟩
  | .local _ .vmem, ⟨12, _⟩ => ⟨S1796x256, .f32⟩
  | .local _ .vmem, ⟨13, _⟩ => ⟨S1796x256, .f32⟩
  | _, _ => ⟨S2048x1796, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1796x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1796x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1796x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1796x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1796x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1796x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1796x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel36Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference36Ideal.lean ====
abbrev S2048x1796 : Shape := ⟨2, ![2048, 1796]⟩
abbrev S_ : Shape := ⟨0, ![]⟩
abbrev S1796x2048 : Shape := ⟨2, ![1796, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2048x1796, .f32⟩
  | .hbm, ⟨1, _⟩ => ⟨S2048x1796, .f32⟩
  | .hbm, ⟨2, _⟩ => ⟨S2048x1796, .f32⟩
  | .hbm, ⟨3, _⟩ => ⟨S2048x1796, .f32⟩
  | .hbm, ⟨4, _⟩ => ⟨S_, .f32⟩
  | .hbm, ⟨5, _⟩ => ⟨S2048x1796, .f32⟩
  | .hbm, ⟨6, _⟩ => ⟨S2048x1796, .f32⟩
  | .hbm, ⟨7, _⟩ => ⟨S_, .f32⟩
  | .hbm, ⟨8, _⟩ => ⟨S2048x1796, .f32⟩
  | .hbm, ⟨9, _⟩ => ⟨S2048x1796, .f32⟩
  | .hbm, ⟨10, _⟩ => ⟨S2048x1796, .f32⟩
  | .hbm, ⟨11, _⟩ => ⟨S_, .f32⟩
  | .hbm, ⟨12, _⟩ => ⟨S2048x1796, .f32⟩
  | .hbm, ⟨13, _⟩ => ⟨S2048x1796, .f32⟩
  | .hbm, ⟨14, _⟩ => ⟨S2048x1796, .f32⟩
  | .hbm, ⟨15, _⟩ => ⟨S_, .f32⟩
  | .hbm, ⟨16, _⟩ => ⟨S2048x1796, .f32⟩
  | .hbm, ⟨17, _⟩ => ⟨S2048x1796, .f32⟩
  | .hbm, ⟨18, _⟩ => ⟨S2048x1796, .f32⟩
  | .hbm, ⟨19, _⟩ => ⟨S_, .f32⟩
  | .hbm, ⟨20, _⟩ => ⟨S2048x1796, .f32⟩
  | .hbm, ⟨21, _⟩ => ⟨S2048x1796, .f32⟩
  | .hbm, ⟨22, _⟩ => ⟨S_, .f32⟩
  | .hbm, ⟨23, _⟩ => ⟨S2048x1796, .f32⟩
  | .hbm, ⟨24, _⟩ => ⟨S2048x1796, .f32⟩
  | .hbm, ⟨25, _⟩ => ⟨S2048x1796, .f32⟩
  | .hbm, ⟨26, _⟩ => ⟨S_, .f32⟩
  | .hbm, ⟨27, _⟩ => ⟨S2048x1796, .f32⟩
  | .hbm, ⟨28, _⟩ => ⟨S2048x1796, .f32⟩
  | .hbm, ⟨29, _⟩ => ⟨S2048x1796, .f32⟩
  | .hbm, ⟨30, _⟩ => ⟨S_, .f32⟩
  | .hbm, ⟨31, _⟩ => ⟨S2048x1796, .f32⟩
  | .hbm, ⟨32, _⟩ => ⟨S2048x1796, .f32⟩
  | .hbm, ⟨33, _⟩ => ⟨S2048x1796, .f32⟩
  | .hbm, ⟨34, _⟩ => ⟨S_, .f32⟩
  | .hbm, ⟨35, _⟩ => ⟨S2048x1796, .f32⟩
  | .hbm, ⟨36, _⟩ => ⟨S2048x1796, .f32⟩
  | .hbm, ⟨37, _⟩ => ⟨S1796x2048, .f32⟩
  | .hbm, ⟨38, _⟩ => ⟨S1796x2048, .f32⟩
  | .hbm, ⟨39, _⟩ => ⟨S1796x2048, .f32⟩
  | _, _ => ⟨S2048x1796, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S2048x2816 : Shape := ⟨2, ![2048, 2816]⟩
abbrev S128x2816 : Shape := ⟨2, ![128, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel37Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference37Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S1408x2048 : Shape := ⟨2, ![1408, 2048]⟩
abbrev S176x2048 : Shape := ⟨2, ![176, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel38Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference38Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel39Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference39Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4096x2048 : Shape := ⟨2, ![4096, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S7x2048 : Shape := ⟨2, ![7, 2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg1 : BitVec 32 := BitVec.ofNat 32 (i 1).val
  let c0_i32_18 : BitVec 32 := 0#32
  let v39 : BitVec 1 := Scalar.cmpi .sgt arg1 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference23Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x2048 : Shape := ⟨2, ![8, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S_, .i32⟩
  | .hbm, ⟨50, _⟩ => ⟨S_, .f32⟩
  | .hbm, ⟨51, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call0_v0 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel29.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference29Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel40.lean ====
abbrev S176x128 : Shape := ⟨2, ![176, 128]⟩

abbrev nBuf : Space → Nat
  | .hbm => 7
  | .vmem => 7
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | _, _ => ⟨S176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel40Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference40Ideal.lean ====
abbrev S176x128 : Shape := ⟨2, ![176, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S_, .f32⟩
  | .hbm, ⟨5, _⟩ => ⟨S176x128, .f32⟩
  | .hbm, ⟨6, _⟩ => ⟨S176x128, .f32⟩
  | .hbm, ⟨7, _⟩ => ⟨S_, .f32⟩
  | .hbm, ⟨8, _⟩ => ⟨S176x128, .f32⟩
  | .hbm, ⟨9, _⟩ => ⟨S176x128, .f32⟩
  | .hbm, ⟨10, _⟩ => ⟨S176x128, .f32⟩
  | .hbm, ⟨11, _⟩ => ⟨S_, .f32⟩
  | .hbm, ⟨12, _⟩ => ⟨S176x128, .f32⟩
  | .hbm, ⟨13, _⟩ => ⟨S176x128, .f32⟩
  | .hbm, ⟨14, _⟩ => ⟨S176x128, .f32⟩
  | .hbm, ⟨15, _⟩ => ⟨S_, .f32⟩
  | .hbm, ⟨16, _⟩ => ⟨S176x128, .f32⟩
  | .hbm, ⟨17, _⟩ => ⟨S176x128, .f32⟩
  | .hbm, ⟨18, _⟩ => ⟨S176x128, .f32⟩
  | .hbm, ⟨19, _⟩ => ⟨S_, .f32⟩
  | .hbm, ⟨20, _⟩ => ⟨S176x128, .f32⟩
  | .hbm, ⟨21, _⟩ => ⟨S176x128, .f32⟩
  | .hbm, ⟨22, _⟩ => ⟨S_, .f32⟩
  | .hbm, ⟨23, _⟩ => ⟨S176x128, .f32⟩
  | .hbm, ⟨24, _⟩ => ⟨S176x128, .f32⟩
  | .hbm, ⟨25, _⟩ => ⟨S176x128, .f32⟩
  | .hbm, ⟨26, _⟩ => ⟨S_, .f32⟩
  | .hbm, ⟨27, _⟩ => ⟨S176x128, .f32⟩
  | .hbm, ⟨28, _⟩ => ⟨S176x128, .f32⟩
  | .hbm, ⟨29, _⟩ => ⟨S176x128, .f32⟩
  | .hbm, ⟨30, _⟩ => ⟨S_, .f32⟩
  | .hbm, ⟨31, _⟩ => ⟨S176x128, .f32⟩
  | .hbm, ⟨32, _⟩ => ⟨S176x128, .f32⟩
  | .hbm, ⟨33, _⟩ => ⟨S176x128, .f32⟩
  | .hbm, ⟨34, _⟩ => ⟨S_, .f32⟩
  | .hbm, ⟨35, _⟩ => ⟨S176x128, .f32⟩
  | .hbm, ⟨36, _⟩ => ⟨S176x128, .f32⟩
  | _, _ => ⟨S176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S4096x5632 : Shape := ⟨2, ![4096, 5632]⟩
abbrev S3x5632 : Shape := ⟨2, ![3, 5632]⟩
abbrev S8x512 : Shape := ⟨2, ![8, 512]⟩
abbrev S1024x512 : Shape := ⟨2, ![1024, 512]⟩
abbrev S3x512 : Shape := ⟨2, ![3, 512]⟩
abbrev S1040x512 : Shape := ⟨2, ![1040, 512]⟩
abbrev S1x512 : Shape := ⟨2, ![1, 512]⟩

abbrev nBuf : Space → Nat
  | .hbm => 5
  | .vmem => 18
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x5632, .f32⟩
  | .hbm, ⟨3, _⟩ => ⟨S3x5632, .f32⟩
  | .hbm, ⟨4, _⟩ => ⟨S4096x5632, .bf16⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S3x512, .f32⟩
  | .local _ .vmem, ⟨16, _⟩ => ⟨S1024x512, .bf16⟩
  | .local _ .vmem, ⟨17, _⟩ => ⟨S1024x512, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference30Ideal.lean ====
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩

abbrev nBuf : Space → Nat
  | .hbm => 61
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S3x5632, .f32⟩
  | .hbm, ⟨3, _⟩ => ⟨S3x5632, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S_, .f32⟩
  | .hbm, ⟨37, _⟩ => ⟨S2x5632, .f32⟩
  | .hbm, ⟨38, _⟩ => ⟨S4098x5632, .f32⟩
  | .hbm, ⟨39, _⟩ => ⟨S4096x5632, .f32⟩
  | .hbm, ⟨40, _⟩ => ⟨S1x5632, .f32⟩
  | .hbm, ⟨41, _⟩ => ⟨S5632, .f32⟩
  | .hbm, ⟨42, _⟩ => ⟨S1x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S1x5632, .f32⟩
  | .hbm, ⟨47, _⟩ => ⟨S5632, .f32⟩
  | .hbm, ⟨48, _⟩ => ⟨S1x5632, .f32⟩
  | .hbm, ⟨49, _⟩ => ⟨S4096x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S1x5632, .f32⟩
  | .hbm, ⟨54, _⟩ => ⟨S5632, .f32⟩
  | .hbm, ⟨55, _⟩ => ⟨S1x5632, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Kernel27.lean ====
abbrev S4096x1024 : Shape := ⟨2, ![4096, 1024]⟩
abbrev S4096x7168 : Shape := ⟨2, ![4096, 7168]⟩
abbrev S4x1024 : Shape := ⟨2, ![4, 1024]⟩
abbrev S8x1024 : Shape := ⟨2, ![8, 1024]⟩
abbrev S8x512 : Shape := ⟨2, ![8, 512]⟩
abbrev S1024x512 : Shape := ⟨2, ![1024, 512]⟩
abbrev S4x512 : Shape := ⟨2, ![4, 512]⟩
abbrev S1040x512 : Shape := ⟨2, ![1040, 512]⟩
abbrev S1x512 : Shape := ⟨2, ![1, 512]⟩
abbrev S512 : Shape := ⟨1, ![512]⟩

abbrev nBuf : Space → Nat
  | .hbm => 5
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S4x1024, .f32⟩
  | .hbm, ⟨3, _⟩ => ⟨S4096x1024, .bf16⟩
  | .hbm, ⟨4, _⟩ => ⟨S8x1024, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S4x512, .f32⟩
  | .local _ .vmem, ⟨13, _⟩ => ⟨S4x512, .f32⟩
  | .local _ .vmem, ⟨14, _⟩ => ⟨S1024x512, .bf16⟩
  | .local _ .vmem, ⟨15, _⟩ => ⟨S1024x512, .bf16⟩
  | .local _ .vmem, ⟨16, _⟩ => ⟨S8x512, .f32⟩
  | .local _ .vmem, ⟨17, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_34 : BitVec 32 := 0#32
  let v95 : BitVec 1 := Scalar.cmpi .eq arg1 c0_i32_34
  let v96 : BitVec 32 := Scalar.extui v95
  let c0_i32_35 : BitVec 32 := 0#32
  let v97 : BitVec 1 := Scalar.cmpi .ne v96 c0_i32_35
  v97

def k0_cond2 (i : grid0.Coords) : BitVec 1 :=
  let arg1 : BitVec 32 := BitVec.ofNat 32 (i 1).val
  let c0_i32_36 : BitVec 32 := 0#32
  let v98 : BitVec 1 := Scalar.cmpi .sgt arg1 c0_i32_36
  let v99 : BitVec 32 := Scalar.extui v98
  let c0_i32_37 : BitVec 32 := 0#32
  let v100 : BitVec 1 := Scalar.cmpi .ne v99 c0_i32_37
  v100

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi arg0 c10_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg0 c10_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c10_i32 : BitVec 32 := 10#32
  let v3 : BitVec 32 := Scalar.addi arg0 c10_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference27Ideal.lean ====
abbrev S4096x1024 : Shape := ⟨2, ![4096, 1024]⟩
abbrev S4096x7168 : Shape := ⟨2, ![4096, 7168]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 117
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S4x1024, .f32⟩
  | .hbm, ⟨3, _⟩ => ⟨S4096x1024, .f32⟩
  | .hbm, ⟨4, _⟩ => ⟨S_, .f32⟩
  | .hbm, ⟨5, _⟩ => ⟨S3x1024, .f32⟩
  | .hbm, ⟨6, _⟩ => ⟨S4099x1024, .f32⟩
  | .hbm, ⟨7, _⟩ => ⟨S_, .f32⟩
  | .hbm, ⟨8, _⟩ => ⟨S3x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S4x1024, .f32⟩
  | .hbm, ⟨64, _⟩ => ⟨S_, .f32⟩
  | .hbm, ⟨65, _⟩ => ⟨S4099x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S4x1024, .f32⟩
  | .hbm, ⟨77, _⟩ => ⟨S4x1024, .f32⟩
  | .hbm, ⟨78, _⟩ => ⟨S_, .f32⟩
  | .hbm, ⟨79, _⟩ => ⟨S4099x1024, .f32⟩
  | .hbm, ⟨80, _⟩ => ⟨S4099x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S4x1024, .f32⟩
  | .hbm, ⟨92, _⟩ => ⟨S4x1024, .f32⟩
  | .hbm, ⟨93, _⟩ => ⟨S_, .f32⟩
  | .hbm, ⟨94, _⟩ => ⟨S4099x1024, .f32⟩
  | .hbm, ⟨95, _⟩ => ⟨S4099x1024, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S_, .f32⟩
  | .hbm, ⟨106, _⟩ => ⟨S4x1024, .f32⟩
  | .hbm, ⟨107, _⟩ => ⟨S4x1024, .f32⟩
  | .hbm, ⟨108, _⟩ => ⟨S_, .f32⟩
  | .hbm, ⟨109, _⟩ => ⟨S4099x1024, .f32⟩
  | .hbm, ⟨110, _⟩ => ⟨S4099x1024, .f32⟩
  | .hbm, ⟨111, _⟩ => ⟨S3x1024, .f32⟩
  | .hbm, ⟨112, _⟩ => ⟨S4096x1024, .f32⟩
  | .hbm, ⟨113, _⟩ => ⟨S4096x1024, .bf16⟩
  | .hbm, ⟨114, _⟩ => ⟨S_, .i32⟩
  | .hbm, ⟨115, _⟩ => ⟨S_, .f32⟩
  | .hbm, ⟨116, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_cst_11 : Ref sig .tc := ⟨.hbm, 90, rfl⟩
abbrev main_v60 : Ref sig .tc := ⟨.hbm, 91, rfl⟩
abbrev main_v61 : Ref sig .tc := ⟨.hbm, 92, rfl⟩
abbrev main_cst_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_v72 : Ref sig .tc := ⟨.hbm, 107, rfl⟩
abbrev main_cst_16 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c : Ref sig .tc := ⟨.hbm, 114, rfl⟩
abbrev main_call2_v0 : Ref sig .tc := ⟨.hbm, 115, rfl⟩
abbrev main_v78 : Ref sig .tc := ⟨.hbm, 116, rfl⟩

abbrev nD : Nat := 1
abbrev τ : Topo := Topo.v7x

variable {F : FTy → Type} [FloatOps F]
-- ==== Kernel26.lean ====
abbrev S4096x5632 : Shape := ⟨2, ![4096, 5632]⟩
abbrev S3x5632 : Shape := ⟨2, ![3, 5632]⟩
abbrev S8x5632 : Shape := ⟨2, ![8, 5632]⟩
abbrev S8x512 : Shape := ⟨2, ![8, 512]⟩
abbrev S1024x512 : Shape := ⟨2, ![1024, 512]⟩
abbrev S3x512 : Shape := ⟨2, ![3, 512]⟩
abbrev S1040x512 : Shape := ⟨2, ![1040, 512]⟩
abbrev S1x512 : Shape := ⟨2, ![1, 512]⟩
abbrev S512 : Shape := ⟨1, ![512]⟩
abbrev S5x512 : Shape := ⟨2, ![5, 512]⟩

abbrev nBuf : Space → Nat
  | .hbm => 9
  | .vmem => 30
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S4096x5632, .f32⟩
  | .hbm, ⟨3, _⟩ => ⟨S3x5632, .f32⟩
  | .hbm, ⟨4, _⟩ => ⟨S3x5632, .f32⟩
  | .hbm, ⟨5, _⟩ => ⟨S4096x5632, .bf16⟩
  | .hbm, ⟨6, _⟩ => ⟨S4096x5632, .bf16⟩
  | .hbm, ⟨7, _⟩ => ⟨S8x5632, .f32⟩
  | .hbm, ⟨8, _⟩ => ⟨S8x5632, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S1024x512, .f32⟩
  | .local _ .vmem, ⟨15, _⟩ => ⟨S1024x512, .f32⟩
  | .local _ .vmem, ⟨16, _⟩ => ⟨S8x512, .f32⟩
  | .local _ .vmem, ⟨17, _⟩ => ⟨S8x512, .f32⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S3x512, .f32⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32_55 : BitVec 32 := 0#32
  let v139 : BitVec 1 := Scalar.cmpi .eq arg1 c0_i32_55
  let v140 : BitVec 32 := Scalar.extui v139
  let c0_i32_56 : BitVec 32 := 0#32
  let v141 : BitVec 1 := Scalar.cmpi .ne v140 c0_i32_56
  v141

def k0_cond2 (i : grid0.Coords) : BitVec 1 :=
  let arg1 : BitVec 32 := BitVec.ofNat 32 (i 1).val
  let c0_i32_57 : BitVec 32 := 0#32
  let v142 : BitVec 1 := Scalar.cmpi .sgt arg1 c0_i32_57
  let v143 : BitVec 32 := Scalar.extui v142
  let c0_i32_58 : BitVec 32 := 0#32
  let v144 : BitVec 1 := Scalar.cmpi .ne v143 c0_i32_58
  v144

def k0_cond3 (i : grid0.Coords) : BitVec 1 :=
  let arg1 : BitVec 32 := BitVec.ofNat 32 (i 1).val
  let c0_i32_59 : BitVec 32 := 0#32
  let v145 : BitVec 1 := Scalar.cmpi .eq arg1 c0_i32_59
  let v146 : BitVec 32 := Scalar.extui v145
  let c0_i32_60 : BitVec 32 := 0#32
  let v147 : BitVec 1 := Scalar.cmpi .ne v146 c0_i32_60
  v147

def k0_cond4 (i : grid0.Coords) : BitVec 1 :=
  let arg1 : BitVec 32 := BitVec.ofNat 32 (i 1).val
  let c0_i32_61 : BitVec 32 := 0#32
  let v148 : BitVec 1 := Scalar.cmpi .sgt arg1 c0_i32_61
  let v149 : BitVec 32 := Scalar.extui v148
  let c0_i32_62 : BitVec 32 := 0#32
  let v150 : BitVec 1 := Scalar.cmpi .ne v149 c0_i32_62
  v150

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference26Ideal.lean ====
abbrev S4096x5632 : Shape := ⟨2, ![4096, 5632]⟩
abbrev S3x5632 : Shape := ⟨2, ![3, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S8x5632 : Shape := ⟨2, ![8, 5632]⟩

abbrev nBuf : Space → Nat
  | .hbm => 173
  | .vmem => 0
  | .smem => 0
  | _ => 0

abbrev hbmTy0_0 (i : Nat) : BufTy := match i % 128 with
  | 0 => ⟨S4096x5632, .f32⟩
  | 1 => ⟨S4096x5632, .f32⟩
  | 2 => ⟨S4096x5632, .f32⟩
  | 3 => ⟨S3x5632, .f32⟩
  | 4 => ⟨S3x5632, .f32⟩
  | 5 => ⟨S_, .f32⟩
  | 6 => ⟨S2x5632, .f32⟩
  | 7 => ⟨S4098x5632, .f32⟩
  | 8 => ⟨S_, .f32⟩
  | 9 => ⟨S2x5632, .f32⟩
  | 10 => ⟨S4096x5632, .f32⟩
  | 11 => ⟨S1x5632, .f32⟩
  | 12 => ⟨S5632, .f32⟩
  | 13 => ⟨S1x5632, .f32⟩
  | 14 => ⟨S4096x5632, .f32⟩
  | 15 => ⟨S4096x5632, .f32⟩
  | 16 => ⟨S4096x5632, .f32⟩
  | 17 => ⟨S1x5632, .f32⟩
  | 18 => ⟨S5632, .f32⟩
  | 19 => ⟨S1x5632, .f32⟩
  | 20 => ⟨S4096x5632, .f32⟩
  | 21 => ⟨S4096x5632, .f32⟩
  | 22 => ⟨S4096x5632, .f32⟩
  | 23 => ⟨S4096x5632, .f32⟩
  | 24 => ⟨S1x5632, .f32⟩
  | 25 => ⟨S5632, .f32⟩
  | 26 => ⟨S1x5632, .f32⟩
  | 27 => ⟨S4096x5632, .f32⟩
  | 28 => ⟨S4096x5632, .f32⟩
  | 29 => ⟨S4096x5632, .f32⟩
  | 30 => ⟨S4096x5632, .f32⟩
  | 31 => ⟨S4096x5632, .f32⟩
  | 32 => ⟨S_, .f32⟩
  | 33 => ⟨S4096x5632, .f32⟩
  | 34 => ⟨S4096x5632, .f32⟩
  | 35 => ⟨S_, .f32⟩
  | 36 => ⟨S4096x5632, .f32⟩
  | 37 => ⟨S4096x5632, .f32⟩
  | 38 => ⟨S_, .f32⟩
  | 39 => ⟨S4096x5632, .f32⟩
  | 40 => ⟨S4096x5632, .f32⟩
  | 41 => ⟨S4096x5632, .f32⟩
  | 42 => ⟨S4096x5632, .f32⟩
  | 43 => ⟨S_, .f32⟩
  | 44 => ⟨S2x5632, .f32⟩
  | 45 => ⟨S4098x5632, .f32⟩
  | 46 => ⟨S_, .f32⟩
  | 47 => ⟨S2x5632, .f32⟩
  | 48 => ⟨S4096x5632, .f32⟩
  | 49 => ⟨S1x5632, .f32⟩
  | 50 => ⟨S5632, .f32⟩
  | 51 => ⟨S1x5632, .f32⟩
  | 52 => ⟨S4096x5632, .f32⟩
  | 53 => ⟨S4096x5632, .f32⟩
  | 54 => ⟨S4096x5632, .f32⟩
  | 55 => ⟨S1x5632, .f32⟩
  | 56 => ⟨S5632, .f32⟩
  | 57 => ⟨S1x5632, .f32⟩
  | 58 => ⟨S4096x5632, .f32⟩
  | 59 => ⟨S4096x5632, .f32⟩
  | 60 => ⟨S4096x5632, .f32⟩
  | 61 => ⟨S4096x5632, .f32⟩
  | 62 => ⟨S1x5632, .f32⟩
  | 63 => ⟨S5632, .f32⟩
  | 64 => ⟨S1x5632, .f32⟩
  | 65 => ⟨S4096x5632, .f32⟩
  | 66 => ⟨S4096x5632, .f32⟩
  | 67 => ⟨S4096x5632, .f32⟩
  | 68 => ⟨S4096x5632, .f32⟩
  | 69 => ⟨S4096x5632, .f32⟩
  | 70 => ⟨S4096x5632, .f32⟩
  | 71 => ⟨S4096x5632, .f32⟩
  | 72 => ⟨S_, .f32⟩
  | 73 => ⟨S5632, .f32⟩
  | 74 => ⟨S1x5632, .f32⟩
  | 75 => ⟨S4096x5632, .f32⟩
  | 76 => ⟨S4096x5632, .f32⟩
  | 77 => ⟨S_, .f32⟩
  | 78 => ⟨S5632, .f32⟩
  | 79 => ⟨S1x5632, .f32⟩
  | 80 => ⟨S_, .f32⟩
  | 81 => ⟨S3x5632, .f32⟩
  | 82 => ⟨S_, .f32⟩
  | 83 => ⟨S4098x5632, .f32⟩
  | 84 => ⟨S4096x5632, .f32⟩
  | 85 => ⟨S_, .f32⟩
  | 86 => ⟨S5632, .f32⟩
  | 87 => ⟨S1x5632, .f32⟩
  | 88 => ⟨S4096x5632, .f32⟩
  | 89 => ⟨S4096x5632, .f32⟩
  | 90 => ⟨S_, .f32⟩
  | 91 => ⟨S5632, .f32⟩
  | 92 => ⟨S1x5632, .f32⟩
  | 93 => ⟨S_, .f32⟩
  | 94 => ⟨S3x5632, .f32⟩
  | 95 => ⟨S3x5632, .f32⟩
  | 96 => ⟨S_, .f32⟩
  | 97 => ⟨S4098x5632, .f32⟩
  | 98 => ⟨S4098x5632, .f32⟩
  | 99 => ⟨S4096x5632, .f32⟩
  | 100 => ⟨S_, .f32⟩
  | 101 => ⟨S5632, .f32⟩
  | 102 => ⟨S1x5632, .f32⟩
  | 103 => ⟨S4096x5632, .f32⟩
  | 104 => ⟨S4096x5632, .f32⟩
  | 105 => ⟨S_, .f32⟩
  | 106 => ⟨S5632, .f32⟩
  | 107 => ⟨S1x5632, .f32⟩
  | 108 => ⟨S_, .f32⟩
  | 109 => ⟨S3x5632, .f32⟩
  | 110 => ⟨S3x5632, .f32⟩
  | 111 => ⟨S_, .f32⟩
  | 112 => ⟨S4098x5632, .f32⟩
  | 113 => ⟨S4098x5632, .f32⟩
  | 114 => ⟨S2x5632, .f32⟩
  | 115 => ⟨S4096x5632, .f32⟩
  | 116 => ⟨S4096x5632, .f32⟩
  | 117 => ⟨S4096x5632, .f32⟩
  | 118 => ⟨S4096x5632, .f32⟩
  | 119 => ⟨S4096x5632, .f32⟩
  | 120 => ⟨S4096x5632, .f32⟩
  | 121 => ⟨S_, .f32⟩
  | 122 => ⟨S5632, .f32⟩
  | 123 => ⟨S1x5632, .f32⟩
  | 124 => ⟨S4096x5632, .f32⟩
  | 125 => ⟨S4096x5632, .f32⟩
  | 126 => ⟨S_, .f32⟩
  | 127 => ⟨S5632, .f32⟩
  | _ => ⟨S4096x5632, .f32⟩

abbrev hbmTy0_1 (i : Nat) : BufTy := match i % 128 with
  | 0 => ⟨S1x5632, .f32⟩
  | 1 => ⟨S_, .f32⟩
  | 2 => ⟨S3x5632, .f32⟩
  | 3 => ⟨S_, .f32⟩
  | 4 => ⟨S4098x5632, .f32⟩
  | 5 => ⟨S4096x5632, .f32⟩
  | 6 => ⟨S_, .f32⟩
  | 7 => ⟨S5632, .f32⟩
  | 8 => ⟨S1x5632, .f32⟩
  | 9 => ⟨S4096x5632, .f32⟩
  | 10 => ⟨S4096x5632, .f32⟩
  | 11 => ⟨S_, .f32⟩
  | 12 => ⟨S5632, .f32⟩
  | 13 => ⟨S1x5632, .f32⟩
  | 14 => ⟨S_, .f32⟩
  | 15 => ⟨S3x5632, .f32⟩
  | 16 => ⟨S3x5632, .f32⟩
  | 17 => ⟨S_, .f32⟩
  | 18 => ⟨S4098x5632, .f32⟩
  | 19 => ⟨S4098x5632, .f32⟩
  | 20 => ⟨S4096x5632, .f32⟩
  | 21 => ⟨S_, .f32⟩
  | 22 => ⟨S5632, .f32⟩
  | 23 => ⟨S1x5632, .f32⟩
  | 24 => ⟨S4096x5632, .f32⟩
  | 25 => ⟨S4096x5632, .f32⟩
  | 26 => ⟨S_, .f32⟩
  | 27 => ⟨S5632, .f32⟩
  | 28 => ⟨S1x5632, .f32⟩
  | 29 => ⟨S_, .f32⟩
  | 30 => ⟨S3x5632, .f32⟩
  | 31 => ⟨S3x5632, .f32⟩
  | 32 => ⟨S_, .f32⟩
  | 33 => ⟨S4098x5632, .f32⟩
  | 34 => ⟨S4098x5632, .f32⟩
  | 35 => ⟨S2x5632, .f32⟩
  | 36 => ⟨S4096x5632, .f32⟩
  | 37 => ⟨S4096x5632, .bf16⟩
  | 38 => ⟨S4096x5632, .bf16⟩
  | 39 => ⟨S_, .i32⟩
  | 40 => ⟨S_, .f32⟩
  | 41 => ⟨S8x5632, .f32⟩
  | 42 => ⟨S_, .i32⟩
  | 43 => ⟨S_, .f32⟩
  | 44 => ⟨S8x5632, .f32⟩
  | _ => ⟨S4096x5632, .f32⟩

abbrev hbmTy (i : Nat) : BufTy := match i / 128 with
  | 0 => hbmTy0_0 i
  | 1 => hbmTy0_1 i
  | _ => ⟨S4096x5632, .f32⟩

abbrev bufTy : (tb : Table) → Fin (tcTables nBuf tb) → BufTy
  | .hbm, ⟨i, _⟩ => hbmTy i
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v23_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v23_1 : Ref sig .tc := ⟨.hbm, 41, rfl⟩
abbrev main_v23_0 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_3 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_4 : Ref sig .tc := ⟨.hbm, 77, rfl⟩
abbrev main_v55 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_v76 : Ref sig .tc := ⟨.hbm, 107, rfl⟩
abbrev main_cst_13 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_cst_19 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_cst_21 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_24 : Ref sig .tc := ⟨.hbm, 154, rfl⟩
abbrev main_v109 : Ref sig .tc := ⟨.hbm, 155, rfl⟩
abbrev main_v110 : Ref sig .tc := ⟨.hbm, 156, rfl⟩
abbrev main_cst_25 : Ref sig .tc := ⟨.hbm, 157, rfl⟩
abbrev main_v111 : Ref sig .tc := ⟨.hbm, 158, rfl⟩
abbrev main_v112 : Ref sig .tc := ⟨.hbm, 159, rfl⟩
abbrev main_cst_26 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c : Ref sig .tc := ⟨.hbm, 167, rfl⟩
abbrev main_call2_v0 : Ref sig .tc := ⟨.hbm, 168, rfl⟩
abbrev main_v119 : Ref sig .tc := ⟨.hbm, 169, rfl⟩
abbrev main_c_27 : Ref sig .tc := ⟨.hbm, 170, rfl⟩
abbrev main_call3_v0 : Ref sig .tc := ⟨.hbm, 171, rfl⟩
abbrev main_v120 : Ref sig .tc := ⟨.hbm, 172, rfl⟩

abbrev nD : Nat := 1
abbrev τ : Topo := Topo.v7x

variable {F : FTy → Type} [FloatOps F]
-- ==== Kernel24.lean ====
abbrev S4096x2048 : Shape := ⟨2, ![4096, 2048]⟩
abbrev S4096x1024 : Shape := ⟨2, ![4096, 1024]⟩
abbrev S4096x7168 : Shape := ⟨2, ![4096, 7168]⟩
abbrev S1x128 : Shape := ⟨2, ![1, 128]⟩
abbrev S1x1x1x128 : Shape := ⟨4, ![1, 1, 1, 128]⟩
abbrev S1x1x8x128 : Shape := ⟨4, ![1, 1, 8, 128]⟩
abbrev S1x1024 : Shape := ⟨2, ![1, 1024]⟩
abbrev S8x128 : Shape := ⟨2, ![8, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩
abbrev S7x128 : Shape := ⟨2, ![7, 128]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x7168, .f32⟩
  | .hbm, ⟨3, _⟩ => ⟨S1x128, .f32⟩
  | .hbm, ⟨4, _⟩ => ⟨S1x1x1x128, .f32⟩
  | .hbm, ⟨5, _⟩ => ⟨S1x1x8x128, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v412 : BitVec 1 := Scalar.cmpi .eq arg0 c0_i32
  let v413 : BitVec 32 := Scalar.extui v412
  let c0_i32_100 : BitVec 32 := 0#32
  let v414 : BitVec 1 := Scalar.cmpi .ne v413 c0_i32_100
  v414

def k0_cond2 (i : grid0.Coords) : BitVec 1 :=
  let arg0 : BitVec 32 := BitVec.ofNat 32 (i 0).val
  let c0_i32_101 : BitVec 32 := 0#32
  let v415 : BitVec 1 := Scalar.cmpi .sgt arg0 c0_i32_101
  let v416 : BitVec 32 := Scalar.extui v415
  let c0_i32_102 : BitVec 32 := 0#32
  let v417 : BitVec 1 := Scalar.cmpi .ne v416 c0_i32_102
  v417

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S4096x2048 : Shape := ⟨2, ![4096, 2048]⟩
abbrev S4096x1024 : Shape := ⟨2, ![4096, 1024]⟩
abbrev S4096x7168 : Shape := ⟨2, ![4096, 7168]⟩
abbrev S1x128 : Shape := ⟨2, ![1, 128]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S128 : Shape := ⟨1, ![128]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x7168, .f32⟩
  | .hbm, ⟨3, _⟩ => ⟨S1x128, .f32⟩
  | .hbm, ⟨4, _⟩ => ⟨S4096x1024, .f32⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S32768x128, .f32⟩
  | .hbm, ⟨28, _⟩ => ⟨S_, .f32⟩
  | .hbm, ⟨29, _⟩ => ⟨S32768x128, .f32⟩
  | .hbm, ⟨30, _⟩ => ⟨S32768x128, .f32⟩
  | .hbm, ⟨31, _⟩ => ⟨S_, .f32⟩
  | .hbm, ⟨32, _⟩ => ⟨S32768x128, .f32⟩
  | .hbm, ⟨33, _⟩ => ⟨S32768x128, .f32⟩
  | .hbm, ⟨34, _⟩ => ⟨S_, .f32⟩
  | .hbm, ⟨35, _⟩ => ⟨S32768x128, .f32⟩
  | .hbm, ⟨36, _⟩ => ⟨S32768x128, .f32⟩
  | .hbm, ⟨37, _⟩ => ⟨S32768x128, .f32⟩
  | .hbm, ⟨38, _⟩ => ⟨S32768x128, .f32⟩
  | .hbm, ⟨39, _⟩ => ⟨S32768x128, .f32⟩
  | .hbm, ⟨40, _⟩ => ⟨S4096x1024, .f32⟩
  | .hbm, ⟨41, _⟩ => ⟨S4096x1024, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S32768x128, .f32⟩
  | .hbm, ⟨46, _⟩ => ⟨S32768x128, .f32⟩
  | .hbm, ⟨47, _⟩ => ⟨S32768x128, .f32⟩
  | .hbm, ⟨48, _⟩ => ⟨S32768x128, .f32⟩
  | .hbm, ⟨49, _⟩ => ⟨S32768x128, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S32768x128, .f32⟩
  | .hbm, ⟨54, _⟩ => ⟨S32768x128, .f32⟩
  | .hbm, ⟨55, _⟩ => ⟨S32768x128, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S32768x128, .f32⟩
  | .hbm, ⟨60, _⟩ => ⟨S32768x128, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S_, .f32⟩
  | .hbm, ⟨66, _⟩ => ⟨S32768, .f32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S32768x128, .f32⟩
  | .hbm, ⟨71, _⟩ => ⟨S32768x128, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S_, .i32⟩
  | .hbm, ⟨76, _⟩ => ⟨S_, .f32⟩
  | .hbm, ⟨77, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c : Ref sig .tc := ⟨.hbm, 75, rfl⟩
abbrev main_call2_v0 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Kernel35.lean ====
abbrev S4096x1024 : Shape := ⟨2, ![4096, 1024]⟩
abbrev S4096x7168 : Shape := ⟨2, ![4096, 7168]⟩
abbrev S1x128 : Shape := ⟨2, ![1, 128]⟩
abbrev S4096x2048 : Shape := ⟨2, ![4096, 2048]⟩
abbrev S1x1x1x128 : Shape := ⟨4, ![1, 1, 1, 128]⟩
abbrev S1x1x8x128 : Shape := ⟨4, ![1, 1, 8, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S1x128, .f32⟩
  | .hbm, ⟨3, _⟩ => ⟨S4096x2048, .bf16⟩
  | .hbm, ⟨4, _⟩ => ⟨S1x1x1x128, .f32⟩
  | .hbm, ⟨5, _⟩ => ⟨S1x1x8x128, .f32⟩
  | .hbm, ⟨6, _⟩ => ⟨S1x1024, .f32⟩
  | .hbm, ⟨7, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference35Ideal.lean ====
abbrev S4096x1024 : Shape := ⟨2, ![4096, 1024]⟩
abbrev S4096x7168 : Shape := ⟨2, ![4096, 7168]⟩
abbrev S1x128 : Shape := ⟨2, ![1, 128]⟩
abbrev S4096x2048 : Shape := ⟨2, ![4096, 2048]⟩
abbrev S32768x128 : Shape := ⟨2, ![32768, 128]⟩
abbrev S_ : Shape := ⟨0, ![]⟩
abbrev S32768 : Shape := ⟨1, ![32768]⟩
abbrev S32768x1 : Shape := ⟨2, ![32768, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S1x128, .f32⟩
  | .hbm, ⟨3, _⟩ => ⟨S4096x2048, .bf16⟩
  | .hbm, ⟨4, _⟩ => ⟨S4096x1024, .bf16⟩
  | .hbm, ⟨5, _⟩ => ⟨S4096x1024, .f32⟩
  | .hbm, ⟨6, _⟩ => ⟨S32768x128, .f32⟩
  | .hbm, ⟨7, _⟩ => ⟨S32768x128, .f32⟩
  | .hbm, ⟨8, _⟩ => ⟨S32768x128, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x128, .f32⟩
  | .hbm, ⟨20, _⟩ => ⟨S32768x128, .f32⟩
  | .hbm, ⟨21, _⟩ => ⟨S32768x128, .f32⟩
  | .hbm, ⟨22, _⟩ => ⟨S32768x128, .f32⟩
  | .hbm, ⟨23, _⟩ => ⟨S32768x128, .f32⟩
  | .hbm, ⟨24, _⟩ => ⟨S32768x128, .f32⟩
  | .hbm, ⟨25, _⟩ => ⟨S_, .f32⟩
  | .hbm, ⟨26, _⟩ => ⟨S32768x128, .f32⟩
  | .hbm, ⟨27, _⟩ => ⟨S32768x128, .f32⟩
  | .hbm, ⟨28, _⟩ => ⟨S_, .f32⟩
  | .hbm, ⟨29, _⟩ => ⟨S32768x128, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S4096x1024, .f32⟩
  | .hbm, ⟨34, _⟩ => ⟨S4096x1024, .bf16⟩
  | .hbm, ⟨35, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel31.lean ====
abbrev S4096x128 : Shape := ⟨2, ![4096, 128]⟩
abbrev S1x8 : Shape := ⟨2, ![1, 8]⟩
abbrev S_ : Shape := ⟨0, ![]⟩
abbrev S1x128 : Shape := ⟨2, ![1, 128]⟩
abbrev S1024x128 : Shape := ⟨2, ![1024, 128]⟩

abbrev nBuf : Space → Nat
  | .hbm => 11
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1x8, .f32⟩
  | .hbm, ⟨2, _⟩ => ⟨S1x8, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S4096x128, .f32⟩
  | .hbm, ⟨10, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference31Ideal.lean ====
abbrev S4096x128 : Shape := ⟨2, ![4096, 128]⟩
abbrev S1x8 : Shape := ⟨2, ![1, 8]⟩
abbrev S_ : Shape := ⟨0, ![]⟩
abbrev S1x128 : Shape := ⟨2, ![1, 128]⟩
abbrev S4096x120 : Shape := ⟨2, ![4096, 120]⟩
abbrev S4096x8 : Shape := ⟨2, ![4096, 8]⟩

abbrev nBuf : Space → Nat
  | .hbm => 40
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1x8, .f32⟩
  | .hbm, ⟨2, _⟩ => ⟨S1x8, .f32⟩
  | .hbm, ⟨3, _⟩ => ⟨S_, .i32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S4096x120, .f32⟩
  | .hbm, ⟨10, _⟩ => ⟨S4096x8, .f32⟩
  | .hbm, ⟨11, _⟩ => ⟨S4096x128, .f32⟩
  | .hbm, ⟨12, _⟩ => ⟨S1x128, .f32⟩
  | .hbm, ⟨13, _⟩ => ⟨S1x128, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .i1⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call2_cst : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_v6 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_call2_v11 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Kernel41.lean ====
abbrev S8x464x128 : Shape := ⟨3, ![8, 464, 128]⟩
abbrev S464x128 : Shape := ⟨2, ![464, 128]⟩
abbrev S1x464x128 : Shape := ⟨3, ![1, 464, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x464x128, .f32⟩
  | .hbm, ⟨1, _⟩ => ⟨S464x128, .f32⟩
  | .local _ .vmem, ⟨0, _⟩ => ⟨S8x464x128, .f32⟩
  | .local _ .vmem, ⟨1, _⟩ => ⟨S464x128, .f32⟩
  | _, _ => ⟨S8x464x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x464x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S464x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]
-- ==== Reference41Ideal.lean ====
abbrev S8x464x128 : Shape := ⟨3, ![8, 464, 128]⟩
abbrev S_ : Shape := ⟨0, ![]⟩
abbrev S464x128 : Shape := ⟨2, ![464, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x464x128, .f32⟩
  | .hbm, ⟨1, _⟩ => ⟨S_, .f32⟩
  | .hbm, ⟨2, _⟩ => ⟨S464x128, .f32⟩
  | _, _ => ⟨S8x464x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel25.lean ====
abbrev S8x4096x128 : Shape := ⟨3, ![8, 4096, 128]⟩
abbrev S4096x128 : Shape := ⟨2, ![4096, 128]⟩
abbrev S1x8 : Shape := ⟨2, ![1, 8]⟩
abbrev S_ : Shape := ⟨0, ![]⟩
abbrev S1x128 : Shape := ⟨2, ![1, 128]⟩
abbrev S4096x120 : Shape := ⟨2, ![4096, 120]⟩
abbrev S4096x8 : Shape := ⟨2, ![4096, 8]⟩
abbrev S8x128 : Shape := ⟨2, ![8, 128]⟩
abbrev S8x1024x128 : Shape := ⟨3, ![8, 1024, 128]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S128 : Shape := ⟨1, ![128]⟩
abbrev S6x128 : Shape := ⟨2, ![6, 128]⟩

abbrev nBuf : Space → Nat
  | .hbm => 50
  | .vmem => 15
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S4096x128, .f32⟩
  | .hbm, ⟨3, _⟩ => ⟨S1x8, .f32⟩
  | .hbm, ⟨4, _⟩ => ⟨S1x8, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S4096x120, .f32⟩
  | .hbm, ⟨12, _⟩ => ⟨S4096x8, .f32⟩
  | .hbm, ⟨13, _⟩ => ⟨S4096x128, .f32⟩
  | .hbm, ⟨14, _⟩ => ⟨S1x128, .f32⟩
  | .hbm, ⟨15, _⟩ => ⟨S1x128, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .i1⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S_, .i32⟩
  | .hbm, ⟨43, _⟩ => ⟨S_, .f32⟩
  | .hbm, ⟨44, _⟩ => ⟨S1x128, .f32⟩
  | .hbm, ⟨45, _⟩ => ⟨S_, .i32⟩
  | .hbm, ⟨46, _⟩ => ⟨S_, .f32⟩
  | .hbm, ⟨47, _⟩ => ⟨S1x128, .f32⟩
  | .hbm, ⟨48, _⟩ => ⟨S4096x128, .bf16⟩
  | .hbm, ⟨49, _⟩ => ⟨S8x128, .f32⟩
  | .local _ .vmem, ⟨0, _⟩ => ⟨S8x1024x128, .f32⟩
  | .local _ .vmem, ⟨1, _⟩ => ⟨S8x1024x128, .f32⟩
  | .local _ .vmem, ⟨2, _⟩ => ⟨S8x1024x128, .f32⟩
  | .local _ .vmem, ⟨3, _⟩ => ⟨S8x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1024x128, .bf16⟩
  | .local _ .vmem, ⟨13, _⟩ => ⟨S1024x128, .bf16⟩
  | .local _ .vmem, ⟨14, _⟩ => ⟨S8x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call2_cst : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_c_2 : Ref sig .tc := ⟨.hbm, 42, rfl⟩
abbrev main_call3_v0 : Ref sig .tc := ⟨.hbm, 43, rfl⟩
abbrev main_v18 : Ref sig .tc := ⟨.hbm, 44, rfl⟩
abbrev main_c_3 : Ref sig .tc := ⟨.hbm, 45, rfl⟩
abbrev main_call4_v0 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32_58 : BitVec 32 := 0#32
  let v204 : BitVec 1 := Scalar.cmpi .eq arg1 c0_i32_58
  let v205 : BitVec 32 := Scalar.extui v204
  let c0_i32_59 : BitVec 32 := 0#32
  let v206 : BitVec 1 := Scalar.cmpi .ne v205 c0_i32_59
  v206

def k0_cond2 (i : grid0.Coords) : BitVec 1 :=
  let arg1 : BitVec 32 := BitVec.ofNat 32 (i 1).val
  let c0_i32_60 : BitVec 32 := 0#32
  let v207 : BitVec 1 := Scalar.cmpi .sgt arg1 c0_i32_60
  let v208 : BitVec 32 := Scalar.extui v207
  let c0_i32_61 : BitVec 32 := 0#32
  let v209 : BitVec 1 := Scalar.cmpi .ne v208 c0_i32_61
  v209

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference25Ideal.lean ====
abbrev S8x4096x128 : Shape := ⟨3, ![8, 4096, 128]⟩
abbrev S4096x128 : Shape := ⟨2, ![4096, 128]⟩
abbrev S1x8 : Shape := ⟨2, ![1, 8]⟩
abbrev S_ : Shape := ⟨0, ![]⟩
abbrev S8x4096 : Shape := ⟨2, ![8, 4096]⟩
abbrev S4096x8 : Shape := ⟨2, ![4096, 8]⟩
abbrev S8 : Shape := ⟨1, ![8]⟩
abbrev S4096x112 : Shape := ⟨2, ![4096, 112]⟩
abbrev S2x8 : Shape := ⟨2, ![2, 8]⟩
abbrev S8x128 : Shape := ⟨2, ![8, 128]⟩

abbrev nBuf : Space → Nat
  | .hbm => 98
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S4096x128, .f32⟩
  | .hbm, ⟨3, _⟩ => ⟨S1x8, .f32⟩
  | .hbm, ⟨4, _⟩ => ⟨S1x8, .f32⟩
  | .hbm, ⟨5, _⟩ => ⟨S_, .f32⟩
  | .hbm, ⟨6, _⟩ => ⟨S8x4096, .f32⟩
  | .hbm, ⟨7, _⟩ => ⟨S4096x8, .f32⟩
  | .hbm, ⟨8, _⟩ => ⟨S_, .f32⟩
  | .hbm, ⟨9, _⟩ => ⟨S8x4096, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S1x8, .f32⟩
  | .hbm, ⟨14, _⟩ => ⟨S1x8, .f32⟩
  | .hbm, ⟨15, _⟩ => ⟨S4096x8, .f32⟩
  | .hbm, ⟨16, _⟩ => ⟨S4096x8, .f32⟩
  | .hbm, ⟨17, _⟩ => ⟨S_, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .i1⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S_, .f32⟩
  | .hbm, ⟨32, _⟩ => ⟨S4096x8, .f32⟩
  | .hbm, ⟨33, _⟩ => ⟨S4096x8, .i1⟩
  | .hbm, ⟨34, _⟩ => ⟨S_, .f32⟩
  | .hbm, ⟨35, _⟩ => ⟨S4096x8, .f32⟩
  | .hbm, ⟨36, _⟩ => ⟨S4096x8, .f32⟩
  | .hbm, ⟨37, _⟩ => ⟨S_, .f32⟩
  | .hbm, ⟨38, _⟩ => ⟨S4096x8, .f32⟩
  | .hbm, ⟨39, _⟩ => ⟨S4096x8, .i1⟩
  | .hbm, ⟨40, _⟩ => ⟨S_, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S_, .f32⟩
  | .hbm, ⟨46, _⟩ => ⟨S_, .f32⟩
  | .hbm, ⟨47, _⟩ => ⟨S_, .i1⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x8, .f32⟩
  | .hbm, ⟨53, _⟩ => ⟨S4096x8, .i1⟩
  | .hbm, ⟨54, _⟩ => ⟨S_, .f32⟩
  | .hbm, ⟨55, _⟩ => ⟨S4096x8, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S_, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S_, .f32⟩
  | .hbm, ⟨68, _⟩ => ⟨S4096x8, .f32⟩
  | .hbm, ⟨69, _⟩ => ⟨S4096x8, .f32⟩
  | .hbm, ⟨70, _⟩ => ⟨S_, .f32⟩
  | .hbm, ⟨71, _⟩ => ⟨S4096x8, .f32⟩
  | .hbm, ⟨72, _⟩ => ⟨S4096x8, .f32⟩
  | .hbm, ⟨73, _⟩ => ⟨S_, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S_, .f32⟩
  | .hbm, ⟨82, _⟩ => ⟨S8, .f32⟩
  | .hbm, ⟨83, _⟩ => ⟨S1x8, .f32⟩
  | .hbm, ⟨84, _⟩ => ⟨S4096x8, .f32⟩
  | .hbm, ⟨85, _⟩ => ⟨S_, .f32⟩
  | .hbm, ⟨86, _⟩ => ⟨S8, .f32⟩
  | .hbm, ⟨87, _⟩ => ⟨S1x8, .f32⟩
  | .hbm, ⟨88, _⟩ => ⟨S1x8, .f32⟩
  | .hbm, ⟨89, _⟩ => ⟨S1x8, .f32⟩
  | .hbm, ⟨90, _⟩ => ⟨S_, .f32⟩
  | .hbm, ⟨91, _⟩ => ⟨S4096x112, .f32⟩
  | .hbm, ⟨92, _⟩ => ⟨S4096x128, .f32⟩
  | .hbm, ⟨93, _⟩ => ⟨S4096x128, .bf16⟩
  | .hbm, ⟨94, _⟩ => ⟨S2x8, .f32⟩
  | .hbm, ⟨95, _⟩ => ⟨S_, .i32⟩
  | .hbm, ⟨96, _⟩ => ⟨S_, .f32⟩
  | .hbm, ⟨97, _⟩ => ⟨S8x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v10_0 : Ref sig .tc := ⟨.hbm, 30, rfl⟩
abbrev main_call0_cst_0 : Ref sig .tc := ⟨.hbm, 31, rfl⟩
abbrev main_call0_v13 : Ref sig .tc := ⟨.hbm, 32, rfl⟩
abbrev main_call0_v14 : Ref sig .tc := ⟨.hbm, 33, rfl⟩
abbrev main_call0_cst_1 : Ref sig .tc := ⟨.hbm, 34, rfl⟩
abbrev main_call0_v15 : Ref sig .tc := ⟨.hbm, 35, rfl⟩
abbrev main_call0_v16 : Ref sig .tc := ⟨.hbm, 36, rfl⟩
abbrev main_call0_cst_2 : Ref sig .tc := ⟨.hbm, 37, rfl⟩
abbrev main_call0_v17 : Ref sig .tc := ⟨.hbm, 38, rfl⟩
abbrev main_call0_v18 : Ref sig .tc := ⟨.hbm, 39, rfl⟩
abbrev main_call0_cst_3 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_v10_1 : Ref sig .tc := ⟨.hbm, 44, rfl⟩
abbrev main_call0_cst_4 : Ref sig .tc := ⟨.hbm, 45, rfl⟩
abbrev main_call0_cst_5 : Ref sig .tc := ⟨.hbm, 46, rfl⟩
abbrev main_call0_v23 : Ref sig .tc := ⟨.hbm, 47, rfl⟩
abbrev main_call0_cst_6 : Ref sig .tc := ⟨.hbm, 48, rfl⟩
abbrev main_call0_cst_7 : Ref sig .tc := ⟨.hbm, 49, rfl⟩
abbrev main_call0_v24 : Ref sig .tc := ⟨.hbm, 50, rfl⟩
abbrev main_call0_cst_8 : Ref sig .tc := ⟨.hbm, 51, rfl⟩
abbrev main_call0_v25 : Ref sig .tc := ⟨.hbm, 52, rfl⟩
abbrev main_call0_v26 : Ref sig .tc := ⟨.hbm, 53, rfl⟩
abbrev main_call0_cst_9 : Ref sig .tc := ⟨.hbm, 54, rfl⟩
abbrev main_call0_v27 : Ref sig .tc := ⟨.hbm, 55, rfl⟩
abbrev main_call0_v28 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_cst_10 : Ref sig .tc := ⟨.hbm, 60, rfl⟩
abbrev main_call0_v32 : Ref sig .tc := ⟨.hbm, 61, rfl⟩
abbrev main_v10_2 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_cst_1 : Ref sig .tc := ⟨.hbm, 67, rfl⟩
abbrev main_v15 : Ref sig .tc := ⟨.hbm, 68, rfl⟩
abbrev main_v16 : Ref sig .tc := ⟨.hbm, 69, rfl⟩
abbrev main_cst_2 : Ref sig .tc := ⟨.hbm, 70, rfl⟩
abbrev main_v17 : Ref sig .tc := ⟨.hbm, 71, rfl⟩
abbrev main_v18 : Ref sig .tc := ⟨.hbm, 72, rfl⟩
abbrev main_cst_3 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_cst_4 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_5 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_6 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_c : Ref sig .tc := ⟨.hbm, 95, rfl⟩
abbrev main_call2_v0 : Ref sig .tc := ⟨.hbm, 96, rfl⟩
abbrev main_v37 : Ref sig .tc := ⟨.hbm, 97, rfl⟩

abbrev nD : Nat := 1
abbrev τ : Topo := Topo.v7x

variable {F : FTy → Type} [FloatOps F]
-- ==== Kernel33.lean ====
abbrev S4096x7168 : Shape := ⟨2, ![4096, 7168]⟩
abbrev S4x3072 : Shape := ⟨2, ![4, 3072]⟩
abbrev S4096x3072 : Shape := ⟨2, ![4096, 3072]⟩
abbrev S8x512 : Shape := ⟨2, ![8, 512]⟩
abbrev S1024x512 : Shape := ⟨2, ![1024, 512]⟩
abbrev S4x512 : Shape := ⟨2, ![4, 512]⟩
abbrev S1040x512 : Shape := ⟨2, ![1040, 512]⟩
abbrev S1x512 : Shape := ⟨2, ![1, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x7168, .f32⟩
  | .hbm, ⟨1, _⟩ => ⟨S4x3072, .f32⟩
  | .hbm, ⟨2, _⟩ => ⟨S4096x3072, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S4x512, .f32⟩
  | .local _ .vmem, ⟨7, _⟩ => ⟨S4x512, .f32⟩
  | .local _ .vmem, ⟨8, _⟩ => ⟨S1024x512, .f32⟩
  | .local _ .vmem, ⟨9, _⟩ => ⟨S1024x512, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi arg0 c6_i32
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c6_i32 : BitVec 32 := 6#32
  let v3 : BitVec 32 := Scalar.addi arg0 c6_i32
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference33Ideal.lean ====
abbrev S4096x7168 : Shape := ⟨2, ![4096, 7168]⟩
abbrev S4x3072 : Shape := ⟨2, ![4, 3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩
abbrev S3072 : Shape := ⟨1, ![3072]⟩
abbrev S4096x2048 : Shape := ⟨2, ![4096, 2048]⟩
abbrev S65536x128 : Shape := ⟨2, ![65536, 128]⟩
abbrev S65536 : Shape := ⟨1, ![65536]⟩
abbrev S65536x1 : Shape := ⟨2, ![65536, 1]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4x3072, .f32⟩
  | .hbm, ⟨2, _⟩ => ⟨S4096x3072, .f32⟩
  | .hbm, ⟨3, _⟩ => ⟨S_, .f32⟩
  | .hbm, ⟨4, _⟩ => ⟨S3x3072, .f32⟩
  | .hbm, ⟨5, _⟩ => ⟨S4099x3072, .f32⟩
  | .hbm, ⟨6, _⟩ => ⟨S4096x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S4096x3072, .f32⟩
  | .hbm, ⟨11, _⟩ => ⟨S4096x3072, .f32⟩
  | .hbm, ⟨12, _⟩ => ⟨S4096x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x2048, .f32⟩
  | .hbm, ⟨43, _⟩ => ⟨S65536x128, .f32⟩
  | .hbm, ⟨44, _⟩ => ⟨S65536x128, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x128, .f32⟩
  | .hbm, ⟨53, _⟩ => ⟨S65536x128, .f32⟩
  | .hbm, ⟨54, _⟩ => ⟨S4096x2048, .f32⟩
  | .hbm, ⟨55, _⟩ => ⟨S4096x1024, .f32⟩
  | .hbm, ⟨56, _⟩ => ⟨S4096x3072, .f32⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_0 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel28.lean ====
abbrev S4096x1024 : Shape := ⟨2, ![4096, 1024]⟩
abbrev S4096x7168 : Shape := ⟨2, ![4096, 7168]⟩
abbrev S4x1024 : Shape := ⟨2, ![4, 1024]⟩
abbrev S8x1024 : Shape := ⟨2, ![8, 1024]⟩
abbrev S8x512 : Shape := ⟨2, ![8, 512]⟩
abbrev S1024x512 : Shape := ⟨2, ![1024, 512]⟩
abbrev S4x512 : Shape := ⟨2, ![4, 512]⟩
abbrev S1040x512 : Shape := ⟨2, ![1040, 512]⟩
abbrev S1x512 : Shape := ⟨2, ![1, 512]⟩
abbrev S1040x128 : Shape := ⟨2, ![1040, 128]⟩
abbrev S1040 : Shape := ⟨1, ![1040]⟩
abbrev S1040x1 : Shape := ⟨2, ![1040, 1]⟩
abbrev S512 : Shape := ⟨1, ![512]⟩

abbrev nBuf : Space → Nat
  | .hbm => 5
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S4x1024, .f32⟩
  | .hbm, ⟨3, _⟩ => ⟨S4096x1024, .bf16⟩
  | .hbm, ⟨4, _⟩ => ⟨S8x1024, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S4x512, .f32⟩
  | .local _ .vmem, ⟨13, _⟩ => ⟨S4x512, .f32⟩
  | .local _ .vmem, ⟨14, _⟩ => ⟨S1024x512, .bf16⟩
  | .local _ .vmem, ⟨15, _⟩ => ⟨S1024x512, .bf16⟩
  | .local _ .vmem, ⟨16, _⟩ => ⟨S8x512, .f32⟩
  | .local _ .vmem, ⟨17, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_46 : BitVec 32 := 0#32
  let v169 : BitVec 1 := Scalar.cmpi .eq arg1 c0_i32_46
  let v170 : BitVec 32 := Scalar.extui v169
  let c0_i32_47 : BitVec 32 := 0#32
  let v171 : BitVec 1 := Scalar.cmpi .ne v170 c0_i32_47
  v171

def k0_cond2 (i : grid0.Coords) : BitVec 1 :=
  let arg1 : BitVec 32 := BitVec.ofNat 32 (i 1).val
  let c0_i32_48 : BitVec 32 := 0#32
  let v172 : BitVec 1 := Scalar.cmpi .sgt arg1 c0_i32_48
  let v173 : BitVec 32 := Scalar.extui v172
  let c0_i32_49 : BitVec 32 := 0#32
  let v174 : BitVec 1 := Scalar.cmpi .ne v173 c0_i32_49
  v174

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi arg0 c6_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c6_i32 : BitVec 32 := 6#32
  let v3 : BitVec 32 := Scalar.addi arg0 c6_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference28Ideal.lean ====
abbrev S4096x1024 : Shape := ⟨2, ![4096, 1024]⟩
abbrev S4096x7168 : Shape := ⟨2, ![4096, 7168]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S32768x128 : Shape := ⟨2, ![32768, 128]⟩
abbrev S32768 : Shape := ⟨1, ![32768]⟩
abbrev S32768x1 : Shape := ⟨2, ![32768, 1]⟩
abbrev S8x1024 : Shape := ⟨2, ![8, 1024]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x7168, .f32⟩
  | 2 => ⟨S4x1024, .f32⟩
  | 3 => ⟨S4096x1024, .f32⟩
  | 4 => ⟨S_, .f32⟩
  | 5 => ⟨S3x1024, .f32⟩
  | 6 => ⟨S4099x1024, .f32⟩
  | 7 => ⟨S_, .f32⟩
  | 8 => ⟨S3x1024, .f32⟩
  | 9 => ⟨S4096x1024, .f32⟩
  | 10 => ⟨S1x1024, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S4096x1024, .f32⟩
  | 49 => ⟨S32768x128, .f32⟩
  | 50 => ⟨S32768x128, .f32⟩
  | 51 => ⟨S_, .f32⟩
  | 52 => ⟨S32768, .f32⟩
  | 53 => ⟨S32768x1, .f32⟩
  | 54 => ⟨S_, .f32⟩
  | 55 => ⟨S32768x1, .f32⟩
  | 56 => ⟨S32768x1, .f32⟩
  | 57 => ⟨S32768x1, .f32⟩
  | 58 => ⟨S32768x1, .f32⟩
  | 59 => ⟨S_, .f32⟩
  | 60 => ⟨S32768x1, .f32⟩
  | 61 => ⟨S32768x1, .f32⟩
  | 62 => ⟨S32768x128, .f32⟩
  | 63 => ⟨S32768x128, .f32⟩
  | 64 => ⟨S4096x1024, .f32⟩
  | 65 => ⟨S32768x128, .f32⟩
  | 66 => ⟨S32768x128, .f32⟩
  | 67 => ⟨S_, .f32⟩
  | 68 => ⟨S32768, .f32⟩
  | 69 => ⟨S32768x1, .f32⟩
  | 70 => ⟨S32768x128, .f32⟩
  | 71 => ⟨S32768x128, .f32⟩
  | 72 => ⟨S32768x1, .f32⟩
  | 73 => ⟨S_, .f32⟩
  | 74 => ⟨S32768, .f32⟩
  | 75 => ⟨S32768x128, .f32⟩
  | 76 => ⟨S32768x128, .f32⟩
  | 77 => ⟨S32768x128, .f32⟩
  | 78 => ⟨S32768x128, .f32⟩
  | 79 => ⟨S32768x128, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S4x1024, .f32⟩
  | 96 => ⟨S_, .f32⟩
  | 97 => ⟨S4099x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S4x1024, .f32⟩
  | 110 => ⟨S_, .f32⟩
  | 111 => ⟨S4099x1024, .f32⟩
  | 112 => ⟨S4099x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S_, .f32⟩
  | 123 => ⟨S4x1024, .f32⟩
  | 124 => ⟨S4x1024, .f32⟩
  | 125 => ⟨S_, .f32⟩
  | 126 => ⟨S4099x1024, .f32⟩
  | 127 => ⟨S4099x1024, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S_, .f32⟩
  | 10 => ⟨S4x1024, .f32⟩
  | 11 => ⟨S4x1024, .f32⟩
  | 12 => ⟨S_, .f32⟩
  | 13 => ⟨S4099x1024, .f32⟩
  | 14 => ⟨S4099x1024, .f32⟩
  | 15 => ⟨S3x1024, .f32⟩
  | 16 => ⟨S4096x1024, .f32⟩
  | 17 => ⟨S4096x1024, .bf16⟩
  | 18 => ⟨S_, .i32⟩
  | 19 => ⟨S_, .f32⟩
  | 20 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_cst_21 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c : Ref sig .tc := ⟨.hbm, 146, rfl⟩
abbrev main_call2_v0 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Kernel34.lean ====
abbrev S4096x1024 : Shape := ⟨2, ![4096, 1024]⟩
abbrev S4096x7168 : Shape := ⟨2, ![4096, 7168]⟩
abbrev S4x1024 : Shape := ⟨2, ![4, 1024]⟩
abbrev S8x1024 : Shape := ⟨2, ![8, 1024]⟩
abbrev S8x512 : Shape := ⟨2, ![8, 512]⟩
abbrev S1024x512 : Shape := ⟨2, ![1024, 512]⟩
abbrev S4x512 : Shape := ⟨2, ![4, 512]⟩
abbrev S1040x512 : Shape := ⟨2, ![1040, 512]⟩
abbrev S1x512 : Shape := ⟨2, ![1, 512]⟩
abbrev S1040x128 : Shape := ⟨2, ![1040, 128]⟩
abbrev S1040 : Shape := ⟨1, ![1040]⟩
abbrev S1040x1 : Shape := ⟨2, ![1040, 1]⟩
abbrev S512 : Shape := ⟨1, ![512]⟩

abbrev nBuf : Space → Nat
  | .hbm => 5
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S4x1024, .f32⟩
  | .hbm, ⟨3, _⟩ => ⟨S4096x1024, .bf16⟩
  | .hbm, ⟨4, _⟩ => ⟨S8x1024, .f32⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S8x512, .f32⟩
  | .local _ .vmem, ⟨11, _⟩ => ⟨S8x512, .f32⟩
  | .local _ .vmem, ⟨12, _⟩ => ⟨S4x512, .f32⟩
  | .local _ .vmem, ⟨13, _⟩ => ⟨S4x512, .f32⟩
  | .local _ .vmem, ⟨14, _⟩ => ⟨S1024x512, .bf16⟩
  | .local _ .vmem, ⟨15, _⟩ => ⟨S1024x512, .bf16⟩
  | .local _ .vmem, ⟨16, _⟩ => ⟨S8x512, .f32⟩
  | .local _ .vmem, ⟨17, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_46 : BitVec 32 := 0#32
  let v169 : BitVec 1 := Scalar.cmpi .eq arg1 c0_i32_46
  let v170 : BitVec 32 := Scalar.extui v169
  let c0_i32_47 : BitVec 32 := 0#32
  let v171 : BitVec 1 := Scalar.cmpi .ne v170 c0_i32_47
  v171

def k0_cond2 (i : grid0.Coords) : BitVec 1 :=
  let arg1 : BitVec 32 := BitVec.ofNat 32 (i 1).val
  let c0_i32_48 : BitVec 32 := 0#32
  let v172 : BitVec 1 := Scalar.cmpi .sgt arg1 c0_i32_48
  let v173 : BitVec 32 := Scalar.extui v172
  let c0_i32_49 : BitVec 32 := 0#32
  let v174 : BitVec 1 := Scalar.cmpi .ne v173 c0_i32_49
  v174

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi arg0 c8_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c8_i32 : BitVec 32 := 8#32
  let v3 : BitVec 32 := Scalar.addi arg0 c8_i32
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference34Ideal.lean ====
abbrev S4096x1024 : Shape := ⟨2, ![4096, 1024]⟩
abbrev S4096x7168 : Shape := ⟨2, ![4096, 7168]⟩
abbrev S4x1024 : Shape := ⟨2, ![4, 1024]⟩
abbrev S_ : Shape := ⟨0, ![]⟩
abbrev S3x1024 : Shape := ⟨2, ![3, 1024]⟩
abbrev S4099x1024 : Shape := ⟨2, ![4099, 1024]⟩
abbrev S1x1024 : Shape := ⟨2, ![1, 1024]⟩
abbrev S1024 : Shape := ⟨1, ![1024]⟩
abbrev S32768x128 : Shape := ⟨2, ![32768, 128]⟩
abbrev S32768 : Shape := ⟨1, ![32768]⟩
abbrev S32768x1 : Shape := ⟨2, ![32768, 1]⟩
abbrev S8x1024 : Shape := ⟨2, ![8, 1024]⟩

abbrev nBuf : Space → Nat
  | .hbm => 149
  | .vmem => 0
  | .smem => 0
  | _ => 0

abbrev hbmTy0_0 (i : Nat) : BufTy := match i % 128 with
  | 0 => ⟨S4096x1024, .f32⟩
  | 1 => ⟨S4096x7168, .f32⟩
  | 2 => ⟨S4x1024, .f32⟩
  | 3 => ⟨S4096x1024, .f32⟩
  | 4 => ⟨S_, .f32⟩
  | 5 => ⟨S3x1024, .f32⟩
  | 6 => ⟨S4099x1024, .f32⟩
  | 7 => ⟨S_, .f32⟩
  | 8 => ⟨S3x1024, .f32⟩
  | 9 => ⟨S4096x1024, .f32⟩
  | 10 => ⟨S1x1024, .f32⟩
  | 11 => ⟨S1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S4096x1024, .f32⟩
  | 49 => ⟨S32768x128, .f32⟩
  | 50 => ⟨S32768x128, .f32⟩
  | 51 => ⟨S_, .f32⟩
  | 52 => ⟨S32768, .f32⟩
  | 53 => ⟨S32768x1, .f32⟩
  | 54 => ⟨S_, .f32⟩
  | 55 => ⟨S32768x1, .f32⟩
  | 56 => ⟨S32768x1, .f32⟩
  | 57 => ⟨S32768x1, .f32⟩
  | 58 => ⟨S32768x1, .f32⟩
  | 59 => ⟨S_, .f32⟩
  | 60 => ⟨S32768x1, .f32⟩
  | 61 => ⟨S32768x1, .f32⟩
  | 62 => ⟨S32768x128, .f32⟩
  | 63 => ⟨S32768x128, .f32⟩
  | 64 => ⟨S4096x1024, .f32⟩
  | 65 => ⟨S32768x128, .f32⟩
  | 66 => ⟨S32768x128, .f32⟩
  | 67 => ⟨S_, .f32⟩
  | 68 => ⟨S32768, .f32⟩
  | 69 => ⟨S32768x1, .f32⟩
  | 70 => ⟨S32768x128, .f32⟩
  | 71 => ⟨S32768x128, .f32⟩
  | 72 => ⟨S32768x1, .f32⟩
  | 73 => ⟨S_, .f32⟩
  | 74 => ⟨S32768, .f32⟩
  | 75 => ⟨S32768x128, .f32⟩
  | 76 => ⟨S32768x128, .f32⟩
  | 77 => ⟨S32768x128, .f32⟩
  | 78 => ⟨S32768x128, .f32⟩
  | 79 => ⟨S32768x128, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S4x1024, .f32⟩
  | 96 => ⟨S_, .f32⟩
  | 97 => ⟨S4099x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S4x1024, .f32⟩
  | 110 => ⟨S_, .f32⟩
  | 111 => ⟨S4099x1024, .f32⟩
  | 112 => ⟨S4099x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S_, .f32⟩
  | 123 => ⟨S4x1024, .f32⟩
  | 124 => ⟨S4x1024, .f32⟩
  | 125 => ⟨S_, .f32⟩
  | 126 => ⟨S4099x1024, .f32⟩
  | 127 => ⟨S4099x1024, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S_, .f32⟩
  | 10 => ⟨S4x1024, .f32⟩
  | 11 => ⟨S4x1024, .f32⟩
  | 12 => ⟨S_, .f32⟩
  | 13 => ⟨S4099x1024, .f32⟩
  | 14 => ⟨S4099x1024, .f32⟩
  | 15 => ⟨S3x1024, .f32⟩
  | 16 => ⟨S4096x1024, .f32⟩
  | 17 => ⟨S4096x1024, .bf16⟩
  | 18 => ⟨S_, .i32⟩
  | 19 => ⟨S_, .f32⟩
  | 20 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v31_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v31_1 : Ref sig .tc := ⟨.hbm, 47, rfl⟩
abbrev main_v31_0 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v59 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_cst_21 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c : Ref sig .tc := ⟨.hbm, 146, rfl⟩
abbrev main_call2_v0 : Ref sig .tc := ⟨.hbm, 147, rfl⟩
abbrev main_v105 : Ref sig .tc := ⟨.hbm, 148, rfl⟩

abbrev nD : Nat := 1
abbrev τ : Topo := Topo.v7x

variable {F : FTy → Type} [FloatOps F]
-- ==== Kernel42.lean ====
abbrev S4096x7168 : Shape := ⟨2, ![4096, 7168]⟩
abbrev S3x1024 : Shape := ⟨2, ![3, 1024]⟩
abbrev S4096x2048 : Shape := ⟨2, ![4096, 2048]⟩
abbrev S8x512 : Shape := ⟨2, ![8, 512]⟩
abbrev S1024x512 : Shape := ⟨2, ![1024, 512]⟩
abbrev S3x512 : Shape := ⟨2, ![3, 512]⟩
abbrev S1040x512 : Shape := ⟨2, ![1040, 512]⟩
abbrev S1x512 : Shape := ⟨2, ![1, 512]⟩

abbrev nBuf : Space → Nat
  | .hbm => 4
  | .vmem => 18
  | .smem => 0
  | _ => 0

abbrev bufTy : (tb : Table) → Fin (tcTables nBuf tb) → BufTy
  | .hbm, ⟨0, _⟩ => ⟨S4096x7168, .f32⟩
  | .hbm, ⟨1, _⟩ => ⟨S3x1024, .f32⟩
  | .hbm, ⟨2, _⟩ => ⟨S4096x2048, .bf16⟩
  | .hbm, ⟨3, _⟩ => ⟨S4096x2048, .bf16⟩
  | .local _ .vmem, ⟨0, _⟩ => ⟨S8x512, .f32⟩
  | .local _ .vmem, ⟨1, _⟩ => ⟨S8x512, .f32⟩
  | .local _ .vmem, ⟨2, _⟩ => ⟨S1024x512, .f32⟩
  | .local _ .vmem, ⟨3, _⟩ => ⟨S1024x512, .f32⟩
  | .local _ .vmem, ⟨4, _⟩ => ⟨S8x512, .f32⟩
  | .local _ .vmem, ⟨5, _⟩ => ⟨S8x512, .f32⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | .local _ .vmem, ⟨9, _⟩ => ⟨S8x512, .f32⟩
  | .local _ .vmem, ⟨10, _⟩ => ⟨S1024x512, .f32⟩
  | .local _ .vmem, ⟨11, _⟩ => ⟨S1024x512, .f32⟩
  | .local _ .vmem, ⟨12, _⟩ => ⟨S8x512, .f32⟩
  | .local _ .vmem, ⟨13, _⟩ => ⟨S8x512, .f32⟩
  | .local _ .vmem, ⟨14, _⟩ => ⟨S3x512, .f32⟩
  | .local _ .vmem, ⟨15, _⟩ => ⟨S3x512, .f32⟩
  | .local _ .vmem, ⟨16, _⟩ => ⟨S1024x512, .bf16⟩
  | .local _ .vmem, ⟨17, _⟩ => ⟨S1024x512, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c4_i32 : BitVec 32 := 4#32
  let v3 : BitVec 32 := Scalar.addi arg0 c4_i32
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference42Ideal.lean ====
abbrev S4096x7168 : Shape := ⟨2, ![4096, 7168]⟩
abbrev S3x1024 : Shape := ⟨2, ![3, 1024]⟩
abbrev S4096x2048 : Shape := ⟨2, ![4096, 2048]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S3x1024, .f32⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .bf16⟩
  | .hbm, ⟨33, _⟩ => ⟨S4096x2048, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel43.lean ====
abbrev S2048x7168 : Shape := ⟨2, ![2048, 7168]⟩
abbrev S2048x128 : Shape := ⟨2, ![2048, 128]⟩
abbrev S4x2048x1796 : Shape := ⟨3, ![4, 2048, 1796]⟩
abbrev S256x7168 : Shape := ⟨2, ![256, 7168]⟩
abbrev S256x128 : Shape := ⟨2, ![256, 128]⟩
abbrev S4x256x1796 : Shape := ⟨3, ![4, 256, 1796]⟩
abbrev S256x1796 : Shape := ⟨2, ![256, 1796]⟩
abbrev S1x256x1796 : Shape := ⟨3, ![1, 256, 1796]⟩
abbrev S256x1780 : Shape := ⟨2, ![256, 1780]⟩
abbrev S1x256x1780 : Shape := ⟨3, ![1, 256, 1780]⟩
abbrev S256x16 : Shape := ⟨2, ![256, 16]⟩
abbrev S1x256x16 : Shape := ⟨3, ![1, 256, 16]⟩

abbrev nBuf : Space → Nat
  | .hbm => 3
  | .vmem => 6
  | .smem => 0
  | _ => 0

abbrev bufTy : (tb : Table) → Fin (tcTables nBuf tb) → BufTy
  | .hbm, ⟨0, _⟩ => ⟨S2048x7168, .f32⟩
  | .hbm, ⟨1, _⟩ => ⟨S2048x128, .f32⟩
  | .hbm, ⟨2, _⟩ => ⟨S4x2048x1796, .f32⟩
  | .local _ .vmem, ⟨0, _⟩ => ⟨S256x7168, .f32⟩
  | .local _ .vmem, ⟨1, _⟩ => ⟨S256x7168, .f32⟩
  | .local _ .vmem, ⟨2, _⟩ => ⟨S256x128, .f32⟩
  | .local _ .vmem, ⟨3, _⟩ => ⟨S256x128, .f32⟩
  | .local _ .vmem, ⟨4, _⟩ => ⟨S4x256x1796, .f32⟩
  | .local _ .vmem, ⟨5, _⟩ => ⟨S4x256x1796, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference43Ideal.lean ====
abbrev S2048x7168 : Shape := ⟨2, ![2048, 7168]⟩
abbrev S2048x128 : Shape := ⟨2, ![2048, 128]⟩
abbrev S2048x16 : Shape := ⟨2, ![2048, 16]⟩
abbrev S2048x7184 : Shape := ⟨2, ![2048, 7184]⟩
abbrev S2048x4x1796 : Shape := ⟨3, ![2048, 4, 1796]⟩
abbrev S4x2048x1796 : Shape := ⟨3, ![4, 2048, 1796]⟩

abbrev nBuf : Space → Nat
  | .hbm => 6
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x128, .f32⟩
  | .hbm, ⟨2, _⟩ => ⟨S2048x16, .f32⟩
  | .hbm, ⟨3, _⟩ => ⟨S2048x7184, .f32⟩
  | .hbm, ⟨4, _⟩ => ⟨S2048x4x1796, .f32⟩
  | .hbm, ⟨5, _⟩ => ⟨S4x2048x1796, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel44.lean ====
abbrev S4x2048x1796 : Shape := ⟨3, ![4, 2048, 1796]⟩
abbrev S2048x7168 : Shape := ⟨2, ![2048, 7168]⟩
abbrev S2048x128 : Shape := ⟨2, ![2048, 128]⟩
abbrev S4x256x1796 : Shape := ⟨3, ![4, 256, 1796]⟩
abbrev S256x7168 : Shape := ⟨2, ![256, 7168]⟩
abbrev S256x128 : Shape := ⟨2, ![256, 128]⟩
abbrev S1x256x1796 : Shape := ⟨3, ![1, 256, 1796]⟩
abbrev S256x1796 : Shape := ⟨2, ![256, 1796]⟩
abbrev S256x1780 : Shape := ⟨2, ![256, 1780]⟩
abbrev S256x16 : Shape := ⟨2, ![256, 16]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1796, .bf16⟩
  | .hbm, ⟨1, _⟩ => ⟨S2048x7168, .bf16⟩
  | .hbm, ⟨2, _⟩ => ⟨S2048x128, .bf16⟩
  | .local _ .vmem, ⟨0, _⟩ => ⟨S4x256x1796, .bf16⟩
  | .local _ .vmem, ⟨1, _⟩ => ⟨S4x256x1796, .bf16⟩
  | .local _ .vmem, ⟨2, _⟩ => ⟨S256x7168, .bf16⟩
  | .local _ .vmem, ⟨3, _⟩ => ⟨S256x7168, .bf16⟩
  | .local _ .vmem, ⟨4, _⟩ => ⟨S256x128, .bf16⟩
  | .local _ .vmem, ⟨5, _⟩ => ⟨S256x128, .bf16⟩
  | _, _ => ⟨S4x2048x1796, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1796 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference44Ideal.lean ====
abbrev S4x2048x1796 : Shape := ⟨3, ![4, 2048, 1796]⟩
abbrev S2048x4x1796 : Shape := ⟨3, ![2048, 4, 1796]⟩
abbrev S2048x7184 : Shape := ⟨2, ![2048, 7184]⟩
abbrev S2048x7168 : Shape := ⟨2, ![2048, 7168]⟩
abbrev S2048x16 : Shape := ⟨2, ![2048, 16]⟩
abbrev S_ : Shape := ⟨0, ![]⟩
abbrev S2048x112 : Shape := ⟨2, ![2048, 112]⟩
abbrev S2048x128 : Shape := ⟨2, ![2048, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1796, .bf16⟩
  | .hbm, ⟨1, _⟩ => ⟨S2048x4x1796, .bf16⟩
  | .hbm, ⟨2, _⟩ => ⟨S2048x7184, .bf16⟩
  | .hbm, ⟨3, _⟩ => ⟨S2048x7168, .bf16⟩
  | .hbm, ⟨4, _⟩ => ⟨S2048x16, .bf16⟩
  | .hbm, ⟨5, _⟩ => ⟨S_, .bf16⟩
  | .hbm, ⟨6, _⟩ => ⟨S2048x112, .bf16⟩
  | .hbm, ⟨7, _⟩ => ⟨S2048x128, .bf16⟩
  | _, _ => ⟨S4x2048x1796, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Rd.lean ====
/- Matrices of extended reals read at natural coordinates: `rd A r c` is entry (r, c) of `A`, and zero outside it. The
   operations the kernels and the references print — arithmetic, slices, row broadcasts, rotations along the rows,
   concatenations, pads, sums over the rows — as equations of `rd`, with side conditions on natural numbers only. -/
module

public import Idealize.ShloMosaic.Lib.Pipeline.Value
public import Idealize.ShloMosaic.Lib.Pointwise
public import Idealize.ShloMosaic.Lib.ValueIdx
public import Idealize.ShloMosaic.Lib.KernelVsHost

@[expose] public section

noncomputable section

namespace Cert.Rd

open Idealize.ShloMosaic

/-- Entry (r, c) of a matrix, zero outside it. -/
def rd {m n : ℕ} (A : (⟨2, ![m, n]⟩ : Shape).Idx → EReal) (r c : ℕ) : EReal :=
  if h : r < m ∧ c < n then A (ValueIdx.ix2 ⟨r, h.1⟩ ⟨c, h.2⟩) else 0

/-- Entry c of a vector, zero outside it. -/
def rd1 {n : ℕ} (A : (⟨1, ![n]⟩ : Shape).Idx → EReal) (c : ℕ) : EReal :=
  if h : c < n then A (ValueIdx.ix1 ⟨c, h⟩) else 0

section Basic
variable {m n : ℕ}

theorem rd_in (A : (⟨2, ![m, n]⟩ : Shape).Idx → EReal) {r c : ℕ} (hr : r < m) (hc : c < n) :
    rd A r c = A (ValueIdx.ix2 ⟨r, hr⟩ ⟨c, hc⟩) := dif_pos ⟨hr, hc⟩

theorem rd_out (A : (⟨2, ![m, n]⟩ : Shape).Idx → EReal) {r c : ℕ} (h : ¬(r < m ∧ c < n)) : rd A r c = 0 := dif_neg h

theorem rd1_in (A : (⟨1, ![n]⟩ : Shape).Idx → EReal) {c : ℕ} (hc : c < n) : rd1 A c = A (ValueIdx.ix1 ⟨c, hc⟩) := dif_pos hc

/-- A matrix at an index is `rd` at the index's coordinates. -/
theorem eq_rd (A : (⟨2, ![m, n]⟩ : Shape).Idx → EReal) (i : (⟨2, ![m, n]⟩ : Shape).Idx) :
    A i = rd A (i 0).val (i 1).val := by
  rw [rd_in A (i 0).isLt (i 1).isLt]; exact congrArg A (ValueIdx.eq_ix2 i)

/-- Two matrices with the same entries are equal. -/
theorem ext_rd {A B : (⟨2, ![m, n]⟩ : Shape).Idx → EReal} (h : ∀ r c, r < m → c < n → rd A r c = rd B r c) : A = B :=
  funext fun i => by rw [eq_rd A, eq_rd B, h _ _ (i 0).isLt (i 1).isLt]

/-- An entry read through any index with those coordinates. -/
theorem rd_of_val (A : (⟨2, ![m, n]⟩ : Shape).Idx → EReal) {r c : ℕ} (i : (⟨2, ![m, n]⟩ : Shape).Idx)
    (h0 : (i 0).val = r) (h1 : (i 1).val = c) : rd A r c = A i := by
  subst h0; subst h1; exact (eq_rd A i).symm

end Basic

/-- The matrix with the given entries. -/
def tab {m n : ℕ} (f : ℕ → ℕ → EReal) : (⟨2, ![m, n]⟩ : Shape).Idx → EReal := fun i => f (i 0).val (i 1).val

theorem eq_tab {m n : ℕ} {A : (⟨2, ![m, n]⟩ : Shape).Idx → EReal} {f : ℕ → ℕ → EReal}
    (h : ∀ r c, r < m → c < n → rd A r c = f r c) : A = tab f :=
  funext fun i => (eq_rd A i).trans (h _ _ (i 0).isLt (i 1).isLt)

section Elementwise
variable {m n : ℕ} {φ ψ : FTy}

theorem rd_mulf (x y : FVec Ideal ⟨2, ![m, n]⟩ φ) (r c : ℕ) : rd (mulf x y) r c = rd x r c * rd y r c := by
  unfold rd; split
  · rfl
  · rw [mul_zero]

theorem rd_addf (x y : FVec Ideal ⟨2, ![m, n]⟩ φ) (r c : ℕ) : rd (addf x y) r c = rd x r c + rd y r c := by
  unfold rd; split
  · rfl
  · rw [add_zero]

theorem rd_truncf (x : FVec Ideal ⟨2, ![m, n]⟩ φ) (h : ψ.bits < φ.bits) (r c : ℕ) :
    rd (truncf ψ x h : FVec Ideal ⟨2, ![m, n]⟩ ψ) r c = rd x r c := rfl

theorem rd_extf (x : FVec Ideal ⟨2, ![m, n]⟩ φ) (h : φ.bits < ψ.bits) (r c : ℕ) :
    rd (extf ψ x h : FVec Ideal ⟨2, ![m, n]⟩ ψ) r c = rd x r c := rfl

end Elementwise

section Layout
variable {m n m' n' : ℕ}

/-- A unit-stride slice: the operand at the offsets plus the coordinates. -/
theorem rd_slice (off : Fin 2 → ℕ) (x : (⟨2, ![m, n]⟩ : Shape).Idx → EReal)
    (h : (⟨2, ![m, n]⟩ : Shape).Slices off ⟨2, ![m', n']⟩) {r c : ℕ} (hr : r < m') (hc : c < n') :
    rd (extractStridedSlice ⟨2, ![m', n']⟩ off x h) r c = rd x (off 0 + r) (off 1 + c) := by
  rw [rd_in _ hr hc]
  exact (rd_of_val x _ rfl rfl).symm

/-- One row broadcast down the rows. -/
theorem rd_broadcastRow (x : (⟨2, ![1, n]⟩ : Shape).Idx → EReal)
    (h : (⟨2, ![1, n]⟩ : Shape).Broadcasts ⟨2, ![m, n]⟩) {r c : ℕ} (hr : r < m) :
    rd (broadcastTo ⟨2, ![m, n]⟩ x h) r c = rd x 0 c := by
  by_cases hc : c < n
  · rw [rd_in _ hr hc, Pointwise.broadcastTo_apply]
    refine (rd_of_val x _ rfl ?_).symm
    rw [Shape.Idx.norm_def]
    dsimp only
    split
    · rename_i h1
      have h1 : n = 1 := h1
      show 0 = c; omega
    · rfl
  · rw [rd_out _ (by omega), rd_out _ (by omega)]

/-- A splat. -/
theorem rd_broadcast (x : EReal) {r c : ℕ} (hr : r < m) (hc : c < n) :
    rd (broadcast ⟨2, ![m, n]⟩ x) r c = x := by rw [rd_in _ hr hc]; rfl

/-- The constant of zero bits is zero everywhere. -/
theorem rd_zero {m n : ℕ} (r c : ℕ) :
    rd (broadcast ⟨2, ![m, n]⟩ (Scalar.ofBits (F := Ideal) .f32 0x00000000#32)) r c = 0 := by
  unfold rd; split
  · exact Ideal.ofBits_zero .f32
  · rfl

/-- A rotation along the rows by `s`, at a row it does not wrap into. -/
theorem rd_rotate (sb : BitVec 32) (x : (⟨2, ![m, n]⟩ : Shape).Idx → EReal) (h : (⟨2, ![m, n]⟩ : Shape).Rotates 0 none)
    {r c s : ℕ} (hs : sb.toNat = s) (hsr : s ≤ r) (hr : r < m) :
    rd (dynamicRotate 0 sb none x h) r c = rd x (r - s) c := by
  by_cases hc : c < n
  · rw [rd_in _ hr hc, Pointwise.dynamicRotate_apply]
    refine (rd_of_val x _ ?_ ?_).symm
    · show (r + m - (sb.toNat + 0) % m) % m = r - s
      rw [hs, Nat.add_zero, Nat.mod_eq_of_lt (by omega : s < m), show r + m - s = (r - s) + m by omega, Nat.add_mod_right,
        Nat.mod_eq_of_lt (by omega)]
    · rfl
  · rw [rd_out _ (by omega), rd_out _ (by omega)]

/-- A rotation along the rows by all but `s` of them: a shift the other way, at a row it does not wrap into. -/
theorem rd_rotate_back (sb : BitVec 32) (x : (⟨2, ![m, n]⟩ : Shape).Idx → EReal) (h : (⟨2, ![m, n]⟩ : Shape).Rotates 0 none)
    {r c s : ℕ} (hs : sb.toNat + s = m) (hs0 : 0 < s) (hr : r + s < m) :
    rd (dynamicRotate 0 sb none x h) r c = rd x (r + s) c := by
  by_cases hc : c < n
  · rw [rd_in _ (by omega : r < m) hc, Pointwise.dynamicRotate_apply]
    refine (rd_of_val x _ ?_ ?_).symm
    · show (r + m - (sb.toNat + 0) % m) % m = r + s
      rw [Nat.add_zero, Nat.mod_eq_of_lt (by omega : sb.toNat < m), show r + m - sb.toNat = r + s by omega,
        Nat.mod_eq_of_lt (by omega)]
    · rfl
  · rw [rd_out _ (by omega), rd_out _ (by omega)]

/-- Row r of several matrices one under another. -/
theorem rd_concat2 {a b : ℕ} (x : (⟨2, ![a, n]⟩ : Shape).Idx → EReal) (y : (⟨2, ![b, n]⟩ : Shape).Idx → EReal)
    (h : Shape.Concatenates [⟨2, ![a, n]⟩, ⟨2, ![b, n]⟩] ⟨2, ![m, n]⟩ 0) {r c : ℕ} :
    rd (concatenate ⟨2, ![m, n]⟩ 0 [⟨⟨2, ![a, n]⟩, x⟩, ⟨⟨2, ![b, n]⟩, y⟩] h) r c
      = if r < a then rd x r c else rd y (r - a) c := by
  have hm : a + b = m := by have := h.2.2; simpa using this
  by_cases hc : r < m ∧ c < n
  · rw [rd_in _ hc.1 hc.2, concatenate_cons_apply, concatenateAt_cons]
    split
    · rename_i hlt
      rw [if_pos (by exact hlt)]
      exact (rd_of_val x _ rfl rfl).symm
    · rename_i hlt
      rw [if_neg (by exact hlt), concatenateAt_singleton]
      exact (rd_of_val y _ rfl rfl).symm
  · rw [rd_out _ hc]; split
    · rw [rd_out _ (by omega)]
    · rw [rd_out _ (by omega)]

theorem rd_concat3 {a b d : ℕ} (x : (⟨2, ![a, n]⟩ : Shape).Idx → EReal) (y : (⟨2, ![b, n]⟩ : Shape).Idx → EReal)
    (z : (⟨2, ![d, n]⟩ : Shape).Idx → EReal)
    (h : Shape.Concatenates [⟨2, ![a, n]⟩, ⟨2, ![b, n]⟩, ⟨2, ![d, n]⟩] ⟨2, ![m, n]⟩ 0) {r c : ℕ} :
    rd (concatenate ⟨2, ![m, n]⟩ 0 [⟨⟨2, ![a, n]⟩, x⟩, ⟨⟨2, ![b, n]⟩, y⟩, ⟨⟨2, ![d, n]⟩, z⟩] h) r c
      = if r < a then rd x r c else if r - a < b then rd y (r - a) c else rd z (r - a - b) c := by
  have hm : a + (b + d) = m := by have := h.2.2; simpa using this
  by_cases hc : r < m ∧ c < n
  · rw [rd_in _ hc.1 hc.2, concatenate_cons_apply, concatenateAt_cons]
    split
    · rename_i hlt
      rw [if_pos (by exact hlt)]
      exact (rd_of_val x _ rfl rfl).symm
    · rename_i hlt
      rw [if_neg (by exact hlt), concatenateAt_cons]
      split
      · rename_i hlt
        rw [if_pos (by exact hlt)]
        exact (rd_of_val y _ rfl rfl).symm
      · rename_i hlt
        rw [if_neg (by exact hlt), concatenateAt_singleton]
        exact (rd_of_val z _ rfl rfl).symm
  · rw [rd_out _ hc]; repeat' split
    all_goals rw [rd_out _ (by omega)]

theorem rd_concat4 {a b d e : ℕ} (x : (⟨2, ![a, n]⟩ : Shape).Idx → EReal) (y : (⟨2, ![b, n]⟩ : Shape).Idx → EReal)
    (z : (⟨2, ![d, n]⟩ : Shape).Idx → EReal) (w : (⟨2, ![e, n]⟩ : Shape).Idx → EReal)
    (h : Shape.Concatenates [⟨2, ![a, n]⟩, ⟨2, ![b, n]⟩, ⟨2, ![d, n]⟩, ⟨2, ![e, n]⟩] ⟨2, ![m, n]⟩ 0) {r c : ℕ} :
    rd (concatenate ⟨2, ![m, n]⟩ 0 [⟨⟨2, ![a, n]⟩, x⟩, ⟨⟨2, ![b, n]⟩, y⟩, ⟨⟨2, ![d, n]⟩, z⟩, ⟨⟨2, ![e, n]⟩, w⟩] h) r c
      = if r < a then rd x r c else if r - a < b then rd y (r - a) c else if r - a - b < d then rd z (r - a - b) c
        else rd w (r - a - b - d) c := by
  have hm : a + (b + (d + e)) = m := by have := h.2.2; simpa using this
  by_cases hc : r < m ∧ c < n
  · rw [rd_in _ hc.1 hc.2, concatenate_cons_apply, concatenateAt_cons]
    split
    · rename_i hlt
      rw [if_pos (by exact hlt)]
      exact (rd_of_val x _ rfl rfl).symm
    · rename_i hlt
      rw [if_neg (by exact hlt), concatenateAt_cons]
      split
      · rename_i hlt
        rw [if_pos (by exact hlt)]
        exact (rd_of_val y _ rfl rfl).symm
      · rename_i hlt
        rw [if_neg (by exact hlt), concatenateAt_cons]
        split
        · rename_i hlt
          rw [if_pos (by exact hlt)]
          exact (rd_of_val z _ rfl rfl).symm
        · rename_i hlt
          rw [if_neg (by exact hlt), concatenateAt_singleton]
          exact (rd_of_val w _ rfl rfl).symm
  · rw [rd_out _ hc]; repeat' split
    all_goals rw [rd_out _ (by omega)]

/-- A vector laid as a matrix of one row. -/
theorem rd_row (x : (⟨1, ![n]⟩ : Shape).Idx → EReal) (h : (⟨1, ![n]⟩ : Shape).ShapeCasts ⟨2, ![1, n]⟩) (c : ℕ) :
    rd (shapeCast ⟨2, ![1, n]⟩ x h) 0 c = rd1 x c := by
  by_cases hc : c < n
  · rw [rd_in _ (by omega : 0 < 1) hc, rd1_in _ hc]
    rw [shapeCast_addUnit_apply]
    congr 1
    funext a
    match a with
    | ⟨0, _⟩ => rfl
  · unfold rd rd1; rw [dif_neg (by omega), dif_neg hc]

/-- A matrix of one row laid as a vector. -/
theorem rd1_row (x : (⟨2, ![1, n]⟩ : Shape).Idx → EReal) (h : (⟨2, ![1, n]⟩ : Shape).ShapeCasts ⟨1, ![n]⟩) (c : ℕ) :
    rd1 (shapeCast ⟨1, ![n]⟩ x h) c = rd x 0 c := by
  by_cases hc : c < n
  · rw [rd_in _ (by omega : 0 < 1) hc, rd1_in _ hc, shapeCast_dropUnit_apply]
    congr 1
    funext a
    match a with
    | ⟨0, _⟩ => rfl
    | ⟨1, _⟩ => rfl
  · unfold rd rd1; rw [dif_neg hc, dif_neg (by omega)]

/-- A vector laid as a matrix of one row, by broadcasting. -/
theorem rd_bcastVec (x : (⟨1, ![n]⟩ : Shape).Idx → EReal)
    (h : (⟨1, ![n]⟩ : Shape).BroadcastsInDim ⟨2, ![m, n]⟩ ![1]) {r c : ℕ} (hr : r < m) :
    rd (broadcastInDim ⟨2, ![m, n]⟩ ![1] h x) r c = rd1 x c := by
  by_cases hc : c < n
  · rw [rd_in _ hr hc, rd1_in _ hc, Pointwise.broadcastInDim_apply, Shape.Idx.norm_def]
    congr 1
    funext a
    match a with
    | ⟨0, _⟩ =>
      apply Fin.ext
      dsimp only
      split
      · rename_i h1
        have h1 : n = 1 := h1
        show 0 = c; omega
      · rfl
  · unfold rd rd1; rw [dif_neg (by omega), dif_neg hc]

/-- One row broadcast down the rows, by the host. -/
theorem rd_bcastRow (x : (⟨2, ![1, n]⟩ : Shape).Idx → EReal)
    (h : (⟨2, ![1, n]⟩ : Shape).BroadcastsInDim ⟨2, ![m, n]⟩ ![0, 1]) {r c : ℕ} (hr : r < m) :
    rd (broadcastInDim ⟨2, ![m, n]⟩ ![0, 1] h x) r c = rd x 0 c := by
  by_cases hc : c < n
  · rw [rd_in _ hr hc, Pointwise.broadcastInDim_apply, Shape.Idx.norm_def]
    refine (rd_of_val x _ rfl ?_).symm
    dsimp only
    split
    · rename_i h1
      have h1 : n = 1 := h1
      show 0 = c; omega
    · rfl
  · rw [rd_out _ (by omega), rd_out _ (by omega)]

/-- A scalar broadcast over a matrix. -/
theorem rd_bcastScalar (x : (⟨0, ![]⟩ : Shape).Idx → EReal) (h : (⟨0, ![]⟩ : Shape).BroadcastsInDim ⟨2, ![m, n]⟩ ![])
    (v : EReal) (hx : ∀ i, x i = v) {r c : ℕ} (hr : r < m) (hc : c < n) :
    rd (broadcastInDim ⟨2, ![m, n]⟩ ![] h x) r c = v := by
  rw [rd_in _ hr hc, Pointwise.broadcastInDim_apply, hx]

/-- The sum over the rows. -/
theorem rd1_sumRows {φ : FTy} (x : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ)
    {c : ℕ} (hc : c < n) :
    rd1 (multiReduction .add [0] ⟨1, ![n]⟩ x acc h hφ hacc) c = ∑ r ∈ Finset.range m, rd x r c := by
  rw [rd1_in _ hc, Ideal.multiReduction_add_single, Finset.sum_range]
  refine Finset.sum_congr rfl fun k _ => (rd_of_val x _ ?_ ?_).symm
  · rfl
  · rfl

/-- The host's sum over the rows. -/
theorem rd1_hostSumRows {φ : FTy} {u : Shape} (x : FVec Ideal ⟨2, ![m, n]⟩ φ) (init : u.Idx → Ideal φ)
    (h' : (⟨2, ![m, n]⟩ : Shape).ReducesTo [0] ⟨1, ![n]⟩) (hu : 0 < u.numel)
    {c : ℕ} (hc : c < n) :
    rd1 (Host.reduceAdd x init h' hu) c = init (Shape.Idx.first hu) + ∑ r ∈ Finset.range m, rd x r c := by
  rw [rd1_in _ hc, Host.reduceAdd_apply, Ideal.hostReduceAdd_def, Finset.sum_range]
  have h : (⟨2, ![m, n]⟩ : Shape).Reduces [0] ⟨1, ![n]⟩ := ⟨h'.1, Nat.one_pos, h'.2⟩
  rw [Ideal.hostReduceAdd_single h' h]
  congr 1
  refine Finset.sum_congr rfl fun k _ => (rd_of_val x _ ?_ ?_).symm
  · rfl
  · rfl

/-- A pad by `lo` rows above and `hi` rows below. -/
theorem rd_pad {lo hi : ℕ} {u : Shape} (x : (⟨2, ![m, n]⟩ : Shape).Idx → EReal) (v : u.Idx → EReal)
    (h : (⟨2, ![m, n]⟩ : Shape).Pads ![lo, 0] ![hi, 0] ![0, 0] ⟨2, ![m', n]⟩) (hu : 0 < u.numel) {r c : ℕ}
    (hv : v (Shape.Idx.first hu) = 0) :
    rd (pad ⟨2, ![m', n]⟩ ![lo, 0] ![hi, 0] ![0, 0] x v h hu) r c
      = if r < m' ∧ lo ≤ r then rd x (r - lo) c else 0 := by
  by_cases hc : r < m' ∧ c < n
  · rw [rd_in _ hc.1 hc.2, pad_apply]
    split
    · rename_i hin
      have h0 := hin 0
      simp at h0
      rw [if_pos ⟨hc.1, h0.1⟩]
      exact (rd_of_val x _ (Nat.div_one _) (Nat.div_one _)).symm
    · rename_i hin
      rw [hv]
      split
      · rename_i hl
        rw [rd_out]
        intro hlt
        apply hin
        intro a
        match a with
        | ⟨0, _⟩ => exact ⟨hl.2, Nat.mod_one _, by show (r - lo) / 1 < m; rw [Nat.div_one]; exact hlt.1⟩
        | ⟨1, _⟩ => exact ⟨Nat.zero_le _, Nat.mod_one _, by show (c - 0) / 1 < n; rw [Nat.div_one]; exact hlt.2⟩
      · rfl
  · rw [rd_out _ hc]; split
    · rw [rd_out _ (by omega)]
    · rfl

end Layout

/-- The words of natural numbers compared for equality select by the numbers' equality. -/
theorem select_eq {α : Type} {a b : ℕ} (ha : a < 2 ^ 32) (hb : b < 2 ^ 32) (x y : α) :
    Scalar.select (Scalar.cmpi .eq (BitVec.ofNat 32 a) (BitVec.ofNat 32 b)) x y = if a = b then x else y := by
  unfold Scalar.select Scalar.cmpi
  by_cases h : a = b
  · subst h; simp [IntOp.cmpi]
  · have h' : BitVec.ofNat 32 a ≠ BitVec.ofNat 32 b := by
      intro e
      have e := congrArg BitVec.toNat e
      simp only [BitVec.toNat_ofNat] at e
      rw [Nat.mod_eq_of_lt ha, Nat.mod_eq_of_lt hb] at e
      exact h e
    have h2 : (BitVec.ofNat 32 a == BitVec.ofNat 32 b) = false := by simpa using h'
    simp only [IntOp.cmpi, h2, h, if_false]
    rfl

/-- Rows counted from 8 above the first one: what stands above the first row is zero. -/
def halo (X : ℕ → ℕ → EReal) (k c : ℕ) : EReal := if 8 ≤ k then X (k - 8) c else 0

theorem halo_add (X : ℕ → ℕ → EReal) (k c : ℕ) : halo X (8 + k) c = X k c := by
  unfold halo; rw [if_pos (by omega), Nat.add_sub_cancel_left]

/-- A tile of `tb` rows between the eight rows before it and the eight after it — zeros above the first tile and below the last of
    `nI` tiles — is the array's rows, read from 8 above the tile's first. -/
theorem rd_tile {tb m n i nI c0 : ℕ} (X : ℕ → ℕ → EReal) (p nx : (⟨2, ![8, n]⟩ : Shape).Idx → EReal)
    (cu : (⟨2, ![tb, n]⟩ : Shape).Idx → EReal) (zp zn : (⟨2, ![8, n]⟩ : Shape).Idx → EReal)
    (h : Shape.Concatenates [⟨2, ![8, n]⟩, ⟨2, ![tb, n]⟩, ⟨2, ![8, n]⟩] ⟨2, ![m, n]⟩ 0) (htb : 8 ≤ tb) (hm : m = tb + 16)
    (hi : i < nI) (hX : ∀ R c, tb * nI ≤ R → X R c = 0)
    (hzp : ∀ r c, rd zp r c = if i = 0 then 0 else rd p r c)
    (hzn : ∀ r c, rd zn r c = if i = nI - 1 then 0 else rd nx r c)
    (hp : i ≠ 0 → ∀ r c, r < 8 → c < n → rd p r c = X (tb * i - 8 + r) (c0 + c))
    (hc : ∀ r c, r < tb → c < n → rd cu r c = X (tb * i + r) (c0 + c))
    (hn : i ≠ nI - 1 → ∀ r c, r < 8 → c < n → rd nx r c = X (tb * i + tb + r) (c0 + c))
    {r c : ℕ} (hr : r < m) (hcn : c < n) :
    rd (concatenate ⟨2, ![m, n]⟩ 0 [⟨⟨2, ![8, n]⟩, zp⟩, ⟨⟨2, ![tb, n]⟩, cu⟩, ⟨⟨2, ![8, n]⟩, zn⟩] h) r c
      = halo X (tb * i + r) (c0 + c) := by
  subst hm
  rw [rd_concat3]
  unfold halo
  split
  · rename_i h8
    rw [hzp]
    by_cases h0 : i = 0
    · rw [if_pos h0]
      subst h0
      rw [if_neg (by omega)]
    · rw [if_neg h0]
      have : tb ≤ tb * i := Nat.le_mul_of_pos_right _ (by omega)
      rw [hp h0 _ _ h8 hcn, if_pos (by omega)]
      congr 1; omega
  · rename_i h8
    split
    · rename_i hb
      rw [hc _ _ hb hcn, if_pos (by omega)]
      congr 1; omega
    · rename_i hb
      rw [hzn, if_pos (show 8 ≤ tb * i + r by omega)]
      by_cases hl : i = nI - 1
      · rw [if_pos hl]
        have : tb * nI = tb * i + tb := by
          rw [show nI = i + 1 by omega, Nat.mul_add, Nat.mul_one]
        rw [hX _ _ (by omega)]
      · rw [if_neg hl]
        rw [hn hl _ _ (by omega) hcn]
        congr 1; omega

end Cert.Rd
-- ==== Proof.GaOut.lean ====
module

public import proofs.«01_k».proof.Proof.Rd
public import proofs.«01_k».proof.Proof.Gen.KernelIdeal.Value
public import Idealize.ShloMosaic.Lib.Tactic

@[expose] public section

set_option maxRecDepth 16384

noncomputable section

namespace Cert.Ga

open Cert.KernelIdeal Cert.KernelIdeal.Gen Cert.KernelIdeal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem hz : (![0, 0] : Fin 2 → Nat) = fun _ => 0 := funext fun a => by fin_cases a <;> rfl

/-- The padded tile of the output's gradient at a point, and of the three column blocks of the projection. -/
abbrev dyE : FVec Ideal S1040x512 .f32 := k0_pay6 (grid0.coords t) (iblk m c 0 t) (iblk m c 1 t) (iblk m c 2 t)
abbrev axE : FVec Ideal S1040x512 .f32 := k0_pay7 (grid0.coords t) (iblk m c 3 t) (iblk m c 4 t) (iblk m c 5 t)
abbrev gi : BitVec 32 := BitVec.ofNat 32 (grid0.coords t 1).val
abbrev uE : FVec Ideal S1040x512 .f32 := k0_pay11 (gi t) (axE m c t) (iblk m c 9 t) (iblk m c 10 t) (iblk m c 11 t)
abbrev dcE : FVec Ideal S1040x512 .f32 := k0_pay12 (dyE m c t) (k0_pay8 (grid0.coords t) (iblk m c 6 t)) (iblk m c 7 t)
  (Scalar.cmpi .eq (gi t) 3#32) (iblk m c 8 t) (k0_pay9 (F := Ideal))
abbrev duE : FVec Ideal S1040x512 .f32 := k0_pay13 (dyE m c t) (k0_pay8 (grid0.coords t) (iblk m c 6 t)) (iblk m c 7 t)
  (Scalar.cmpi .eq (gi t) 3#32) (iblk m c 8 t) (k0_pay9 (F := Ideal)) (iblk m c 12 t)

/-- What the body leaves in output window 13 at a point, in either case. -/
theorem outs13 : (outsAt0 m c t.val t.isLt).1 = k0_pay2 (k0_pay14 (gi t) (dyE m c t) (k0_pay8 (grid0.coords t) (iblk m c 6 t)) (iblk m c 7 t)
    (Scalar.cmpi .eq (gi t) 3#32) (iblk m c 8 t) (k0_pay9 (F := Ideal)) (iblk m c 9 t) (iblk m c 10 t) (iblk m c 11 t) (iblk m c 12 t)) := by
  by_cases h0 : t.val % 4 = 0
  · rw [outsAt0_A m c t h0 (by omega)]
    dsimp only
    unfold out0_A_13
    rw [View.read_writes_eq_canon]; swap
    · intro y; apply cover0_A_13
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]
  · rw [outsAt0_B m c t h0 (by omega)]
    dsimp only
    unfold out0_B_13
    rw [View.read_writes_eq_canon]; swap
    · intro y; apply cover0_B_13
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]

/-- What the body leaves in output window 14 at a point, in either case. -/
theorem outs14 : (outsAt0 m c t.val t.isLt).2.1 = k0_pay3 (k0_pay15 (gi t) (dyE m c t) (axE m c t) (iblk m c 9 t) (iblk m c 10 t) (iblk m c 11 t) (iblk m c 12 t)) := by
  by_cases h0 : t.val % 4 = 0
  · rw [outsAt0_A m c t h0 (by omega)]
    dsimp only
    unfold out0_A_14
    rw [View.read_writes_eq_canon]; swap
    · intro y; apply cover0_A_14
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]
  · rw [outsAt0_B m c t h0 (by omega)]
    dsimp only
    unfold out0_B_14
    rw [View.read_writes_eq_canon]; swap
    · intro y; apply cover0_B_14
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]

/-- What the body leaves in output window 15 at a point, in either case. -/
theorem outs15 : (outsAt0 m c t.val t.isLt).2.2.1 = k0_pay4 (axE m c t) (duE m c t) := by
  by_cases h0 : t.val % 4 = 0
  · rw [outsAt0_A m c t h0 (by omega)]
    dsimp only
    unfold out0_A_15
    rw [View.read_writes_eq_canon]; swap
    · intro y; apply cover0_A_15
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]
  · rw [outsAt0_B m c t h0 (by omega)]
    dsimp only
    unfold out0_B_15
    rw [View.read_writes_eq_canon]; swap
    · intro y; apply cover0_B_15
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]

/-- The weight gradient's rows at the first tile of a column: this tile's sums. -/
theorem outs16_A (h0 : t.val % 4 = 0) : (outsAt0 m c t.val t.isLt).2.2.2 = k0_pay1 (uE m c t) (dcE m c t) := by
  rw [outsAt0_A m c t h0 (by omega)]
  dsimp only
  unfold out0_A_16
  rw [View.read_writes_eq_canon]; swap
  · intro y; apply cover0_A_16
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, View.ld_unit_zero (S := S8x512) hz, View.ld_unit_zero (S := S1024x512) hz, View.ld_unit_zero (S := S3x512) hz]

/-- At a later tile: this tile's sums over what the tile before left. -/
theorem outs16_B (h0 : ¬t.val % 4 = 0) (ht : t.val - 1 < cfg0.N) : (outsAt0 m c t.val t.isLt).2.2.2
    = k0_pay5 (uE m c t) (dcE m c t) (outsAt0 m c (t.val - 1) ht).2.2.2 := by
  rw [outsAt0_B m c t h0 (by omega)]
  dsimp only
  unfold out0_B_16
  rw [View.read_writes_eq_canon]; swap
  · intro y; apply cover0_B_16
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_16 t).read_unread, View.ld_unit_zero (S := S8x512) hz, View.ld_unit_zero (S := S1024x512) hz, View.ld_unit_zero (S := S3x512) hz]

end Cert.Ga
-- ==== Proof.GaRead.lean ====
module

public import proofs.«01_k».proof.Proof.GaOut

@[expose] public section

set_option maxRecDepth 16384

noncomputable section

namespace Cert.Ga

open Cert.KernelIdeal Cert.KernelIdeal.Gen Cert.KernelIdeal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The three arguments read at a row and a column: the output's gradient, the projection, the convolution's weights. -/
abbrev X0 : ℕ → ℕ → EReal := rd (m := 4096) (n := 2048) (m (c.tc.loc main_arg0))
abbrev X1 : ℕ → ℕ → EReal := rd (m := 4096) (n := 7168) (m (c.tc.loc main_arg1))
abbrev X2 : ℕ → ℕ → EReal := rd (m := 3) (n := 1024) (m (c.tc.loc main_arg2))

/-- The grid's second coordinate is the row tile. -/
theorem gi_val : (grid0.coords t 1).val = t.val % 4 :=
  (by decide +kernel : ∀ t : Fin grid0.N, (grid0.coords t 1).val = t.val % 4) t

/-- The eight rows above the tile, window 0. -/
theorem blk0 {r k : ℕ} (hr : r < 8) (hk : k < 512) :
    rd (m := 8) (n := 512) (iblk m c 0 t) r k = X0 m c ((t.val % 4 * 128 - 1) * 8 + r) ((512 * (t.val / 4) + 0) + k) := by
  have e0 := (by decide +kernel : ∀ t : Fin grid0.N, win0_0.index t 0 = t.val % 4 * 128 - 1) t
  have e1 := (by decide +kernel : ∀ t : Fin grid0.N, win0_0.index t 1 = t.val / 4) t
  rw [rd_in _ hr hk]
  unfold iblk
  rw [View.read_apply]
  show V m c main_arg0 _ = _
  rw [V_main_arg0]
  refine (rd_of_val (m := 4096) (n := 2048) _ _ ?_ ?_).symm
  · show win0_0.index t 0 * 8 + 1 * r = _; rw [e0]; omega
  · show win0_0.index t 1 * 512 + 1 * k = _; rw [e1]; omega

/-- The tile's rows, window 1. -/
theorem blk1 {r k : ℕ} (hr : r < 1024) (hk : k < 512) :
    rd (m := 1024) (n := 512) (iblk m c 1 t) r k = X0 m c (1024 * (t.val % 4) + r) ((512 * (t.val / 4) + 0) + k) := by
  have e0 := (by decide +kernel : ∀ t : Fin grid0.N, win0_1.index t 0 = t.val % 4) t
  have e1 := (by decide +kernel : ∀ t : Fin grid0.N, win0_1.index t 1 = t.val / 4) t
  rw [rd_in _ hr hk]
  unfold iblk
  rw [View.read_apply]
  show V m c main_arg0 _ = _
  rw [V_main_arg0]
  refine (rd_of_val (m := 4096) (n := 2048) _ _ ?_ ?_).symm
  · show win0_1.index t 0 * 1024 + 1 * r = _; rw [e0]; omega
  · show win0_1.index t 1 * 512 + 1 * k = _; rw [e1]; omega

/-- The eight rows below the tile, window 2. -/
theorem blk2 {r k : ℕ} (hr : r < 8) (hk : k < 512) :
    rd (m := 8) (n := 512) (iblk m c 2 t) r k = X0 m c (min ((t.val % 4 + 1) * 128) 511 * 8 + r) ((512 * (t.val / 4) + 0) + k) := by
  have e0 := (by decide +kernel : ∀ t : Fin grid0.N, win0_2.index t 0 = min ((t.val % 4 + 1) * 128) 511) t
  have e1 := (by decide +kernel : ∀ t : Fin grid0.N, win0_2.index t 1 = t.val / 4) t
  rw [rd_in _ hr hk]
  unfold iblk
  rw [View.read_apply]
  show V m c main_arg0 _ = _
  rw [V_main_arg0]
  refine (rd_of_val (m := 4096) (n := 2048) _ _ ?_ ?_).symm
  · show win0_2.index t 0 * 8 + 1 * r = _; rw [e0]; omega
  · show win0_2.index t 1 * 512 + 1 * k = _; rw [e1]; omega

/-- The eight rows above the tile, window 3. -/
theorem blk3 {r k : ℕ} (hr : r < 8) (hk : k < 512) :
    rd (m := 8) (n := 512) (iblk m c 3 t) r k = X1 m c ((t.val % 4 * 128 - 1) * 8 + r) ((512 * (t.val / 4) + 0) + k) := by
  have e0 := (by decide +kernel : ∀ t : Fin grid0.N, win0_3.index t 0 = t.val % 4 * 128 - 1) t
  have e1 := (by decide +kernel : ∀ t : Fin grid0.N, win0_3.index t 1 = t.val / 4) t
  rw [rd_in _ hr hk]
  unfold iblk
  rw [View.read_apply]
  show V m c main_arg1 _ = _
  rw [V_main_arg1]
  refine (rd_of_val (m := 4096) (n := 7168) _ _ ?_ ?_).symm
  · show win0_3.index t 0 * 8 + 1 * r = _; rw [e0]; omega
  · show win0_3.index t 1 * 512 + 1 * k = _; rw [e1]; omega

/-- The tile's rows, window 4. -/
theorem blk4 {r k : ℕ} (hr : r < 1024) (hk : k < 512) :
    rd (m := 1024) (n := 512) (iblk m c 4 t) r k = X1 m c (1024 * (t.val % 4) + r) ((512 * (t.val / 4) + 0) + k) := by
  have e0 := (by decide +kernel : ∀ t : Fin grid0.N, win0_4.index t 0 = t.val % 4) t
  have e1 := (by decide +kernel : ∀ t : Fin grid0.N, win0_4.index t 1 = t.val / 4) t
  rw [rd_in _ hr hk]
  unfold iblk
  rw [View.read_apply]
  show V m c main_arg1 _ = _
  rw [V_main_arg1]
  refine (rd_of_val (m := 4096) (n := 7168) _ _ ?_ ?_).symm
  · show win0_4.index t 0 * 1024 + 1 * r = _; rw [e0]; omega
  · show win0_4.index t 1 * 512 + 1 * k = _; rw [e1]; omega

/-- The eight rows below the tile, window 5. -/
theorem blk5 {r k : ℕ} (hr : r < 8) (hk : k < 512) :
    rd (m := 8) (n := 512) (iblk m c 5 t) r k = X1 m c (min ((t.val % 4 + 1) * 128) 511 * 8 + r) ((512 * (t.val / 4) + 0) + k) := by
  have e0 := (by decide +kernel : ∀ t : Fin grid0.N, win0_5.index t 0 = min ((t.val % 4 + 1) * 128) 511) t
  have e1 := (by decide +kernel : ∀ t : Fin grid0.N, win0_5.index t 1 = t.val / 4) t
  rw [rd_in _ hr hk]
  unfold iblk
  rw [View.read_apply]
  show V m c main_arg1 _ = _
  rw [V_main_arg1]
  refine (rd_of_val (m := 4096) (n := 7168) _ _ ?_ ?_).symm
  · show win0_5.index t 0 * 8 + 1 * r = _; rw [e0]; omega
  · show win0_5.index t 1 * 512 + 1 * k = _; rw [e1]; omega

/-- The eight rows above the tile, window 6. -/
theorem blk6 {r k : ℕ} (hr : r < 8) (hk : k < 512) :
    rd (m := 8) (n := 512) (iblk m c 6 t) r k = X1 m c ((t.val % 4 * 128 - 1) * 8 + r) ((512 * (t.val / 4) + 1024) + k) := by
  have e0 := (by decide +kernel : ∀ t : Fin grid0.N, win0_6.index t 0 = t.val % 4 * 128 - 1) t
  have e1 := (by decide +kernel : ∀ t : Fin grid0.N, win0_6.index t 1 = t.val / 4 + 2) t
  rw [rd_in _ hr hk]
  unfold iblk
  rw [View.read_apply]
  show V m c main_arg1 _ = _
  rw [V_main_arg1]
  refine (rd_of_val (m := 4096) (n := 7168) _ _ ?_ ?_).symm
  · show win0_6.index t 0 * 8 + 1 * r = _; rw [e0]; omega
  · show win0_6.index t 1 * 512 + 1 * k = _; rw [e1]; omega

/-- The tile's rows, window 7. -/
theorem blk7 {r k : ℕ} (hr : r < 1024) (hk : k < 512) :
    rd (m := 1024) (n := 512) (iblk m c 7 t) r k = X1 m c (1024 * (t.val % 4) + r) ((512 * (t.val / 4) + 1024) + k) := by
  have e0 := (by decide +kernel : ∀ t : Fin grid0.N, win0_7.index t 0 = t.val % 4) t
  have e1 := (by decide +kernel : ∀ t : Fin grid0.N, win0_7.index t 1 = t.val / 4 + 2) t
  rw [rd_in _ hr hk]
  unfold iblk
  rw [View.read_apply]
  show V m c main_arg1 _ = _
  rw [V_main_arg1]
  refine (rd_of_val (m := 4096) (n := 7168) _ _ ?_ ?_).symm
  · show win0_7.index t 0 * 1024 + 1 * r = _; rw [e0]; omega
  · show win0_7.index t 1 * 512 + 1 * k = _; rw [e1]; omega

/-- The eight rows below the tile, window 8. -/
theorem blk8 {r k : ℕ} (hr : r < 8) (hk : k < 512) :
    rd (m := 8) (n := 512) (iblk m c 8 t) r k = X1 m c (min ((t.val % 4 + 1) * 128) 511 * 8 + r) ((512 * (t.val / 4) + 1024) + k) := by
  have e0 := (by decide +kernel : ∀ t : Fin grid0.N, win0_8.index t 0 = min ((t.val % 4 + 1) * 128) 511) t
  have e1 := (by decide +kernel : ∀ t : Fin grid0.N, win0_8.index t 1 = t.val / 4 + 2) t
  rw [rd_in _ hr hk]
  unfold iblk
  rw [View.read_apply]
  show V m c main_arg1 _ = _
  rw [V_main_arg1]
  refine (rd_of_val (m := 4096) (n := 7168) _ _ ?_ ?_).symm
  · show win0_8.index t 0 * 8 + 1 * r = _; rw [e0]; omega
  · show win0_8.index t 1 * 512 + 1 * k = _; rw [e1]; omega

/-- The eight rows above the tile, window 9. -/
theorem blk9 {r k : ℕ} (hr : r < 8) (hk : k < 512) :
    rd (m := 8) (n := 512) (iblk m c 9 t) r k = X1 m c ((t.val % 4 * 128 - 1) * 8 + r) ((512 * (t.val / 4) + 2048) + k) := by
  have e0 := (by decide +kernel : ∀ t : Fin grid0.N, win0_9.index t 0 = t.val % 4 * 128 - 1) t
  have e1 := (by decide +kernel : ∀ t : Fin grid0.N, win0_9.index t 1 = t.val / 4 + 4) t
  rw [rd_in _ hr hk]
  unfold iblk
  rw [View.read_apply]
  show V m c main_arg1 _ = _
  rw [V_main_arg1]
  refine (rd_of_val (m := 4096) (n := 7168) _ _ ?_ ?_).symm
  · show win0_9.index t 0 * 8 + 1 * r = _; rw [e0]; omega
  · show win0_9.index t 1 * 512 + 1 * k = _; rw [e1]; omega

/-- The tile's rows, window 10. -/
theorem blk10 {r k : ℕ} (hr : r < 1024) (hk : k < 512) :
    rd (m := 1024) (n := 512) (iblk m c 10 t) r k = X1 m c (1024 * (t.val % 4) + r) ((512 * (t.val / 4) + 2048) + k) := by
  have e0 := (by decide +kernel : ∀ t : Fin grid0.N, win0_10.index t 0 = t.val % 4) t
  have e1 := (by decide +kernel : ∀ t : Fin grid0.N, win0_10.index t 1 = t.val / 4 + 4) t
  rw [rd_in _ hr hk]
  unfold iblk
  rw [View.read_apply]
  show V m c main_arg1 _ = _
  rw [V_main_arg1]
  refine (rd_of_val (m := 4096) (n := 7168) _ _ ?_ ?_).symm
  · show win0_10.index t 0 * 1024 + 1 * r = _; rw [e0]; omega
  · show win0_10.index t 1 * 512 + 1 * k = _; rw [e1]; omega

/-- The eight rows below the tile, window 11. -/
theorem blk11 {r k : ℕ} (hr : r < 8) (hk : k < 512) :
    rd (m := 8) (n := 512) (iblk m c 11 t) r k = X1 m c (min ((t.val % 4 + 1) * 128) 511 * 8 + r) ((512 * (t.val / 4) + 2048) + k) := by
  have e0 := (by decide +kernel : ∀ t : Fin grid0.N, win0_11.index t 0 = min ((t.val % 4 + 1) * 128) 511) t
  have e1 := (by decide +kernel : ∀ t : Fin grid0.N, win0_11.index t 1 = t.val / 4 + 4) t
  rw [rd_in _ hr hk]
  unfold iblk
  rw [View.read_apply]
  show V m c main_arg1 _ = _
  rw [V_main_arg1]
  refine (rd_of_val (m := 4096) (n := 7168) _ _ ?_ ?_).symm
  · show win0_11.index t 0 * 8 + 1 * r = _; rw [e0]; omega
  · show win0_11.index t 1 * 512 + 1 * k = _; rw [e1]; omega

/-- The convolution's weights at the tile's columns. -/
theorem blk12 {r k : ℕ} (hr : r < 3) (hk : k < 512) :
    rd (m := 3) (n := 512) (iblk m c 12 t) r k = X2 m c (r) (512 * (t.val / 4) + k) := by
  have e0 := (by decide +kernel : ∀ t : Fin grid0.N, win0_12.index t 0 = 0) t
  have e1 := (by decide +kernel : ∀ t : Fin grid0.N, win0_12.index t 1 = t.val / 4) t
  rw [rd_in _ hr hk]
  unfold iblk
  rw [View.read_apply]
  show V m c main_arg2 _ = _
  rw [V_main_arg2]
  refine (rd_of_val (m := 3) (n := 1024) _ _ ?_ ?_).symm
  · show win0_12.index t 0 * 3 + 1 * r = _; rw [e0]; omega
  · show win0_12.index t 1 * 512 + 1 * k = _; rw [e1]; omega

/-- Zeros at the first tile, the rows above otherwise. -/
theorem sel_first (x : FVec Ideal S8x512 .f32) (r k : ℕ) :
    rd (m := 8) (n := 512) (Scalar.select (Scalar.cmpi .eq (gi t) 0#32) (broadcast S8x512 (Scalar.ofBits (F := Ideal) .f32 0x00000000#32)) x) r k
      = if t.val % 4 = 0 then 0 else rd (m := 8) (n := 512) x r k := by
  show rd (Scalar.select (Scalar.cmpi .eq (BitVec.ofNat 32 (grid0.coords t 1).val) (BitVec.ofNat 32 0)) _ x) r k = _
  rw [gi_val, select_eq (by omega) (by omega)]
  split
  · exact rd_zero r k
  · rfl

/-- Zeros at the last tile, the rows below otherwise. -/
theorem sel_last (x : FVec Ideal S8x512 .f32) (r k : ℕ) :
    rd (m := 8) (n := 512) (Scalar.select (Scalar.cmpi .eq (gi t) 3#32) (broadcast S8x512 (Scalar.ofBits (F := Ideal) .f32 0x00000000#32)) x) r k
      = if t.val % 4 = 4 - 1 then 0 else rd (m := 8) (n := 512) x r k := by
  show rd (Scalar.select (Scalar.cmpi .eq (BitVec.ofNat 32 (grid0.coords t 1).val) (BitVec.ofNat 32 3)) _ x) r k = _
  rw [gi_val, select_eq (by omega) (by omega)]
  split
  · exact rd_zero r k
  · rfl

theorem t_lt : t.val < 8 := lt_of_lt_of_eq t.isLt (by decide +kernel)

/-- The tile with eight rows on each side, windows 0 to 2, is the array's rows, zero above the first. -/
theorem dyE_rd {r k : ℕ} (hr : r < 1040) (hk : k < 512) :
    rd (m := 1040) (n := 512) (dyE m c t) r k = halo (X0 m c) (1024 * (t.val % 4) + r) ((512 * (t.val / 4) + 0) + k) := by
  unfold dyE k0_pay6
  dsimp only
  refine rd_tile (tb := 1024) (nI := 4) (X0 m c) (iblk m c 0 t) (iblk m c 2 t) (iblk m c 1 t) _ _ _ (by omega) rfl
    (by omega) (fun R C h => rd_out _ (by omega)) (sel_first t _) (sel_last t _) ?_ ?_ ?_ hr hk
  · intro h r k hr hk; rw [blk0 m c t hr hk]; congr 1; omega
  · intro r k hr hk; exact blk1 m c t hr hk
  · intro h r k hr hk; rw [blk2 m c t hr hk]; congr 1; omega

/-- The tile with eight rows on each side, windows 3 to 5, is the array's rows, zero above the first. -/
theorem axE_rd {r k : ℕ} (hr : r < 1040) (hk : k < 512) :
    rd (m := 1040) (n := 512) (axE m c t) r k = halo (X1 m c) (1024 * (t.val % 4) + r) ((512 * (t.val / 4) + 0) + k) := by
  unfold axE k0_pay7
  dsimp only
  refine rd_tile (tb := 1024) (nI := 4) (X1 m c) (iblk m c 3 t) (iblk m c 5 t) (iblk m c 4 t) _ _ _ (by omega) rfl
    (by omega) (fun R C h => rd_out _ (by omega)) (sel_first t _) (sel_last t _) ?_ ?_ ?_ hr hk
  · intro h r k hr hk; rw [blk3 m c t hr hk]; congr 1; omega
  · intro r k hr hk; exact blk4 m c t hr hk
  · intro h r k hr hk; rw [blk5 m c t hr hk]; congr 1; omega

/-- The tile with eight rows on each side, windows 9 to 11, is the array's rows, zero above the first. -/
theorem acE_rd {r k : ℕ} (hr : r < 1040) (hk : k < 512) :
    rd (m := 1040) (n := 512) (k0_pay10 (gi t) (iblk m c 9 t) (iblk m c 10 t) (iblk m c 11 t)) r k = halo (X1 m c) (1024 * (t.val % 4) + r) ((512 * (t.val / 4) + 2048) + k) := by
  unfold k0_pay10
  dsimp only
  refine rd_tile (tb := 1024) (nI := 4) (X1 m c) (iblk m c 9 t) (iblk m c 11 t) (iblk m c 10 t) _ _ _ (by omega) rfl
    (by omega) (fun R C h => rd_out _ (by omega)) (sel_first t _) (sel_last t _) ?_ ?_ ?_ hr hk
  · intro h r k hr hk; rw [blk9 m c t hr hk]; congr 1; omega
  · intro r k hr hk; exact blk10 m c t hr hk
  · intro h r k hr hk; rw [blk11 m c t hr hk]; congr 1; omega

/-- The tile with eight rows on each side, windows 6 to 8, is the array's rows, zero above the first. -/
theorem abE_rd {r k : ℕ} (hr : r < 1040) (hk : k < 512) :
    rd (m := 1040) (n := 512) (concatenate S1040x512 0 [⟨S8x512, k0_pay8 (grid0.coords t) (iblk m c 6 t)⟩, ⟨S1024x512, iblk m c 7 t⟩, ⟨S8x512, Scalar.select (Scalar.cmpi .eq (gi t) 3#32) (k0_pay9 (F := Ideal)) (iblk m c 8 t)⟩] concatenates_S8x512_S1024x512_S8x512_S1040x512_d0) r k = halo (X1 m c) (1024 * (t.val % 4) + r) ((512 * (t.val / 4) + 1024) + k) := by
  unfold k0_pay8 k0_pay9
  dsimp only
  refine rd_tile (tb := 1024) (nI := 4) (X1 m c) (iblk m c 6 t) (iblk m c 8 t) (iblk m c 7 t) _ _ _ (by omega) rfl
    (by omega) (fun R C h => rd_out _ (by omega)) (sel_first t _) (sel_last t _) ?_ ?_ ?_ hr hk
  · intro h r k hr hk; rw [blk6 m c t hr hk]; congr 1; omega
  · intro r k hr hk; exact blk7 m c t hr hk
  · intro h r k hr hk; rw [blk8 m c t hr hk]; congr 1; omega

end Cert.Ga
-- ==== Proof.GaKernel.lean ====
module

public import proofs.«01_k».proof.Proof.GaRead

@[expose] public section

set_option maxRecDepth 16384

noncomputable section

namespace Cert.Ga

open Cert.KernelIdeal Cert.KernelIdeal.Gen Cert.KernelIdeal.Value Cert.Rd Idealize.ShloMosaic Idealize.ShloMosaic.TcCoe Idealize.SL.Sem
open Idealize.ShloMosaic.Pipeline (Dat)

/-! ## The gradients in closed form, over the arguments read at a row and a column -/

section Closed
variable (Y P W : ℕ → ℕ → EReal)

/-- The convolution's input `a_c * a_x`, and the same `s` rows up, zero above the first row. -/
def uN (R C : ℕ) : EReal := P R (2048 + C) * P R C
def uB (s R C : ℕ) : EReal := if s ≤ R then uN P (R - s) C else 0
/-- The gradient of the convolution's output, and of its input. -/
def dcN (R C : ℕ) : EReal := Y R C * P R (1024 + C)
def duN (R C : ℕ) : EReal := dcN Y P R C * W 2 C + dcN Y P (R + 2) C * W 0 C + dcN Y P (R + 1) C * W 1 C
/-- The gradients of the three column blocks. -/
def daxN (R C : ℕ) : EReal := duN Y P W R C * P R (2048 + C)
def dabN (R C : ℕ) : EReal := Y R C * (uN P R C * W 2 C + uB P 2 R C * W 0 C + uB P 1 R C * W 1 C)
def dacN (R C : ℕ) : EReal := duN Y P W R C * P R C
/-- The gradient of the weights, summed over the first `n` rows, in eight rows the last five of which are zero. -/
def dwN (n k C : ℕ) : EReal :=
  if k < 3 then ∑ R ∈ Finset.range n, dcN Y P R C * uB P (2 - k) R C else 0

end Closed

variable (m : (ℓ : Loc nD τ sig) → Buf (Elt Ideal) ℓ) (c : Dev nD) (t : Fin cfg0.N)

/-- The gradient of the convolution's output, from the tile's first row on. -/
theorem dcE_rd {r k : ℕ} (hr : 8 + r < 1040) (hk : k < 512) :
    rd (m := 1040) (n := 512) (dcE m c t) (8 + r) k = dcN (X0 m c) (X1 m c) (1024 * (t.val % 4) + r) (512 * (t.val / 4) + k) := by
  unfold dcE k0_pay12
  dsimp only
  rw [rd_mulf, dyE_rd m c t hr hk, abE_rd m c t hr hk, show 1024 * (t.val % 4) + (8 + r) = 8 + (1024 * (t.val % 4) + r) by omega,
    halo_add, halo_add]
  unfold dcN
  congr 2; omega

/-- The convolution's input `s` rows above a row of the tile. -/
theorem uE_rd {r k s : ℕ} (hr : r < 1024) (hs : s ≤ 8) (hk : k < 512) :
    rd (m := 1040) (n := 512) (uE m c t) (8 + r - s) k = uB (X1 m c) s (1024 * (t.val % 4) + r) (512 * (t.val / 4) + k) := by
  unfold uE k0_pay11
  dsimp only
  rw [rd_mulf, acE_rd m c t (by omega) hk, axE_rd m c t (by omega) hk]
  unfold halo uB uN
  by_cases h : s ≤ 1024 * (t.val % 4) + r
  · rw [if_pos (by omega), if_pos (by omega), if_pos h]
    congr 2 <;> omega
  · rw [if_neg (by omega), if_neg (by omega), if_neg h, zero_mul]

/-- The convolution's input at a row of the tile. -/
theorem uE_rd0 {r k : ℕ} (hr : r < 1024) (hk : k < 512) :
    rd (m := 1040) (n := 512) (uE m c t) (8 + r) k = uN (X1 m c) (1024 * (t.val % 4) + r) (512 * (t.val / 4) + k) := by
  have h := uE_rd m c t hr (by omega : 0 ≤ 8) hk
  rwa [Nat.sub_zero, uB, if_pos (by omega), Nat.sub_zero] at h

/-- The gradient of the convolution's input at a row of the tile. -/
theorem duE_rd {r k : ℕ} (hr : r < 1024) (hk : k < 512) :
    rd (m := 1040) (n := 512) (duE m c t) (8 + r) k
      = duN (X0 m c) (X1 m c) (X2 m c) (1024 * (t.val % 4) + r) (512 * (t.val / 4) + k) := by
  show rd (m := 1040) (n := 512) (k0_pay13 (F := Ideal) _ _ _ _ _ _ _) _ _ = _
  unfold k0_pay13
  dsimp only
  rw [rd_addf, rd_addf, rd_mulf, rd_mulf, rd_mulf, rd_rotate_back (m := 1040) (s := 2) _ _ _ rfl (by omega) (by omega),
    rd_rotate_back (m := 1040) (s := 1) _ _ _ rfl (by omega) (by omega), rd_broadcastRow _ _ (by omega), rd_broadcastRow _ _ (by omega),
    rd_broadcastRow _ _ (by omega), rd_slice _ _ _ (by omega) hk, rd_slice _ _ _ (by omega) hk, rd_slice _ _ _ (by omega) hk]
  rw [Nat.add_assoc 8 r 2, Nat.add_assoc 8 r 1]
  have d0 := dcE_rd m c t (r := r) (by omega) hk
  have d2 := dcE_rd m c t (r := r + 2) (by omega) hk
  have d1 := dcE_rd m c t (r := r + 1) (by omega) hk
  have w (i : ℕ) (hi : i < 3) := blk12 m c t (r := i) hi hk
  unfold duN
  refine congrArg₂ (· + ·) (congrArg₂ (· + ·) (congrArg₂ (· * ·) d0 ?_) (congrArg₂ (· * ·) d2 ?_)) (congrArg₂ (· * ·) d1 ?_)
  · refine Eq.trans ?_ (w 2 (by omega)); show rd _ (2 + 0) (0 + k) = _; rw [Nat.zero_add]
  · refine Eq.trans ?_ (w 0 (by omega)); show rd _ 0 (0 + k) = _; rw [Nat.zero_add]
  · refine Eq.trans ?_ (w 1 (by omega)); show rd _ (1 + 0) (0 + k) = _; rw [Nat.zero_add]

/-- Window 13's block at a point. -/
theorem outs13_rd {r k : ℕ} (hr : r < 1024) (hk : k < 512) :
    rd (m := 1024) (n := 512) (outsAt0 m c t.val t.isLt).1 r k
      = daxN (X0 m c) (X1 m c) (X2 m c) (1024 * (t.val % 4) + r) (512 * (t.val / 4) + k) := by
  rw [outs13]
  unfold k0_pay2 k0_pay14
  dsimp only
  rw [rd_truncf, rd_slice _ _ _ hr hk]
  show rd (m := 1040) (n := 512) _ (8 + r) (0 + k) = _
  rw [Nat.zero_add, rd_mulf]
  have e := acE_rd m c t (r := 8 + r) (by omega) hk
  rw [show 1024 * (t.val % 4) + (8 + r) = 8 + (1024 * (t.val % 4) + r) by omega, halo_add] at e
  unfold daxN
  refine congrArg₂ (· * ·) (duE_rd m c t hr hk) (e.trans ?_)
  congr 1; omega

/-- Window 14's block at a point. -/
theorem outs14_rd {r k : ℕ} (hr : r < 1024) (hk : k < 512) :
    rd (m := 1024) (n := 512) (outsAt0 m c t.val t.isLt).2.1 r k
      = dabN (X0 m c) (X1 m c) (X2 m c) (1024 * (t.val % 4) + r) (512 * (t.val / 4) + k) := by
  rw [outs14]
  unfold k0_pay3 k0_pay15
  dsimp only
  rw [rd_truncf, rd_slice _ _ _ hr hk]
  show rd (m := 1040) (n := 512) _ (8 + r) (0 + k) = _
  rw [Nat.zero_add, rd_mulf, rd_addf, rd_addf, rd_mulf, rd_mulf, rd_mulf, rd_rotate (s := 2) _ _ _ rfl (by omega) (by omega),
    rd_rotate (s := 1) _ _ _ rfl (by omega) (by omega), rd_broadcastRow _ _ (by omega), rd_broadcastRow _ _ (by omega),
    rd_broadcastRow _ _ (by omega), rd_slice _ _ _ (by omega) hk, rd_slice _ _ _ (by omega) hk, rd_slice _ _ _ (by omega) hk]
  have e := dyE_rd m c t (r := 8 + r) (by omega) hk
  rw [show 1024 * (t.val % 4) + (8 + r) = 8 + (1024 * (t.val % 4) + r) by omega, halo_add] at e
  have w (i : ℕ) (hi : i < 3) := blk12 m c t (r := i) hi hk
  unfold dabN
  refine congrArg₂ (· * ·) (e.trans (by congr 1)) (congrArg₂ (· + ·) (congrArg₂ (· + ·) (congrArg₂ (· * ·) (uE_rd0 m c t hr hk) ?_)
    (congrArg₂ (· * ·) (uE_rd m c t hr (by omega) hk) ?_)) (congrArg₂ (· * ·) (uE_rd m c t hr (by omega) hk) ?_))
  · refine Eq.trans ?_ (w 2 (by omega)); show rd _ (2 + 0) (0 + k) = _; rw [Nat.zero_add]
  · refine Eq.trans ?_ (w 0 (by omega)); show rd _ 0 (0 + k) = _; rw [Nat.zero_add]
  · refine Eq.trans ?_ (w 1 (by omega)); show rd _ (1 + 0) (0 + k) = _; rw [Nat.zero_add]

/-- Window 15's block at a point. -/
theorem outs15_rd {r k : ℕ} (hr : r < 1024) (hk : k < 512) :
    rd (m := 1024) (n := 512) (outsAt0 m c t.val t.isLt).2.2.1 r k
      = dacN (X0 m c) (X1 m c) (X2 m c) (1024 * (t.val % 4) + r) (512 * (t.val / 4) + k) := by
  rw [outs15]
  unfold k0_pay4
  dsimp only
  rw [rd_truncf, rd_slice _ _ _ hr hk]
  show rd (m := 1040) (n := 512) _ (8 + r) (0 + k) = _
  rw [Nat.zero_add, rd_mulf]
  have e := axE_rd m c t (r := 8 + r) (by omega) hk
  rw [show 1024 * (t.val % 4) + (8 + r) = 8 + (1024 * (t.val % 4) + r) by omega, halo_add] at e
  unfold dacN
  exact congrArg₂ (· * ·) (duE_rd m c t hr hk) e

/-- One tile's sums of the weight gradient. -/
theorem tile16_rd {r k : ℕ} (hr : r < 8) (hk : k < 512) :
    rd (m := 8) (n := 512) (k0_pay1 (uE m c t) (dcE m c t)) r k
      = if r < 3 then ∑ i ∈ Finset.range 1024, dcN (X0 m c) (X1 m c) (1024 * (t.val % 4) + i) (512 * (t.val / 4) + k)
          * uB (X1 m c) (2 - r) (1024 * (t.val % 4) + i) (512 * (t.val / 4) + k) else 0 := by
  unfold k0_pay1
  dsimp only
  rw [rd_concat4]
  have hsum (s : ℕ) (hs : s ≤ 2) (x : FVec Ideal S1040x512 .f32)
      (hx : ∀ i, i < 1024 → rd (m := 1040) (n := 512) x (8 + i) k = rd (m := 1040) (n := 512) (uE m c t) (8 + i - s) k) :
      rd (m := 1) (n := 512) (shapeCast S1x512 (multiReduction .add [0] S512 (extractStridedSlice S1024x512 ![8, 0] (mulf (dcE m c t) x)
        slices_S1040x512_o8_0_S1024x512) 0x00000000#32 reduces_S1024x512_S512 (.inl rfl) rfl) shapeCasts_S512_S1x512) 0 k
      = ∑ i ∈ Finset.range 1024, dcN (X0 m c) (X1 m c) (1024 * (t.val % 4) + i) (512 * (t.val / 4) + k)
          * uB (X1 m c) s (1024 * (t.val % 4) + i) (512 * (t.val / 4) + k) := by
    refine (rd_row _ _ _).trans ((rd1_sumRows _ _ _ _ _ hk).trans ?_)
    refine Finset.sum_congr rfl fun i hi => ?_
    have hi := Finset.mem_range.1 hi
    rw [rd_slice _ _ _ hi hk]
    show rd (m := 1040) (n := 512) _ (8 + i) (0 + k) = _
    rw [Nat.zero_add, rd_mulf, hx i hi, dcE_rd m c t (by omega) hk, uE_rd m c t hi (by omega) hk]
  by_cases h0 : r < 1
  · obtain rfl : r = 0 := by omega
    rw [if_pos h0, if_pos (by omega)]
    exact hsum 2 (by omega) _ fun i hi => rd_rotate (s := 2) _ _ _ rfl (by omega) (by omega)
  · rw [if_neg h0]
    by_cases h1 : r - 1 < 1
    · obtain rfl : r = 1 := by omega
      rw [if_pos h1, if_pos (by omega)]
      exact hsum 1 (by omega) _ fun i hi => rd_rotate (s := 1) _ _ _ rfl (by omega) (by omega)
    · rw [if_neg h1]
      by_cases h2 : r - 1 - 1 < 1
      · obtain rfl : r = 2 := by omega
        rw [if_pos h2, if_pos (by omega)]
        exact hsum 0 (by omega) _ fun i hi => by rw [Nat.sub_zero]
      · rw [if_neg h2, if_neg (by omega)]
        exact rd_zero _ _

/-- Window 16's block at a point: the weight gradient over the rows so far. -/
theorem outs16_rd : ∀ (n : ℕ) (hn : n < cfg0.N) {r k : ℕ} (_ : r < 8) (_ : k < 512),
    rd (m := 8) (n := 512) (outsAt0 m c n hn).2.2.2 r k
      = dwN (X0 m c) (X1 m c) (1024 * (n % 4 + 1)) r (512 * (n / 4) + k) := by
  intro n
  induction n with
  | zero =>
    intro hn r k hr hk
    have e := outs16_A m c ⟨0, hn⟩ rfl
    rw [show (outsAt0 m c 0 hn).2.2.2 = _ from e, tile16_rd m c _ hr hk]
    unfold dwN
    simp
  | succ n ih =>
    intro hn r k hr hk
    have hN : n + 1 < 8 := t_lt ⟨n + 1, hn⟩
    by_cases h0 : (n + 1) % 4 = 0
    · have e := outs16_A m c ⟨n + 1, hn⟩ h0
      rw [show (outsAt0 m c (n + 1) hn).2.2.2 = _ from e, tile16_rd m c _ hr hk]
      unfold dwN
      dsimp only
      rw [h0]
      simp
    · have e := outs16_B m c ⟨n + 1, hn⟩ h0 (by show n + 1 - 1 < cfg0.N; omega)
      rw [show (outsAt0 m c (n + 1) hn).2.2.2 = _ from e]
      unfold k0_pay5
      dsimp only
      rw [shapeCast_self, rd_addf, tile16_rd m c _ hr hk]
      have h := ih (by omega) hr hk
      rw [show rd (m := 8) (n := 512) (outsAt0 m c (n + 1 - 1) (by omega)).2.2.2 r k = _ from h]
      unfold dwN
      dsimp only
      rw [show (n + 1) / 4 = n / 4 by omega, show (n + 1) % 4 = n % 4 + 1 by omega]
      by_cases h3 : r < 3
      · rw [if_pos h3, if_pos h3, if_pos h3, show 1024 * (n % 4 + 1 + 1) = 1024 * (n % 4 + 1) + 1024 by omega, Finset.sum_range_add]
      · rw [if_neg h3, if_neg h3, if_neg h3, add_zero]

end Cert.Ga
-- ==== Proof.GaRef.lean ====
module

public import proofs.«01_k».proof.Proof.GaKernel
public import proofs.«01_k».proof.Proof.Gen.ReferenceIdeal.Read

@[expose] public section

set_option maxRecDepth 16384

noncomputable section

namespace Cert.Ga.Ref

open Cert.ReferenceIdeal Cert.ReferenceIdeal.Gen Cert.ReferenceIdeal.Read Cert.Rd Cert.Ga Idealize.ShloMosaic Idealize.ShloMosaic.TcCoe

variable (x0 : (⟨S4096x2048, .f32⟩ : BufTy).Contents (Elt Ideal)) (x1 : (⟨S4096x7168, .f32⟩ : BufTy).Contents (Elt Ideal))
  (x2 : (⟨S3x1024, .f32⟩ : BufTy).Contents (Elt Ideal))

abbrev Y : ℕ → ℕ → EReal := rd (m := 4096) (n := 2048) x0
abbrev P : ℕ → ℕ → EReal := rd (m := 4096) (n := 7168) x1
abbrev W : ℕ → ℕ → EReal := rd (m := 3) (n := 1024) x2

/-- The three column blocks, the convolution's input. -/
theorem v0_rd {R C : ℕ} (hR : R < 4096) (hC : C < 1024) : rd (m := 4096) (n := 1024) (val_main_v0 (F := Ideal) x1) R C = P x1 R C := by
  unfold val_main_v0; rw [rd_slice _ _ _ hR hC]; show rd _ (0 + R) (0 + C) = _; rw [Nat.zero_add, Nat.zero_add]
theorem v1_rd {R C : ℕ} (hR : R < 4096) (hC : C < 1024) : rd (m := 4096) (n := 1024) (val_main_v1 (F := Ideal) x1) R C = P x1 R (1024 + C) := by
  unfold val_main_v1; rw [rd_slice _ _ _ hR hC]; show rd _ (0 + R) (1024 + C) = _; rw [Nat.zero_add]
theorem v2_rd {R C : ℕ} (hR : R < 4096) (hC : C < 1024) : rd (m := 4096) (n := 1024) (val_main_v2 (F := Ideal) x1) R C = P x1 R (2048 + C) := by
  unfold val_main_v2; rw [rd_slice _ _ _ hR hC]; show rd _ (0 + R) (2048 + C) = _; rw [Nat.zero_add]
theorem v28_rd {R C : ℕ} (hR : R < 4096) (hC : C < 1024) : rd (m := 4096) (n := 1024) (val_main_v28 (F := Ideal) x0) R C = Y x0 R C := by
  unfold val_main_v28; rw [rd_slice _ _ _ hR hC]; show rd _ (0 + R) (0 + C) = _; rw [Nat.zero_add, Nat.zero_add]

theorem v3_rd {R C : ℕ} (hR : R < 4096) (hC : C < 1024) : rd (m := 4096) (n := 1024) (val_main_v3 (F := Ideal) x1) R C = uN (P x1) R C := by
  unfold val_main_v3; rw [rd_mulf, v0_rd x1 hR hC, v2_rd x1 hR hC]; rfl

/-- The same under two rows of zeros. -/
theorem v5_rd {R C s : ℕ} (hR : R < 4096) (hs : s ≤ 2) (hC : C < 1024) :
    rd (m := 4098) (n := 1024) (val_main_v5 (F := Ideal) x1) (2 - s + R) C = uB (P x1) s R C := by
  unfold val_main_v5
  rw [rd_concat2]
  unfold uB
  by_cases h : s ≤ R
  · rw [if_neg (by omega), if_pos h, v3_rd x1 (by omega) hC]
    congr 1; omega
  · rw [if_pos (by omega), if_neg h]
    unfold val_main_v4
    exact rd_bcastScalar _ _ _ (fun _ => Ideal.ofBits_zero_f32) (by omega) hC

theorem v7_rd {R C : ℕ} (hR : R < 4096) (hC : C < 1024) : rd (m := 4096) (n := 1024) (val_main_v7 (F := Ideal) x1) R C = uB (P x1) 2 R C := by
  unfold val_main_v7; rw [rd_slice _ _ _ hR hC, ← v5_rd x1 hR (by omega : 2 ≤ 2) hC]; show rd _ (0 + R) (0 + C) = _; rw [Nat.zero_add C]
theorem v13_rd {R C : ℕ} (hR : R < 4096) (hC : C < 1024) : rd (m := 4096) (n := 1024) (val_main_v13 (F := Ideal) x1) R C = uB (P x1) 1 R C := by
  unfold val_main_v13; rw [rd_slice _ _ _ hR hC, ← v5_rd x1 hR (by omega : 1 ≤ 2) hC]; show rd _ (1 + R) (0 + C) = _; rw [Nat.zero_add C]
theorem v20_rd {R C : ℕ} (hR : R < 4096) (hC : C < 1024) : rd (m := 4096) (n := 1024) (val_main_v20 (F := Ideal) x1) R C = uB (P x1) 0 R C := by
  unfold val_main_v20; rw [rd_slice _ _ _ hR hC, ← v5_rd x1 hR (by omega : 0 ≤ 2) hC]; show rd _ (2 + R) (0 + C) = _; rw [Nat.zero_add C]

theorem uB_zero (Q : ℕ → ℕ → EReal) (R C : ℕ) : uB Q 0 R C = uN Q R C := by unfold uB; rw [if_pos (by omega), Nat.sub_zero]

/-- One row of the weights, as a row. -/
theorem v10_rd {C : ℕ} (hC : C < 1024) : rd (m := 1) (n := 1024) (val_main_v10 (F := Ideal) x2) 0 C = W x2 0 C := by
  unfold val_main_v10 val_main_v9 val_main_v8
  rw [rd_bcastVec _ _ (by omega), rd1_row, rd_slice _ _ _ (by omega) hC]
  show rd _ (0 + 0) (0 + C) = _; rw [Nat.zero_add C]
theorem v16_rd {C : ℕ} (hC : C < 1024) : rd (m := 1) (n := 1024) (val_main_v16 (F := Ideal) x2) 0 C = W x2 1 C := by
  unfold val_main_v16 val_main_v15 val_main_v14
  rw [rd_bcastVec _ _ (by omega), rd1_row, rd_slice _ _ _ (by omega) hC]
  show rd _ (1 + 0) (0 + C) = _; rw [Nat.zero_add C]
theorem v23_rd {C : ℕ} (hC : C < 1024) : rd (m := 1) (n := 1024) (val_main_v23 (F := Ideal) x2) 0 C = W x2 2 C := by
  unfold val_main_v23 val_main_v22 val_main_v21
  rw [rd_bcastVec _ _ (by omega), rd1_row, rd_slice _ _ _ (by omega) hC]
  show rd _ (2 + 0) (0 + C) = _; rw [Nat.zero_add C]

/-- The convolution. -/
theorem v26_rd {R C : ℕ} (hR : R < 4096) (hC : C < 1024) : rd (m := 4096) (n := 1024) (val_main_v26 (F := Ideal) x1 x2) R C
    = uB (P x1) 2 R C * W x2 0 C + uB (P x1) 1 R C * W x2 1 C + uN (P x1) R C * W x2 2 C := by
  unfold val_main_v26 val_main_v25 val_main_v24 val_main_v19 val_main_v18 val_main_v17 val_main_v12 val_main_v11
  rw [rd_addf, rd_addf, rd_mulf, rd_mulf, rd_mulf, rd_bcastRow _ _ hR, rd_bcastRow _ _ hR, rd_bcastRow _ _ hR, v10_rd x2 hC, v16_rd x2 hC,
    v23_rd x2 hC, v7_rd x1 hR hC, v13_rd x1 hR hC, v20_rd x1 hR hC, uB_zero]

/-- The gradient of the convolution's output; past the last row both sides are zero. -/
theorem v29_rd {R C : ℕ} (hC : C < 1024) : rd (m := 4096) (n := 1024) (val_main_v29 (F := Ideal) x0 x1) R C = dcN (Y x0) (P x1) R C := by
  by_cases hR : R < 4096
  · unfold val_main_v29; rw [rd_mulf, v1_rd x1 hR hC, v28_rd x0 hR hC, mul_comm]; rfl
  · rw [rd_out _ (by omega)]; unfold dcN Y; rw [rd_out _ (by omega), zero_mul]

/-- The gradient of `a_b`. -/
theorem v67_rd {R C : ℕ} (hR : R < 4096) (hC : C < 1024) :
    rd (m := 4096) (n := 1024) (val_main_v67 (F := Ideal) x0 x1 x2) R C = dabN (Y x0) (P x1) (W x2) R C := by
  unfold val_main_v67 val_main_v30
  rw [rd_truncf, rd_mulf, v28_rd x0 hR hC, v26_rd x1 x2 hR hC]
  unfold dabN
  congr 1
  rw [add_comm, add_assoc]

/-- The gradient of the convolution's input. -/
theorem v63_rd {R C : ℕ} (hR : R < 4096) (hC : C < 1024) :
    rd (m := 4096) (n := 1024) (val_main_v63 (F := Ideal) x0 x1 x2) R C = duN (Y x0) (P x1) (W x2) R C := by
  have row (w : (⟨S1x1024, .f32⟩ : BufTy).Contents (Elt Ideal)) (a : EReal) (hw : rd (m := 1) (n := 1024) w 0 C = a) (Q : ℕ) :
      rd (m := 4096) (n := 1024) (mulf (F := Ideal) (φ := .f32) (val_main_v29 (F := Ideal) x0 x1)
        (broadcastInDim S4096x1024 ![0, 1] bcast_S1x1024_S4096x1024_0_1 w)) Q C = dcN (Y x0) (P x1) Q C * a := by
    by_cases hQ : Q < 4096
    · rw [rd_mulf, v29_rd x0 x1 hC, rd_bcastRow _ _ hQ, hw]
    · rw [rd_out _ (by omega)]; unfold dcN Y; rw [rd_out _ (by omega), zero_mul, zero_mul]
  unfold val_main_v63 val_main_v61 val_main_v50 val_main_v39 val_main_v49 val_main_v60
  rw [rd_slice _ _ _ hR hC]
  show rd (m := 4098) (n := 1024) _ (2 + R) (0 + C) = _
  rw [Nat.zero_add, rd_addf, rd_addf, rd_pad _ _ _ _ Ideal.ofBits_zero_f32, rd_pad _ _ _ _ Ideal.ofBits_zero_f32,
    rd_pad _ _ _ _ Ideal.ofBits_zero_f32, if_pos (by omega), if_pos (by omega), if_pos (by omega)]
  unfold val_main_v35 val_main_v34 val_main_v44 val_main_v43 val_main_v55 val_main_v54
  rw [row _ _ (v23_rd x2 hC), row _ _ (v16_rd x2 hC), row _ _ (v10_rd x2 hC)]
  unfold duN
  rw [show 2 + R - 2 = R by omega, show 2 + R - 1 = R + 1 by omega, show 2 + R - 0 = R + 2 by omega, add_assoc, add_comm (dcN _ _ (R + 1) C * _),
    ← add_assoc]

/-- The gradients of `a_x` and `a_c`. -/
theorem v66_rd {R C : ℕ} (hR : R < 4096) (hC : C < 1024) :
    rd (m := 4096) (n := 1024) (val_main_v66 (F := Ideal) x0 x1 x2) R C = daxN (Y x0) (P x1) (W x2) R C := by
  unfold val_main_v66 val_main_v64
  rw [rd_truncf, rd_mulf, v2_rd x1 hR hC, v63_rd x0 x1 x2 hR hC, mul_comm]; rfl
theorem v68_rd {R C : ℕ} (hR : R < 4096) (hC : C < 1024) :
    rd (m := 4096) (n := 1024) (val_main_v68 (F := Ideal) x0 x1 x2) R C = dacN (Y x0) (P x1) (W x2) R C := by
  unfold val_main_v68 val_main_v65
  rw [rd_truncf, rd_mulf, v0_rd x1 hR hC, v63_rd x0 x1 x2 hR hC]; rfl

/-- A sum over the rows, broadcast back to one row and summed over that row again. -/
theorem rowSum {C : ℕ} (hC : C < 1024) (x : FVec Ideal S4096x1024 .f32) (f : ℕ → EReal)
    (hx : ∀ R, R < 4096 → rd (m := 4096) (n := 1024) x R C = f R) (z z' : (⟨S_, .f32⟩ : BufTy).Contents (Elt Ideal))
    (hz : ∀ i, z i = (0 : EReal)) (hz' : ∀ i, z' i = (0 : EReal)) :
    rd (m := 1) (n := 1024) (broadcastInDim S1x1024 ![1] bcast_S1024_S1x1024_1 (Host.reduceAdd (F := Ideal) (φ := .f32) (shapeCast S1x1024
      (Host.reduceAdd (F := Ideal) (φ := .f32) x z reducesTo_S4096x1024_S1024_d0 h_S_) shapeCasts_S1024_S1x1024) z'
      reducesTo_S1x1024_S1024_d0 h_S_)) 0 C = ∑ R ∈ Finset.range 4096, f R := by
  refine (rd_bcastVec _ _ (by omega)).trans ((rd1_hostSumRows _ _ _ _ hC).trans ?_)
  rw [hz', zero_add, Finset.sum_range_one]
  refine (rd_row _ _ _).trans ((rd1_hostSumRows _ _ _ _ hC).trans ?_)
  rw [hz, zero_add]
  exact Finset.sum_congr rfl fun R hR => hx R (Finset.mem_range.1 hR)

/-- The gradient of the weights. -/
theorem v69_rd {k C : ℕ} (hk : k < 8) (hC : C < 1024) :
    rd (m := 8) (n := 1024) (val_main_v69 (F := Ideal) x0 x1) k C = dwN (Y x0) (P x1) 4096 k C := by
  have z : ∀ i, constant (F := Ideal) S_ .f32 0x00000000#32 i = (0 : EReal) := fun _ => Ideal.ofBits_zero_f32
  have s2 : rd (m := 1) (n := 1024) (val_main_v37 (F := Ideal) x0 x1) 0 C
      = ∑ R ∈ Finset.range 4096, dcN (Y x0) (P x1) R C * uB (P x1) 0 R C :=
    rowSum hC _ _ (fun R hR => by unfold val_main_v31; rw [rd_mulf, v20_rd x1 hR hC, v29_rd x0 x1 hC, mul_comm]) _ _ z z
  have s1 : rd (m := 1) (n := 1024) (val_main_v46 (F := Ideal) x0 x1) 0 C
      = ∑ R ∈ Finset.range 4096, dcN (Y x0) (P x1) R C * uB (P x1) 1 R C :=
    rowSum hC _ _ (fun R hR => by unfold val_main_v40; rw [rd_mulf, v13_rd x1 hR hC, v29_rd x0 x1 hC, mul_comm]) _ _ z z
  have s0 : rd (m := 1) (n := 1024) (val_main_v57 (F := Ideal) x0 x1) 0 C
      = ∑ R ∈ Finset.range 4096, dcN (Y x0) (P x1) R C * uB (P x1) 2 R C :=
    rowSum hC _ _ (fun R hR => by unfold val_main_v51; rw [rd_mulf, v7_rd x1 hR hC, v29_rd x0 x1 hC, mul_comm]) _ _ z z
  have hp : val_main_call0_v0 (F := Ideal) (Shape.Idx.first h_S_) = (0 : EReal) := by
    show (((0#32 : BitVec 32).toInt : ℝ) : EReal) = 0
    simp
  unfold val_main_v69 val_main_v59 val_main_v48 val_main_v38 val_main_v47 val_main_v58
  rw [rd_pad _ _ _ _ hp, if_pos (by omega), Nat.sub_zero, rd_addf, rd_addf, rd_pad _ _ _ _ Ideal.ofBits_zero_f32,
    rd_pad _ _ _ _ Ideal.ofBits_zero_f32, rd_pad _ _ _ _ Ideal.ofBits_zero_f32]
  have out (x : FVec Ideal S1x1024 .f32) {q : ℕ} (h : 1 ≤ q) : rd (m := 1) (n := 1024) x q C = 0 := rd_out _ (by omega)
  unfold dwN
  by_cases h3 : k < 3
  · rw [if_pos h3]
    obtain rfl | rfl | rfl : k = 0 ∨ k = 1 ∨ k = 2 := by omega
    · rw [if_neg (by omega), if_neg (by omega), if_pos (by omega), zero_add, zero_add]; exact s0
    · rw [if_neg (by omega), if_pos (by omega), if_pos (by omega), zero_add, out _ (by omega : 1 ≤ 1 - 0), add_zero]; exact s1
    · rw [if_pos (by omega), if_pos (by omega), if_pos (by omega), out _ (by omega : 1 ≤ 2 - 1), out _ (by omega : 1 ≤ 2 - 0), add_zero, add_zero]
      exact s2
  · rw [if_neg h3, if_neg (by omega), if_neg (by omega), if_neg (by omega), add_zero, add_zero]

end Cert.Ga.Ref
-- ==== Proof.GaFinal.lean ====
module

public import proofs.«01_k».proof.Proof.GaRef
public import proofs.«01_k».proof.Defs
public import proofs.«01_k».proof.Proof.Gen.Kernel.Frame

@[expose] public section

set_option maxRecDepth 16384

noncomputable section

namespace Cert.Ga

open Cert.KernelIdeal Cert.KernelIdeal.Gen Cert.KernelIdeal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg)

theorem index13 (t : Fin cfg0.N) : win0_13.index t 0 = t.val % 4 ∧ win0_13.index t 1 = t.val / 4 :=
  (by decide +kernel : ∀ t : Fin grid0.N, win0_13.index t 0 = t.val % 4 ∧ win0_13.index t 1 = t.val / 4) t

/-- Window 13's array after the run. -/
theorem final13 : (dats m 0 c).arrAt 13 cfg0.N = tab (m := 4096) (n := 1024) (daxN (X0 m c) (X1 m c) (X2 m c)) := by
  refine (dats m 0 c).arrAt_eq_of_cover 13 _ (fun t hf => ?_) fun i => ?_
  · rw [flushed13]
    funext j
    rw [View.read_apply]
    show (outsAt0 m c t.val t.isLt).1 j = (daxN (X0 m c) (X1 m c) (X2 m c)) (win0_13.index t 0 * 1024 + 1 * (j 0).val) (win0_13.index t 1 * 512 + 1 * (j 1).val)
    rw [eq_rd (m := 1024) (n := 512) (outsAt0 m c t.val t.isLt).1 j]
    rw [outs13_rd m c t (j 0).isLt (j 1).isLt]
    have hi := index13 t
    rw [hi.1, hi.2]
    congr 1 <;> omega
  · have h0 : (i 0).val < 4096 := (i 0).isLt
    have h1 : (i 1).val < 1024 := (i 1).isLt
    have hN : cfg0.N = 8 := by decide +kernel
    let t : Fin cfg0.N := ⟨4 * ((i 1).val / 512) + (i 0).val / 1024, by omega⟩
    refine ⟨t, flush0_13 _, ?_⟩
    show i ∈ ((View.whole main_v0_0).slice (win0_13.rect t)).set
    rw [View.set_slice_whole, Rect.mem_set_unit]
    have hi := index13 t
    have hv : t.val = 4 * ((i 1).val / 512) + (i 0).val / 1024 := rfl
    intro a
    match a with
    | ⟨0, _⟩ => show win0_13.index t 0 * 1024 ≤ (i 0).val ∧ (i 0).val < win0_13.index t 0 * 1024 + 1024
                rw [hi.1]; omega
    | ⟨1, _⟩ => show win0_13.index t 1 * 512 ≤ (i 1).val ∧ (i 1).val < win0_13.index t 1 * 512 + 512
                rw [hi.2]; omega

theorem index14 (t : Fin cfg0.N) : win0_14.index t 0 = t.val % 4 ∧ win0_14.index t 1 = t.val / 4 :=
  (by decide +kernel : ∀ t : Fin grid0.N, win0_14.index t 0 = t.val % 4 ∧ win0_14.index t 1 = t.val / 4) t

/-- Window 14's array after the run. -/
theorem final14 : (dats m 0 c).arrAt 14 cfg0.N = tab (m := 4096) (n := 1024) (dabN (X0 m c) (X1 m c) (X2 m c)) := by
  refine (dats m 0 c).arrAt_eq_of_cover 14 _ (fun t hf => ?_) fun i => ?_
  · rw [flushed14]
    funext j
    rw [View.read_apply]
    show (outsAt0 m c t.val t.isLt).2.1 j = (dabN (X0 m c) (X1 m c) (X2 m c)) (win0_14.index t 0 * 1024 + 1 * (j 0).val) (win0_14.index t 1 * 512 + 1 * (j 1).val)
    rw [eq_rd (m := 1024) (n := 512) (outsAt0 m c t.val t.isLt).2.1 j]
    rw [outs14_rd m c t (j 0).isLt (j 1).isLt]
    have hi := index14 t
    rw [hi.1, hi.2]
    congr 1 <;> omega
  · have h0 : (i 0).val < 4096 := (i 0).isLt
    have h1 : (i 1).val < 1024 := (i 1).isLt
    have hN : cfg0.N = 8 := by decide +kernel
    let t : Fin cfg0.N := ⟨4 * ((i 1).val / 512) + (i 0).val / 1024, by omega⟩
    refine ⟨t, flush0_14 _, ?_⟩
    show i ∈ ((View.whole main_v0_1).slice (win0_14.rect t)).set
    rw [View.set_slice_whole, Rect.mem_set_unit]
    have hi := index14 t
    have hv : t.val = 4 * ((i 1).val / 512) + (i 0).val / 1024 := rfl
    intro a
    match a with
    | ⟨0, _⟩ => show win0_14.index t 0 * 1024 ≤ (i 0).val ∧ (i 0).val < win0_14.index t 0 * 1024 + 1024
                rw [hi.1]; omega
    | ⟨1, _⟩ => show win0_14.index t 1 * 512 ≤ (i 1).val ∧ (i 1).val < win0_14.index t 1 * 512 + 512
                rw [hi.2]; omega

theorem index15 (t : Fin cfg0.N) : win0_15.index t 0 = t.val % 4 ∧ win0_15.index t 1 = t.val / 4 :=
  (by decide +kernel : ∀ t : Fin grid0.N, win0_15.index t 0 = t.val % 4 ∧ win0_15.index t 1 = t.val / 4) t

/-- Window 15's array after the run. -/
theorem final15 : (dats m 0 c).arrAt 15 cfg0.N = tab (m := 4096) (n := 1024) (dacN (X0 m c) (X1 m c) (X2 m c)) := by
  refine (dats m 0 c).arrAt_eq_of_cover 15 _ (fun t hf => ?_) fun i => ?_
  · rw [flushed15]
    funext j
    rw [View.read_apply]
    show (outsAt0 m c t.val t.isLt).2.2.1 j = (dacN (X0 m c) (X1 m c) (X2 m c)) (win0_15.index t 0 * 1024 + 1 * (j 0).val) (win0_15.index t 1 * 512 + 1 * (j 1).val)
    rw [eq_rd (m := 1024) (n := 512) (outsAt0 m c t.val t.isLt).2.2.1 j]
    rw [outs15_rd m c t (j 0).isLt (j 1).isLt]
    have hi := index15 t
    rw [hi.1, hi.2]
    congr 1 <;> omega
  · have h0 : (i 0).val < 4096 := (i 0).isLt
    have h1 : (i 1).val < 1024 := (i 1).isLt
    have hN : cfg0.N = 8 := by decide +kernel
    let t : Fin cfg0.N := ⟨4 * ((i 1).val / 512) + (i 0).val / 1024, by omega⟩
    refine ⟨t, flush0_15 _, ?_⟩
    show i ∈ ((View.whole main_v0_2).slice (win0_15.rect t)).set
    rw [View.set_slice_whole, Rect.mem_set_unit]
    have hi := index15 t
    have hv : t.val = 4 * ((i 1).val / 512) + (i 0).val / 1024 := rfl
    intro a
    match a with
    | ⟨0, _⟩ => show win0_15.index t 0 * 1024 ≤ (i 0).val ∧ (i 0).val < win0_15.index t 0 * 1024 + 1024
                rw [hi.1]; omega
    | ⟨1, _⟩ => show win0_15.index t 1 * 512 ≤ (i 1).val ∧ (i 1).val < win0_15.index t 1 * 512 + 512
                rw [hi.2]; omega

theorem index16 (t : Fin cfg0.N) : win0_16.index t 0 = 0 ∧ win0_16.index t 1 = t.val / 4 :=
  (by decide +kernel : ∀ t : Fin grid0.N, win0_16.index t 0 = 0 ∧ win0_16.index t 1 = t.val / 4) t

/-- Window 16's array after the run. -/
theorem final16 : (dats m 0 c).arrAt 16 cfg0.N = tab (m := 8) (n := 1024) (dwN (X0 m c) (X1 m c) 4096) := by
  refine (dats m 0 c).arrAt_eq_of_cover 16 _ (fun t hf => ?_) fun i => ?_
  · rw [flushed16]
    funext j
    rw [View.read_apply]
    show (outsAt0 m c t.val t.isLt).2.2.2 j = (dwN (X0 m c) (X1 m c) 4096) (win0_16.index t 0 * 8 + 1 * (j 0).val) (win0_16.index t 1 * 512 + 1 * (j 1).val)
    rw [eq_rd (m := 8) (n := 512) (outsAt0 m c t.val t.isLt).2.2.2 j]
    rw [outs16_rd m c t.val t.isLt (j 0).isLt (j 1).isLt, (flush0_16 t).mp hf]
    have hi := index16 t
    rw [hi.1, hi.2]
    congr 1 <;> omega
  · have h0 : (i 0).val < 8 := (i 0).isLt
    have h1 : (i 1).val < 1024 := (i 1).isLt
    have hN : cfg0.N = 8 := by decide +kernel
    let t : Fin cfg0.N := ⟨4 * ((i 1).val / 512) + 3, by omega⟩
    refine ⟨t, (flush0_16 _).mpr (by show (4 * ((i 1).val / 512) + 3) % 4 = 3; omega), ?_⟩
    show i ∈ ((View.whole main_v0_3).slice (win0_16.rect t)).set
    rw [View.set_slice_whole, Rect.mem_set_unit]
    have hi := index16 t
    have hv : t.val = 4 * ((i 1).val / 512) + 3 := rfl
    intro a
    match a with
    | ⟨0, _⟩ => show win0_16.index t 0 * 8 ≤ (i 0).val ∧ (i 0).val < win0_16.index t 0 * 8 + 8
                rw [hi.1]; omega
    | ⟨1, _⟩ => show win0_16.index t 1 * 512 ≤ (i 1).val ∧ (i 1).val < win0_16.index t 1 * 512 + 512
                rw [hi.2]; omega

/-- The kernel's run: the four arrays in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 1024) (daxN (X0 m c) (X1 m c) (X2 m c))
      ∧ r.2.mem ((c : Thread nD τ).loc main_v0_1) = tab (m := 4096) (n := 1024) (dabN (X0 m c) (X1 m c) (X2 m c))
      ∧ r.2.mem ((c : Thread nD τ).loc main_v0_2) = tab (m := 4096) (n := 1024) (dacN (X0 m c) (X1 m c) (X2 m c))
      ∧ r.2.mem ((c : Thread nD τ).loc main_v0_3) = tab (m := 8) (n := 1024) (dwN (X0 m c) (X1 m c) 4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final13 m c), (h c).2.1.trans (final14 m c), (h c).2.2.1.trans (final15 m c),
    (h c).2.2.2.1.trans (final16 m c), (h c).2.2.2.2⟩) (run_blocks m ρ)

/-- The kernel and the gradient of the gated convolution end with equal arrays. -/
theorem algebraic : Cert.algebraic_KernelIdeal_ReferenceIdeal := by
  intro m ρ m' ρ' _ hag
  refine ⟨_, _, _, _, run m ρ, (θ_run _ _ _).mono (fun _ h c => ⟨(h c).1.trans ?_, (h c).2.1.trans ?_, (h c).2.2.1.trans ?_,
    (h c).2.2.2.1.trans ?_, (h c).2.2.2.2⟩) (Cert.ReferenceIdeal.Value.run m' ρ')⟩
  · rw [(hag c).1, (hag c).2.1, (hag c).2.2]
    exact (Cert.ReferenceIdeal.Read.val_main_v66_eq _ _ _).trans (eq_tab fun r k hr hk => Ref.v66_rd _ _ _ hr hk)
  · rw [(hag c).1, (hag c).2.1, (hag c).2.2]
    exact (Cert.ReferenceIdeal.Read.val_main_v67_eq _ _ _).trans (eq_tab fun r k hr hk => Ref.v67_rd _ _ _ hr hk)
  · rw [(hag c).1, (hag c).2.1, (hag c).2.2]
    exact (Cert.ReferenceIdeal.Read.val_main_v68_eq _ _ _).trans (eq_tab fun r k hr hk => Ref.v68_rd _ _ _ hr hk)
  · rw [(hag c).1, (hag c).2.1]
    exact (Cert.ReferenceIdeal.Read.val_main_v69_eq _ _).trans (eq_tab fun r k hr hk => Ref.v69_rd _ _ hr hk)

/-- The gradient's run leaves the arguments as they were; it uses no semaphore. -/
theorem frame_ref : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

end Cert.Ga
-- ==== Proof.Dot.lean ====
/- Products of matrices of extended reals read at natural coordinates: the kernels' block product (with a zero
   accumulator) and the host's `dot_general`, in the three layouts the programs print, as one sum of `rd` entries over the
   contracted coordinate. -/
module

public import proofs.«01_k».proof.Proof.Rd

@[expose] public section

noncomputable section

namespace Cert.Rd

open Idealize.ShloMosaic

theorem hz2 : (![0, 0] : Fin 2 → ℕ) = fun _ => 0 := funext fun a => by fin_cases a <;> rfl
theorem hz3 : (![0, 0, 0] : Fin 3 → ℕ) = fun _ => 0 := funext fun a => by fin_cases a <;> rfl

section Dot
variable {M N K : ℕ}

/-- Rows of the left operand against columns of the right one. -/
def nnN (A B : ℕ → ℕ → EReal) (K r c : ℕ) : EReal := ∑ k ∈ Finset.range K, A r k * B k c
/-- Rows against rows. -/
def ntN (A B : ℕ → ℕ → EReal) (K r c : ℕ) : EReal := ∑ k ∈ Finset.range K, A r k * B c k
/-- Columns against columns. -/
def tnN (A B : ℕ → ℕ → EReal) (K r c : ℕ) : EReal := ∑ k ∈ Finset.range K, A k r * B k c

/-- A sum over a one-axis contraction is a sum over the naturals below its extent. -/
theorem sum_contr {sl sr so : Shape} (d : DotDims sl sr so) (hr : d.contr.rank = 1)
    (hs : d.contr.size ⟨0, by omega⟩ = K) (f : d.contr.Idx → EReal) (g : ℕ → EReal)
    (h : ∀ q : d.contr.Idx, (q ⟨0, by omega⟩).val < K → f q = g (q ⟨0, by omega⟩).val) :
    ∑ q, f q = ∑ k ∈ Finset.range K, g k := by
  rw [Finset.sum_range, ← Equiv.sum_comp (ValueIdx.contrEquiv1 d K hr hs).symm]
  refine Finset.sum_congr rfl fun k _ => ?_
  have hk := ValueIdx.contrEquiv1_symm_val d K hr hs k
  rw [h _ (by rw [hk]; exact k.isLt), hk]

theorem sum_nn (d : DotDims ⟨2, ![M, K]⟩ ⟨2, ![K, N]⟩ ⟨2, ![M, N]⟩) (hcl : d.lhsContracting = [1])
    (hcr : d.rhsContracting = [0]) (hnl : d.lhsNonContracting = [0]) (hnr : d.rhsNonContracting = [1])
    (hbl : d.lhsBatch = []) (hbr : d.rhsBatch = [])
    (A : (⟨2, ![M, K]⟩ : Shape).Idx → EReal) (B : (⟨2, ![K, N]⟩ : Shape).Idx → EReal) (j : (⟨2, ![M, N]⟩ : Shape).Idx) :
    ∑ q : d.contr.Idx, A (d.lhsIdx j q) * B (d.rhsIdx j q) = nnN (rd A) (rd B) K (j 0).val (j 1).val := by
  obtain ⟨_, _, _, _, _, _, wf⟩ := d
  dsimp only at hcl hcr hnl hnr hbl hbr
  subst hcl hcr hnl hnr hbl hbr
  refine sum_contr _ rfl rfl _ _ fun q hq => ?_
  congr 1
  · refine (rd_of_val A _ ?_ (DotDims.lhsIdx_val_of_single _ rfl _ _)).symm
    unfold DotDims.lhsIdx
    rw [dif_neg List.not_mem_nil, dif_pos (List.mem_singleton.mpr rfl)]; rfl
  · refine (rd_of_val B _ (DotDims.rhsIdx_val_of_single _ rfl _ _) ?_).symm
    unfold DotDims.rhsIdx
    rw [dif_neg List.not_mem_nil, dif_pos (List.mem_singleton.mpr rfl)]; rfl

theorem sum_nt (d : DotDims ⟨2, ![M, K]⟩ ⟨2, ![N, K]⟩ ⟨2, ![M, N]⟩) (hcl : d.lhsContracting = [1])
    (hcr : d.rhsContracting = [1]) (hnl : d.lhsNonContracting = [0]) (hnr : d.rhsNonContracting = [0])
    (hbl : d.lhsBatch = []) (hbr : d.rhsBatch = [])
    (A : (⟨2, ![M, K]⟩ : Shape).Idx → EReal) (B : (⟨2, ![N, K]⟩ : Shape).Idx → EReal) (j : (⟨2, ![M, N]⟩ : Shape).Idx) :
    ∑ q : d.contr.Idx, A (d.lhsIdx j q) * B (d.rhsIdx j q) = ntN (rd A) (rd B) K (j 0).val (j 1).val := by
  obtain ⟨_, _, _, _, _, _, wf⟩ := d
  dsimp only at hcl hcr hnl hnr hbl hbr
  subst hcl hcr hnl hnr hbl hbr
  refine sum_contr _ rfl rfl _ _ fun q hq => ?_
  congr 1
  · refine (rd_of_val A _ ?_ (DotDims.lhsIdx_val_of_single _ rfl _ _)).symm
    unfold DotDims.lhsIdx
    rw [dif_neg List.not_mem_nil, dif_pos (List.mem_singleton.mpr rfl)]; rfl
  · refine (rd_of_val B _ ?_ (DotDims.rhsIdx_val_of_single _ rfl _ _)).symm
    unfold DotDims.rhsIdx
    rw [dif_neg List.not_mem_nil, dif_pos (List.mem_singleton.mpr rfl)]; rfl

theorem sum_tn (d : DotDims ⟨2, ![K, M]⟩ ⟨2, ![K, N]⟩ ⟨2, ![M, N]⟩) (hcl : d.lhsContracting = [0])
    (hcr : d.rhsContracting = [0]) (hnl : d.lhsNonContracting = [1]) (hnr : d.rhsNonContracting = [1])
    (hbl : d.lhsBatch = []) (hbr : d.rhsBatch = [])
    (A : (⟨2, ![K, M]⟩ : Shape).Idx → EReal) (B : (⟨2, ![K, N]⟩ : Shape).Idx → EReal) (j : (⟨2, ![M, N]⟩ : Shape).Idx) :
    ∑ q : d.contr.Idx, A (d.lhsIdx j q) * B (d.rhsIdx j q) = tnN (rd A) (rd B) K (j 0).val (j 1).val := by
  obtain ⟨_, _, _, _, _, _, wf⟩ := d
  dsimp only at hcl hcr hnl hnr hbl hbr
  subst hcl hcr hnl hnr hbl hbr
  refine sum_contr _ rfl rfl _ _ fun q hq => ?_
  congr 1
  · refine (rd_of_val A _ (DotDims.lhsIdx_val_of_single _ rfl _ _) ?_).symm
    unfold DotDims.lhsIdx
    rw [dif_neg List.not_mem_nil, dif_pos (List.mem_singleton.mpr rfl)]; rfl
  · refine (rd_of_val B _ (DotDims.rhsIdx_val_of_single _ rfl _ _) ?_).symm
    unfold DotDims.rhsIdx
    rw [dif_neg List.not_mem_nil, dif_pos (List.mem_singleton.mpr rfl)]; rfl

section Read
variable {φ₁ φ₂ : FTy} {r c : ℕ}

theorem rd_matmul_nn (d : DotDims ⟨2, ![M, K]⟩ ⟨2, ![K, N]⟩ ⟨2, ![M, N]⟩) (prec : Option ContractPrecision)
    (A : FVec Ideal ⟨2, ![M, K]⟩ φ₁) (B : FVec Ideal ⟨2, ![K, N]⟩ φ₂) (hr : r < M) (hc : c < N)
    (h : d.lhsContracting = [1] ∧ d.rhsContracting = [0] ∧ d.lhsNonContracting = [0] ∧ d.rhsNonContracting = [1]
      ∧ d.lhsBatch = [] ∧ d.rhsBatch = [] := by exact ⟨rfl, rfl, rfl, rfl, rfl, rfl⟩) :
    rd (matmul d prec A B (constant ⟨2, ![M, N]⟩ .f32 0x00000000#32)) r c = nnN (rd A) (rd B) K r c := by
  rw [rd_in _ hr hc]
  exact (Ideal.matmul_constant_zero_apply d prec A B _).trans
    (sum_nn d h.1 h.2.1 h.2.2.1 h.2.2.2.1 h.2.2.2.2.1 h.2.2.2.2.2 A B _)

theorem rd_matmul_nt (d : DotDims ⟨2, ![M, K]⟩ ⟨2, ![N, K]⟩ ⟨2, ![M, N]⟩) (prec : Option ContractPrecision)
    (A : FVec Ideal ⟨2, ![M, K]⟩ φ₁) (B : FVec Ideal ⟨2, ![N, K]⟩ φ₂) (hr : r < M) (hc : c < N)
    (h : d.lhsContracting = [1] ∧ d.rhsContracting = [1] ∧ d.lhsNonContracting = [0] ∧ d.rhsNonContracting = [0]
      ∧ d.lhsBatch = [] ∧ d.rhsBatch = [] := by exact ⟨rfl, rfl, rfl, rfl, rfl, rfl⟩) :
    rd (matmul d prec A B (constant ⟨2, ![M, N]⟩ .f32 0x00000000#32)) r c = ntN (rd A) (rd B) K r c := by
  rw [rd_in _ hr hc]
  exact (Ideal.matmul_constant_zero_apply d prec A B _).trans
    (sum_nt d h.1 h.2.1 h.2.2.1 h.2.2.2.1 h.2.2.2.2.1 h.2.2.2.2.2 A B _)

theorem rd_matmul_tn (d : DotDims ⟨2, ![K, M]⟩ ⟨2, ![K, N]⟩ ⟨2, ![M, N]⟩) (prec : Option ContractPrecision)
    (A : FVec Ideal ⟨2, ![K, M]⟩ φ₁) (B : FVec Ideal ⟨2, ![K, N]⟩ φ₂) (hr : r < M) (hc : c < N)
    (h : d.lhsContracting = [0] ∧ d.rhsContracting = [0] ∧ d.lhsNonContracting = [1] ∧ d.rhsNonContracting = [1]
      ∧ d.lhsBatch = [] ∧ d.rhsBatch = [] := by exact ⟨rfl, rfl, rfl, rfl, rfl, rfl⟩) :
    rd (matmul d prec A B (constant ⟨2, ![M, N]⟩ .f32 0x00000000#32)) r c = tnN (rd A) (rd B) K r c := by
  rw [rd_in _ hr hc]
  exact (Ideal.matmul_constant_zero_apply d prec A B _).trans
    (sum_tn d h.1 h.2.1 h.2.2.1 h.2.2.2.1 h.2.2.2.2.1 h.2.2.2.2.2 A B _)

theorem rd_host_nn (d : DotDims ⟨2, ![M, K]⟩ ⟨2, ![K, N]⟩ ⟨2, ![M, N]⟩) (prec : Option ContractPrecision)
    (A : FVec Ideal ⟨2, ![M, K]⟩ φ₁) (B : FVec Ideal ⟨2, ![K, N]⟩ φ₂) (hr : r < M) (hc : c < N)
    (h : d.lhsContracting = [1] ∧ d.rhsContracting = [0] ∧ d.lhsNonContracting = [0] ∧ d.rhsNonContracting = [1]
      ∧ d.lhsBatch = [] ∧ d.rhsBatch = [] := by exact ⟨rfl, rfl, rfl, rfl, rfl, rfl⟩) :
    rd (Host.dotGeneral d prec A B) r c = nnN (rd A) (rd B) K r c := by
  rw [rd_in _ hr hc]
  exact (Ideal.dotGeneral_apply d prec _ A B _).trans
    (sum_nn d h.1 h.2.1 h.2.2.1 h.2.2.2.1 h.2.2.2.2.1 h.2.2.2.2.2 A B _)

theorem rd_host_nt (d : DotDims ⟨2, ![M, K]⟩ ⟨2, ![N, K]⟩ ⟨2, ![M, N]⟩) (prec : Option ContractPrecision)
    (A : FVec Ideal ⟨2, ![M, K]⟩ φ₁) (B : FVec Ideal ⟨2, ![N, K]⟩ φ₂) (hr : r < M) (hc : c < N)
    (h : d.lhsContracting = [1] ∧ d.rhsContracting = [1] ∧ d.lhsNonContracting = [0] ∧ d.rhsNonContracting = [0]
      ∧ d.lhsBatch = [] ∧ d.rhsBatch = [] := by exact ⟨rfl, rfl, rfl, rfl, rfl, rfl⟩) :
    rd (Host.dotGeneral d prec A B) r c = ntN (rd A) (rd B) K r c := by
  rw [rd_in _ hr hc]
  exact (Ideal.dotGeneral_apply d prec _ A B _).trans
    (sum_nt d h.1 h.2.1 h.2.2.1 h.2.2.2.1 h.2.2.2.2.1 h.2.2.2.2.2 A B _)

theorem rd_host_tn (d : DotDims ⟨2, ![K, M]⟩ ⟨2, ![K, N]⟩ ⟨2, ![M, N]⟩) (prec : Option ContractPrecision)
    (A : FVec Ideal ⟨2, ![K, M]⟩ φ₁) (B : FVec Ideal ⟨2, ![K, N]⟩ φ₂) (hr : r < M) (hc : c < N)
    (h : d.lhsContracting = [0] ∧ d.rhsContracting = [0] ∧ d.lhsNonContracting = [1] ∧ d.rhsNonContracting = [1]
      ∧ d.lhsBatch = [] ∧ d.rhsBatch = [] := by exact ⟨rfl, rfl, rfl, rfl, rfl, rfl⟩) :
    rd (Host.dotGeneral d prec A B) r c = tnN (rd A) (rd B) K r c := by
  rw [rd_in _ hr hc]
  exact (Ideal.dotGeneral_apply d prec _ A B _).trans
    (sum_tn d h.1 h.2.1 h.2.2.1 h.2.2.2.1 h.2.2.2.2.1 h.2.2.2.2.2 A B _)

end Read

end Dot

/-- Columns against columns with the operands exchanged: the transposed entry. -/
theorem tnN_swap (A B : ℕ → ℕ → EReal) (K r c : ℕ) : tnN A B K r c = tnN B A K c r :=
  Finset.sum_congr rfl fun _ _ => mul_comm _ _

/-- A transpose. -/
theorem rd_transpose {m n : ℕ} (x : (⟨2, ![m, n]⟩ : Shape).Idx → EReal)
    (h : (⟨2, ![m, n]⟩ : Shape).Transposes [1, 0] ⟨2, ![n, m]⟩) {r c : ℕ} (hr : r < n) (hc : c < m) :
    rd (transpose ⟨2, ![n, m]⟩ [1, 0] x h) r c = rd x c r := by
  rw [rd_in _ hr hc]
  refine (transpose_apply [1, 0] x h _ (ValueIdx.ix2 ⟨c, hc⟩ ⟨r, hr⟩) (fun b => ?_)).trans (rd_in _ hc hr).symm
  match b with
  | ⟨0, _⟩ => rfl
  | ⟨1, _⟩ => rfl

/-- A sum of products depends only on the entries below the bound. -/
theorem nnN_congr {A A' B B' : ℕ → ℕ → EReal} {K r c r' c' : ℕ} (hA : ∀ k, k < K → A r k = A' r' k)
    (hB : ∀ k, k < K → B k c = B' k c') : nnN A B K r c = nnN A' B' K r' c' :=
  Finset.sum_congr rfl fun k hk => by rw [hA k (Finset.mem_range.mp hk), hB k (Finset.mem_range.mp hk)]
theorem ntN_congr {A A' B B' : ℕ → ℕ → EReal} {K r c r' c' : ℕ} (hA : ∀ k, k < K → A r k = A' r' k)
    (hB : ∀ k, k < K → B c k = B' c' k) : ntN A B K r c = ntN A' B' K r' c' :=
  Finset.sum_congr rfl fun k hk => by rw [hA k (Finset.mem_range.mp hk), hB k (Finset.mem_range.mp hk)]
theorem tnN_congr {A A' B B' : ℕ → ℕ → EReal} {K r c r' c' : ℕ} (hA : ∀ k, k < K → A k r = A' k r')
    (hB : ∀ k, k < K → B k c = B' k c') : tnN A B K r c = tnN A' B' K r' c' :=
  Finset.sum_congr rfl fun k hk => by rw [hA k (Finset.mem_range.mp hk), hB k (Finset.mem_range.mp hk)]

/-- A tile of the contracted coordinate added to the tiles before it. -/
theorem nnN_add (A B : ℕ → ℕ → EReal) (s t r c : ℕ) :
    nnN A B s r c + nnN (fun r k => A r (s + k)) (fun k c => B (s + k) c) t r c = nnN A B (s + t) r c :=
  (Finset.sum_range_add (fun k => A r k * B k c) s t).symm
theorem ntN_add (A B : ℕ → ℕ → EReal) (s t r c : ℕ) :
    ntN A B s r c + ntN (fun r k => A r (s + k)) (fun c k => B c (s + k)) t r c = ntN A B (s + t) r c :=
  (Finset.sum_range_add (fun k => A r k * B c k) s t).symm

/-- A sum whose left factors are zero. -/
theorem ntN_zero {A B : ℕ → ℕ → EReal} {K r c : ℕ} (h : ∀ k, k < K → A r k = 0) : ntN A B K r c = 0 :=
  Finset.sum_eq_zero fun k hk => by rw [h k (Finset.mem_range.mp hk), zero_mul]

/-- Two matrices side by side: a column of the left one, a column of the right one. -/
theorem rd_concatCols_left {m a b n : ℕ} (x : (⟨2, ![m, a]⟩ : Shape).Idx → EReal) (y : (⟨2, ![m, b]⟩ : Shape).Idx → EReal)
    (h : Shape.Concatenates [⟨2, ![m, a]⟩, ⟨2, ![m, b]⟩] ⟨2, ![m, n]⟩ 1) {r c : ℕ} (hr : r < m) (hc : c < a) :
    rd (concatenate ⟨2, ![m, n]⟩ 1 [⟨⟨2, ![m, a]⟩, x⟩, ⟨⟨2, ![m, b]⟩, y⟩] h) r c = rd x r c := by
  have hn : a + b = n := by have := h.2.2; simpa using this
  rw [rd_in _ hr (by omega : c < n), rd_in x hr hc]
  refine concatenate_pair_apply_left 1 x y h _ rfl _ fun b => ?_
  match b with
  | ⟨0, _⟩ => rfl
  | ⟨1, _⟩ => rfl
theorem rd_concatCols_right {m a b n : ℕ} (x : (⟨2, ![m, a]⟩ : Shape).Idx → EReal) (y : (⟨2, ![m, b]⟩ : Shape).Idx → EReal)
    (h : Shape.Concatenates [⟨2, ![m, a]⟩, ⟨2, ![m, b]⟩] ⟨2, ![m, n]⟩ 1) {r c : ℕ} (hr : r < m) (hc : c < b) :
    rd (concatenate ⟨2, ![m, n]⟩ 1 [⟨⟨2, ![m, a]⟩, x⟩, ⟨⟨2, ![m, b]⟩, y⟩] h) r (a + c) = rd y r c := by
  have hn : a + b = n := by have := h.2.2; simpa using this
  rw [rd_in _ hr (by omega : a + c < n), rd_in y hr hc]
  refine concatenate_pair_apply_right 1 x y h _ rfl rfl _ (fun b hb => ?_) (Nat.add_comm c a)
  match b with
  | ⟨0, _⟩ => rfl
  | ⟨1, _⟩ => exact absurd rfl hb

section Rank3
variable {a m n : ℕ}

/-- Entry (p, r, c) of a stack of matrices, zero outside it. -/
def rd3 (A : (⟨3, ![a, m, n]⟩ : Shape).Idx → EReal) (p r c : ℕ) : EReal :=
  if h : p < a ∧ r < m ∧ c < n then A (ValueIdx.ix3 ⟨p, h.1⟩ ⟨r, h.2.1⟩ ⟨c, h.2.2⟩) else 0

theorem rd3_in (A : (⟨3, ![a, m, n]⟩ : Shape).Idx → EReal) {p r c : ℕ} (hp : p < a) (hr : r < m) (hc : c < n) :
    rd3 A p r c = A (ValueIdx.ix3 ⟨p, hp⟩ ⟨r, hr⟩ ⟨c, hc⟩) := dif_pos ⟨hp, hr, hc⟩

theorem eq_rd3 (A : (⟨3, ![a, m, n]⟩ : Shape).Idx → EReal) (i : (⟨3, ![a, m, n]⟩ : Shape).Idx) :
    A i = rd3 A (i 0).val (i 1).val (i 2).val := by
  rw [rd3_in A (i 0).isLt (i 1).isLt (i 2).isLt]
  exact congrArg A (funext fun b => match b with
    | ⟨0, _⟩ => rfl
    | ⟨1, _⟩ => rfl
    | ⟨2, _⟩ => rfl)

theorem rd3_of_val (A : (⟨3, ![a, m, n]⟩ : Shape).Idx → EReal) {p r c : ℕ} (i : (⟨3, ![a, m, n]⟩ : Shape).Idx)
    (h0 : (i 0).val = p) (h1 : (i 1).val = r) (h2 : (i 2).val = c) : rd3 A p r c = A i := by
  subst h0; subst h1; subst h2; exact (eq_rd3 A i).symm

/-- The stack of matrices with the given entries. -/
def tab3 (f : ℕ → ℕ → ℕ → EReal) : (⟨3, ![a, m, n]⟩ : Shape).Idx → EReal := fun i => f (i 0).val (i 1).val (i 2).val

theorem eq_tab3 {A : (⟨3, ![a, m, n]⟩ : Shape).Idx → EReal} {f : ℕ → ℕ → ℕ → EReal}
    (h : ∀ p r c, p < a → r < m → c < n → rd3 A p r c = f p r c) : A = tab3 f :=
  funext fun i => (eq_rd3 A i).trans (h _ _ _ (i 0).isLt (i 1).isLt (i 2).isLt)

/-- One matrix taken out of its stack. -/
theorem rd_cast3 (x : (⟨3, ![1, m, n]⟩ : Shape).Idx → EReal) (h : (⟨3, ![1, m, n]⟩ : Shape).ShapeCasts ⟨2, ![m, n]⟩)
    {r c : ℕ} (hr : r < m) (hc : c < n) : rd (shapeCast ⟨2, ![m, n]⟩ x h) r c = rd3 x 0 r c := by
  rw [rd_in _ hr hc, rd3_in _ Nat.one_pos hr hc]
  refine shapeCast_apply x h _ _ ?_
  rw [Shape.rowMajor_val_three, Shape.rowMajor_val_two]
  show (0 * m + r) * n + c = r * n + c
  rw [Nat.zero_mul, Nat.zero_add]

/-- One matrix made a stack. -/
theorem rd3_cast (x : (⟨2, ![m, n]⟩ : Shape).Idx → EReal) (h : (⟨2, ![m, n]⟩ : Shape).ShapeCasts ⟨3, ![1, m, n]⟩)
    {r c : ℕ} (hr : r < m) (hc : c < n) : rd3 (shapeCast ⟨3, ![1, m, n]⟩ x h) 0 r c = rd x r c := by
  rw [rd_in _ hr hc, rd3_in _ Nat.one_pos hr hc]
  refine shapeCast_apply x h _ _ ?_
  rw [Shape.rowMajor_val_three, Shape.rowMajor_val_two]
  show r * n + c = (0 * m + r) * n + c
  rw [Nat.zero_mul, Nat.zero_add]

end Rank3

end Cert.Rd

end
-- ==== Proof.Mm2.lean ====
module

public import proofs.«01_k».proof.Proof.Dot
public import proofs.«01_k».proof.Proof.Gen.Kernel2Ideal.Value
public import proofs.«01_k».proof.Proof.Gen.Reference2Ideal.Run
public import proofs.«01_k».proof.Proof.Gen.Reference2Ideal.Read

public import proofs.«01_k».proof.Defs

@[expose] public section

set_option maxRecDepth 16384

noncomputable section

namespace Cert.Mm2

open Cert.Kernel2Ideal Cert.Kernel2Ideal.Gen Cert.Kernel2Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 4096) (n := 7168) (m (c.tc.loc main_arg1))

/-- Window 0's block at a point. -/
theorem blk0 {r k : ℕ} (hr : r < 4096) (hk : k < 1024) :
    rd (m := 4096) (n := 1024) (iblk m c 0 t) r k = X0 m c (r) (1024 * (t.val / 7) + k) := by
  have e := (by decide +kernel : ∀ t : Fin grid0.N, win0_0.index t 0 = 0 ∧ win0_0.index t 1 = t.val / 7) t
  rw [rd_in _ hr hk]
  unfold iblk
  rw [View.read_apply]
  show V m c main_arg0 _ = _
  rw [V_main_arg0]
  refine (rd_of_val (m := 4096) (n := 2048) _ _ ?_ ?_).symm
  · show win0_0.index t 0 * 4096 + 1 * r = _; omega
  · show win0_0.index t 1 * 1024 + 1 * k = _; omega

/-- Window 1's block at a point. -/
theorem blk1 {r k : ℕ} (hr : r < 4096) (hk : k < 1024) :
    rd (m := 4096) (n := 1024) (iblk m c 1 t) r k = X1 m c (r) (1024 * (t.val % 7) + k) := by
  have e := (by decide +kernel : ∀ t : Fin grid0.N, win0_1.index t 0 = 0 ∧ win0_1.index t 1 = t.val % 7) t
  rw [rd_in _ hr hk]
  unfold iblk
  rw [View.read_apply]
  show V m c main_arg1 _ = _
  rw [V_main_arg1]
  refine (rd_of_val (m := 4096) (n := 7168) _ _ ?_ ?_).symm
  · show win0_1.index t 0 * 4096 + 1 * r = _; omega
  · show win0_1.index t 1 * 1024 + 1 * k = _; omega

/-- What the body leaves in the output's block. -/
theorem out_rd {r k : ℕ} (hr : r < 1024) (hk : k < 1024) :
    rd (m := 1024) (n := 1024) (out0_2 (iblk m c 0 t) (iblk m c 1 t)) r k
      = tnN (X0 m c) (X1 m c) 4096 (1024 * (t.val / 7) + r) (1024 * (t.val % 7) + k) := by
  unfold out0_2
  rw [View.canon_unit_zero hz2, View.ld_unit_zero (S := S4096x1024) hz2, View.ld_unit_zero (S := S4096x1024) hz2]
  unfold k0_pay1
  dsimp only
  rw [rd_matmul_tn _ _ _ _ hr hk]
  exact tnN_congr (fun q hq => blk0 m c t hq hr) (fun q hq => blk1 m c t hq hk)

theorem index2 : win0_2.index t 0 = t.val / 7 ∧ win0_2.index t 1 = t.val % 7 :=
  (by decide +kernel : ∀ t : Fin grid0.N, win0_2.index t 0 = t.val / 7 ∧ win0_2.index t 1 = t.val % 7) t

/-- The output array after the run. -/
theorem final2 : (dats m 0 c).arrAt 2 cfg0.N = tab (m := 2048) (n := 7168) (tnN (X0 m c) (X1 m c) 4096) := by
  refine (dats m 0 c).arrAt_eq_of_cover 2 _ (fun t hf => ?_) fun i => ?_
  · rw [flushed2]
    funext j
    rw [View.read_apply]
    show out0_2 (iblk m c 0 t) (iblk m c 1 t) j = tnN (X0 m c) (X1 m c) 4096 (win0_2.index t 0 * 1024 + 1 * (j 0).val) (win0_2.index t 1 * 1024 + 1 * (j 1).val)
    rw [eq_rd (m := 1024) (n := 1024) (out0_2 (iblk m c 0 t) (iblk m c 1 t)) j, out_rd m c t (j 0).isLt (j 1).isLt]
    have hi := index2 t
    rw [hi.1, hi.2]
    congr 1 <;> omega
  · have h0 : (i 0).val < 2048 := (i 0).isLt
    have h1 : (i 1).val < 7168 := (i 1).isLt
    have hN : cfg0.N = 14 := by decide +kernel
    let t : Fin cfg0.N := ⟨7 * ((i 0).val / 1024) + (i 1).val / 1024, by omega⟩
    refine ⟨t, flush0_2 _, ?_⟩
    show i ∈ ((View.whole main_v0).slice (win0_2.rect t)).set
    rw [View.set_slice_whole, Rect.mem_set_unit]
    have hi := index2 t
    have hv : t.val = 7 * ((i 0).val / 1024) + (i 1).val / 1024 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 2048) (n := 7168) (tnN (X0 m c) (X1 m c) 4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![4096, 7168]⟩ .bf16) {r k : ℕ}
    (hr : r < 2048) (hk : k < 7168) :
    rd (m := 2048) (n := 7168) (Cert.Reference2Ideal.Read.val_main_v5 (F := Ideal) x0 x1) r k = tnN (rd x0) (rd x1) 4096 r k := by
  unfold Cert.Reference2Ideal.Read.val_main_v5
  rw [rd_transpose _ _ hr hk]
  exact (rd_host_tn _ _ _ _ hk hr).trans (tnN_swap _ _ _ _ _)

/-- The kernel and the reference — the gradient of the input projection's weights — end with equal arrays. -/
theorem algebraic : Cert.algebraic_Kernel2Ideal_Reference2Ideal := by
  intro m ρ m' ρ' _ hag
  refine ⟨_, run m ρ, (θ_run _ _ _).mono (fun _ h c => ⟨(h c).1.trans ?_, (h c).2⟩) (Cert.Reference2Ideal.Value.run m' ρ')⟩
  rw [(hag c).1, (hag c).2]
  exact (Cert.Reference2Ideal.Read.val_main_v5_eq _ _ ).trans (eq_tab fun r k hr hk => ref_rd _ _ hr hk)

/-- The reference's run leaves the arguments as they were; it uses no semaphore. -/
theorem frame_ref : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

end Cert.Mm2

end
-- ==== Proof.Mm3.lean ====
module

public import proofs.«01_k».proof.Proof.Dot
public import proofs.«01_k».proof.Proof.Gen.Kernel3Ideal.Value
public import proofs.«01_k».proof.Proof.Gen.Reference3Ideal.Run
public import proofs.«01_k».proof.Proof.Gen.Reference3Ideal.Read

public import proofs.«01_k».proof.Defs

@[expose] public section

set_option maxRecDepth 16384

noncomputable section

namespace Cert.Mm3

open Cert.Kernel3Ideal Cert.Kernel3Ideal.Gen Cert.Kernel3Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 7168) (m (c.tc.loc main_arg0))
abbrev X1 : ℕ → ℕ → EReal := rd (m := 2048) (n := 7168) (m (c.tc.loc main_arg1))

/-- Window 0's block at a point. -/
theorem blk0 {r k : ℕ} (hr : r < 1024) (hk : k < 3584) :
    rd (m := 1024) (n := 3584) (iblk m c 0 t) r k = X0 m c (1024 * (t.val / 4) + r) (3584 * (t.val % 2) + k) := by
  have e := (by decide +kernel : ∀ t : Fin grid0.N, win0_0.index t 0 = t.val / 4 ∧ win0_0.index t 1 = t.val % 2) t
  rw [rd_in _ hr hk]
  unfold iblk
  rw [View.read_apply]
  show V m c main_arg0 _ = _
  rw [V_main_arg0]
  refine (rd_of_val (m := 4096) (n := 7168) _ _ ?_ ?_).symm
  · show win0_0.index t 0 * 1024 + 1 * r = _; omega
  · show win0_0.index t 1 * 3584 + 1 * k = _; omega

/-- Window 1's block at a point. -/
theorem blk1 {r k : ℕ} (hr : r < 1024) (hk : k < 3584) :
    rd (m := 1024) (n := 3584) (iblk m c 1 t) r k = X1 m c (1024 * (t.val / 2 % 2) + r) (3584 * (t.val % 2) + k) := by
  have e := (by decide +kernel : ∀ t : Fin grid0.N, win0_1.index t 0 = t.val / 2 % 2 ∧ win0_1.index t 1 = t.val % 2) t
  rw [rd_in _ hr hk]
  unfold iblk
  rw [View.read_apply]
  show V m c main_arg1 _ = _
  rw [V_main_arg1]
  refine (rd_of_val (m := 2048) (n := 7168) _ _ ?_ ?_).symm
  · show win0_1.index t 0 * 1024 + 1 * r = _; omega
  · show win0_1.index t 1 * 3584 + 1 * k = _; omega

/-- The product of a point's blocks: the part of the sum over its stretch of the contracted coordinate. -/
theorem part_rd {r k : ℕ} (hr : r < 1024) (hk : k < 1024) :
    rd (m := 1024) (n := 1024) (k0_pay1 (F := Ideal) (iblk m c 0 t) (iblk m c 1 t)) r k
      = ntN (fun r k => X0 m c r (3584 * (t.val % 2) + k)) (fun c' k => (X1 m c) c' (3584 * (t.val % 2) + k)) 3584 (1024 * (t.val / 4) + r) (1024 * (t.val / 2 % 2) + k) := by
  unfold k0_pay1
  dsimp only
  rw [rd_matmul_nt _ _ _ _ hr hk]
  exact ntN_congr (fun q hq => blk0 m c t hr hq) (fun q hq => blk1 m c t hk hq)

/-- The first stretch starts the sum. -/
theorem scr_A (h0 : t.val % 2 = 0) : (outsAt0 m c t.val t.isLt).2 = k0_pay2 (F := Ideal) (iblk m c 0 t) (iblk m c 1 t) := by
  rw [outsAt0_A m c t h0 (by omega)]
  dsimp only
  unfold sout0_A_0
  rw [View.read_writes_eq_canon]; swap
  · intro y; apply scover0_A_0
  unfold kernelRun0_A
  dsimp only
  sl_unfold_words
  rw [View.canon_unit_zero hz2]
  simp only [View.readAt_eq_ld, (hs0_0 t).read_unread, (hs0_1 t).read_unread, (hs0_2 t).read_unread, (Memref.isWhole_whole _).read_unread, View.ld_unit_zero (S := S1024x3584) hz2, View.ld_unit_zero (S := S1024x3584) hz2, View.ld_unit_zero (S := S1024x1024) hz2]

/-- The last stretch adds its part and the sum is the output. -/
theorem out_L (h0 : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h0]
  dsimp only
  unfold out0_B_2
  rw [View.read_writes_eq_canon]; swap
  · intro y; apply cover0_B_2
  unfold kernelRun0_B
  dsimp only
  sl_unfold_words
  rw [View.canon_unit_zero hz2]
  simp only [View.readAt_eq_ld, (hs0_0 t).read_unread, (hs0_1 t).read_unread, (hs0_2 t).read_unread, (Memref.isWhole_whole _).read_unread, View.ld_unit_zero (S := S1024x3584) hz2, View.ld_unit_zero (S := S1024x3584) hz2, View.ld_unit_zero (S := S1024x1024) hz2]

/-- What the scratch holds after a point: the sum so far. -/
theorem scr_rd (q : ℕ) (hq : q < 1) : ∀ (n : ℕ) (hn : n < cfg0.N) (_ : n % 2 = q) {r k : ℕ} (_ : r < 1024) (_ : k < 1024),
    rd (m := 1024) (n := 1024) (outsAt0 m c n hn).2 r k = ntN (X0 m c) (X1 m c) (3584 * (q + 1)) (1024 * (n / 4) + r) (1024 * (n / 2 % 2) + k) := by
  intro n hn h0 r k hr hk
  obtain rfl : q = 0 := by omega
  · rw [scr_A m c ⟨n, hn⟩ h0]
    unfold k0_pay2
    rw [shapeCast_self, part_rd m c ⟨n, hn⟩ hr hk]
    refine ntN_congr (fun j _ => ?_) (fun j _ => ?_)
    · dsimp only; rw [h0]; congr 1; omega
    · dsimp only; rw [h0]; congr 1; omega

/-- What the body leaves in the output's block at the last stretch. -/
theorem out_rd (h0 : t.val % 2 = 1) {r k : ℕ} (hr : r < 1024) (hk : k < 1024) :
    rd (m := 1024) (n := 1024) (outsAt0 m c t.val t.isLt).1 r k = ntN (X0 m c) (X1 m c) 7168 (1024 * (t.val / 4) + r) (1024 * (t.val / 2 % 2) + k) := by
  rw [out_L m c t h0]
  unfold k0_pay4
  dsimp only
  rw [rd_addf, part_rd m c t hr hk, scr_rd m c 0 (by omega) (t.val - 1) (Nat.lt_of_le_of_lt (Nat.sub_le _ _) t.isLt) (by omega) hr hk,
    show (t.val - 1) / 4 = t.val / 4 by omega, show (t.val - 1) / 2 = t.val / 2 by omega, h0]

  exact ntN_add _ _ 3584 3584 _ _

theorem index2 : win0_2.index t 0 = t.val / 4 ∧ win0_2.index t 1 = t.val / 2 % 2 :=
  (by decide +kernel : ∀ t : Fin grid0.N, win0_2.index t 0 = t.val / 4 ∧ win0_2.index t 1 = t.val / 2 % 2) t

/-- The output array after the run. -/
theorem final2 : (dats m 0 c).arrAt 2 cfg0.N = tab (m := 4096) (n := 2048) (ntN (X0 m c) (X1 m c) 7168) := by
  refine (dats m 0 c).arrAt_eq_of_cover 2 _ (fun t hf => ?_) fun i => ?_
  · rw [flushed2]
    funext j
    rw [View.read_apply]
    show (outsAt0 m c t.val t.isLt).1 j = ntN (X0 m c) (X1 m c) 7168 (win0_2.index t 0 * 1024 + 1 * (j 0).val) (win0_2.index t 1 * 1024 + 1 * (j 1).val)
    rw [eq_rd (m := 1024) (n := 1024) ((outsAt0 m c t.val t.isLt).1) j, out_rd m c t ((flush0_2 t).mp hf) (j 0).isLt (j 1).isLt]
    have hi := index2 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨4 * ((i 0).val / 1024) + (2 * ((i 1).val / 1024) + 1), by omega⟩
    refine ⟨t, (flush0_2 t).mpr (by show (4 * ((i 0).val / 1024) + (2 * ((i 1).val / 1024) + 1)) % 2 = 1; omega), ?_⟩
    show i ∈ ((View.whole main_v0).slice (win0_2.rect t)).set
    rw [View.set_slice_whole, Rect.mem_set_unit]
    have hi := index2 t
    have hv : t.val = 4 * ((i 0).val / 1024) + (2 * ((i 1).val / 1024) + 1) := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (ntN (X0 m c) (X1 m c) 7168)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 7168]⟩ .bf16) (x1 : FVec Ideal ⟨2, ![2048, 7168]⟩ .bf16) {r k : ℕ}
    (hr : r < 4096) (hk : k < 2048) :
    rd (m := 4096) (n := 2048) (Cert.Reference3Ideal.Read.val_main_v4 (F := Ideal) x0 x1) r k = ntN (rd x0) (rd x1) 7168 r k := by
  unfold Cert.Reference3Ideal.Read.val_main_v4
  exact rd_host_nt _ _ _ _ hr hk

/-- The kernel and the reference — the gradient of the input projection's input — end with equal arrays. -/
theorem algebraic : Cert.algebraic_Kernel3Ideal_Reference3Ideal := by
  intro m ρ m' ρ' _ hag
  refine ⟨_, run m ρ, (θ_run _ _ _).mono (fun _ h c => ⟨(h c).1.trans ?_, (h c).2⟩) (Cert.Reference3Ideal.Value.run m' ρ')⟩
  rw [(hag c).1, (hag c).2]
  exact (Cert.Reference3Ideal.Read.val_main_v4_eq _ _ ).trans (eq_tab fun r k hr hk => ref_rd _ _ hr hk)

/-- The reference's run leaves the arguments as they were; it uses no semaphore. -/
theorem frame_ref : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

end Cert.Mm3

end
-- ==== Proof.Mm4.lean ====
module

public import proofs.«01_k».proof.Proof.Dot
public import proofs.«01_k».proof.Proof.Gen.Kernel4Ideal.Value
public import proofs.«01_k».proof.Proof.Gen.Reference4Ideal.Run
public import proofs.«01_k».proof.Proof.Gen.Reference4Ideal.Read

public import proofs.«01_k».proof.Defs

@[expose] public section

set_option maxRecDepth 16384

noncomputable section

namespace Cert.Mm4

open Cert.Kernel4Ideal Cert.Kernel4Ideal.Gen Cert.Kernel4Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 4096) (n := 5632) (m (c.tc.loc main_arg1))

/-- Window 0's block at a point. -/
theorem blk0 {r k : ℕ} (hr : r < 4096) (hk : k < 512) :
    rd (m := 4096) (n := 512) (iblk m c 0 t) r k = X0 m c (r) (512 * (t.val / 4) + k) := by
  have e := (by decide +kernel : ∀ t : Fin grid0.N, win0_0.index t 0 = 0 ∧ win0_0.index t 1 = t.val / 4) t
  rw [rd_in _ hr hk]
  unfold iblk
  rw [View.read_apply]
  show V m c main_arg0 _ = _
  rw [V_main_arg0]
  refine (rd_of_val (m := 4096) (n := 2048) _ _ ?_ ?_).symm
  · show win0_0.index t 0 * 4096 + 1 * r = _; omega
  · show win0_0.index t 1 * 512 + 1 * k = _; omega

/-- Window 1's block at a point. -/
theorem blk1 {r k : ℕ} (hr : r < 4096) (hk : k < 1408) :
    rd (m := 4096) (n := 1408) (iblk m c 1 t) r k = X1 m c (r) (1408 * (t.val % 4) + k) := by
  have e := (by decide +kernel : ∀ t : Fin grid0.N, win0_1.index t 0 = 0 ∧ win0_1.index t 1 = t.val % 4) t
  rw [rd_in _ hr hk]
  unfold iblk
  rw [View.read_apply]
  show V m c main_arg1 _ = _
  rw [V_main_arg1]
  refine (rd_of_val (m := 4096) (n := 5632) _ _ ?_ ?_).symm
  · show win0_1.index t 0 * 4096 + 1 * r = _; omega
  · show win0_1.index t 1 * 1408 + 1 * k = _; omega

/-- What the body leaves in the output's block. -/
theorem out_rd {r k : ℕ} (hr : r < 512) (hk : k < 1408) :
    rd3 (a := 1) (m := 512) (n := 1408) (out0_2 (iblk m c 0 t) (iblk m c 1 t)) 0 r k
      = tnN (X0 m c) (X1 m c) 4096 (512 * (t.val / 4) + r) (1408 * (t.val % 4) + k) := by
  unfold out0_2
  rw [View.canon_unit_zero hz3, View.ld_unit_zero (S := S4096x512) hz2, View.ld_unit_zero (S := S4096x1408) hz2]
  unfold k0_pay1
  dsimp only
  rw [rd3_cast _ _ hr hk, rd_matmul_tn _ _ _ _ hr hk]
  exact tnN_congr (fun q hq => blk0 m c t hq hr) (fun q hq => blk1 m c t hq hk)

/-- The gradient's two column halves. -/
def G (A B : ℕ → ℕ → EReal) (p r k : ℕ) : EReal := tnN A B 4096 r (2816 * p + k)

theorem index2 : win0_2.index t 0 = t.val % 4 / 2 ∧ win0_2.index t 1 = t.val / 4 ∧ win0_2.index t 2 = t.val % 4 % 2 :=
  (by decide +kernel : ∀ t : Fin grid0.N, win0_2.index t 0 = t.val % 4 / 2 ∧ win0_2.index t 1 = t.val / 4 ∧ win0_2.index t 2 = t.val % 4 % 2) t

/-- The output array after the run. -/
theorem final2 : (dats m 0 c).arrAt 2 cfg0.N = tab3 (a := 2) (m := 2048) (n := 2816) (G (X0 m c) (X1 m c)) := by
  refine (dats m 0 c).arrAt_eq_of_cover 2 _ (fun t hf => ?_) fun i => ?_
  · rw [flushed2]
    funext j
    rw [View.read_apply]
    show out0_2 (iblk m c 0 t) (iblk m c 1 t) j = G (X0 m c) (X1 m c) (win0_2.index t 0 * 1 + 1 * (j 0).val)
      (win0_2.index t 1 * 512 + 1 * (j 1).val) (win0_2.index t 2 * 1408 + 1 * (j 2).val)
    have j0 : (j 0).val = 0 := by have h : (j 0).val < 1 := (j 0).isLt; omega
    rw [eq_rd3 (a := 1) (m := 512) (n := 1408) (out0_2 (iblk m c 0 t) (iblk m c 1 t)) j, j0, out_rd m c t (j 1).isLt (j 2).isLt]
    have hi := index2 t
    rw [hi.1, hi.2.1, hi.2.2]
    unfold G
    congr 1 <;> omega
  · have h0 : (i 0).val < 2 := (i 0).isLt
    have h1 : (i 1).val < 2048 := (i 1).isLt
    have h2 : (i 2).val < 2816 := (i 2).isLt
    have hN : cfg0.N = 16 := by decide +kernel
    let t : Fin cfg0.N := ⟨4 * ((i 1).val / 512) + (2 * (i 0).val + (i 2).val / 1408), by omega⟩
    refine ⟨t, flush0_2 _, ?_⟩
    show i ∈ ((View.whole main_v0).slice (win0_2.rect t)).set
    rw [View.set_slice_whole, Rect.mem_set_unit]
    have hi := index2 t
    have hv : t.val = 4 * ((i 1).val / 512) + (2 * (i 0).val + (i 2).val / 1408) := rfl
    intro a
    match a with
    | ⟨0, _⟩ => show win0_2.index t 0 * 1 ≤ (i 0).val ∧ (i 0).val < win0_2.index t 0 * 1 + 1
                rw [hi.1]; omega
    | ⟨1, _⟩ => show win0_2.index t 1 * 512 ≤ (i 1).val ∧ (i 1).val < win0_2.index t 1 * 512 + 512
                rw [hi.2.1]; omega
    | ⟨2, _⟩ => show win0_2.index t 2 * 1408 ≤ (i 2).val ∧ (i 2).val < win0_2.index t 2 * 1408 + 1408
                rw [hi.2.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab3 (a := 2) (m := 2048) (n := 2816) (G (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![4096, 5632]⟩ .bf16) {p r k : ℕ}
    (hp : p < 2) (hr : r < 2048) (hk : k < 2816) :
    rd3 (a := 2) (m := 2048) (n := 2816) (Cert.Reference4Ideal.Read.val_main_v9 (F := Ideal) x0 x1) p r k = G (rd x0) (rd x1) p r k := by
  rw [rd3_in _ hp hr hk, Cert.Reference4Ideal.Read.val_main_v9_apply, Cert.Reference4Ideal.Read.val_main_v8_apply]
  refine (rd_of_val (m := 2048) (n := 5632) (r := r) (c := 2816 * p + k) _ _ ?_ ?_).symm.trans ?_
  · show ((r * 2 + p) * 2816 + k) / 5632 = r; omega
  · show ((r * 2 + p) * 2816 + k) % 5632 = 2816 * p + k; omega
  · unfold Cert.Reference4Ideal.Read.val_main_v7
    rw [rd_transpose _ _ hr (by omega)]
    exact (rd_host_tn _ _ _ _ (by omega) hr).trans (tnN_swap _ _ _ _ _)

/-- The kernel and the reference — the gradient of one half of the gated MLP's up weights — end with equal arrays. -/
theorem algebraic : Cert.algebraic_Kernel4Ideal_Reference4Ideal := by
  intro m ρ m' ρ' _ hag
  refine ⟨_, run m ρ, (θ_run _ _ _).mono (fun _ h c => ⟨(h c).1.trans ?_, (h c).2⟩) (Cert.Reference4Ideal.Value.run m' ρ')⟩
  rw [(hag c).1, (hag c).2]
  exact (Cert.Reference4Ideal.Read.val_main_v9_eq _ _ ).trans (eq_tab3 fun p r k hp hr hk => ref_rd _ _ hp hr hk)

/-- The reference's run leaves the arguments as they were; it uses no semaphore. -/
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Mm4

end
-- ==== Proof.Mm5.lean ====
module

public import proofs.«01_k».proof.Proof.Dot
public import proofs.«01_k».proof.Proof.Gen.Kernel5Ideal.Value
public import proofs.«01_k».proof.Proof.Gen.Reference5Ideal.Run
public import proofs.«01_k».proof.Proof.Gen.Reference5Ideal.Read

public import proofs.«01_k».proof.Defs

@[expose] public section

set_option maxRecDepth 16384

noncomputable section

namespace Cert.Mm5

open Cert.Kernel5Ideal Cert.Kernel5Ideal.Gen Cert.Kernel5Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 5632) (m (c.tc.loc main_arg0))
abbrev X1 : ℕ → ℕ → EReal := rd (m := 4096) (n := 2048) (m (c.tc.loc main_arg1))

/-- Window 0's block at a point. -/
theorem blk0 {r k : ℕ} (hr : r < 4096) (hk : k < 1408) :
    rd (m := 4096) (n := 1408) (iblk m c 0 t) r k = X0 m c (r) (1408 * (t.val / 4) + k) := by
  have e := (by decide +kernel : ∀ t : Fin grid0.N, win0_0.index t 0 = 0 ∧ win0_0.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_0.index t 0 * 4096 + 1 * r = _; omega
  · show win0_0.index t 1 * 1408 + 1 * k = _; omega

/-- Window 1's block at a point. -/
theorem blk1 {r k : ℕ} (hr : r < 4096) (hk : k < 512) :
    rd (m := 4096) (n := 512) (iblk m c 1 t) r k = X1 m c (r) (512 * (t.val % 4) + k) := by
  have e := (by decide +kernel : ∀ t : Fin grid0.N, win0_1.index t 0 = 0 ∧ win0_1.index t 1 = t.val % 4) t
  rw [rd_in _ hr hk]
  unfold iblk
  rw [View.read_apply]
  show V m c main_arg1 _ = _
  rw [V_main_arg1]
  refine (rd_of_val (m := 4096) (n := 2048) _ _ ?_ ?_).symm
  · show win0_1.index t 0 * 4096 + 1 * r = _; omega
  · show win0_1.index t 1 * 512 + 1 * k = _; omega

/-- What the body leaves in the output's block. -/
theorem out_rd {r k : ℕ} (hr : r < 1408) (hk : k < 512) :
    rd (m := 1408) (n := 512) (out0_2 (iblk m c 0 t) (iblk m c 1 t)) r k
      = tnN (X0 m c) (X1 m c) 4096 (1408 * (t.val / 4) + r) (512 * (t.val % 4) + k) := by
  unfold out0_2
  rw [View.canon_unit_zero hz2, View.ld_unit_zero (S := S4096x1408) hz2, View.ld_unit_zero (S := S4096x512) hz2]
  unfold k0_pay1
  dsimp only
  rw [rd_matmul_tn _ _ _ _ hr hk]
  exact tnN_congr (fun q hq => blk0 m c t hq hr) (fun q hq => blk1 m c t hq hk)

theorem index2 : win0_2.index t 0 = t.val / 4 ∧ win0_2.index t 1 = t.val % 4 :=
  (by decide +kernel : ∀ t : Fin grid0.N, win0_2.index t 0 = t.val / 4 ∧ win0_2.index t 1 = t.val % 4) t

/-- The output array after the run. -/
theorem final2 : (dats m 0 c).arrAt 2 cfg0.N = tab (m := 5632) (n := 2048) (tnN (X0 m c) (X1 m c) 4096) := by
  refine (dats m 0 c).arrAt_eq_of_cover 2 _ (fun t hf => ?_) fun i => ?_
  · rw [flushed2]
    funext j
    rw [View.read_apply]
    show out0_2 (iblk m c 0 t) (iblk m c 1 t) j = tnN (X0 m c) (X1 m c) 4096 (win0_2.index t 0 * 1408 + 1 * (j 0).val) (win0_2.index t 1 * 512 + 1 * (j 1).val)
    rw [eq_rd (m := 1408) (n := 512) (out0_2 (iblk m c 0 t) (iblk m c 1 t)) j, out_rd m c t (j 0).isLt (j 1).isLt]
    have hi := index2 t
    rw [hi.1, hi.2]
    congr 1 <;> omega
  · have h0 : (i 0).val < 5632 := (i 0).isLt
    have h1 : (i 1).val < 2048 := (i 1).isLt
    have hN : cfg0.N = 16 := by decide +kernel
    let t : Fin cfg0.N := ⟨4 * ((i 0).val / 1408) + (i 1).val / 512, by omega⟩
    refine ⟨t, flush0_2 _, ?_⟩
    show i ∈ ((View.whole main_v0).slice (win0_2.rect t)).set
    rw [View.set_slice_whole, Rect.mem_set_unit]
    have hi := index2 t
    have hv : t.val = 4 * ((i 0).val / 1408) + (i 1).val / 512 := rfl
    intro a
    match a with
    | ⟨0, _⟩ => show win0_2.index t 0 * 1408 ≤ (i 0).val ∧ (i 0).val < win0_2.index t 0 * 1408 + 1408
                rw [hi.1]; omega
    | ⟨1, _⟩ => show win0_2.index t 1 * 512 ≤ (i 1).val ∧ (i 1).val < win0_2.index t 1 * 512 + 512
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 5632) (n := 2048) (tnN (X0 m c) (X1 m c) 4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 5632]⟩ .bf16) (x1 : FVec Ideal ⟨2, ![4096, 2048]⟩ .bf16) {r k : ℕ}
    (hr : r < 5632) (hk : k < 2048) :
    rd (m := 5632) (n := 2048) (Cert.Reference5Ideal.Read.val_main_v5 (F := Ideal) x0 x1) r k = tnN (rd x0) (rd x1) 4096 r k := by
  unfold Cert.Reference5Ideal.Read.val_main_v5
  rw [rd_transpose _ _ hr hk]
  exact (rd_host_tn _ _ _ _ hk hr).trans (tnN_swap _ _ _ _ _)

/-- The kernel and the reference — the gradient of the gated MLP's down weights — end with equal arrays. -/
theorem algebraic : Cert.algebraic_Kernel5Ideal_Reference5Ideal := by
  intro m ρ m' ρ' _ hag
  refine ⟨_, run m ρ, (θ_run _ _ _).mono (fun _ h c => ⟨(h c).1.trans ?_, (h c).2⟩) (Cert.Reference5Ideal.Value.run m' ρ')⟩
  rw [(hag c).1, (hag c).2]
  exact (Cert.Reference5Ideal.Read.val_main_v5_eq _ _ ).trans (eq_tab fun r k hr hk => ref_rd _ _ hr hk)

/-- The reference's run leaves the arguments as they were; it uses no semaphore. -/
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

end Cert.Mm5

end
-- ==== Proof.Mm6.lean ====
module

public import proofs.«01_k».proof.Proof.Dot
public import proofs.«01_k».proof.Proof.Gen.Kernel6Ideal.Value
public import proofs.«01_k».proof.Proof.Gen.Reference6Ideal.Run
public import proofs.«01_k».proof.Proof.Gen.Reference6Ideal.Read

public import proofs.«01_k».proof.Defs

@[expose] public section

set_option maxRecDepth 16384

noncomputable section

namespace Cert.Mm6

open Cert.Kernel6Ideal Cert.Kernel6Ideal.Gen Cert.Kernel6Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 5632) (n := 2048) (m (c.tc.loc main_arg1))

/-- Window 0's block at a point. -/
theorem blk0 {r k : ℕ} (hr : r < 1024) (hk : k < 2048) :
    rd (m := 1024) (n := 2048) (iblk m c 0 t) r k = X0 m c (1024 * (t.val / 4) + r) (k) := by
  have e := (by decide +kernel : ∀ t : Fin grid0.N, win0_0.index t 0 = t.val / 4 ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 1024 + 1 * r = _; omega
  · show win0_0.index t 1 * 2048 + 1 * k = _; omega

/-- Window 1's block at a point. -/
theorem blk1 {r k : ℕ} (hr : r < 1408) (hk : k < 2048) :
    rd (m := 1408) (n := 2048) (iblk m c 1 t) r k = X1 m c (1408 * (t.val % 4) + r) (k) := by
  have e := (by decide +kernel : ∀ t : Fin grid0.N, win0_1.index t 0 = t.val % 4 ∧ win0_1.index t 1 = 0) t
  rw [rd_in _ hr hk]
  unfold iblk
  rw [View.read_apply]
  show V m c main_arg1 _ = _
  rw [V_main_arg1]
  refine (rd_of_val (m := 5632) (n := 2048) _ _ ?_ ?_).symm
  · show win0_1.index t 0 * 1408 + 1 * r = _; omega
  · show win0_1.index t 1 * 2048 + 1 * k = _; omega

/-- What the body leaves in the output's block. -/
theorem out_rd {r k : ℕ} (hr : r < 1024) (hk : k < 1408) :
    rd (m := 1024) (n := 1408) (out0_2 (iblk m c 0 t) (iblk m c 1 t)) r k
      = ntN (X0 m c) (X1 m c) 2048 (1024 * (t.val / 4) + r) (1408 * (t.val % 4) + k) := by
  unfold out0_2
  rw [View.canon_unit_zero hz2, View.ld_unit_zero (S := S1024x2048) hz2, View.ld_unit_zero (S := S1408x2048) hz2]
  unfold k0_pay1
  dsimp only
  rw [rd_matmul_nt _ _ _ _ hr hk]
  exact ntN_congr (fun q hq => blk0 m c t hr hq) (fun q hq => blk1 m c t hk hq)

theorem index2 : win0_2.index t 0 = t.val / 4 ∧ win0_2.index t 1 = t.val % 4 :=
  (by decide +kernel : ∀ t : Fin grid0.N, win0_2.index t 0 = t.val / 4 ∧ win0_2.index t 1 = t.val % 4) t

/-- The output array after the run. -/
theorem final2 : (dats m 0 c).arrAt 2 cfg0.N = tab (m := 4096) (n := 5632) (ntN (X0 m c) (X1 m c) 2048) := by
  refine (dats m 0 c).arrAt_eq_of_cover 2 _ (fun t hf => ?_) fun i => ?_
  · rw [flushed2]
    funext j
    rw [View.read_apply]
    show out0_2 (iblk m c 0 t) (iblk m c 1 t) j = ntN (X0 m c) (X1 m c) 2048 (win0_2.index t 0 * 1024 + 1 * (j 0).val) (win0_2.index t 1 * 1408 + 1 * (j 1).val)
    rw [eq_rd (m := 1024) (n := 1408) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 5632 := (i 1).isLt
    have hN : cfg0.N = 16 := by decide +kernel
    let t : Fin cfg0.N := ⟨4 * ((i 0).val / 1024) + (i 1).val / 1408, by omega⟩
    refine ⟨t, flush0_2 _, ?_⟩
    show i ∈ ((View.whole main_v0).slice (win0_2.rect t)).set
    rw [View.set_slice_whole, Rect.mem_set_unit]
    have hi := index2 t
    have hv : t.val = 4 * ((i 0).val / 1024) + (i 1).val / 1408 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1408 ≤ (i 1).val ∧ (i 1).val < win0_2.index t 1 * 1408 + 1408
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 5632) (ntN (X0 m c) (X1 m c) 2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![5632, 2048]⟩ .bf16) {r k : ℕ}
    (hr : r < 4096) (hk : k < 5632) :
    rd (m := 4096) (n := 5632) (Cert.Reference6Ideal.Read.val_main_v4 (F := Ideal) x0 x1) r k = ntN (rd x0) (rd x1) 2048 r k := by
  unfold Cert.Reference6Ideal.Read.val_main_v4
  exact rd_host_nt _ _ _ _ hr hk

/-- The kernel and the reference — the gradient of the down projection's input — end with equal arrays. -/
theorem algebraic : Cert.algebraic_Kernel6Ideal_Reference6Ideal := by
  intro m ρ m' ρ' _ hag
  refine ⟨_, run m ρ, (θ_run _ _ _).mono (fun _ h c => ⟨(h c).1.trans ?_, (h c).2⟩) (Cert.Reference6Ideal.Value.run m' ρ')⟩
  rw [(hag c).1, (hag c).2]
  exact (Cert.Reference6Ideal.Read.val_main_v4_eq _ _ ).trans (eq_tab fun r k hr hk => ref_rd _ _ hr hk)

/-- The reference's run leaves the arguments as they were; it uses no semaphore. -/
theorem frame_ref : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.Mm6

end
-- ==== Proof.Mm7.lean ====
module

public import proofs.«01_k».proof.Proof.Dot
public import proofs.«01_k».proof.Proof.Gen.Kernel7Ideal.Value
public import proofs.«01_k».proof.Proof.Gen.Reference7Ideal.Run
public import proofs.«01_k».proof.Proof.Gen.Reference7Ideal.Read

public import proofs.«01_k».proof.Defs

@[expose] public section

set_option maxRecDepth 16384

noncomputable section

namespace Cert.Mm7

open Cert.Kernel7Ideal Cert.Kernel7Ideal.Gen Cert.Kernel7Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 5632) (m (c.tc.loc main_arg0))
abbrev X1 : ℕ → ℕ → ℕ → EReal := rd3 (a := 4) (m := 2048) (n := 2816) (m (c.tc.loc main_arg1))
/-- The column shards of this half side by side. -/
def W1 (A : ℕ → ℕ → ℕ → EReal) (r k : ℕ) : EReal := A ((k + 0) / 2816) r ((k + 0) % 2816)

/-- Window 0's block at a point. -/
theorem blk0 {r k : ℕ} (hr : r < 1024) (hk : k < 2816) :
    rd (m := 1024) (n := 2816) (iblk m c 0 t) r k = X0 m c (1024 * (t.val / 4) + r) (2816 * (t.val % 2) + k) := by
  have e := (by decide +kernel : ∀ t : Fin grid0.N, win0_0.index t 0 = t.val / 4 ∧ win0_0.index t 1 = t.val % 2) t
  rw [rd_in _ hr hk]
  unfold iblk
  rw [View.read_apply]
  show V m c main_arg0 _ = _
  rw [V_main_arg0]
  refine (rd_of_val (m := 4096) (n := 5632) _ _ ?_ ?_).symm
  · show win0_0.index t 0 * 1024 + 1 * r = _; omega
  · show win0_0.index t 1 * 2816 + 1 * k = _; omega

/-- Window 1's block at a point. -/
theorem blk1 {r k : ℕ} (hr : r < 1024) (hk : k < 2816) :
    rd3 (a := 1) (m := 1024) (n := 2816) (iblk m c 1 t) 0 r k = W1 (X1 m c) (1024 * (t.val / 2 % 2) + r) (2816 * (t.val % 2) + k) := by
  have e := (by decide +kernel : ∀ t : Fin grid0.N, win0_1.index t 0 = t.val % 2 + 0 ∧ win0_1.index t 1 = t.val / 2 % 2 ∧ win0_1.index t 2 = 0) t
  rw [rd3_in _ Nat.one_pos hr hk]
  unfold iblk
  rw [View.read_apply]
  show V m c main_arg1 _ = _
  rw [V_main_arg1]
  refine (rd3_of_val (a := 4) (m := 2048) (n := 2816) _ _ ?_ ?_ ?_).symm
  · show win0_1.index t 0 * 1 + 1 * 0 = _; omega
  · show win0_1.index t 1 * 1024 + 1 * r = _; omega
  · show win0_1.index t 2 * 2816 + 1 * k = _; rw [e.2.2]; omega

/-- The product of a point's blocks: the part of the sum over its stretch of the contracted coordinate. -/
theorem part_rd {r k : ℕ} (hr : r < 1024) (hk : k < 1024) :
    rd (m := 1024) (n := 1024) (k0_pay1 (F := Ideal) (iblk m c 0 t) (iblk m c 1 t)) r k
      = ntN (fun r k => X0 m c r (2816 * (t.val % 2) + k)) (fun c' k => (W1 (X1 m c)) c' (2816 * (t.val % 2) + k)) 2816 (1024 * (t.val / 4) + r) (1024 * (t.val / 2 % 2) + k) := by
  unfold k0_pay1
  dsimp only
  rw [rd_matmul_nt _ _ _ _ hr hk]
  exact ntN_congr (fun q hq => blk0 m c t hr hq) (fun q hq => (rd_cast3 _ _ hk hq).trans (blk1 m c t hk hq))

/-- The first stretch starts the sum. -/
theorem scr_A (h0 : t.val % 2 = 0) : (outsAt0 m c t.val t.isLt).2 = k0_pay2 (F := Ideal) (iblk m c 0 t) (iblk m c 1 t) := by
  rw [outsAt0_A m c t h0 (by omega)]
  dsimp only
  unfold sout0_A_0
  rw [View.read_writes_eq_canon]; swap
  · intro y; apply scover0_A_0
  unfold kernelRun0_A
  dsimp only
  sl_unfold_words
  rw [View.canon_unit_zero hz2]
  simp only [View.readAt_eq_ld, (hs0_0 t).read_unread, (hs0_1 t).read_unread, (hs0_2 t).read_unread, (Memref.isWhole_whole _).read_unread, View.ld_unit_zero (S := S1024x2816) hz2, View.ld_unit_zero (S := S1x1024x2816) hz3, View.ld_unit_zero (S := S1024x1024) hz2]

/-- The last stretch adds its part and the sum is the output. -/
theorem out_L (h0 : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 := by
  rw [outsAt0_B m c t (by omega) h0]
  dsimp only
  unfold out0_B_2
  rw [View.read_writes_eq_canon]; swap
  · intro y; apply cover0_B_2
  unfold kernelRun0_B
  dsimp only
  sl_unfold_words
  rw [View.canon_unit_zero hz2]
  simp only [View.readAt_eq_ld, (hs0_0 t).read_unread, (hs0_1 t).read_unread, (hs0_2 t).read_unread, (Memref.isWhole_whole _).read_unread, View.ld_unit_zero (S := S1024x2816) hz2, View.ld_unit_zero (S := S1x1024x2816) hz3, View.ld_unit_zero (S := S1024x1024) hz2]

/-- What the scratch holds after a point: the sum so far. -/
theorem scr_rd (q : ℕ) (hq : q < 1) : ∀ (n : ℕ) (hn : n < cfg0.N) (_ : n % 2 = q) {r k : ℕ} (_ : r < 1024) (_ : k < 1024),
    rd (m := 1024) (n := 1024) (outsAt0 m c n hn).2 r k = ntN (X0 m c) (W1 (X1 m c)) (2816 * (q + 1)) (1024 * (n / 4) + r) (1024 * (n / 2 % 2) + k) := by
  intro n hn h0 r k hr hk
  obtain rfl : q = 0 := by omega
  · rw [scr_A m c ⟨n, hn⟩ h0]
    unfold k0_pay2
    rw [shapeCast_self, part_rd m c ⟨n, hn⟩ hr hk]
    refine ntN_congr (fun j _ => ?_) (fun j _ => ?_)
    · dsimp only; rw [h0]; congr 1; omega
    · dsimp only; rw [h0]; congr 1; omega

/-- What the body leaves in the output's block at the last stretch. -/
theorem out_rd (h0 : t.val % 2 = 1) {r k : ℕ} (hr : r < 1024) (hk : k < 1024) :
    rd (m := 1024) (n := 1024) (outsAt0 m c t.val t.isLt).1 r k = ntN (X0 m c) (W1 (X1 m c)) 5632 (1024 * (t.val / 4) + r) (1024 * (t.val / 2 % 2) + k) := by
  rw [out_L m c t h0]
  unfold k0_pay4
  dsimp only
  rw [rd_addf, part_rd m c t hr hk, scr_rd m c 0 (by omega) (t.val - 1) (Nat.lt_of_le_of_lt (Nat.sub_le _ _) t.isLt) (by omega) hr hk,
    show (t.val - 1) / 4 = t.val / 4 by omega, show (t.val - 1) / 2 = t.val / 2 by omega, h0]

  exact ntN_add _ _ 2816 2816 _ _

theorem index2 : win0_2.index t 0 = t.val / 4 ∧ win0_2.index t 1 = t.val / 2 % 2 :=
  (by decide +kernel : ∀ t : Fin grid0.N, win0_2.index t 0 = t.val / 4 ∧ win0_2.index t 1 = t.val / 2 % 2) t

/-- The output array after the run. -/
theorem final2 : (dats m 0 c).arrAt 2 cfg0.N = tab (m := 4096) (n := 2048) (ntN (X0 m c) (W1 (X1 m c)) 5632) := by
  refine (dats m 0 c).arrAt_eq_of_cover 2 _ (fun t hf => ?_) fun i => ?_
  · rw [flushed2]
    funext j
    rw [View.read_apply]
    show (outsAt0 m c t.val t.isLt).1 j = ntN (X0 m c) (W1 (X1 m c)) 5632 (win0_2.index t 0 * 1024 + 1 * (j 0).val) (win0_2.index t 1 * 1024 + 1 * (j 1).val)
    rw [eq_rd (m := 1024) (n := 1024) ((outsAt0 m c t.val t.isLt).1) j, out_rd m c t ((flush0_2 t).mp hf) (j 0).isLt (j 1).isLt]
    have hi := index2 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨4 * ((i 0).val / 1024) + (2 * ((i 1).val / 1024) + 1), by omega⟩
    refine ⟨t, (flush0_2 t).mpr (by show (4 * ((i 0).val / 1024) + (2 * ((i 1).val / 1024) + 1)) % 2 = 1; omega), ?_⟩
    show i ∈ ((View.whole main_v0).slice (win0_2.rect t)).set
    rw [View.set_slice_whole, Rect.mem_set_unit]
    have hi := index2 t
    have hv : t.val = 4 * ((i 0).val / 1024) + (2 * ((i 1).val / 1024) + 1) := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (ntN (X0 m c) (W1 (X1 m c)) 5632)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's weights: the column shards side by side. -/
theorem ref_w (x1 : FVec Ideal ⟨3, ![4, 2048, 2816]⟩ .bf16) {r k : ℕ} (hr : r < 2048) (hk : k < 11264) :
    rd (m := 2048) (n := 11264) (Cert.Reference7Ideal.Read.val_main_v3 (F := Ideal) x1) r k = rd3 x1 (k / 2816) r (k % 2816) := by
  rw [rd_in _ hr hk, Cert.Reference7Ideal.Read.val_main_v3_apply, Cert.Reference7Ideal.Read.val_main_v2_apply]
  refine (rd3_of_val (a := 4) (m := 2048) (n := 2816) x1 _ ?_ ?_ ?_).symm
  · show (r * 11264 + k) / 2816 % 4 = _; omega
  · show (r * 11264 + k) / 11264 = _; omega
  · show (r * 11264 + k) % 2816 = _; omega

/-- The gradient's other half is zero. -/
theorem ref_zero (i : (⟨2, ![4096, 5632]⟩ : Shape).Idx) : Cert.Reference7Ideal.Read.val_main_v8 (F := Ideal) i = 0 := by
  rw [Cert.Reference7Ideal.Read.val_main_v8_apply, Cert.Reference7Ideal.Read.val_main_cst_0_apply]
  exact Ideal.ofBits_zero .f32

/-- The reference's product: the half that is not zero. -/
theorem ref_rd (x0 : FVec Ideal ⟨2, ![4096, 5632]⟩ .bf16) (x1 : FVec Ideal ⟨3, ![4, 2048, 2816]⟩ .bf16) {r k : ℕ}
    (hr : r < 4096) (hk : k < 2048) :
    rd (m := 4096) (n := 2048) (Cert.Reference7Ideal.Read.val_main_v10 (F := Ideal) x0 x1) r k = ntN (rd x0) (W1 (rd3 x1)) 5632 r k := by
  unfold Cert.Reference7Ideal.Read.val_main_v10
  refine (rd_host_nt _ _ _ _ hr hk).trans ?_
  show ntN _ _ (5632 + 5632) r k = _
  rw [← ntN_add]
  rw [ntN_zero (A := fun r k => rd _ r (5632 + k)) (fun q hq => ?_), add_zero]
  · refine ntN_congr (fun q hq => ?_) fun q hq => ?_
    · unfold Cert.Reference7Ideal.Read.val_main_v9
      exact rd_concatCols_left _ _ _ hr hq
    · rw [ref_w _ hk (by omega)]; rfl
  · unfold Cert.Reference7Ideal.Read.val_main_v9
    rw [rd_concatCols_right _ _ _ hr hq, rd_in _ hr hq]
    exact ref_zero _

/-- The kernel and the reference — the gradient of the gated MLP's input through the gate half — end with equal arrays. -/
theorem algebraic : Cert.algebraic_Kernel7Ideal_Reference7Ideal := by
  intro m ρ m' ρ' _ hag
  refine ⟨_, run m ρ, (θ_run _ _ _).mono (fun _ h c => ⟨(h c).1.trans ?_, (h c).2⟩) (Cert.Reference7Ideal.Value.run m' ρ')⟩
  rw [(hag c).1, (hag c).2]
  exact (Cert.Reference7Ideal.Read.val_main_v10_eq _ _ ).trans (eq_tab fun r k hr hk => ref_rd _ _ hr hk)

/-- The reference's run leaves the arguments as they were; it uses no semaphore. -/
theorem frame_ref : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.Mm7

end
-- ==== Proof.Mm8.lean ====
module

public import proofs.«01_k».proof.Proof.Dot
public import proofs.«01_k».proof.Proof.Gen.Kernel8Ideal.Value
public import proofs.«01_k».proof.Proof.Gen.Reference8Ideal.Run
public import proofs.«01_k».proof.Proof.Gen.Reference8Ideal.Read

public import proofs.«01_k».proof.Defs

@[expose] public section

set_option maxRecDepth 16384

noncomputable section

namespace Cert.Mm8

open Cert.Kernel8Ideal Cert.Kernel8Ideal.Gen Cert.Kernel8Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 5632) (m (c.tc.loc main_arg0))
abbrev X1 : ℕ → ℕ → ℕ → EReal := rd3 (a := 4) (m := 2048) (n := 2816) (m (c.tc.loc main_arg1))
/-- The column shards of this half side by side. -/
def W1 (A : ℕ → ℕ → ℕ → EReal) (r k : ℕ) : EReal := A ((k + 5632) / 2816) r ((k + 5632) % 2816)
abbrev X2 : ℕ → ℕ → EReal := rd (m := 4096) (n := 2048) (m (c.tc.loc main_arg2))

/-- Window 0's block at a point. -/
theorem blk0 {r k : ℕ} (hr : r < 1024) (hk : k < 2816) :
    rd (m := 1024) (n := 2816) (iblk m c 0 t) r k = X0 m c (1024 * (t.val / 8) + r) (2816 * (t.val % 2) + k) := by
  have e := (by decide +kernel : ∀ t : Fin grid0.N, win0_0.index t 0 = t.val / 8 ∧ win0_0.index t 1 = t.val % 2) t
  rw [rd_in _ hr hk]
  unfold iblk
  rw [View.read_apply]
  show V m c main_arg0 _ = _
  rw [V_main_arg0]
  refine (rd_of_val (m := 4096) (n := 5632) _ _ ?_ ?_).symm
  · show win0_0.index t 0 * 1024 + 1 * r = _; omega
  · show win0_0.index t 1 * 2816 + 1 * k = _; omega

/-- Window 1's block at a point. -/
theorem blk1 {r k : ℕ} (hr : r < 512) (hk : k < 2816) :
    rd3 (a := 1) (m := 512) (n := 2816) (iblk m c 1 t) 0 r k = W1 (X1 m c) (512 * (t.val / 2 % 4) + r) (2816 * (t.val % 2) + k) := by
  have e := (by decide +kernel : ∀ t : Fin grid0.N, win0_1.index t 0 = t.val % 2 + 2 ∧ win0_1.index t 1 = t.val / 2 % 4 ∧ win0_1.index t 2 = 0) t
  rw [rd3_in _ Nat.one_pos hr hk]
  unfold iblk
  rw [View.read_apply]
  show V m c main_arg1 _ = _
  rw [V_main_arg1]
  refine (rd3_of_val (a := 4) (m := 2048) (n := 2816) _ _ ?_ ?_ ?_).symm
  · show win0_1.index t 0 * 1 + 1 * 0 = _; omega
  · show win0_1.index t 1 * 512 + 1 * r = _; omega
  · show win0_1.index t 2 * 2816 + 1 * k = _; rw [e.2.2]; omega

/-- Window 2's block at a point. -/
theorem blk2 {r k : ℕ} (hr : r < 1024) (hk : k < 512) :
    rd (m := 1024) (n := 512) (iblk m c 2 t) r k = X2 m c (1024 * (t.val / 8) + r) (512 * (t.val / 2 % 4) + k) := by
  have e := (by decide +kernel : ∀ t : Fin grid0.N, win0_2.index t 0 = t.val / 8 ∧ win0_2.index t 1 = t.val / 2 % 4) t
  rw [rd_in _ hr hk]
  unfold iblk
  rw [View.read_apply]
  show V m c main_arg2 _ = _
  rw [V_main_arg2]
  refine (rd_of_val (m := 4096) (n := 2048) _ _ ?_ ?_).symm
  · show win0_2.index t 0 * 1024 + 1 * r = _; omega
  · show win0_2.index t 1 * 512 + 1 * k = _; omega

/-- The product of a point's blocks: the part of the sum over its stretch of the contracted coordinate. -/
theorem part_rd {r k : ℕ} (hr : r < 1024) (hk : k < 512) :
    rd (m := 1024) (n := 512) (k0_pay1 (F := Ideal) (iblk m c 0 t) (iblk m c 1 t)) r k
      = ntN (fun r k => X0 m c r (2816 * (t.val % 2) + k)) (fun c' k => (W1 (X1 m c)) c' (2816 * (t.val % 2) + k)) 2816 (1024 * (t.val / 8) + r) (512 * (t.val / 2 % 4) + k) := by
  unfold k0_pay1
  dsimp only
  rw [rd_matmul_nt _ _ _ _ hr hk]
  exact ntN_congr (fun q hq => blk0 m c t hr hq) (fun q hq => (rd_cast3 _ _ hk hq).trans (blk1 m c t hk hq))

/-- The first stretch starts the sum. -/
theorem scr_A (h0 : t.val % 2 = 0) : (outsAt0 m c t.val t.isLt).2 = k0_pay2 (F := Ideal) (iblk m c 0 t) (iblk m c 1 t) := by
  rw [outsAt0_A m c t h0 (by omega)]
  dsimp only
  unfold sout0_A_0
  rw [View.read_writes_eq_canon]; swap
  · intro y; apply scover0_A_0
  unfold kernelRun0_A
  dsimp only
  sl_unfold_words
  rw [View.canon_unit_zero hz2]
  simp only [View.readAt_eq_ld, (hs0_0 t).read_unread, (hs0_1 t).read_unread, (hs0_2 t).read_unread, (hs0_3 t).read_unread, (Memref.isWhole_whole _).read_unread, View.ld_unit_zero (S := S1024x2816) hz2, View.ld_unit_zero (S := S1x512x2816) hz3, View.ld_unit_zero (S := S1024x512) hz2]

/-- The last stretch adds its part and the sum is the output. -/
theorem out_L (h0 : t.val % 2 = 1) : (outsAt0 m c t.val t.isLt).1
    = k0_pay4 (F := Ideal) (iblk m c 0 t) (iblk m c 1 t) (outsAt0 m c (t.val - 1) (Nat.lt_of_le_of_lt (Nat.sub_le _ _) t.isLt)).2 (iblk m c 2 t) := by
  rw [outsAt0_B m c t (by omega) h0]
  dsimp only
  unfold out0_B_3
  rw [View.read_writes_eq_canon]; swap
  · intro y; apply cover0_B_3
  unfold kernelRun0_B
  dsimp only
  sl_unfold_words
  rw [View.canon_unit_zero hz2]
  simp only [View.readAt_eq_ld, (hs0_0 t).read_unread, (hs0_1 t).read_unread, (hs0_2 t).read_unread, (hs0_3 t).read_unread, (Memref.isWhole_whole _).read_unread, View.ld_unit_zero (S := S1024x2816) hz2, View.ld_unit_zero (S := S1x512x2816) hz3, View.ld_unit_zero (S := S1024x512) hz2]

/-- What the scratch holds after a point: the sum so far. -/
theorem scr_rd (q : ℕ) (hq : q < 1) : ∀ (n : ℕ) (hn : n < cfg0.N) (_ : n % 2 = q) {r k : ℕ} (_ : r < 1024) (_ : k < 512),
    rd (m := 1024) (n := 512) (outsAt0 m c n hn).2 r k = ntN (X0 m c) (W1 (X1 m c)) (2816 * (q + 1)) (1024 * (n / 8) + r) (512 * (n / 2 % 4) + k) := by
  intro n hn h0 r k hr hk
  obtain rfl : q = 0 := by omega
  · rw [scr_A m c ⟨n, hn⟩ h0]
    unfold k0_pay2
    rw [shapeCast_self, part_rd m c ⟨n, hn⟩ hr hk]
    refine ntN_congr (fun j _ => ?_) (fun j _ => ?_)
    · dsimp only; rw [h0]; congr 1; omega
    · dsimp only; rw [h0]; congr 1; omega

/-- The product with the residual added. -/
def outN (A B R : ℕ → ℕ → EReal) (r k : ℕ) : EReal := R r k + ntN A B 5632 r k

/-- What the body leaves in the output's block at the last stretch. -/
theorem out_rd (h0 : t.val % 2 = 1) {r k : ℕ} (hr : r < 1024) (hk : k < 512) :
    rd (m := 1024) (n := 512) (outsAt0 m c t.val t.isLt).1 r k = outN (X0 m c) (W1 (X1 m c)) (X2 m c) (1024 * (t.val / 8) + r) (512 * (t.val / 2 % 4) + k) := by
  rw [out_L m c t h0]
  unfold k0_pay4
  dsimp only
  rw [rd_addf, rd_addf, blk2 m c t hr hk, part_rd m c t hr hk, scr_rd m c 0 (by omega) (t.val - 1) (Nat.lt_of_le_of_lt (Nat.sub_le _ _) t.isLt) (by omega) hr hk,
    show (t.val - 1) / 8 = t.val / 8 by omega, show (t.val - 1) / 2 = t.val / 2 by omega, h0]
  unfold outN
  exact congrArg (X2 m c _ _ + ·) (ntN_add _ _ 2816 2816 _ _)

theorem index3 : win0_3.index t 0 = t.val / 8 ∧ win0_3.index t 1 = t.val / 2 % 4 :=
  (by decide +kernel : ∀ t : Fin grid0.N, win0_3.index t 0 = t.val / 8 ∧ win0_3.index t 1 = t.val / 2 % 4) t

/-- The output array after the run. -/
theorem final3 : (dats m 0 c).arrAt 3 cfg0.N = tab (m := 4096) (n := 2048) (outN (X0 m c) (W1 (X1 m c)) (X2 m c)) := by
  refine (dats m 0 c).arrAt_eq_of_cover 3 _ (fun t hf => ?_) fun i => ?_
  · rw [flushed3]
    funext j
    rw [View.read_apply]
    show (outsAt0 m c t.val t.isLt).1 j = outN (X0 m c) (W1 (X1 m c)) (X2 m c) (win0_3.index t 0 * 1024 + 1 * (j 0).val) (win0_3.index t 1 * 512 + 1 * (j 1).val)
    rw [eq_rd (m := 1024) (n := 512) ((outsAt0 m c t.val t.isLt).1) j, out_rd m c t ((flush0_3 t).mp hf) (j 0).isLt (j 1).isLt]
    have hi := index3 t
    rw [hi.1, hi.2]
    congr 1 <;> omega
  · have h0 : (i 0).val < 4096 := (i 0).isLt
    have h1 : (i 1).val < 2048 := (i 1).isLt
    have hN : cfg0.N = 32 := by decide +kernel
    let t : Fin cfg0.N := ⟨8 * ((i 0).val / 1024) + (2 * ((i 1).val / 512) + 1), by omega⟩
    refine ⟨t, (flush0_3 t).mpr (by show (8 * ((i 0).val / 1024) + (2 * ((i 1).val / 512) + 1)) % 2 = 1; omega), ?_⟩
    show i ∈ ((View.whole main_v0).slice (win0_3.rect t)).set
    rw [View.set_slice_whole, Rect.mem_set_unit]
    have hi := index3 t
    have hv : t.val = 8 * ((i 0).val / 1024) + (2 * ((i 1).val / 512) + 1) := rfl
    intro a
    match a with
    | ⟨0, _⟩ => show win0_3.index t 0 * 1024 ≤ (i 0).val ∧ (i 0).val < win0_3.index t 0 * 1024 + 1024
                rw [hi.1]; omega
    | ⟨1, _⟩ => show win0_3.index t 1 * 512 ≤ (i 1).val ∧ (i 1).val < win0_3.index t 1 * 512 + 512
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (outN (X0 m c) (W1 (X1 m c)) (X2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (run_blocks m ρ)

/-- The reference's weights: the column shards side by side. -/
theorem ref_w (x1 : FVec Ideal ⟨3, ![4, 2048, 2816]⟩ .bf16) {r k : ℕ} (hr : r < 2048) (hk : k < 11264) :
    rd (m := 2048) (n := 11264) (Cert.Reference8Ideal.Read.val_main_v3 (F := Ideal) x1) r k = rd3 x1 (k / 2816) r (k % 2816) := by
  rw [rd_in _ hr hk, Cert.Reference8Ideal.Read.val_main_v3_apply, Cert.Reference8Ideal.Read.val_main_v2_apply]
  refine (rd3_of_val (a := 4) (m := 2048) (n := 2816) x1 _ ?_ ?_ ?_).symm
  · show (r * 11264 + k) / 2816 % 4 = _; omega
  · show (r * 11264 + k) / 11264 = _; omega
  · show (r * 11264 + k) % 2816 = _; omega

/-- The gradient's other half is zero. -/
theorem ref_zero (i : (⟨2, ![4096, 5632]⟩ : Shape).Idx) : Cert.Reference8Ideal.Read.val_main_v8 (F := Ideal) i = 0 := by
  rw [Cert.Reference8Ideal.Read.val_main_v8_apply, Cert.Reference8Ideal.Read.val_main_cst_0_apply]
  exact Ideal.ofBits_zero .f32

/-- The reference's product: the half that is not zero. -/
theorem ref_dot (x0 : FVec Ideal ⟨2, ![4096, 5632]⟩ .bf16) (x1 : FVec Ideal ⟨3, ![4, 2048, 2816]⟩ .bf16) {r k : ℕ}
    (hr : r < 4096) (hk : k < 2048) :
    rd (m := 4096) (n := 2048) (Cert.Reference8Ideal.Read.val_main_v10 (F := Ideal) x0 x1) r k = ntN (rd x0) (W1 (rd3 x1)) 5632 r k := by
  unfold Cert.Reference8Ideal.Read.val_main_v10
  refine (rd_host_nt _ _ _ _ hr hk).trans ?_
  show ntN _ _ (5632 + 5632) r k = _
  rw [← ntN_add]
  rw [ntN_zero (K := 5632) (A := rd _) (fun q hq => ?_), zero_add]
  · refine ntN_congr (fun q hq => ?_) fun q hq => ?_
    · unfold Cert.Reference8Ideal.Read.val_main_v9
      exact rd_concatCols_right _ _ _ hr hq
    · rw [ref_w _ hk (by omega), Nat.add_comm]; rfl
  · unfold Cert.Reference8Ideal.Read.val_main_v9
    rw [rd_concatCols_left _ _ _ hr hq, rd_in _ hr hq]
    exact ref_zero _

/-- The reference's result at an entry. -/
theorem ref_rd (x0 : FVec Ideal ⟨2, ![4096, 5632]⟩ .bf16) (x1 : FVec Ideal ⟨3, ![4, 2048, 2816]⟩ .bf16) (x2 : FVec Ideal ⟨2, ![4096, 2048]⟩ .f32)
    {r k : ℕ} (hr : r < 4096) (hk : k < 2048) :
    rd (m := 4096) (n := 2048) (Cert.Reference8Ideal.Read.val_main_v11 (F := Ideal) x0 x1 x2) r k = outN (rd x0) (W1 (rd3 x1)) (rd x2) r k := by
  unfold Cert.Reference8Ideal.Read.val_main_v11
  exact (rd_addf _ _ _ _).trans (congrArg (rd x2 r k + ·) (ref_dot x0 x1 hr hk))

/-- The kernel and the reference — the gradient of the gated MLP's input through the value half, added to the gate half's — end with equal arrays. -/
theorem algebraic : Cert.algebraic_Kernel8Ideal_Reference8Ideal := by
  intro m ρ m' ρ' _ hag
  refine ⟨_, run m ρ, (θ_run _ _ _).mono (fun _ h c => ⟨(h c).1.trans ?_, (h c).2⟩) (Cert.Reference8Ideal.Value.run m' ρ')⟩
  rw [(hag c).1, (hag c).2.1, (hag c).2.2]
  exact (Cert.Reference8Ideal.Read.val_main_v11_eq _ _ _ ).trans (eq_tab fun r k hr hk => ref_rd _ _ _ hr hk)

/-- The reference's run leaves the arguments as they were; it uses no semaphore. -/
theorem frame_ref : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.Mm8

end
-- ==== Proof.Mm9.lean ====
module

public import proofs.«01_k».proof.Proof.Dot
public import proofs.«01_k».proof.Proof.Gen.Kernel9Ideal.Value
public import proofs.«01_k».proof.Proof.Gen.Reference9Ideal.Run
public import proofs.«01_k».proof.Proof.Gen.Reference9Ideal.Read

public import proofs.«01_k».proof.Defs

@[expose] public section

set_option maxRecDepth 16384

noncomputable section

namespace Cert.Mm9

open Cert.Kernel9Ideal Cert.Kernel9Ideal.Gen Cert.Kernel9Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 4096) (n := 2048) (m (c.tc.loc main_arg1))

/-- Window 0's block at a point. -/
theorem blk0 {r k : ℕ} (hr : r < 4096) (hk : k < 1024) :
    rd (m := 4096) (n := 1024) (iblk m c 0 t) r k = X0 m c (r) (1024 * (t.val / 2) + k) := by
  have e := (by decide +kernel : ∀ t : Fin grid0.N, win0_0.index t 0 = 0 ∧ win0_0.index t 1 = t.val / 2) t
  rw [rd_in _ hr hk]
  unfold iblk
  rw [View.read_apply]
  show V m c main_arg0 _ = _
  rw [V_main_arg0]
  refine (rd_of_val (m := 4096) (n := 2048) _ _ ?_ ?_).symm
  · show win0_0.index t 0 * 4096 + 1 * r = _; omega
  · show win0_0.index t 1 * 1024 + 1 * k = _; omega

/-- Window 1's block at a point. -/
theorem blk1 {r k : ℕ} (hr : r < 4096) (hk : k < 1024) :
    rd (m := 4096) (n := 1024) (iblk m c 1 t) r k = X1 m c (r) (1024 * (t.val % 2) + k) := by
  have e := (by decide +kernel : ∀ t : Fin grid0.N, win0_1.index t 0 = 0 ∧ win0_1.index t 1 = t.val % 2) t
  rw [rd_in _ hr hk]
  unfold iblk
  rw [View.read_apply]
  show V m c main_arg1 _ = _
  rw [V_main_arg1]
  refine (rd_of_val (m := 4096) (n := 2048) _ _ ?_ ?_).symm
  · show win0_1.index t 0 * 4096 + 1 * r = _; omega
  · show win0_1.index t 1 * 1024 + 1 * k = _; omega

/-- What the body leaves in the output's block. -/
theorem out_rd {r k : ℕ} (hr : r < 1024) (hk : k < 1024) :
    rd (m := 1024) (n := 1024) (out0_2 (iblk m c 0 t) (iblk m c 1 t)) r k
      = tnN (X0 m c) (X1 m c) 4096 (1024 * (t.val / 2) + r) (1024 * (t.val % 2) + k) := by
  unfold out0_2
  rw [View.canon_unit_zero hz2, View.ld_unit_zero (S := S4096x1024) hz2, View.ld_unit_zero (S := S4096x1024) hz2]
  unfold k0_pay1
  dsimp only
  rw [rd_matmul_tn _ _ _ _ hr hk]
  exact tnN_congr (fun q hq => blk0 m c t hq hr) (fun q hq => blk1 m c t hq hk)

theorem index2 : win0_2.index t 0 = t.val / 2 ∧ win0_2.index t 1 = t.val % 2 :=
  (by decide +kernel : ∀ t : Fin grid0.N, win0_2.index t 0 = t.val / 2 ∧ win0_2.index t 1 = t.val % 2) t

/-- The output array after the run. -/
theorem final2 : (dats m 0 c).arrAt 2 cfg0.N = tab (m := 2048) (n := 2048) (tnN (X0 m c) (X1 m c) 4096) := by
  refine (dats m 0 c).arrAt_eq_of_cover 2 _ (fun t hf => ?_) fun i => ?_
  · rw [flushed2]
    funext j
    rw [View.read_apply]
    show out0_2 (iblk m c 0 t) (iblk m c 1 t) j = tnN (X0 m c) (X1 m c) 4096 (win0_2.index t 0 * 1024 + 1 * (j 0).val) (win0_2.index t 1 * 1024 + 1 * (j 1).val)
    rw [eq_rd (m := 1024) (n := 1024) (out0_2 (iblk m c 0 t) (iblk m c 1 t)) j, out_rd m c t (j 0).isLt (j 1).isLt]
    have hi := index2 t
    rw [hi.1, hi.2]
    congr 1 <;> omega
  · have h0 : (i 0).val < 2048 := (i 0).isLt
    have h1 : (i 1).val < 2048 := (i 1).isLt
    have hN : cfg0.N = 4 := by decide +kernel
    let t : Fin cfg0.N := ⟨2 * ((i 0).val / 1024) + (i 1).val / 1024, by omega⟩
    refine ⟨t, flush0_2 _, ?_⟩
    show i ∈ ((View.whole main_v0).slice (win0_2.rect t)).set
    rw [View.set_slice_whole, Rect.mem_set_unit]
    have hi := index2 t
    have hv : t.val = 2 * ((i 0).val / 1024) + (i 1).val / 1024 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 2048) (n := 2048) (tnN (X0 m c) (X1 m c) 4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![4096, 2048]⟩ .bf16) {r k : ℕ}
    (hr : r < 2048) (hk : k < 2048) :
    rd (m := 2048) (n := 2048) (Cert.Reference9Ideal.Read.val_main_v5 (F := Ideal) x0 x1) r k = tnN (rd x0) (rd x1) 4096 r k := by
  unfold Cert.Reference9Ideal.Read.val_main_v5
  rw [rd_transpose _ _ hr hk]
  exact (rd_host_tn _ _ _ _ hk hr).trans (tnN_swap _ _ _ _ _)

/-- The kernel and the reference — the gradient of the output projection's weights — end with equal arrays. -/
theorem algebraic : Cert.algebraic_Kernel9Ideal_Reference9Ideal := by
  intro m ρ m' ρ' _ hag
  refine ⟨_, run m ρ, (θ_run _ _ _).mono (fun _ h c => ⟨(h c).1.trans ?_, (h c).2⟩) (Cert.Reference9Ideal.Value.run m' ρ')⟩
  rw [(hag c).1, (hag c).2]
  exact (Cert.Reference9Ideal.Read.val_main_v5_eq _ _ ).trans (eq_tab fun r k hr hk => ref_rd _ _ hr hk)

/-- The reference's run leaves the arguments as they were; it uses no semaphore. -/
theorem frame_ref : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end Cert.Mm9

end
-- ==== Proof.Mm10.lean ====
module

public import proofs.«01_k».proof.Proof.Dot
public import proofs.«01_k».proof.Proof.Gen.Kernel10Ideal.Value
public import proofs.«01_k».proof.Proof.Gen.Reference10Ideal.Run
public import proofs.«01_k».proof.Proof.Gen.Reference10Ideal.Read

public import proofs.«01_k».proof.Defs

@[expose] public section

set_option maxRecDepth 16384

noncomputable section

namespace Cert.Mm10

open Cert.Kernel10Ideal Cert.Kernel10Ideal.Gen Cert.Kernel10Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 2048) (n := 2048) (m (c.tc.loc main_arg1))

/-- Window 0's block at a point. -/
theorem blk0 {r k : ℕ} (hr : r < 1024) (hk : k < 2048) :
    rd (m := 1024) (n := 2048) (iblk m c 0 t) r k = X0 m c (1024 * (t.val / 2) + r) (k) := by
  have e := (by decide +kernel : ∀ t : Fin grid0.N, win0_0.index t 0 = t.val / 2 ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 1024 + 1 * r = _; omega
  · show win0_0.index t 1 * 2048 + 1 * k = _; omega

/-- Window 1's block at a point. -/
theorem blk1 {r k : ℕ} (hr : r < 1024) (hk : k < 2048) :
    rd (m := 1024) (n := 2048) (iblk m c 1 t) r k = X1 m c (1024 * (t.val % 2) + r) (k) := by
  have e := (by decide +kernel : ∀ t : Fin grid0.N, win0_1.index t 0 = t.val % 2 ∧ win0_1.index t 1 = 0) t
  rw [rd_in _ hr hk]
  unfold iblk
  rw [View.read_apply]
  show V m c main_arg1 _ = _
  rw [V_main_arg1]
  refine (rd_of_val (m := 2048) (n := 2048) _ _ ?_ ?_).symm
  · show win0_1.index t 0 * 1024 + 1 * r = _; omega
  · show win0_1.index t 1 * 2048 + 1 * k = _; omega

/-- What the body leaves in the output's block. -/
theorem out_rd {r k : ℕ} (hr : r < 1024) (hk : k < 1024) :
    rd (m := 1024) (n := 1024) (out0_2 (iblk m c 0 t) (iblk m c 1 t)) r k
      = ntN (X0 m c) (X1 m c) 2048 (1024 * (t.val / 2) + r) (1024 * (t.val % 2) + k) := by
  unfold out0_2
  rw [View.canon_unit_zero hz2, View.ld_unit_zero (S := S1024x2048) hz2, View.ld_unit_zero (S := S1024x2048) hz2]
  unfold k0_pay1
  dsimp only
  rw [rd_matmul_nt _ _ _ _ hr hk]
  exact ntN_congr (fun q hq => blk0 m c t hr hq) (fun q hq => blk1 m c t hk hq)

theorem index2 : win0_2.index t 0 = t.val / 2 ∧ win0_2.index t 1 = t.val % 2 :=
  (by decide +kernel : ∀ t : Fin grid0.N, win0_2.index t 0 = t.val / 2 ∧ win0_2.index t 1 = t.val % 2) t

/-- The output array after the run. -/
theorem final2 : (dats m 0 c).arrAt 2 cfg0.N = tab (m := 4096) (n := 2048) (ntN (X0 m c) (X1 m c) 2048) := by
  refine (dats m 0 c).arrAt_eq_of_cover 2 _ (fun t hf => ?_) fun i => ?_
  · rw [flushed2]
    funext j
    rw [View.read_apply]
    show out0_2 (iblk m c 0 t) (iblk m c 1 t) j = ntN (X0 m c) (X1 m c) 2048 (win0_2.index t 0 * 1024 + 1 * (j 0).val) (win0_2.index t 1 * 1024 + 1 * (j 1).val)
    rw [eq_rd (m := 1024) (n := 1024) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 2048 := (i 1).isLt
    have hN : cfg0.N = 8 := by decide +kernel
    let t : Fin cfg0.N := ⟨2 * ((i 0).val / 1024) + (i 1).val / 1024, by omega⟩
    refine ⟨t, flush0_2 _, ?_⟩
    show i ∈ ((View.whole main_v0).slice (win0_2.rect t)).set
    rw [View.set_slice_whole, Rect.mem_set_unit]
    have hi := index2 t
    have hv : t.val = 2 * ((i 0).val / 1024) + (i 1).val / 1024 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (ntN (X0 m c) (X1 m c) 2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![2048, 2048]⟩ .bf16) {r k : ℕ}
    (hr : r < 4096) (hk : k < 2048) :
    rd (m := 4096) (n := 2048) (Cert.Reference10Ideal.Read.val_main_v4 (F := Ideal) x0 x1) r k = ntN (rd x0) (rd x1) 2048 r k := by
  unfold Cert.Reference10Ideal.Read.val_main_v4
  exact rd_host_nt _ _ _ _ hr hk

/-- The kernel and the reference — the gradient of the output projection's input — end with equal arrays. -/
theorem algebraic : Cert.algebraic_Kernel10Ideal_Reference10Ideal := by
  intro m ρ m' ρ' _ hag
  refine ⟨_, run m ρ, (θ_run _ _ _).mono (fun _ h c => ⟨(h c).1.trans ?_, (h c).2⟩) (Cert.Reference10Ideal.Value.run m' ρ')⟩
  rw [(hag c).1, (hag c).2]
  exact (Cert.Reference10Ideal.Read.val_main_v4_eq _ _ ).trans (eq_tab fun r k hr hk => ref_rd _ _ hr hk)

/-- The reference's run leaves the arguments as they were; it uses no semaphore. -/
theorem frame_ref : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end Cert.Mm10

end
-- ==== Proof.Mm11.lean ====
module

public import proofs.«01_k».proof.Proof.Dot
public import proofs.«01_k».proof.Proof.Gen.Kernel11Ideal.Value
public import proofs.«01_k».proof.Proof.Gen.Reference11Ideal.Run
public import proofs.«01_k».proof.Proof.Gen.Reference11Ideal.Read

public import proofs.«01_k».proof.Defs

@[expose] public section

set_option maxRecDepth 16384

noncomputable section

namespace Cert.Mm11

open Cert.Kernel11Ideal Cert.Kernel11Ideal.Gen Cert.Kernel11Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 2048) (n := 7168) (m (c.tc.loc main_arg1))

/-- Window 0's block at a point. -/
theorem blk0 {r k : ℕ} (hr : r < 1024) (hk : k < 2048) :
    rd (m := 1024) (n := 2048) (iblk m c 0 t) r k = X0 m c (1024 * (t.val / 7) + r) (k) := by
  have e := (by decide +kernel : ∀ t : Fin grid0.N, win0_0.index t 0 = t.val / 7 ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 1024 + 1 * r = _; omega
  · show win0_0.index t 1 * 2048 + 1 * k = _; omega

/-- Window 1's block at a point. -/
theorem blk1 {r k : ℕ} (hr : r < 2048) (hk : k < 1024) :
    rd (m := 2048) (n := 1024) (iblk m c 1 t) r k = X1 m c (r) (1024 * (t.val % 7) + k) := by
  have e := (by decide +kernel : ∀ t : Fin grid0.N, win0_1.index t 0 = 0 ∧ win0_1.index t 1 = t.val % 7) t
  rw [rd_in _ hr hk]
  unfold iblk
  rw [View.read_apply]
  show V m c main_arg1 _ = _
  rw [V_main_arg1]
  refine (rd_of_val (m := 2048) (n := 7168) _ _ ?_ ?_).symm
  · show win0_1.index t 0 * 2048 + 1 * r = _; omega
  · show win0_1.index t 1 * 1024 + 1 * k = _; omega

/-- What the body leaves in the output's block. -/
theorem out_rd {r k : ℕ} (hr : r < 1024) (hk : k < 1024) :
    rd (m := 1024) (n := 1024) (out0_2 (iblk m c 0 t) (iblk m c 1 t)) r k
      = nnN (X0 m c) (X1 m c) 2048 (1024 * (t.val / 7) + r) (1024 * (t.val % 7) + k) := by
  unfold out0_2
  rw [View.canon_unit_zero hz2, View.ld_unit_zero (S := S1024x2048) hz2, View.ld_unit_zero (S := S2048x1024) hz2]
  unfold k0_pay1
  dsimp only
  rw [rd_matmul_nn _ _ _ _ hr hk]
  exact nnN_congr (fun q hq => blk0 m c t hr hq) (fun q hq => blk1 m c t hq hk)

theorem index2 : win0_2.index t 0 = t.val / 7 ∧ win0_2.index t 1 = t.val % 7 :=
  (by decide +kernel : ∀ t : Fin grid0.N, win0_2.index t 0 = t.val / 7 ∧ win0_2.index t 1 = t.val % 7) t

/-- The output array after the run. -/
theorem final2 : (dats m 0 c).arrAt 2 cfg0.N = tab (m := 4096) (n := 7168) (nnN (X0 m c) (X1 m c) 2048) := by
  refine (dats m 0 c).arrAt_eq_of_cover 2 _ (fun t hf => ?_) fun i => ?_
  · rw [flushed2]
    funext j
    rw [View.read_apply]
    show out0_2 (iblk m c 0 t) (iblk m c 1 t) j = nnN (X0 m c) (X1 m c) 2048 (win0_2.index t 0 * 1024 + 1 * (j 0).val) (win0_2.index t 1 * 1024 + 1 * (j 1).val)
    rw [eq_rd (m := 1024) (n := 1024) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 7168 := (i 1).isLt
    have hN : cfg0.N = 28 := by decide +kernel
    let t : Fin cfg0.N := ⟨7 * ((i 0).val / 1024) + (i 1).val / 1024, by omega⟩
    refine ⟨t, flush0_2 _, ?_⟩
    show i ∈ ((View.whole main_v0).slice (win0_2.rect t)).set
    rw [View.set_slice_whole, Rect.mem_set_unit]
    have hi := index2 t
    have hv : t.val = 7 * ((i 0).val / 1024) + (i 1).val / 1024 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1024 ≤ (i 1).val ∧ (i 1).val < win0_2.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 7168) (nnN (X0 m c) (X1 m c) 2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![2048, 7168]⟩ .bf16) {r k : ℕ}
    (hr : r < 4096) (hk : k < 7168) :
    rd (m := 4096) (n := 7168) (Cert.Reference11Ideal.Read.val_main_v2 (F := Ideal) x0 x1) r k = nnN (rd x0) (rd x1) 2048 r k := by
  unfold Cert.Reference11Ideal.Read.val_main_v2
  exact rd_host_nn _ _ _ _ hr hk

/-- The kernel and the reference — the input projection — end with equal arrays. -/
theorem algebraic : Cert.algebraic_Kernel11Ideal_Reference11Ideal := by
  intro m ρ m' ρ' _ hag
  refine ⟨_, run m ρ, (θ_run _ _ _).mono (fun _ h c => ⟨(h c).1.trans ?_, (h c).2⟩) (Cert.Reference11Ideal.Value.run m' ρ')⟩
  rw [(hag c).1, (hag c).2]
  exact (Cert.Reference11Ideal.Read.val_main_v2_eq _ _ ).trans (eq_tab fun r k hr hk => ref_rd _ _ hr hk)

/-- The reference's run leaves the arguments as they were; it uses no semaphore. -/
theorem frame_ref : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.Mm11

end
-- ==== Proof.Mm12.lean ====
module

public import proofs.«01_k».proof.Proof.Dot
public import proofs.«01_k».proof.Proof.Gen.Kernel12Ideal.Value
public import proofs.«01_k».proof.Proof.Gen.Reference12Ideal.Run
public import proofs.«01_k».proof.Proof.Gen.Reference12Ideal.Read

public import proofs.«01_k».proof.Defs

@[expose] public section

set_option maxRecDepth 16384

noncomputable section

namespace Cert.Mm12

open Cert.Kernel12Ideal Cert.Kernel12Ideal.Gen Cert.Kernel12Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → ℕ → EReal := rd3 (a := 4) (m := 2048) (n := 2816) (m (c.tc.loc main_arg1))
/-- The column shards of this half side by side. -/
def W1 (A : ℕ → ℕ → ℕ → EReal) (k j : ℕ) : EReal := A ((j + 0) / 2816) k ((j + 0) % 2816)

/-- Window 0's block at a point. -/
theorem blk0 {r k : ℕ} (hr : r < 1024) (hk : k < 2048) :
    rd (m := 1024) (n := 2048) (iblk m c 0 t) r k = X0 m c (1024 * (t.val / 4) + r) (k) := by
  have e := (by decide +kernel : ∀ t : Fin grid0.N, win0_0.index t 0 = t.val / 4 ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 1024 + 1 * r = _; omega
  · show win0_0.index t 1 * 2048 + 1 * k = _; omega

/-- Window 1's block at a point. -/
theorem blk1 {r k : ℕ} (hr : r < 2048) (hk : k < 1408) :
    rd3 (a := 1) (m := 2048) (n := 1408) (iblk m c 1 t) 0 r k = W1 (X1 m c) r (1408 * (t.val % 4) + k) := by
  have e := (by decide +kernel : ∀ t : Fin grid0.N, win0_1.index t 0 = t.val % 4 / 2 + 0 ∧ win0_1.index t 1 = 0 ∧ win0_1.index t 2 = t.val % 4 % 2) t
  rw [rd3_in _ Nat.one_pos hr hk]
  unfold iblk
  rw [View.read_apply]
  show V m c main_arg1 _ = _
  rw [V_main_arg1]
  refine (rd3_of_val (a := 4) (m := 2048) (n := 2816) _ _ ?_ ?_ ?_).symm
  · show win0_1.index t 0 * 1 + 1 * 0 = _; omega
  · show win0_1.index t 1 * 2048 + 1 * r = _; omega
  · show win0_1.index t 2 * 1408 + 1 * k = _; rw [e.2.2]; omega

/-- What the body leaves in the output's block. -/
theorem out_rd {r k : ℕ} (hr : r < 1024) (hk : k < 1408) :
    rd (m := 1024) (n := 1408) (out0_2 (iblk m c 0 t) (iblk m c 1 t)) r k
      = nnN (X0 m c) (W1 (X1 m c)) 2048 (1024 * (t.val / 4) + r) (1408 * (t.val % 4) + k) := by
  unfold out0_2
  rw [View.canon_unit_zero hz2, View.ld_unit_zero (S := S1024x2048) hz2, View.ld_unit_zero (S := S1x2048x1408) hz3]
  unfold k0_pay1
  dsimp only
  rw [rd_matmul_nn _ _ _ _ hr hk]
  exact nnN_congr (fun q hq => blk0 m c t hr hq) (fun q hq => (rd_cast3 _ _ hq hk).trans (blk1 m c t hq hk))

theorem index2 : win0_2.index t 0 = t.val / 4 ∧ win0_2.index t 1 = t.val % 4 :=
  (by decide +kernel : ∀ t : Fin grid0.N, win0_2.index t 0 = t.val / 4 ∧ win0_2.index t 1 = t.val % 4) t

/-- The output array after the run. -/
theorem final2 : (dats m 0 c).arrAt 2 cfg0.N = tab (m := 4096) (n := 5632) (nnN (X0 m c) (W1 (X1 m c)) 2048) := by
  refine (dats m 0 c).arrAt_eq_of_cover 2 _ (fun t hf => ?_) fun i => ?_
  · rw [flushed2]
    funext j
    rw [View.read_apply]
    show out0_2 (iblk m c 0 t) (iblk m c 1 t) j = nnN (X0 m c) (W1 (X1 m c)) 2048 (win0_2.index t 0 * 1024 + 1 * (j 0).val) (win0_2.index t 1 * 1408 + 1 * (j 1).val)
    rw [eq_rd (m := 1024) (n := 1408) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 5632 := (i 1).isLt
    have hN : cfg0.N = 16 := by decide +kernel
    let t : Fin cfg0.N := ⟨4 * ((i 0).val / 1024) + (i 1).val / 1408, by omega⟩
    refine ⟨t, flush0_2 _, ?_⟩
    show i ∈ ((View.whole main_v0).slice (win0_2.rect t)).set
    rw [View.set_slice_whole, Rect.mem_set_unit]
    have hi := index2 t
    have hv : t.val = 4 * ((i 0).val / 1024) + (i 1).val / 1408 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1408 ≤ (i 1).val ∧ (i 1).val < win0_2.index t 1 * 1408 + 1408
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 5632) (nnN (X0 m c) (W1 (X1 m c)) 2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's weights: the column shards side by side. -/
theorem ref_w (x1 : FVec Ideal ⟨3, ![4, 2048, 2816]⟩ .bf16) {r k : ℕ} (hr : r < 2048) (hk : k < 11264) :
    rd (m := 2048) (n := 11264) (Cert.Reference12Ideal.Read.val_main_v3 (F := Ideal) x1) r k = rd3 x1 (k / 2816) r (k % 2816) := by
  rw [rd_in _ hr hk, Cert.Reference12Ideal.Read.val_main_v3_apply, Cert.Reference12Ideal.Read.val_main_v2_apply]
  refine (rd3_of_val (a := 4) (m := 2048) (n := 2816) x1 _ ?_ ?_ ?_).symm
  · show (r * 11264 + k) / 2816 % 4 = _; omega
  · show (r * 11264 + k) / 11264 = _; omega
  · show (r * 11264 + k) % 2816 = _; omega

/-- The reference's result at an entry. -/
theorem ref_rd (x0 : FVec Ideal ⟨2, ![4096, 2048]⟩ .bf16) (x1 : FVec Ideal ⟨3, ![4, 2048, 2816]⟩ .bf16) {r k : ℕ}
    (hr : r < 4096) (hk : k < 5632) :
    rd (m := 4096) (n := 5632) (Cert.Reference12Ideal.Read.val_main_v5 (F := Ideal) x0 x1) r k = nnN (rd x0) (W1 (rd3 x1)) 2048 r k := by
  unfold Cert.Reference12Ideal.Read.val_main_v5 Cert.Reference12Ideal.Read.val_main_v4
  rw [rd_slice _ _ _ hr hk]
  show rd _ (0 + r) (0 + k) = _
  refine (rd_host_nn _ _ _ _ (by omega) (by omega)).trans (nnN_congr (fun q hq => ?_) fun q hq => ?_)
  · rw [Nat.zero_add]; rfl
  · rw [ref_w _ hq (by omega), Nat.add_comm]; rfl

/-- The kernel and the reference — the up projection's gate half — end with equal arrays. -/
theorem algebraic : Cert.algebraic_Kernel12Ideal_Reference12Ideal := by
  intro m ρ m' ρ' _ hag
  refine ⟨_, run m ρ, (θ_run _ _ _).mono (fun _ h c => ⟨(h c).1.trans ?_, (h c).2⟩) (Cert.Reference12Ideal.Value.run m' ρ')⟩
  rw [(hag c).1, (hag c).2]
  exact (Cert.Reference12Ideal.Read.val_main_v5_eq _ _ ).trans (eq_tab fun r k hr hk => ref_rd _ _ hr hk)

/-- The reference's run leaves the arguments as they were; it uses no semaphore. -/
theorem frame_ref : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

end Cert.Mm12

end
-- ==== Proof.Mm13.lean ====
module

public import proofs.«01_k».proof.Proof.Dot
public import proofs.«01_k».proof.Proof.Gen.Kernel13Ideal.Value
public import proofs.«01_k».proof.Proof.Gen.Reference13Ideal.Run
public import proofs.«01_k».proof.Proof.Gen.Reference13Ideal.Read

public import proofs.«01_k».proof.Defs

@[expose] public section

set_option maxRecDepth 16384

noncomputable section

namespace Cert.Mm13

open Cert.Kernel13Ideal Cert.Kernel13Ideal.Gen Cert.Kernel13Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → ℕ → EReal := rd3 (a := 4) (m := 2048) (n := 2816) (m (c.tc.loc main_arg1))
/-- The column shards of this half side by side. -/
def W1 (A : ℕ → ℕ → ℕ → EReal) (k j : ℕ) : EReal := A ((j + 5632) / 2816) k ((j + 5632) % 2816)

/-- Window 0's block at a point. -/
theorem blk0 {r k : ℕ} (hr : r < 1024) (hk : k < 2048) :
    rd (m := 1024) (n := 2048) (iblk m c 0 t) r k = X0 m c (1024 * (t.val / 4) + r) (k) := by
  have e := (by decide +kernel : ∀ t : Fin grid0.N, win0_0.index t 0 = t.val / 4 ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 1024 + 1 * r = _; omega
  · show win0_0.index t 1 * 2048 + 1 * k = _; omega

/-- Window 1's block at a point. -/
theorem blk1 {r k : ℕ} (hr : r < 2048) (hk : k < 1408) :
    rd3 (a := 1) (m := 2048) (n := 1408) (iblk m c 1 t) 0 r k = W1 (X1 m c) r (1408 * (t.val % 4) + k) := by
  have e := (by decide +kernel : ∀ t : Fin grid0.N, win0_1.index t 0 = t.val % 4 / 2 + 2 ∧ win0_1.index t 1 = 0 ∧ win0_1.index t 2 = t.val % 4 % 2) t
  rw [rd3_in _ Nat.one_pos hr hk]
  unfold iblk
  rw [View.read_apply]
  show V m c main_arg1 _ = _
  rw [V_main_arg1]
  refine (rd3_of_val (a := 4) (m := 2048) (n := 2816) _ _ ?_ ?_ ?_).symm
  · show win0_1.index t 0 * 1 + 1 * 0 = _; omega
  · show win0_1.index t 1 * 2048 + 1 * r = _; omega
  · show win0_1.index t 2 * 1408 + 1 * k = _; rw [e.2.2]; omega

/-- What the body leaves in the output's block. -/
theorem out_rd {r k : ℕ} (hr : r < 1024) (hk : k < 1408) :
    rd (m := 1024) (n := 1408) (out0_2 (iblk m c 0 t) (iblk m c 1 t)) r k
      = nnN (X0 m c) (W1 (X1 m c)) 2048 (1024 * (t.val / 4) + r) (1408 * (t.val % 4) + k) := by
  unfold out0_2
  rw [View.canon_unit_zero hz2, View.ld_unit_zero (S := S1024x2048) hz2, View.ld_unit_zero (S := S1x2048x1408) hz3]
  unfold k0_pay1
  dsimp only
  rw [rd_matmul_nn _ _ _ _ hr hk]
  exact nnN_congr (fun q hq => blk0 m c t hr hq) (fun q hq => (rd_cast3 _ _ hq hk).trans (blk1 m c t hq hk))

theorem index2 : win0_2.index t 0 = t.val / 4 ∧ win0_2.index t 1 = t.val % 4 :=
  (by decide +kernel : ∀ t : Fin grid0.N, win0_2.index t 0 = t.val / 4 ∧ win0_2.index t 1 = t.val % 4) t

/-- The output array after the run. -/
theorem final2 : (dats m 0 c).arrAt 2 cfg0.N = tab (m := 4096) (n := 5632) (nnN (X0 m c) (W1 (X1 m c)) 2048) := by
  refine (dats m 0 c).arrAt_eq_of_cover 2 _ (fun t hf => ?_) fun i => ?_
  · rw [flushed2]
    funext j
    rw [View.read_apply]
    show out0_2 (iblk m c 0 t) (iblk m c 1 t) j = nnN (X0 m c) (W1 (X1 m c)) 2048 (win0_2.index t 0 * 1024 + 1 * (j 0).val) (win0_2.index t 1 * 1408 + 1 * (j 1).val)
    rw [eq_rd (m := 1024) (n := 1408) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 5632 := (i 1).isLt
    have hN : cfg0.N = 16 := by decide +kernel
    let t : Fin cfg0.N := ⟨4 * ((i 0).val / 1024) + (i 1).val / 1408, by omega⟩
    refine ⟨t, flush0_2 _, ?_⟩
    show i ∈ ((View.whole main_v0).slice (win0_2.rect t)).set
    rw [View.set_slice_whole, Rect.mem_set_unit]
    have hi := index2 t
    have hv : t.val = 4 * ((i 0).val / 1024) + (i 1).val / 1408 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 1408 ≤ (i 1).val ∧ (i 1).val < win0_2.index t 1 * 1408 + 1408
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 5632) (nnN (X0 m c) (W1 (X1 m c)) 2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's weights: the column shards side by side. -/
theorem ref_w (x1 : FVec Ideal ⟨3, ![4, 2048, 2816]⟩ .bf16) {r k : ℕ} (hr : r < 2048) (hk : k < 11264) :
    rd (m := 2048) (n := 11264) (Cert.Reference13Ideal.Read.val_main_v3 (F := Ideal) x1) r k = rd3 x1 (k / 2816) r (k % 2816) := by
  rw [rd_in _ hr hk, Cert.Reference13Ideal.Read.val_main_v3_apply, Cert.Reference13Ideal.Read.val_main_v2_apply]
  refine (rd3_of_val (a := 4) (m := 2048) (n := 2816) x1 _ ?_ ?_ ?_).symm
  · show (r * 11264 + k) / 2816 % 4 = _; omega
  · show (r * 11264 + k) / 11264 = _; omega
  · show (r * 11264 + k) % 2816 = _; omega

/-- The reference's result at an entry. -/
theorem ref_rd (x0 : FVec Ideal ⟨2, ![4096, 2048]⟩ .bf16) (x1 : FVec Ideal ⟨3, ![4, 2048, 2816]⟩ .bf16) {r k : ℕ}
    (hr : r < 4096) (hk : k < 5632) :
    rd (m := 4096) (n := 5632) (Cert.Reference13Ideal.Read.val_main_v6 (F := Ideal) x0 x1) r k = nnN (rd x0) (W1 (rd3 x1)) 2048 r k := by
  unfold Cert.Reference13Ideal.Read.val_main_v6 Cert.Reference13Ideal.Read.val_main_v4
  rw [rd_slice _ _ _ hr hk]
  show rd _ (0 + r) (5632 + k) = _
  refine (rd_host_nn _ _ _ _ (by omega) (by omega)).trans (nnN_congr (fun q hq => ?_) fun q hq => ?_)
  · rw [Nat.zero_add]; rfl
  · rw [ref_w _ hq (by omega), Nat.add_comm]; rfl

/-- The kernel and the reference — the up projection's value half — end with equal arrays. -/
theorem algebraic : Cert.algebraic_Kernel13Ideal_Reference13Ideal := by
  intro m ρ m' ρ' _ hag
  refine ⟨_, run m ρ, (θ_run _ _ _).mono (fun _ h c => ⟨(h c).1.trans ?_, (h c).2⟩) (Cert.Reference13Ideal.Value.run m' ρ')⟩
  rw [(hag c).1, (hag c).2]
  exact (Cert.Reference13Ideal.Read.val_main_v6_eq _ _ ).trans (eq_tab fun r k hr hk => ref_rd _ _ hr hk)

/-- The reference's run leaves the arguments as they were; it uses no semaphore. -/
theorem frame_ref : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

end Cert.Mm13

end
-- ==== Proof.Mm14.lean ====
module

public import proofs.«01_k».proof.Proof.Dot
public import proofs.«01_k».proof.Proof.Gen.Kernel14Ideal.Value
public import proofs.«01_k».proof.Proof.Gen.Reference14Ideal.Run
public import proofs.«01_k».proof.Proof.Gen.Reference14Ideal.Read

public import proofs.«01_k».proof.Defs

@[expose] public section

set_option maxRecDepth 16384

noncomputable section

namespace Cert.Mm14

open Cert.Kernel14Ideal Cert.Kernel14Ideal.Gen Cert.Kernel14Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 5632) (m (c.tc.loc main_arg0))
abbrev X1 : ℕ → ℕ → EReal := rd (m := 5632) (n := 2048) (m (c.tc.loc main_arg1))
abbrev X2 : ℕ → ℕ → EReal := rd (m := 4096) (n := 2048) (m (c.tc.loc main_arg2))

/-- Window 0's block at a point. -/
theorem blk0 {r k : ℕ} (hr : r < 1024) (hk : k < 1408) :
    rd (m := 1024) (n := 1408) (iblk m c 0 t) r k = X0 m c (1024 * (t.val / 8) + r) (1408 * (t.val % 4) + k) := by
  have e := (by decide +kernel : ∀ t : Fin grid0.N, win0_0.index t 0 = t.val / 8 ∧ win0_0.index t 1 = t.val % 4) t
  rw [rd_in _ hr hk]
  unfold iblk
  rw [View.read_apply]
  show V m c main_arg0 _ = _
  rw [V_main_arg0]
  refine (rd_of_val (m := 4096) (n := 5632) _ _ ?_ ?_).symm
  · show win0_0.index t 0 * 1024 + 1 * r = _; omega
  · show win0_0.index t 1 * 1408 + 1 * k = _; omega

/-- Window 1's block at a point. -/
theorem blk1 {r k : ℕ} (hr : r < 1408) (hk : k < 1024) :
    rd (m := 1408) (n := 1024) (iblk m c 1 t) r k = X1 m c (1408 * (t.val % 4) + r) (1024 * (t.val / 4 % 2) + k) := by
  have e := (by decide +kernel : ∀ t : Fin grid0.N, win0_1.index t 0 = t.val % 4 ∧ win0_1.index t 1 = t.val / 4 % 2) t
  rw [rd_in _ hr hk]
  unfold iblk
  rw [View.read_apply]
  show V m c main_arg1 _ = _
  rw [V_main_arg1]
  refine (rd_of_val (m := 5632) (n := 2048) _ _ ?_ ?_).symm
  · show win0_1.index t 0 * 1408 + 1 * r = _; omega
  · show win0_1.index t 1 * 1024 + 1 * k = _; omega

/-- Window 2's block at a point. -/
theorem blk2 {r k : ℕ} (hr : r < 1024) (hk : k < 1024) :
    rd (m := 1024) (n := 1024) (iblk m c 2 t) r k = X2 m c (1024 * (t.val / 8) + r) (1024 * (t.val / 4 % 2) + k) := by
  have e := (by decide +kernel : ∀ t : Fin grid0.N, win0_2.index t 0 = t.val / 8 ∧ win0_2.index t 1 = t.val / 4 % 2) t
  rw [rd_in _ hr hk]
  unfold iblk
  rw [View.read_apply]
  show V m c main_arg2 _ = _
  rw [V_main_arg2]
  refine (rd_of_val (m := 4096) (n := 2048) _ _ ?_ ?_).symm
  · show win0_2.index t 0 * 1024 + 1 * r = _; omega
  · show win0_2.index t 1 * 1024 + 1 * k = _; omega

/-- The product of a point's blocks: the part of the sum over its stretch of the contracted coordinate. -/
theorem part_rd {r k : ℕ} (hr : r < 1024) (hk : k < 1024) :
    rd (m := 1024) (n := 1024) (k0_pay1 (F := Ideal) (iblk m c 0 t) (iblk m c 1 t)) r k
      = nnN (fun r k => X0 m c r (1408 * (t.val % 4) + k)) (fun k c' => (X1 m c) (1408 * (t.val % 4) + k) c') 1408 (1024 * (t.val / 8) + r) (1024 * (t.val / 4 % 2) + k) := by
  unfold k0_pay1
  dsimp only
  rw [rd_matmul_nn _ _ _ _ hr hk]
  exact nnN_congr (fun q hq => blk0 m c t hr hq) (fun q hq => blk1 m c t hq hk)

/-- The first stretch starts the sum. -/
theorem scr_A (h0 : t.val % 4 = 0) : (outsAt0 m c t.val t.isLt).2 = k0_pay2 (F := Ideal) (iblk m c 0 t) (iblk m c 1 t) := by
  rw [outsAt0_A m c t h0 (by omega) (by omega)]
  dsimp only
  unfold sout0_A_0
  rw [View.read_writes_eq_canon]; swap
  · intro y; apply scover0_A_0
  unfold kernelRun0_A
  dsimp only
  sl_unfold_words
  rw [View.canon_unit_zero hz2]
  simp only [View.readAt_eq_ld, (hs0_0 t).read_unread, (hs0_1 t).read_unread, (hs0_2 t).read_unread, (hs0_3 t).read_unread, (Memref.isWhole_whole _).read_unread, View.ld_unit_zero (S := S1024x1408) hz2, View.ld_unit_zero (S := S1408x1024) hz2, View.ld_unit_zero (S := S1024x1024) hz2]

/-- A stretch in the middle adds its part. -/
theorem scr_B (h0 : 1 ≤ t.val % 4 ∧ t.val % 4 ≤ 2) : (outsAt0 m c t.val t.isLt).2
    = k0_pay3 (F := Ideal) (iblk m c 0 t) (iblk m c 1 t) (outsAt0 m c (t.val - 1) (Nat.lt_of_le_of_lt (Nat.sub_le _ _) t.isLt)).2 := by
  rw [outsAt0_B m c t (by omega) h0 (by omega)]
  dsimp only
  unfold sout0_B_0
  rw [View.read_writes_eq_canon]; swap
  · intro y; apply scover0_B_0
  unfold kernelRun0_B
  dsimp only
  sl_unfold_words
  rw [View.canon_unit_zero hz2]
  simp only [View.readAt_eq_ld, (hs0_0 t).read_unread, (hs0_1 t).read_unread, (hs0_2 t).read_unread, (hs0_3 t).read_unread, (Memref.isWhole_whole _).read_unread, View.ld_unit_zero (S := S1024x1408) hz2, View.ld_unit_zero (S := S1408x1024) hz2, View.ld_unit_zero (S := S1024x1024) hz2]

/-- The last stretch adds its part and the sum is the output. -/
theorem out_L (h0 : t.val % 4 = 3) : (outsAt0 m c t.val t.isLt).1
    = k0_pay4 (F := Ideal) (iblk m c 0 t) (iblk m c 1 t) (outsAt0 m c (t.val - 1) (Nat.lt_of_le_of_lt (Nat.sub_le _ _) t.isLt)).2 (iblk m c 2 t) := by
  rw [outsAt0_C m c t (by omega) (by omega) h0]
  dsimp only
  unfold out0_C_3
  rw [View.read_writes_eq_canon]; swap
  · intro y; apply cover0_C_3
  unfold kernelRun0_C
  dsimp only
  sl_unfold_words
  rw [View.canon_unit_zero hz2]
  simp only [View.readAt_eq_ld, (hs0_0 t).read_unread, (hs0_1 t).read_unread, (hs0_2 t).read_unread, (hs0_3 t).read_unread, (Memref.isWhole_whole _).read_unread, View.ld_unit_zero (S := S1024x1408) hz2, View.ld_unit_zero (S := S1408x1024) hz2, View.ld_unit_zero (S := S1024x1024) hz2]

/-- What the scratch holds after a point: the sum so far. -/
theorem scr_rd (q : ℕ) (hq : q < 3) : ∀ (n : ℕ) (hn : n < cfg0.N) (_ : n % 4 = q) {r k : ℕ} (_ : r < 1024) (_ : k < 1024),
    rd (m := 1024) (n := 1024) (outsAt0 m c n hn).2 r k = nnN (X0 m c) (X1 m c) (1408 * (q + 1)) (1024 * (n / 8) + r) (1024 * (n / 4 % 2) + k) := by
  induction q with
  | zero =>
    intro n hn h0 r k hr hk
    rw [scr_A m c ⟨n, hn⟩ h0]
    unfold k0_pay2
    rw [shapeCast_self, part_rd m c ⟨n, hn⟩ hr hk]
    refine nnN_congr (fun j _ => ?_) (fun j _ => ?_)
    · dsimp only; rw [h0]; congr 1; omega
    · dsimp only; rw [h0]; congr 1; omega
  | succ q ih =>
    intro n hn h0 r k hr hk
    rw [scr_B m c ⟨n, hn⟩ ⟨by show 1 ≤ n % 4; omega, by show n % 4 ≤ 2; omega⟩]
    unfold k0_pay3
    dsimp only
    rw [shapeCast_self, rd_addf, part_rd m c ⟨n, hn⟩ hr hk, ih (by omega) (n - 1) (Nat.lt_of_le_of_lt (Nat.sub_le _ _) hn) (by omega) hr hk,
      show (n - 1) / 8 = n / 8 by omega, show (n - 1) / 4 = n / 4 by omega, show 1408 * (q + 1 + 1) = 1408 * (q + 1) + 1408 by omega, ← nnN_add]
    dsimp only
    rw [h0]

/-- The product with the residual added. -/
def outN (A B R : ℕ → ℕ → EReal) (r k : ℕ) : EReal := R r k + nnN A B 5632 r k

/-- What the body leaves in the output's block at the last stretch. -/
theorem out_rd (h0 : t.val % 4 = 3) {r k : ℕ} (hr : r < 1024) (hk : k < 1024) :
    rd (m := 1024) (n := 1024) (outsAt0 m c t.val t.isLt).1 r k = outN (X0 m c) (X1 m c) (X2 m c) (1024 * (t.val / 8) + r) (1024 * (t.val / 4 % 2) + k) := by
  rw [out_L m c t h0]
  unfold k0_pay4
  dsimp only
  rw [rd_addf, rd_addf, blk2 m c t hr hk, part_rd m c t hr hk, scr_rd m c 2 (by omega) (t.val - 1) (Nat.lt_of_le_of_lt (Nat.sub_le _ _) t.isLt) (by omega) hr hk,
    show (t.val - 1) / 8 = t.val / 8 by omega, show (t.val - 1) / 4 = t.val / 4 by omega, h0]
  unfold outN
  exact congrArg (X2 m c _ _ + ·) (nnN_add _ _ 4224 1408 _ _)

theorem index3 : win0_3.index t 0 = t.val / 8 ∧ win0_3.index t 1 = t.val / 4 % 2 :=
  (by decide +kernel : ∀ t : Fin grid0.N, win0_3.index t 0 = t.val / 8 ∧ win0_3.index t 1 = t.val / 4 % 2) t

/-- The output array after the run. -/
theorem final3 : (dats m 0 c).arrAt 3 cfg0.N = tab (m := 4096) (n := 2048) (outN (X0 m c) (X1 m c) (X2 m c)) := by
  refine (dats m 0 c).arrAt_eq_of_cover 3 _ (fun t hf => ?_) fun i => ?_
  · rw [flushed3]
    funext j
    rw [View.read_apply]
    show (outsAt0 m c t.val t.isLt).1 j = outN (X0 m c) (X1 m c) (X2 m c) (win0_3.index t 0 * 1024 + 1 * (j 0).val) (win0_3.index t 1 * 1024 + 1 * (j 1).val)
    rw [eq_rd (m := 1024) (n := 1024) ((outsAt0 m c t.val t.isLt).1) j, out_rd m c t ((flush0_3 t).mp hf) (j 0).isLt (j 1).isLt]
    have hi := index3 t
    rw [hi.1, hi.2]
    congr 1 <;> omega
  · have h0 : (i 0).val < 4096 := (i 0).isLt
    have h1 : (i 1).val < 2048 := (i 1).isLt
    have hN : cfg0.N = 32 := by decide +kernel
    let t : Fin cfg0.N := ⟨8 * ((i 0).val / 1024) + (4 * ((i 1).val / 1024) + 3), by omega⟩
    refine ⟨t, (flush0_3 t).mpr (by show (8 * ((i 0).val / 1024) + (4 * ((i 1).val / 1024) + 3)) % 4 = 3; omega), ?_⟩
    show i ∈ ((View.whole main_v0).slice (win0_3.rect t)).set
    rw [View.set_slice_whole, Rect.mem_set_unit]
    have hi := index3 t
    have hv : t.val = 8 * ((i 0).val / 1024) + (4 * ((i 1).val / 1024) + 3) := rfl
    intro a
    match a with
    | ⟨0, _⟩ => show win0_3.index t 0 * 1024 ≤ (i 0).val ∧ (i 0).val < win0_3.index t 0 * 1024 + 1024
                rw [hi.1]; omega
    | ⟨1, _⟩ => show win0_3.index t 1 * 1024 ≤ (i 1).val ∧ (i 1).val < win0_3.index t 1 * 1024 + 1024
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (outN (X0 m c) (X1 m c) (X2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (run_blocks m ρ)

/-- The reference's result at an entry. -/
theorem ref_rd (x0 : FVec Ideal ⟨2, ![4096, 5632]⟩ .bf16) (x1 : FVec Ideal ⟨2, ![5632, 2048]⟩ .bf16) (x2 : FVec Ideal ⟨2, ![4096, 2048]⟩ .f32)
    {r k : ℕ} (hr : r < 4096) (hk : k < 2048) :
    rd (m := 4096) (n := 2048) (Cert.Reference14Ideal.Read.val_main_v3 (F := Ideal) x0 x1 x2) r k = outN (rd x0) (rd x1) (rd x2) r k := by
  unfold Cert.Reference14Ideal.Read.val_main_v3 Cert.Reference14Ideal.Read.val_main_v2
  exact (rd_addf _ _ _ _).trans (congrArg (rd x2 r k + ·) (rd_host_nn _ _ _ _ hr hk))

/-- The kernel and the reference — the down projection with the residual — end with equal arrays. -/
theorem algebraic : Cert.algebraic_Kernel14Ideal_Reference14Ideal := by
  intro m ρ m' ρ' _ hag
  refine ⟨_, run m ρ, (θ_run _ _ _).mono (fun _ h c => ⟨(h c).1.trans ?_, (h c).2⟩) (Cert.Reference14Ideal.Value.run m' ρ')⟩
  rw [(hag c).1, (hag c).2.1, (hag c).2.2]
  exact (Cert.Reference14Ideal.Read.val_main_v3_eq _ _ _ ).trans (eq_tab fun r k hr hk => ref_rd _ _ _ hr hk)

/-- The reference's run leaves the arguments as they were; it uses no semaphore. -/
theorem frame_ref : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

end Cert.Mm14

end
-- ==== Proof.Norm.lean ====
/- The normalisation by the root mean square, over the extended reals: reads of the operations its programs print, and the
   identity between the gradient the kernels compute and the one that differentiating the formula gives. -/
module

public import proofs.«01_k».proof.Proof.Dot

@[expose] public section

noncomputable section

namespace Cert.Rd

open Idealize.ShloMosaic

section Reads
variable {m n : ℕ} {φ : FTy} {r c : ℕ}

theorem rd_subf (x y : FVec Ideal ⟨2, ![m, n]⟩ φ) (hr : r < m) (hc : c < n) : rd (subf x y) r c = rd x r c - rd y r c := by
  rw [rd_in _ hr hc, rd_in x hr hc, rd_in y hr hc]; rfl
theorem rd_divf (x y : FVec Ideal ⟨2, ![m, n]⟩ φ) (hr : r < m) (hc : c < n) :
    rd (divf x y) r c = Ideal.div (rd x r c) (rd y r c) := by
  rw [rd_in _ hr hc, rd_in x hr hc, rd_in y hr hc]; rfl
theorem rd_hostDivf (x y : FVec Ideal ⟨2, ![m, n]⟩ φ) (hr : r < m) (hc : c < n) :
    rd (Host.divf x y) r c = Ideal.div (rd x r c) (rd y r c) := by
  rw [rd_in _ hr hc, rd_in x hr hc, rd_in y hr hc]; rfl
theorem rd_rsqrt (x : FVec Ideal ⟨2, ![m, n]⟩ φ) (hr : r < m) (hc : c < n) : rd (rsqrt x) r c = Ideal.rsqrt (rd x r c) := by
  rw [rd_in _ hr hc, rd_in x hr hc]; rfl
theorem rd_hostRsqrt (x : FVec Ideal ⟨2, ![m, n]⟩ φ) (hr : r < m) (hc : c < n) :
    rd (Host.rsqrt x) r c = Ideal.rsqrt (rd x r c) := by
  rw [rd_in _ hr hc, rd_in x hr hc]; rfl

theorem rd_exp (x : FVec Ideal ⟨2, ![m, n]⟩ φ) (hr : r < m) (hc : c < n) : rd (exp x) r c = Ideal.exp (rd x r c) := by
  rw [rd_in _ hr hc, rd_in x hr hc]; rfl
theorem rd_hostExp (x : FVec Ideal ⟨2, ![m, n]⟩ φ) (hr : r < m) (hc : c < n) : rd (Host.exp x) r c = Ideal.exp (rd x r c) := by
  rw [rd_in _ hr hc, rd_in x hr hc]; rfl
theorem rd_hostNegf (x : FVec Ideal ⟨2, ![m, n]⟩ φ) (hr : r < m) (hc : c < n) : rd (Host.negf x) r c = -rd x r c := by
  rw [rd_in _ hr hc, rd_in x hr hc]; rfl

/-- A vector laid as a matrix of one column. -/
theorem rd_column (x : (⟨1, ![m]⟩ : Shape).Idx → EReal) (h : (⟨1, ![m]⟩ : Shape).ShapeCasts ⟨2, ![m, 1]⟩) (hr : r < m) :
    rd (shapeCast ⟨2, ![m, 1]⟩ x h) r 0 = rd1 x r := by
  rw [rd_in _ hr Nat.one_pos, rd1_in _ hr]
  refine shapeCast_apply x h _ _ ?_
  rw [Shape.rowMajor_val_two, Shape.rowMajor_val_one]
  show r = r * 1 + 0
  omega

/-- One column broadcast across the columns. -/
theorem rd_broadcastCol (x : (⟨2, ![m, 1]⟩ : Shape).Idx → EReal) (h : (⟨2, ![m, 1]⟩ : Shape).Broadcasts ⟨2, ![m, n]⟩)
    (hr : r < m) (hc : c < n) : rd (broadcastTo ⟨2, ![m, n]⟩ x h) r c = rd x r 0 := by
  rw [rd_in _ hr hc, Pointwise.broadcastTo_apply]
  refine (rd_of_val x _ ?_ rfl).symm
  rw [Shape.Idx.norm_def]
  dsimp only
  split
  · rename_i h1
    have h1 : m = 1 := h1
    show 0 = r; omega
  · rfl

/-- A vector laid across the columns, by the host. -/
theorem rd_bcastColVec (x : (⟨1, ![m]⟩ : Shape).Idx → EReal)
    (h : (⟨1, ![m]⟩ : Shape).BroadcastsInDim ⟨2, ![m, n]⟩ ![0]) (hr : r < m) (hc : c < n) :
    rd (broadcastInDim ⟨2, ![m, n]⟩ ![0] h x) r c = rd1 x r := by
  rw [rd_in _ hr hc, rd1_in _ hr, Pointwise.broadcastInDim_apply, Shape.Idx.norm_def]
  congr 1
  funext a
  match a with
  | ⟨0, _⟩ =>
    apply Fin.ext
    dsimp only
    split
    · rename_i h1
      have h1 : m = 1 := h1
      show 0 = r; omega
    · rfl

/-- One column broadcast across the columns, by the host. -/
theorem rd_bcastCol (x : (⟨2, ![m, 1]⟩ : Shape).Idx → EReal)
    (h : (⟨2, ![m, 1]⟩ : Shape).BroadcastsInDim ⟨2, ![m, n]⟩ ![0, 1]) (hr : r < m) (hc : c < n) :
    rd (broadcastInDim ⟨2, ![m, n]⟩ ![0, 1] h x) r c = rd x r 0 := by
  rw [rd_in _ hr hc, Pointwise.broadcastInDim_apply, Shape.Idx.norm_def]
  refine (rd_of_val x _ ?_ rfl).symm
  dsimp only
  split
  · rename_i h1
    have h1 : m = 1 := h1
    show 0 = r; omega
  · rfl

/-- The sum along a row. -/
theorem rd1_sumCols (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (hr : r < m) :
    rd1 (multiReduction .add [1] ⟨1, ![m]⟩ x acc h hφ hacc) r = ∑ k ∈ Finset.range n, rd x r k := by
  rw [rd1_in _ hr, Ideal.multiReduction_add_single, Finset.sum_range]
  refine Finset.sum_congr rfl fun k _ => (rd_of_val x _ ?_ ?_).symm
  · rfl
  · rfl

/-- The host's sum along a row. -/
theorem rd1_hostSumCols {u : Shape} (x : FVec Ideal ⟨2, ![m, n]⟩ φ) (init : u.Idx → Ideal φ)
    (h' : (⟨2, ![m, n]⟩ : Shape).ReducesTo [1] ⟨1, ![m]⟩) (hu : 0 < u.numel) (hr : r < m) :
    rd1 (Host.reduceAdd x init h' hu) r = init (Shape.Idx.first hu) + ∑ k ∈ Finset.range n, rd x r k := by
  rw [rd1_in _ hr, Host.reduceAdd_apply, Ideal.hostReduceAdd_def, Finset.sum_range]
  have h : (⟨2, ![m, n]⟩ : Shape).Reduces [1] ⟨1, ![m]⟩ := ⟨h'.1, Nat.one_pos, h'.2⟩
  rw [Ideal.hostReduceAdd_single h' h]
  congr 1
  refine Finset.sum_congr rfl fun k _ => (rd_of_val x _ ?_ ?_).symm
  · rfl
  · rfl

end Reads

section Tiles
variable {a b m n : ℕ} {φ : FTy} {p r c : ℕ}

/-- A matrix cut into tiles of rows. -/
theorem rd3_split (x : (⟨2, ![m, n]⟩ : Shape).Idx → EReal) (h : (⟨2, ![m, n]⟩ : Shape).ShapeCasts ⟨3, ![a, b, n]⟩)
    (hm : a * b = m) (hp : p < a) (hr : r < b) (hc : c < n) :
    rd3 (shapeCast ⟨3, ![a, b, n]⟩ x h) p r c = rd x (p * b + r) c := by
  have hq : p * b + r < m := by
    have : (p + 1) * b ≤ a * b := Nat.mul_le_mul_right b hp
    rw [Nat.succ_mul] at this; omega
  rw [rd3_in _ hp hr hc, rd_in _ hq hc]
  refine shapeCast_apply x h _ _ ?_
  rw [Shape.rowMajor_val_three, Shape.rowMajor_val_two]
  rfl

/-- Tiles of rows one under the other. -/
theorem rd_join (x : (⟨3, ![a, b, n]⟩ : Shape).Idx → EReal) (h : (⟨3, ![a, b, n]⟩ : Shape).ShapeCasts ⟨2, ![m, n]⟩)
    (hm : a * b = m) (hr : r < m) (hc : c < n) :
    rd (shapeCast ⟨2, ![m, n]⟩ x h) r c = rd3 x (r / b) (r % b) c := by
  have hb : 0 < b := Nat.pos_of_ne_zero fun h0 => by subst h0; omega
  have hp : r / b < a := Nat.div_lt_of_lt_mul (by rw [Nat.mul_comm]; omega)
  have hq := Nat.mod_lt r hb
  rw [rd3_in _ hp hq hc, rd_in _ hr hc]
  refine shapeCast_apply x h _ _ ?_
  rw [Shape.rowMajor_val_three, Shape.rowMajor_val_two]
  show (r / b * b + r % b) * n + c = r * n + c
  rw [Nat.div_add_mod']

/-- The host's sum over each tile's rows. -/
theorem rd_hostSumTile {u : Shape} (x : FVec Ideal ⟨3, ![a, b, n]⟩ φ) (init : u.Idx → Ideal φ)
    (h' : (⟨3, ![a, b, n]⟩ : Shape).ReducesTo [1] ⟨2, ![a, n]⟩) (hu : 0 < u.numel) (hp : p < a) (hc : c < n) :
    rd (Host.reduceAdd x init h' hu) p c = init (Shape.Idx.first hu) + ∑ k ∈ Finset.range b, rd3 x p k c := by
  rw [rd_in _ hp hc, Host.reduceAdd_apply, Ideal.hostReduceAdd_def, Finset.sum_range]
  have h : (⟨3, ![a, b, n]⟩ : Shape).Reduces [1] ⟨2, ![a, n]⟩ := ⟨h'.1, Nat.succ_pos _, h'.2⟩
  rw [Ideal.hostReduceAdd_single h' h]
  congr 1
  refine Finset.sum_congr rfl fun k _ => (rd3_of_val x _ ?_ ?_ ?_).symm
  · rfl
  · rfl
  · rfl

/-- A matrix laid as tiles of one row. -/
theorem rd3_rows (x : (⟨2, ![a, n]⟩ : Shape).Idx → EReal)
    (h : (⟨2, ![a, n]⟩ : Shape).BroadcastsInDim ⟨3, ![a, 1, n]⟩ ![0, 2]) (hp : p < a) (hc : c < n) :
    rd3 (broadcastInDim ⟨3, ![a, 1, n]⟩ ![0, 2] h x) p 0 c = rd x p c := by
  rw [rd3_in _ hp Nat.one_pos hc, Pointwise.broadcastInDim_apply, Shape.Idx.norm_def]
  refine (rd_of_val x _ ?_ ?_).symm
  · dsimp only
    split
    · rename_i h1
      have h1 : a = 1 := h1
      show 0 = p; omega
    · rfl
  · dsimp only
    split
    · rename_i h1
      have h1 : n = 1 := h1
      show 0 = c; omega
    · rfl

/-- A scalar broadcast over a stack. -/
theorem rd3_bcastScalar (x : (⟨0, ![]⟩ : Shape).Idx → EReal) (h : (⟨0, ![]⟩ : Shape).BroadcastsInDim ⟨3, ![a, m, n]⟩ ![])
    (v : EReal) (hx : ∀ i, x i = v) (hp : p < a) (hr : r < m) (hc : c < n) :
    rd3 (broadcastInDim ⟨3, ![a, m, n]⟩ ![] h x) p r c = v := by
  rw [rd3_in _ hp hr hc, Pointwise.broadcastInDim_apply, hx]

/-- Tiles joined along their rows. -/
theorem rd3_concat_left {b₁ b₂ : ℕ} (x : (⟨3, ![a, b₁, n]⟩ : Shape).Idx → EReal) (y : (⟨3, ![a, b₂, n]⟩ : Shape).Idx → EReal)
    (h : Shape.Concatenates [⟨3, ![a, b₁, n]⟩, ⟨3, ![a, b₂, n]⟩] ⟨3, ![a, b, n]⟩ 1) (hp : p < a) (hr : r < b₁) (hc : c < n) :
    rd3 (concatenate ⟨3, ![a, b, n]⟩ 1 [⟨⟨3, ![a, b₁, n]⟩, x⟩, ⟨⟨3, ![a, b₂, n]⟩, y⟩] h) p r c = rd3 x p r c := by
  have hn : b₁ + b₂ = b := by have := h.2.2; simpa using this
  rw [rd3_in _ hp (by omega : r < b) hc, rd3_in x hp hr hc]
  refine concatenate_pair_apply_left 1 x y h _ rfl _ fun k => ?_
  match k with
  | ⟨0, _⟩ => rfl
  | ⟨1, _⟩ => rfl
  | ⟨2, _⟩ => rfl
theorem rd3_concat_right {b₁ b₂ : ℕ} (x : (⟨3, ![a, b₁, n]⟩ : Shape).Idx → EReal) (y : (⟨3, ![a, b₂, n]⟩ : Shape).Idx → EReal)
    (h : Shape.Concatenates [⟨3, ![a, b₁, n]⟩, ⟨3, ![a, b₂, n]⟩] ⟨3, ![a, b, n]⟩ 1) (hp : p < a) (hr : r < b₂) (hc : c < n) :
    rd3 (concatenate ⟨3, ![a, b, n]⟩ 1 [⟨⟨3, ![a, b₁, n]⟩, x⟩, ⟨⟨3, ![a, b₂, n]⟩, y⟩] h) p (b₁ + r) c = rd3 y p r c := by
  have hn : b₁ + b₂ = b := by have := h.2.2; simpa using this
  rw [rd3_in _ hp (by omega : b₁ + r < b) hc, rd3_in y hp hr hc]
  refine concatenate_pair_apply_right 1 x y h _ rfl rfl _ (fun k hk => ?_) (Nat.add_comm r b₁)
  match k with
  | ⟨0, _⟩ => rfl
  | ⟨1, _⟩ => exact absurd rfl hk
  | ⟨2, _⟩ => rfl

end Tiles

/-! ## The constants -/

/-- The width 2048. -/
abbrev cD : EReal := Ideal.ofBits .f32 0x45000000#32
/-- The 10⁻⁶ added to the mean square, as its float word gives it. -/
abbrev cE : EReal := Ideal.ofBits .f32 0x358637BD#32
/-- -1/2. -/
abbrev cH : EReal := Ideal.ofBits .f32 0xBF000000#32

theorem cD_eq : cD = ((2048 : ℝ) : EReal) := by simp [Ideal.ofBits, Ideal.ieee, -EReal.coe_mul]; norm_num
theorem cH_eq : cH = ((-(1 / 2) : ℝ) : EReal) := by simp [Ideal.ofBits, Ideal.ieee, -EReal.coe_mul]; norm_num
theorem cE_pos : ∃ e : ℝ, 0 < e ∧ cE = (e : EReal) := by
  refine ⟨_, ?_, by simp [Ideal.ofBits, Ideal.ieee, -EReal.coe_mul]; rfl⟩
  norm_num

theorem c1_eq : Ideal.ofBits .f32 0x3F800000#32 = (1 : EReal) := by simp [Ideal.ofBits, Ideal.ieee, -EReal.coe_mul]; norm_num
theorem c2_eq : Ideal.ofBits .f32 0x40000000#32 = ((2 : ℝ) : EReal) := by simp [Ideal.ofBits, Ideal.ieee, -EReal.coe_mul]; norm_num
theorem cHalf_eq : Ideal.ofBits .f32 0x3F000000#32 = ((1 / 2 : ℝ) : EReal) := by simp [Ideal.ofBits, Ideal.ieee, -EReal.coe_mul]; norm_num
theorem cInv_eq : Ideal.ofBits .f32 0x3A000000#32 = ((1 / 2048 : ℝ) : EReal) := by simp [Ideal.ofBits, Ideal.ieee, -EReal.coe_mul]; norm_num
theorem cInv2_eq : Ideal.ofBits .f32 0x39800000#32 = ((1 / 4096 : ℝ) : EReal) := by simp [Ideal.ofBits, Ideal.ieee, -EReal.coe_mul]; norm_num

/-- The logistic function. -/
def sgm (z : EReal) : EReal := Ideal.div 1 (1 + Ideal.exp (-z))

/-! ## The identity -/

theorem sq_nonneg' (x : EReal) : 0 ≤ x * x := by
  rcases le_total 0 x with h | h
  · exact mul_nonneg h h
  · have h' : 0 ≤ -x := by rwa [EReal.neg_nonneg]
    have := mul_nonneg h' h'
    rwa [neg_mul_neg] at this

theorem add_self' (e : EReal) : e + e = e * ((2 : ℝ) : EReal) := by
  induction e with
  | bot => rw [EReal.bot_mul_coe_of_pos (by norm_num)]; rfl
  | top => rw [EReal.top_mul_coe_of_pos (by norm_num)]; rfl
  | coe x => rw [← EReal.coe_add, ← EReal.coe_mul]; congr 1; ring

theorem sum_mul_coe {ι : Type} (s : Finset ι) (f : ι → EReal) {k : ℝ} (hk : 0 ≤ k) :
    ∑ i ∈ s, f i * (k : EReal) = (∑ i ∈ s, f i) * (k : EReal) := by
  classical
  induction s using Finset.induction_on with
  | empty => simp
  | insert i s hi ih =>
    rw [Finset.sum_insert hi, Finset.sum_insert hi, ih,
      EReal.right_distrib_of_nonneg_of_ne_top (by exact_mod_cast hk) (EReal.coe_ne_top k)]

/-- The mean square of row r, shifted. -/
def msq (X : ℕ → ℕ → EReal) (n r : ℕ) : EReal := Ideal.div (∑ k ∈ Finset.range n, X r k * X r k) cD + cE
/-- The reciprocal root of it. -/
def rrms (X : ℕ → ℕ → EReal) (n r : ℕ) : EReal := Ideal.rsqrt (msq X n r)

theorem msq_cases (X : ℕ → ℕ → EReal) (n r : ℕ) :
    (msq X n r = ⊤ ∧ rrms X n r = 0)
      ∨ ∃ t : ℝ, 0 < t ∧ msq X n r = (t : EReal) ∧ rrms X n r = (((Real.sqrt t)⁻¹ : ℝ) : EReal) := by
  obtain ⟨e, he, hE⟩ := cE_pos
  have hs : 0 ≤ ∑ k ∈ Finset.range n, X r k * X r k := Finset.sum_nonneg fun _ _ => sq_nonneg' _
  have hd : 0 ≤ Ideal.div (∑ k ∈ Finset.range n, X r k * X r k) cD := by
    rw [cD_eq, Ideal.div_coe (by norm_num)]
    exact mul_nonneg hs (by exact_mod_cast (by norm_num : (0 : ℝ) ≤ 1 / 2048))
  have hm : msq X n r = Ideal.div (∑ k ∈ Finset.range n, X r k * X r k) cD + (e : EReal) := by rw [← hE]; rfl
  generalize Ideal.div (∑ k ∈ Finset.range n, X r k * X r k) cD = d at hd hm
  induction d with
  | bot => exact absurd hd (by simp)
  | top =>
    left
    have : msq X n r = ⊤ := by rw [hm]; rfl
    exact ⟨this, by unfold rrms; rw [this]; rfl⟩
  | coe d =>
    right
    have hd' : 0 ≤ d := by exact_mod_cast hd
    refine ⟨d + e, by linarith, by rw [hm, EReal.coe_add], ?_⟩
    unfold rrms
    rw [hm, ← EReal.coe_add, Ideal.rsqrt_coe, if_neg (by linarith), if_neg (by linarith)]

/-- The gradient through the normalisation, as the kernels compute it, of the product of the incoming gradient with the gain. -/
def dxK (X W : ℕ → ℕ → EReal) (n r c : ℕ) : EReal :=
  rrms X n r * (W r c - X r c * rrms X n r * Ideal.div (∑ k ∈ Finset.range n, W r k * (X r k * rrms X n r)) cD)

/-- The factor of x that differentiating the mean square gives. -/
def dms (X W : ℕ → ℕ → EReal) (n r : ℕ) : EReal :=
  Ideal.div ((∑ k ∈ Finset.range n, X r k * W r k) * (cH * Ideal.div (rrms X n r) (msq X n r))) cD

/-- The gradient as differentiating the formula gives it. -/
theorem dxK_eq (X W : ℕ → ℕ → EReal) (n r c : ℕ) :
    W r c * rrms X n r + X r c * dms X W n r + dms X W n r * X r c = dxK X W n r c := by
  unfold dxK dms
  rcases msq_cases X n r with ⟨hm, hr⟩ | ⟨t, ht, hm, hr⟩
  · have h0 : Ideal.div 0 ⊤ = 0 := by simp [Ideal.div]
    rw [hr, hm, h0, cD_eq, Ideal.div_coe (by norm_num)]
    simp only [zero_mul, mul_zero, add_zero]
  · rw [hr, hm]
    have hq : 0 < Real.sqrt t := Real.sqrt_pos.mpr ht
    have hρ : 0 ≤ (Real.sqrt t)⁻¹ := (inv_pos.mpr hq).le
    have hsq : (Real.sqrt t)⁻¹ * (Real.sqrt t)⁻¹ = t⁻¹ := by
      rw [← mul_inv, Real.mul_self_sqrt ht.le]
    generalize (Real.sqrt t)⁻¹ = ρ at hρ hsq
    have hsum : ∑ k ∈ Finset.range n, W r k * (X r k * (ρ : EReal)) = (∑ k ∈ Finset.range n, X r k * W r k) * (ρ : EReal) := by
      rw [← sum_mul_coe _ _ hρ]
      exact Finset.sum_congr rfl fun k _ => by rw [← mul_assoc, mul_comm (W r k)]
    rw [hsum]
    generalize ∑ k ∈ Finset.range n, X r k * W r k = A
    rw [cD_eq, cH_eq, Ideal.div_coe (y := 2048) (by norm_num), Ideal.div_coe (y := 2048) (by norm_num), Ideal.div_coe ht.ne',
      sub_eq_add_neg, EReal.left_distrib_of_nonneg_of_ne_top (by exact_mod_cast hρ) (EReal.coe_ne_top ρ),
      add_assoc, mul_comm (W r c)]
    congr 1
    have e1 : (ρ : EReal) * -(X r c * ρ * (A * ρ * ((1 / 2048 : ℝ) : EReal)))
        = X r c * A * ((-(ρ * ρ * ρ * (1 / 2048)) : ℝ) : EReal) := by
      rw [EReal.coe_neg, mul_neg, mul_neg]
      simp only [EReal.coe_mul]
      ac_rfl
    have e2 : X r c * (A * (((-(1 / 2) : ℝ) : EReal) * ((ρ : EReal) * ((1 / t : ℝ) : EReal))) * ((1 / 2048 : ℝ) : EReal))
        = X r c * A * ((-(1 / 2) * ρ * (1 / t) * (1 / 2048) : ℝ) : EReal) := by
      simp only [EReal.coe_mul]
      ac_rfl
    rw [mul_comm _ (X r c), e1, e2, add_self', mul_assoc, ← EReal.coe_mul]
    congr 2
    rw [one_div t, ← hsq]; ring

theorem rrms_congr {X X' : ℕ → ℕ → EReal} {n r r' : ℕ} (h : ∀ k < n, X r k = X' r' k) : rrms X n r = rrms X' n r' := by
  unfold rrms msq
  rw [Finset.sum_congr rfl fun k hk => by rw [h k (Finset.mem_range.mp hk)]]

/-- The normalised matrix times the gain. -/
def normN (X : ℕ → ℕ → EReal) (G : ℕ → EReal) (n r c : ℕ) : EReal := X r c * rrms X n r * G c

/-- The sums of a matrix over each tile of b rows, each the first of eight rows, the others zero. -/
def partN (V : ℕ → ℕ → EReal) (b r c : ℕ) : EReal := if r % 8 = 0 then ∑ k ∈ Finset.range b, V (b * (r / 8) + k) c else 0

/-- Two matrices' sums over each tile of b rows, the first and the second of eight rows. -/
def partN2 (V U : ℕ → ℕ → EReal) (b r c : ℕ) : EReal :=
  if r % 8 = 0 then ∑ k ∈ Finset.range b, V (b * (r / 8) + k) c
  else if r % 8 = 1 then ∑ k ∈ Finset.range b, U (b * (r / 8) + k) c else 0

/-! ## The kernels' steps -/

section Kernel
variable {m n : ℕ} {r c : ℕ}

/-- The reciprocal root of a tile's mean squares. -/
theorem rd_rms (x : FVec Ideal ⟨2, ![m, n]⟩ .f32) (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) (hr : r < m) :
    rd (rsqrt (addf (divf (shapeCast ⟨2, ![m, 1]⟩ (multiReduction .add [1] ⟨1, ![m]⟩ (mulf x x) 0x00000000#32 h hφ hacc) hs)
        (broadcast ⟨2, ![m, 1]⟩ (Scalar.ofBits (F := Ideal) .f32 0x45000000#32)))
        (broadcast ⟨2, ![m, 1]⟩ (Scalar.ofBits (F := Ideal) .f32 0x358637BD#32)))) r 0 = rrms (rd x) n r := by
  rw [rd_rsqrt _ hr Nat.one_pos, rd_addf, rd_divf _ _ hr Nat.one_pos, rd_column _ _ hr, rd1_sumCols _ _ _ _ _ hr,
    rd_broadcast _ hr Nat.one_pos, rd_broadcast _ hr Nat.one_pos]
  simp only [rd_mulf]
  rfl

/-- The gradient through the normalisation of a tile. -/
theorem rd_dx (w xh : FVec Ideal ⟨2, ![m, n]⟩ .f32) (rr : FVec Ideal ⟨2, ![m, 1]⟩ .f32)
    (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) (hb hb' : (⟨2, ![m, 1]⟩ : Shape).Broadcasts ⟨2, ![m, n]⟩)
    {X W : ℕ → ℕ → EReal} {R : ℕ} (hrr : rd rr r 0 = rrms X n R) (hw : ∀ k < n, rd w r k = W R k)
    (hx : ∀ k < n, rd xh r k = X R k * rrms X n R) (hr : r < m) (hc : c < n) :
    rd (mulf (broadcastTo ⟨2, ![m, n]⟩ rr hb) (subf w (mulf xh (broadcastTo ⟨2, ![m, n]⟩
        (divf (shapeCast ⟨2, ![m, 1]⟩ (multiReduction .add [1] ⟨1, ![m]⟩ (mulf w xh) 0x00000000#32 h hφ hacc) hs)
          (broadcast ⟨2, ![m, 1]⟩ (Scalar.ofBits (F := Ideal) .f32 0x45000000#32))) hb')))) r c = dxK X W n R c := by
  rw [rd_mulf, rd_broadcastCol _ _ hr hc, rd_subf _ _ hr hc, rd_mulf, rd_broadcastCol _ _ hr hc,
    rd_divf _ _ hr Nat.one_pos, rd_column _ _ hr, rd1_sumCols _ _ _ _ _ hr, rd_broadcast _ hr Nat.one_pos,
    Finset.sum_congr rfl fun k hk => by rw [rd_mulf, hw k (Finset.mem_range.mp hk), hx k (Finset.mem_range.mp hk)],
    hrr, hw c hc, hx c hc]
  rfl

/-- A tile's column sums above seven rows of zeros. -/
theorem rd_part (v : FVec Ideal ⟨2, ![m, n]⟩ .f32) (h : (⟨2, ![m, n]⟩ : Shape).Reduces [0] ⟨1, ![n]⟩)
    (hφ : FKind.Formats FTy.f32) (hacc : 0x00000000#32 = FKind.add.neutral .f32 hφ)
    (hs : (⟨1, ![n]⟩ : Shape).ShapeCasts ⟨2, ![1, n]⟩)
    (hcat : Shape.Concatenates [⟨2, ![1, n]⟩, ⟨2, ![7, n]⟩] ⟨2, ![8, n]⟩ 0)
    {V : ℕ → ℕ → EReal} {T : ℕ} (hv : ∀ k < m, rd v k c = V (m * T + k) c) (hr : r < 8) (hc : c < n) :
    rd (concatenate ⟨2, ![8, n]⟩ 0 [⟨⟨2, ![1, n]⟩, shapeCast ⟨2, ![1, n]⟩
        (multiReduction .add [0] ⟨1, ![n]⟩ v 0x00000000#32 h hφ hacc) hs⟩,
        ⟨⟨2, ![7, n]⟩, broadcast ⟨2, ![7, n]⟩ (Scalar.ofBits (F := Ideal) .f32 0x00000000#32)⟩] hcat) r c
      = partN V m (8 * T + r) c := by
  rw [rd_concat2, rd_zero]
  unfold partN
  by_cases h0 : r < 1
  · obtain rfl : r = 0 := by omega
    rw [if_pos h0, if_pos (by omega), rd_row, rd1_sumRows _ _ _ _ _ hc, show (8 * T + 0) / 8 = T by omega]
    exact Finset.sum_congr rfl fun k hk => hv k (Finset.mem_range.mp hk)
  · rw [if_neg h0, if_neg (by omega)]

/-- Two matrices' column sums above six rows of zeros. -/
theorem rd_part2 (v u : FVec Ideal ⟨2, ![1, n]⟩ .f32)
    (hcat : Shape.Concatenates [⟨2, ![1, n]⟩, ⟨2, ![1, n]⟩, ⟨2, ![6, n]⟩] ⟨2, ![8, n]⟩ 0)
    {V U : ℕ → ℕ → EReal} {T : ℕ} (hv : rd v 0 c = ∑ k ∈ Finset.range m, V (m * T + k) c)
    (hu : rd u 0 c = ∑ k ∈ Finset.range m, U (m * T + k) c) (hr : r < 8) :
    rd (concatenate ⟨2, ![8, n]⟩ 0 [⟨⟨2, ![1, n]⟩, v⟩, ⟨⟨2, ![1, n]⟩, u⟩,
        ⟨⟨2, ![6, n]⟩, broadcast ⟨2, ![6, n]⟩ (Scalar.ofBits (F := Ideal) .f32 0x00000000#32)⟩] hcat) r c
      = partN2 V U m (8 * T + r) c := by
  rw [rd_concat3, rd_zero]
  unfold partN2
  by_cases h0 : r < 1
  · obtain rfl : r = 0 := by omega
    rw [if_pos h0, if_pos (by omega), hv, show (8 * T + 0) / 8 = T by omega]
  · rw [if_neg h0]
    by_cases h1 : r - 1 < 1
    · obtain rfl : r = 1 := by omega
      rw [if_pos h1, if_neg (by omega), if_pos (by omega), hu, show (8 * T + 1) / 8 = T by omega]
    · rw [if_neg h1, if_neg (by omega), if_neg (by omega)]

end Kernel

/-! ## The steps of the formulas and of their gradients, as the host prints them -/

section Formula
variable {m n : ℕ} {r c : ℕ}

/-- The scalar zero. -/
theorem cst0 : (constant (F := Ideal) ⟨0, ![]⟩ .f32 0x00000000#32) (Shape.Idx.first Nat.one_pos) = (0 : EReal) := Ideal.ofBits_zero_f32

/-- A constant broadcast by the host. -/
theorem rd_bcastConst (w : BitVec 32) (h : (⟨0, ![]⟩ : Shape).BroadcastsInDim ⟨2, ![m, n]⟩ ![]) (hr : r < m) (hc : c < n) :
    rd (broadcastInDim ⟨2, ![m, n]⟩ ![] h (constant (F := Ideal) ⟨0, ![]⟩ .f32 w)) r c = Ideal.ofBits .f32 w :=
  rd_bcastScalar _ _ _ (fun _ => rfl) hr hc

/-- The shifted mean square of a row. -/
theorem rd_hostMsq (x : FVec Ideal ⟨2, ![m, n]⟩ .f32) (h : (⟨2, ![m, n]⟩ : Shape).ReducesTo [1] ⟨1, ![m]⟩)
    (hu : 0 < (⟨0, ![]⟩ : Shape).numel) (hs : (⟨1, ![m]⟩ : Shape).BroadcastsInDim ⟨2, ![m, 1]⟩ ![0])
    (hb hb' : (⟨0, ![]⟩ : Shape).BroadcastsInDim ⟨2, ![m, 1]⟩ ![]) (hr : r < m) :
    rd (addf (Host.divf (broadcastInDim ⟨2, ![m, 1]⟩ ![0] hs
          (Host.reduceAdd (mulf x x) (constant (F := Ideal) ⟨0, ![]⟩ .f32 0x00000000#32) h hu))
        (broadcastInDim ⟨2, ![m, 1]⟩ ![] hb (constant (F := Ideal) ⟨0, ![]⟩ .f32 0x45000000#32)))
        (broadcastInDim ⟨2, ![m, 1]⟩ ![] hb' (constant (F := Ideal) ⟨0, ![]⟩ .f32 0x358637BD#32))) r 0 = msq (rd x) n r := by
  rw [rd_addf, rd_hostDivf _ _ hr Nat.one_pos, rd_bcastColVec _ _ hr Nat.one_pos, rd1_hostSumCols _ _ _ _ hr, cst0, zero_add,
    rd_bcastConst _ _ hr Nat.one_pos, rd_bcastConst _ _ hr Nat.one_pos]
  simp only [rd_mulf]
  rfl

/-- The gradient through the normalisation, as differentiating the formula prints it. -/
theorem rd_hostDx (x w : FVec Ideal ⟨2, ![m, n]⟩ .f32) (rr s : FVec Ideal ⟨2, ![m, 1]⟩ .f32)
    (h : (⟨2, ![m, n]⟩ : Shape).ReducesTo [1] ⟨1, ![m]⟩) (h' : (⟨2, ![m, 1]⟩ : Shape).ReducesTo [1] ⟨1, ![m]⟩)
    (hu hu' : 0 < (⟨0, ![]⟩ : Shape).numel)
    (hs : (⟨1, ![m]⟩ : Shape).ShapeCasts ⟨2, ![m, 1]⟩)
    (hb hb' : (⟨0, ![]⟩ : Shape).BroadcastsInDim ⟨2, ![m, 1]⟩ ![]) (hv : (⟨1, ![m]⟩ : Shape).BroadcastsInDim ⟨2, ![m, n]⟩ ![0])
    (hd : (⟨2, ![m, 1]⟩ : Shape).BroadcastsInDim ⟨2, ![m, n]⟩ ![0, 1]) {X W : ℕ → ℕ → EReal}
    (hrr : rd rr r 0 = rrms X n r) (hss : rd s r 0 = msq X n r) (hx : ∀ k < n, rd x r k = X r k) (hw : ∀ k < n, rd w r k = W r k)
    (hr : r < m) (hc : c < n) :
    rd (addf (addf (mulf w (broadcastInDim ⟨2, ![m, n]⟩ ![0, 1] hd rr))
        (mulf x (broadcastInDim ⟨2, ![m, n]⟩ ![0] hv (Host.reduceAdd (Host.divf
          (mulf (shapeCast ⟨2, ![m, 1]⟩ (Host.reduceAdd (mulf x w) (constant (F := Ideal) ⟨0, ![]⟩ .f32 0x00000000#32) h hu) hs)
            (mulf (broadcastInDim ⟨2, ![m, 1]⟩ ![] hb (constant (F := Ideal) ⟨0, ![]⟩ .f32 0xBF000000#32)) (Host.divf rr s)))
          (broadcastInDim ⟨2, ![m, 1]⟩ ![] hb' (constant (F := Ideal) ⟨0, ![]⟩ .f32 0x45000000#32)))
          (constant (F := Ideal) ⟨0, ![]⟩ .f32 0x00000000#32) h' hu'))))
        (mulf (broadcastInDim ⟨2, ![m, n]⟩ ![0] hv (Host.reduceAdd (Host.divf
          (mulf (shapeCast ⟨2, ![m, 1]⟩ (Host.reduceAdd (mulf x w) (constant (F := Ideal) ⟨0, ![]⟩ .f32 0x00000000#32) h hu) hs)
            (mulf (broadcastInDim ⟨2, ![m, 1]⟩ ![] hb (constant (F := Ideal) ⟨0, ![]⟩ .f32 0xBF000000#32)) (Host.divf rr s)))
          (broadcastInDim ⟨2, ![m, 1]⟩ ![] hb' (constant (F := Ideal) ⟨0, ![]⟩ .f32 0x45000000#32)))
          (constant (F := Ideal) ⟨0, ![]⟩ .f32 0x00000000#32) h' hu')) x)) r c = dxK X W n r c := by
  rw [← dxK_eq, rd_addf, rd_addf, rd_mulf, rd_mulf, rd_mulf, rd_bcastCol _ _ hr hc, rd_bcastColVec _ _ hr hc,
    rd1_hostSumCols _ _ _ _ hr, cst0, zero_add, Finset.sum_range_one, rd_hostDivf _ _ hr Nat.one_pos, rd_mulf, rd_column _ _ hr,
    rd1_hostSumCols _ _ _ _ hr, cst0, zero_add, rd_mulf, rd_bcastConst _ _ hr Nat.one_pos,
    rd_bcastConst _ _ hr Nat.one_pos, rd_hostDivf _ _ hr Nat.one_pos, hrr, hss,
    Finset.sum_congr rfl fun k hk => by rw [rd_mulf, hw k (Finset.mem_range.mp hk), hx k (Finset.mem_range.mp hk)], hw c hc, hx c hc]
  rfl

/-- The sums over each tile of b rows, each above seven rows of zeros. -/
theorem rd_hostPart {a b m' : ℕ} (v : FVec Ideal ⟨2, ![m, n]⟩ .f32) (hm : a * b = m) (hm' : a * 8 = m')
    (h3 : (⟨2, ![m, n]⟩ : Shape).ShapeCasts ⟨3, ![a, b, n]⟩) (h : (⟨3, ![a, b, n]⟩ : Shape).ReducesTo [1] ⟨2, ![a, n]⟩)
    (hu : 0 < (⟨0, ![]⟩ : Shape).numel) (hrow : (⟨2, ![a, n]⟩ : Shape).BroadcastsInDim ⟨3, ![a, 1, n]⟩ ![0, 2])
    (hz : (⟨0, ![]⟩ : Shape).BroadcastsInDim ⟨3, ![a, 7, n]⟩ ![])
    (hcat : Shape.Concatenates [⟨3, ![a, 1, n]⟩, ⟨3, ![a, 7, n]⟩] ⟨3, ![a, 8, n]⟩ 1)
    (h2 : (⟨3, ![a, 8, n]⟩ : Shape).ShapeCasts ⟨2, ![m', n]⟩)
    {V : ℕ → ℕ → EReal} (hv : ∀ r < m, rd v r c = V r c) (hr : r < m') (hc : c < n) :
    rd (shapeCast ⟨2, ![m', n]⟩ (concatenate ⟨3, ![a, 8, n]⟩ 1 [⟨⟨3, ![a, 1, n]⟩, broadcastInDim ⟨3, ![a, 1, n]⟩ ![0, 2] hrow
        (Host.reduceAdd (shapeCast ⟨3, ![a, b, n]⟩ v h3) (constant (F := Ideal) ⟨0, ![]⟩ .f32 0x00000000#32) h hu)⟩,
        ⟨⟨3, ![a, 7, n]⟩, broadcastInDim ⟨3, ![a, 7, n]⟩ ![] hz (constant (F := Ideal) ⟨0, ![]⟩ .f32 0x00000000#32)⟩] hcat) h2) r c
      = partN V b r c := by
  have hp : r / 8 < a := by omega
  rw [rd_join _ _ hm' hr hc]
  unfold partN
  by_cases h0 : r % 8 = 0
  · rw [if_pos h0, h0, rd3_concat_left _ _ _ hp Nat.one_pos hc, rd3_rows _ _ hp hc, rd_hostSumTile _ _ _ _ hp hc, cst0, zero_add]
    refine Finset.sum_congr rfl fun k hk => ?_
    have hk := Finset.mem_range.mp hk
    rw [rd3_split _ _ hm hp hk hc, Nat.mul_comm (r / 8) b]
    refine hv _ ?_
    have : (r / 8 + 1) * b ≤ a * b := Nat.mul_le_mul_right b hp
    rw [Nat.succ_mul, Nat.mul_comm (r / 8) b] at this; omega
  · rw [if_neg h0, show r % 8 = 1 + (r % 8 - 1) by omega, rd3_concat_right _ _ _ hp (by omega) hc]
    exact rd3_bcastScalar _ _ 0 (fun _ => Ideal.ofBits_zero_f32) hp (by omega) hc

/-- Two matrices' sums over each tile of b rows, above six rows of zeros. -/
theorem rd_hostPart2 {a b m' : ℕ} (v u : FVec Ideal ⟨2, ![m, n]⟩ .f32) (hm : a * b = m) (hm' : a * 8 = m')
    (h3 : (⟨2, ![m, n]⟩ : Shape).ShapeCasts ⟨3, ![a, b, n]⟩) (h : (⟨3, ![a, b, n]⟩ : Shape).ReducesTo [1] ⟨2, ![a, n]⟩)
    (hu : 0 < (⟨0, ![]⟩ : Shape).numel) (hrow : (⟨2, ![a, n]⟩ : Shape).BroadcastsInDim ⟨3, ![a, 1, n]⟩ ![0, 2])
    (hz : (⟨0, ![]⟩ : Shape).BroadcastsInDim ⟨3, ![a, 6, n]⟩ ![])
    (hcat' : Shape.Concatenates [⟨3, ![a, 1, n]⟩, ⟨3, ![a, 1, n]⟩] ⟨3, ![a, 2, n]⟩ 1)
    (hcat : Shape.Concatenates [⟨3, ![a, 2, n]⟩, ⟨3, ![a, 6, n]⟩] ⟨3, ![a, 8, n]⟩ 1)
    (h2 : (⟨3, ![a, 8, n]⟩ : Shape).ShapeCasts ⟨2, ![m', n]⟩)
    {V U : ℕ → ℕ → EReal} (hv : ∀ r < m, rd v r c = V r c) (hw : ∀ r < m, rd u r c = U r c) (hr : r < m') (hc : c < n) :
    rd (shapeCast ⟨2, ![m', n]⟩ (concatenate ⟨3, ![a, 8, n]⟩ 1 [⟨⟨3, ![a, 2, n]⟩, concatenate ⟨3, ![a, 2, n]⟩ 1
        [⟨⟨3, ![a, 1, n]⟩, broadcastInDim ⟨3, ![a, 1, n]⟩ ![0, 2] hrow
          (Host.reduceAdd (shapeCast ⟨3, ![a, b, n]⟩ v h3) (constant (F := Ideal) ⟨0, ![]⟩ .f32 0x00000000#32) h hu)⟩,
        ⟨⟨3, ![a, 1, n]⟩, broadcastInDim ⟨3, ![a, 1, n]⟩ ![0, 2] hrow
          (Host.reduceAdd (shapeCast ⟨3, ![a, b, n]⟩ u h3) (constant (F := Ideal) ⟨0, ![]⟩ .f32 0x00000000#32) h hu)⟩] hcat'⟩,
        ⟨⟨3, ![a, 6, n]⟩, broadcastInDim ⟨3, ![a, 6, n]⟩ ![] hz (constant (F := Ideal) ⟨0, ![]⟩ .f32 0x00000000#32)⟩] hcat) h2) r c
      = partN2 V U b r c := by
  have hp : r / 8 < a := by omega
  have hq : ∀ k < b, b * (r / 8) + k < m := fun k hk => by
    have : (r / 8 + 1) * b ≤ a * b := Nat.mul_le_mul_right b hp
    rw [Nat.succ_mul, Nat.mul_comm (r / 8) b] at this; omega
  rw [rd_join _ _ hm' hr hc]
  unfold partN2
  by_cases h0 : r % 8 = 0
  · rw [if_pos h0, h0, rd3_concat_left _ _ _ hp (by omega) hc, rd3_concat_left _ _ _ hp Nat.one_pos hc, rd3_rows _ _ hp hc,
      rd_hostSumTile _ _ _ _ hp hc, cst0, zero_add]
    refine Finset.sum_congr rfl fun k hk => ?_
    have hk := Finset.mem_range.mp hk
    rw [rd3_split _ _ hm hp hk hc, Nat.mul_comm (r / 8) b]
    exact hv _ (hq k hk)
  · rw [if_neg h0]
    by_cases h1 : r % 8 = 1
    · rw [if_pos h1, h1, rd3_concat_left _ _ _ hp (by omega) hc,
        show rd3 (a := a) (m := 2) (n := n) _ (r / 8) 1 c = _ from rd3_concat_right _ _ _ hp Nat.one_pos hc (r := 0),
        rd3_rows _ _ hp hc, rd_hostSumTile _ _ _ _ hp hc, cst0, zero_add]
      refine Finset.sum_congr rfl fun k hk => ?_
      have hk := Finset.mem_range.mp hk
      rw [rd3_split _ _ hm hp hk hc, Nat.mul_comm (r / 8) b]
      exact hw _ (hq k hk)
    · rw [if_neg h1, show r % 8 = 2 + (r % 8 - 2) by omega, rd3_concat_right _ _ _ hp (by omega) hc]
      exact rd3_bcastScalar _ _ 0 (fun _ => Ideal.ofBits_zero_f32) hp (by omega) hc

end Formula

end Cert.Rd

end
-- ==== Proof.Mm15.lean ====
module

public import proofs.«01_k».proof.Proof.Norm
public import proofs.«01_k».proof.Proof.Gen.Kernel15Ideal.Value
public import proofs.«01_k».proof.Proof.Gen.Reference15Ideal.Run
public import proofs.«01_k».proof.Proof.Gen.Reference15Ideal.Read

public import proofs.«01_k».proof.Defs

@[expose] public section

set_option maxRecDepth 16384

noncomputable section

namespace Cert.Mm15

open Cert.Kernel15Ideal Cert.Kernel15Ideal.Gen Cert.Kernel15Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 2048) (n := 2048) (m (c.tc.loc main_arg1))
abbrev X2 : ℕ → ℕ → EReal := rd (m := 4096) (n := 2048) (m (c.tc.loc main_arg2))
abbrev X3 : ℕ → ℕ → EReal := rd (m := 1) (n := 2048) (m (c.tc.loc main_arg3))

/-- Window 0's block at a point. -/
theorem blk0 {r k : ℕ} (hr : r < 512) (hk : k < 2048) :
    rd (m := 512) (n := 2048) (iblk m c 0 t) r k = X0 m c (512 * t.val + r) (k) := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 512 + 1 * r = _; omega
  · show win0_0.index t 1 * 2048 + 1 * k = _; omega

/-- Window 1's block at a point. -/
theorem blk1 {r k : ℕ} (hr : r < 2048) (hk : k < 2048) :
    rd (m := 2048) (n := 2048) (iblk m c 1 t) r k = X1 m c (r) (k) := by
  have e := (by decide +kernel : ∀ t : Fin grid0.N, win0_1.index t 0 = 0 ∧ win0_1.index t 1 = 0) t
  rw [rd_in _ hr hk]
  unfold iblk
  rw [View.read_apply]
  show V m c main_arg1 _ = _
  rw [V_main_arg1]
  refine (rd_of_val (m := 2048) (n := 2048) _ _ ?_ ?_).symm
  · show win0_1.index t 0 * 2048 + 1 * r = _; omega
  · show win0_1.index t 1 * 2048 + 1 * k = _; omega

/-- Window 2's block at a point. -/
theorem blk2 {r k : ℕ} (hr : r < 512) (hk : k < 2048) :
    rd (m := 512) (n := 2048) (iblk m c 2 t) r k = X2 m c (512 * t.val + r) (k) := by
  have e := (by decide +kernel : ∀ t : Fin grid0.N, win0_2.index t 0 = t.val ∧ win0_2.index t 1 = 0) t
  rw [rd_in _ hr hk]
  unfold iblk
  rw [View.read_apply]
  show V m c main_arg2 _ = _
  rw [V_main_arg2]
  refine (rd_of_val (m := 4096) (n := 2048) _ _ ?_ ?_).symm
  · show win0_2.index t 0 * 512 + 1 * r = _; omega
  · show win0_2.index t 1 * 2048 + 1 * k = _; omega

/-- Window 3's block at a point: the whole row. -/
theorem blk3 {k : ℕ} (hk : k < 2048) : rd (m := 1) (n := 2048) (iblk m c 3 t) 0 k = X3 m c 0 k := by
  have e := (by decide +kernel : ∀ t : Fin grid0.N, win0_3.index t 0 = 0 ∧ win0_3.index t 1 = 0) t
  rw [rd_in _ Nat.one_pos hk]
  unfold iblk
  rw [View.read_apply]
  show V m c main_arg3 _ = _
  rw [V_main_arg3]
  refine (rd_of_val (m := 1) (n := 2048) _ _ ?_ ?_).symm
  · show win0_3.index t 0 * 1 + 1 * 0 = 0; rw [e.1]
  · show win0_3.index t 1 * 2048 + 1 * k = _; omega

/-- The product with the residual. -/
def xN (A B R : ℕ → ℕ → EReal) (r k : ℕ) : EReal := R r k + nnN A B 2048 r k

theorem pay1_rd {r k : ℕ} (hr : r < 512) (hk : k < 2048) :
    rd (m := 512) (n := 2048) (k0_pay1 (F := Ideal) (iblk m c 0 t) (iblk m c 1 t) (iblk m c 2 t)) r k
      = xN (X0 m c) (X1 m c) (X2 m c) (512 * t.val + r) k := by
  unfold k0_pay1
  dsimp only
  rw [rd_addf, rd_matmul_nn _ _ _ _ hr hk]
  exact congrArg₂ (· + ·) (blk2 m c t hr hk) (nnN_congr (fun q hq => blk0 m c t hr hq) (fun q hq => blk1 m c t hq hk))

/-- What the body leaves in the outputs' blocks. -/
theorem out4_rd {r k : ℕ} (hr : r < 512) (hk : k < 2048) :
    rd (m := 512) (n := 2048) (out0_4 (iblk m c 0 t) (iblk m c 1 t) (iblk m c 2 t) (iblk m c 3 t)) r k = xN (X0 m c) (X1 m c) (X2 m c) (512 * t.val + r) k := by
  unfold out0_4
  rw [View.canon_unit_zero hz2]
  simp only [View.ld_unit_zero (S := S512x2048) hz2, View.ld_unit_zero (S := S2048x2048) hz2, View.ld_unit_zero (S := S1x2048) hz2]
  exact pay1_rd m c t hr hk

theorem out5_rd {r k : ℕ} (hr : r < 512) (hk : k < 2048) :
    rd (m := 512) (n := 2048) (out0_5 (iblk m c 0 t) (iblk m c 1 t) (iblk m c 2 t) (iblk m c 3 t)) r k
      = normN (xN (X0 m c) (X1 m c) (X2 m c)) (X3 m c 0) 2048 (512 * t.val + r) k := by
  unfold out0_5
  rw [View.canon_unit_zero hz2]
  simp only [View.ld_unit_zero (S := S512x2048) hz2, View.ld_unit_zero (S := S2048x2048) hz2, View.ld_unit_zero (S := S1x2048) hz2]
  unfold k0_pay2
  dsimp only
  rw [rd_truncf, rd_mulf, rd_mulf, rd_broadcastRow _ _ hr, rd_broadcastCol _ _ hr hk, pay1_rd m c t hr hk]
  exact congrArg₂ (· * ·) (congrArg (_ * ·) ((rd_rms (m := 512) (n := 2048) (k0_pay1 (F := Ideal) (iblk m c 0 t) (iblk m c 1 t) (iblk m c 2 t))
    _ _ _ _ hr).trans (rrms_congr fun q hq => pay1_rd m c t hr hq))) (blk3 m c t hk)

theorem index4 : win0_4.index t 0 = t.val ∧ win0_4.index t 1 = 0 :=
  (by decide +kernel : ∀ t : Fin grid0.N, win0_4.index t 0 = t.val ∧ win0_4.index t 1 = 0) t

/-- The output array after the run. -/
theorem final4 : (dats m 0 c).arrAt 4 cfg0.N = tab (m := 4096) (n := 2048) (xN (X0 m c) (X1 m c) (X2 m c)) := by
  refine (dats m 0 c).arrAt_eq_of_cover 4 _ (fun t hf => ?_) fun i => ?_
  · rw [flushed4]
    funext j
    rw [View.read_apply]
    show out0_4 (iblk m c 0 t) (iblk m c 1 t) (iblk m c 2 t) (iblk m c 3 t) j = xN (X0 m c) (X1 m c) (X2 m c) (win0_4.index t 0 * 512 + 1 * (j 0).val) (win0_4.index t 1 * 2048 + 1 * (j 1).val)
    rw [eq_rd (m := 512) (n := 2048) (out0_4 (iblk m c 0 t) (iblk m c 1 t) (iblk m c 2 t) (iblk m c 3 t)) j, out4_rd m c t (j 0).isLt (j 1).isLt]
    have hi := index4 t
    rw [hi.1, hi.2]
    congr 1 <;> omega
  · have h0 : (i 0).val < 4096 := (i 0).isLt
    have h1 : (i 1).val < 2048 := (i 1).isLt
    have hN : cfg0.N = 8 := by decide +kernel
    let t : Fin cfg0.N := ⟨(i 0).val / 512, by omega⟩
    refine ⟨t, flush0_4 _, ?_⟩
    show i ∈ ((View.whole main_v0_0).slice (win0_4.rect t)).set
    rw [View.set_slice_whole, Rect.mem_set_unit]
    have hi := index4 t
    have hv : t.val = (i 0).val / 512 := rfl
    intro a
    match a with
    | ⟨0, _⟩ => show win0_4.index t 0 * 512 ≤ (i 0).val ∧ (i 0).val < win0_4.index t 0 * 512 + 512
                rw [hi.1]; omega
    | ⟨1, _⟩ => show win0_4.index t 1 * 2048 ≤ (i 1).val ∧ (i 1).val < win0_4.index t 1 * 2048 + 2048
                rw [hi.2]; omega

theorem index5 : win0_5.index t 0 = t.val ∧ win0_5.index t 1 = 0 :=
  (by decide +kernel : ∀ t : Fin grid0.N, win0_5.index t 0 = t.val ∧ win0_5.index t 1 = 0) t

/-- The output array after the run. -/
theorem final5 : (dats m 0 c).arrAt 5 cfg0.N = tab (m := 4096) (n := 2048) (normN (xN (X0 m c) (X1 m c) (X2 m c)) (X3 m c 0) 2048) := by
  refine (dats m 0 c).arrAt_eq_of_cover 5 _ (fun t hf => ?_) fun i => ?_
  · rw [flushed5]
    funext j
    rw [View.read_apply]
    show out0_5 (iblk m c 0 t) (iblk m c 1 t) (iblk m c 2 t) (iblk m c 3 t) j = normN (xN (X0 m c) (X1 m c) (X2 m c)) (X3 m c 0) 2048 (win0_5.index t 0 * 512 + 1 * (j 0).val) (win0_5.index t 1 * 2048 + 1 * (j 1).val)
    rw [eq_rd (m := 512) (n := 2048) (out0_5 (iblk m c 0 t) (iblk m c 1 t) (iblk m c 2 t) (iblk m c 3 t)) j, out5_rd m c t (j 0).isLt (j 1).isLt]
    have hi := index5 t
    rw [hi.1, hi.2]
    congr 1 <;> omega
  · have h0 : (i 0).val < 4096 := (i 0).isLt
    have h1 : (i 1).val < 2048 := (i 1).isLt
    have hN : cfg0.N = 8 := by decide +kernel
    let t : Fin cfg0.N := ⟨(i 0).val / 512, by omega⟩
    refine ⟨t, flush0_5 _, ?_⟩
    show i ∈ ((View.whole main_v0_1).slice (win0_5.rect t)).set
    rw [View.set_slice_whole, Rect.mem_set_unit]
    have hi := index5 t
    have hv : t.val = (i 0).val / 512 := rfl
    intro a
    match a with
    | ⟨0, _⟩ => show win0_5.index t 0 * 512 ≤ (i 0).val ∧ (i 0).val < win0_5.index t 0 * 512 + 512
                rw [hi.1]; omega
    | ⟨1, _⟩ => show win0_5.index t 1 * 2048 ≤ (i 1).val ∧ (i 1).val < win0_5.index t 1 * 2048 + 2048
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 2048) (xN (X0 m c) (X1 m c) (X2 m c))
      ∧ r.2.mem ((c : Thread nD τ).loc main_v0_1) = tab (m := 4096) (n := 2048) (normN (xN (X0 m c) (X1 m c) (X2 m c)) (X3 m c 0) 2048)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

section Reference
open Cert.Reference15Ideal.Read
variable (x0 : FVec Ideal ⟨2, ![4096, 2048]⟩ .bf16) (x1 : FVec Ideal ⟨2, ![2048, 2048]⟩ .bf16) (x2 : FVec Ideal ⟨2, ![4096, 2048]⟩ .f32)
  (x3 : FVec Ideal ⟨2, ![1, 2048]⟩ .f32) {r k : ℕ}

/-- The reference's results at an entry. -/
theorem ref_v3 (hr : r < 4096) (hk : k < 2048) :
    rd (m := 4096) (n := 2048) (val_main_v3 (F := Ideal) x0 x1 x2) r k = xN (rd x0) (rd x1) (rd x2) r k := by
  unfold val_main_v3 val_main_v2
  exact (rd_addf _ _ _ _).trans (congrArg (rd x2 r k + ·) (rd_host_nn _ _ _ _ hr hk))

theorem ref_rr (hr : r < 4096) :
    rd (m := 4096) (n := 1) (val_main_v11 (F := Ideal) x0 x1 x2) r 0 = rrms (xN (rd x0) (rd x1) (rd x2)) 2048 r := by
  unfold val_main_v11 val_main_v10 val_main_v8 val_main_v6 val_main_v5 val_main_v4
  rw [rd_hostRsqrt _ hr Nat.one_pos]
  refine Eq.trans (congrArg Ideal.rsqrt (rd_hostMsq (m := 4096) (n := 2048) (val_main_v3 (F := Ideal) x0 x1 x2) _ _ _ _ _ hr)) ?_
  exact rrms_congr fun q hq => ref_v3 x0 x1 x2 hr hq

theorem ref_v16 (hr : r < 4096) (hk : k < 2048) :
    rd (m := 4096) (n := 2048) (val_main_v16 (F := Ideal) x0 x1 x2 x3) r k
      = normN (xN (rd x0) (rd x1) (rd x2)) (rd x3 0) 2048 r k := by
  unfold val_main_v16 val_main_v15 val_main_v14 val_main_v13 val_main_v12
  rw [rd_truncf, rd_mulf, rd_mulf, rd_bcastCol _ _ hr hk, rd_bcastRow _ _ hr, ref_rr x0 x1 x2 hr, ref_v3 x0 x1 x2 hr hk]
  rfl

end Reference

/-- The kernel and the reference — the output projection, the residual and the second normalisation — end with equal arrays. -/
theorem algebraic : Cert.algebraic_Kernel15Ideal_Reference15Ideal := by
  intro m ρ m' ρ' _ hag
  refine ⟨_, _, run m ρ, (θ_run _ _ _).mono (fun _ h c => ⟨(h c).1.trans ?_, (h c).2.1.trans ?_, (h c).2.2⟩) (Cert.Reference15Ideal.Value.run m' ρ')⟩
  · refine (Cert.Reference15Ideal.Read.val_main_v3_eq _ _ _ ).trans ?_
    rw [(hag c).1, (hag c).2.1, (hag c).2.2.1]
    exact eq_tab fun r k hr hk => ref_v3 _ _ _ hr hk
  · refine (Cert.Reference15Ideal.Read.val_main_v16_eq _ _ _ _ ).trans ?_
    rw [(hag c).1, (hag c).2.1, (hag c).2.2.1, (hag c).2.2.2]
    exact eq_tab fun r k hr hk => ref_v16 _ _ _ _ hr hk

/-- The reference's run leaves the arguments as they were; it uses no semaphore. -/
theorem frame_ref : Cert.quiescent_Reference15Ideal := fun m ρ _ =>
  (θ_run Cert.Reference15Ideal.defs _ _).mono (fun r h => ⟨fun c => (h c).2.2, Idealize.ShloMosaic.sem_eq_zero_of_no_sems (by decide) r.2⟩)
    (Cert.Reference15Ideal.Value.run (F := Ideal) m ρ)

end Cert.Mm15

end
-- ==== Proof.Mm16.lean ====
module

public import proofs.«01_k».proof.Proof.Norm
public import proofs.«01_k».proof.Proof.Gen.Kernel16Ideal.Value
public import proofs.«01_k».proof.Proof.Gen.Reference16Ideal.Run
public import proofs.«01_k».proof.Proof.Gen.Reference16Ideal.Read

public import proofs.«01_k».proof.Defs

@[expose] public section

set_option maxRecDepth 16384

noncomputable section

namespace Cert.Mm16

open Cert.Kernel16Ideal Cert.Kernel16Ideal.Gen Cert.Kernel16Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 2048) (n := 2048) (m (c.tc.loc main_arg1))
abbrev X2 : ℕ → ℕ → EReal := rd (m := 4096) (n := 2048) (m (c.tc.loc main_arg2))
abbrev X3 : ℕ → ℕ → EReal := rd (m := 4096) (n := 2048) (m (c.tc.loc main_arg3))
abbrev X4 : ℕ → ℕ → EReal := rd (m := 4096) (n := 2048) (m (c.tc.loc main_arg4))
abbrev X5 : ℕ → ℕ → EReal := rd (m := 1) (n := 2048) (m (c.tc.loc main_arg5))

/-- Window 0's block at a point. -/
theorem blk0 {r k : ℕ} (hr : r < 256) (hk : k < 2048) :
    rd (m := 256) (n := 2048) (iblk m c 0 t) r k = X0 m c (256 * t.val + r) (k) := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 256 + 1 * r = _; omega
  · show win0_0.index t 1 * 2048 + 1 * k = _; omega

/-- Window 1's block at a point. -/
theorem blk1 {r k : ℕ} (hr : r < 2048) (hk : k < 2048) :
    rd (m := 2048) (n := 2048) (iblk m c 1 t) r k = X1 m c (r) (k) := by
  have e := (by decide +kernel : ∀ t : Fin grid0.N, win0_1.index t 0 = 0 ∧ win0_1.index t 1 = 0) t
  rw [rd_in _ hr hk]
  unfold iblk
  rw [View.read_apply]
  show V m c main_arg1 _ = _
  rw [V_main_arg1]
  refine (rd_of_val (m := 2048) (n := 2048) _ _ ?_ ?_).symm
  · show win0_1.index t 0 * 2048 + 1 * r = _; omega
  · show win0_1.index t 1 * 2048 + 1 * k = _; omega

/-- Window 2's block at a point. -/
theorem blk2 {r k : ℕ} (hr : r < 256) (hk : k < 2048) :
    rd (m := 256) (n := 2048) (iblk m c 2 t) r k = X2 m c (256 * t.val + r) (k) := by
  have e := (by decide +kernel : ∀ t : Fin grid0.N, win0_2.index t 0 = t.val ∧ win0_2.index t 1 = 0) t
  rw [rd_in _ hr hk]
  unfold iblk
  rw [View.read_apply]
  show V m c main_arg2 _ = _
  rw [V_main_arg2]
  refine (rd_of_val (m := 4096) (n := 2048) _ _ ?_ ?_).symm
  · show win0_2.index t 0 * 256 + 1 * r = _; omega
  · show win0_2.index t 1 * 2048 + 1 * k = _; omega

/-- Window 3's block at a point. -/
theorem blk3 {r k : ℕ} (hr : r < 256) (hk : k < 2048) :
    rd (m := 256) (n := 2048) (iblk m c 3 t) r k = X3 m c (256 * t.val + r) (k) := by
  have e := (by decide +kernel : ∀ t : Fin grid0.N, win0_3.index t 0 = t.val ∧ win0_3.index t 1 = 0) t
  rw [rd_in _ hr hk]
  unfold iblk
  rw [View.read_apply]
  show V m c main_arg3 _ = _
  rw [V_main_arg3]
  refine (rd_of_val (m := 4096) (n := 2048) _ _ ?_ ?_).symm
  · show win0_3.index t 0 * 256 + 1 * r = _; omega
  · show win0_3.index t 1 * 2048 + 1 * k = _; omega

/-- Window 4's block at a point. -/
theorem blk4 {r k : ℕ} (hr : r < 256) (hk : k < 2048) :
    rd (m := 256) (n := 2048) (iblk m c 4 t) r k = X4 m c (256 * t.val + r) (k) := by
  have e := (by decide +kernel : ∀ t : Fin grid0.N, win0_4.index t 0 = t.val ∧ win0_4.index t 1 = 0) t
  rw [rd_in _ hr hk]
  unfold iblk
  rw [View.read_apply]
  show V m c main_arg4 _ = _
  rw [V_main_arg4]
  refine (rd_of_val (m := 4096) (n := 2048) _ _ ?_ ?_).symm
  · show win0_4.index t 0 * 256 + 1 * r = _; omega
  · show win0_4.index t 1 * 2048 + 1 * k = _; omega

/-- Window 5's block at a point: the whole row. -/
theorem blk5 {k : ℕ} (hk : k < 2048) : rd (m := 1) (n := 2048) (iblk m c 5 t) 0 k = X5 m c 0 k := by
  have e := (by decide +kernel : ∀ t : Fin grid0.N, win0_5.index t 0 = 0 ∧ win0_5.index t 1 = 0) t
  rw [rd_in _ Nat.one_pos hk]
  unfold iblk
  rw [View.read_apply]
  show V m c main_arg5 _ = _
  rw [V_main_arg5]
  refine (rd_of_val (m := 1) (n := 2048) _ _ ?_ ?_).symm
  · show win0_5.index t 0 * 1 + 1 * 0 = 0; rw [e.1]
  · show win0_5.index t 1 * 2048 + 1 * k = _; omega

section Closed
variable (A B X P T G : ℕ → ℕ → EReal) (r k : ℕ)
/-- The gate: the logistic function of the product. -/
def gN : EReal := sgm (nnN A B 2048 r k)
/-- The last residual. -/
def xN : EReal := X r k + gN A B r k * P r k
/-- The error of the normalised output. -/
def eN : EReal := xN A B X P r k * rrms (xN A B X P) 2048 r * G 0 k - T r k
/-- The gradient of the loss by the output. -/
def dyN : EReal := eN A B X P T G r k * ((1 / 2048 : ℝ) : EReal)
/-- It times the gain. -/
def W : EReal := dyN A B X P T G r k * G 0 k
/-- The gradient by the last residual. -/
def dxN : EReal := dxK (xN A B X P) (W A B X P T G) 2048 r k
/-- The gradient by the gate's product. -/
def dlN : EReal := dxN A B X P T G r k * P r k * gN A B r k * (1 - gN A B r k)
/-- The gradient by the gated rows. -/
def dpN : EReal := dxN A B X P T G r k * gN A B r k
/-- The gain's gradient before the sum over rows. -/
def dgN : EReal := dyN A B X P T G r k * (xN A B X P r k * rrms (xN A B X P) 2048 r)
/-- The loss before the sums. -/
def lsN : EReal := eN A B X P T G r k * eN A B X P T G r k * ((1 / 4096 : ℝ) : EReal)
end Closed

theorem pay5_rd {r k : ℕ} (hr : r < 256) (hk : k < 2048) :
    rd (m := 256) (n := 2048) (k0_pay5 (F := Ideal) (iblk m c 0 t) (iblk m c 1 t)) r k = gN (X0 m c) (X1 m c) (256 * t.val + r) k := by
  unfold k0_pay5
  dsimp only
  rw [rd_divf _ _ hr hk, rd_addf, rd_exp _ hr hk, rd_subf _ _ hr hk, rd_zero, rd_broadcast _ hr hk, rd_matmul_nn _ _ _ _ hr hk, sub_eq_add_neg,
    zero_add, nnN_congr (fun q hq => blk0 m c t hr hq) (fun q hq => blk1 m c t hq hk)]
  show Ideal.div (Ideal.ofBits .f32 0x3F800000#32) (Ideal.ofBits .f32 0x3F800000#32 + _) = _
  rw [c1_eq]
  rfl

theorem pay6_rd {r k : ℕ} (hr : r < 256) (hk : k < 2048) :
    rd (m := 256) (n := 2048) (k0_pay6 (F := Ideal) (iblk m c 0 t) (iblk m c 1 t) (iblk m c 2 t) (iblk m c 3 t)) r k = xN (X0 m c) (X1 m c) (X2 m c) (X3 m c) (256 * t.val + r) k := by
  unfold k0_pay6
  dsimp only
  rw [rd_addf, rd_mulf, pay5_rd m c t hr hk]
  exact congrArg₂ (· + ·) (blk2 m c t hr hk) (congrArg (_ * ·) (blk3 m c t hr hk))

theorem pay7_rd {r : ℕ} (hr : r < 256) :
    rd (m := 256) (n := 1) (k0_pay7 (F := Ideal) (iblk m c 0 t) (iblk m c 1 t) (iblk m c 2 t) (iblk m c 3 t)) r 0 = rrms (xN (X0 m c) (X1 m c) (X2 m c) (X3 m c)) 2048 (256 * t.val + r) := by
  unfold k0_pay7
  dsimp only
  exact (rd_rms (m := 256) (n := 2048) (k0_pay6 (F := Ideal) (iblk m c 0 t) (iblk m c 1 t) (iblk m c 2 t) (iblk m c 3 t)) _ _ _ _ hr).trans (rrms_congr fun q hq => pay6_rd m c t hr hq)

theorem pay8_rd {r k : ℕ} (hr : r < 256) (hk : k < 2048) :
    rd (m := 256) (n := 2048) (k0_pay8 (F := Ideal) (iblk m c 0 t) (iblk m c 1 t) (iblk m c 2 t) (iblk m c 3 t)) r k = xN (X0 m c) (X1 m c) (X2 m c) (X3 m c) (256 * t.val + r) k * rrms (xN (X0 m c) (X1 m c) (X2 m c) (X3 m c)) 2048 (256 * t.val + r) := by
  unfold k0_pay8
  dsimp only
  rw [rd_mulf, rd_broadcastCol _ _ hr hk, pay6_rd m c t hr hk, pay7_rd m c t hr]

theorem pay9_rd {r k : ℕ} (hr : r < 256) (hk : k < 2048) :
    rd (m := 256) (n := 2048) (k0_pay9 (F := Ideal) (iblk m c 0 t) (iblk m c 1 t) (iblk m c 2 t) (iblk m c 3 t) (iblk m c 4 t) (iblk m c 5 t)) r k = eN (X0 m c) (X1 m c) (X2 m c) (X3 m c) (X4 m c) (X5 m c) (256 * t.val + r) k := by
  unfold k0_pay9
  dsimp only
  rw [rd_subf _ _ hr hk, rd_mulf, rd_broadcastRow _ _ hr, pay8_rd m c t hr hk]
  exact congrArg₂ (· - ·) (congrArg (_ * ·) (blk5 m c t hk)) (blk4 m c t hr hk)

theorem pay10_rd {r k : ℕ} (hr : r < 256) (hk : k < 2048) :
    rd (m := 256) (n := 2048) (k0_pay10 (F := Ideal) (iblk m c 0 t) (iblk m c 1 t) (iblk m c 2 t) (iblk m c 3 t) (iblk m c 4 t) (iblk m c 5 t)) r k = dyN (X0 m c) (X1 m c) (X2 m c) (X3 m c) (X4 m c) (X5 m c) (256 * t.val + r) k := by
  unfold k0_pay10
  dsimp only
  rw [rd_mulf, pay9_rd m c t hr hk, rd_broadcast _ hr hk]
  exact congrArg (_ * ·) cInv_eq

theorem pay11_rd {r k : ℕ} (hr : r < 256) (hk : k < 2048) :
    rd (m := 256) (n := 2048) (k0_pay11 (F := Ideal) (iblk m c 0 t) (iblk m c 1 t) (iblk m c 2 t) (iblk m c 3 t) (iblk m c 4 t) (iblk m c 5 t)) r k = W (X0 m c) (X1 m c) (X2 m c) (X3 m c) (X4 m c) (X5 m c) (256 * t.val + r) k := by
  unfold k0_pay11
  dsimp only
  rw [rd_mulf, rd_broadcastRow _ _ hr, pay10_rd m c t hr hk]
  exact congrArg (_ * ·) (blk5 m c t hk)

theorem pay1_rd {r k : ℕ} (hr : r < 256) (hk : k < 2048) :
    rd (m := 256) (n := 2048) (k0_pay1 (F := Ideal) (k0_pay7 (iblk m c 0 t) (iblk m c 1 t) (iblk m c 2 t) (iblk m c 3 t)) (k0_pay8 (iblk m c 0 t) (iblk m c 1 t) (iblk m c 2 t) (iblk m c 3 t)) (k0_pay11 (iblk m c 0 t) (iblk m c 1 t) (iblk m c 2 t) (iblk m c 3 t) (iblk m c 4 t) (iblk m c 5 t)) (k0_pay12 (iblk m c 0 t) (iblk m c 1 t) (iblk m c 2 t) (iblk m c 3 t) (iblk m c 4 t) (iblk m c 5 t))) r k = dxN (X0 m c) (X1 m c) (X2 m c) (X3 m c) (X4 m c) (X5 m c) (256 * t.val + r) k := by
  unfold k0_pay1 k0_pay12
  dsimp only
  exact rd_dx _ _ _ _ _ _ _ _ _ (pay7_rd m c t hr) (fun q hq => pay11_rd m c t hr hq) (fun q hq => pay8_rd m c t hr hq) hr hk

/-- What the body leaves in the outputs' blocks. -/
theorem out6_rd {r k : ℕ} (hr : r < 256) (hk : k < 2048) :
    rd (m := 256) (n := 2048) (out0_6 (iblk m c 0 t) (iblk m c 1 t) (iblk m c 2 t) (iblk m c 3 t) (iblk m c 4 t) (iblk m c 5 t)) r k = dxN (X0 m c) (X1 m c) (X2 m c) (X3 m c) (X4 m c) (X5 m c) (256 * t.val + r) k := by
  unfold out0_6 k0_pay14 k0_pay15 k0_pay16 k0_pay17
  rw [View.canon_unit_zero hz2]
  simp only [View.ld_unit_zero (S := S256x2048) hz2, View.ld_unit_zero (S := S2048x2048) hz2, View.ld_unit_zero (S := S1x2048) hz2]
  exact pay1_rd m c t hr hk

theorem out7_rd {r k : ℕ} (hr : r < 256) (hk : k < 2048) :
    rd (m := 256) (n := 2048) (out0_7 (iblk m c 0 t) (iblk m c 1 t) (iblk m c 2 t) (iblk m c 3 t) (iblk m c 4 t) (iblk m c 5 t)) r k = dlN (X0 m c) (X1 m c) (X2 m c) (X3 m c) (X4 m c) (X5 m c) (256 * t.val + r) k := by
  unfold out0_7 k0_pay13 k0_pay14 k0_pay15 k0_pay16 k0_pay17
  rw [View.canon_unit_zero hz2]
  simp only [View.ld_unit_zero (S := S256x2048) hz2, View.ld_unit_zero (S := S2048x2048) hz2, View.ld_unit_zero (S := S1x2048) hz2]
  unfold k0_pay3
  dsimp only
  rw [rd_truncf, rd_mulf, rd_mulf, rd_mulf, rd_subf _ _ hr hk, rd_broadcast _ hr hk, pay1_rd m c t hr hk, pay5_rd m c t hr hk]
  exact congrArg₂ (· * ·) (congrArg (· * _) (congrArg (_ * ·) (blk3 m c t hr hk))) (congrArg (· - _) c1_eq)

theorem out8_rd {r k : ℕ} (hr : r < 256) (hk : k < 2048) :
    rd (m := 256) (n := 2048) (out0_8 (iblk m c 0 t) (iblk m c 1 t) (iblk m c 2 t) (iblk m c 3 t) (iblk m c 4 t) (iblk m c 5 t)) r k = dpN (X0 m c) (X1 m c) (X2 m c) (X3 m c) (X4 m c) (X5 m c) (256 * t.val + r) k := by
  unfold out0_8 k0_pay13 k0_pay14 k0_pay15 k0_pay16 k0_pay17
  rw [View.canon_unit_zero hz2]
  simp only [View.ld_unit_zero (S := S256x2048) hz2, View.ld_unit_zero (S := S2048x2048) hz2, View.ld_unit_zero (S := S1x2048) hz2]
  unfold k0_pay4
  dsimp only
  rw [rd_truncf, rd_mulf, pay1_rd m c t hr hk, pay5_rd m c t hr hk]
  rfl

theorem out9_rd {r k : ℕ} (hr : r < 8) (hk : k < 2048) :
    rd (m := 8) (n := 2048) (out0_9 (iblk m c 0 t) (iblk m c 1 t) (iblk m c 2 t) (iblk m c 3 t) (iblk m c 4 t) (iblk m c 5 t)) r k = partN2 (dgN (X0 m c) (X1 m c) (X2 m c) (X3 m c) (X4 m c) (X5 m c)) (lsN (X0 m c) (X1 m c) (X2 m c) (X3 m c) (X4 m c) (X5 m c)) 256 (8 * t.val + r) k := by
  unfold out0_9 k0_pay15
  rw [View.canon_unit_zero hz2]
  simp only [View.ld_unit_zero (S := S256x2048) hz2, View.ld_unit_zero (S := S2048x2048) hz2, View.ld_unit_zero (S := S1x2048) hz2]
  unfold k0_pay2
  dsimp only
  refine rd_part2 _ _ _ ?_ ?_ hr
  · rw [rd_row]
    refine (rd1_sumRows (m := 256) (n := 2048) _ _ _ _ _ hk).trans (Finset.sum_congr rfl fun q hq => ?_)
    have hq := Finset.mem_range.mp hq
    rw [rd_mulf, pay10_rd m c t hq hk, pay8_rd m c t hq hk]
    rfl
  · rw [rd_mulf, rd_row, rd_broadcast _ Nat.one_pos hk]
    refine (congrArg₂ (· * ·) (rd1_sumRows (m := 256) (n := 2048) _ _ _ _ _ hk) cInv2_eq).trans ((sum_mul_coe _ _ (by norm_num)).symm.trans (Finset.sum_congr rfl fun q hq => ?_))
    have hq := Finset.mem_range.mp hq
    rw [rd_mulf, pay9_rd m c t hq hk]
    rfl

theorem index6 : win0_6.index t 0 = t.val ∧ win0_6.index t 1 = 0 :=
  (by decide +kernel : ∀ t : Fin grid0.N, win0_6.index t 0 = t.val ∧ win0_6.index t 1 = 0) t

/-- The output array after the run. -/
theorem final6 : (dats m 0 c).arrAt 6 cfg0.N = tab (m := 4096) (n := 2048) (dxN (X0 m c) (X1 m c) (X2 m c) (X3 m c) (X4 m c) (X5 m c)) := by
  refine (dats m 0 c).arrAt_eq_of_cover 6 _ (fun t hf => ?_) fun i => ?_
  · rw [flushed6]
    funext j
    rw [View.read_apply]
    show out0_6 (iblk m c 0 t) (iblk m c 1 t) (iblk m c 2 t) (iblk m c 3 t) (iblk m c 4 t) (iblk m c 5 t) j = dxN (X0 m c) (X1 m c) (X2 m c) (X3 m c) (X4 m c) (X5 m c) (win0_6.index t 0 * 256 + 1 * (j 0).val) (win0_6.index t 1 * 2048 + 1 * (j 1).val)
    rw [eq_rd (m := 256) (n := 2048) (out0_6 (iblk m c 0 t) (iblk m c 1 t) (iblk m c 2 t) (iblk m c 3 t) (iblk m c 4 t) (iblk m c 5 t)) j, out6_rd m c t (j 0).isLt (j 1).isLt]
    have hi := index6 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_6 _, ?_⟩
    show i ∈ ((View.whole main_v0_0).slice (win0_6.rect t)).set
    rw [View.set_slice_whole, Rect.mem_set_unit]
    have hi := index6 t
    have hv : t.val = (i 0).val / 256 := rfl
    intro a
    match a with
    | ⟨0, _⟩ => show win0_6.index t 0 * 256 ≤ (i 0).val ∧ (i 0).val < win0_6.index t 0 * 256 + 256
                rw [hi.1]; omega
    | ⟨1, _⟩ => show win0_6.index t 1 * 2048 ≤ (i 1).val ∧ (i 1).val < win0_6.index t 1 * 2048 + 2048
                rw [hi.2]; omega

theorem index7 : win0_7.index t 0 = t.val ∧ win0_7.index t 1 = 0 :=
  (by decide +kernel : ∀ t : Fin grid0.N, win0_7.index t 0 = t.val ∧ win0_7.index t 1 = 0) t

/-- The output array after the run. -/
theorem final7 : (dats m 0 c).arrAt 7 cfg0.N = tab (m := 4096) (n := 2048) (dlN (X0 m c) (X1 m c) (X2 m c) (X3 m c) (X4 m c) (X5 m c)) := by
  refine (dats m 0 c).arrAt_eq_of_cover 7 _ (fun t hf => ?_) fun i => ?_
  · rw [flushed7]
    funext j
    rw [View.read_apply]
    show out0_7 (iblk m c 0 t) (iblk m c 1 t) (iblk m c 2 t) (iblk m c 3 t) (iblk m c 4 t) (iblk m c 5 t) j = dlN (X0 m c) (X1 m c) (X2 m c) (X3 m c) (X4 m c) (X5 m c) (win0_7.index t 0 * 256 + 1 * (j 0).val) (win0_7.index t 1 * 2048 + 1 * (j 1).val)
    rw [eq_rd (m := 256) (n := 2048) (out0_7 (iblk m c 0 t) (iblk m c 1 t) (iblk m c 2 t) (iblk m c 3 t) (iblk m c 4 t) (iblk m c 5 t)) j, out7_rd m c t (j 0).isLt (j 1).isLt]
    have hi := index7 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_7 _, ?_⟩
    show i ∈ ((View.whole main_v0_1).slice (win0_7.rect t)).set
    rw [View.set_slice_whole, Rect.mem_set_unit]
    have hi := index7 t
    have hv : t.val = (i 0).val / 256 := rfl
    intro a
    match a with
    | ⟨0, _⟩ => show win0_7.index t 0 * 256 ≤ (i 0).val ∧ (i 0).val < win0_7.index t 0 * 256 + 256
                rw [hi.1]; omega
    | ⟨1, _⟩ => show win0_7.index t 1 * 2048 ≤ (i 1).val ∧ (i 1).val < win0_7.index t 1 * 2048 + 2048
                rw [hi.2]; omega

theorem index8 : win0_8.index t 0 = t.val ∧ win0_8.index t 1 = 0 :=
  (by decide +kernel : ∀ t : Fin grid0.N, win0_8.index t 0 = t.val ∧ win0_8.index t 1 = 0) t

/-- The output array after the run. -/
theorem final8 : (dats m 0 c).arrAt 8 cfg0.N = tab (m := 4096) (n := 2048) (dpN (X0 m c) (X1 m c) (X2 m c) (X3 m c) (X4 m c) (X5 m c)) := by
  refine (dats m 0 c).arrAt_eq_of_cover 8 _ (fun t hf => ?_) fun i => ?_
  · rw [flushed8]
    funext j
    rw [View.read_apply]
    show out0_8 (iblk m c 0 t) (iblk m c 1 t) (iblk m c 2 t) (iblk m c 3 t) (iblk m c 4 t) (iblk m c 5 t) j = dpN (X0 m c) (X1 m c) (X2 m c) (X3 m c) (X4 m c) (X5 m c) (win0_8.index t 0 * 256 + 1 * (j 0).val) (win0_8.index t 1 * 2048 + 1 * (j 1).val)
    rw [eq_rd (m := 256) (n := 2048) (out0_8 (iblk m c 0 t) (iblk m c 1 t) (iblk m c 2 t) (iblk m c 3 t) (iblk m c 4 t) (iblk m c 5 t)) j, out8_rd m c t (j 0).isLt (j 1).isLt]
    have hi := index8 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_8 _, ?_⟩
    show i ∈ ((View.whole main_v0_2).slice (win0_8.rect t)).set
    rw [View.set_slice_whole, Rect.mem_set_unit]
    have hi := index8 t
    have hv : t.val = (i 0).val / 256 := rfl
    intro a
    match a with
    | ⟨0, _⟩ => show win0_8.index t 0 * 256 ≤ (i 0).val ∧ (i 0).val < win0_8.index t 0 * 256 + 256
                rw [hi.1]; omega
    | ⟨1, _⟩ => show win0_8.index t 1 * 2048 ≤ (i 1).val ∧ (i 1).val < win0_8.index t 1 * 2048 + 2048
                rw [hi.2]; omega

theorem index9 : win0_9.index t 0 = t.val ∧ win0_9.index t 1 = 0 :=
  (by decide +kernel : ∀ t : Fin grid0.N, win0_9.index t 0 = t.val ∧ win0_9.index t 1 = 0) t

/-- The output array after the run. -/
theorem final9 : (dats m 0 c).arrAt 9 cfg0.N = tab (m := 128) (n := 2048) (partN2 (dgN (X0 m c) (X1 m c) (X2 m c) (X3 m c) (X4 m c) (X5 m c)) (lsN (X0 m c) (X1 m c) (X2 m c) (X3 m c) (X4 m c) (X5 m c)) 256) := by
  refine (dats m 0 c).arrAt_eq_of_cover 9 _ (fun t hf => ?_) fun i => ?_
  · rw [flushed9]
    funext j
    rw [View.read_apply]
    show out0_9 (iblk m c 0 t) (iblk m c 1 t) (iblk m c 2 t) (iblk m c 3 t) (iblk m c 4 t) (iblk m c 5 t) j = partN2 (dgN (X0 m c) (X1 m c) (X2 m c) (X3 m c) (X4 m c) (X5 m c)) (lsN (X0 m c) (X1 m c) (X2 m c) (X3 m c) (X4 m c) (X5 m c)) 256 (win0_9.index t 0 * 8 + 1 * (j 0).val) (win0_9.index t 1 * 2048 + 1 * (j 1).val)
    rw [eq_rd (m := 8) (n := 2048) (out0_9 (iblk m c 0 t) (iblk m c 1 t) (iblk m c 2 t) (iblk m c 3 t) (iblk m c 4 t) (iblk m c 5 t)) j, out9_rd m c t (j 0).isLt (j 1).isLt]
    have hi := index9 t
    rw [hi.1, hi.2]
    congr 1 <;> omega
  · have h0 : (i 0).val < 128 := (i 0).isLt
    have h1 : (i 1).val < 2048 := (i 1).isLt
    have hN : cfg0.N = 16 := by decide +kernel
    let t : Fin cfg0.N := ⟨(i 0).val / 8, by omega⟩
    refine ⟨t, flush0_9 _, ?_⟩
    show i ∈ ((View.whole main_v0_3).slice (win0_9.rect t)).set
    rw [View.set_slice_whole, Rect.mem_set_unit]
    have hi := index9 t
    have hv : t.val = (i 0).val / 8 := rfl
    intro a
    match a with
    | ⟨0, _⟩ => show win0_9.index t 0 * 8 ≤ (i 0).val ∧ (i 0).val < win0_9.index t 0 * 8 + 8
                rw [hi.1]; omega
    | ⟨1, _⟩ => show win0_9.index t 1 * 2048 ≤ (i 1).val ∧ (i 1).val < win0_9.index t 1 * 2048 + 2048
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 2048) (dxN (X0 m c) (X1 m c) (X2 m c) (X3 m c) (X4 m c) (X5 m c))
      ∧ r.2.mem ((c : Thread nD τ).loc main_v0_1) = tab (m := 4096) (n := 2048) (dlN (X0 m c) (X1 m c) (X2 m c) (X3 m c) (X4 m c) (X5 m c))
      ∧ r.2.mem ((c : Thread nD τ).loc main_v0_2) = tab (m := 4096) (n := 2048) (dpN (X0 m c) (X1 m c) (X2 m c) (X3 m c) (X4 m c) (X5 m c))
      ∧ r.2.mem ((c : Thread nD τ).loc main_v0_3) = tab (m := 128) (n := 2048) (partN2 (dgN (X0 m c) (X1 m c) (X2 m c) (X3 m c) (X4 m c) (X5 m c)) (lsN (X0 m c) (X1 m c) (X2 m c) (X3 m c) (X4 m c) (X5 m c)) 256)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c), (h c).2.2.2.1.trans (final9 m c), (h c).2.2.2.2⟩) (run_blocks m ρ)

section Reference
open Cert.Reference16Ideal.Read
variable (x0 : FVec Ideal ⟨2, ![4096, 2048]⟩ .bf16) (x1 : FVec Ideal ⟨2, ![2048, 2048]⟩ .bf16) (x2 x3 x4 : FVec Ideal ⟨2, ![4096, 2048]⟩ .f32)
  (x5 : FVec Ideal ⟨2, ![1, 2048]⟩ .f32) {r k : ℕ}

theorem ref_g (hr : r < 4096) (hk : k < 2048) : rd (m := 4096) (n := 2048) (val_main_v9 (F := Ideal) x0 x1) r k = gN (rd x0) (rd x1) r k := by
  unfold val_main_v9 val_main_v8 val_main_v7 val_main_v6 val_main_v5 val_main_v4 val_main_v2
  rw [rd_hostDivf _ _ hr hk, rd_addf, rd_hostExp _ hr hk, rd_hostNegf _ hr hk]
  unfold gN sgm
  exact congrArg₂ Ideal.div ((rd_bcastConst _ _ hr hk).trans c1_eq) (congrArg₂ (· + ·) ((rd_bcastConst _ _ hr hk).trans c1_eq)
    (congrArg (fun z => Ideal.exp (-z)) (rd_host_nn _ _ _ _ hr hk)))

theorem ref_x (hr : r < 4096) (hk : k < 2048) : rd (m := 4096) (n := 2048) (val_main_v14 (F := Ideal) x0 x1 x2 x3) r k = xN (rd x0) (rd x1) (rd x2) (rd x3) r k := by
  unfold val_main_v14 val_main_v13
  rw [rd_addf, rd_mulf, ref_g x0 x1 hr hk]
  rfl

theorem ref_ms (hr : r < 4096) : rd (m := 4096) (n := 1) (val_main_v21 (F := Ideal) x0 x1 x2 x3) r 0 = msq (xN (rd x0) (rd x1) (rd x2) (rd x3)) 2048 r := by
  unfold val_main_v21 val_main_v19 val_main_v17 val_main_v16 val_main_v15
  refine (rd_hostMsq (m := 4096) (n := 2048) (val_main_v14 (F := Ideal) x0 x1 x2 x3) _ _ _ _ _ hr).trans ?_
  unfold msq
  rw [Finset.sum_congr rfl fun q hq => by rw [ref_x x0 x1 x2 x3 hr (Finset.mem_range.mp hq)]]

theorem ref_rr (hr : r < 4096) : rd (m := 4096) (n := 1) (val_main_v22 (F := Ideal) x0 x1 x2 x3) r 0 = rrms (xN (rd x0) (rd x1) (rd x2) (rd x3)) 2048 r := by
  unfold val_main_v22
  rw [rd_hostRsqrt _ hr Nat.one_pos, ref_ms x0 x1 x2 x3 hr]
  rfl

theorem ref_xh (hr : r < 4096) (hk : k < 2048) : rd (m := 4096) (n := 2048) (val_main_v27 (F := Ideal) x0 x1 x2 x3) r k
    = xN (rd x0) (rd x1) (rd x2) (rd x3) r k * rrms (xN (rd x0) (rd x1) (rd x2) (rd x3)) 2048 r := by
  unfold val_main_v27 val_main_v26
  rw [rd_mulf, rd_bcastCol _ _ hr hk, ref_x x0 x1 x2 x3 hr hk, ref_rr x0 x1 x2 x3 hr]

theorem ref_e (hr : r < 4096) (hk : k < 2048) : rd (m := 4096) (n := 2048) (val_main_v29 (F := Ideal) x0 x1 x2 x3 x4 x5) r k = eN (rd x0) (rd x1) (rd x2) (rd x3) (rd x4) (rd x5) r k := by
  unfold val_main_v29 val_main_v28 val_main_v3
  rw [rd_subf _ _ hr hk, rd_mulf, rd_bcastRow _ _ hr, ref_xh x0 x1 x2 x3 hr hk]
  rfl

theorem ref_dy (hr : r < 4096) (hk : k < 2048) : rd (m := 4096) (n := 2048) (val_main_v42 (F := Ideal) x0 x1 x2 x3 x4 x5) r k = dyN (rd x0) (rd x1) (rd x2) (rd x3) (rd x4) (rd x5) r k := by
  unfold val_main_v42 val_main_v41 val_main_v40 val_main_v39 val_main_v38 val_main_v37 val_main_v32 val_main_v31
  rw [rd_mulf, rd_hostDivf _ _ hr hk, rd_mulf, rd_mulf, ref_e x0 x1 x2 x3 x4 x5 hr hk]
  refine (congrArg₂ (· * ·) (congrArg₂ Ideal.div (congrArg₂ (· * ·) ((rd_bcastConst _ _ hr hk).trans cHalf_eq) ((rd_bcastConst _ _ hr hk).trans c1_eq))
    ((rd_bcastConst _ _ hr hk).trans cD_eq)) (congrArg (· * _) ((rd_bcastConst _ _ hr hk).trans c2_eq))).trans ?_
  unfold dyN
  rw [Ideal.div_coe (by norm_num), mul_one, ← mul_assoc, mul_comm _ (eN _ _ _ _ _ _ _ _), ← EReal.coe_mul, ← EReal.coe_mul]
  congr 2
  norm_num

theorem ref_w (hr : r < 4096) (hk : k < 2048) : rd (m := 4096) (n := 2048) (val_main_v44 (F := Ideal) x0 x1 x2 x3 x4 x5) r k = W (rd x0) (rd x1) (rd x2) (rd x3) (rd x4) (rd x5) r k := by
  unfold val_main_v44 val_main_v3
  rw [rd_mulf, rd_bcastRow _ _ hr, ref_dy x0 x1 x2 x3 x4 x5 hr hk]
  rfl

/-- The reference's results at an entry. -/
theorem ref_v58 (hr : r < 4096) (hk : k < 2048) : rd (m := 4096) (n := 2048) (val_main_v58 (F := Ideal) x0 x1 x2 x3 x4 x5) r k = dxN (rd x0) (rd x1) (rd x2) (rd x3) (rd x4) (rd x5) r k := by
  unfold val_main_v58 val_main_v57 val_main_v56 val_main_v55 val_main_v54 val_main_v53 val_main_v52 val_main_v50 val_main_v49 val_main_v48
    val_main_v47 val_main_v46 val_main_v45 val_main_v25 val_main_v23
  exact rd_hostDx (val_main_v14 (F := Ideal) x0 x1 x2 x3) _ _ _ _ _ _ _ _ _ _ _ _ (ref_rr x0 x1 x2 x3 hr) (ref_ms x0 x1 x2 x3 hr) (fun q hq => ref_x x0 x1 x2 x3 hr hq)
    (fun q hq => ref_w x0 x1 x2 x3 x4 x5 hr hq) hr hk

theorem ref_v72 (hr : r < 4096) (hk : k < 2048) : rd (m := 4096) (n := 2048) (val_main_v72 (F := Ideal) x0 x1 x2 x3 x4 x5) r k = dlN (rd x0) (rd x1) (rd x2) (rd x3) (rd x4) (rd x5) r k := by
  unfold val_main_v72 val_main_v61 val_main_v60 val_main_v12 val_main_v11 val_main_v10
  rw [rd_truncf, rd_mulf, rd_mulf, rd_mulf, rd_subf _ _ hr hk, ref_v58 x0 x1 x2 x3 x4 x5 hr hk, ref_g x0 x1 hr hk]
  refine (congrArg (fun z => _ * (_ * (z - _))) ((rd_bcastConst _ _ hr hk).trans c1_eq)).trans ?_
  exact (mul_assoc _ _ _).symm

theorem ref_v73 (hr : r < 4096) (hk : k < 2048) : rd (m := 4096) (n := 2048) (val_main_v73 (F := Ideal) x0 x1 x2 x3 x4 x5) r k = dpN (rd x0) (rd x1) (rd x2) (rd x3) (rd x4) (rd x5) r k := by
  unfold val_main_v73 val_main_v59
  rw [rd_truncf, rd_mulf, ref_v58 x0 x1 x2 x3 x4 x5 hr hk, ref_g x0 x1 hr hk]
  exact mul_comm _ _

theorem ref_v71 (hr : r < 128) (hk : k < 2048) :
    rd (m := 128) (n := 2048) (val_main_v71 (F := Ideal) x0 x1 x2 x3 x4 x5) r k = partN2 (dgN (rd x0) (rd x1) (rd x2) (rd x3) (rd x4) (rd x5)) (lsN (rd x0) (rd x1) (rd x2) (rd x3) (rd x4) (rd x5)) 256 r k := by
  unfold val_main_v71 val_main_v70 val_main_v69 val_main_v68 val_main_v67 val_main_v66 val_main_v65 val_main_v64 val_main_v63 val_main_v62
  refine rd_hostPart2 (a := 16) (b := 256) _ _ rfl rfl _ _ _ _ _ _ _ _ (fun q hq => ?_) (fun q hq => ?_) hr hk
  · unfold val_main_v43
    rw [rd_mulf, ref_xh x0 x1 x2 x3 hq hk, ref_dy x0 x1 x2 x3 x4 x5 hq hk]
    exact mul_comm _ _
  · unfold val_main_v36 val_main_v35 val_main_v34 val_main_v33 val_main_v30
    rw [rd_mulf, rd_hostDivf _ _ hq hk, rd_mulf, ref_e x0 x1 x2 x3 x4 x5 hq hk]
    refine (congrArg₂ (· * ·) ((rd_bcastConst _ _ hq hk).trans cHalf_eq) (congrArg (Ideal.div _) ((rd_bcastConst _ _ hq hk).trans cD_eq))).trans ?_
    unfold lsN
    rw [Ideal.div_coe (by norm_num), mul_comm, mul_assoc, ← EReal.coe_mul]
    congr 2
    norm_num

end Reference

/-- The kernel and the reference — the gate's product, the last residual, the loss and their gradients — end with equal arrays. -/
theorem algebraic : Cert.algebraic_Kernel16Ideal_Reference16Ideal := by
  intro m ρ m' ρ' _ hag
  refine ⟨_, _, _, _, run m ρ, (θ_run _ _ _).mono (fun _ h c => ⟨(h c).1.trans ?_, (h c).2.1.trans ?_, (h c).2.2.1.trans ?_, (h c).2.2.2.1.trans ?_, (h c).2.2.2.2⟩) (Cert.Reference16Ideal.Value.run m' ρ')⟩
  · refine (Cert.Reference16Ideal.Read.val_main_v58_eq _ _).trans ?_
    rw [(hag c).1, (hag c).2.1, (hag c).2.2.1, (hag c).2.2.2.1, (hag c).2.2.2.2.1, (hag c).2.2.2.2.2]
    exact eq_tab fun r k hr hk => ref_v58 _ _ _ _ _ _ hr hk
  · refine (Cert.Reference16Ideal.Read.val_main_v72_eq _ _).trans ?_
    rw [(hag c).1, (hag c).2.1, (hag c).2.2.1, (hag c).2.2.2.1, (hag c).2.2.2.2.1, (hag c).2.2.2.2.2]
    exact eq_tab fun r k hr hk => ref_v72 _ _ _ _ _ _ hr hk
  · refine (Cert.Reference16Ideal.Read.val_main_v73_eq _ _).trans ?_
    rw [(hag c).1, (hag c).2.1, (hag c).2.2.1, (hag c).2.2.2.1, (hag c).2.2.2.2.1, (hag c).2.2.2.2.2]
    exact eq_tab fun r k hr hk => ref_v73 _ _ _ _ _ _ hr hk
  · refine (Cert.Reference16Ideal.Read.val_main_v71_eq _ _).trans ?_
    rw [(hag c).1, (hag c).2.1, (hag c).2.2.1, (hag c).2.2.2.1, (hag c).2.2.2.2.1, (hag c).2.2.2.2.2]
    exact eq_tab fun r k hr hk => ref_v71 _ _ _ _ _ _ hr hk

/-- The reference's run leaves the arguments as they were; it uses no semaphore. -/
theorem frame_ref : Cert.quiescent_Reference16Ideal := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

end Cert.Mm16

end
-- ==== Proof.Mm17.lean ====
module

public import proofs.«01_k».proof.Proof.Norm
public import proofs.«01_k».proof.Proof.Gen.Kernel17Ideal.Value
public import proofs.«01_k».proof.Proof.Gen.Reference17Ideal.Run
public import proofs.«01_k».proof.Proof.Gen.Reference17Ideal.Read

public import proofs.«01_k».proof.Defs

@[expose] public section

set_option maxRecDepth 16384

noncomputable section

namespace Cert.Mm17

open Cert.Kernel17Ideal Cert.Kernel17Ideal.Gen Cert.Kernel17Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 2048) (n := 2048) (m (c.tc.loc main_arg1))
abbrev X2 : ℕ → ℕ → EReal := rd (m := 4096) (n := 2048) (m (c.tc.loc main_arg2))
abbrev X3 : ℕ → ℕ → EReal := rd (m := 4096) (n := 2048) (m (c.tc.loc main_arg3))
abbrev X4 : ℕ → ℕ → EReal := rd (m := 1) (n := 2048) (m (c.tc.loc main_arg4))

/-- Window 0's block at a point. -/
theorem blk0 {r k : ℕ} (hr : r < 256) (hk : k < 2048) :
    rd (m := 256) (n := 2048) (iblk m c 0 t) r k = X0 m c (256 * t.val + r) (k) := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 256 + 1 * r = _; omega
  · show win0_0.index t 1 * 2048 + 1 * k = _; omega

/-- Window 1's block at a point. -/
theorem blk1 {r k : ℕ} (hr : r < 2048) (hk : k < 2048) :
    rd (m := 2048) (n := 2048) (iblk m c 1 t) r k = X1 m c (r) (k) := by
  have e := (by decide +kernel : ∀ t : Fin grid0.N, win0_1.index t 0 = 0 ∧ win0_1.index t 1 = 0) t
  rw [rd_in _ hr hk]
  unfold iblk
  rw [View.read_apply]
  show V m c main_arg1 _ = _
  rw [V_main_arg1]
  refine (rd_of_val (m := 2048) (n := 2048) _ _ ?_ ?_).symm
  · show win0_1.index t 0 * 2048 + 1 * r = _; omega
  · show win0_1.index t 1 * 2048 + 1 * k = _; omega

/-- Window 2's block at a point. -/
theorem blk2 {r k : ℕ} (hr : r < 256) (hk : k < 2048) :
    rd (m := 256) (n := 2048) (iblk m c 2 t) r k = X2 m c (256 * t.val + r) (k) := by
  have e := (by decide +kernel : ∀ t : Fin grid0.N, win0_2.index t 0 = t.val ∧ win0_2.index t 1 = 0) t
  rw [rd_in _ hr hk]
  unfold iblk
  rw [View.read_apply]
  show V m c main_arg2 _ = _
  rw [V_main_arg2]
  refine (rd_of_val (m := 4096) (n := 2048) _ _ ?_ ?_).symm
  · show win0_2.index t 0 * 256 + 1 * r = _; omega
  · show win0_2.index t 1 * 2048 + 1 * k = _; omega

/-- Window 3's block at a point. -/
theorem blk3 {r k : ℕ} (hr : r < 256) (hk : k < 2048) :
    rd (m := 256) (n := 2048) (iblk m c 3 t) r k = X3 m c (256 * t.val + r) (k) := by
  have e := (by decide +kernel : ∀ t : Fin grid0.N, win0_3.index t 0 = t.val ∧ win0_3.index t 1 = 0) t
  rw [rd_in _ hr hk]
  unfold iblk
  rw [View.read_apply]
  show V m c main_arg3 _ = _
  rw [V_main_arg3]
  refine (rd_of_val (m := 4096) (n := 2048) _ _ ?_ ?_).symm
  · show win0_3.index t 0 * 256 + 1 * r = _; omega
  · show win0_3.index t 1 * 2048 + 1 * k = _; omega

/-- Window 4's block at a point: the whole row. -/
theorem blk4 {k : ℕ} (hk : k < 2048) : rd (m := 1) (n := 2048) (iblk m c 4 t) 0 k = X4 m c 0 k := by
  have e := (by decide +kernel : ∀ t : Fin grid0.N, win0_4.index t 0 = 0 ∧ win0_4.index t 1 = 0) t
  rw [rd_in _ Nat.one_pos hk]
  unfold iblk
  rw [View.read_apply]
  show V m c main_arg4 _ = _
  rw [V_main_arg4]
  refine (rd_of_val (m := 1) (n := 2048) _ _ ?_ ?_).symm
  · show win0_4.index t 0 * 1 + 1 * 0 = 0; rw [e.1]
  · show win0_4.index t 1 * 2048 + 1 * k = _; omega

/-- The gradient after the gain: the product times the gain's row. -/
def W (A B G : ℕ → ℕ → EReal) (r k : ℕ) : EReal := ntN A B 2048 r k * G 0 k
/-- The gradient with the residual's. -/
def dxN (A B X R G : ℕ → ℕ → EReal) (r k : ℕ) : EReal := R r k + dxK X (W A B G) 2048 r k
/-- The gain's gradient before the sum over rows. -/
def dgN (A B X : ℕ → ℕ → EReal) (r k : ℕ) : EReal := ntN A B 2048 r k * (X r k * rrms X 2048 r)

theorem pay2_rd {r k : ℕ} (hr : r < 256) (hk : k < 2048) :
    rd (m := 256) (n := 2048) (k0_pay2 (F := Ideal) (iblk m c 0 t) (iblk m c 1 t)) r k = ntN (X0 m c) (X1 m c) 2048 (256 * t.val + r) k := by
  unfold k0_pay2
  dsimp only
  rw [rd_matmul_nt _ _ _ _ hr hk]
  exact ntN_congr (fun q hq => blk0 m c t hr hq) (fun q hq => blk1 m c t hk hq)

theorem pay3_rd {r : ℕ} (hr : r < 256) :
    rd (m := 256) (n := 1) (k0_pay3 (F := Ideal) (iblk m c 2 t)) r 0 = rrms (X2 m c) 2048 (256 * t.val + r) := by
  unfold k0_pay3
  dsimp only
  exact (rd_rms (m := 256) (n := 2048) (iblk m c 2 t) _ _ _ _ hr).trans (rrms_congr fun k hk => blk2 m c t hr hk)

theorem pay4_rd {r k : ℕ} (hr : r < 256) (hk : k < 2048) :
    rd (m := 256) (n := 2048) (k0_pay4 (F := Ideal) (iblk m c 2 t)) r k
      = X2 m c (256 * t.val + r) k * rrms (X2 m c) 2048 (256 * t.val + r) := by
  unfold k0_pay4
  dsimp only
  rw [rd_mulf, rd_broadcastCol _ _ hr hk, pay3_rd m c t hr]
  exact congrArg (· * _) (blk2 m c t hr hk)

theorem pay5_rd {r k : ℕ} (hr : r < 256) (hk : k < 2048) :
    rd (m := 256) (n := 2048) (k0_pay5 (F := Ideal) (iblk m c 0 t) (iblk m c 1 t) (iblk m c 2 t) (iblk m c 4 t)) r k
      = dxK (X2 m c) (W (X0 m c) (X1 m c) (X4 m c)) 2048 (256 * t.val + r) k := by
  unfold k0_pay5
  dsimp only
  refine rd_dx _ _ _ _ _ _ _ _ _ (pay3_rd m c t hr) (fun q hq => ?_) (fun q hq => pay4_rd m c t hr hq) hr hk
  rw [rd_mulf, rd_broadcastRow _ _ hr, pay2_rd m c t hr hq]
  exact congrArg (_ * ·) (blk4 m c t hq)

/-- What the body leaves in the outputs' blocks. -/
theorem out5_rd {r k : ℕ} (hr : r < 256) (hk : k < 2048) :
    rd (m := 256) (n := 2048) (out0_5 (iblk m c 0 t) (iblk m c 1 t) (iblk m c 2 t) (iblk m c 3 t) (iblk m c 4 t)) r k
      = dxN (X0 m c) (X1 m c) (X2 m c) (X3 m c) (X4 m c) (256 * t.val + r) k := by
  unfold out0_5
  rw [View.canon_unit_zero hz2]
  simp only [View.ld_unit_zero (S := S256x2048) hz2, View.ld_unit_zero (S := S2048x2048) hz2, View.ld_unit_zero (S := S1x2048) hz2]
  unfold k0_pay6
  dsimp only
  rw [rd_addf, pay5_rd m c t hr hk]
  exact congrArg (· + _) (blk3 m c t hr hk)

theorem out6_rd {r k : ℕ} (hr : r < 256) (hk : k < 2048) :
    rd (m := 256) (n := 2048) (out0_6 (iblk m c 0 t) (iblk m c 1 t) (iblk m c 2 t) (iblk m c 3 t) (iblk m c 4 t)) r k
      = dxN (X0 m c) (X1 m c) (X2 m c) (X3 m c) (X4 m c) (256 * t.val + r) k := by
  unfold out0_6
  rw [View.canon_unit_zero hz2]
  simp only [View.ld_unit_zero (S := S256x2048) hz2, View.ld_unit_zero (S := S2048x2048) hz2, View.ld_unit_zero (S := S1x2048) hz2]
  unfold k0_pay1 k0_pay7
  dsimp only
  rw [rd_truncf, rd_addf, pay5_rd m c t hr hk]
  exact congrArg (· + _) (blk3 m c t hr hk)

theorem out7_rd {r k : ℕ} (hr : r < 8) (hk : k < 2048) :
    rd (m := 8) (n := 2048) (out0_7 (iblk m c 0 t) (iblk m c 1 t) (iblk m c 2 t) (iblk m c 3 t) (iblk m c 4 t)) r k
      = partN (dgN (X0 m c) (X1 m c) (X2 m c)) 256 (8 * t.val + r) k := by
  unfold out0_7
  rw [View.canon_unit_zero hz2]
  simp only [View.ld_unit_zero (S := S256x2048) hz2, View.ld_unit_zero (S := S2048x2048) hz2, View.ld_unit_zero (S := S1x2048) hz2]
  unfold k0_pay8
  dsimp only
  refine rd_part _ _ _ _ _ _ (fun q hq => ?_) hr hk
  rw [rd_mulf, pay2_rd m c t hq hk, pay4_rd m c t hq hk]
  rfl

theorem index5 : win0_5.index t 0 = t.val ∧ win0_5.index t 1 = 0 :=
  (by decide +kernel : ∀ t : Fin grid0.N, win0_5.index t 0 = t.val ∧ win0_5.index t 1 = 0) t

/-- The output array after the run. -/
theorem final5 : (dats m 0 c).arrAt 5 cfg0.N = tab (m := 4096) (n := 2048) (dxN (X0 m c) (X1 m c) (X2 m c) (X3 m c) (X4 m c)) := by
  refine (dats m 0 c).arrAt_eq_of_cover 5 _ (fun t hf => ?_) fun i => ?_
  · rw [flushed5]
    funext j
    rw [View.read_apply]
    show out0_5 (iblk m c 0 t) (iblk m c 1 t) (iblk m c 2 t) (iblk m c 3 t) (iblk m c 4 t) j = dxN (X0 m c) (X1 m c) (X2 m c) (X3 m c) (X4 m c) (win0_5.index t 0 * 256 + 1 * (j 0).val) (win0_5.index t 1 * 2048 + 1 * (j 1).val)
    rw [eq_rd (m := 256) (n := 2048) (out0_5 (iblk m c 0 t) (iblk m c 1 t) (iblk m c 2 t) (iblk m c 3 t) (iblk m c 4 t)) j, out5_rd m c t (j 0).isLt (j 1).isLt]
    have hi := index5 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_5 _, ?_⟩
    show i ∈ ((View.whole main_v0_0).slice (win0_5.rect t)).set
    rw [View.set_slice_whole, Rect.mem_set_unit]
    have hi := index5 t
    have hv : t.val = (i 0).val / 256 := rfl
    intro a
    match a with
    | ⟨0, _⟩ => show win0_5.index t 0 * 256 ≤ (i 0).val ∧ (i 0).val < win0_5.index t 0 * 256 + 256
                rw [hi.1]; omega
    | ⟨1, _⟩ => show win0_5.index t 1 * 2048 ≤ (i 1).val ∧ (i 1).val < win0_5.index t 1 * 2048 + 2048
                rw [hi.2]; omega

theorem index6 : win0_6.index t 0 = t.val ∧ win0_6.index t 1 = 0 :=
  (by decide +kernel : ∀ t : Fin grid0.N, win0_6.index t 0 = t.val ∧ win0_6.index t 1 = 0) t

/-- The output array after the run. -/
theorem final6 : (dats m 0 c).arrAt 6 cfg0.N = tab (m := 4096) (n := 2048) (dxN (X0 m c) (X1 m c) (X2 m c) (X3 m c) (X4 m c)) := by
  refine (dats m 0 c).arrAt_eq_of_cover 6 _ (fun t hf => ?_) fun i => ?_
  · rw [flushed6]
    funext j
    rw [View.read_apply]
    show out0_6 (iblk m c 0 t) (iblk m c 1 t) (iblk m c 2 t) (iblk m c 3 t) (iblk m c 4 t) j = dxN (X0 m c) (X1 m c) (X2 m c) (X3 m c) (X4 m c) (win0_6.index t 0 * 256 + 1 * (j 0).val) (win0_6.index t 1 * 2048 + 1 * (j 1).val)
    rw [eq_rd (m := 256) (n := 2048) (out0_6 (iblk m c 0 t) (iblk m c 1 t) (iblk m c 2 t) (iblk m c 3 t) (iblk m c 4 t)) j, out6_rd m c t (j 0).isLt (j 1).isLt]
    have hi := index6 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_6 _, ?_⟩
    show i ∈ ((View.whole main_v0_1).slice (win0_6.rect t)).set
    rw [View.set_slice_whole, Rect.mem_set_unit]
    have hi := index6 t
    have hv : t.val = (i 0).val / 256 := rfl
    intro a
    match a with
    | ⟨0, _⟩ => show win0_6.index t 0 * 256 ≤ (i 0).val ∧ (i 0).val < win0_6.index t 0 * 256 + 256
                rw [hi.1]; omega
    | ⟨1, _⟩ => show win0_6.index t 1 * 2048 ≤ (i 1).val ∧ (i 1).val < win0_6.index t 1 * 2048 + 2048
                rw [hi.2]; omega

theorem index7 : win0_7.index t 0 = t.val ∧ win0_7.index t 1 = 0 :=
  (by decide +kernel : ∀ t : Fin grid0.N, win0_7.index t 0 = t.val ∧ win0_7.index t 1 = 0) t

/-- The output array after the run. -/
theorem final7 : (dats m 0 c).arrAt 7 cfg0.N = tab (m := 128) (n := 2048) (partN (dgN (X0 m c) (X1 m c) (X2 m c)) 256) := by
  refine (dats m 0 c).arrAt_eq_of_cover 7 _ (fun t hf => ?_) fun i => ?_
  · rw [flushed7]
    funext j
    rw [View.read_apply]
    show out0_7 (iblk m c 0 t) (iblk m c 1 t) (iblk m c 2 t) (iblk m c 3 t) (iblk m c 4 t) j = partN (dgN (X0 m c) (X1 m c) (X2 m c)) 256 (win0_7.index t 0 * 8 + 1 * (j 0).val) (win0_7.index t 1 * 2048 + 1 * (j 1).val)
    rw [eq_rd (m := 8) (n := 2048) (out0_7 (iblk m c 0 t) (iblk m c 1 t) (iblk m c 2 t) (iblk m c 3 t) (iblk m c 4 t)) j, out7_rd m c t (j 0).isLt (j 1).isLt]
    have hi := index7 t
    rw [hi.1, hi.2]
    congr 1 <;> omega
  · have h0 : (i 0).val < 128 := (i 0).isLt
    have h1 : (i 1).val < 2048 := (i 1).isLt
    have hN : cfg0.N = 16 := by decide +kernel
    let t : Fin cfg0.N := ⟨(i 0).val / 8, by omega⟩
    refine ⟨t, flush0_7 _, ?_⟩
    show i ∈ ((View.whole main_v0_2).slice (win0_7.rect t)).set
    rw [View.set_slice_whole, Rect.mem_set_unit]
    have hi := index7 t
    have hv : t.val = (i 0).val / 8 := rfl
    intro a
    match a with
    | ⟨0, _⟩ => show win0_7.index t 0 * 8 ≤ (i 0).val ∧ (i 0).val < win0_7.index t 0 * 8 + 8
                rw [hi.1]; omega
    | ⟨1, _⟩ => show win0_7.index t 1 * 2048 ≤ (i 1).val ∧ (i 1).val < win0_7.index t 1 * 2048 + 2048
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 2048) (dxN (X0 m c) (X1 m c) (X2 m c) (X3 m c) (X4 m c))
      ∧ r.2.mem ((c : Thread nD τ).loc main_v0_1) = tab (m := 4096) (n := 2048) (dxN (X0 m c) (X1 m c) (X2 m c) (X3 m c) (X4 m c))
      ∧ r.2.mem ((c : Thread nD τ).loc main_v0_2) = tab (m := 128) (n := 2048) (partN (dgN (X0 m c) (X1 m c) (X2 m c)) 256)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2⟩) (run_blocks m ρ)

section Reference
open Cert.Reference17Ideal.Read
variable (x0 : FVec Ideal ⟨2, ![4096, 2048]⟩ .bf16) (x1 : FVec Ideal ⟨2, ![2048, 2048]⟩ .bf16) (x2 x3 : FVec Ideal ⟨2, ![4096, 2048]⟩ .f32)
  (x4 : FVec Ideal ⟨2, ![1, 2048]⟩ .f32) {r k : ℕ}

theorem ref_ms (hr : r < 4096) : rd (m := 4096) (n := 1) (val_main_v7 (F := Ideal) x2) r 0 = msq (rd x2) 2048 r := by
  unfold val_main_v7 val_main_v5 val_main_v3 val_main_v2 val_main_v1
  exact rd_hostMsq x2 _ _ _ _ _ hr

theorem ref_rr (hr : r < 4096) : rd (m := 4096) (n := 1) (val_main_v8 (F := Ideal) x2) r 0 = rrms (rd x2) 2048 r := by
  unfold val_main_v8
  rw [rd_hostRsqrt _ hr Nat.one_pos, ref_ms x2 hr]
  rfl

theorem ref_dy (hr : r < 4096) (hk : k < 2048) :
    rd (m := 4096) (n := 2048) (val_main_v18 (F := Ideal) x0 x1) r k = ntN (rd x0) (rd x1) 2048 r k := by
  unfold val_main_v18
  exact rd_host_nt _ _ _ _ hr hk

theorem ref_w (hr : r < 4096) (hk : k < 2048) :
    rd (m := 4096) (n := 2048) (val_main_v20 (F := Ideal) x0 x1 x4) r k = W (rd x0) (rd x1) (rd x4) r k := by
  unfold val_main_v20 val_main_v0
  rw [rd_mulf, ref_dy x0 x1 hr hk, rd_bcastRow _ _ hr]
  rfl

theorem ref_dx (hr : r < 4096) (hk : k < 2048) :
    rd (m := 4096) (n := 2048) (val_main_v34 (F := Ideal) x0 x1 x2 x4) r k = dxK (rd x2) (W (rd x0) (rd x1) (rd x4)) 2048 r k := by
  unfold val_main_v34 val_main_v33 val_main_v32 val_main_v31 val_main_v30 val_main_v29 val_main_v28 val_main_v26 val_main_v25 val_main_v24
    val_main_v23 val_main_v22 val_main_v21 val_main_v11 val_main_v9
  exact rd_hostDx x2 _ _ _ _ _ _ _ _ _ _ _ _ (ref_rr x2 hr) (ref_ms x2 hr) (fun _ _ => rfl) (fun q hq => ref_w x0 x1 x4 hr hq) hr hk

/-- The reference's results at an entry. -/
theorem ref_v41 (hr : r < 4096) (hk : k < 2048) :
    rd (m := 4096) (n := 2048) (val_main_v41 (F := Ideal) x0 x1 x2 x3 x4) r k = dxN (rd x0) (rd x1) (rd x2) (rd x3) (rd x4) r k := by
  unfold val_main_v41
  rw [rd_addf, ref_dx x0 x1 x2 x4 hr hk]
  rfl

theorem ref_v43 (hr : r < 4096) (hk : k < 2048) :
    rd (m := 4096) (n := 2048) (val_main_v43 (F := Ideal) x0 x1 x2 x3 x4) r k = dxN (rd x0) (rd x1) (rd x2) (rd x3) (rd x4) r k := by
  unfold val_main_v43 val_main_v42
  rw [rd_truncf, rd_addf, ref_dx x0 x1 x2 x4 hr hk]
  rfl

theorem ref_v40 (hr : r < 128) (hk : k < 2048) :
    rd (m := 128) (n := 2048) (val_main_v40 (F := Ideal) x0 x1 x2) r k = partN (dgN (rd x0) (rd x1) (rd x2)) 256 r k := by
  unfold val_main_v40 val_main_v39 val_main_v38 val_main_v37 val_main_v36 val_main_v35
  refine rd_hostPart (a := 16) (b := 256) _ rfl rfl _ _ _ _ _ _ _ (fun q hq => ?_) hr hk
  unfold val_main_v19 val_main_v13 val_main_v12
  rw [rd_mulf, rd_mulf, rd_bcastCol _ _ hq hk, ref_rr x2 hq, ref_dy x0 x1 hq hk]
  exact mul_comm _ _

end Reference

/-- The kernel and the reference — the gradient through the third normalisation — end with equal arrays. -/
theorem algebraic : Cert.algebraic_Kernel17Ideal_Reference17Ideal := by
  intro m ρ m' ρ' _ hag
  refine ⟨_, _, _, run m ρ, (θ_run _ _ _).mono (fun _ h c => ⟨(h c).1.trans ?_, (h c).2.1.trans ?_, (h c).2.2.1.trans ?_, (h c).2.2.2⟩) (Cert.Reference17Ideal.Value.run m' ρ')⟩
  · refine (Cert.Reference17Ideal.Read.val_main_v41_eq _ _).trans ?_
    rw [(hag c).1, (hag c).2.1, (hag c).2.2.1, (hag c).2.2.2.1, (hag c).2.2.2.2]
    exact eq_tab fun r k hr hk => ref_v41 _ _ _ _ _ hr hk
  · refine (Cert.Reference17Ideal.Read.val_main_v43_eq _ _).trans ?_
    rw [(hag c).1, (hag c).2.1, (hag c).2.2.1, (hag c).2.2.2.1, (hag c).2.2.2.2]
    exact eq_tab fun r k hr hk => ref_v43 _ _ _ _ _ hr hk
  · refine (Cert.Reference17Ideal.Read.val_main_v40_eq _ _ _ ).trans ?_
    rw [(hag c).1, (hag c).2.1, (hag c).2.2.1]
    exact eq_tab fun r k hr hk => ref_v40 _ _ _ hr hk

/-- The reference's run leaves the arguments as they were; it uses no semaphore. -/
theorem frame_ref : Cert.quiescent_Reference17Ideal := fun m ρ _ =>
  (θ_run Cert.Reference17Ideal.defs _ _).mono (fun r h => ⟨fun c => (h c).2.2.2, Idealize.ShloMosaic.sem_eq_zero_of_no_sems (by decide) r.2⟩)
    (Cert.Reference17Ideal.Value.run (F := Ideal) m ρ)

end Cert.Mm17

end
-- ==== Proof.Mm18.lean ====
module

public import proofs.«01_k».proof.Proof.Norm
public import proofs.«01_k».proof.Proof.Gen.Kernel18Ideal.Value
public import proofs.«01_k».proof.Proof.Gen.Reference18Ideal.Run
public import proofs.«01_k».proof.Proof.Gen.Reference18Ideal.Read

public import proofs.«01_k».proof.Defs

@[expose] public section

set_option maxRecDepth 16384

noncomputable section

namespace Cert.Mm18

open Cert.Kernel18Ideal Cert.Kernel18Ideal.Gen Cert.Kernel18Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 128) (m (c.tc.loc main_arg0))
abbrev X1 : ℕ → ℕ → EReal := rd (m := 2048) (n := 128) (m (c.tc.loc main_arg1))
abbrev X2 : ℕ → ℕ → EReal := rd (m := 4096) (n := 2048) (m (c.tc.loc main_arg2))
abbrev X3 : ℕ → ℕ → EReal := rd (m := 4096) (n := 2048) (m (c.tc.loc main_arg3))
abbrev X4 : ℕ → ℕ → EReal := rd (m := 4096) (n := 2048) (m (c.tc.loc main_arg4))
abbrev X5 : ℕ → ℕ → EReal := rd (m := 1) (n := 2048) (m (c.tc.loc main_arg5))

/-- Window 0's block at a point. -/
theorem blk0 {r k : ℕ} (hr : r < 512) (hk : k < 128) :
    rd (m := 512) (n := 128) (iblk m c 0 t) r k = X0 m c (512 * t.val + r) (k) := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 128) _ _ ?_ ?_).symm
  · show win0_0.index t 0 * 512 + 1 * r = _; omega
  · show win0_0.index t 1 * 128 + 1 * k = _; omega

/-- Window 1's block at a point. -/
theorem blk1 {r k : ℕ} (hr : r < 2048) (hk : k < 128) :
    rd (m := 2048) (n := 128) (iblk m c 1 t) r k = X1 m c (r) (k) := by
  have e := (by decide +kernel : ∀ t : Fin grid0.N, win0_1.index t 0 = 0 ∧ win0_1.index t 1 = 0) t
  rw [rd_in _ hr hk]
  unfold iblk
  rw [View.read_apply]
  show V m c main_arg1 _ = _
  rw [V_main_arg1]
  refine (rd_of_val (m := 2048) (n := 128) _ _ ?_ ?_).symm
  · show win0_1.index t 0 * 2048 + 1 * r = _; omega
  · show win0_1.index t 1 * 128 + 1 * k = _; omega

/-- Window 2's block at a point. -/
theorem blk2 {r k : ℕ} (hr : r < 512) (hk : k < 2048) :
    rd (m := 512) (n := 2048) (iblk m c 2 t) r k = X2 m c (512 * t.val + r) (k) := by
  have e := (by decide +kernel : ∀ t : Fin grid0.N, win0_2.index t 0 = t.val ∧ win0_2.index t 1 = 0) t
  rw [rd_in _ hr hk]
  unfold iblk
  rw [View.read_apply]
  show V m c main_arg2 _ = _
  rw [V_main_arg2]
  refine (rd_of_val (m := 4096) (n := 2048) _ _ ?_ ?_).symm
  · show win0_2.index t 0 * 512 + 1 * r = _; omega
  · show win0_2.index t 1 * 2048 + 1 * k = _; omega

/-- Window 3's block at a point. -/
theorem blk3 {r k : ℕ} (hr : r < 512) (hk : k < 2048) :
    rd (m := 512) (n := 2048) (iblk m c 3 t) r k = X3 m c (512 * t.val + r) (k) := by
  have e := (by decide +kernel : ∀ t : Fin grid0.N, win0_3.index t 0 = t.val ∧ win0_3.index t 1 = 0) t
  rw [rd_in _ hr hk]
  unfold iblk
  rw [View.read_apply]
  show V m c main_arg3 _ = _
  rw [V_main_arg3]
  refine (rd_of_val (m := 4096) (n := 2048) _ _ ?_ ?_).symm
  · show win0_3.index t 0 * 512 + 1 * r = _; omega
  · show win0_3.index t 1 * 2048 + 1 * k = _; omega

/-- Window 4's block at a point. -/
theorem blk4 {r k : ℕ} (hr : r < 512) (hk : k < 2048) :
    rd (m := 512) (n := 2048) (iblk m c 4 t) r k = X4 m c (512 * t.val + r) (k) := by
  have e := (by decide +kernel : ∀ t : Fin grid0.N, win0_4.index t 0 = t.val ∧ win0_4.index t 1 = 0) t
  rw [rd_in _ hr hk]
  unfold iblk
  rw [View.read_apply]
  show V m c main_arg4 _ = _
  rw [V_main_arg4]
  refine (rd_of_val (m := 4096) (n := 2048) _ _ ?_ ?_).symm
  · show win0_4.index t 0 * 512 + 1 * r = _; omega
  · show win0_4.index t 1 * 2048 + 1 * k = _; omega

/-- Window 5's block at a point: the whole row. -/
theorem blk5 {k : ℕ} (hk : k < 2048) : rd (m := 1) (n := 2048) (iblk m c 5 t) 0 k = X5 m c 0 k := by
  have e := (by decide +kernel : ∀ t : Fin grid0.N, win0_5.index t 0 = 0 ∧ win0_5.index t 1 = 0) t
  rw [rd_in _ Nat.one_pos hk]
  unfold iblk
  rw [View.read_apply]
  show V m c main_arg5 _ = _
  rw [V_main_arg5]
  refine (rd_of_val (m := 1) (n := 2048) _ _ ?_ ?_).symm
  · show win0_5.index t 0 * 1 + 1 * 0 = 0; rw [e.1]
  · show win0_5.index t 1 * 2048 + 1 * k = _; omega

/-- The gradient of the normalised input: the small columns' share added to the wide ones'. -/
def dhN (A B H : ℕ → ℕ → EReal) (r k : ℕ) : EReal := ntN A B 128 r k + H r k
/-- It times the gain. -/
def W (A B H G : ℕ → ℕ → EReal) (r k : ℕ) : EReal := dhN A B H r k * G 0 k
/-- The gradient with the residual's. -/
def dxN (A B H X R G : ℕ → ℕ → EReal) (r k : ℕ) : EReal := R r k + dxK X (W A B H G) 2048 r k
/-- The gain's gradient before the sum over rows. -/
def dgN (A B H X : ℕ → ℕ → EReal) (r k : ℕ) : EReal := dhN A B H r k * (X r k * rrms X 2048 r)

theorem pay1_rd {r k : ℕ} (hr : r < 512) (hk : k < 2048) :
    rd (m := 512) (n := 2048) (k0_pay1 (F := Ideal) (iblk m c 0 t) (iblk m c 1 t) (iblk m c 2 t)) r k
      = dhN (X0 m c) (X1 m c) (X2 m c) (512 * t.val + r) k := by
  unfold k0_pay1
  dsimp only
  rw [rd_addf, rd_matmul_nt _ _ _ _ hr hk]
  exact congrArg₂ (· + ·) (ntN_congr (fun q hq => blk0 m c t hr hq) (fun q hq => blk1 m c t hk hq)) (blk2 m c t hr hk)

theorem pay2_rd {r : ℕ} (hr : r < 512) :
    rd (m := 512) (n := 1) (k0_pay2 (F := Ideal) (iblk m c 3 t)) r 0 = rrms (X3 m c) 2048 (512 * t.val + r) := by
  unfold k0_pay2
  dsimp only
  exact (rd_rms (m := 512) (n := 2048) (iblk m c 3 t) _ _ _ _ hr).trans (rrms_congr fun k hk => blk3 m c t hr hk)

theorem pay3_rd {r k : ℕ} (hr : r < 512) (hk : k < 2048) :
    rd (m := 512) (n := 2048) (k0_pay3 (F := Ideal) (iblk m c 3 t)) r k
      = X3 m c (512 * t.val + r) k * rrms (X3 m c) 2048 (512 * t.val + r) := by
  unfold k0_pay3
  dsimp only
  rw [rd_mulf, rd_broadcastCol _ _ hr hk, pay2_rd m c t hr]
  exact congrArg (· * _) (blk3 m c t hr hk)

/-- What the body leaves in the outputs' blocks. -/
theorem out6_rd {r k : ℕ} (hr : r < 512) (hk : k < 2048) :
    rd (m := 512) (n := 2048) (out0_6 (iblk m c 0 t) (iblk m c 1 t) (iblk m c 2 t) (iblk m c 3 t) (iblk m c 4 t) (iblk m c 5 t)) r k
      = dxN (X0 m c) (X1 m c) (X2 m c) (X3 m c) (X4 m c) (X5 m c) (512 * t.val + r) k := by
  unfold out0_6
  rw [View.canon_unit_zero hz2]
  simp only [View.ld_unit_zero (S := S512x128) hz2, View.ld_unit_zero (S := S2048x128) hz2, View.ld_unit_zero (S := S512x2048) hz2, View.ld_unit_zero (S := S1x2048) hz2]
  unfold k0_pay4
  dsimp only
  rw [rd_addf]
  refine congrArg₂ (· + ·) (blk4 m c t hr hk)
    (rd_dx _ _ _ _ _ _ _ _ _ (pay2_rd m c t hr) (fun q hq => ?_) (fun q hq => pay3_rd m c t hr hq) hr hk)
  rw [rd_mulf, rd_broadcastRow _ _ hr, pay1_rd m c t hr hq]
  exact congrArg (_ * ·) (blk5 m c t hq)

theorem out7_rd {r k : ℕ} (hr : r < 8) (hk : k < 2048) :
    rd (m := 8) (n := 2048) (out0_7 (iblk m c 0 t) (iblk m c 1 t) (iblk m c 2 t) (iblk m c 3 t) (iblk m c 4 t) (iblk m c 5 t)) r k
      = partN (dgN (X0 m c) (X1 m c) (X2 m c) (X3 m c)) 512 (8 * t.val + r) k := by
  unfold out0_7
  rw [View.canon_unit_zero hz2]
  simp only [View.ld_unit_zero (S := S512x128) hz2, View.ld_unit_zero (S := S2048x128) hz2, View.ld_unit_zero (S := S512x2048) hz2, View.ld_unit_zero (S := S1x2048) hz2]
  unfold k0_pay5
  dsimp only
  refine rd_part _ _ _ _ _ _ (fun q hq => ?_) hr hk
  rw [rd_mulf, pay1_rd m c t hq hk, pay3_rd m c t hq hk]
  rfl

theorem index6 : win0_6.index t 0 = t.val ∧ win0_6.index t 1 = 0 :=
  (by decide +kernel : ∀ t : Fin grid0.N, win0_6.index t 0 = t.val ∧ win0_6.index t 1 = 0) t

/-- The output array after the run. -/
theorem final6 : (dats m 0 c).arrAt 6 cfg0.N = tab (m := 4096) (n := 2048) (dxN (X0 m c) (X1 m c) (X2 m c) (X3 m c) (X4 m c) (X5 m c)) := by
  refine (dats m 0 c).arrAt_eq_of_cover 6 _ (fun t hf => ?_) fun i => ?_
  · rw [flushed6]
    funext j
    rw [View.read_apply]
    show out0_6 (iblk m c 0 t) (iblk m c 1 t) (iblk m c 2 t) (iblk m c 3 t) (iblk m c 4 t) (iblk m c 5 t) j = dxN (X0 m c) (X1 m c) (X2 m c) (X3 m c) (X4 m c) (X5 m c) (win0_6.index t 0 * 512 + 1 * (j 0).val) (win0_6.index t 1 * 2048 + 1 * (j 1).val)
    rw [eq_rd (m := 512) (n := 2048) (out0_6 (iblk m c 0 t) (iblk m c 1 t) (iblk m c 2 t) (iblk m c 3 t) (iblk m c 4 t) (iblk m c 5 t)) j, out6_rd m c t (j 0).isLt (j 1).isLt]
    have hi := index6 t
    rw [hi.1, hi.2]
    congr 1 <;> omega
  · have h0 : (i 0).val < 4096 := (i 0).isLt
    have h1 : (i 1).val < 2048 := (i 1).isLt
    have hN : cfg0.N = 8 := by decide +kernel
    let t : Fin cfg0.N := ⟨(i 0).val / 512, by omega⟩
    refine ⟨t, flush0_6 _, ?_⟩
    show i ∈ ((View.whole main_v0_0).slice (win0_6.rect t)).set
    rw [View.set_slice_whole, Rect.mem_set_unit]
    have hi := index6 t
    have hv : t.val = (i 0).val / 512 := rfl
    intro a
    match a with
    | ⟨0, _⟩ => show win0_6.index t 0 * 512 ≤ (i 0).val ∧ (i 0).val < win0_6.index t 0 * 512 + 512
                rw [hi.1]; omega
    | ⟨1, _⟩ => show win0_6.index t 1 * 2048 ≤ (i 1).val ∧ (i 1).val < win0_6.index t 1 * 2048 + 2048
                rw [hi.2]; omega

theorem index7 : win0_7.index t 0 = t.val ∧ win0_7.index t 1 = 0 :=
  (by decide +kernel : ∀ t : Fin grid0.N, win0_7.index t 0 = t.val ∧ win0_7.index t 1 = 0) t

/-- The output array after the run. -/
theorem final7 : (dats m 0 c).arrAt 7 cfg0.N = tab (m := 64) (n := 2048) (partN (dgN (X0 m c) (X1 m c) (X2 m c) (X3 m c)) 512) := by
  refine (dats m 0 c).arrAt_eq_of_cover 7 _ (fun t hf => ?_) fun i => ?_
  · rw [flushed7]
    funext j
    rw [View.read_apply]
    show out0_7 (iblk m c 0 t) (iblk m c 1 t) (iblk m c 2 t) (iblk m c 3 t) (iblk m c 4 t) (iblk m c 5 t) j = partN (dgN (X0 m c) (X1 m c) (X2 m c) (X3 m c)) 512 (win0_7.index t 0 * 8 + 1 * (j 0).val) (win0_7.index t 1 * 2048 + 1 * (j 1).val)
    rw [eq_rd (m := 8) (n := 2048) (out0_7 (iblk m c 0 t) (iblk m c 1 t) (iblk m c 2 t) (iblk m c 3 t) (iblk m c 4 t) (iblk m c 5 t)) j, out7_rd m c t (j 0).isLt (j 1).isLt]
    have hi := index7 t
    rw [hi.1, hi.2]
    congr 1 <;> omega
  · have h0 : (i 0).val < 64 := (i 0).isLt
    have h1 : (i 1).val < 2048 := (i 1).isLt
    have hN : cfg0.N = 8 := by decide +kernel
    let t : Fin cfg0.N := ⟨(i 0).val / 8, by omega⟩
    refine ⟨t, flush0_7 _, ?_⟩
    show i ∈ ((View.whole main_v0_1).slice (win0_7.rect t)).set
    rw [View.set_slice_whole, Rect.mem_set_unit]
    have hi := index7 t
    have hv : t.val = (i 0).val / 8 := rfl
    intro a
    match a with
    | ⟨0, _⟩ => show win0_7.index t 0 * 8 ≤ (i 0).val ∧ (i 0).val < win0_7.index t 0 * 8 + 8
                rw [hi.1]; omega
    | ⟨1, _⟩ => show win0_7.index t 1 * 2048 ≤ (i 1).val ∧ (i 1).val < win0_7.index t 1 * 2048 + 2048
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 2048) (dxN (X0 m c) (X1 m c) (X2 m c) (X3 m c) (X4 m c) (X5 m c))
      ∧ r.2.mem ((c : Thread nD τ).loc main_v0_1) = tab (m := 64) (n := 2048) (partN (dgN (X0 m c) (X1 m c) (X2 m c) (X3 m c)) 512)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2⟩) (run_blocks m ρ)

section Reference
open Cert.Reference18Ideal.Read
variable (x0 : FVec Ideal ⟨2, ![4096, 128]⟩ .bf16) (x1 : FVec Ideal ⟨2, ![2048, 128]⟩ .bf16) (x2 x3 x4 : FVec Ideal ⟨2, ![4096, 2048]⟩ .f32)
  (x5 : FVec Ideal ⟨2, ![1, 2048]⟩ .f32) {r k : ℕ}

theorem ref_ms (hr : r < 4096) : rd (m := 4096) (n := 1) (val_main_v13 (F := Ideal) x3) r 0 = msq (rd x3) 2048 r := by
  unfold val_main_v13 val_main_v11 val_main_v9 val_main_v8 val_main_v7
  exact rd_hostMsq x3 _ _ _ _ _ hr

theorem ref_rr (hr : r < 4096) : rd (m := 4096) (n := 1) (val_main_v14 (F := Ideal) x3) r 0 = rrms (rd x3) 2048 r := by
  unfold val_main_v14
  rw [rd_hostRsqrt _ hr Nat.one_pos, ref_ms x3 hr]
  rfl

theorem ref_dh (hr : r < 4096) (hk : k < 2048) :
    rd (m := 4096) (n := 2048) (val_main_v5 (F := Ideal) x0 x1 x2) r k = dhN (rd x0) (rd x1) (rd x2) r k := by
  unfold val_main_v5 val_main_v4
  exact (rd_addf _ _ _ _).trans (congrArg (· + rd x2 r k) (rd_host_nt _ _ _ _ hr hk))

theorem ref_w (hr : r < 4096) (hk : k < 2048) :
    rd (m := 4096) (n := 2048) (val_main_v22 (F := Ideal) x0 x1 x2 x5) r k = W (rd x0) (rd x1) (rd x2) (rd x5) r k := by
  unfold val_main_v22 val_main_v6
  rw [rd_mulf, ref_dh x0 x1 x2 hr hk, rd_bcastRow _ _ hr]
  rfl

/-- The reference's results at an entry. -/
theorem ref_v43 (hr : r < 4096) (hk : k < 2048) :
    rd (m := 4096) (n := 2048) (val_main_v43 (F := Ideal) x0 x1 x2 x3 x4 x5) r k
      = dxN (rd x0) (rd x1) (rd x2) (rd x3) (rd x4) (rd x5) r k := by
  unfold val_main_v43 val_main_v36 val_main_v35 val_main_v34 val_main_v33 val_main_v32 val_main_v31 val_main_v30 val_main_v28 val_main_v27
    val_main_v26 val_main_v25 val_main_v24 val_main_v23 val_main_v17 val_main_v15
  rw [rd_addf]
  exact congrArg (rd x4 r k + ·) (rd_hostDx x3 _ _ _ _ _ _ _ _ _ _ _ _ (ref_rr x3 hr) (ref_ms x3 hr) (fun _ _ => rfl)
    (fun q hq => ref_w x0 x1 x2 x5 hr hq) hr hk)

theorem ref_v42 (hr : r < 64) (hk : k < 2048) :
    rd (m := 64) (n := 2048) (val_main_v42 (F := Ideal) x0 x1 x2 x3) r k = partN (dgN (rd x0) (rd x1) (rd x2) (rd x3)) 512 r k := by
  unfold val_main_v42 val_main_v41 val_main_v40 val_main_v39 val_main_v38 val_main_v37
  refine rd_hostPart (a := 8) (b := 512) _ rfl rfl _ _ _ _ _ _ _ (fun q hq => ?_) hr hk
  unfold val_main_v21 val_main_v19 val_main_v18
  rw [rd_mulf, rd_mulf, rd_bcastCol _ _ hq hk, ref_rr x3 hq, ref_dh x0 x1 x2 hq hk]
  exact mul_comm _ _

end Reference

/-- The kernel and the reference — the gradient of the step's input through the first normalisation — end with equal arrays. -/
theorem algebraic : Cert.algebraic_Kernel18Ideal_Reference18Ideal := by
  intro m ρ m' ρ' _ hag
  refine ⟨_, _, run m ρ, (θ_run _ _ _).mono (fun _ h c => ⟨(h c).1.trans ?_, (h c).2.1.trans ?_, (h c).2.2⟩) (Cert.Reference18Ideal.Value.run m' ρ')⟩
  · refine (Cert.Reference18Ideal.Read.val_main_v43_eq _ _).trans ?_
    rw [(hag c).1, (hag c).2.1, (hag c).2.2.1, (hag c).2.2.2.1, (hag c).2.2.2.2.1, (hag c).2.2.2.2.2]
    exact eq_tab fun r k hr hk => ref_v43 _ _ _ _ _ _ hr hk
  · refine (Cert.Reference18Ideal.Read.val_main_v42_eq _ _ _ _ ).trans ?_
    rw [(hag c).1, (hag c).2.1, (hag c).2.2.1, (hag c).2.2.2.1]
    exact eq_tab fun r k hr hk => ref_v42 _ _ _ _ hr hk

/-- The reference's run leaves the arguments as they were; it uses no semaphore. -/
theorem frame_ref : Cert.quiescent_Reference18Ideal := fun m ρ _ =>
  (θ_run Cert.Reference18Ideal.defs _ _).mono (fun r h => ⟨fun c => (h c).2.2, Idealize.ShloMosaic.sem_eq_zero_of_no_sems (by decide) r.2⟩)
    (Cert.Reference18Ideal.Value.run (F := Ideal) m ρ)

end Cert.Mm18

end
-- ==== Proof.Mm19.lean ====
module

public import proofs.«01_k».proof.Proof.Dot
public import proofs.«01_k».proof.Proof.Gen.Kernel19Ideal.Value
public import proofs.«01_k».proof.Proof.Gen.Reference19Ideal.Run
public import proofs.«01_k».proof.Proof.Gen.Reference19Ideal.Read

public import proofs.«01_k».proof.Defs

@[expose] public section

set_option maxRecDepth 16384

noncomputable section

namespace Cert.Mm19

open Cert.Kernel19Ideal Cert.Kernel19Ideal.Gen Cert.Kernel19Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 256) (m (c.tc.loc main_arg0))
abbrev X1 : ℕ → ℕ → ℕ → EReal := rd3 (a := 4) (m := 256) (n := 512) (m (c.tc.loc main_arg1))
/-- The column shards side by side. -/
def W1 (A : ℕ → ℕ → ℕ → EReal) (k j : ℕ) : EReal := A (j / 512) k (j % 512)

/-- Window 0's block at a point. -/
theorem blk0 {r k : ℕ} (hr : r < 1024) (hk : k < 256) :
    rd (m := 1024) (n := 256) (iblk m c 0 t) r k = X0 m c (1024 * (t.val / 4) + r) (k) := by
  have e := (by decide +kernel : ∀ t : Fin grid0.N, win0_0.index t 0 = t.val / 4 ∧ win0_0.index t 1 = 0) t
  rw [rd_in _ hr hk]
  unfold iblk
  rw [View.read_apply]
  show V m c main_arg0 _ = _
  rw [V_main_arg0]
  refine (rd_of_val (m := 4096) (n := 256) _ _ ?_ ?_).symm
  · show win0_0.index t 0 * 1024 + 1 * r = _; omega
  · show win0_0.index t 1 * 256 + 1 * k = _; omega

/-- Window 1's block at a point. -/
theorem blk1 {r k : ℕ} (hr : r < 256) (hk : k < 512) :
    rd3 (a := 1) (m := 256) (n := 512) (iblk m c 1 t) 0 r k = W1 (X1 m c) r (512 * (t.val % 4) + k) := by
  have e := (by decide +kernel : ∀ t : Fin grid0.N, win0_1.index t 0 = t.val % 4 ∧ win0_1.index t 1 = 0 ∧ win0_1.index t 2 = 0) t
  rw [rd3_in _ Nat.one_pos hr hk]
  unfold iblk
  rw [View.read_apply]
  show V m c main_arg1 _ = _
  rw [V_main_arg1]
  refine (rd3_of_val (a := 4) (m := 256) (n := 512) _ _ ?_ ?_ ?_).symm
  · show win0_1.index t 0 * 1 + 1 * 0 = _; omega
  · show win0_1.index t 1 * 256 + 1 * r = _; omega
  · show win0_1.index t 2 * 512 + 1 * k = _; rw [e.2.2]; omega

/-- What the body leaves in the output's block. -/
theorem out_rd {r k : ℕ} (hr : r < 1024) (hk : k < 512) :
    rd (m := 1024) (n := 512) (out0_2 (iblk m c 0 t) (iblk m c 1 t)) r k
      = nnN (X0 m c) (W1 (X1 m c)) 256 (1024 * (t.val / 4) + r) (512 * (t.val % 4) + k) := by
  unfold out0_2
  rw [View.canon_unit_zero hz2, View.ld_unit_zero (S := S1024x256) hz2, View.ld_unit_zero (S := S1x256x512) hz3]
  unfold k0_pay1
  dsimp only
  rw [rd_matmul_nn _ _ _ _ hr hk]
  exact nnN_congr (fun q hq => blk0 m c t hr hq) (fun q hq => (rd_cast3 _ _ hq hk).trans (blk1 m c t hq hk))

theorem index2 : win0_2.index t 0 = t.val / 4 ∧ win0_2.index t 1 = t.val % 4 :=
  (by decide +kernel : ∀ t : Fin grid0.N, win0_2.index t 0 = t.val / 4 ∧ win0_2.index t 1 = t.val % 4) t

/-- The output array after the run. -/
theorem final2 : (dats m 0 c).arrAt 2 cfg0.N = tab (m := 4096) (n := 2048) (nnN (X0 m c) (W1 (X1 m c)) 256) := by
  refine (dats m 0 c).arrAt_eq_of_cover 2 _ (fun t hf => ?_) fun i => ?_
  · rw [flushed2]
    funext j
    rw [View.read_apply]
    show out0_2 (iblk m c 0 t) (iblk m c 1 t) j = nnN (X0 m c) (W1 (X1 m c)) 256 (win0_2.index t 0 * 1024 + 1 * (j 0).val) (win0_2.index t 1 * 512 + 1 * (j 1).val)
    rw [eq_rd (m := 1024) (n := 512) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨4 * ((i 0).val / 1024) + (i 1).val / 512, by omega⟩
    refine ⟨t, flush0_2 _, ?_⟩
    show i ∈ ((View.whole main_v0).slice (win0_2.rect t)).set
    rw [View.set_slice_whole, Rect.mem_set_unit]
    have hi := index2 t
    have hv : t.val = 4 * ((i 0).val / 1024) + (i 1).val / 512 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 512 ≤ (i 1).val ∧ (i 1).val < win0_2.index t 1 * 512 + 512
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (nnN (X0 m c) (W1 (X1 m c)) 256)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's weights: the column shards side by side. -/
theorem ref_w (x1 : FVec Ideal ⟨3, ![4, 256, 512]⟩ .bf16) {r k : ℕ} (hr : r < 256) (hk : k < 2048) :
    rd (m := 256) (n := 2048) (Cert.Reference19Ideal.Read.val_main_v2 (F := Ideal) x1) r k = rd3 x1 (k / 512) r (k % 512) := by
  rw [rd_in _ hr hk, Cert.Reference19Ideal.Read.val_main_v2_apply, Cert.Reference19Ideal.Read.val_main_v1_apply]
  refine (rd3_of_val (a := 4) (m := 256) (n := 512) x1 _ ?_ ?_ ?_).symm
  · show (r * 2048 + k) / 512 % 4 = _; omega
  · show (r * 2048 + k) / 2048 = _; omega
  · show (r * 2048 + k) % 512 = _; omega

/-- The reference's result at an entry. -/
theorem ref_rd (x0 : FVec Ideal ⟨2, ![4096, 256]⟩ .f32) (x1 : FVec Ideal ⟨3, ![4, 256, 512]⟩ .bf16) {r k : ℕ}
    (hr : r < 4096) (hk : k < 2048) :
    rd (m := 4096) (n := 2048) (Cert.Reference19Ideal.Read.val_main_v3 (F := Ideal) x0 x1) r k = nnN (rd x0) (W1 (rd3 x1)) 256 r k := by
  unfold Cert.Reference19Ideal.Read.val_main_v3
  refine (rd_host_nn _ _ _ _ (by omega) (by omega)).trans (nnN_congr (fun q hq => rfl) fun q hq => ?_)
  rw [ref_w _ hq (by omega)]
  rfl

/-- The kernel and the reference — the per-layer embedding's projection — end with equal arrays. -/
theorem algebraic : Cert.algebraic_Kernel19Ideal_Reference19Ideal := by
  intro m ρ m' ρ' _ hag
  refine ⟨_, run m ρ, (θ_run _ _ _).mono (fun _ h c => ⟨(h c).1.trans ?_, (h c).2⟩) (Cert.Reference19Ideal.Value.run m' ρ')⟩
  rw [(hag c).1, (hag c).2]
  exact (Cert.Reference19Ideal.Read.val_main_v3_eq _ _ ).trans (eq_tab fun r k hr hk => ref_rd _ _ hr hk)

/-- The reference's run leaves the arguments as they were; it uses no semaphore. -/
theorem frame_ref : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

end Cert.Mm19

end
-- ==== Proof.Mm20.lean ====
module

public import proofs.«01_k».proof.Proof.Dot
public import proofs.«01_k».proof.Proof.Gen.Kernel20Ideal.Value
public import proofs.«01_k».proof.Proof.Gen.Reference20Ideal.Run
public import proofs.«01_k».proof.Proof.Gen.Reference20Ideal.Read

public import proofs.«01_k».proof.Defs

@[expose] public section

set_option maxRecDepth 16384

noncomputable section

namespace Cert.Mm20

open Cert.Kernel20Ideal Cert.Kernel20Ideal.Gen Cert.Kernel20Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 256) (m (c.tc.loc main_arg0))
abbrev X1 : ℕ → ℕ → EReal := rd (m := 4096) (n := 2048) (m (c.tc.loc main_arg1))

/-- Window 0's block at a point. -/
theorem blk0 {r k : ℕ} (hr : r < 4096) (hk : k < 256) :
    rd (m := 4096) (n := 256) (iblk m c 0 t) r k = X0 m c (r) (256 * (t.val / 4) + k) := by
  have e := (by decide +kernel : ∀ t : Fin grid0.N, win0_0.index t 0 = 0 ∧ win0_0.index t 1 = t.val / 4) t
  rw [rd_in _ hr hk]
  unfold iblk
  rw [View.read_apply]
  show V m c main_arg0 _ = _
  rw [V_main_arg0]
  refine (rd_of_val (m := 4096) (n := 256) _ _ ?_ ?_).symm
  · show win0_0.index t 0 * 4096 + 1 * r = _; omega
  · show win0_0.index t 1 * 256 + 1 * k = _; omega

/-- Window 1's block at a point. -/
theorem blk1 {r k : ℕ} (hr : r < 4096) (hk : k < 512) :
    rd (m := 4096) (n := 512) (iblk m c 1 t) r k = X1 m c (r) (512 * (t.val % 4) + k) := by
  have e := (by decide +kernel : ∀ t : Fin grid0.N, win0_1.index t 0 = 0 ∧ win0_1.index t 1 = t.val % 4) t
  rw [rd_in _ hr hk]
  unfold iblk
  rw [View.read_apply]
  show V m c main_arg1 _ = _
  rw [V_main_arg1]
  refine (rd_of_val (m := 4096) (n := 2048) _ _ ?_ ?_).symm
  · show win0_1.index t 0 * 4096 + 1 * r = _; omega
  · show win0_1.index t 1 * 512 + 1 * k = _; omega

/-- What the body leaves in the output's block. -/
theorem out_rd {r k : ℕ} (hr : r < 256) (hk : k < 512) :
    rd3 (a := 1) (m := 256) (n := 512) (out0_2 (iblk m c 0 t) (iblk m c 1 t)) 0 r k
      = tnN (X0 m c) (X1 m c) 4096 (256 * (t.val / 4) + r) (512 * (t.val % 4) + k) := by
  unfold out0_2
  rw [View.canon_unit_zero hz3, View.ld_unit_zero (S := S4096x256) hz2, View.ld_unit_zero (S := S4096x512) hz2]
  unfold k0_pay1
  dsimp only
  rw [rd3_cast _ _ hr hk, rd_matmul_tn _ _ _ _ hr hk]
  exact tnN_congr (fun q hq => blk0 m c t hq hr) (fun q hq => blk1 m c t hq hk)

/-- The gradient's four column shards. -/
def G (A B : ℕ → ℕ → EReal) (p r k : ℕ) : EReal := tnN A B 4096 r (512 * p + k)

theorem index2 : win0_2.index t 0 = t.val % 4 ∧ win0_2.index t 1 = t.val / 4 ∧ win0_2.index t 2 = 0 :=
  (by decide +kernel : ∀ t : Fin grid0.N, win0_2.index t 0 = t.val % 4 ∧ win0_2.index t 1 = t.val / 4 ∧ win0_2.index t 2 = 0) t

/-- The output array after the run. -/
theorem final2 : (dats m 0 c).arrAt 2 cfg0.N = tab3 (a := 4) (m := 256) (n := 512) (G (X0 m c) (X1 m c)) := by
  refine (dats m 0 c).arrAt_eq_of_cover 2 _ (fun t hf => ?_) fun i => ?_
  · rw [flushed2]
    funext j
    rw [View.read_apply]
    show out0_2 (iblk m c 0 t) (iblk m c 1 t) j = G (X0 m c) (X1 m c) (win0_2.index t 0 * 1 + 1 * (j 0).val)
      (win0_2.index t 1 * 256 + 1 * (j 1).val) (win0_2.index t 2 * 512 + 1 * (j 2).val)
    have j0 : (j 0).val = 0 := by have h : (j 0).val < 1 := (j 0).isLt; omega
    rw [eq_rd3 (a := 1) (m := 256) (n := 512) (out0_2 (iblk m c 0 t) (iblk m c 1 t)) j, j0, out_rd m c t (j 1).isLt (j 2).isLt]
    have hi := index2 t
    rw [hi.1, hi.2.1, hi.2.2]
    unfold G
    congr 1 <;> omega
  · have h0 : (i 0).val < 4 := (i 0).isLt
    have h1 : (i 1).val < 256 := (i 1).isLt
    have h2 : (i 2).val < 512 := (i 2).isLt
    have hN : cfg0.N = 4 := by decide +kernel
    let t : Fin cfg0.N := ⟨4 * ((i 1).val / 256) + (i 0).val, by omega⟩
    refine ⟨t, flush0_2 _, ?_⟩
    show i ∈ ((View.whole main_v0).slice (win0_2.rect t)).set
    rw [View.set_slice_whole, Rect.mem_set_unit]
    have hi := index2 t
    have hv : t.val = 4 * ((i 1).val / 256) + (i 0).val := rfl
    intro a
    match a with
    | ⟨0, _⟩ => show win0_2.index t 0 * 1 ≤ (i 0).val ∧ (i 0).val < win0_2.index t 0 * 1 + 1
                rw [hi.1]; omega
    | ⟨1, _⟩ => show win0_2.index t 1 * 256 ≤ (i 1).val ∧ (i 1).val < win0_2.index t 1 * 256 + 256
                rw [hi.2.1]; omega
    | ⟨2, _⟩ => show win0_2.index t 2 * 512 ≤ (i 2).val ∧ (i 2).val < win0_2.index t 2 * 512 + 512
                rw [hi.2.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab3 (a := 4) (m := 256) (n := 512) (G (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 256]⟩ .f32) (x1 : FVec Ideal ⟨2, ![4096, 2048]⟩ .bf16) {p r k : ℕ}
    (hp : p < 4) (hr : r < 256) (hk : k < 512) :
    rd3 (a := 4) (m := 256) (n := 512) (Cert.Reference20Ideal.Read.val_main_v8 (F := Ideal) x0 x1) p r k = G (rd x0) (rd x1) p r k := by
  rw [rd3_in _ hp hr hk, Cert.Reference20Ideal.Read.val_main_v8_apply, Cert.Reference20Ideal.Read.val_main_v7_apply]
  refine (rd_of_val (m := 256) (n := 2048) (r := r) (c := 512 * p + k) _ _ ?_ ?_).symm.trans ?_
  · show ((r * 4 + p) * 512 + k) / 2048 = r; omega
  · show ((r * 4 + p) * 512 + k) % 2048 = 512 * p + k; omega
  · unfold Cert.Reference20Ideal.Read.val_main_v6
    rw [rd_transpose _ _ hr (by omega)]
    exact (rd_host_tn _ _ _ _ (by omega) hr).trans (tnN_swap _ _ _ _ _)

/-- The kernel and the reference — the gradient of the per-layer embedding's projection — end with equal arrays. -/
theorem algebraic : Cert.algebraic_Kernel20Ideal_Reference20Ideal := by
  intro m ρ m' ρ' _ hag
  refine ⟨_, run m ρ, (θ_run _ _ _).mono (fun _ h c => ⟨(h c).1.trans ?_, (h c).2⟩) (Cert.Reference20Ideal.Value.run m' ρ')⟩
  rw [(hag c).1, (hag c).2]
  exact (Cert.Reference20Ideal.Read.val_main_v8_eq _ _ ).trans (eq_tab3 fun p r k hp hr hk => ref_rd _ _ hp hr hk)

/-- The reference's run leaves the arguments as they were; it uses no semaphore. -/
theorem frame_ref : Cert.quiescent_Reference20Ideal := fun m ρ _ =>
  (θ_run Cert.Reference20Ideal.defs _ _).mono (fun r h => ⟨fun c => (h c).2, Idealize.ShloMosaic.sem_eq_zero_of_no_sems (by decide) r.2⟩)
    (Cert.Reference20Ideal.Value.run (F := Ideal) m ρ)

end Cert.Mm20

end
-- ==== Proof.Mm21.lean ====
module

public import proofs.«01_k».proof.Proof.Dot
public import proofs.«01_k».proof.Proof.Gen.Kernel21Ideal.Value
public import proofs.«01_k».proof.Proof.Gen.Reference21Ideal.Run
public import proofs.«01_k».proof.Proof.Gen.Reference21Ideal.Read

public import proofs.«01_k».proof.Defs

@[expose] public section

set_option maxRecDepth 16384

noncomputable section

namespace Cert.Mm21

open Cert.Kernel21Ideal Cert.Kernel21Ideal.Gen Cert.Kernel21Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 2048) (n := 128) (m (c.tc.loc main_arg1))

/-- Window 0's block at a point. -/
theorem blk0 {r k : ℕ} (hr : r < 1024) (hk : k < 2048) :
    rd (m := 1024) (n := 2048) (iblk m c 0 t) r k = X0 m c (1024 * (t.val / 1) + r) (k) := by
  have e := (by decide +kernel : ∀ t : Fin grid0.N, win0_0.index t 0 = t.val / 1 ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 1024 + 1 * r = _; omega
  · show win0_0.index t 1 * 2048 + 1 * k = _; omega

/-- Window 1's block at a point. -/
theorem blk1 {r k : ℕ} (hr : r < 2048) (hk : k < 128) :
    rd (m := 2048) (n := 128) (iblk m c 1 t) r k = X1 m c (r) (128 * (t.val % 1) + k) := by
  have e := (by decide +kernel : ∀ t : Fin grid0.N, win0_1.index t 0 = 0 ∧ win0_1.index t 1 = t.val % 1) t
  rw [rd_in _ hr hk]
  unfold iblk
  rw [View.read_apply]
  show V m c main_arg1 _ = _
  rw [V_main_arg1]
  refine (rd_of_val (m := 2048) (n := 128) _ _ ?_ ?_).symm
  · show win0_1.index t 0 * 2048 + 1 * r = _; omega
  · show win0_1.index t 1 * 128 + 1 * k = _; omega

/-- What the body leaves in the output's block. -/
theorem out_rd {r k : ℕ} (hr : r < 1024) (hk : k < 128) :
    rd (m := 1024) (n := 128) (out0_2 (iblk m c 0 t) (iblk m c 1 t)) r k
      = nnN (X0 m c) (X1 m c) 2048 (1024 * (t.val / 1) + r) (128 * (t.val % 1) + k) := by
  unfold out0_2
  rw [View.canon_unit_zero hz2, View.ld_unit_zero (S := S1024x2048) hz2, View.ld_unit_zero (S := S2048x128) hz2]
  unfold k0_pay1
  dsimp only
  rw [rd_matmul_nn _ _ _ _ hr hk]
  exact nnN_congr (fun q hq => blk0 m c t hr hq) (fun q hq => blk1 m c t hq hk)

theorem index2 : win0_2.index t 0 = t.val / 1 ∧ win0_2.index t 1 = t.val % 1 :=
  (by decide +kernel : ∀ t : Fin grid0.N, win0_2.index t 0 = t.val / 1 ∧ win0_2.index t 1 = t.val % 1) t

/-- The output array after the run. -/
theorem final2 : (dats m 0 c).arrAt 2 cfg0.N = tab (m := 4096) (n := 128) (nnN (X0 m c) (X1 m c) 2048) := by
  refine (dats m 0 c).arrAt_eq_of_cover 2 _ (fun t hf => ?_) fun i => ?_
  · rw [flushed2]
    funext j
    rw [View.read_apply]
    show out0_2 (iblk m c 0 t) (iblk m c 1 t) j = nnN (X0 m c) (X1 m c) 2048 (win0_2.index t 0 * 1024 + 1 * (j 0).val) (win0_2.index t 1 * 128 + 1 * (j 1).val)
    rw [eq_rd (m := 1024) (n := 128) (out0_2 (iblk m c 0 t) (iblk m c 1 t)) j, out_rd m c t (j 0).isLt (j 1).isLt]
    have hi := index2 t
    rw [hi.1, hi.2]
    congr 1 <;> omega
  · have h0 : (i 0).val < 4096 := (i 0).isLt
    have h1 : (i 1).val < 128 := (i 1).isLt
    have hN : cfg0.N = 4 := by decide +kernel
    let t : Fin cfg0.N := ⟨1 * ((i 0).val / 1024) + (i 1).val / 128, by omega⟩
    refine ⟨t, flush0_2 _, ?_⟩
    show i ∈ ((View.whole main_v0).slice (win0_2.rect t)).set
    rw [View.set_slice_whole, Rect.mem_set_unit]
    have hi := index2 t
    have hv : t.val = 1 * ((i 0).val / 1024) + (i 1).val / 128 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 128 ≤ (i 1).val ∧ (i 1).val < win0_2.index t 1 * 128 + 128
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 128) (nnN (X0 m c) (X1 m c) 2048)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![2048, 128]⟩ .bf16) {r k : ℕ}
    (hr : r < 4096) (hk : k < 128) :
    rd (m := 4096) (n := 128) (Cert.Reference21Ideal.Read.val_main_v2 (F := Ideal) x0 x1) r k = nnN (rd x0) (rd x1) 2048 r k := by
  unfold Cert.Reference21Ideal.Read.val_main_v2
  exact rd_host_nn _ _ _ _ hr hk

/-- The kernel and the reference — the decay and beta columns of the input projection — end with equal arrays. -/
theorem algebraic : Cert.algebraic_Kernel21Ideal_Reference21Ideal := by
  intro m ρ m' ρ' _ hag
  refine ⟨_, run m ρ, (θ_run _ _ _).mono (fun _ h c => ⟨(h c).1.trans ?_, (h c).2⟩) (Cert.Reference21Ideal.Value.run m' ρ')⟩
  rw [(hag c).1, (hag c).2]
  exact (Cert.Reference21Ideal.Read.val_main_v2_eq _ _ ).trans (eq_tab fun r k hr hk => ref_rd _ _ hr hk)

/-- The reference's run leaves the arguments as they were; it uses no semaphore. -/
theorem frame_ref : Cert.quiescent_Reference21Ideal := fun m ρ _ =>
  (θ_run Cert.Reference21Ideal.defs _ _).mono (fun r h => ⟨fun c => (h c).2, Idealize.ShloMosaic.sem_eq_zero_of_no_sems (by decide) r.2⟩)
    (Cert.Reference21Ideal.Value.run (F := Ideal) m ρ)

end Cert.Mm21

end
-- ==== Proof.Mm22.lean ====
module

public import proofs.«01_k».proof.Proof.Dot
public import proofs.«01_k».proof.Proof.Gen.Kernel22Ideal.Value
public import proofs.«01_k».proof.Proof.Gen.Reference22Ideal.Run
public import proofs.«01_k».proof.Proof.Gen.Reference22Ideal.Read

public import proofs.«01_k».proof.Defs

@[expose] public section

set_option maxRecDepth 16384

noncomputable section

namespace Cert.Mm22

open Cert.Kernel22Ideal Cert.Kernel22Ideal.Gen Cert.Kernel22Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 4096) (n := 128) (m (c.tc.loc main_arg1))

/-- Window 0's block at a point. -/
theorem blk0 {r k : ℕ} (hr : r < 4096) (hk : k < 1024) :
    rd (m := 4096) (n := 1024) (iblk m c 0 t) r k = X0 m c (r) (1024 * (t.val / 1) + k) := by
  have e := (by decide +kernel : ∀ t : Fin grid0.N, win0_0.index t 0 = 0 ∧ win0_0.index t 1 = t.val / 1) t
  rw [rd_in _ hr hk]
  unfold iblk
  rw [View.read_apply]
  show V m c main_arg0 _ = _
  rw [V_main_arg0]
  refine (rd_of_val (m := 4096) (n := 2048) _ _ ?_ ?_).symm
  · show win0_0.index t 0 * 4096 + 1 * r = _; omega
  · show win0_0.index t 1 * 1024 + 1 * k = _; omega

/-- Window 1's block at a point. -/
theorem blk1 {r k : ℕ} (hr : r < 4096) (hk : k < 128) :
    rd (m := 4096) (n := 128) (iblk m c 1 t) r k = X1 m c (r) (128 * (t.val % 1) + k) := by
  have e := (by decide +kernel : ∀ t : Fin grid0.N, win0_1.index t 0 = 0 ∧ win0_1.index t 1 = t.val % 1) t
  rw [rd_in _ hr hk]
  unfold iblk
  rw [View.read_apply]
  show V m c main_arg1 _ = _
  rw [V_main_arg1]
  refine (rd_of_val (m := 4096) (n := 128) _ _ ?_ ?_).symm
  · show win0_1.index t 0 * 4096 + 1 * r = _; omega
  · show win0_1.index t 1 * 128 + 1 * k = _; omega

/-- What the body leaves in the output's block. -/
theorem out_rd {r k : ℕ} (hr : r < 1024) (hk : k < 128) :
    rd (m := 1024) (n := 128) (out0_2 (iblk m c 0 t) (iblk m c 1 t)) r k
      = tnN (X0 m c) (X1 m c) 4096 (1024 * (t.val / 1) + r) (128 * (t.val % 1) + k) := by
  unfold out0_2
  rw [View.canon_unit_zero hz2, View.ld_unit_zero (S := S4096x1024) hz2, View.ld_unit_zero (S := S4096x128) hz2]
  unfold k0_pay1
  dsimp only
  rw [rd_matmul_tn _ _ _ _ hr hk]
  exact tnN_congr (fun q hq => blk0 m c t hq hr) (fun q hq => blk1 m c t hq hk)

theorem index2 : win0_2.index t 0 = t.val / 1 ∧ win0_2.index t 1 = t.val % 1 :=
  (by decide +kernel : ∀ t : Fin grid0.N, win0_2.index t 0 = t.val / 1 ∧ win0_2.index t 1 = t.val % 1) t

/-- The output array after the run. -/
theorem final2 : (dats m 0 c).arrAt 2 cfg0.N = tab (m := 2048) (n := 128) (tnN (X0 m c) (X1 m c) 4096) := by
  refine (dats m 0 c).arrAt_eq_of_cover 2 _ (fun t hf => ?_) fun i => ?_
  · rw [flushed2]
    funext j
    rw [View.read_apply]
    show out0_2 (iblk m c 0 t) (iblk m c 1 t) j = tnN (X0 m c) (X1 m c) 4096 (win0_2.index t 0 * 1024 + 1 * (j 0).val) (win0_2.index t 1 * 128 + 1 * (j 1).val)
    rw [eq_rd (m := 1024) (n := 128) (out0_2 (iblk m c 0 t) (iblk m c 1 t)) j, out_rd m c t (j 0).isLt (j 1).isLt]
    have hi := index2 t
    rw [hi.1, hi.2]
    congr 1 <;> omega
  · have h0 : (i 0).val < 2048 := (i 0).isLt
    have h1 : (i 1).val < 128 := (i 1).isLt
    have hN : cfg0.N = 2 := by decide +kernel
    let t : Fin cfg0.N := ⟨1 * ((i 0).val / 1024) + (i 1).val / 128, by omega⟩
    refine ⟨t, flush0_2 _, ?_⟩
    show i ∈ ((View.whole main_v0).slice (win0_2.rect t)).set
    rw [View.set_slice_whole, Rect.mem_set_unit]
    have hi := index2 t
    have hv : t.val = 1 * ((i 0).val / 1024) + (i 1).val / 128 := rfl
    intro a
    match a with
    | ⟨0, _⟩ => show win0_2.index t 0 * 1024 ≤ (i 0).val ∧ (i 0).val < win0_2.index t 0 * 1024 + 1024
                rw [hi.1]; omega
    | ⟨1, _⟩ => show win0_2.index t 1 * 128 ≤ (i 1).val ∧ (i 1).val < win0_2.index t 1 * 128 + 128
                rw [hi.2]; omega

/-- The kernel's run: the product in closed form, the arguments unchanged. -/
theorem run : θ_run defs (onTc (τ := τ) (main (F := Ideal))) ⟨m, fun _ => 0, ρ⟩ fun r => ∀ c : Dev nD,
      r.2.mem ((c : Thread nD τ).loc main_v0) = tab (m := 2048) (n := 128) (tnN (X0 m c) (X1 m c) 4096)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![4096, 2048]⟩ .bf16) (x1 : FVec Ideal ⟨2, ![4096, 128]⟩ .bf16) {r k : ℕ}
    (hr : r < 2048) (hk : k < 128) :
    rd (m := 2048) (n := 128) (Cert.Reference22Ideal.Read.val_main_v5 (F := Ideal) x0 x1) r k = tnN (rd x0) (rd x1) 4096 r k := by
  unfold Cert.Reference22Ideal.Read.val_main_v5
  rw [rd_transpose _ _ hr hk]
  exact (rd_host_tn _ _ _ _ hk hr).trans (tnN_swap _ _ _ _ _)

/-- The kernel and the reference — the gradient of the decay and beta columns' weights — end with equal arrays. -/
theorem algebraic : Cert.algebraic_Kernel22Ideal_Reference22Ideal := by
  intro m ρ m' ρ' _ hag
  refine ⟨_, run m ρ, (θ_run _ _ _).mono (fun _ h c => ⟨(h c).1.trans ?_, (h c).2⟩) (Cert.Reference22Ideal.Value.run m' ρ')⟩
  rw [(hag c).1, (hag c).2]
  exact (Cert.Reference22Ideal.Read.val_main_v5_eq _ _ ).trans (eq_tab fun r k hr hk => ref_rd _ _ hr hk)

/-- The reference's run leaves the arguments as they were; it uses no semaphore. -/
theorem frame_ref : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)

end Cert.Mm22

end
-- ==== Proof.Adam.lean ====
/- The optimiser's step for one entry: the kernel multiplies by the reciprocals of the two bias corrections, the reference divides by them. -/
module

public import Idealize.ShloMosaic.PureOps.Ideal
public import Idealize.ShloMosaic.PureOps.IdealRules

@[expose] public section

noncomputable section

namespace Cert.Adam

open Idealize.ShloMosaic

/-- The first moment after the step. -/
def mN (g m : EReal) : EReal := Ideal.ofBits .f32 0x3F666666#32 * m + Ideal.ofBits .f32 0x3DCCCCCD#32 * g
/-- The second moment after the step. -/
def vN (g v : EReal) : EReal := Ideal.ofBits .f32 0x3F7FBE77#32 * v + Ideal.ofBits .f32 0x3A83126F#32 * (g * g)
/-- The change of the weight, from the corrected moments. -/
def step (w mh vh : EReal) : EReal :=
  Ideal.ofBits .f32 0xBA83126F#32 * (Ideal.div mh (Ideal.sqrt vh + Ideal.ofBits .f32 0x322BCC77#32) + Ideal.ofBits .f32 0x3C23D70A#32 * w)
/-- The change of the weight with the corrections as divisions. -/
def delta (w g m v : EReal) : EReal :=
  step w (Ideal.div (mN g m) (Ideal.ofBits .f32 0x3F26BD02#32)) (Ideal.div (vN g v) (Ideal.ofBits .f32 0x3C231ACC#32))

theorem d1_eq : Ideal.ofBits .f32 0x3F26BD02#32 = ((5463681 / 8388608 : ℝ) : EReal) := by
  simp [Ideal.ofBits, Ideal.ieee, -EReal.coe_mul]; norm_num
theorem d2_eq : Ideal.ofBits .f32 0x3C231ACC#32 = ((2672307 / 268435456 : ℝ) : EReal) := by
  simp [Ideal.ofBits, Ideal.ieee, -EReal.coe_mul]; norm_num

theorem mul_c1 (x : EReal) : x * ((8388608 / 5463681 : ℝ) : EReal) = Ideal.div x (Ideal.ofBits .f32 0x3F26BD02#32) := by
  rw [d1_eq, Ideal.div_coe (by norm_num)]; norm_num
theorem mul_c2 (x : EReal) : x * ((268435456 / 2672307 : ℝ) : EReal) = Ideal.div x (Ideal.ofBits .f32 0x3C231ACC#32) := by
  rw [d2_eq, Ideal.div_coe (by norm_num)]; norm_num

/-- The change of the weight with the corrections as products by the reciprocals. -/
theorem delta_eq (w g m v : EReal) {a b : EReal} (ha : a = ((8388608 / 5463681 : ℝ) : EReal)) (hb : b = ((268435456 / 2672307 : ℝ) : EReal)) :
    step w (mN g m * a) (vN g v * b) = delta w g m v := by
  rw [ha, hb, mul_c1, mul_c2]; rfl

end Cert.Adam

end
-- ==== Proof.Adam32.lean ====
/- The optimiser's step on a device's rows of the output projection's weights. -/
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import proofs.«01_k».proof.Proof.Adam

@[expose] public section

set_option maxRecDepth 16384

noncomputable section

namespace Cert.Adam32

open Idealize.ShloMosaic Idealize.ShloMosaic.TcCoe Idealize.SL.Sem
open Cert.Reference32Ideal.Read Cert.Kernel32Ideal.Value

/-- The two named constants are the reciprocals of the bias corrections. -/
theorem preserves : Cert.preserves_Kernel32_Kernel32Ideal :=
  ⟨IdealRules.named_const.statement Cert.Kernel32Ideal.κ "c1" .f32 0x3FC48605#32 ((8388608 / 5463681 : ℝ) : EReal) rfl,
    IdealRules.named_const.statement Cert.Kernel32Ideal.κ "c2" .f32 0x42C8E6D3#32 ((268435456 / 2672307 : ℝ) : EReal) rfl⟩

theorem c1_eq : Named.named (F := Ideal) Cert.Kernel32Ideal.κ "c1" (φ := .f32) 0x3FC48605#32 = ((8388608 / 5463681 : ℝ) : EReal) :=
  IdealRules.named_const.ideal_named_scalar _ _ _ _ rfl
theorem c2_eq : Named.named (F := Ideal) Cert.Kernel32Ideal.κ "c2" (φ := .f32) 0x42C8E6D3#32 = ((268435456 / 2672307 : ℝ) : EReal) :=
  IdealRules.named_const.ideal_named_scalar _ _ _ _ rfl

section Reference
variable (x0 x1 x2 x3 : FVec Ideal ⟨2, ![512, 2048]⟩ .f32) (i : (⟨2, ![512, 2048]⟩ : Shape).Idx)

/-- The reference's results at an entry. -/
theorem ref_m : val_main_v4 (F := Ideal) x1 x2 i = Adam.mN (x1 i) (x2 i) := by
  simp only [val_main_v4_apply, val_main_v3_apply, val_main_v2_apply, val_main_v1_apply, val_main_v0_apply]; rfl
theorem ref_v : val_main_v10 (F := Ideal) x1 x3 i = Adam.vN (x1 i) (x3 i) := by
  simp only [val_main_v10_apply, val_main_v9_apply, val_main_v8_apply, val_main_v7_apply, val_main_v6_apply, val_main_v5_apply]; rfl
theorem ref_delta : val_main_v23 (F := Ideal) x0 x1 x2 x3 i = Adam.delta (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref_m, ref_v]; rfl

end Reference

/-- The kernel and the reference end with equal arrays. -/
theorem algebraic : Cert.algebraic_Kernel32Ideal_Reference32Ideal := by
  intro m ρ m' ρ' _ hag
  refine ⟨_, _, _, Cert.Kernel32Ideal.Value.run m ρ,
    (θ_run _ _ _).mono (fun _ h c => ⟨(h c).1.trans ?_, (h c).2.1.trans ?_, (h c).2.2.1.trans ?_, (h c).2.2.2⟩) (Cert.Reference32Ideal.Value.run m' ρ')⟩
  · refine (val_main_v23_eq _ _ _ _).trans ?_
    rw [(hag c).1, (hag c).2.1, (hag c).2.2.1, (hag c).2.2.2]
    exact funext fun i => (ref_delta _ _ _ _ i).trans (Adam.delta_eq _ _ _ _ c1_eq c2_eq).symm
  · refine (val_main_v4_eq _ _).trans ?_
    rw [(hag c).2.1, (hag c).2.2.1]
    exact funext fun i => ref_m _ _ i
  · refine (val_main_v10_eq _ _).trans ?_
    rw [(hag c).2.1, (hag c).2.2.2]
    exact funext fun i => ref_v _ _ i

/-- The reference's run leaves the arguments as they were; it uses no semaphore. -/
theorem frame_ref : Cert.quiescent_Reference32Ideal := fun m ρ _ =>
  (θ_run Cert.Reference32Ideal.defs _ _).mono (fun r h => ⟨fun c => (h c).2.2.2, Idealize.ShloMosaic.sem_eq_zero_of_no_sems (by decide) r.2⟩)
    (Cert.Reference32Ideal.Value.run (F := Ideal) m ρ)

end Cert.Adam32

end
-- ==== Proof.Adam36.lean ====
/- The optimiser's step on a device's columns of the input projection's weights, transposed for the kernel. -/
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import proofs.«01_k».proof.Proof.Adam
public import proofs.«01_k».proof.Proof.Norm

@[expose] public section

set_option maxRecDepth 16384

noncomputable section

namespace Cert.Adam36

open Idealize.ShloMosaic Idealize.ShloMosaic.TcCoe Idealize.SL.Sem
open Cert.Reference36Ideal.Read Cert.Kernel36Ideal Cert.Kernel36Ideal.Gen Cert.Kernel36Ideal.Value Cert.Rd

/-- The two named constants are the reciprocals of the bias corrections. -/
theorem preserves : Cert.preserves_Kernel36_Kernel36Ideal :=
  ⟨IdealRules.named_const.statement Cert.Kernel36Ideal.κ "c1" .f32 0x3FC48605#32 ((8388608 / 5463681 : ℝ) : EReal) rfl,
    IdealRules.named_const.statement Cert.Kernel36Ideal.κ "c2" .f32 0x42C8E6D3#32 ((268435456 / 2672307 : ℝ) : EReal) rfl⟩

theorem c1_eq : Named.named (F := Ideal) Cert.Kernel36Ideal.κ "c1" (φ := .f32) 0x3FC48605#32 = ((8388608 / 5463681 : ℝ) : EReal) :=
  IdealRules.named_const.ideal_named_scalar _ _ _ _ rfl
theorem c2_eq : Named.named (F := Ideal) Cert.Kernel36Ideal.κ "c2" (φ := .f32) 0x42C8E6D3#32 = ((268435456 / 2672307 : ℝ) : EReal) :=
  IdealRules.named_const.ideal_named_scalar _ _ _ _ rfl

section Reference
variable (x0 x1 x2 x3 : FVec Ideal ⟨2, ![2048, 1796]⟩ .f32) (i : (⟨2, ![2048, 1796]⟩ : Shape).Idx)

/-- The reference's results at an entry. -/
theorem ref_m : val_main_v4 (F := Ideal) x1 x2 i = Adam.mN (x1 i) (x2 i) := by
  simp only [val_main_v4_apply, val_main_v3_apply, val_main_v2_apply, val_main_v1_apply, val_main_v0_apply]; rfl
theorem ref_v : val_main_v10 (F := Ideal) x1 x3 i = Adam.vN (x1 i) (x3 i) := by
  simp only [val_main_v10_apply, val_main_v9_apply, val_main_v8_apply, val_main_v7_apply, val_main_v6_apply, val_main_v5_apply]; rfl
theorem ref_delta : val_main_v23 (F := Ideal) x0 x1 x2 x3 i = Adam.delta (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref_m, ref_v]; rfl

end Reference

variable (m : (ℓ : Loc nD τ sig) → Buf (Elt Ideal) ℓ) (c : Dev nD) (ρ : Dev nD → PrngReg) (t : Fin cfg0.N)

/-- The transposed arguments, as the kernel finds them. -/
theorem V_v0 : V m c main_v0 = transpose ⟨2, ![1796, 2048]⟩ [1, 0] (m (c.tc.loc main_arg0)) transposes_S2048x1796_S1796x2048_1_0 := by
  show StableHlo.after hostOps0 _ _ = _
  after_results_simp
theorem V_v1 : V m c main_v1 = transpose ⟨2, ![1796, 2048]⟩ [1, 0] (m (c.tc.loc main_arg1)) transposes_S2048x1796_S1796x2048_1_0 := by
  show StableHlo.after hostOps0 _ _ = _
  after_results_simp
theorem V_v2 : V m c main_v2 = transpose ⟨2, ![1796, 2048]⟩ [1, 0] (m (c.tc.loc main_arg2)) transposes_S2048x1796_S1796x2048_1_0 := by
  show StableHlo.after hostOps0 _ _ = _
  after_results_simp
theorem V_v3 : V m c main_v3 = transpose ⟨2, ![1796, 2048]⟩ [1, 0] (m (c.tc.loc main_arg3)) transposes_S2048x1796_S1796x2048_1_0 := by
  show StableHlo.after hostOps0 _ _ = _
  after_results_simp

/-- The arguments read at natural coordinates. -/
abbrev X0 : ℕ → ℕ → EReal := rd (m := 2048) (n := 1796) (m (c.tc.loc main_arg0))
abbrev X1 : ℕ → ℕ → EReal := rd (m := 2048) (n := 1796) (m (c.tc.loc main_arg1))
abbrev X2 : ℕ → ℕ → EReal := rd (m := 2048) (n := 1796) (m (c.tc.loc main_arg2))
abbrev X3 : ℕ → ℕ → EReal := rd (m := 2048) (n := 1796) (m (c.tc.loc main_arg3))

/-- Window 0's block at a point. -/
theorem blk0 {r k : ℕ} (hr : r < 1796) (hk : k < 256) :
    rd (m := 1796) (n := 256) (iblk m c 0 t) r k = X0 m c (256 * t.val + k) r := by
  have e := (by decide +kernel : ∀ t : Fin grid0.N, win0_0.index t 0 = 0 ∧ win0_0.index t 1 = t.val) t
  have hN : cfg0.N = 8 := by decide +kernel
  have ht := t.isLt
  rw [rd_in _ hr hk]
  unfold iblk
  rw [View.read_apply]
  show V m c main_v0 _ = _
  rw [V_v0]
  refine Eq.trans (rd_of_val (m := 1796) (n := 2048) (r := r) (c := 256 * t.val + k) _ _ ?_ ?_).symm (rd_transpose _ _ hr (by omega))
  · show win0_0.index t 0 * 1796 + 1 * r = r; rw [e.1]; omega
  · show win0_0.index t 1 * 256 + 1 * k = _; omega

/-- Window 1's block at a point. -/
theorem blk1 {r k : ℕ} (hr : r < 1796) (hk : k < 256) :
    rd (m := 1796) (n := 256) (iblk m c 1 t) r k = X1 m c (256 * t.val + k) r := by
  have e := (by decide +kernel : ∀ t : Fin grid0.N, win0_1.index t 0 = 0 ∧ win0_1.index t 1 = t.val) t
  have hN : cfg0.N = 8 := by decide +kernel
  have ht := t.isLt
  rw [rd_in _ hr hk]
  unfold iblk
  rw [View.read_apply]
  show V m c main_v1 _ = _
  rw [V_v1]
  refine Eq.trans (rd_of_val (m := 1796) (n := 2048) (r := r) (c := 256 * t.val + k) _ _ ?_ ?_).symm (rd_transpose _ _ hr (by omega))
  · show win0_1.index t 0 * 1796 + 1 * r = r; rw [e.1]; omega
  · show win0_1.index t 1 * 256 + 1 * k = _; omega

/-- Window 2's block at a point. -/
theorem blk2 {r k : ℕ} (hr : r < 1796) (hk : k < 256) :
    rd (m := 1796) (n := 256) (iblk m c 2 t) r k = X2 m c (256 * t.val + k) r := by
  have e := (by decide +kernel : ∀ t : Fin grid0.N, win0_2.index t 0 = 0 ∧ win0_2.index t 1 = t.val) t
  have hN : cfg0.N = 8 := by decide +kernel
  have ht := t.isLt
  rw [rd_in _ hr hk]
  unfold iblk
  rw [View.read_apply]
  show V m c main_v2 _ = _
  rw [V_v2]
  refine Eq.trans (rd_of_val (m := 1796) (n := 2048) (r := r) (c := 256 * t.val + k) _ _ ?_ ?_).symm (rd_transpose _ _ hr (by omega))
  · show win0_2.index t 0 * 1796 + 1 * r = r; rw [e.1]; omega
  · show win0_2.index t 1 * 256 + 1 * k = _; omega

/-- Window 3's block at a point. -/
theorem blk3 {r k : ℕ} (hr : r < 1796) (hk : k < 256) :
    rd (m := 1796) (n := 256) (iblk m c 3 t) r k = X3 m c (256 * t.val + k) r := by
  have e := (by decide +kernel : ∀ t : Fin grid0.N, win0_3.index t 0 = 0 ∧ win0_3.index t 1 = t.val) t
  have hN : cfg0.N = 8 := by decide +kernel
  have ht := t.isLt
  rw [rd_in _ hr hk]
  unfold iblk
  rw [View.read_apply]
  show V m c main_v3 _ = _
  rw [V_v3]
  refine Eq.trans (rd_of_val (m := 1796) (n := 2048) (r := r) (c := 256 * t.val + k) _ _ ?_ ?_).symm (rd_transpose _ _ hr (by omega))
  · show win0_3.index t 0 * 1796 + 1 * r = r; rw [e.1]; omega
  · show win0_3.index t 1 * 256 + 1 * k = _; omega

section Body
variable (x0 x1 x2 x3 : FVec Ideal S1796x256 .f32) (j : S1796x256.Idx)
/-- The body's results at an entry. -/
theorem pay2_eq : k0_pay2 (F := Ideal) x1 x2 j = Adam.mN (x1 j) (x2 j) := by
  unfold k0_pay2 k0_pay1; simp only [shapeCast_self]; rfl
theorem pay3_eq : k0_pay3 (F := Ideal) x1 x3 j = Adam.vN (x1 j) (x3 j) := by
  unfold k0_pay3 k0_pay1; simp only [shapeCast_self]; rfl
theorem pay4_eq : k0_pay4 (F := Ideal) x0 x1 x2 x3 j = Adam.delta (x0 j) (x1 j) (x2 j) (x3 j) := by
  refine Eq.trans ?_ (Adam.delta_eq (x0 j) (x1 j) (x2 j) (x3 j) c1_eq c2_eq)
  rw [← pay2_eq, ← pay3_eq]
  unfold k0_pay4; simp only [shapeCast_self]; rfl
end Body
/-- The result of window 4 as a table. -/
def f4 : ℕ → ℕ → EReal := fun r k => Adam.delta (X0 m c k r) (X1 m c k r) (X2 m c k r) (X3 m c k r)

/-- What a point leaves in window 4's block. -/
theorem out4_rd {r k : ℕ} (hr : r < 1796) (hk : k < 256) :
    rd (m := 1796) (n := 256) (out0_4 (iblk m c 0 t) (iblk m c 1 t) (iblk m c 2 t) (iblk m c 3 t)) r k = f4 m c r (256 * t.val + k) := by
  unfold f4
  unfold out0_4
  rw [View.canon_unit_zero hz2]
  simp only [View.ld_unit_zero (S := S1796x256) hz2]
  rw [← blk0 m c t hr hk, ← blk1 m c t hr hk, ← blk2 m c t hr hk, ← blk3 m c t hr hk]
  simp only [rd_in _ hr hk]
  exact pay4_eq _ _ _ _ _

theorem index4 : win0_4.index t 0 = 0 ∧ win0_4.index t 1 = t.val :=
  (by decide +kernel : ∀ t : Fin grid0.N, win0_4.index t 0 = 0 ∧ win0_4.index t 1 = t.val) t

/-- The output array after the run. -/
theorem final4 : (dats m 0 c).arrAt 4 cfg0.N = tab (m := 1796) (n := 2048) (f4 m c) := by
  refine (dats m 0 c).arrAt_eq_of_cover 4 _ (fun t hf => ?_) fun i => ?_
  · rw [flushed4]
    funext j
    rw [View.read_apply]
    show out0_4 (iblk m c 0 t) (iblk m c 1 t) (iblk m c 2 t) (iblk m c 3 t) j = f4 m c (win0_4.index t 0 * 1796 + 1 * (j 0).val) (win0_4.index t 1 * 256 + 1 * (j 1).val)
    rw [eq_rd (m := 1796) (n := 256) (out0_4 (iblk m c 0 t) (iblk m c 1 t) (iblk m c 2 t) (iblk m c 3 t)) j, out4_rd m c t (j 0).isLt (j 1).isLt]
    have hi := index4 t
    rw [hi.1, hi.2]
    congr 1 <;> omega
  · have h0 : (i 0).val < 1796 := (i 0).isLt
    have h1 : (i 1).val < 2048 := (i 1).isLt
    have hN : cfg0.N = 8 := by decide +kernel
    let t : Fin cfg0.N := ⟨(i 1).val / 256, by omega⟩
    refine ⟨t, flush0_4 _, ?_⟩
    show i ∈ ((View.whole main_v4_0).slice (win0_4.rect t)).set
    rw [View.set_slice_whole, Rect.mem_set_unit]
    have hi := index4 t
    have hv : t.val = (i 1).val / 256 := rfl
    intro a
    match a with
    | ⟨0, _⟩ => show win0_4.index t 0 * 1796 ≤ (i 0).val ∧ (i 0).val < win0_4.index t 0 * 1796 + 1796
                rw [hi.1]; omega
    | ⟨1, _⟩ => show win0_4.index t 1 * 256 ≤ (i 1).val ∧ (i 1).val < win0_4.index t 1 * 256 + 256
                rw [hi.2]; omega
/-- The result of window 5 as a table. -/
def f5 : ℕ → ℕ → EReal := fun r k => Adam.mN (X1 m c k r) (X2 m c k r)

/-- What a point leaves in window 5's block. -/
theorem out5_rd {r k : ℕ} (hr : r < 1796) (hk : k < 256) :
    rd (m := 1796) (n := 256) (out0_5 (iblk m c 0 t) (iblk m c 1 t) (iblk m c 2 t) (iblk m c 3 t)) r k = f5 m c r (256 * t.val + k) := by
  unfold f5
  unfold out0_5
  rw [View.canon_unit_zero hz2]
  simp only [View.ld_unit_zero (S := S1796x256) hz2]
  rw [← blk1 m c t hr hk, ← blk2 m c t hr hk]
  simp only [rd_in _ hr hk]
  exact pay2_eq _ _ _

theorem index5 : win0_5.index t 0 = 0 ∧ win0_5.index t 1 = t.val :=
  (by decide +kernel : ∀ t : Fin grid0.N, win0_5.index t 0 = 0 ∧ win0_5.index t 1 = t.val) t

/-- The output array after the run. -/
theorem final5 : (dats m 0 c).arrAt 5 cfg0.N = tab (m := 1796) (n := 2048) (f5 m c) := by
  refine (dats m 0 c).arrAt_eq_of_cover 5 _ (fun t hf => ?_) fun i => ?_
  · rw [flushed5]
    funext j
    rw [View.read_apply]
    show out0_5 (iblk m c 0 t) (iblk m c 1 t) (iblk m c 2 t) (iblk m c 3 t) j = f5 m c (win0_5.index t 0 * 1796 + 1 * (j 0).val) (win0_5.index t 1 * 256 + 1 * (j 1).val)
    rw [eq_rd (m := 1796) (n := 256) (out0_5 (iblk m c 0 t) (iblk m c 1 t) (iblk m c 2 t) (iblk m c 3 t)) j, out5_rd m c t (j 0).isLt (j 1).isLt]
    have hi := index5 t
    rw [hi.1, hi.2]
    congr 1 <;> omega
  · have h0 : (i 0).val < 1796 := (i 0).isLt
    have h1 : (i 1).val < 2048 := (i 1).isLt
    have hN : cfg0.N = 8 := by decide +kernel
    let t : Fin cfg0.N := ⟨(i 1).val / 256, by omega⟩
    refine ⟨t, flush0_5 _, ?_⟩
    show i ∈ ((View.whole main_v4_1).slice (win0_5.rect t)).set
    rw [View.set_slice_whole, Rect.mem_set_unit]
    have hi := index5 t
    have hv : t.val = (i 1).val / 256 := rfl
    intro a
    match a with
    | ⟨0, _⟩ => show win0_5.index t 0 * 1796 ≤ (i 0).val ∧ (i 0).val < win0_5.index t 0 * 1796 + 1796
                rw [hi.1]; omega
    | ⟨1, _⟩ => show win0_5.index t 1 * 256 ≤ (i 1).val ∧ (i 1).val < win0_5.index t 1 * 256 + 256
                rw [hi.2]; omega
/-- The result of window 6 as a table. -/
def f6 : ℕ → ℕ → EReal := fun r k => Adam.vN (X1 m c k r) (X3 m c k r)

/-- What a point leaves in window 6's block. -/
theorem out6_rd {r k : ℕ} (hr : r < 1796) (hk : k < 256) :
    rd (m := 1796) (n := 256) (out0_6 (iblk m c 0 t) (iblk m c 1 t) (iblk m c 2 t) (iblk m c 3 t)) r k = f6 m c r (256 * t.val + k) := by
  unfold f6
  unfold out0_6
  rw [View.canon_unit_zero hz2]
  simp only [View.ld_unit_zero (S := S1796x256) hz2]
  rw [← blk1 m c t hr hk, ← blk3 m c t hr hk]
  simp only [rd_in _ hr hk]
  exact pay3_eq _ _ _

theorem index6 : win0_6.index t 0 = 0 ∧ win0_6.index t 1 = t.val :=
  (by decide +kernel : ∀ t : Fin grid0.N, win0_6.index t 0 = 0 ∧ win0_6.index t 1 = t.val) t

/-- The output array after the run. -/
theorem final6 : (dats m 0 c).arrAt 6 cfg0.N = tab (m := 1796) (n := 2048) (f6 m c) := by
  refine (dats m 0 c).arrAt_eq_of_cover 6 _ (fun t hf => ?_) fun i => ?_
  · rw [flushed6]
    funext j
    rw [View.read_apply]
    show out0_6 (iblk m c 0 t) (iblk m c 1 t) (iblk m c 2 t) (iblk m c 3 t) j = f6 m c (win0_6.index t 0 * 1796 + 1 * (j 0).val) (win0_6.index t 1 * 256 + 1 * (j 1).val)
    rw [eq_rd (m := 1796) (n := 256) (out0_6 (iblk m c 0 t) (iblk m c 1 t) (iblk m c 2 t) (iblk m c 3 t)) j, out6_rd m c t (j 0).isLt (j 1).isLt]
    have hi := index6 t
    rw [hi.1, hi.2]
    congr 1 <;> omega
  · have h0 : (i 0).val < 1796 := (i 0).isLt
    have h1 : (i 1).val < 2048 := (i 1).isLt
    have hN : cfg0.N = 8 := by decide +kernel
    let t : Fin cfg0.N := ⟨(i 1).val / 256, by omega⟩
    refine ⟨t, flush0_6 _, ?_⟩
    show i ∈ ((View.whole main_v4_2).slice (win0_6.rect t)).set
    rw [View.set_slice_whole, Rect.mem_set_unit]
    have hi := index6 t
    have hv : t.val = (i 1).val / 256 := rfl
    intro a
    match a with
    | ⟨0, _⟩ => show win0_6.index t 0 * 1796 ≤ (i 0).val ∧ (i 0).val < win0_6.index t 0 * 1796 + 1796
                rw [hi.1]; omega
    | ⟨1, _⟩ => show win0_6.index t 1 * 256 ≤ (i 1).val ∧ (i 1).val < win0_6.index t 1 * 256 + 256
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v4_0) = tab (m := 1796) (n := 2048) (f4 m c)
      ∧ r.2.mem ((c : Thread nD τ).loc main_v4_1) = tab (m := 1796) (n := 2048) (f5 m c)
      ∧ r.2.mem ((c : Thread nD τ).loc main_v4_2) = tab (m := 1796) (n := 2048) (f6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (run_blocks m ρ)

/-- The kernel and the reference end with equal arrays. -/
theorem algebraic : Cert.algebraic_Kernel36Ideal_Reference36Ideal := by
  intro m ρ m' ρ' _ hag
  refine ⟨_, _, _, run m ρ,
    (θ_run _ _ _).mono (fun _ h c => ⟨(h c).1.trans ?_, (h c).2.1.trans ?_, (h c).2.2.1.trans ?_, (h c).2.2.2⟩) (Cert.Reference36Ideal.Value.run m' ρ')⟩
  · refine (val_main_v24_eq _ _ _ _).trans ?_
    rw [(hag c).1, (hag c).2.1, (hag c).2.2.1, (hag c).2.2.2]
    exact eq_tab fun r k hr hk => (rd_transpose _ _ hr hk).trans ((rd_in _ hk hr).trans ((ref_delta _ _ _ _ _).trans (by simp only [f4, X0, X1, X2, X3, rd_in _ hk hr])))
  · refine (val_main_v25_eq _ _).trans ?_
    rw [(hag c).2.1, (hag c).2.2.1]
    exact eq_tab fun r k hr hk => (rd_transpose _ _ hr hk).trans ((rd_in _ hk hr).trans ((ref_m _ _ _).trans (by simp only [f5, X1, X2, rd_in _ hk hr])))
  · refine (val_main_v26_eq _ _).trans ?_
    rw [(hag c).2.1, (hag c).2.2.2]
    exact eq_tab fun r k hr hk => (rd_transpose _ _ hr hk).trans ((rd_in _ hk hr).trans ((ref_v _ _ _).trans (by simp only [f6, X1, X3, rd_in _ hk hr])))

/-- The reference's run leaves the arguments as they were; it uses no semaphore. -/
theorem frame_ref : Cert.quiescent_Reference36Ideal := fun m ρ _ =>
  (θ_run Cert.Reference36Ideal.defs _ _).mono (fun r h => ⟨fun c => (h c).2.2.2, Idealize.ShloMosaic.sem_eq_zero_of_no_sems (by decide) r.2⟩)
    (Cert.Reference36Ideal.Value.run (F := Ideal) m ρ)

end Cert.Adam36

end
-- ==== Proof.Adam37.lean ====
/- The optimiser's step on a device's columns of the up projection's weights. -/
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import proofs.«01_k».proof.Proof.Adam

@[expose] public section

set_option maxRecDepth 16384

noncomputable section

namespace Cert.Adam37

open Idealize.ShloMosaic Idealize.ShloMosaic.TcCoe Idealize.SL.Sem
open Cert.Reference37Ideal.Read Cert.Kernel37Ideal.Value

/-- The two named constants are the reciprocals of the bias corrections. -/
theorem preserves : Cert.preserves_Kernel37_Kernel37Ideal :=
  ⟨IdealRules.named_const.statement Cert.Kernel37Ideal.κ "c1" .f32 0x3FC48605#32 ((8388608 / 5463681 : ℝ) : EReal) rfl,
    IdealRules.named_const.statement Cert.Kernel37Ideal.κ "c2" .f32 0x42C8E6D3#32 ((268435456 / 2672307 : ℝ) : EReal) rfl⟩

theorem c1_eq : Named.named (F := Ideal) Cert.Kernel37Ideal.κ "c1" (φ := .f32) 0x3FC48605#32 = ((8388608 / 5463681 : ℝ) : EReal) :=
  IdealRules.named_const.ideal_named_scalar _ _ _ _ rfl
theorem c2_eq : Named.named (F := Ideal) Cert.Kernel37Ideal.κ "c2" (φ := .f32) 0x42C8E6D3#32 = ((268435456 / 2672307 : ℝ) : EReal) :=
  IdealRules.named_const.ideal_named_scalar _ _ _ _ rfl

section Reference
variable (x0 x1 x2 x3 : FVec Ideal ⟨2, ![2048, 2816]⟩ .f32) (i : (⟨2, ![2048, 2816]⟩ : Shape).Idx)

/-- The reference's results at an entry. -/
theorem ref_m : val_main_v4 (F := Ideal) x1 x2 i = Adam.mN (x1 i) (x2 i) := by
  simp only [val_main_v4_apply, val_main_v3_apply, val_main_v2_apply, val_main_v1_apply, val_main_v0_apply]; rfl
theorem ref_v : val_main_v10 (F := Ideal) x1 x3 i = Adam.vN (x1 i) (x3 i) := by
  simp only [val_main_v10_apply, val_main_v9_apply, val_main_v8_apply, val_main_v7_apply, val_main_v6_apply, val_main_v5_apply]; rfl
theorem ref_delta : val_main_v23 (F := Ideal) x0 x1 x2 x3 i = Adam.delta (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref_m, ref_v]; rfl

end Reference

/-- The kernel and the reference end with equal arrays. -/
theorem algebraic : Cert.algebraic_Kernel37Ideal_Reference37Ideal := by
  intro m ρ m' ρ' _ hag
  refine ⟨_, _, _, Cert.Kernel37Ideal.Value.run m ρ,
    (θ_run _ _ _).mono (fun _ h c => ⟨(h c).1.trans ?_, (h c).2.1.trans ?_, (h c).2.2.1.trans ?_, (h c).2.2.2⟩) (Cert.Reference37Ideal.Value.run m' ρ')⟩
  · refine (val_main_v23_eq _ _ _ _).trans ?_
    rw [(hag c).1, (hag c).2.1, (hag c).2.2.1, (hag c).2.2.2]
    exact funext fun i => (ref_delta _ _ _ _ i).trans (Adam.delta_eq _ _ _ _ c1_eq c2_eq).symm
  · refine (val_main_v4_eq _ _).trans ?_
    rw [(hag c).2.1, (hag c).2.2.1]
    exact funext fun i => ref_m _ _ i
  · refine (val_main_v10_eq _ _).trans ?_
    rw [(hag c).2.1, (hag c).2.2.2]
    exact funext fun i => ref_v _ _ i

/-- The reference's run leaves the arguments as they were; it uses no semaphore. -/
theorem frame_ref : Cert.quiescent_Reference37Ideal := fun m ρ _ =>
  (θ_run Cert.Reference37Ideal.defs _ _).mono (fun r h => ⟨fun c => (h c).2.2.2, Idealize.ShloMosaic.sem_eq_zero_of_no_sems (by decide) r.2⟩)
    (Cert.Reference37Ideal.Value.run (F := Ideal) m ρ)

end Cert.Adam37

end
-- ==== Proof.Adam38.lean ====
/- The optimiser's step on a device's rows of the down projection's weights. -/
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import proofs.«01_k».proof.Proof.Adam

@[expose] public section

set_option maxRecDepth 16384

noncomputable section

namespace Cert.Adam38

open Idealize.ShloMosaic Idealize.ShloMosaic.TcCoe Idealize.SL.Sem
open Cert.Reference38Ideal.Read Cert.Kernel38Ideal.Value

/-- The two named constants are the reciprocals of the bias corrections. -/
theorem preserves : Cert.preserves_Kernel38_Kernel38Ideal :=
  ⟨IdealRules.named_const.statement Cert.Kernel38Ideal.κ "c1" .f32 0x3FC48605#32 ((8388608 / 5463681 : ℝ) : EReal) rfl,
    IdealRules.named_const.statement Cert.Kernel38Ideal.κ "c2" .f32 0x42C8E6D3#32 ((268435456 / 2672307 : ℝ) : EReal) rfl⟩

theorem c1_eq : Named.named (F := Ideal) Cert.Kernel38Ideal.κ "c1" (φ := .f32) 0x3FC48605#32 = ((8388608 / 5463681 : ℝ) : EReal) :=
  IdealRules.named_const.ideal_named_scalar _ _ _ _ rfl
theorem c2_eq : Named.named (F := Ideal) Cert.Kernel38Ideal.κ "c2" (φ := .f32) 0x42C8E6D3#32 = ((268435456 / 2672307 : ℝ) : EReal) :=
  IdealRules.named_const.ideal_named_scalar _ _ _ _ rfl

section Reference
variable (x0 x1 x2 x3 : FVec Ideal ⟨2, ![1408, 2048]⟩ .f32) (i : (⟨2, ![1408, 2048]⟩ : Shape).Idx)

/-- The reference's results at an entry. -/
theorem ref_m : val_main_v4 (F := Ideal) x1 x2 i = Adam.mN (x1 i) (x2 i) := by
  simp only [val_main_v4_apply, val_main_v3_apply, val_main_v2_apply, val_main_v1_apply, val_main_v0_apply]; rfl
theorem ref_v : val_main_v10 (F := Ideal) x1 x3 i = Adam.vN (x1 i) (x3 i) := by
  simp only [val_main_v10_apply, val_main_v9_apply, val_main_v8_apply, val_main_v7_apply, val_main_v6_apply, val_main_v5_apply]; rfl
theorem ref_delta : val_main_v23 (F := Ideal) x0 x1 x2 x3 i = Adam.delta (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref_m, ref_v]; rfl

end Reference

/-- The kernel and the reference end with equal arrays. -/
theorem algebraic : Cert.algebraic_Kernel38Ideal_Reference38Ideal := by
  intro m ρ m' ρ' _ hag
  refine ⟨_, _, _, Cert.Kernel38Ideal.Value.run m ρ,
    (θ_run _ _ _).mono (fun _ h c => ⟨(h c).1.trans ?_, (h c).2.1.trans ?_, (h c).2.2.1.trans ?_, (h c).2.2.2⟩) (Cert.Reference38Ideal.Value.run m' ρ')⟩
  · refine (val_main_v23_eq _ _ _ _).trans ?_
    rw [(hag c).1, (hag c).2.1, (hag c).2.2.1, (hag c).2.2.2]
    exact funext fun i => (ref_delta _ _ _ _ i).trans (Adam.delta_eq _ _ _ _ c1_eq c2_eq).symm
  · refine (val_main_v4_eq _ _).trans ?_
    rw [(hag c).2.1, (hag c).2.2.1]
    exact funext fun i => ref_m _ _ i
  · refine (val_main_v10_eq _ _).trans ?_
    rw [(hag c).2.1, (hag c).2.2.2]
    exact funext fun i => ref_v _ _ i

/-- The reference's run leaves the arguments as they were; it uses no semaphore. -/
theorem frame_ref : Cert.quiescent_Reference38Ideal := fun m ρ _ =>
  (θ_run Cert.Reference38Ideal.defs _ _).mono (fun r h => ⟨fun c => (h c).2.2.2, Idealize.ShloMosaic.sem_eq_zero_of_no_sems (by decide) r.2⟩)
    (Cert.Reference38Ideal.Value.run (F := Ideal) m ρ)

end Cert.Adam38

end
-- ==== Proof.Adam39.lean ====
/- The optimiser's step on a device's columns of the per-layer embedding's projection. -/
module

public import proofs.«01_k».proof.Defs
public import proofs.«01_k».proof.Proof.Gen.Kernel39Ideal.Value
public import proofs.«01_k».proof.Proof.Gen.Reference39Ideal.Run
public import proofs.«01_k».proof.Proof.Gen.Reference39Ideal.Read
public import proofs.«01_k».proof.Proof.Adam

@[expose] public section

set_option maxRecDepth 16384

noncomputable section

namespace Cert.Adam39

open Idealize.ShloMosaic Idealize.ShloMosaic.TcCoe Idealize.SL.Sem
open Cert.Reference39Ideal.Read Cert.Kernel39Ideal.Value

/-- The two named constants are the reciprocals of the bias corrections. -/
theorem preserves : Cert.preserves_Kernel39_Kernel39Ideal :=
  ⟨IdealRules.named_const.statement Cert.Kernel39Ideal.κ "c1" .f32 0x3FC48605#32 ((8388608 / 5463681 : ℝ) : EReal) rfl,
    IdealRules.named_const.statement Cert.Kernel39Ideal.κ "c2" .f32 0x42C8E6D3#32 ((268435456 / 2672307 : ℝ) : EReal) rfl⟩

theorem c1_eq : Named.named (F := Ideal) Cert.Kernel39Ideal.κ "c1" (φ := .f32) 0x3FC48605#32 = ((8388608 / 5463681 : ℝ) : EReal) :=
  IdealRules.named_const.ideal_named_scalar _ _ _ _ rfl
theorem c2_eq : Named.named (F := Ideal) Cert.Kernel39Ideal.κ "c2" (φ := .f32) 0x42C8E6D3#32 = ((268435456 / 2672307 : ℝ) : EReal) :=
  IdealRules.named_const.ideal_named_scalar _ _ _ _ rfl

section Reference
variable (x0 x1 x2 x3 : FVec Ideal ⟨2, ![256, 512]⟩ .f32) (i : (⟨2, ![256, 512]⟩ : Shape).Idx)

/-- The reference's results at an entry. -/
theorem ref_m : val_main_v4 (F := Ideal) x1 x2 i = Adam.mN (x1 i) (x2 i) := by
  simp only [val_main_v4_apply, val_main_v3_apply, val_main_v2_apply, val_main_v1_apply, val_main_v0_apply]; rfl
theorem ref_v : val_main_v10 (F := Ideal) x1 x3 i = Adam.vN (x1 i) (x3 i) := by
  simp only [val_main_v10_apply, val_main_v9_apply, val_main_v8_apply, val_main_v7_apply, val_main_v6_apply, val_main_v5_apply]; rfl
theorem ref_delta : val_main_v23 (F := Ideal) x0 x1 x2 x3 i = Adam.delta (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref_m, ref_v]; rfl

end Reference

/-- The kernel and the reference end with equal arrays. -/
theorem algebraic : Cert.algebraic_Kernel39Ideal_Reference39Ideal := by
  intro m ρ m' ρ' _ hag
  refine ⟨_, _, _, Cert.Kernel39Ideal.Value.run m ρ,
    (θ_run _ _ _).mono (fun _ h c => ⟨(h c).1.trans ?_, (h c).2.1.trans ?_, (h c).2.2.1.trans ?_, (h c).2.2.2⟩) (Cert.Reference39Ideal.Value.run m' ρ')⟩
  · refine (val_main_v23_eq _ _ _ _).trans ?_
    rw [(hag c).1, (hag c).2.1, (hag c).2.2.1, (hag c).2.2.2]
    exact funext fun i => (ref_delta _ _ _ _ i).trans (Adam.delta_eq _ _ _ _ c1_eq c2_eq).symm
  · refine (val_main_v4_eq _ _).trans ?_
    rw [(hag c).2.1, (hag c).2.2.1]
    exact funext fun i => ref_m _ _ i
  · refine (val_main_v10_eq _ _).trans ?_
    rw [(hag c).2.1, (hag c).2.2.2]
    exact funext fun i => ref_v _ _ i

/-- The reference's run leaves the arguments as they were; it uses no semaphore. -/
theorem frame_ref : Cert.quiescent_Reference39Ideal := fun m ρ _ =>
  (θ_run Cert.Reference39Ideal.defs _ _).mono (fun r h => ⟨fun c => (h c).2.2.2, Idealize.ShloMosaic.sem_eq_zero_of_no_sems (by decide) r.2⟩)
    (Cert.Reference39Ideal.Value.run (F := Ideal) m ρ)

end Cert.Adam39

end
-- ==== Proof.Mm23.lean ====
module

public import proofs.«01_k».proof.Proof.Norm
public import proofs.«01_k».proof.Proof.Gen.Kernel23Ideal.Value
public import proofs.«01_k».proof.Proof.Gen.Reference23Ideal.Run
public import proofs.«01_k».proof.Proof.Gen.Reference23Ideal.Read

public import proofs.«01_k».proof.Defs
public import Idealize.ShloMosaic.Lib.Tactic

@[expose] public section

set_option maxRecDepth 16384

noncomputable section

namespace Cert.Mm23

open Cert.Kernel23Ideal Cert.Kernel23Ideal.Gen Cert.Kernel23Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 4096) (n := 2048) (m (c.tc.loc main_arg1))
abbrev X2 : ℕ → ℕ → EReal := rd (m := 1) (n := 2048) (m (c.tc.loc main_arg2))
abbrev X3 : ℕ → ℕ → EReal := rd (m := 4096) (n := 2048) (m (c.tc.loc main_arg3))

/-- Window 0's block at a point. -/
theorem blk0 {r k : ℕ} (hr : r < 256) (hk : k < 2048) :
    rd (m := 256) (n := 2048) (iblk m c 0 t) r k = X0 m c (256 * t.val + r) (k) := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 256 + 1 * r = _; omega
  · show win0_0.index t 1 * 2048 + 1 * k = _; omega

/-- Window 1's block at a point. -/
theorem blk1 {r k : ℕ} (hr : r < 256) (hk : k < 2048) :
    rd (m := 256) (n := 2048) (iblk m c 1 t) r k = X1 m c (256 * t.val + r) (k) := by
  have e := (by decide +kernel : ∀ t : Fin grid0.N, win0_1.index t 0 = t.val ∧ win0_1.index t 1 = 0) t
  rw [rd_in _ hr hk]
  unfold iblk
  rw [View.read_apply]
  show V m c main_arg1 _ = _
  rw [V_main_arg1]
  refine (rd_of_val (m := 4096) (n := 2048) _ _ ?_ ?_).symm
  · show win0_1.index t 0 * 256 + 1 * r = _; omega
  · show win0_1.index t 1 * 2048 + 1 * k = _; omega

/-- Window 2's block at a point: the whole row. -/
theorem blk2 {k : ℕ} (hk : k < 2048) : rd (m := 1) (n := 2048) (iblk m c 2 t) 0 k = X2 m c 0 k := by
  have e := (by decide +kernel : ∀ t : Fin grid0.N, win0_2.index t 0 = 0 ∧ win0_2.index t 1 = 0) t
  rw [rd_in _ Nat.one_pos hk]
  unfold iblk
  rw [View.read_apply]
  show V m c main_arg2 _ = _
  rw [V_main_arg2]
  refine (rd_of_val (m := 1) (n := 2048) _ _ ?_ ?_).symm
  · show win0_2.index t 0 * 1 + 1 * 0 = 0; rw [e.1]
  · show win0_2.index t 1 * 2048 + 1 * k = _; omega

/-- Window 3's block at a point. -/
theorem blk3 {r k : ℕ} (hr : r < 256) (hk : k < 2048) :
    rd (m := 256) (n := 2048) (iblk m c 3 t) r k = X3 m c (256 * t.val + r) (k) := by
  have e := (by decide +kernel : ∀ t : Fin grid0.N, win0_3.index t 0 = t.val ∧ win0_3.index t 1 = 0) t
  rw [rd_in _ hr hk]
  unfold iblk
  rw [View.read_apply]
  show V m c main_arg3 _ = _
  rw [V_main_arg3]
  refine (rd_of_val (m := 4096) (n := 2048) _ _ ?_ ?_).symm
  · show win0_3.index t 0 * 256 + 1 * r = _; omega
  · show win0_3.index t 1 * 2048 + 1 * k = _; omega

theorem t_lt : t.val < 16 := lt_of_lt_of_eq t.isLt (by decide +kernel)

/-- What the body leaves in output window 4 at a point, in either case. -/
theorem outs4 : (outsAt0 m c t.val t.isLt).1 = k0_pay5 (iblk m c 0 t) (iblk m c 1 t) (iblk m c 2 t) (iblk m c 3 t) := by
  by_cases h0 : t.val % 16 = 0
  · rw [outsAt0_A m c t h0 (by have := t_lt t; omega)]
    dsimp only
    unfold out0_A_4
    rw [View.read_writes_eq_canon]; swap
    · intro y; apply cover0_A_4
    unfold kernelRun0_A
    dsimp only
    sl_unfold_words
    rw [View.canon_unit_zero hz2]
    simp only [View.readAt_eq_ld, (hs0_0 t).read_unread, (hs0_1 t).read_unread, (hs0_2 t).read_unread, (hs0_3 t).read_unread, View.ld_unit_zero (S := S256x2048) hz2, View.ld_unit_zero (S := S1x2048) hz2, View.ld_unit_zero (S := S8x2048) hz2]
  · rw [outsAt0_B m c t h0 (by have := t_lt t; omega)]
    dsimp only
    unfold out0_B_4
    rw [View.read_writes_eq_canon]; swap
    · intro y; apply cover0_B_4
    unfold kernelRun0_B
    dsimp only
    sl_unfold_words
    rw [View.canon_unit_zero hz2]
    simp only [View.readAt_eq_ld, (hs0_0 t).read_unread, (hs0_1 t).read_unread, (hs0_2 t).read_unread, (hs0_3 t).read_unread, View.ld_unit_zero (S := S256x2048) hz2, View.ld_unit_zero (S := S1x2048) hz2, View.ld_unit_zero (S := S8x2048) hz2]

/-- What the body leaves in output window 5 at a point, in either case. -/
theorem outs5 : (outsAt0 m c t.val t.isLt).2.1 = k0_pay7 (iblk m c 0 t) (iblk m c 1 t) (iblk m c 2 t) (iblk m c 3 t) := by
  by_cases h0 : t.val % 16 = 0
  · rw [outsAt0_A m c t h0 (by have := t_lt t; omega)]
    dsimp only
    unfold out0_A_5
    rw [View.read_writes_eq_canon]; swap
    · intro y; apply cover0_A_5
    unfold kernelRun0_A
    dsimp only
    sl_unfold_words
    rw [View.canon_unit_zero hz2]
    simp only [View.readAt_eq_ld, (hs0_0 t).read_unread, (hs0_1 t).read_unread, (hs0_2 t).read_unread, (hs0_3 t).read_unread, View.ld_unit_zero (S := S256x2048) hz2, View.ld_unit_zero (S := S1x2048) hz2, View.ld_unit_zero (S := S8x2048) hz2]
  · rw [outsAt0_B m c t h0 (by have := t_lt t; omega)]
    dsimp only
    unfold out0_B_5
    rw [View.read_writes_eq_canon]; swap
    · intro y; apply cover0_B_5
    unfold kernelRun0_B
    dsimp only
    sl_unfold_words
    rw [View.canon_unit_zero hz2]
    simp only [View.readAt_eq_ld, (hs0_0 t).read_unread, (hs0_1 t).read_unread, (hs0_2 t).read_unread, (hs0_3 t).read_unread, View.ld_unit_zero (S := S256x2048) hz2, View.ld_unit_zero (S := S1x2048) hz2, View.ld_unit_zero (S := S8x2048) hz2]

/-- The accumulated rows at the first tile: this tile's sums. -/
theorem outs6_A (h0 : t.val % 16 = 0) : (outsAt0 m c t.val t.isLt).2.2 = k0_pay6 (iblk m c 0 t) (iblk m c 1 t) := by
  rw [outsAt0_A m c t h0 (by have := t_lt t; omega)]
  dsimp only
  unfold out0_A_6
  rw [View.read_writes_eq_canon]; swap
  · intro y; apply cover0_A_6
  unfold kernelRun0_A
  dsimp only
  sl_unfold_words
  rw [View.canon_unit_zero hz2]
  simp only [View.readAt_eq_ld, (hs0_0 t).read_unread, (hs0_1 t).read_unread, (hs0_2 t).read_unread, (hs0_3 t).read_unread, View.ld_unit_zero (S := S256x2048) hz2, View.ld_unit_zero (S := S1x2048) hz2, View.ld_unit_zero (S := S8x2048) hz2]

/-- At a later tile: this tile's sums over what the tile before left. -/
theorem outs6_B (h0 : ¬t.val % 16 = 0) (ht : t.val - 1 < cfg0.N) : (outsAt0 m c t.val t.isLt).2.2
    = k0_pay1 (k0_pay6 (iblk m c 0 t) (iblk m c 1 t)) (outsAt0 m c (t.val - 1) ht).2.2 := by
  rw [outsAt0_B m c t h0 (by have := t_lt t; omega)]
  dsimp only
  unfold out0_B_6
  rw [View.read_writes_eq_canon]; swap
  · intro y; apply cover0_B_6
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_6 t).read_unread, View.ld_unit_zero (S := S256x2048) hz2, View.ld_unit_zero (S := S1x2048) hz2, View.ld_unit_zero (S := S8x2048) hz2]

/-- The gradient after the gain. -/
def W (D G : ℕ → ℕ → EReal) (r k : ℕ) : EReal := D r k * G 0 k
/-- The gradient with the residual's. -/
def dxN (D X G R : ℕ → ℕ → EReal) (r k : ℕ) : EReal := R r k + dxK X (W D G) 2048 r k
/-- The gain's gradient before the sum over rows. -/
def dgN (D X : ℕ → ℕ → EReal) (r k : ℕ) : EReal := D r k * (X r k * rrms X 2048 r)
/-- The gain's gradient over the first n rows, above rows of zeros. -/
def accN (D X : ℕ → ℕ → EReal) (n r k : ℕ) : EReal := if r = 0 then ∑ q ∈ Finset.range n, dgN D X q k else 0

theorem pay2_rd {r : ℕ} (hr : r < 256) :
    rd (m := 256) (n := 1) (k0_pay2 (F := Ideal) (iblk m c 1 t)) r 0 = rrms (X1 m c) 2048 (256 * t.val + r) := by
  unfold k0_pay2
  dsimp only
  exact (rd_rms (m := 256) (n := 2048) (iblk m c 1 t) _ _ _ _ hr).trans (rrms_congr fun k hk => blk1 m c t hr hk)

theorem pay3_rd {r k : ℕ} (hr : r < 256) (hk : k < 2048) :
    rd (m := 256) (n := 2048) (k0_pay3 (F := Ideal) (iblk m c 1 t)) r k
      = X1 m c (256 * t.val + r) k * rrms (X1 m c) 2048 (256 * t.val + r) := by
  unfold k0_pay3
  dsimp only
  rw [rd_mulf, rd_broadcastCol _ _ hr hk, pay2_rd m c t hr]
  exact congrArg (· * _) (blk1 m c t hr hk)

theorem pay4_rd {r k : ℕ} (hr : r < 256) (hk : k < 2048) :
    rd (m := 256) (n := 2048) (k0_pay4 (F := Ideal) (iblk m c 0 t) (iblk m c 1 t) (iblk m c 2 t)) r k
      = dxK (X1 m c) (W (X0 m c) (X2 m c)) 2048 (256 * t.val + r) k := by
  unfold k0_pay4
  dsimp only
  refine rd_dx _ _ _ _ _ _ _ _ _ (pay2_rd m c t hr) (fun q hq => ?_) (fun q hq => pay3_rd m c t hr hq) hr hk
  rw [rd_mulf, rd_broadcastRow _ _ hr]
  exact congrArg₂ (· * ·) (blk0 m c t hr hq) (blk2 m c t hq)

theorem outs4_rd {r k : ℕ} (hr : r < 256) (hk : k < 2048) :
    rd (m := 256) (n := 2048) (outsAt0 m c t.val t.isLt).1 r k
      = dxN (X0 m c) (X1 m c) (X2 m c) (X3 m c) (256 * t.val + r) k := by
  rw [outs4]
  unfold k0_pay5
  dsimp only
  rw [rd_addf, pay4_rd m c t hr hk]
  exact congrArg (· + _) (blk3 m c t hr hk)

theorem outs5_rd {r k : ℕ} (hr : r < 256) (hk : k < 2048) :
    rd (m := 256) (n := 2048) (outsAt0 m c t.val t.isLt).2.1 r k
      = dxN (X0 m c) (X1 m c) (X2 m c) (X3 m c) (256 * t.val + r) k := by
  rw [outs5]
  unfold k0_pay7
  dsimp only
  rw [rd_truncf, rd_addf, pay4_rd m c t hr hk]
  exact congrArg (· + _) (blk3 m c t hr hk)

/-- This tile's sums above seven rows of zeros. -/
theorem pay6_rd {r k : ℕ} (hr : r < 8) (hk : k < 2048) :
    rd (m := 8) (n := 2048) (k0_pay6 (F := Ideal) (iblk m c 0 t) (iblk m c 1 t)) r k
      = partN (dgN (X0 m c) (X1 m c)) 256 (8 * t.val + r) k := by
  unfold k0_pay6
  dsimp only
  refine rd_part _ _ _ _ _ _ (fun q hq => ?_) hr hk
  rw [rd_mulf, pay3_rd m c t hq hk]
  exact congrArg (· * _) (blk0 m c t hq hk)

theorem outs6_rd : ∀ (n : ℕ) (hn : n < cfg0.N) {r k : ℕ} (_ : r < 8) (_ : k < 2048),
    rd (m := 8) (n := 2048) (outsAt0 m c n hn).2.2 r k = accN (X0 m c) (X1 m c) (256 * (n % 16 + 1)) r k := by
  have hN : cfg0.N = 16 := by decide +kernel
  intro n
  induction n with
  | zero =>
    intro hn r k hr hk
    rw [show (outsAt0 m c 0 hn).2.2 = _ from outs6_A m c ⟨0, hn⟩ rfl, pay6_rd m c _ hr hk]
    unfold accN partN
    by_cases h : r = 0
    · subst h; simp
    · rw [if_neg h, if_neg (by dsimp only; omega)]
  | succ n ih =>
    intro hn r k hr hk
    rw [show (outsAt0 m c (n + 1) hn).2.2 = _ from outs6_B m c ⟨n + 1, hn⟩ (by dsimp only; omega) (by show n + 1 - 1 < cfg0.N; omega)]
    unfold k0_pay1
    dsimp only
    rw [shapeCast_self, rd_addf, pay6_rd m c _ hr hk,
      show rd (m := 8) (n := 2048) (outsAt0 m c (n + 1 - 1) (by omega)).2.2 r k = _ from ih (by omega) hr hk]
    unfold accN partN
    dsimp only
    by_cases h : r = 0
    · subst h
      rw [if_pos rfl, if_pos (by omega), if_pos rfl, show 256 * ((n + 1) % 16 + 1) = 256 * (n % 16 + 1) + 256 by omega,
        Finset.sum_range_add, show (8 * (n + 1) + 0) / 8 = n % 16 + 1 by omega]
    · rw [if_neg h, if_neg (by omega), if_neg h, add_zero]

theorem index4 : win0_4.index t 0 = t.val ∧ win0_4.index t 1 = 0 :=
  (by decide +kernel : ∀ t : Fin grid0.N, win0_4.index t 0 = t.val ∧ win0_4.index t 1 = 0) t

/-- The output array after the run. -/
theorem final4 : (dats m 0 c).arrAt 4 cfg0.N = tab (m := 4096) (n := 2048) (dxN (X0 m c) (X1 m c) (X2 m c) (X3 m c)) := by
  refine (dats m 0 c).arrAt_eq_of_cover 4 _ (fun t hf => ?_) fun i => ?_
  · rw [flushed4]
    funext j
    rw [View.read_apply]
    show (outsAt0 m c t.val t.isLt).1 j = dxN (X0 m c) (X1 m c) (X2 m c) (X3 m c) (win0_4.index t 0 * 256 + 1 * (j 0).val) (win0_4.index t 1 * 2048 + 1 * (j 1).val)
    rw [eq_rd (m := 256) (n := 2048) (outsAt0 m c t.val t.isLt).1 j, outs4_rd m c t (j 0).isLt (j 1).isLt]
    have hi := index4 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_4 _, ?_⟩
    show i ∈ ((View.whole main_v0_0).slice (win0_4.rect t)).set
    rw [View.set_slice_whole, Rect.mem_set_unit]
    have hi := index4 t
    have hv : t.val = (i 0).val / 256 := rfl
    intro a
    match a with
    | ⟨0, _⟩ => show win0_4.index t 0 * 256 ≤ (i 0).val ∧ (i 0).val < win0_4.index t 0 * 256 + 256
                rw [hi.1]; omega
    | ⟨1, _⟩ => show win0_4.index t 1 * 2048 ≤ (i 1).val ∧ (i 1).val < win0_4.index t 1 * 2048 + 2048
                rw [hi.2]; omega

theorem index5 : win0_5.index t 0 = t.val ∧ win0_5.index t 1 = 0 :=
  (by decide +kernel : ∀ t : Fin grid0.N, win0_5.index t 0 = t.val ∧ win0_5.index t 1 = 0) t

/-- The output array after the run. -/
theorem final5 : (dats m 0 c).arrAt 5 cfg0.N = tab (m := 4096) (n := 2048) (dxN (X0 m c) (X1 m c) (X2 m c) (X3 m c)) := by
  refine (dats m 0 c).arrAt_eq_of_cover 5 _ (fun t hf => ?_) fun i => ?_
  · rw [flushed5]
    funext j
    rw [View.read_apply]
    show (outsAt0 m c t.val t.isLt).2.1 j = dxN (X0 m c) (X1 m c) (X2 m c) (X3 m c) (win0_5.index t 0 * 256 + 1 * (j 0).val) (win0_5.index t 1 * 2048 + 1 * (j 1).val)
    rw [eq_rd (m := 256) (n := 2048) (outsAt0 m c t.val t.isLt).2.1 j, outs5_rd m c t (j 0).isLt (j 1).isLt]
    have hi := index5 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_5 _, ?_⟩
    show i ∈ ((View.whole main_v0_1).slice (win0_5.rect t)).set
    rw [View.set_slice_whole, Rect.mem_set_unit]
    have hi := index5 t
    have hv : t.val = (i 0).val / 256 := rfl
    intro a
    match a with
    | ⟨0, _⟩ => show win0_5.index t 0 * 256 ≤ (i 0).val ∧ (i 0).val < win0_5.index t 0 * 256 + 256
                rw [hi.1]; omega
    | ⟨1, _⟩ => show win0_5.index t 1 * 2048 ≤ (i 1).val ∧ (i 1).val < win0_5.index t 1 * 2048 + 2048
                rw [hi.2]; omega

theorem index6 : win0_6.index t 0 = 0 ∧ win0_6.index t 1 = 0 :=
  (by decide +kernel : ∀ t : Fin grid0.N, win0_6.index t 0 = 0 ∧ win0_6.index t 1 = 0) t

/-- The output array after the run. -/
theorem final6 : (dats m 0 c).arrAt 6 cfg0.N = tab (m := 8) (n := 2048) (accN (X0 m c) (X1 m c) 4096) := by
  refine (dats m 0 c).arrAt_eq_of_cover 6 _ (fun t hf => ?_) fun i => ?_
  · rw [flushed6]
    funext j
    rw [View.read_apply]
    show (outsAt0 m c t.val t.isLt).2.2 j = accN (X0 m c) (X1 m c) 4096 (win0_6.index t 0 * 8 + 1 * (j 0).val) (win0_6.index t 1 * 2048 + 1 * (j 1).val)
    rw [eq_rd (m := 8) (n := 2048) (outsAt0 m c t.val t.isLt).2.2 j, outs6_rd m c t.val t.isLt (j 0).isLt (j 1).isLt, (flush0_6 t).mp hf]
    have hi := index6 t
    rw [hi.1, hi.2]
    congr 1 <;> omega
  · have h0 : (i 0).val < 8 := (i 0).isLt
    have h1 : (i 1).val < 2048 := (i 1).isLt
    have hN : cfg0.N = 16 := by decide +kernel
    let t : Fin cfg0.N := ⟨15, by omega⟩
    refine ⟨t, (flush0_6 _).mpr (by show (15) % 16 = 15; omega), ?_⟩
    show i ∈ ((View.whole main_v0_2).slice (win0_6.rect t)).set
    rw [View.set_slice_whole, Rect.mem_set_unit]
    have hi := index6 t
    have hv : t.val = 15 := rfl
    intro a
    match a with
    | ⟨0, _⟩ => show win0_6.index t 0 * 8 ≤ (i 0).val ∧ (i 0).val < win0_6.index t 0 * 8 + 8
                rw [hi.1]; omega
    | ⟨1, _⟩ => show win0_6.index t 1 * 2048 ≤ (i 1).val ∧ (i 1).val < win0_6.index t 1 * 2048 + 2048
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 2048) (dxN (X0 m c) (X1 m c) (X2 m c) (X3 m c))
      ∧ r.2.mem ((c : Thread nD τ).loc main_v0_1) = tab (m := 4096) (n := 2048) (dxN (X0 m c) (X1 m c) (X2 m c) (X3 m c))
      ∧ r.2.mem ((c : Thread nD τ).loc main_v0_2) = tab (m := 8) (n := 2048) (accN (X0 m c) (X1 m c) 4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (run_blocks m ρ)

section Reference
open Cert.Reference23Ideal.Read
variable (x0 x1 : FVec Ideal ⟨2, ![4096, 2048]⟩ .f32) (x2 : FVec Ideal ⟨2, ![1, 2048]⟩ .f32) (x3 : FVec Ideal ⟨2, ![4096, 2048]⟩ .f32)
  {r k : ℕ}

theorem ref_ms (hr : r < 4096) : rd (m := 4096) (n := 1) (val_main_v6 (F := Ideal) x1) r 0 = msq (rd x1) 2048 r := by
  unfold val_main_v6 val_main_v4 val_main_v2 val_main_v1 val_main_v0
  exact rd_hostMsq x1 _ _ _ _ _ hr

theorem ref_rr (hr : r < 4096) : rd (m := 4096) (n := 1) (val_main_v7 (F := Ideal) x1) r 0 = rrms (rd x1) 2048 r := by
  unfold val_main_v7
  rw [rd_hostRsqrt _ hr Nat.one_pos, ref_ms x1 hr]
  rfl

theorem ref_w (hr : r < 4096) : rd (m := 4096) (n := 2048) (val_main_v19 (F := Ideal) x0 x2) r k = W (rd x0) (rd x2) r k := by
  unfold val_main_v19 val_main_v18
  rw [rd_mulf, rd_bcastRow _ _ hr]
  rfl

theorem ref_dx (hr : r < 4096) (hk : k < 2048) :
    rd (m := 4096) (n := 2048) (val_main_v33 (F := Ideal) x0 x1 x2) r k = dxK (rd x1) (W (rd x0) (rd x2)) 2048 r k := by
  unfold val_main_v33 val_main_v32 val_main_v31 val_main_v30 val_main_v29 val_main_v28 val_main_v27 val_main_v25 val_main_v24 val_main_v23
    val_main_v22 val_main_v21 val_main_v20 val_main_v10 val_main_v8
  exact rd_hostDx x1 _ _ _ _ _ _ _ _ _ _ _ _ (ref_rr x1 hr) (ref_ms x1 hr) (fun _ _ => rfl) (fun q hq => ref_w x0 x2 hr) hr hk

/-- The reference's results at an entry. -/
theorem ref_v34 (hr : r < 4096) (hk : k < 2048) :
    rd (m := 4096) (n := 2048) (val_main_v34 (F := Ideal) x0 x1 x2 x3) r k = dxN (rd x0) (rd x1) (rd x2) (rd x3) r k := by
  unfold val_main_v34
  rw [rd_addf, ref_dx x0 x1 x2 hr hk]
  rfl

theorem ref_v36 (hr : r < 4096) (hk : k < 2048) :
    rd (m := 4096) (n := 2048) (val_main_v36 (F := Ideal) x0 x1 x2 x3) r k = dxN (rd x0) (rd x1) (rd x2) (rd x3) r k := by
  unfold val_main_v36 val_main_v35
  rw [rd_truncf, rd_addf, ref_dx x0 x1 x2 hr hk]
  rfl

theorem ref_v37 (hr : r < 8) (hk : k < 2048) :
    rd (m := 8) (n := 2048) (val_main_v37 (F := Ideal) x0 x1) r k = accN (rd x0) (rd x1) 4096 r k := by
  have hp : val_main_call0_v0 (F := Ideal) (Shape.Idx.first Cert.Reference23Ideal.Gen.h_S_) = (0 : EReal) := by
    show (((0#32 : BitVec 32).toInt : ℝ) : EReal) = 0
    simp
  unfold val_main_v37 val_main_v17 val_main_v16
  rw [rd_pad _ _ _ _ hp, if_pos ⟨hr, Nat.zero_le _⟩, Nat.sub_zero]
  unfold accN
  by_cases h : r = 0
  · rw [if_pos h, h, rd_row, rd1_hostSumRows _ _ _ _ hk]
    refine (congrArg (· + _) Ideal.ofBits_zero_f32).trans ((zero_add _).trans (Finset.sum_congr rfl fun q hq => ?_))
    have hq := Finset.mem_range.mp hq
    unfold val_main_v15 val_main_v12 val_main_v11
    rw [rd_mulf, rd_mulf, rd_bcastCol _ _ hq hk, ref_rr x1 hq]
    exact mul_comm _ _
  · rw [if_neg h]
    exact rd_out _ (by omega)

end Reference

/-- The kernel and the reference — the gradient through the second normalisation — end with equal arrays. -/
theorem algebraic : Cert.algebraic_Kernel23Ideal_Reference23Ideal := by
  intro m ρ m' ρ' _ hag
  refine ⟨_, _, _, run m ρ, (θ_run _ _ _).mono (fun _ h c => ⟨(h c).1.trans ?_, (h c).2.1.trans ?_, (h c).2.2.1.trans ?_, (h c).2.2.2⟩) (Cert.Reference23Ideal.Value.run m' ρ')⟩
  · refine (Cert.Reference23Ideal.Read.val_main_v34_eq _ _ _ _ ).trans ?_
    rw [(hag c).1, (hag c).2.1, (hag c).2.2.1, (hag c).2.2.2]
    exact eq_tab fun r k hr hk => ref_v34 _ _ _ _ hr hk
  · refine (Cert.Reference23Ideal.Read.val_main_v36_eq _ _ _ _ ).trans ?_
    rw [(hag c).1, (hag c).2.1, (hag c).2.2.1, (hag c).2.2.2]
    exact eq_tab fun r k hr hk => ref_v36 _ _ _ _ hr hk
  · refine (Cert.Reference23Ideal.Read.val_main_v37_eq _ _ ).trans ?_
    rw [(hag c).1, (hag c).2.1]
    exact eq_tab fun r k hr hk => ref_v37 _ _ hr hk

/-- The reference's run leaves the arguments as they were; it uses no semaphore. -/
theorem frame_ref : Cert.quiescent_Reference23Ideal := fun m ρ _ =>
  (θ_run Cert.Reference23Ideal.defs _ _).mono (fun r h => ⟨fun c => (h c).2.2.2, Idealize.ShloMosaic.sem_eq_zero_of_no_sems (by decide) r.2⟩)
    (Cert.Reference23Ideal.Value.run (F := Ideal) m ρ)

end Cert.Mm23

end
-- ==== Proof.Mm29.lean ====
module

public import proofs.«01_k».proof.Proof.Norm
public import proofs.«01_k».proof.Proof.Gen.Kernel29Ideal.Value
public import proofs.«01_k».proof.Proof.Gen.Reference29Ideal.Run
public import proofs.«01_k».proof.Proof.Gen.Reference29Ideal.Read

public import proofs.«01_k».proof.Defs

@[expose] public section

set_option maxRecDepth 16384

noncomputable section

namespace Cert.Mm29

open Cert.Kernel29Ideal Cert.Kernel29Ideal.Gen Cert.Kernel29Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 2048) (m (c.tc.loc main_arg0))
abbrev X1 : ℕ → ℕ → EReal := rd (m := 1) (n := 2048) (m (c.tc.loc main_arg1))

/-- Window 0's block at a point. -/
theorem blk0 {r k : ℕ} (hr : r < 256) (hk : k < 2048) :
    rd (m := 256) (n := 2048) (iblk m c 0 t) r k = X0 m c (256 * t.val + r) (k) := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 2048) _ _ ?_ ?_).symm
  · show win0_0.index t 0 * 256 + 1 * r = _; omega
  · show win0_0.index t 1 * 2048 + 1 * k = _; omega

/-- Window 1's block at a point: the whole row. -/
theorem blk1 {k : ℕ} (hk : k < 2048) : rd (m := 1) (n := 2048) (iblk m c 1 t) 0 k = X1 m c 0 k := by
  have e := (by decide +kernel : ∀ t : Fin grid0.N, win0_1.index t 0 = 0 ∧ win0_1.index t 1 = 0) t
  rw [rd_in _ Nat.one_pos hk]
  unfold iblk
  rw [View.read_apply]
  show V m c main_arg1 _ = _
  rw [V_main_arg1]
  refine (rd_of_val (m := 1) (n := 2048) _ _ ?_ ?_).symm
  · show win0_1.index t 0 * 1 + 1 * 0 = 0; rw [e.1]
  · show win0_1.index t 1 * 2048 + 1 * k = _; omega

/-- The normalised rows times the gain. -/
def nN (X G : ℕ → ℕ → EReal) (r k : ℕ) : EReal := X r k * rrms X 2048 r * G 0 k

/-- What the body leaves in the output's block. -/
theorem out2_rd {r k : ℕ} (hr : r < 256) (hk : k < 2048) :
    rd (m := 256) (n := 2048) (out0_2 (iblk m c 0 t) (iblk m c 1 t)) r k = nN (X0 m c) (X1 m c) (256 * t.val + r) k := by
  unfold out0_2
  rw [View.canon_unit_zero hz2]
  simp only [View.ld_unit_zero (S := S256x2048) hz2, View.ld_unit_zero (S := S1x2048) hz2]
  unfold k0_pay1
  dsimp only
  rw [rd_truncf, rd_mulf, rd_mulf, rd_broadcastCol _ _ hr hk, rd_broadcastRow _ _ hr]
  exact congrArg₂ (· * ·) (congrArg₂ (· * ·) (blk0 m c t hr hk) ((rd_rms (m := 256) (n := 2048) (iblk m c 0 t) _ _ _ _ hr).trans (rrms_congr fun q hq => blk0 m c t hr hq))) (blk1 m c t hk)

theorem index2 : win0_2.index t 0 = t.val ∧ win0_2.index t 1 = 0 :=
  (by decide +kernel : ∀ t : Fin grid0.N, win0_2.index t 0 = t.val ∧ win0_2.index t 1 = 0) t

/-- The output array after the run. -/
theorem final2 : (dats m 0 c).arrAt 2 cfg0.N = tab (m := 4096) (n := 2048) (nN (X0 m c) (X1 m c)) := by
  refine (dats m 0 c).arrAt_eq_of_cover 2 _ (fun t hf => ?_) fun i => ?_
  · rw [flushed2]
    funext j
    rw [View.read_apply]
    show out0_2 (iblk m c 0 t) (iblk m c 1 t) j = nN (X0 m c) (X1 m c) (win0_2.index t 0 * 256 + 1 * (j 0).val) (win0_2.index t 1 * 2048 + 1 * (j 1).val)
    rw [eq_rd (m := 256) (n := 2048) (out0_2 (iblk m c 0 t) (iblk m c 1 t)) j, out2_rd m c t (j 0).isLt (j 1).isLt]
    have hi := index2 t
    rw [hi.1, hi.2]
    congr 1 <;> omega
  · have h0 : (i 0).val < 4096 := (i 0).isLt
    have h1 : (i 1).val < 2048 := (i 1).isLt
    have hN : cfg0.N = 16 := by decide +kernel
    let t : Fin cfg0.N := ⟨(i 0).val / 256, by omega⟩
    refine ⟨t, flush0_2 _, ?_⟩
    show i ∈ ((View.whole main_v0).slice (win0_2.rect t)).set
    rw [View.set_slice_whole, Rect.mem_set_unit]
    have hi := index2 t
    have hv : t.val = (i 0).val / 256 := rfl
    intro a
    match a with
    | ⟨0, _⟩ => show win0_2.index t 0 * 256 ≤ (i 0).val ∧ (i 0).val < win0_2.index t 0 * 256 + 256
                rw [hi.1]; omega
    | ⟨1, _⟩ => show win0_2.index t 1 * 2048 ≤ (i 1).val ∧ (i 1).val < win0_2.index t 1 * 2048 + 2048
                rw [hi.2]; omega

/-- The kernel's run: the results in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 2048) (nN (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

section Reference
open Cert.Reference29Ideal.Read
variable (x0 : FVec Ideal ⟨2, ![4096, 2048]⟩ .f32) (x1 : FVec Ideal ⟨2, ![1, 2048]⟩ .f32) {r k : ℕ}

theorem ref_rr (hr : r < 4096) : rd (m := 4096) (n := 1) (val_main_v7 (F := Ideal) x0) r 0 = rrms (rd x0) 2048 r := by
  unfold val_main_v7 val_main_v6 val_main_v4 val_main_v2 val_main_v1 val_main_v0
  rw [rd_hostRsqrt _ hr Nat.one_pos]
  exact congrArg Ideal.rsqrt (rd_hostMsq x0 _ _ _ _ _ hr)

/-- The reference's result at an entry. -/
theorem ref_v12 (hr : r < 4096) (hk : k < 2048) :
    rd (m := 4096) (n := 2048) (val_main_v12 (F := Ideal) x0 x1) r k = nN (rd x0) (rd x1) r k := by
  unfold val_main_v12 val_main_v11 val_main_v10 val_main_v9 val_main_v8
  rw [rd_truncf, rd_mulf, rd_mulf, rd_bcastCol _ _ hr hk, rd_bcastRow _ _ hr, ref_rr x0 hr]
  rfl

end Reference

/-- The kernel and the reference — the first and third normalisations — end with equal arrays. -/
theorem algebraic : Cert.algebraic_Kernel29Ideal_Reference29Ideal := by
  intro m ρ m' ρ' _ hag
  refine ⟨_, run m ρ, (θ_run _ _ _).mono (fun _ h c => ⟨(h c).1.trans ?_, (h c).2⟩) (Cert.Reference29Ideal.Value.run m' ρ')⟩
  · refine (Cert.Reference29Ideal.Read.val_main_v12_eq _ _ ).trans ?_
    rw [(hag c).1, (hag c).2]
    exact eq_tab fun r k hr hk => ref_v12 _ _ hr hk

/-- The reference's run leaves the arguments as they were; it uses no semaphore. -/
theorem frame_ref : Cert.quiescent_Reference29Ideal := fun m ρ _ =>
  (θ_run Cert.Reference29Ideal.defs _ _).mono (fun r h => ⟨fun c => (h c).2, Idealize.ShloMosaic.sem_eq_zero_of_no_sems (by decide) r.2⟩)
    (Cert.Reference29Ideal.Value.run (F := Ideal) m ρ)

end Cert.Mm29

end
-- ==== Proof.Adam40.lean ====
/- The optimiser's step on the small weights packed end to end. -/
module

public import proofs.«01_k».proof.Defs
public import proofs.«01_k».proof.Proof.Gen.Kernel40Ideal.Value
public import proofs.«01_k».proof.Proof.Gen.Reference40Ideal.Run
public import proofs.«01_k».proof.Proof.Gen.Reference40Ideal.Read
public import proofs.«01_k».proof.Proof.Adam

@[expose] public section

set_option maxRecDepth 16384

noncomputable section

namespace Cert.Adam40

open Idealize.ShloMosaic Idealize.ShloMosaic.TcCoe Idealize.SL.Sem
open Cert.Reference40Ideal.Read Cert.Kernel40Ideal.Value

/-- The two named constants are the reciprocals of the bias corrections. -/
theorem preserves : Cert.preserves_Kernel40_Kernel40Ideal :=
  ⟨IdealRules.named_const.statement Cert.Kernel40Ideal.κ "c1" .f32 0x3FC48605#32 ((8388608 / 5463681 : ℝ) : EReal) rfl,
    IdealRules.named_const.statement Cert.Kernel40Ideal.κ "c2" .f32 0x42C8E6D3#32 ((268435456 / 2672307 : ℝ) : EReal) rfl⟩

theorem c1_eq : Named.named (F := Ideal) Cert.Kernel40Ideal.κ "c1" (φ := .f32) 0x3FC48605#32 = ((8388608 / 5463681 : ℝ) : EReal) :=
  IdealRules.named_const.ideal_named_scalar _ _ _ _ rfl
theorem c2_eq : Named.named (F := Ideal) Cert.Kernel40Ideal.κ "c2" (φ := .f32) 0x42C8E6D3#32 = ((268435456 / 2672307 : ℝ) : EReal) :=
  IdealRules.named_const.ideal_named_scalar _ _ _ _ rfl

section Reference
variable (x0 x1 x2 x3 : FVec Ideal ⟨2, ![176, 128]⟩ .f32) (i : (⟨2, ![176, 128]⟩ : Shape).Idx)

/-- The reference's results at an entry. -/
theorem ref_m : val_main_v4 (F := Ideal) x1 x2 i = Adam.mN (x1 i) (x2 i) := by
  simp only [val_main_v4_apply, val_main_v3_apply, val_main_v2_apply, val_main_v1_apply, val_main_v0_apply]; rfl
theorem ref_v : val_main_v10 (F := Ideal) x1 x3 i = Adam.vN (x1 i) (x3 i) := by
  simp only [val_main_v10_apply, val_main_v9_apply, val_main_v8_apply, val_main_v7_apply, val_main_v6_apply, val_main_v5_apply]; rfl
theorem ref_delta : val_main_v23 (F := Ideal) x0 x1 x2 x3 i = Adam.delta (x0 i) (x1 i) (x2 i) (x3 i) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref_m, ref_v]; rfl

end Reference

/-- The kernel and the reference end with equal arrays. -/
theorem algebraic : Cert.algebraic_Kernel40Ideal_Reference40Ideal := by
  intro m ρ m' ρ' _ hag
  refine ⟨_, _, _, Cert.Kernel40Ideal.Value.run m ρ,
    (θ_run _ _ _).mono (fun _ h c => ⟨(h c).1.trans ?_, (h c).2.1.trans ?_, (h c).2.2.1.trans ?_, (h c).2.2.2⟩) (Cert.Reference40Ideal.Value.run m' ρ')⟩
  · refine (val_main_v23_eq _ _ _ _).trans ?_
    rw [(hag c).1, (hag c).2.1, (hag c).2.2.1, (hag c).2.2.2]
    exact funext fun i => (ref_delta _ _ _ _ i).trans (Adam.delta_eq _ _ _ _ c1_eq c2_eq).symm
  · refine (val_main_v4_eq _ _).trans ?_
    rw [(hag c).2.1, (hag c).2.2.1]
    exact funext fun i => ref_m _ _ i
  · refine (val_main_v10_eq _ _).trans ?_
    rw [(hag c).2.1, (hag c).2.2.2]
    exact funext fun i => ref_v _ _ i

/-- The reference's run leaves the arguments as they were; it uses no semaphore. -/
theorem frame_ref : Cert.quiescent_Reference40Ideal := fun m ρ _ =>
  (θ_run Cert.Reference40Ideal.defs _ _).mono (fun r h => ⟨fun c => (h c).2.2.2, Idealize.ShloMosaic.sem_eq_zero_of_no_sems (by decide) r.2⟩)
    (Cert.Reference40Ideal.Value.run (F := Ideal) m ρ)

end Cert.Adam40

end
-- ==== Proof.Conv.lean ====
/- The causal convolution over the rows and its gradient, over the extended reals: the closed forms, the reads of the host's
   operations and of the operations on a tile between its halos, and the derivative of the gate's activation. -/
module

public import proofs.«01_k».proof.Proof.Norm
public import Idealize.ShloMosaic.Lib.ReduceAll

@[expose] public section

noncomputable section

namespace Cert.Rd

open Idealize.ShloMosaic

/-! ## Closed forms -/

/-- A matrix moved down by `s` rows, zero above. -/
def bk (X : ℕ → ℕ → EReal) (s R C : ℕ) : EReal := if s ≤ R then X (R - s) C else 0

theorem bk_zero (X : ℕ → ℕ → EReal) (R C : ℕ) : bk X 0 R C = X R C := by unfold bk; rw [if_pos (Nat.zero_le _)]; rfl

theorem halo_bk (X : ℕ → ℕ → EReal) {s B r C : ℕ} (hs : s ≤ 8) : halo X (B + (8 + r - s)) C = bk X s (B + r) C := by
  unfold halo bk
  by_cases h : s ≤ B + r
  · rw [if_pos (by omega), if_pos h]; congr 1; omega
  · rw [if_neg (by omega), if_neg h]

theorem halo_bk0 (X : ℕ → ℕ → EReal) {B r C : ℕ} : halo X (B + (8 + r)) C = X (B + r) C := by
  unfold halo; rw [if_pos (by omega)]; congr 1; omega

/-- The causal convolution with three taps. -/
def conv3 (X W : ℕ → ℕ → EReal) (R C : ℕ) : EReal := X R C * W 2 C + bk X 2 R C * W 0 C + bk X 1 R C * W 1 C

/-- Its gradient in the input. -/
def anti3 (D W : ℕ → ℕ → EReal) (R C : ℕ) : EReal := D R C * W 2 C + D (R + 2) C * W 0 C + D (R + 1) C * W 1 C

/-- Its gradient in tap `k`, over the first `N` rows. -/
def taps3 (D X : ℕ → ℕ → EReal) (N k C : ℕ) : EReal :=
  if k < 3 then ∑ R ∈ Finset.range N, D R C * bk X (2 - k) R C else 0

/-- The causal convolution with four taps. -/
def conv4 (X W : ℕ → ℕ → EReal) (R C : ℕ) : EReal :=
  X R C * W 3 C + bk X 3 R C * W 0 C + bk X 2 R C * W 1 C + bk X 1 R C * W 2 C

/-- Its gradient in the input. -/
def anti4 (D W : ℕ → ℕ → EReal) (R C : ℕ) : EReal :=
  D R C * W 3 C + D (R + 3) C * W 0 C + D (R + 2) C * W 1 C + D (R + 1) C * W 2 C

/-- Its gradient in tap `k`, over the first `N` rows. -/
def taps4 (D X : ℕ → ℕ → EReal) (N k C : ℕ) : EReal :=
  if k < 4 then ∑ R ∈ Finset.range N, D R C * bk X (3 - k) R C else 0

theorem taps3_succ (D X : ℕ → ℕ → EReal) (a tb k C : ℕ) :
    taps3 D X (a + tb) k C = taps3 D X a k C + (if k < 3 then ∑ r ∈ Finset.range tb, D (a + r) C * bk X (2 - k) (a + r) C else 0) := by
  unfold taps3; split
  · rw [Finset.sum_range_add]
  · rw [add_zero]

theorem taps4_succ (D X : ℕ → ℕ → EReal) (a tb k C : ℕ) :
    taps4 D X (a + tb) k C = taps4 D X a k C + (if k < 4 then ∑ r ∈ Finset.range tb, D (a + r) C * bk X (3 - k) (a + r) C else 0) := by
  unfold taps4; split
  · rw [Finset.sum_range_add]
  · rw [add_zero]

theorem conv3_host (X W : ℕ → ℕ → EReal) (R C : ℕ) :
    bk X 2 R C * W 0 C + bk X 1 R C * W 1 C + bk X 0 R C * W 2 C = conv3 X W R C := by
  unfold conv3; rw [bk_zero, add_comm, add_assoc]

theorem conv4_host (X W : ℕ → ℕ → EReal) (R C : ℕ) :
    bk X 3 R C * W 0 C + bk X 2 R C * W 1 C + bk X 1 R C * W 2 C + bk X 0 R C * W 3 C = conv4 X W R C := by
  unfold conv4; rw [bk_zero, add_comm, add_assoc, add_assoc, add_assoc]

theorem anti3_host (D W : ℕ → ℕ → EReal) (R C : ℕ) :
    D R C * W 2 C + D (R + 1) C * W 1 C + D (R + 2) C * W 0 C = anti3 D W R C := by
  unfold anti3; rw [add_assoc, add_comm (D (R + 1) C * W 1 C), ← add_assoc]

theorem anti4_host (D W : ℕ → ℕ → EReal) (R C : ℕ) :
    D R C * W 3 C + D (R + 1) C * W 2 C + D (R + 2) C * W 1 C + D (R + 3) C * W 0 C = anti4 D W R C := by
  unfold anti4
  rw [add_assoc, add_assoc, add_assoc, add_assoc, add_comm (D (R + 3) C * W 0 C), add_comm (D (R + 2) C * W 1 C) (D (R + 1) C * W 2 C), add_assoc]

/-! ## The gate's activation -/

theorem sgm_bot : sgm ⊥ = 0 := by
  unfold sgm
  rw [EReal.neg_bot]
  show Ideal.div 1 (1 + ⊤) = 0
  rw [EReal.add_top_of_ne_bot (by decide)]
  unfold Ideal.div
  rw [if_neg (by decide), EReal.inv_top, mul_zero]

theorem sgm_top : sgm ⊤ = 1 := by
  unfold sgm
  rw [EReal.neg_top]
  show Ideal.div 1 (1 + 0) = 1
  rw [add_zero]
  unfold Ideal.div
  rw [if_neg one_ne_zero, one_mul, show ((1 : EReal))⁻¹ = ((1 : ℝ) : EReal)⁻¹ from rfl, ← EReal.coe_inv, inv_one]; rfl

theorem sgm_coe (x : ℝ) : sgm x = (((1 + Real.exp (-x))⁻¹ : ℝ) : EReal) := by
  have hp : (0 : ℝ) < 1 + Real.exp (-x) := by positivity
  unfold sgm
  rw [← EReal.coe_neg]
  show Ideal.div 1 (1 + ((Real.exp (-x) : ℝ) : EReal)) = _
  rw [show (1 : EReal) + ((Real.exp (-x) : ℝ) : EReal) = ((1 + Real.exp (-x) : ℝ) : EReal) by rw [EReal.coe_add]; rfl]
  unfold Ideal.div
  rw [if_neg (by exact_mod_cast hp.ne'), one_mul, ← EReal.coe_inv]

/-- The derivative of `c · sgm c`, as the kernels compute it. -/
def dsl (d z : EReal) : EReal := d * (sgm z * (1 + z * (1 - sgm z)))

/-- The product rule for `c · sgm c` gives the same gradient, for a finite cotangent. -/
theorem dsl_eq {d : EReal} (z : EReal) (ht : d ≠ ⊤) (hb : d ≠ ⊥) :
    d * sgm z + z * d * (sgm z * (1 - sgm z)) = dsl d z := by
  unfold dsl
  lift d to ℝ using ⟨ht, hb⟩
  induction z with
  | bot => rw [sgm_bot]; simp
  | top =>
    have h0 : (1 : EReal) - 1 = 0 := by rw [← EReal.coe_one, ← EReal.coe_sub, sub_self, EReal.coe_zero]
    rw [sgm_top, h0]; simp
  | coe x =>
    rw [sgm_coe]
    have h1 : (1 : EReal) = ((1 : ℝ) : EReal) := rfl
    rw [h1]
    simp only [← EReal.coe_sub, ← EReal.coe_mul, ← EReal.coe_add]
    congr 1; ring

/-! ## Finite arguments -/

theorem ones_and {s : Shape} (a b : IVec s 1) (h : andi a b = fun _ => 1#1) : a = (fun _ => 1#1) ∧ b = fun _ => 1#1 := by
  have key : ∀ x y : BitVec 1, IntOp.andi x y = 1#1 → x = 1#1 ∧ y = 1#1 := by decide
  exact ⟨funext fun i => (key _ _ (congrFun h i)).1, funext fun i => (key _ _ (congrFun h i)).2⟩

/-- Every entry's absolute value is below infinity: every entry read is finite. -/
theorem finite_of_all {m n : ℕ} (x : FVec Ideal ⟨2, ![m, n]⟩ .f32) (hb : (⟨0, ![]⟩ : Shape).BroadcastsInDim ⟨2, ![m, n]⟩ ![])
    (hr : (⟨2, ![m, n]⟩ : Shape).ReducesTo [0, 1] ⟨0, ![]⟩) (hu : 0 < (⟨0, ![]⟩ : Shape).numel)
    (e : Host.reduce IntOp.andi (cmpf .olt (Host.absf x) (broadcastInDim ⟨2, ![m, n]⟩ ![] hb (constant (F := Ideal) ⟨0, ![]⟩ .f32 0x7F800000#32)))
      (constantI ⟨0, ![]⟩ 1 1#1) hr hu = fun _ => 1#1) (R C : ℕ) : rd x R C ≠ ⊤ ∧ rd x R C ≠ ⊥ := by
  haveI : Subsingleton (⟨0, ![]⟩ : Shape).Idx := ⟨fun a b => funext fun i => i.elim0⟩
  unfold rd
  split
  · rename_i h
    have hi := Host.reduce_andi_all _ _ hr hu (fun a => a.elim0) (congrFun e _) (ValueIdx.ix2 ⟨R, h.1⟩ ⟨C, h.2⟩)
    have htop : Ideal.ofBits .f32 0x7F800000#32 = ⊤ := by simp [Ideal.ofBits, Ideal.ieee]
    have h' : Ideal.cmp .olt (max (x (ValueIdx.ix2 ⟨R, h.1⟩ ⟨C, h.2⟩) : EReal) (-(x (ValueIdx.ix2 ⟨R, h.1⟩ ⟨C, h.2⟩) : EReal))) (Ideal.ofBits .f32 0x7F800000#32) = 1#1 := hi
    rw [htop] at h'
    generalize (x (ValueIdx.ix2 ⟨R, h.1⟩ ⟨C, h.2⟩) : EReal) = z at h'
    constructor
    · rintro rfl; simp [Ideal.cmp] at h'
    · rintro rfl; simp [Ideal.cmp] at h'
  · exact ⟨EReal.zero_ne_top, EReal.zero_ne_bot⟩

/-! ## The host's operations -/

section Host
variable {m n P k : ℕ} {R C : ℕ}

/-- A window of the matrix under `k` zero rows. -/
theorem rd_hostBack (o : ℕ) (x : FVec Ideal ⟨2, ![m, n]⟩ .f32)
    (hb : (⟨0, ![]⟩ : Shape).BroadcastsInDim ⟨2, ![k, n]⟩ ![])
    (hc : Shape.Concatenates [⟨2, ![k, n]⟩, ⟨2, ![m, n]⟩] ⟨2, ![P, n]⟩ 0)
    (hs : (⟨2, ![P, n]⟩ : Shape).Slices ![o, 0] ⟨2, ![m, n]⟩) (ho : o ≤ k) (hR : R < m) (hC : C < n) :
    rd (extractStridedSlice ⟨2, ![m, n]⟩ ![o, 0] (concatenate ⟨2, ![P, n]⟩ 0
        [⟨⟨2, ![k, n]⟩, broadcastInDim ⟨2, ![k, n]⟩ ![] hb (constant (F := Ideal) ⟨0, ![]⟩ .f32 0x00000000#32)⟩, ⟨⟨2, ![m, n]⟩, x⟩] hc) hs) R C
      = bk (rd x) (k - o) R C := by
  rw [rd_slice _ _ _ hR hC]
  show rd _ (o + R) (0 + C) = _
  rw [rd_concat2, Nat.zero_add]
  unfold bk
  by_cases h : k - o ≤ R
  · rw [if_neg (by omega), if_pos h]; congr 1; omega
  · rw [if_pos (by omega), if_neg h]
    exact (rd_bcastConst _ _ (by omega) hC).trans (Ideal.ofBits_zero .f32)

/-- One tap, spread over the rows. -/
theorem rd_hostTap (o : ℕ) (w : FVec Ideal ⟨2, ![k, n]⟩ .f32) (hs : (⟨2, ![k, n]⟩ : Shape).Slices ![o, 0] ⟨2, ![1, n]⟩)
    (hsc : (⟨2, ![1, n]⟩ : Shape).ShapeCasts ⟨1, ![n]⟩) (hb : (⟨1, ![n]⟩ : Shape).BroadcastsInDim ⟨2, ![1, n]⟩ ![1])
    (hbr : (⟨2, ![1, n]⟩ : Shape).BroadcastsInDim ⟨2, ![m, n]⟩ ![0, 1]) (hR : R < m) (hC : C < n) :
    rd (broadcastInDim ⟨2, ![m, n]⟩ ![0, 1] hbr (broadcastInDim ⟨2, ![1, n]⟩ ![1] hb
      (shapeCast ⟨1, ![n]⟩ (extractStridedSlice ⟨2, ![1, n]⟩ ![o, 0] w hs) hsc))) R C = rd w o C := by
  rw [rd_bcastRow _ _ hR, rd_bcastVec _ _ Nat.one_pos, rd1_row, rd_slice _ _ _ Nat.one_pos hC]
  show rd w (o + 0) (0 + C) = _
  rw [Nat.add_zero, Nat.zero_add]

/-- The gradient of the windows: three matrices laid under one another's rows, summed, the zero rows dropped. -/
theorem rd_hostAnti3 (a b d : FVec Ideal ⟨2, ![m, n]⟩ .f32) {u : Shape} (va vb vd : u.Idx → EReal) (hu : 0 < u.numel)
    (ha : (⟨2, ![m, n]⟩ : Shape).Pads ![2, 0] ![0, 0] ![0, 0] ⟨2, ![P, n]⟩)
    (hb : (⟨2, ![m, n]⟩ : Shape).Pads ![1, 0] ![1, 0] ![0, 0] ⟨2, ![P, n]⟩)
    (hd : (⟨2, ![m, n]⟩ : Shape).Pads ![0, 0] ![2, 0] ![0, 0] ⟨2, ![P, n]⟩)
    (hs : (⟨2, ![P, n]⟩ : Shape).Slices ![2, 0] ⟨2, ![m, n]⟩) (hva : va (Shape.Idx.first hu) = 0)
    (hvb : vb (Shape.Idx.first hu) = 0) (hvd : vd (Shape.Idx.first hu) = 0) (hP : P = m + 2) (hR : R < m) (hC : C < n) :
    rd (extractStridedSlice ⟨2, ![m, n]⟩ ![2, 0] (addf (F := Ideal) (φ := .f32) (addf (F := Ideal) (φ := .f32)
        (pad ⟨2, ![P, n]⟩ ![2, 0] ![0, 0] ![0, 0] a va ha hu) (pad ⟨2, ![P, n]⟩ ![1, 0] ![1, 0] ![0, 0] b vb hb hu))
        (pad ⟨2, ![P, n]⟩ ![0, 0] ![2, 0] ![0, 0] d vd hd hu)) hs) R C
      = rd a R C + rd b (R + 1) C + rd d (R + 2) C := by
  rw [rd_slice _ _ _ hR hC]
  show rd _ (2 + R) (0 + C) = _
  rw [rd_addf, rd_addf, rd_pad _ _ _ _ hva, rd_pad _ _ _ _ hvb, rd_pad _ _ _ _ hvd, if_pos (by omega), if_pos (by omega),
    if_pos (by omega), Nat.zero_add]
  congr 2
  · congr 2; omega
  · congr 1; omega
  · omega

theorem rd_hostAnti4 (a b d e : FVec Ideal ⟨2, ![m, n]⟩ .f32) {u : Shape} (va vb vd ve : u.Idx → EReal) (hu : 0 < u.numel)
    (ha : (⟨2, ![m, n]⟩ : Shape).Pads ![3, 0] ![0, 0] ![0, 0] ⟨2, ![P, n]⟩)
    (hb : (⟨2, ![m, n]⟩ : Shape).Pads ![2, 0] ![1, 0] ![0, 0] ⟨2, ![P, n]⟩)
    (hd : (⟨2, ![m, n]⟩ : Shape).Pads ![1, 0] ![2, 0] ![0, 0] ⟨2, ![P, n]⟩)
    (he : (⟨2, ![m, n]⟩ : Shape).Pads ![0, 0] ![3, 0] ![0, 0] ⟨2, ![P, n]⟩)
    (hs : (⟨2, ![P, n]⟩ : Shape).Slices ![3, 0] ⟨2, ![m, n]⟩) (hva : va (Shape.Idx.first hu) = 0)
    (hvb : vb (Shape.Idx.first hu) = 0) (hvd : vd (Shape.Idx.first hu) = 0) (hve : ve (Shape.Idx.first hu) = 0)
    (hP : P = m + 3) (hR : R < m) (hC : C < n) :
    rd (extractStridedSlice ⟨2, ![m, n]⟩ ![3, 0] (addf (F := Ideal) (φ := .f32) (addf (F := Ideal) (φ := .f32) (addf (F := Ideal) (φ := .f32)
        (pad ⟨2, ![P, n]⟩ ![3, 0] ![0, 0] ![0, 0] a va ha hu) (pad ⟨2, ![P, n]⟩ ![2, 0] ![1, 0] ![0, 0] b vb hb hu))
        (pad ⟨2, ![P, n]⟩ ![1, 0] ![2, 0] ![0, 0] d vd hd hu)) (pad ⟨2, ![P, n]⟩ ![0, 0] ![3, 0] ![0, 0] e ve he hu)) hs) R C
      = rd a R C + rd b (R + 1) C + rd d (R + 2) C + rd e (R + 3) C := by
  rw [rd_slice _ _ _ hR hC]
  show rd _ (3 + R) (0 + C) = _
  rw [rd_addf, rd_addf, rd_addf, rd_pad _ _ _ _ hva, rd_pad _ _ _ _ hvb, rd_pad _ _ _ _ hvd, rd_pad _ _ _ _ hve,
    if_pos (by omega), if_pos (by omega), if_pos (by omega), if_pos (by omega), Nat.zero_add]
  rw [show 3 + R - 3 = R by omega, show 3 + R - 2 = R + 1 by omega, show 3 + R - 1 = R + 2 by omega, show 3 + R - 0 = R + 3 by omega]

/-- A sum over the rows, broadcast back to one row and summed over that row again. -/
theorem rd_hostRowSum (x : FVec Ideal ⟨2, ![m, n]⟩ .f32) (f : ℕ → EReal) {u : Shape} (z z' : u.Idx → Ideal .f32) (hu : 0 < u.numel)
    (h : (⟨2, ![m, n]⟩ : Shape).ReducesTo [0] ⟨1, ![n]⟩) (hsc : (⟨1, ![n]⟩ : Shape).ShapeCasts ⟨2, ![1, n]⟩)
    (h' : (⟨2, ![1, n]⟩ : Shape).ReducesTo [0] ⟨1, ![n]⟩) (hb : (⟨1, ![n]⟩ : Shape).BroadcastsInDim ⟨2, ![1, n]⟩ ![1])
    (hz : z (Shape.Idx.first hu) = (0 : EReal)) (hz' : z' (Shape.Idx.first hu) = (0 : EReal))
    (hx : ∀ R, R < m → rd x R C = f R) (hC : C < n) :
    rd (broadcastInDim ⟨2, ![1, n]⟩ ![1] hb (Host.reduceAdd (F := Ideal) (φ := .f32) (shapeCast ⟨2, ![1, n]⟩
      (Host.reduceAdd (F := Ideal) (φ := .f32) x z h hu) hsc) z' h' hu)) 0 C = ∑ R ∈ Finset.range m, f R := by
  refine (rd_bcastVec _ _ Nat.one_pos).trans ((rd1_hostSumRows _ _ _ _ hC).trans ?_)
  rw [hz', zero_add, Finset.sum_range_one]
  refine (rd_row _ _ _).trans ((rd1_hostSumRows _ _ _ _ hC).trans ?_)
  rw [hz, zero_add]
  exact Finset.sum_congr rfl fun R hR => hx R (Finset.mem_range.1 hR)

/-- Three rows laid under one another by padding and adding, the last first, and padded to eight rows. -/
theorem rd_hostRows3 (S : ℕ → EReal) (a0 a1 a2 : FVec Ideal ⟨2, ![1, n]⟩ .f32) {u : Shape} (v0 v1 v2 v : u.Idx → EReal) (hu : 0 < u.numel)
    (h2) (h1) (h0) (h : (⟨2, ![3, n]⟩ : Shape).Pads ![0, 0] ![5, 0] ![0, 0] ⟨2, ![8, n]⟩)
    (e0 : v0 (Shape.Idx.first hu) = 0) (e1 : v1 (Shape.Idx.first hu) = 0) (e2 : v2 (Shape.Idx.first hu) = 0)
    (e : v (Shape.Idx.first hu) = 0) (s0 : rd a0 0 C = S 0) (s1 : rd a1 0 C = S 1) (s2 : rd a2 0 C = S 2) (hR : R < 8) :
    rd (pad ⟨2, ![8, n]⟩ ![0, 0] ![5, 0] ![0, 0] (addf (F := Ideal) (φ := .f32) (addf (F := Ideal) (φ := .f32)
        (pad ⟨2, ![3, n]⟩ ![2, 0] ![0, 0] ![0, 0] a2 v2 h2 hu) (pad ⟨2, ![3, n]⟩ ![1, 0] ![1, 0] ![0, 0] a1 v1 h1 hu))
        (pad ⟨2, ![3, n]⟩ ![0, 0] ![2, 0] ![0, 0] a0 v0 h0 hu)) v h hu) R C = if R < 3 then S R else 0 := by
  have out (x : FVec Ideal ⟨2, ![1, n]⟩ .f32) {q : ℕ} (h : 1 ≤ q) : rd x q C = 0 := rd_out _ (by omega)
  rw [rd_pad _ _ _ _ e, if_pos (by omega), Nat.sub_zero, rd_addf, rd_addf, rd_pad _ _ _ _ e2, rd_pad _ _ _ _ e1, rd_pad _ _ _ _ e0]
  by_cases h3 : R < 3
  · rw [if_pos h3]
    obtain rfl | rfl | rfl : R = 0 ∨ R = 1 ∨ R = 2 := by omega
    · rw [if_neg (by omega), if_neg (by omega), if_pos (by omega), zero_add, zero_add]; exact s0
    · rw [if_neg (by omega), if_pos (by omega), if_pos (by omega), zero_add, out _ (by omega : 1 ≤ 1 - 0), add_zero]; exact s1
    · rw [if_pos (by omega), if_pos (by omega), if_pos (by omega), out _ (by omega : 1 ≤ 2 - 1), out _ (by omega : 1 ≤ 2 - 0), add_zero, add_zero]
      exact s2
  · rw [if_neg h3, if_neg (by omega), if_neg (by omega), if_neg (by omega), add_zero, add_zero]

theorem rd_hostRows4 (S : ℕ → EReal) (a0 a1 a2 a3 : FVec Ideal ⟨2, ![1, n]⟩ .f32) {u : Shape} (v0 v1 v2 v3 v : u.Idx → EReal) (hu : 0 < u.numel)
    (h3) (h2) (h1) (h0) (h : (⟨2, ![4, n]⟩ : Shape).Pads ![0, 0] ![4, 0] ![0, 0] ⟨2, ![8, n]⟩)
    (e0 : v0 (Shape.Idx.first hu) = 0) (e1 : v1 (Shape.Idx.first hu) = 0) (e2 : v2 (Shape.Idx.first hu) = 0) (e3 : v3 (Shape.Idx.first hu) = 0)
    (e : v (Shape.Idx.first hu) = 0) (s0 : rd a0 0 C = S 0) (s1 : rd a1 0 C = S 1) (s2 : rd a2 0 C = S 2) (s3 : rd a3 0 C = S 3) (hR : R < 8) :
    rd (pad ⟨2, ![8, n]⟩ ![0, 0] ![4, 0] ![0, 0] (addf (F := Ideal) (φ := .f32) (addf (F := Ideal) (φ := .f32) (addf (F := Ideal) (φ := .f32)
        (pad ⟨2, ![4, n]⟩ ![3, 0] ![0, 0] ![0, 0] a3 v3 h3 hu) (pad ⟨2, ![4, n]⟩ ![2, 0] ![1, 0] ![0, 0] a2 v2 h2 hu))
        (pad ⟨2, ![4, n]⟩ ![1, 0] ![2, 0] ![0, 0] a1 v1 h1 hu)) (pad ⟨2, ![4, n]⟩ ![0, 0] ![3, 0] ![0, 0] a0 v0 h0 hu)) v h hu) R C
      = if R < 4 then S R else 0 := by
  have out (x : FVec Ideal ⟨2, ![1, n]⟩ .f32) {q : ℕ} (h : 1 ≤ q) : rd x q C = 0 := rd_out _ (by omega)
  rw [rd_pad _ _ _ _ e, if_pos (by omega), Nat.sub_zero, rd_addf, rd_addf, rd_addf, rd_pad _ _ _ _ e3, rd_pad _ _ _ _ e2, rd_pad _ _ _ _ e1,
    rd_pad _ _ _ _ e0]
  by_cases h4 : R < 4
  · rw [if_pos h4]
    obtain rfl | rfl | rfl | rfl : R = 0 ∨ R = 1 ∨ R = 2 ∨ R = 3 := by omega
    · rw [if_neg (by omega), if_neg (by omega), if_neg (by omega), if_pos (by omega), zero_add, zero_add, zero_add]; exact s0
    · rw [if_neg (by omega), if_neg (by omega), if_pos (by omega), if_pos (by omega), zero_add, zero_add, out _ (by omega : 1 ≤ 1 - 0), add_zero]
      exact s1
    · rw [if_neg (by omega), if_pos (by omega), if_pos (by omega), if_pos (by omega), zero_add, out _ (by omega : 1 ≤ 2 - 1),
        out _ (by omega : 1 ≤ 2 - 0), add_zero, add_zero]
      exact s2
    · rw [if_pos (by omega), if_pos (by omega), if_pos (by omega), if_pos (by omega), out _ (by omega : 1 ≤ 3 - 2), out _ (by omega : 1 ≤ 3 - 1),
        out _ (by omega : 1 ≤ 3 - 0), add_zero, add_zero, add_zero]
      exact s3
  · rw [if_neg h4, if_neg (by omega), if_neg (by omega), if_neg (by omega), if_neg (by omega), add_zero, add_zero, add_zero]

/-- The logistic function, on the host. -/
theorem rd_hostSgm (x : FVec Ideal ⟨2, ![m, n]⟩ .f32) (h1 h2 : (⟨0, ![]⟩ : Shape).BroadcastsInDim ⟨2, ![m, n]⟩ ![])
    (hR : R < m) (hC : C < n) :
    rd (Host.divf (broadcastInDim ⟨2, ![m, n]⟩ ![] h1 (constant (F := Ideal) ⟨0, ![]⟩ .f32 0x3F800000#32))
      (addf (broadcastInDim ⟨2, ![m, n]⟩ ![] h2 (constant (F := Ideal) ⟨0, ![]⟩ .f32 0x3F800000#32)) (Host.exp (Host.negf x)))) R C
      = sgm (rd x R C) := by
  rw [rd_hostDivf _ _ hR hC, rd_addf, rd_hostExp _ hR hC, rd_hostNegf _ hR hC]
  unfold sgm
  exact congrArg₂ Ideal.div ((rd_bcastConst _ _ hR hC).trans c1_eq) (congrArg (· + _) ((rd_bcastConst _ _ hR hC).trans c1_eq))

end Host

/-! ## The operations on a tile between its halos -/

section Tile
variable {m n M : ℕ} {r c B K : ℕ}

theorem rd_tap (k : ℕ) {T : ℕ} (w : FVec Ideal ⟨2, ![T, n]⟩ .f32) (hs : (⟨2, ![T, n]⟩ : Shape).Slices ![k, 0] ⟨2, ![1, n]⟩)
    (hb : (⟨2, ![1, n]⟩ : Shape).Broadcasts ⟨2, ![m, n]⟩) (hr : r < m) (hc : c < n) :
    rd (broadcastTo ⟨2, ![m, n]⟩ (extractStridedSlice ⟨2, ![1, n]⟩ ![k, 0] w hs) hb) r c = rd w k c := by
  rw [rd_broadcastRow _ _ hr, rd_slice _ _ _ Nat.one_pos hc]
  show rd w (k + 0) (0 + c) = _
  rw [Nat.add_zero, Nat.zero_add]

/-- The tile without its halos. -/
theorem rd_own {φ : FTy} (x : FVec Ideal ⟨2, ![m, n]⟩ φ) (hs : (⟨2, ![m, n]⟩ : Shape).Slices ![8, 0] ⟨2, ![M, n]⟩) (hr : r < M) (hc : c < n) :
    rd (extractStridedSlice ⟨2, ![M, n]⟩ ![8, 0] x hs) r c = rd x (8 + r) c := by
  rw [rd_slice _ _ _ hr hc]
  show rd _ (8 + r) (0 + c) = _
  rw [Nat.zero_add]

/-- Zeros at one row tile, the given rows at the others. -/
theorem rd_edge (x : FVec Ideal ⟨2, ![m, n]⟩ .f32) {i k : ℕ} (hi : i < 2 ^ 32) (hk : k < 2 ^ 32) (r c : ℕ) :
    rd (Scalar.select (Scalar.cmpi .eq (BitVec.ofNat 32 i) (BitVec.ofNat 32 k))
      (broadcast ⟨2, ![m, n]⟩ (Scalar.ofBits (F := Ideal) .f32 0x00000000#32)) x) r c = if i = k then 0 else rd x r c := by
  rw [select_eq hi hk]
  split
  · exact rd_zero r c
  · rfl

/-- The convolution of a tile with three taps. -/
theorem rd_tileConv3 (X W : ℕ → ℕ → EReal) (v : FVec Ideal ⟨2, ![m, n]⟩ .f32) (w : FVec Ideal ⟨2, ![3, n]⟩ .f32)
    (h0 h1 h2) (g0 g1 g2) (q1 q2 : (⟨2, ![m, n]⟩ : Shape).Rotates 0 none)
    (hv : ∀ j c, j < m → c < n → rd v j c = halo X (B + j) (K + c)) (hw : ∀ k c, k < 3 → c < n → rd w k c = W k (K + c))
    (hr : 8 + r < m) (hc : c < n) :
    rd (addf (addf (mulf v (broadcastTo ⟨2, ![m, n]⟩ (extractStridedSlice ⟨2, ![1, n]⟩ ![2, 0] w h2) g2))
        (mulf (dynamicRotate 0 2#32 none v q2) (broadcastTo ⟨2, ![m, n]⟩ (extractStridedSlice ⟨2, ![1, n]⟩ ![0, 0] w h0) g0)))
        (mulf (dynamicRotate 0 1#32 none v q1) (broadcastTo ⟨2, ![m, n]⟩ (extractStridedSlice ⟨2, ![1, n]⟩ ![1, 0] w h1) g1))) (8 + r) c
      = conv3 X W (B + r) (K + c) := by
  rw [rd_addf, rd_addf, rd_mulf, rd_mulf, rd_mulf, rd_tap _ _ _ _ hr hc, rd_tap _ _ _ _ hr hc, rd_tap _ _ _ _ hr hc,
    rd_rotate (s := 2) 2#32 v q2 rfl (by omega) hr, rd_rotate (s := 1) 1#32 v q1 rfl (by omega) hr, hv _ _ hr hc, hv _ _ (by omega) hc,
    hv _ _ (by omega) hc, hw _ _ (by omega) hc, hw _ _ (by omega) hc, hw _ _ (by omega) hc, halo_bk0, halo_bk _ (by omega), halo_bk _ (by omega)]
  rfl

/-- Its gradient in the input. -/
theorem rd_tileAnti3 (b1 b2 : BitVec 32) (D W : ℕ → ℕ → EReal) (v : FVec Ideal ⟨2, ![m, n]⟩ .f32) (w : FVec Ideal ⟨2, ![3, n]⟩ .f32)
    (h0 h1 h2) (g0 g1 g2) (q1 q2 : (⟨2, ![m, n]⟩ : Shape).Rotates 0 none)
    (hs : (⟨2, ![m, n]⟩ : Shape).Slices ![8, 0] ⟨2, ![M, n]⟩) (hb1 : b1.toNat + 1 = m) (hb2 : b2.toNat + 2 = m)
    (hv : ∀ r c, 8 + r < m → c < n → rd v (8 + r) c = D (B + r) (K + c)) (hw : ∀ k c, k < 3 → c < n → rd w k c = W k (K + c))
    (hM : M + 16 = m) (hr : r < M) (hc : c < n) :
    rd (extractStridedSlice ⟨2, ![M, n]⟩ ![8, 0] (addf (addf
        (mulf v (broadcastTo ⟨2, ![m, n]⟩ (extractStridedSlice ⟨2, ![1, n]⟩ ![2, 0] w h2) g2))
        (mulf (dynamicRotate 0 b2 none v q2) (broadcastTo ⟨2, ![m, n]⟩ (extractStridedSlice ⟨2, ![1, n]⟩ ![0, 0] w h0) g0)))
        (mulf (dynamicRotate 0 b1 none v q1) (broadcastTo ⟨2, ![m, n]⟩ (extractStridedSlice ⟨2, ![1, n]⟩ ![1, 0] w h1) g1))) hs) r c
      = anti3 D W (B + r) (K + c) := by
  rw [rd_slice _ _ _ hr hc]
  show rd _ (8 + r) (0 + c) = _
  have hr' : 8 + r < m := by omega
  rw [Nat.zero_add, rd_addf, rd_addf, rd_mulf, rd_mulf, rd_mulf, rd_tap _ _ _ _ hr' hc, rd_tap _ _ _ _ hr' hc, rd_tap _ _ _ _ hr' hc,
    rd_rotate_back b2 v q2 hb2 (by omega) (by omega), rd_rotate_back b1 v q1 hb1 (by omega) (by omega), hw _ _ (by omega) hc, hw _ _ (by omega) hc, hw _ _ (by omega) hc,
    Nat.add_assoc, Nat.add_assoc, hv _ _ (by omega) hc, hv _ _ (by omega) hc, hv _ _ (by omega) hc]
  rfl

/-- The convolution of a tile with four taps. -/
theorem rd_tileConv4 (X W : ℕ → ℕ → EReal) (v : FVec Ideal ⟨2, ![m, n]⟩ .f32) (w : FVec Ideal ⟨2, ![4, n]⟩ .f32)
    (h0 h1 h2 h3) (g0 g1 g2 g3) (q1 q2 q3 : (⟨2, ![m, n]⟩ : Shape).Rotates 0 none)
    (hv : ∀ j c, j < m → c < n → rd v j c = halo X (B + j) (K + c)) (hw : ∀ k c, k < 4 → c < n → rd w k c = W k (K + c))
    (hr : 8 + r < m) (hc : c < n) :
    rd (addf (addf (addf (mulf v (broadcastTo ⟨2, ![m, n]⟩ (extractStridedSlice ⟨2, ![1, n]⟩ ![3, 0] w h3) g3))
        (mulf (dynamicRotate 0 3#32 none v q3) (broadcastTo ⟨2, ![m, n]⟩ (extractStridedSlice ⟨2, ![1, n]⟩ ![0, 0] w h0) g0)))
        (mulf (dynamicRotate 0 2#32 none v q2) (broadcastTo ⟨2, ![m, n]⟩ (extractStridedSlice ⟨2, ![1, n]⟩ ![1, 0] w h1) g1)))
        (mulf (dynamicRotate 0 1#32 none v q1) (broadcastTo ⟨2, ![m, n]⟩ (extractStridedSlice ⟨2, ![1, n]⟩ ![2, 0] w h2) g2))) (8 + r) c
      = conv4 X W (B + r) (K + c) := by
  rw [rd_addf, rd_addf, rd_addf, rd_mulf, rd_mulf, rd_mulf, rd_mulf, rd_tap _ _ _ _ hr hc, rd_tap _ _ _ _ hr hc, rd_tap _ _ _ _ hr hc,
    rd_tap _ _ _ _ hr hc, rd_rotate (s := 3) 3#32 v q3 rfl (by omega) hr, rd_rotate (s := 2) 2#32 v q2 rfl (by omega) hr,
    rd_rotate (s := 1) 1#32 v q1 rfl (by omega) hr, hv _ _ hr hc, hv _ _ (by omega) hc,
    hv _ _ (by omega) hc, hv _ _ (by omega) hc, hw _ _ (by omega) hc, hw _ _ (by omega) hc, hw _ _ (by omega) hc, hw _ _ (by omega) hc, halo_bk0, halo_bk _ (by omega),
    halo_bk _ (by omega), halo_bk _ (by omega)]
  rfl

/-- Its gradient in the input. -/
theorem rd_tileAnti4 (b1 b2 b3 : BitVec 32) (D W : ℕ → ℕ → EReal) (v : FVec Ideal ⟨2, ![m, n]⟩ .f32) (w : FVec Ideal ⟨2, ![4, n]⟩ .f32)
    (h0 h1 h2 h3) (g0 g1 g2 g3) (q1 q2 q3 : (⟨2, ![m, n]⟩ : Shape).Rotates 0 none)
    (hs : (⟨2, ![m, n]⟩ : Shape).Slices ![8, 0] ⟨2, ![M, n]⟩) (hb1 : b1.toNat + 1 = m) (hb2 : b2.toNat + 2 = m) (hb3 : b3.toNat + 3 = m)
    (hv : ∀ r c, 8 + r < m → c < n → rd v (8 + r) c = D (B + r) (K + c)) (hw : ∀ k c, k < 4 → c < n → rd w k c = W k (K + c))
    (hM : M + 16 = m) (hr : r < M) (hc : c < n) :
    rd (extractStridedSlice ⟨2, ![M, n]⟩ ![8, 0] (addf (addf (addf
        (mulf v (broadcastTo ⟨2, ![m, n]⟩ (extractStridedSlice ⟨2, ![1, n]⟩ ![3, 0] w h3) g3))
        (mulf (dynamicRotate 0 b3 none v q3) (broadcastTo ⟨2, ![m, n]⟩ (extractStridedSlice ⟨2, ![1, n]⟩ ![0, 0] w h0) g0)))
        (mulf (dynamicRotate 0 b2 none v q2) (broadcastTo ⟨2, ![m, n]⟩ (extractStridedSlice ⟨2, ![1, n]⟩ ![1, 0] w h1) g1)))
        (mulf (dynamicRotate 0 b1 none v q1) (broadcastTo ⟨2, ![m, n]⟩ (extractStridedSlice ⟨2, ![1, n]⟩ ![2, 0] w h2) g2))) hs) r c
      = anti4 D W (B + r) (K + c) := by
  rw [rd_slice _ _ _ hr hc]
  show rd _ (8 + r) (0 + c) = _
  have hr' : 8 + r < m := by omega
  rw [Nat.zero_add, rd_addf, rd_addf, rd_addf, rd_mulf, rd_mulf, rd_mulf, rd_mulf, rd_tap _ _ _ _ hr' hc, rd_tap _ _ _ _ hr' hc,
    rd_tap _ _ _ _ hr' hc, rd_tap _ _ _ _ hr' hc, rd_rotate_back b3 v q3 hb3 (by omega) (by omega),
    rd_rotate_back b2 v q2 hb2 (by omega) (by omega), rd_rotate_back b1 v q1 hb1 (by omega) (by omega),
    hw _ _ (by omega) hc, hw _ _ (by omega) hc, hw _ _ (by omega) hc, hw _ _ (by omega) hc,
    Nat.add_assoc, Nat.add_assoc, Nat.add_assoc, hv _ _ (by omega) hc, hv _ _ (by omega) hc, hv _ _ (by omega) hc, hv _ _ (by omega) hc]
  rfl

/-- One row of the gradient in the taps: the gradient times the input moved down by `s`, summed over the tile's own rows. -/
theorem rd_tileRow (D X : ℕ → ℕ → EReal) (v x : FVec Ideal ⟨2, ![m, n]⟩ .f32) (s : ℕ)
    (hs : (⟨2, ![m, n]⟩ : Shape).Slices ![8, 0] ⟨2, ![M, n]⟩) (h : (⟨2, ![M, n]⟩ : Shape).Reduces [0] ⟨1, ![n]⟩)
    (hφ : FKind.Formats FTy.f32) (hacc : 0x00000000#32 = FKind.add.neutral .f32 hφ)
    (hsc : (⟨1, ![n]⟩ : Shape).ShapeCasts ⟨2, ![1, n]⟩)
    (hv : ∀ r c, 8 + r < m → c < n → rd v (8 + r) c = D (B + r) (K + c))
    (hx : ∀ r c, 8 + r < m → c < n → rd x (8 + r) c = bk X s (B + r) (K + c)) (hM : M + 16 = m) (hc : c < n) :
    rd (shapeCast ⟨2, ![1, n]⟩ (multiReduction .add [0] ⟨1, ![n]⟩ (extractStridedSlice ⟨2, ![M, n]⟩ ![8, 0] (mulf v x) hs)
        0x00000000#32 h hφ hacc) hsc) 0 c
      = ∑ r ∈ Finset.range M, D (B + r) (K + c) * bk X s (B + r) (K + c) := by
  rw [rd_row, rd1_sumRows _ _ _ _ _ hc]
  refine Finset.sum_congr rfl fun r hr => ?_
  have hr := Finset.mem_range.mp hr
  rw [rd_slice _ _ _ hr hc]
  show rd _ (8 + r) (0 + c) = _
  rw [Nat.zero_add, rd_mulf, hv _ _ (by omega) hc, hx _ _ (by omega) hc]

/-- The tile moved down by `s` rows. -/
theorem rd_tileBack (sb : BitVec 32) (X : ℕ → ℕ → EReal) (v : FVec Ideal ⟨2, ![m, n]⟩ .f32) (s : ℕ) (q : (⟨2, ![m, n]⟩ : Shape).Rotates 0 none)
    (hv : ∀ j c, j < m → c < n → rd v j c = halo X (B + j) (K + c)) (hsb : sb.toNat = s) (hs : s ≤ 8) (hr : 8 + r < m) (hc : c < n) :
    rd (dynamicRotate 0 sb none v q) (8 + r) c = bk X s (B + r) (K + c) := by
  rw [rd_rotate sb v q hsb (by omega) hr, hv _ _ (by omega) hc, halo_bk _ hs]

theorem rd_tileHere (X : ℕ → ℕ → EReal) (v : FVec Ideal ⟨2, ![m, n]⟩ .f32)
    (hv : ∀ j c, j < m → c < n → rd v j c = halo X (B + j) (K + c)) (hr : 8 + r < m) (hc : c < n) :
    rd v (8 + r) c = bk X 0 (B + r) (K + c) := by
  rw [hv _ _ hr hc, halo_bk0, bk_zero]

/-- Three rows over five rows of zeros. -/
theorem rd_rows3 (S : ℕ → EReal) (a0 a1 a2 : FVec Ideal ⟨2, ![1, n]⟩ .f32) (z : FVec Ideal ⟨2, ![5, n]⟩ .f32)
    (h : Shape.Concatenates [⟨2, ![1, n]⟩, ⟨2, ![1, n]⟩, ⟨2, ![1, n]⟩, ⟨2, ![5, n]⟩] ⟨2, ![8, n]⟩ 0)
    (h0 : rd a0 0 c = S 0) (h1 : rd a1 0 c = S 1) (h2 : rd a2 0 c = S 2) (hz : ∀ r, rd z r c = 0) :
    rd (concatenate ⟨2, ![8, n]⟩ 0 [⟨⟨2, ![1, n]⟩, a0⟩, ⟨⟨2, ![1, n]⟩, a1⟩, ⟨⟨2, ![1, n]⟩, a2⟩, ⟨⟨2, ![5, n]⟩, z⟩] h) r c
      = if r < 3 then S r else 0 := by
  rw [rd_concat4]
  match r with
  | 0 => simpa using h0
  | 1 => simpa using h1
  | 2 => simpa using h2
  | r + 3 =>
    rw [if_neg (by omega), if_neg (by omega), if_neg (by omega), if_neg (by omega), hz]

theorem rd_concat5 {m a b d e f : ℕ} (x : (⟨2, ![a, n]⟩ : Shape).Idx → EReal) (y : (⟨2, ![b, n]⟩ : Shape).Idx → EReal)
    (z : (⟨2, ![d, n]⟩ : Shape).Idx → EReal) (w : (⟨2, ![e, n]⟩ : Shape).Idx → EReal) (v : (⟨2, ![f, n]⟩ : Shape).Idx → EReal)
    (h : Shape.Concatenates [⟨2, ![a, n]⟩, ⟨2, ![b, n]⟩, ⟨2, ![d, n]⟩, ⟨2, ![e, n]⟩, ⟨2, ![f, n]⟩] ⟨2, ![m, n]⟩ 0) {r c : ℕ} :
    rd (concatenate ⟨2, ![m, n]⟩ 0 [⟨⟨2, ![a, n]⟩, x⟩, ⟨⟨2, ![b, n]⟩, y⟩, ⟨⟨2, ![d, n]⟩, z⟩, ⟨⟨2, ![e, n]⟩, w⟩, ⟨⟨2, ![f, n]⟩, v⟩] h) r c
      = if r < a then rd x r c else if r - a < b then rd y (r - a) c else if r - a - b < d then rd z (r - a - b) c
        else if r - a - b - d < e then rd w (r - a - b - d) c else rd v (r - a - b - d - e) c := by
  have hm : a + (b + (d + (e + f))) = m := by have := h.2.2; simpa using this
  by_cases hc : r < m ∧ c < n
  · rw [rd_in _ hc.1 hc.2, concatenate_cons_apply, concatenateAt_cons]
    split
    · rename_i hlt
      rw [if_pos (by exact hlt)]
      exact (rd_of_val x _ rfl rfl).symm
    · rename_i hlt
      rw [if_neg (by exact hlt), concatenateAt_cons]
      split
      · rename_i hlt
        rw [if_pos (by exact hlt)]
        exact (rd_of_val y _ rfl rfl).symm
      · rename_i hlt
        rw [if_neg (by exact hlt), concatenateAt_cons]
        split
        · rename_i hlt
          rw [if_pos (by exact hlt)]
          exact (rd_of_val z _ rfl rfl).symm
        · rename_i hlt
          rw [if_neg (by exact hlt), concatenateAt_cons]
          split
          · rename_i hlt
            rw [if_pos (by exact hlt)]
            exact (rd_of_val w _ rfl rfl).symm
          · rename_i hlt
            rw [if_neg (by exact hlt), concatenateAt_singleton]
            exact (rd_of_val v _ rfl rfl).symm
  · rw [rd_out _ hc]; repeat' split
    all_goals rw [rd_out _ (by omega)]

/-- Four rows over four rows of zeros. -/
theorem rd_rows4 (S : ℕ → EReal) (a0 a1 a2 a3 : FVec Ideal ⟨2, ![1, n]⟩ .f32) (z : FVec Ideal ⟨2, ![4, n]⟩ .f32)
    (h : Shape.Concatenates [⟨2, ![1, n]⟩, ⟨2, ![1, n]⟩, ⟨2, ![1, n]⟩, ⟨2, ![1, n]⟩, ⟨2, ![4, n]⟩] ⟨2, ![8, n]⟩ 0)
    (h0 : rd a0 0 c = S 0) (h1 : rd a1 0 c = S 1) (h2 : rd a2 0 c = S 2) (h3 : rd a3 0 c = S 3) (hz : ∀ r, rd z r c = 0) :
    rd (concatenate ⟨2, ![8, n]⟩ 0 [⟨⟨2, ![1, n]⟩, a0⟩, ⟨⟨2, ![1, n]⟩, a1⟩, ⟨⟨2, ![1, n]⟩, a2⟩, ⟨⟨2, ![1, n]⟩, a3⟩, ⟨⟨2, ![4, n]⟩, z⟩] h) r c
      = if r < 4 then S r else 0 := by
  rw [rd_concat5]
  match r with
  | 0 => simpa using h0
  | 1 => simpa using h1
  | 2 => simpa using h2
  | 3 => simpa using h3
  | r + 4 =>
    rw [if_neg (by omega), if_neg (by omega), if_neg (by omega), if_neg (by omega), if_neg (by omega), hz]

/-- The logistic function, in a kernel. -/
theorem rd_sgm (x : FVec Ideal ⟨2, ![m, n]⟩ .f32) (hr : r < m) (hc : c < n) :
    rd (divf (broadcast ⟨2, ![m, n]⟩ (Scalar.ofBits (F := Ideal) .f32 0x3F800000#32))
      (addf (broadcast ⟨2, ![m, n]⟩ (Scalar.ofBits (F := Ideal) .f32 0x3F800000#32))
        (exp (subf (broadcast ⟨2, ![m, n]⟩ (Scalar.ofBits (F := Ideal) .f32 0x00000000#32)) x)))) r c = sgm (rd x r c) := by
  rw [rd_divf _ _ hr hc, rd_addf, rd_exp _ hr hc, rd_subf _ _ hr hc, rd_broadcast _ hr hc, rd_zero]
  unfold sgm
  rw [zero_sub]
  exact congrArg₂ Ideal.div c1_eq (congrArg (· + _) c1_eq)

/-- The gradient through the gate's activation, in a kernel. -/
theorem rd_dsl (d z : FVec Ideal ⟨2, ![m, n]⟩ .f32) (hr : r < m) (hc : c < n) :
    rd (mulf d (mulf (divf (broadcast ⟨2, ![m, n]⟩ (Scalar.ofBits (F := Ideal) .f32 0x3F800000#32)) (addf (broadcast ⟨2, ![m, n]⟩ (Scalar.ofBits (F := Ideal) .f32 0x3F800000#32)) (exp (subf (broadcast ⟨2, ![m, n]⟩ (Scalar.ofBits (F := Ideal) .f32 0x00000000#32)) z))))
      (addf (broadcast ⟨2, ![m, n]⟩ (Scalar.ofBits (F := Ideal) .f32 0x3F800000#32)) (mulf z (subf (broadcast ⟨2, ![m, n]⟩ (Scalar.ofBits (F := Ideal) .f32 0x3F800000#32))
        (divf (broadcast ⟨2, ![m, n]⟩ (Scalar.ofBits (F := Ideal) .f32 0x3F800000#32)) (addf (broadcast ⟨2, ![m, n]⟩ (Scalar.ofBits (F := Ideal) .f32 0x3F800000#32)) (exp (subf (broadcast ⟨2, ![m, n]⟩ (Scalar.ofBits (F := Ideal) .f32 0x00000000#32)) z))))))))) r c
      = dsl (rd d r c) (rd z r c) := by
  have h1 : rd (broadcast ⟨2, ![m, n]⟩ (Scalar.ofBits (F := Ideal) .f32 0x3F800000#32)) r c = 1 := (rd_broadcast _ hr hc).trans c1_eq
  rw [rd_mulf, rd_mulf, rd_sgm _ hr hc, rd_addf, rd_mulf, rd_subf _ _ hr hc, rd_sgm _ hr hc, h1]
  rfl

end Tile

end Cert.Rd
-- ==== Proof.C30.lean ====
module

public import proofs.«01_k».proof.Proof.Conv
public import proofs.«01_k».proof.Proof.Gen.Kernel30Ideal.Value
public import proofs.«01_k».proof.Proof.Gen.Reference30Ideal.Run
public import proofs.«01_k».proof.Proof.Gen.Reference30Ideal.Read
public import proofs.«01_k».proof.Defs

@[expose] public section

set_option maxRecDepth 16384

noncomputable section

namespace Cert.C30

open Cert.Kernel30Ideal Cert.Kernel30Ideal.Gen Cert.Kernel30Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 5632) (m (c.tc.loc main_arg0))
abbrev X1 : ℕ → ℕ → EReal := rd (m := 4096) (n := 5632) (m (c.tc.loc main_arg1))
abbrev X2 : ℕ → ℕ → EReal := rd (m := 3) (n := 5632) (m (c.tc.loc main_arg2))
abbrev X3 : ℕ → ℕ → EReal := rd (m := 3) (n := 5632) (m (c.tc.loc main_arg3))

/-- The grid's second coordinate is the row tile. -/
theorem gi_val : (grid0.coords t 1).val = t.val % 4 :=
  (by decide +kernel : ∀ t : Fin grid0.N, (grid0.coords t 1).val = t.val % 4) t

theorem t_lt : t.val < 44 := lt_of_lt_of_eq t.isLt (by decide +kernel)

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (512 * (t.val / 4) + k) := by
  have e := (by decide +kernel : ∀ t : Fin grid0.N, win0_0.index t 0 = t.val % 4 * 128 - 1 ∧ win0_0.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (512 * (t.val / 4) + k) := by
  have e := (by decide +kernel : ∀ t : Fin grid0.N, win0_1.index t 0 = t.val % 4 ∧ win0_1.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (512 * (t.val / 4) + k) := by
  have e := (by decide +kernel : ∀ t : Fin grid0.N, win0_2.index t 0 = min ((t.val % 4 + 1) * 128) 511 ∧ win0_2.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_2.index t 0 * 8 + 1 * r = _; omega
  · show win0_2.index t 1 * 512 + 1 * k = _; omega

/-- The eight rows above the tile, window 3. -/
theorem blk3 {r k : ℕ} (hr : r < 8) (hk : k < 512) :
    rd (m := 8) (n := 512) (iblk m c 3 t) r k = X1 m c ((t.val % 4 * 128 - 1) * 8 + r) (512 * (t.val / 4) + k) := by
  have e := (by decide +kernel : ∀ t : Fin grid0.N, win0_3.index t 0 = t.val % 4 * 128 - 1 ∧ win0_3.index t 1 = t.val / 4) t
  rw [rd_in _ hr hk]
  unfold iblk
  rw [View.read_apply]
  show V m c main_arg1 _ = _
  rw [V_main_arg1]
  refine (rd_of_val (m := 4096) (n := 5632) _ _ ?_ ?_).symm
  · show win0_3.index t 0 * 8 + 1 * r = _; omega
  · show win0_3.index t 1 * 512 + 1 * k = _; omega

/-- The tile's rows, window 4. -/
theorem blk4 {r k : ℕ} (hr : r < 1024) (hk : k < 512) :
    rd (m := 1024) (n := 512) (iblk m c 4 t) r k = X1 m c (1024 * (t.val % 4) + r) (512 * (t.val / 4) + k) := by
  have e := (by decide +kernel : ∀ t : Fin grid0.N, win0_4.index t 0 = t.val % 4 ∧ win0_4.index t 1 = t.val / 4) t
  rw [rd_in _ hr hk]
  unfold iblk
  rw [View.read_apply]
  show V m c main_arg1 _ = _
  rw [V_main_arg1]
  refine (rd_of_val (m := 4096) (n := 5632) _ _ ?_ ?_).symm
  · show win0_4.index t 0 * 1024 + 1 * r = _; omega
  · show win0_4.index t 1 * 512 + 1 * k = _; omega

/-- The eight rows below the tile, window 5. -/
theorem blk5 {r k : ℕ} (hr : r < 8) (hk : k < 512) :
    rd (m := 8) (n := 512) (iblk m c 5 t) r k = X1 m c (min ((t.val % 4 + 1) * 128) 511 * 8 + r) (512 * (t.val / 4) + k) := by
  have e := (by decide +kernel : ∀ t : Fin grid0.N, win0_5.index t 0 = min ((t.val % 4 + 1) * 128) 511 ∧ win0_5.index t 1 = t.val / 4) t
  rw [rd_in _ hr hk]
  unfold iblk
  rw [View.read_apply]
  show V m c main_arg1 _ = _
  rw [V_main_arg1]
  refine (rd_of_val (m := 4096) (n := 5632) _ _ ?_ ?_).symm
  · show win0_5.index t 0 * 8 + 1 * r = _; omega
  · show win0_5.index t 1 * 512 + 1 * k = _; omega

/-- The gate's taps at the tile's columns. -/
theorem blk6 {r k : ℕ} (hr : r < 3) (hk : k < 512) :
    rd (m := 3) (n := 512) (iblk m c 6 t) r k = X2 m c (r) (512 * (t.val / 4) + k) := by
  have e := (by decide +kernel : ∀ t : Fin grid0.N, win0_6.index t 0 = 0 ∧ win0_6.index t 1 = t.val / 4) t
  rw [rd_in _ hr hk]
  unfold iblk
  rw [View.read_apply]
  show V m c main_arg2 _ = _
  rw [V_main_arg2]
  refine (rd_of_val (m := 3) (n := 5632) _ _ ?_ ?_).symm
  · show win0_6.index t 0 * 3 + 1 * r = _; omega
  · show win0_6.index t 1 * 512 + 1 * k = _; omega

/-- The value's taps at the tile's columns. -/
theorem blk7 {r k : ℕ} (hr : r < 3) (hk : k < 512) :
    rd (m := 3) (n := 512) (iblk m c 7 t) r k = X3 m c (r) (512 * (t.val / 4) + k) := by
  have e := (by decide +kernel : ∀ t : Fin grid0.N, win0_7.index t 0 = 0 ∧ win0_7.index t 1 = t.val / 4) t
  rw [rd_in _ hr hk]
  unfold iblk
  rw [View.read_apply]
  show V m c main_arg3 _ = _
  rw [V_main_arg3]
  refine (rd_of_val (m := 3) (n := 5632) _ _ ?_ ?_).symm
  · show win0_7.index t 0 * 3 + 1 * r = _; omega
  · show win0_7.index t 1 * 512 + 1 * k = _; omega

/-- The tile with eight rows on each side, windows 0 to 2, is the array's rows, zero above the first. -/
theorem gE_rd {r k : ℕ} (hr : r < 1040) (hk : k < 512) :
    rd (m := 1040) (n := 512) (k0_pay2 (grid0.coords t) (iblk m c 0 t) (iblk m c 1 t) (iblk m c 2 t)) r k = halo (X0 m c) (1024 * (t.val % 4) + r) (512 * (t.val / 4) + k) := by
  unfold k0_pay2
  dsimp only
  refine rd_tile (tb := 1024) (nI := 4) (X0 m c) (iblk m c 0 t) (iblk m c 2 t) (iblk m c 1 t) _ _ _ (by omega) rfl
    (by omega) (fun R C h => rd_out _ (by omega)) (edge t 0 (by omega) _) (edge t 3 (by omega) _) ?_ ?_ ?_ hr hk
  · intro h r k hr hk; rw [blk0 m c t hr hk]; congr 1; omega
  · intro r k hr hk; exact blk1 m c t hr hk
  · intro h r k hr hk; rw [blk2 m c t hr hk]; congr 1; omega

/-- The tile with eight rows on each side, windows 3 to 5, is the array's rows, zero above the first. -/
theorem vE_rd {r k : ℕ} (hr : r < 1040) (hk : k < 512) :
    rd (m := 1040) (n := 512) (k0_pay3 (grid0.coords t) (iblk m c 3 t) (iblk m c 4 t) (iblk m c 5 t)) r k = halo (X1 m c) (1024 * (t.val % 4) + r) (512 * (t.val / 4) + k) := by
  unfold k0_pay3
  dsimp only
  refine rd_tile (tb := 1024) (nI := 4) (X1 m c) (iblk m c 3 t) (iblk m c 5 t) (iblk m c 4 t) _ _ _ (by omega) rfl
    (by omega) (fun R C h => rd_out _ (by omega)) (edge t 0 (by omega) _) (edge t 3 (by omega) _) ?_ ?_ ?_ hr hk
  · intro h r k hr hk; rw [blk3 m c t hr hk]; congr 1; omega
  · intro r k hr hk; exact blk4 m c t hr hk
  · intro h r k hr hk; rw [blk5 m c t hr hk]; congr 1; omega

/-- The gate's activation times the value, each convolved. -/
def actN (G V A B : ℕ → ℕ → EReal) (R C : ℕ) : EReal := conv3 G A R C * sgm (conv3 G A R C) * conv3 V B R C

/-- What the body leaves in the output's block. -/
theorem out8_rd {r k : ℕ} (hr : r < 1024) (hk : k < 512) :
    rd (m := 1024) (n := 512) (out0_8 (grid0.coords t) (iblk m c 0 t) (iblk m c 1 t) (iblk m c 2 t) (iblk m c 3 t) (iblk m c 4 t) (iblk m c 5 t) (iblk m c 6 t) (iblk m c 7 t)) r k
      = actN (X0 m c) (X1 m c) (X2 m c) (X3 m c) (1024 * (t.val % 4) + r) (512 * (t.val / 4) + k) := by
  unfold out0_8
  rw [View.canon_unit_zero hz2]
  simp only [View.ld_unit_zero (S := S8x512) hz2, View.ld_unit_zero (S := S1024x512) hz2, View.ld_unit_zero (S := S3x512) hz2]
  unfold k0_pay1 k0_pay4 k0_pay5 k0_pay6
  dsimp only
  rw [rd_truncf, rd_mulf, rd_mulf, rd_sgm _ hr hk, rd_own _ _ hr hk, rd_own _ _ hr hk]
  have hg := rd_tileConv3 (X0 m c) (X2 m c) (k0_pay2 (grid0.coords t) (iblk m c 0 t) (iblk m c 1 t) (iblk m c 2 t)) (iblk m c 6 t)
    slices_S3x512_o0_0_S1x512 slices_S3x512_o1_0_S1x512 slices_S3x512_o2_0_S1x512 broadcasts_S1x512_S1040x512 broadcasts_S1x512_S1040x512
    broadcasts_S1x512_S1040x512 rotates_S1040x512_d0 rotates_S1040x512_d0 (fun _ _ => gE_rd m c t)
    (fun _ _ => blk6 m c t) (show 8 + r < 1040 by omega) hk
  have hv := rd_tileConv3 (X1 m c) (X3 m c) (k0_pay3 (grid0.coords t) (iblk m c 3 t) (iblk m c 4 t) (iblk m c 5 t)) (iblk m c 7 t)
    slices_S3x512_o0_0_S1x512 slices_S3x512_o1_0_S1x512 slices_S3x512_o2_0_S1x512 broadcasts_S1x512_S1040x512 broadcasts_S1x512_S1040x512
    broadcasts_S1x512_S1040x512 rotates_S1040x512_d0 rotates_S1040x512_d0 (fun _ _ => vE_rd m c t)
    (fun _ _ => blk7 m c t) (show 8 + r < 1040 by omega) hk
  exact congrArg₂ (· * ·) (congrArg₂ (· * ·) hg (congrArg sgm hg)) hv

theorem index8 : win0_8.index t 0 = t.val % 4 ∧ win0_8.index t 1 = t.val / 4 :=
  (by decide +kernel : ∀ t : Fin grid0.N, win0_8.index t 0 = t.val % 4 ∧ win0_8.index t 1 = t.val / 4) t

/-- Window 8's array after the run. -/
theorem final8 : (dats m 0 c).arrAt 8 cfg0.N = tab (m := 4096) (n := 5632) (actN (X0 m c) (X1 m c) (X2 m c) (X3 m c)) := by
  refine (dats m 0 c).arrAt_eq_of_cover 8 _ (fun t hf => ?_) fun i => ?_
  · rw [flushed8]
    funext j
    rw [View.read_apply]
    show (out0_8 (grid0.coords t) (iblk m c 0 t) (iblk m c 1 t) (iblk m c 2 t) (iblk m c 3 t) (iblk m c 4 t) (iblk m c 5 t) (iblk m c 6 t) (iblk m c 7 t)) j = (actN (X0 m c) (X1 m c) (X2 m c) (X3 m c)) (win0_8.index t 0 * 1024 + 1 * (j 0).val) (win0_8.index t 1 * 512 + 1 * (j 1).val)
    rw [eq_rd (m := 1024) (n := 512) (out0_8 (grid0.coords t) (iblk m c 0 t) (iblk m c 1 t) (iblk m c 2 t) (iblk m c 3 t) (iblk m c 4 t) (iblk m c 5 t) (iblk m c 6 t) (iblk m c 7 t)) j]
    rw [out8_rd m c t (j 0).isLt (j 1).isLt]
    have hi := index8 t
    rw [hi.1, hi.2]
    congr 1 <;> omega
  · have h0 : (i 0).val < 4096 := (i 0).isLt
    have h1 : (i 1).val < 5632 := (i 1).isLt
    have hN : cfg0.N = 44 := by decide +kernel
    let t : Fin cfg0.N := ⟨4 * ((i 1).val / 512) + (i 0).val / 1024, by omega⟩
    refine ⟨t, flush0_8 _, ?_⟩
    show i ∈ ((View.whole main_v0).slice (win0_8.rect t)).set
    rw [View.set_slice_whole, Rect.mem_set_unit]
    have hi := index8 t
    have hv : t.val = 4 * ((i 1).val / 512) + (i 0).val / 1024 := rfl
    intro a
    match a with
    | ⟨0, _⟩ => show win0_8.index t 0 * 1024 ≤ (i 0).val ∧ (i 0).val < win0_8.index t 0 * 1024 + 1024
                rw [hi.1]; omega
    | ⟨1, _⟩ => show win0_8.index t 1 * 512 ≤ (i 1).val ∧ (i 1).val < win0_8.index t 1 * 512 + 512
                rw [hi.2]; omega

/-- The kernel's run: the result in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 5632) (actN (X0 m c) (X1 m c) (X2 m c) (X3 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final8 m c), (h c).2⟩) (run_blocks m ρ)

section Reference
open Cert.Reference30Ideal.Read
variable (x0 x1 : FVec Ideal ⟨2, ![4096, 5632]⟩ .f32) (x2 x3 : FVec Ideal ⟨2, ![3, 5632]⟩ .f32) {r k : ℕ}

theorem ref_g (hr : r < 4096) (hk : k < 5632) :
    rd (m := 4096) (n := 5632) (val_main_v21 (F := Ideal) x0 x2) r k = conv3 (rd x0) (rd x2) r k := by
  unfold val_main_v21 val_main_v14 val_main_v7 val_main_v13 val_main_v20
  rw [rd_addf, rd_addf, rd_mulf, rd_mulf, rd_mulf]
  exact (congrArg₂ (· + ·) (congrArg₂ (· + ·) (congrArg₂ (· * ·) (rd_hostBack 0 x0 _ _ _ (by omega) hr hk) (rd_hostTap 0 x2 _ _ _ _ hr hk))
    (congrArg₂ (· * ·) (rd_hostBack 1 x0 _ _ _ (by omega) hr hk) (rd_hostTap 1 x2 _ _ _ _ hr hk)))
    (congrArg₂ (· * ·) (rd_hostBack 2 x0 _ _ _ (by omega) hr hk) (rd_hostTap 2 x2 _ _ _ _ hr hk))).trans (conv3_host _ _ _ _)

theorem ref_v (hr : r < 4096) (hk : k < 5632) :
    rd (m := 4096) (n := 5632) (val_main_v44 (F := Ideal) x1 x3) r k = conv3 (rd x1) (rd x3) r k :=
  ref_g x1 x3 hr hk

/-- The reference's result at an entry. -/
theorem ref_v46 (hr : r < 4096) (hk : k < 5632) :
    rd (m := 4096) (n := 5632) (val_main_v46 (F := Ideal) x0 x1 x2 x3) r k = actN (rd x0) (rd x1) (rd x2) (rd x3) r k := by
  unfold val_main_v46 val_main_v45 val_main_v22
  rw [rd_truncf, rd_mulf, rd_mulf, ref_v x1 x3 hr hk]
  have hs : rd (m := 4096) (n := 5632) (val_main_call0_v5 (F := Ideal) x0 x2) r k = sgm (conv3 (rd x0) (rd x2) r k) :=
    (rd_hostSgm _ _ _ hr hk).trans (congrArg sgm (ref_g x0 x2 hr hk))
  rw [hs, ref_g x0 x2 hr hk]
  rfl

end Reference

/-- The kernel and the gated feed-forward activation end with equal arrays. -/
theorem algebraic : Cert.algebraic_Kernel30Ideal_Reference30Ideal := by
  intro m ρ m' ρ' _ hag
  refine ⟨_, run m ρ, (θ_run _ _ _).mono (fun _ h c => ⟨(h c).1.trans ?_, (h c).2⟩) (Cert.Reference30Ideal.Value.run m' ρ')⟩
  refine (Cert.Reference30Ideal.Read.val_main_v46_eq _ _).trans ?_
  rw [(hag c).1, (hag c).2.1, (hag c).2.2.1, (hag c).2.2.2]
  exact eq_tab fun r k hr hk => ref_v46 _ _ _ _ hr hk

/-- The reference's run leaves the arguments as they were; it uses no semaphore. -/
theorem frame_ref : Cert.quiescent_Reference30Ideal := fun m ρ _ =>
  (θ_run Cert.Reference30Ideal.defs _ _).mono (fun r h => ⟨fun c => (h c).2, Idealize.ShloMosaic.sem_eq_zero_of_no_sems (by decide) r.2⟩)
    (Cert.Reference30Ideal.Value.run (F := Ideal) m ρ)

end Cert.C30

end
-- ==== Proof.C27Kernel.lean ====
module

public import proofs.«01_k».proof.Proof.Conv
public import proofs.«01_k».proof.Proof.Gen.Kernel27Ideal.Value
public import Idealize.ShloMosaic.Lib.Tactic

@[expose] public section

set_option maxRecDepth 16384

noncomputable section

namespace Cert.C27

open Cert.Kernel27Ideal Cert.Kernel27Ideal.Gen Cert.Kernel27Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The gradient's tile between its halos, the projection's, and the gradient of the convolution. -/
abbrev dE : FVec Ideal S1040x512 .f32 := k0_pay4 (grid0.coords t) (iblk m c 0 t) (iblk m c 1 t) (iblk m c 2 t)
abbrev pE : FVec Ideal S1040x512 .f32 := k0_pay5 (grid0.coords t) (iblk m c 3 t) (iblk m c 4 t) (iblk m c 5 t)
abbrev cE' : FVec Ideal S1040x512 .f32 := k0_pay6 (grid0.coords t) (iblk m c 3 t) (iblk m c 4 t) (iblk m c 5 t) (iblk m c 6 t)
abbrev gE : FVec Ideal S1040x512 .f32 := k0_pay7 (dE m c t) (pE m c t) (iblk m c 6 t) (cE' m c t)

/-- What the body leaves in output window 7 at a point. -/
theorem outs7 : (outsAt0 m c t.val t.isLt).1 = k0_pay2 (k0_pay8 (dE m c t) (pE m c t) (iblk m c 6 t) (cE' m c t)) := by
  by_cases h0 : t.val % 4 = 0
  · rw [outsAt0_A m c t h0 (by omega)]
    dsimp only
    unfold out0_A_7
    rw [View.read_writes_eq_canon]; swap
    · intro y; apply cover0_A_7
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]
  · rw [outsAt0_B m c t h0 (by omega)]
    dsimp only
    unfold out0_B_7
    rw [View.read_writes_eq_canon]; swap
    · intro y; apply cover0_B_7
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]

/-- The taps at the first row tile: this tile's sums. -/
theorem outs8_A (h0 : t.val % 4 = 0) : (outsAt0 m c t.val t.isLt).2 = k0_pay1 (pE m c t) (gE m c t) (k0_pay9 (dE m c t) (pE m c t) (iblk m c 6 t) (cE' m c t)) (k0_pay10 (dE m c t) (pE m c t) (iblk m c 6 t) (cE' m c t)) := by
  rw [outsAt0_A m c t h0 (by omega)]
  dsimp only
  unfold out0_A_8
  rw [View.read_writes_eq_canon]; swap
  · intro y; apply cover0_A_8
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]

/-- At a later tile: this tile's sums over what the tile before left. -/
theorem outs8_B (h0 : ¬t.val % 4 = 0) (ht : t.val - 1 < cfg0.N) : (outsAt0 m c t.val t.isLt).2 = k0_pay3 (pE m c t) (gE m c t) (k0_pay9 (dE m c t) (pE m c t) (iblk m c 6 t) (cE' m c t)) (k0_pay10 (dE m c t) (pE m c t) (iblk m c 6 t) (cE' m c t)) (outsAt0 m c (t.val - 1) ht).2 := by
  rw [outsAt0_B m c t h0 (by omega)]
  dsimp only
  unfold out0_B_8
  rw [View.read_writes_eq_canon]; swap
  · intro y; apply cover0_B_8
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, View.ld_unit_zero (S := S8x512) hz2, View.ld_unit_zero (S := S1024x512) hz2, View.ld_unit_zero (S := S4x512) hz2]

/-- The arguments read at natural coordinates. -/
abbrev X0 : ℕ → ℕ → EReal := rd (m := 4096) (n := 1024) (m (c.tc.loc main_arg0))
abbrev X1 : ℕ → ℕ → EReal := rd (m := 4096) (n := 7168) (m (c.tc.loc main_arg1))
abbrev X2 : ℕ → ℕ → EReal := rd (m := 4) (n := 1024) (m (c.tc.loc main_arg2))

/-- The projection's columns that this call reads. -/
abbrev P : ℕ → ℕ → EReal := fun R C => X1 m c R (5120 + C)

/-- The grid's second coordinate is the row tile. -/
theorem gi_val : (grid0.coords t 1).val = t.val % 4 :=
  (by decide +kernel : ∀ t : Fin grid0.N, (grid0.coords t 1).val = t.val % 4) t

theorem t_lt : t.val < 8 := lt_of_lt_of_eq t.isLt (by decide +kernel)

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (512 * (t.val / 4) + k) := by
  have e := (by decide +kernel : ∀ t : Fin grid0.N, win0_0.index t 0 = t.val % 4 * 128 - 1 ∧ win0_0.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (512 * (t.val / 4) + k) := by
  have e := (by decide +kernel : ∀ t : Fin grid0.N, win0_1.index t 0 = t.val % 4 ∧ win0_1.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (512 * (t.val / 4) + k) := by
  have e := (by decide +kernel : ∀ t : Fin grid0.N, win0_2.index t 0 = min ((t.val % 4 + 1) * 128) 511 ∧ win0_2.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_2.index t 0 * 8 + 1 * r = _; omega
  · show win0_2.index t 1 * 512 + 1 * k = _; omega

/-- The eight rows above the tile, window 3. -/
theorem blk3 {r k : ℕ} (hr : r < 8) (hk : k < 512) :
    rd (m := 8) (n := 512) (iblk m c 3 t) r k = P m c ((t.val % 4 * 128 - 1) * 8 + r) (512 * (t.val / 4) + k) := by
  have e := (by decide +kernel : ∀ t : Fin grid0.N, win0_3.index t 0 = t.val % 4 * 128 - 1 ∧ win0_3.index t 1 = t.val / 4 + 10) t
  rw [rd_in _ hr hk]
  unfold iblk
  rw [View.read_apply]
  show V m c main_arg1 _ = _
  rw [V_main_arg1]
  refine (rd_of_val (m := 4096) (n := 7168) _ _ ?_ ?_).symm
  · show win0_3.index t 0 * 8 + 1 * r = _; omega
  · show win0_3.index t 1 * 512 + 1 * k = _; omega

/-- The tile's rows, window 4. -/
theorem blk4 {r k : ℕ} (hr : r < 1024) (hk : k < 512) :
    rd (m := 1024) (n := 512) (iblk m c 4 t) r k = P m c (1024 * (t.val % 4) + r) (512 * (t.val / 4) + k) := by
  have e := (by decide +kernel : ∀ t : Fin grid0.N, win0_4.index t 0 = t.val % 4 ∧ win0_4.index t 1 = t.val / 4 + 10) t
  rw [rd_in _ hr hk]
  unfold iblk
  rw [View.read_apply]
  show V m c main_arg1 _ = _
  rw [V_main_arg1]
  refine (rd_of_val (m := 4096) (n := 7168) _ _ ?_ ?_).symm
  · show win0_4.index t 0 * 1024 + 1 * r = _; omega
  · show win0_4.index t 1 * 512 + 1 * k = _; omega

/-- The eight rows below the tile, window 5. -/
theorem blk5 {r k : ℕ} (hr : r < 8) (hk : k < 512) :
    rd (m := 8) (n := 512) (iblk m c 5 t) r k = P m c (min ((t.val % 4 + 1) * 128) 511 * 8 + r) (512 * (t.val / 4) + k) := by
  have e := (by decide +kernel : ∀ t : Fin grid0.N, win0_5.index t 0 = min ((t.val % 4 + 1) * 128) 511 ∧ win0_5.index t 1 = t.val / 4 + 10) t
  rw [rd_in _ hr hk]
  unfold iblk
  rw [View.read_apply]
  show V m c main_arg1 _ = _
  rw [V_main_arg1]
  refine (rd_of_val (m := 4096) (n := 7168) _ _ ?_ ?_).symm
  · show win0_5.index t 0 * 8 + 1 * r = _; omega
  · show win0_5.index t 1 * 512 + 1 * k = _; omega

/-- The taps at the tile's columns. -/
theorem blk6 {r k : ℕ} (hr : r < 4) (hk : k < 512) :
    rd (m := 4) (n := 512) (iblk m c 6 t) r k = X2 m c (r) (512 * (t.val / 4) + k) := by
  have e := (by decide +kernel : ∀ t : Fin grid0.N, win0_6.index t 0 = 0 ∧ win0_6.index t 1 = t.val / 4) t
  rw [rd_in _ hr hk]
  unfold iblk
  rw [View.read_apply]
  show V m c main_arg2 _ = _
  rw [V_main_arg2]
  refine (rd_of_val (m := 4) (n := 1024) _ _ ?_ ?_).symm
  · show win0_6.index t 0 * 4 + 1 * r = _; omega
  · show win0_6.index t 1 * 512 + 1 * k = _; omega

/-- The tile with eight rows on each side, windows 0 to 2, is the array's rows, zero above the first. -/
theorem dE_rd {r k : ℕ} (hr : r < 1040) (hk : k < 512) :
    rd (m := 1040) (n := 512) (dE m c t) r k = halo (X0 m c) (1024 * (t.val % 4) + r) (512 * (t.val / 4) + k) := by
  unfold dE k0_pay4
  dsimp only
  refine rd_tile (tb := 1024) (nI := 4) (X0 m c) (iblk m c 0 t) (iblk m c 2 t) (iblk m c 1 t) _ _ _ (by omega) rfl
    (by omega) (fun R C h => rd_out _ (by omega)) (edge t 0 (by omega) _) (edge t 3 (by omega) _) ?_ ?_ ?_ hr hk
  · intro h r k hr hk; rw [blk0 m c t hr hk]; congr 1; omega
  · intro r k hr hk; exact blk1 m c t hr hk
  · intro h r k hr hk; rw [blk2 m c t hr hk]; congr 1; omega

/-- The tile with eight rows on each side, windows 3 to 5, is the array's rows, zero above the first. -/
theorem pE_rd {r k : ℕ} (hr : r < 1040) (hk : k < 512) :
    rd (m := 1040) (n := 512) (pE m c t) r k = halo (P m c) (1024 * (t.val % 4) + r) (512 * (t.val / 4) + k) := by
  unfold pE k0_pay5
  dsimp only
  refine rd_tile (tb := 1024) (nI := 4) (P m c) (iblk m c 3 t) (iblk m c 5 t) (iblk m c 4 t) _ _ _ (by omega) rfl
    (by omega) (fun R C h => rd_out _ (by omega)) (edge t 0 (by omega) _) (edge t 3 (by omega) _) ?_ ?_ ?_ hr hk
  · intro h r k hr hk; rw [blk3 m c t hr hk]; congr 1; omega
  · intro r k hr hk; exact blk4 m c t hr hk
  · intro h r k hr hk; rw [blk5 m c t hr hk]; congr 1; omega

/-- The gradient of the convolution's result. -/
def dcN (D X W : ℕ → ℕ → EReal) (R C : ℕ) : EReal := dsl (D R C) (conv4 X W R C)

theorem gE_rd {r k : ℕ} (hr : 8 + r < 1040) (hk : k < 512) : rd (m := 1040) (n := 512) (gE m c t) (8 + r) k
    = dcN (X0 m c) (P m c) (X2 m c) (1024 * (t.val % 4) + r) (512 * (t.val / 4) + k) := by
  have hc := rd_tileConv4 (P m c) (X2 m c) (pE m c t) (iblk m c 6 t) slices_S4x512_o0_0_S1x512 slices_S4x512_o1_0_S1x512 slices_S4x512_o2_0_S1x512 slices_S4x512_o3_0_S1x512 broadcasts_S1x512_S1040x512 broadcasts_S1x512_S1040x512 broadcasts_S1x512_S1040x512 broadcasts_S1x512_S1040x512
    rotates_S1040x512_d0 rotates_S1040x512_d0 rotates_S1040x512_d0 (fun _ _ => pE_rd m c t) (fun _ _ => blk6 m c t) hr hk
  have hd := (dE_rd m c t hr hk).trans (halo_bk0 _)
  unfold gE k0_pay7 cE' k0_pay6
  dsimp only
  exact (rd_dsl _ _ hr hk).trans (congrArg₂ dsl hd hc)

/-- Window 7's block at a point: the gradient of the projection's columns. -/
theorem outs7_rd {r k : ℕ} (hr : r < 1024) (hk : k < 512) : rd (m := 1024) (n := 512) (outsAt0 m c t.val t.isLt).1 r k
    = anti4 (dcN (X0 m c) (P m c) (X2 m c)) (X2 m c) (1024 * (t.val % 4) + r) (512 * (t.val / 4) + k) := by
  rw [outs7]
  unfold k0_pay2 k0_pay8
  dsimp only
  rw [rd_truncf]
  exact rd_tileAnti4 1039#32 1038#32 1037#32 (dcN (X0 m c) (P m c) (X2 m c)) (X2 m c) (gE m c t) (iblk m c 6 t) slices_S4x512_o0_0_S1x512 slices_S4x512_o1_0_S1x512 slices_S4x512_o2_0_S1x512 slices_S4x512_o3_0_S1x512 broadcasts_S1x512_S1040x512 broadcasts_S1x512_S1040x512 broadcasts_S1x512_S1040x512 broadcasts_S1x512_S1040x512
    rotates_S1040x512_d0 rotates_S1040x512_d0 rotates_S1040x512_d0 slices_S1040x512_o8_0_S1024x512 rfl rfl rfl (fun _ _ => gE_rd m c t) (fun _ _ => blk6 m c t) rfl hr hk

/-- One tile's sums of the gradient in the taps. -/
theorem tile8_rd {r k : ℕ} (hr : r < 8) (hk : k < 512) : rd (m := 8) (n := 512) (k0_pay1 (pE m c t) (gE m c t) (k0_pay9 (dE m c t) (pE m c t) (iblk m c 6 t) (cE' m c t)) (k0_pay10 (dE m c t) (pE m c t) (iblk m c 6 t) (cE' m c t))) r k
    = if r < 4 then ∑ i ∈ Finset.range 1024, dcN (X0 m c) (P m c) (X2 m c) (1024 * (t.val % 4) + i) (512 * (t.val / 4) + k)
        * bk (P m c) (3 - r) (1024 * (t.val % 4) + i) (512 * (t.val / 4) + k) else 0 := by
  unfold k0_pay1 k0_pay9 k0_pay10
  dsimp only
  have hsum (s : ℕ) (x : FVec Ideal S1040x512 .f32)
      (hx : ∀ r c', 8 + r < 1040 → c' < 512 → rd (m := 1040) (n := 512) x (8 + r) c' = bk (P m c) s (1024 * (t.val % 4) + r) (512 * (t.val / 4) + c')) :=
    rd_tileRow (dcN (X0 m c) (P m c) (X2 m c)) (P m c) (gE m c t) x s slices_S1040x512_o8_0_S1024x512 reduces_S1024x512_S512 (.inl rfl) rfl
      shapeCasts_S512_S1x512 (fun _ _ => gE_rd m c t) hx rfl hk
  have hb (sb : BitVec 32) (s : ℕ) (h1 : sb.toNat = s) (h2 : s ≤ 8) (r c' : ℕ) (h : 8 + r < 1040) (h' : c' < 512) :=
    rd_tileBack sb (P m c) (pE m c t) s rotates_S1040x512_d0 (fun _ _ => pE_rd m c t) h1 h2 h h'
  exact rd_rows4 (fun r => ∑ i ∈ Finset.range 1024, dcN (X0 m c) (P m c) (X2 m c) (1024 * (t.val % 4) + i) (512 * (t.val / 4) + k)
      * bk (P m c) (3 - r) (1024 * (t.val % 4) + i) (512 * (t.val / 4) + k)) _ _ _ _ _ _
    (hsum 3 _ (hb 3#32 3 rfl (by omega))) (hsum 2 _ (hb 2#32 2 rfl (by omega))) (hsum 1 _ (hb 1#32 1 rfl (by omega)))
    (hsum 0 _ fun r c' h h' => rd_tileHere (P m c) (pE m c t) (fun _ _ => pE_rd m c t) h h') (fun _ => rd_zero _ _)

/-- Window 8's block at a point: the gradient of the taps over the rows so far. -/
theorem outs8_rd : ∀ (n : ℕ) (hn : n < cfg0.N) {r k : ℕ} (_ : r < 8) (_ : k < 512),
    rd (m := 8) (n := 512) (outsAt0 m c n hn).2 r k
      = taps4 (dcN (X0 m c) (P m c) (X2 m c)) (P m c) (1024 * (n % 4 + 1)) r (512 * (n / 4) + k) := by
  intro n
  induction n with
  | zero =>
    intro hn r k hr hk
    have e := outs8_A m c ⟨0, hn⟩ rfl
    rw [show (outsAt0 m c 0 hn).2 = _ from e, tile8_rd m c _ hr hk]
    unfold taps4
    simp
  | succ n ih =>
    intro hn r k hr hk
    have hN : n + 1 < 8 := t_lt ⟨n + 1, hn⟩
    by_cases h0 : (n + 1) % 4 = 0
    · have e := outs8_A m c ⟨n + 1, hn⟩ h0
      rw [show (outsAt0 m c (n + 1) hn).2 = _ from e, tile8_rd m c _ hr hk]
      unfold taps4
      dsimp only
      rw [h0]
      simp
    · have e := outs8_B m c ⟨n + 1, hn⟩ h0 (by show n + 1 - 1 < cfg0.N; omega)
      rw [show (outsAt0 m c (n + 1) hn).2 = _ from e]
      unfold k0_pay3
      dsimp only
      rw [shapeCast_self, rd_addf, tile8_rd m c _ hr hk]
      have h := ih (by omega) hr hk
      rw [show rd (m := 8) (n := 512) (outsAt0 m c (n + 1 - 1) (by omega)).2 r k = _ from h]
      dsimp only
      rw [show (n + 1) / 4 = n / 4 by omega, show (n + 1) % 4 = n % 4 + 1 by omega,
        show 1024 * (n % 4 + 1 + 1) = 1024 * (n % 4 + 1) + 1024 by omega, taps4_succ]

end Cert.C27

end
-- ==== Proof.C27.lean ====
module

public import proofs.«01_k».proof.Proof.Conv
public import proofs.«01_k».proof.Proof.C27Kernel
public import proofs.«01_k».proof.Proof.Gen.Reference27Ideal.Run
public import proofs.«01_k».proof.Proof.Gen.Reference27Ideal.Read
public import proofs.«01_k».proof.Defs
public import proofs.«01_k».proof.Proof.Gen.Pre_finite27

@[expose] public section

set_option maxRecDepth 16384

noncomputable section

namespace Cert.C27

open Cert.Kernel27Ideal Cert.Kernel27Ideal.Gen Cert.Kernel27Ideal.Value Cert.Rd Idealize.ShloMosaic Idealize.ShloMosaic.TcCoe Idealize.SL.Sem
open Idealize.ShloMosaic.Pipeline (Dat)

section Reference
open Cert.Reference27Ideal.Read
variable (x0 : FVec Ideal ⟨2, ![4096, 1024]⟩ .f32) (x1 : FVec Ideal ⟨2, ![4096, 7168]⟩ .f32) (x2 : FVec Ideal ⟨2, ![4, 1024]⟩ .f32) {R C : ℕ}

/-- The columns read. -/
abbrev Q : ℕ → ℕ → EReal := fun R C => rd x1 R (5120 + C)

theorem bkQ (s : ℕ) (hR : R < 4096) (hC : C < 1024) : bk (rd (m := 4096) (n := 1024) (val_main_v0 (F := Ideal) x1)) s R C = bk (Q x1) s R C := by
  unfold bk
  split
  · unfold val_main_v0
    rw [rd_slice _ _ _ (by omega) hC]
    show rd x1 (0 + (R - s)) (5120 + C) = _
    rw [Nat.zero_add]
  · rfl

theorem v4_rd (hR : R < 4096) (hC : C < 1024) : rd (m := 4096) (n := 1024) (val_main_v4 (F := Ideal) x1) R C = bk (Q x1) 3 R C :=
  (rd_hostBack 0 (val_main_v0 (F := Ideal) x1) _ _ _ (by omega) hR hC).trans (bkQ x1 _ hR hC)
theorem v10_rd (hR : R < 4096) (hC : C < 1024) : rd (m := 4096) (n := 1024) (val_main_v10 (F := Ideal) x1) R C = bk (Q x1) 2 R C :=
  (rd_hostBack 1 (val_main_v0 (F := Ideal) x1) _ _ _ (by omega) hR hC).trans (bkQ x1 _ hR hC)
theorem v17_rd (hR : R < 4096) (hC : C < 1024) : rd (m := 4096) (n := 1024) (val_main_v17 (F := Ideal) x1) R C = bk (Q x1) 1 R C :=
  (rd_hostBack 2 (val_main_v0 (F := Ideal) x1) _ _ _ (by omega) hR hC).trans (bkQ x1 _ hR hC)
theorem v24_rd (hR : R < 4096) (hC : C < 1024) : rd (m := 4096) (n := 1024) (val_main_v24 (F := Ideal) x1) R C = bk (Q x1) 0 R C :=
  (rd_hostBack 3 (val_main_v0 (F := Ideal) x1) _ _ _ (by omega) hR hC).trans (bkQ x1 _ hR hC)

/-- The convolution. -/
theorem v30_rd (hR : R < 4096) (hC : C < 1024) : rd (m := 4096) (n := 1024) (val_main_v30 (F := Ideal) x1 x2) R C = conv4 (Q x1) (rd x2) R C := by
  unfold val_main_v30 val_main_v23 val_main_v16 val_main_v9 val_main_v15 val_main_v22 val_main_v29
  rw [rd_addf, rd_addf, rd_addf, rd_mulf, rd_mulf, rd_mulf, rd_mulf, v4_rd x1 hR hC, v10_rd x1 hR hC, v17_rd x1 hR hC, v24_rd x1 hR hC]
  exact (congrArg₂ (· + ·) (congrArg₂ (· + ·) (congrArg₂ (· + ·) (congrArg (_ * ·) (rd_hostTap 0 x2 _ _ _ _ hR hC))
    (congrArg (_ * ·) (rd_hostTap 1 x2 _ _ _ _ hR hC))) (congrArg (_ * ·) (rd_hostTap 2 x2 _ _ _ _ hR hC)))
    (congrArg (_ * ·) (rd_hostTap 3 x2 _ _ _ _ hR hC))).trans (conv4_host _ _ _ _)

theorem dcN_out (D X W : ℕ → ℕ → EReal) (h : D R C = 0) : dcN D X W R C = 0 := by
  unfold dcN dsl; rw [h, zero_mul]

variable (hfin : ∀ R C, rd x0 R C ≠ ⊤ ∧ rd x0 R C ≠ ⊥)
include hfin

/-- The gradient of the convolution. -/
theorem v32_rd (hC : C < 1024) : rd (m := 4096) (n := 1024) (val_main_v32 (F := Ideal) x0 x1 x2) R C = dcN (rd x0) (Q x1) (rd x2) R C := by
  by_cases hR : R < 4096
  · have hs : rd (m := 4096) (n := 1024) (val_main_v31_2 (F := Ideal) x1 x2) R C = sgm (conv4 (Q x1) (rd x2) R C) :=
      (rd_hostSgm _ _ _ hR hC).trans (congrArg sgm (v30_rd x1 x2 hR hC))
    have h1 : rd (m := 4096) (n := 1024) (val_main_call0_v6 (F := Ideal)) R C = 1 := (rd_bcastConst _ _ hR hC).trans c1_eq
    unfold val_main_v32 val_main_call1_v1 val_main_call1_v2 val_main_call1_v0 val_main_v31_1 val_main_call0_v7
    rw [rd_addf, rd_mulf, rd_mulf, rd_mulf, rd_mulf, rd_subf _ _ hR hC, hs, h1, v30_rd x1 x2 hR hC]
    exact dsl_eq _ (hfin R C).1 (hfin R C).2
  · rw [rd_out _ (by omega), dcN_out _ _ _ (rd_out _ (by omega))]

theorem v68_rd (hC : C < 1024) : rd (m := 4096) (n := 1024) (val_main_v68 (F := Ideal) x0 x1 x2) R C = dcN (rd x0) (Q x1) (rd x2) R C * rd x2 0 C := by
  by_cases hR : R < 4096
  · unfold val_main_v68
    rw [rd_mulf, v32_rd x0 x1 x2 hfin hC]
    exact congrArg (_ * ·) (rd_hostTap 0 x2 _ _ _ _ hR hC)
  · rw [rd_out _ (by omega), dcN_out _ _ _ (rd_out _ (by omega)), zero_mul]
theorem v57_rd (hC : C < 1024) : rd (m := 4096) (n := 1024) (val_main_v57 (F := Ideal) x0 x1 x2) R C = dcN (rd x0) (Q x1) (rd x2) R C * rd x2 1 C := by
  by_cases hR : R < 4096
  · unfold val_main_v57
    rw [rd_mulf, v32_rd x0 x1 x2 hfin hC]
    exact congrArg (_ * ·) (rd_hostTap 1 x2 _ _ _ _ hR hC)
  · rw [rd_out _ (by omega), dcN_out _ _ _ (rd_out _ (by omega)), zero_mul]
theorem v46_rd (hC : C < 1024) : rd (m := 4096) (n := 1024) (val_main_v46 (F := Ideal) x0 x1 x2) R C = dcN (rd x0) (Q x1) (rd x2) R C * rd x2 2 C := by
  by_cases hR : R < 4096
  · unfold val_main_v46
    rw [rd_mulf, v32_rd x0 x1 x2 hfin hC]
    exact congrArg (_ * ·) (rd_hostTap 2 x2 _ _ _ _ hR hC)
  · rw [rd_out _ (by omega), dcN_out _ _ _ (rd_out _ (by omega)), zero_mul]
theorem v37_rd (hC : C < 1024) : rd (m := 4096) (n := 1024) (val_main_v37 (F := Ideal) x0 x1 x2) R C = dcN (rd x0) (Q x1) (rd x2) R C * rd x2 3 C := by
  by_cases hR : R < 4096
  · unfold val_main_v37
    rw [rd_mulf, v32_rd x0 x1 x2 hfin hC]
    exact congrArg (_ * ·) (rd_hostTap 3 x2 _ _ _ _ hR hC)
  · rw [rd_out _ (by omega), dcN_out _ _ _ (rd_out _ (by omega)), zero_mul]

/-- The first result: the gradient of the columns. -/
theorem v77_rd (hR : R < 4096) (hC : C < 1024) :
    rd (m := 4096) (n := 1024) (val_main_v77 (F := Ideal) x0 x1 x2) R C = anti4 (dcN (rd x0) (Q x1) (rd x2)) (rd x2) R C := by
  unfold val_main_v77
  rw [rd_truncf]
  have z := Ideal.ofBits_zero_f32
  refine (rd_hostAnti4 (val_main_v37 (F := Ideal) x0 x1 x2) (val_main_v46 (F := Ideal) x0 x1 x2) (val_main_v57 (F := Ideal) x0 x1 x2) (val_main_v68 (F := Ideal) x0 x1 x2)
    _ _ _ _ _ _ _ _ _ _ z z z z rfl hR hC).trans ?_
  rw [v37_rd x0 x1 x2 hfin hC, v46_rd x0 x1 x2 hfin hC, v57_rd x0 x1 x2 hfin hC, v68_rd x0 x1 x2 hfin hC]
  exact anti4_host _ _ _ _

/-- The second result: the gradient of the taps. -/
theorem v78_rd (hR : R < 8) (hC : C < 1024) :
    rd (m := 8) (n := 1024) (val_main_v78 (F := Ideal) x0 x1 x2) R C = taps4 (dcN (rd x0) (Q x1) (rd x2)) (Q x1) 4096 R C := by
  have z : ∀ i, constant (F := Ideal) ⟨0, ![]⟩ .f32 0x00000000#32 i = (0 : EReal) := fun _ => Ideal.ofBits_zero_f32
  have s0 : rd (m := 1) (n := 1024) (val_main_v70 (F := Ideal) x0 x1 x2) 0 C
      = ∑ R ∈ Finset.range 4096, dcN (rd x0) (Q x1) (rd x2) R C * bk (Q x1) (3 - 0) R C :=
    rd_hostRowSum (val_main_v64 (F := Ideal) x0 x1 x2) _ _ _ _ _ _ _ _ (z _) (z _) (fun R hR => by
      unfold val_main_v64; rw [rd_mulf, v4_rd x1 hR hC, v32_rd x0 x1 x2 hfin hC, mul_comm]) hC
  have s1 : rd (m := 1) (n := 1024) (val_main_v59 (F := Ideal) x0 x1 x2) 0 C
      = ∑ R ∈ Finset.range 4096, dcN (rd x0) (Q x1) (rd x2) R C * bk (Q x1) (3 - 1) R C :=
    rd_hostRowSum (val_main_v53 (F := Ideal) x0 x1 x2) _ _ _ _ _ _ _ _ (z _) (z _) (fun R hR => by
      unfold val_main_v53; rw [rd_mulf, v10_rd x1 hR hC, v32_rd x0 x1 x2 hfin hC, mul_comm]) hC
  have s2 : rd (m := 1) (n := 1024) (val_main_v48 (F := Ideal) x0 x1 x2) 0 C
      = ∑ R ∈ Finset.range 4096, dcN (rd x0) (Q x1) (rd x2) R C * bk (Q x1) (3 - 2) R C :=
    rd_hostRowSum (val_main_v42 (F := Ideal) x0 x1 x2) _ _ _ _ _ _ _ _ (z _) (z _) (fun R hR => by
      unfold val_main_v42; rw [rd_mulf, v17_rd x1 hR hC, v32_rd x0 x1 x2 hfin hC, mul_comm]) hC
  have s3 : rd (m := 1) (n := 1024) (val_main_v39 (F := Ideal) x0 x1 x2) 0 C
      = ∑ R ∈ Finset.range 4096, dcN (rd x0) (Q x1) (rd x2) R C * bk (Q x1) (3 - 3) R C :=
    rd_hostRowSum (val_main_v33 (F := Ideal) x0 x1 x2) _ _ _ _ _ _ _ _ (z _) (z _) (fun R hR => by
      unfold val_main_v33; rw [rd_mulf, v24_rd x1 hR hC, v32_rd x0 x1 x2 hfin hC, mul_comm]) hC
  have hp : val_main_call2_v0 (F := Ideal) (Shape.Idx.first Nat.one_pos) = (0 : EReal) := by
    show (((0#32 : BitVec 32).toInt : ℝ) : EReal) = 0
    simp
  exact rd_hostRows4 (fun k => ∑ R ∈ Finset.range 4096, dcN (rd x0) (Q x1) (rd x2) R C * bk (Q x1) (3 - k) R C)
    (val_main_v70 (F := Ideal) x0 x1 x2) (val_main_v59 (F := Ideal) x0 x1 x2) (val_main_v48 (F := Ideal) x0 x1 x2) (val_main_v39 (F := Ideal) x0 x1 x2)
    _ _ _ _ _ _ _ _ _ _ _ (z _) (z _) (z _) (z _) hp s0 s1 s2 s3 hR

end Reference

variable (m : (ℓ : Loc nD τ sig) → Buf (Elt Ideal) ℓ) (c : Dev nD) (ρ : Dev nD → PrngReg)

theorem index7 (t : Fin cfg0.N) : win0_7.index t 0 = t.val % 4 ∧ win0_7.index t 1 = t.val / 4 :=
  (by decide +kernel : ∀ t : Fin grid0.N, win0_7.index t 0 = t.val % 4 ∧ win0_7.index t 1 = t.val / 4) t

/-- Window 7's array after the run. -/
theorem final7 : (dats m 0 c).arrAt 7 cfg0.N = tab (m := 4096) (n := 1024) (anti4 (dcN (X0 m c) (P m c) (X2 m c)) (X2 m c)) := by
  refine (dats m 0 c).arrAt_eq_of_cover 7 _ (fun t hf => ?_) fun i => ?_
  · rw [flushed7]
    funext j
    rw [View.read_apply]
    show ((outsAt0 m c t.val t.isLt).1) j = (anti4 (dcN (X0 m c) (P m c) (X2 m c)) (X2 m c)) (win0_7.index t 0 * 1024 + 1 * (j 0).val) (win0_7.index t 1 * 512 + 1 * (j 1).val)
    rw [eq_rd (m := 1024) (n := 512) ((outsAt0 m c t.val t.isLt).1) j]
    rw [outs7_rd m c t (j 0).isLt (j 1).isLt]
    have hi := index7 t
    rw [hi.1, hi.2]
    congr 1 <;> omega
  · have h0 : (i 0).val < 4096 := (i 0).isLt
    have h1 : (i 1).val < 1024 := (i 1).isLt
    have hN : cfg0.N = 8 := by decide +kernel
    let t : Fin cfg0.N := ⟨4 * ((i 1).val / 512) + (i 0).val / 1024, by omega⟩
    refine ⟨t, flush0_7 _, ?_⟩
    show i ∈ ((View.whole main_v0_0).slice (win0_7.rect t)).set
    rw [View.set_slice_whole, Rect.mem_set_unit]
    have hi := index7 t
    have hv : t.val = 4 * ((i 1).val / 512) + (i 0).val / 1024 := rfl
    intro a
    match a with
    | ⟨0, _⟩ => show win0_7.index t 0 * 1024 ≤ (i 0).val ∧ (i 0).val < win0_7.index t 0 * 1024 + 1024
                rw [hi.1]; omega
    | ⟨1, _⟩ => show win0_7.index t 1 * 512 ≤ (i 1).val ∧ (i 1).val < win0_7.index t 1 * 512 + 512
                rw [hi.2]; omega

theorem index8 (t : Fin cfg0.N) : win0_8.index t 0 = 0 ∧ win0_8.index t 1 = t.val / 4 :=
  (by decide +kernel : ∀ t : Fin grid0.N, win0_8.index t 0 = 0 ∧ win0_8.index t 1 = t.val / 4) t

/-- Window 8's array after the run. -/
theorem final8 : (dats m 0 c).arrAt 8 cfg0.N = tab (m := 8) (n := 1024) (taps4 (dcN (X0 m c) (P m c) (X2 m c)) (P m c) 4096) := by
  refine (dats m 0 c).arrAt_eq_of_cover 8 _ (fun t hf => ?_) fun i => ?_
  · rw [flushed8]
    funext j
    rw [View.read_apply]
    show ((outsAt0 m c t.val t.isLt).2) j = (taps4 (dcN (X0 m c) (P m c) (X2 m c)) (P m c) 4096) (win0_8.index t 0 * 8 + 1 * (j 0).val) (win0_8.index t 1 * 512 + 1 * (j 1).val)
    rw [eq_rd (m := 8) (n := 512) ((outsAt0 m c t.val t.isLt).2) j]
    rw [outs8_rd m c t.val t.isLt (j 0).isLt (j 1).isLt, (flush0_8 t).mp hf]
    have hi := index8 t
    rw [hi.1, hi.2]
    congr 1 <;> omega
  · have h0 : (i 0).val < 8 := (i 0).isLt
    have h1 : (i 1).val < 1024 := (i 1).isLt
    have hN : cfg0.N = 8 := by decide +kernel
    let t : Fin cfg0.N := ⟨4 * ((i 1).val / 512) + 3, by omega⟩
    refine ⟨t, (flush0_8 _).mpr (by show (4 * ((i 1).val / 512) + 3) % 4 = 3; omega), ?_⟩
    show i ∈ ((View.whole main_v0_1).slice (win0_8.rect t)).set
    rw [View.set_slice_whole, Rect.mem_set_unit]
    have hi := index8 t
    have hv : t.val = 4 * ((i 1).val / 512) + 3 := rfl
    intro a
    match a with
    | ⟨0, _⟩ => show win0_8.index t 0 * 8 ≤ (i 0).val ∧ (i 0).val < win0_8.index t 0 * 8 + 8
                rw [hi.1]; omega
    | ⟨1, _⟩ => show win0_8.index t 1 * 512 ≤ (i 1).val ∧ (i 1).val < win0_8.index t 1 * 512 + 512
                rw [hi.2]; omega

/-- The kernel's run: the two arrays in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 1024) (anti4 (dcN (X0 m c) (P m c) (X2 m c)) (X2 m c))
      ∧ r.2.mem ((c : Thread nD τ).loc main_v0_1) = tab (m := 8) (n := 1024) (taps4 (dcN (X0 m c) (P m c) (X2 m c)) (P m c) 4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final7 m c), (h c).2.1.trans (final8 m c), (h c).2.2⟩) (run_blocks m ρ)

/-- With a finite incoming gradient, the kernel and the gradient of the value columns' convolution end with equal arrays. -/
theorem algebraic : Cert.algebraic_Kernel27Ideal_Reference27Ideal_pre_finite27 := by
  intro m ρ m' ρ' hpre hag
  have hfin (c : Dev nD) (R C : ℕ) : rd (m := 4096) (n := 1024) (m (c.tc.loc main_arg0)) R C ≠ ⊤ ∧ rd (m := 4096) (n := 1024) (m (c.tc.loc main_arg0)) R C ≠ ⊥ := by
    have h := hpre c
    unfold Cert.Pre_finite27.fn at h
    exact finite_of_all (m := 4096) (n := 1024) _ _ _ _ h R C
  refine ⟨_, _, run m ρ, (θ_run _ _ _).mono (fun _ h c => ⟨(h c).1.trans ?_, (h c).2.1.trans ?_, (h c).2.2⟩) (Cert.Reference27Ideal.Value.run m' ρ')⟩
  · refine (Cert.Reference27Ideal.Read.val_main_v77_eq _ _).trans ?_
    rw [(hag c).1, (hag c).2.1, (hag c).2.2]
    exact (eq_tab fun r k hr hk => v77_rd _ _ _ (hfin c) hr hk)
  · refine (Cert.Reference27Ideal.Read.val_main_v78_eq _ _).trans ?_
    rw [(hag c).1, (hag c).2.1, (hag c).2.2]
    exact (eq_tab fun r k hr hk => v78_rd _ _ _ (hfin c) hr hk)

/-- The gradient's run leaves the arguments as they were; it uses no semaphore. -/
theorem frame_ref : Cert.quiescent_Reference27Ideal := fun m ρ _ =>
  (θ_run Cert.Reference27Ideal.defs _ _).mono (fun r h => ⟨fun c => (h c).2.2, Idealize.ShloMosaic.sem_eq_zero_of_no_sems (by decide) r.2⟩)
    (Cert.Reference27Ideal.Value.run (F := Ideal) m ρ)

end Cert.C27

end
-- ==== Proof.Heads.lean ====
/- Matrices whose columns are cut into heads of equal width: reads of the steps that act on a head alone, and the gradient
   through the normalisation of a head. -/
module

public import proofs.«01_k».proof.Proof.Conv

@[expose] public section

noncomputable section

namespace Cert.Rd

open Idealize.ShloMosaic

/-! ## Pieces side by side -/

section Pieces
variable {m n N : ℕ}

theorem concatAt_cols (j : (⟨2, ![m, N]⟩ : Shape).Idx) (xs : List ((⟨2, ![m, n]⟩ : Shape).Idx → EReal)) :
    ∀ (T : ℕ → EReal) (hs : ∀ s ∈ (xs.map fun x => (⟨⟨2, ![m, n]⟩, x⟩ : (s : Shape) × (s.Idx → EReal))).map (·.1), s.FitsOff ⟨2, ![m, N]⟩ 1)
      (c : ℕ) (hc : c < (axisSizes ⟨2, ![m, N]⟩ 1 (xs.map fun x => (⟨⟨2, ![m, n]⟩, x⟩ : (s : Shape) × (s.Idx → EReal)))).sum)
      (_ : ∀ (k : ℕ) (hk : k < xs.length), ∀ q < n, rd xs[k] (j 0).val q = T (n * k + q)),
      concatenateAt ⟨2, ![m, N]⟩ 1 j (xs.map fun x => (⟨⟨2, ![m, n]⟩, x⟩ : (s : Shape) × (s.Idx → EReal))) hs c hc = T c := by
  induction xs with
  | nil => intro T hs c hc; exact absurd hc (Nat.not_lt_zero _)
  | cons x xs ih =>
    cases xs with
    | nil =>
      intro T hs c hc h
      have hc' : c < n := by simpa [axisSizes] using hc
      have e := h 0 Nat.one_pos c hc'
      rw [Nat.mul_zero, Nat.zero_add] at e
      refine Eq.trans (concatenateAt_singleton 1 j x hs c hc) (Eq.trans ?_ e)
      exact (rd_of_val x _ rfl rfl).symm
    | cons y ys =>
      intro T hs c hc h
      refine Eq.trans (concatenateAt_cons 1 j x ⟨_, y⟩ (ys.map fun x => ⟨_, x⟩) hs c hc) ?_
      split
      · rename_i hlt
        have hlt' : c < n := hlt
        have e := h 0 (Nat.succ_pos _) c hlt'
        rw [Nat.mul_zero, Nat.zero_add] at e
        exact Eq.trans (rd_of_val x _ rfl rfl).symm e
      · rename_i hlt
        have hlt' : n ≤ c := Nat.le_of_not_lt hlt
        refine (ih (fun q => T (n + q)) _ _ _ fun k hk q hq => ?_).trans ?_
        · have e := h (k + 1) (Nat.succ_lt_succ hk) q hq
          rw [Nat.mul_succ, Nat.add_comm (n * k) n, Nat.add_assoc] at e
          exact e
        · show T (n + (c - n)) = T c
          rw [Nat.add_sub_cancel' hlt']

/-- Pieces of equal width side by side are a table when each is its columns of the table. -/
theorem rd_concatCols (xs : List ((⟨2, ![m, n]⟩ : Shape).Idx → EReal)) (T : ℕ → ℕ → EReal) {r c : ℕ}
    (h : Shape.Concatenates ((xs.map fun x => (⟨⟨2, ![m, n]⟩, x⟩ : (s : Shape) × (s.Idx → EReal))).map (·.1)) ⟨2, ![m, N]⟩ 1)
    (hx : ∀ (k : ℕ) (hk : k < xs.length), ∀ q < n, rd xs[k] r q = T r (n * k + q)) (hr : r < m) (hc : c < N) :
    rd (concatenate ⟨2, ![m, N]⟩ 1 (xs.map fun x => (⟨⟨2, ![m, n]⟩, x⟩ : (s : Shape) × (s.Idx → EReal))) h) r c = T r c := by
  rw [rd_in _ hr hc, concatenate_apply]
  exact concatAt_cols _ xs (T r) _ _ _ hx

/-- A matrix whose rows are laid one under another in shorter rows. -/
theorem rd_cut {a b : ℕ} (x : (⟨2, ![a, b * n]⟩ : Shape).Idx → EReal) (h : (⟨2, ![a, b * n]⟩ : Shape).ShapeCasts ⟨2, ![m, n]⟩)
    (hm : a * b = m) {r c : ℕ} (hr : r < m) (hc : c < n) :
    rd (shapeCast ⟨2, ![m, n]⟩ x h) r c = rd x (r / b) (n * (r % b) + c) := by
  have hb : 0 < b := Nat.pos_of_ne_zero fun h0 => by subst h0; omega
  have hp : r / b < a := Nat.div_lt_of_lt_mul (by rw [Nat.mul_comm]; omega)
  have hq : n * (r % b) + c < b * n := by
    have := Nat.mul_le_mul_left n (Nat.mod_lt r hb)
    rw [Nat.mul_succ, Nat.mul_comm n b] at this; omega
  rw [rd_in _ hp hq, rd_in _ hr hc]
  refine shapeCast_apply x h _ _ ?_
  rw [Shape.rowMajor_val_two, Shape.rowMajor_val_two]
  show r / b * (b * n) + (n * (r % b) + c) = r * n + c
  have e := Nat.div_add_mod r b
  have : r * n = (b * (r / b) + r % b) * n := by rw [e]
  rw [this]; ring

/-- Short rows laid end to end. -/
theorem rd_uncut {a b : ℕ} (x : (⟨2, ![m, n]⟩ : Shape).Idx → EReal) (h : (⟨2, ![m, n]⟩ : Shape).ShapeCasts ⟨2, ![a, b * n]⟩)
    (hm : a * b = m) {r c : ℕ} (hr : r < a) (hc : c < b * n) :
    rd (shapeCast ⟨2, ![a, b * n]⟩ x h) r c = rd x (b * r + c / n) (c % n) := by
  have hn : 0 < n := Nat.pos_of_ne_zero fun h0 => by subst h0; omega
  have hp : c / n < b := Nat.div_lt_of_lt_mul (by rw [Nat.mul_comm]; omega)
  have hq : b * r + c / n < m := by
    have := Nat.mul_le_mul_left b hr
    rw [Nat.mul_succ, Nat.mul_comm b a] at this; omega
  rw [rd_in _ hq (Nat.mod_lt c hn), rd_in _ hr hc]
  refine shapeCast_apply x h _ _ ?_
  rw [Shape.rowMajor_val_two, Shape.rowMajor_val_two]
  show (b * r + c / n) * n + c % n = r * (b * n) + c
  have e := Nat.div_add_mod c n
  calc (b * r + c / n) * n + c % n = r * (b * n) + (n * (c / n) + c % n) := by ring
    _ = _ := by rw [e]

/-- One row laid several times, end to end, by way of a stack of rows. -/
theorem rd_repeat {b n : ℕ} (x : (⟨2, ![1, n]⟩ : Shape).Idx → EReal) (h : (⟨2, ![1, n]⟩ : Shape).ShapeCasts ⟨4, ![1, 1, 1, n]⟩)
    (hb : (⟨4, ![1, 1, 1, n]⟩ : Shape).BroadcastsInDim ⟨4, ![1, 1, b, n]⟩ ![0, 1, 2, 3])
    (h' : (⟨4, ![1, 1, b, n]⟩ : Shape).ShapeCasts ⟨2, ![1, b * n]⟩) {k : ℕ} (hk : k < b * n) :
    rd (shapeCast ⟨2, ![1, b * n]⟩ (broadcastInDim ⟨4, ![1, 1, b, n]⟩ ![0, 1, 2, 3] hb (shapeCast ⟨4, ![1, 1, 1, n]⟩ x h)) h') 0 k = rd x 0 (k % n) := by
  have hn : 0 < n := Nat.pos_of_ne_zero fun h0 => by subst h0; omega
  have hp : k / n < b := Nat.div_lt_of_lt_mul (by rw [Nat.mul_comm]; omega)
  rw [rd_in _ Nat.one_pos hk, rd_in _ Nat.one_pos (Nat.mod_lt k hn)]
  rw [shapeCast_apply _ h' _ (ValueIdx.ix4 (⟨0, Nat.one_pos⟩ : Fin 1) (⟨0, Nat.one_pos⟩ : Fin 1) (⟨k / n, hp⟩ : Fin b) (⟨k % n, Nat.mod_lt k hn⟩ : Fin n)) ?_]
  · rw [Pointwise.broadcastInDim_apply]
    refine shapeCast_apply x h _ _ ?_
    rw [Shape.rowMajor_val_two, Shape.rowMajor_val_four]
    show 0 * n + k % n = _
    congr 1
    by_cases h1 : n = 1
    · subst h1
      exact (Nat.mod_one k).trans (Nat.lt_one_iff.mp (Fin.isLt _)).symm
    · simp only [Shape.Idx.norm_def]
      rw [dif_neg (show ¬ (![1, 1, 1, n] : Fin 4 → ℕ) 3 = 1 from h1)]
      rfl
  · rw [Shape.rowMajor_val_two, Shape.rowMajor_val_four]
    have e := Nat.div_add_mod k n
    show ((0 * 1 + 0) * b + k / n) * n + k % n = 0 * (b * n) + k
    rw [Nat.mul_comm] at e; simp; omega

end Pieces

/-! ## The normalisation of a head, the sum of its squares taken with a weight -/

/-- The weighted sum of squares of row r, shifted. -/
def wsq (X : ℕ → ℕ → EReal) (φ : ℝ) (n r : ℕ) : EReal := (∑ k ∈ Finset.range n, X r k * X r k) * (φ : EReal) + cE
/-- The reciprocal root of it. -/
def rw' (X : ℕ → ℕ → EReal) (φ : ℝ) (n r : ℕ) : EReal := Ideal.rsqrt (wsq X φ n r)

theorem wsq_cases (X : ℕ → ℕ → EReal) {φ : ℝ} (hφ : 0 < φ) (n r : ℕ) :
    (wsq X φ n r = ⊤ ∧ rw' X φ n r = 0)
      ∨ ∃ t : ℝ, 0 < t ∧ wsq X φ n r = (t : EReal) ∧ rw' X φ n r = (((Real.sqrt t)⁻¹ : ℝ) : EReal) := by
  obtain ⟨e, he, hE⟩ := cE_pos
  have hs : 0 ≤ ∑ k ∈ Finset.range n, X r k * X r k := Finset.sum_nonneg fun _ _ => sq_nonneg' _
  have hd : 0 ≤ (∑ k ∈ Finset.range n, X r k * X r k) * (φ : EReal) := mul_nonneg hs (by exact_mod_cast hφ.le)
  have hm : wsq X φ n r = (∑ k ∈ Finset.range n, X r k * X r k) * (φ : EReal) + (e : EReal) := by rw [← hE]; rfl
  generalize (∑ k ∈ Finset.range n, X r k * X r k) * (φ : EReal) = d at hd hm
  induction d with
  | bot => exact absurd hd (by simp)
  | top =>
    left
    have : wsq X φ n r = ⊤ := by rw [hm]; rfl
    exact ⟨this, by unfold rw'; rw [this]; rfl⟩
  | coe d =>
    right
    have hd' : 0 ≤ d := by exact_mod_cast hd
    refine ⟨d + e, by linarith, by rw [hm, EReal.coe_add], ?_⟩
    unfold rw'
    rw [hm, ← EReal.coe_add, Ideal.rsqrt_coe, if_neg (by linarith), if_neg (by linarith)]

/-- The gradient through the normalisation, as the kernels compute it. -/
def hdx (X W : ℕ → ℕ → EReal) (φ : ℝ) (n r c : ℕ) : EReal :=
  rw' X φ n r * (W r c - X r c * rw' X φ n r * ((∑ k ∈ Finset.range n, W r k * (X r k * rw' X φ n r)) * (φ : EReal)))

/-- The factor of x that differentiating the weighted sum of squares gives. -/
def hms (X W : ℕ → ℕ → EReal) (φ : ℝ) (n r : ℕ) : EReal :=
  ((∑ k ∈ Finset.range n, X r k * W r k) * (cH * Ideal.div (rw' X φ n r) (wsq X φ n r))) * (φ : EReal)

/-- The gradient as differentiating the formula gives it. -/
theorem hdx_eq (X W : ℕ → ℕ → EReal) {φ : ℝ} (hφ : 0 < φ) (n r c : ℕ) :
    W r c * rw' X φ n r + X r c * hms X W φ n r + hms X W φ n r * X r c = hdx X W φ n r c := by
  unfold hdx hms
  rcases wsq_cases X hφ n r with ⟨hm, hr⟩ | ⟨t, ht, hm, hr⟩
  · have h0 : Ideal.div 0 ⊤ = 0 := by simp [Ideal.div]
    rw [hr, hm, h0]
    simp only [zero_mul, mul_zero, add_zero]
  · rw [hr, hm]
    have hq : 0 < Real.sqrt t := Real.sqrt_pos.mpr ht
    have hρ : 0 ≤ (Real.sqrt t)⁻¹ := (inv_pos.mpr hq).le
    have hsq : (Real.sqrt t)⁻¹ * (Real.sqrt t)⁻¹ = t⁻¹ := by
      rw [← mul_inv, Real.mul_self_sqrt ht.le]
    generalize (Real.sqrt t)⁻¹ = ρ at hρ hsq
    have hsum : ∑ k ∈ Finset.range n, W r k * (X r k * (ρ : EReal)) = (∑ k ∈ Finset.range n, X r k * W r k) * (ρ : EReal) := by
      rw [← sum_mul_coe _ _ hρ]
      exact Finset.sum_congr rfl fun k _ => by rw [← mul_assoc, mul_comm (W r k)]
    rw [hsum]
    generalize ∑ k ∈ Finset.range n, X r k * W r k = A
    rw [cH_eq, Ideal.div_coe ht.ne',
      sub_eq_add_neg, EReal.left_distrib_of_nonneg_of_ne_top (by exact_mod_cast hρ) (EReal.coe_ne_top ρ),
      add_assoc, mul_comm (W r c)]
    congr 1
    have e1 : (ρ : EReal) * -(X r c * ρ * (A * ρ * (φ : EReal)))
        = X r c * A * ((-(ρ * ρ * ρ * φ) : ℝ) : EReal) := by
      rw [EReal.coe_neg, mul_neg, mul_neg]
      simp only [EReal.coe_mul]
      ac_rfl
    have e2 : X r c * (A * (((-(1 / 2) : ℝ) : EReal) * ((ρ : EReal) * ((1 / t : ℝ) : EReal))) * (φ : EReal))
        = X r c * A * ((-(1 / 2) * ρ * (1 / t) * φ : ℝ) : EReal) := by
      simp only [EReal.coe_mul]
      ac_rfl
    rw [mul_comm _ (X r c), e1, e2, add_self', mul_assoc, ← EReal.coe_mul]
    congr 2
    rw [one_div t, ← hsq]; ring

/-- A normalised entry is finite. -/
theorem norm_fin (X : ℕ → ℕ → EReal) {φ : ℝ} (hφ : 0 < φ) {n r c : ℕ} (hc : c < n) :
    X r c * rw' X φ n r ≠ ⊤ ∧ X r c * rw' X φ n r ≠ ⊥ := by
  rcases wsq_cases X hφ n r with ⟨-, hr⟩ | ⟨t, ht, hm, hr⟩
  · rw [hr, mul_zero]; exact ⟨EReal.zero_ne_top, EReal.zero_ne_bot⟩
  · have hx : X r c * X r c ≤ ∑ k ∈ Finset.range n, X r k * X r k :=
      Finset.single_le_sum (f := fun k => X r k * X r k) (fun _ _ => sq_nonneg' _) (Finset.mem_range.mpr hc)
    have hne : ∑ k ∈ Finset.range n, X r k * X r k ≠ ⊤ := by
      intro h
      obtain ⟨e, -, hE⟩ := cE_pos
      unfold wsq at hm
      rw [h, EReal.top_mul_coe_of_pos hφ, hE] at hm
      exact absurd hm (by rw [EReal.top_add_coe]; exact (EReal.coe_ne_top t).symm)
    have hx' : X r c * X r c ≠ ⊤ := fun h => hne (top_le_iff.mp (h ▸ hx))
    generalize X r c = x at hx'
    rw [hr]
    induction x with
    | bot => exact absurd rfl hx'
    | top => exact absurd rfl hx'
    | coe x => rw [← EReal.coe_mul]; exact ⟨EReal.coe_ne_top _, EReal.coe_ne_bot _⟩

/-- A product of finite values is finite. -/
theorem fin_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem rw'_congr {X X' : ℕ → ℕ → EReal} {φ : ℝ} {n r r' : ℕ} (h : ∀ k < n, X r k = X' r' k) : rw' X φ n r = rw' X' φ n r' := by
  unfold rw' wsq
  rw [Finset.sum_congr rfl fun k hk => by rw [h k (Finset.mem_range.mp hk)]]

/-- The width 128. -/
theorem c128_eq : Ideal.ofBits .f32 0x43000000#32 = ((128 : ℝ) : EReal) := by simp [Ideal.ofBits, Ideal.ieee, -EReal.coe_mul]; norm_num
theorem div128 (x : EReal) : Ideal.div x (Ideal.ofBits .f32 0x43000000#32) = x * ((1 / 128 : ℝ) : EReal) := by
  rw [c128_eq, Ideal.div_coe (by norm_num)]

/-! ## The steps in a kernel -/

section Kernel
variable {m n : ℕ} {r c : ℕ}

/-- The reciprocal root of a head's mean squares. -/
theorem rd_headRms (x : FVec Ideal ⟨2, ![m, n]⟩ .f32) (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) {X : ℕ → ℕ → EReal} {R : ℕ} (hx : ∀ k < n, rd x r k = X R k) (hr : r < m) :
    rd (rsqrt (addf (divf (shapeCast ⟨2, ![m, 1]⟩ (multiReduction .add [1] ⟨1, ![m]⟩ (mulf x x) 0x00000000#32 h hφ hacc) hs)
        (broadcast ⟨2, ![m, 1]⟩ (Scalar.ofBits (F := Ideal) .f32 0x43000000#32)))
        (broadcast ⟨2, ![m, 1]⟩ (Scalar.ofBits (F := Ideal) .f32 0x358637BD#32)))) r 0 = rw' X (1 / 128) n R := by
  rw [rd_rsqrt _ hr Nat.one_pos, rd_addf, rd_divf _ _ hr Nat.one_pos, rd_column _ _ hr, rd1_sumCols _ _ _ _ _ hr,
    rd_broadcast _ hr Nat.one_pos, rd_broadcast _ hr Nat.one_pos,
    Finset.sum_congr rfl fun k hk => by rw [rd_mulf, hx k (Finset.mem_range.mp hk)]]
  exact congrArg Ideal.rsqrt (congrArg (· + cE) (div128 _))

/-- A head's entries times the reciprocal root. -/
theorem rd_headNorm (x : FVec Ideal ⟨2, ![m, n]⟩ .f32) (rr : FVec Ideal ⟨2, ![m, 1]⟩ .f32) (hb : (⟨2, ![m, 1]⟩ : Shape).Broadcasts ⟨2, ![m, n]⟩)
    {a b : EReal} (hrr : rd rr r 0 = b) (hx : rd x r c = a) (hr : r < m) (hc : c < n) :
    rd (mulf x (broadcastTo ⟨2, ![m, n]⟩ rr hb)) r c = a * b := by
  rw [rd_mulf, rd_broadcastCol _ _ hr hc, hrr, hx]

/-- The gradient through the normalisation of a head by its mean squares. -/
theorem rd_headDx (w xh : FVec Ideal ⟨2, ![m, n]⟩ .f32) (rr : FVec Ideal ⟨2, ![m, 1]⟩ .f32)
    (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) (hb hb' : (⟨2, ![m, 1]⟩ : Shape).Broadcasts ⟨2, ![m, n]⟩)
    {X W : ℕ → ℕ → EReal} {R : ℕ} (hrr : rd rr r 0 = rw' X (1 / 128) n R) (hw : ∀ k < n, rd w r k = W R k)
    (hx : ∀ k < n, rd xh r k = X R k * rw' X (1 / 128) n R) (hr : r < m) (hc : c < n) :
    rd (mulf (broadcastTo ⟨2, ![m, n]⟩ rr hb) (subf w (mulf xh (broadcastTo ⟨2, ![m, n]⟩
        (divf (shapeCast ⟨2, ![m, 1]⟩ (multiReduction .add [1] ⟨1, ![m]⟩ (mulf w xh) 0x00000000#32 h hφ hacc) hs)
          (broadcast ⟨2, ![m, 1]⟩ (Scalar.ofBits (F := Ideal) .f32 0x43000000#32))) hb')))) r c = hdx X W (1 / 128) n R c := by
  rw [rd_mulf, rd_broadcastCol _ _ hr hc, rd_subf _ _ hr hc, rd_mulf, rd_broadcastCol _ _ hr hc,
    rd_divf _ _ hr Nat.one_pos, rd_column _ _ hr, rd1_sumCols _ _ _ _ _ hr, rd_broadcast _ hr Nat.one_pos,
    Finset.sum_congr rfl fun k hk => by rw [rd_mulf, hw k (Finset.mem_range.mp hk), hx k (Finset.mem_range.mp hk)],
    hrr, hw c hc, hx c hc]
  exact congrArg (fun z => rw' X (1 / 128) n R * (W R c - X R c * rw' X (1 / 128) n R * z)) (div128 _)

end Kernel

/-! ## The steps as the host prints them -/

section Formula
variable {m n : ℕ} {r c : ℕ}

/-- The shifted mean square of a head. -/
theorem rd_hostHeadMsq (x : FVec Ideal ⟨2, ![m, n]⟩ .f32) (h : (⟨2, ![m, n]⟩ : Shape).ReducesTo [1] ⟨1, ![m]⟩)
    (hu : 0 < (⟨0, ![]⟩ : Shape).numel) (hs : (⟨1, ![m]⟩ : Shape).BroadcastsInDim ⟨2, ![m, 1]⟩ ![0])
    (hb hb' : (⟨0, ![]⟩ : Shape).BroadcastsInDim ⟨2, ![m, 1]⟩ ![]) {X : ℕ → ℕ → EReal} (hx : ∀ k < n, rd x r k = X r k) (hr : r < m) :
    rd (addf (Host.divf (broadcastInDim ⟨2, ![m, 1]⟩ ![0] hs
          (Host.reduceAdd (mulf x x) (constant (F := Ideal) ⟨0, ![]⟩ .f32 0x00000000#32) h hu))
        (broadcastInDim ⟨2, ![m, 1]⟩ ![] hb (constant (F := Ideal) ⟨0, ![]⟩ .f32 0x43000000#32)))
        (broadcastInDim ⟨2, ![m, 1]⟩ ![] hb' (constant (F := Ideal) ⟨0, ![]⟩ .f32 0x358637BD#32))) r 0 = wsq X (1 / 128) n r := by
  rw [rd_addf, rd_hostDivf _ _ hr Nat.one_pos, rd_bcastColVec _ _ hr Nat.one_pos, rd1_hostSumCols _ _ _ _ hr, cst0, zero_add,
    rd_bcastConst _ _ hr Nat.one_pos, rd_bcastConst _ _ hr Nat.one_pos, div128,
    Finset.sum_congr rfl fun k hk => by rw [rd_mulf, hx k (Finset.mem_range.mp hk)]]
  rfl

/-- The gradient through the normalisation of a head, as differentiating the formula prints it. -/
theorem rd_hostHeadDx (x w : FVec Ideal ⟨2, ![m, n]⟩ .f32) (rr s : FVec Ideal ⟨2, ![m, 1]⟩ .f32)
    (h : (⟨2, ![m, n]⟩ : Shape).ReducesTo [1] ⟨1, ![m]⟩) (h' : (⟨2, ![m, 1]⟩ : Shape).ReducesTo [1] ⟨1, ![m]⟩)
    (hu hu' : 0 < (⟨0, ![]⟩ : Shape).numel)
    (hs : (⟨1, ![m]⟩ : Shape).ShapeCasts ⟨2, ![m, 1]⟩)
    (hb hb' : (⟨0, ![]⟩ : Shape).BroadcastsInDim ⟨2, ![m, 1]⟩ ![]) (hv : (⟨1, ![m]⟩ : Shape).BroadcastsInDim ⟨2, ![m, n]⟩ ![0])
    (hd : (⟨2, ![m, 1]⟩ : Shape).BroadcastsInDim ⟨2, ![m, n]⟩ ![0, 1]) {X W : ℕ → ℕ → EReal}
    (hrr : rd rr r 0 = rw' X (1 / 128) n r) (hss : rd s r 0 = wsq X (1 / 128) n r) (hx : ∀ k < n, rd x r k = X r k)
    (hw : ∀ k < n, rd w r k = W r k) (hr : r < m) (hc : c < n) :
    rd (addf (addf (mulf w (broadcastInDim ⟨2, ![m, n]⟩ ![0, 1] hd rr))
        (mulf x (broadcastInDim ⟨2, ![m, n]⟩ ![0] hv (Host.reduceAdd (Host.divf
          (mulf (shapeCast ⟨2, ![m, 1]⟩ (Host.reduceAdd (mulf x w) (constant (F := Ideal) ⟨0, ![]⟩ .f32 0x00000000#32) h hu) hs)
            (mulf (broadcastInDim ⟨2, ![m, 1]⟩ ![] hb (constant (F := Ideal) ⟨0, ![]⟩ .f32 0xBF000000#32)) (Host.divf rr s)))
          (broadcastInDim ⟨2, ![m, 1]⟩ ![] hb' (constant (F := Ideal) ⟨0, ![]⟩ .f32 0x43000000#32)))
          (constant (F := Ideal) ⟨0, ![]⟩ .f32 0x00000000#32) h' hu'))))
        (mulf (broadcastInDim ⟨2, ![m, n]⟩ ![0] hv (Host.reduceAdd (Host.divf
          (mulf (shapeCast ⟨2, ![m, 1]⟩ (Host.reduceAdd (mulf x w) (constant (F := Ideal) ⟨0, ![]⟩ .f32 0x00000000#32) h hu) hs)
            (mulf (broadcastInDim ⟨2, ![m, 1]⟩ ![] hb (constant (F := Ideal) ⟨0, ![]⟩ .f32 0xBF000000#32)) (Host.divf rr s)))
          (broadcastInDim ⟨2, ![m, 1]⟩ ![] hb' (constant (F := Ideal) ⟨0, ![]⟩ .f32 0x43000000#32)))
          (constant (F := Ideal) ⟨0, ![]⟩ .f32 0x00000000#32) h' hu')) x)) r c = hdx X W (1 / 128) n r c := by
  rw [← hdx_eq X W (by norm_num), rd_addf, rd_addf, rd_mulf, rd_mulf, rd_mulf, rd_bcastCol _ _ hr hc, rd_bcastColVec _ _ hr hc,
    rd1_hostSumCols _ _ _ _ hr, cst0, zero_add, Finset.sum_range_one, rd_hostDivf _ _ hr Nat.one_pos, rd_mulf, rd_column _ _ hr,
    rd1_hostSumCols _ _ _ _ hr, cst0, zero_add, rd_mulf, rd_bcastConst _ _ hr Nat.one_pos,
    rd_bcastConst _ _ hr Nat.one_pos, div128, rd_hostDivf _ _ hr Nat.one_pos, hrr, hss,
    Finset.sum_congr rfl fun k hk => by rw [rd_mulf, hw k (Finset.mem_range.mp hk), hx k (Finset.mem_range.mp hk)], hw c hc, hx c hc]
  rfl

end Formula

/-- A sum over the rows of eight heads, the heads of each row together. -/
theorem sum_heads (f : ℕ → EReal) (n : ℕ) : ∑ R ∈ Finset.range (8 * n), f R
    = ∑ k ∈ Finset.range n, f (8 * k) + ∑ k ∈ Finset.range n, f (8 * k + 1) + ∑ k ∈ Finset.range n, f (8 * k + 2)
      + ∑ k ∈ Finset.range n, f (8 * k + 3) + ∑ k ∈ Finset.range n, f (8 * k + 4) + ∑ k ∈ Finset.range n, f (8 * k + 5)
      + ∑ k ∈ Finset.range n, f (8 * k + 6) + ∑ k ∈ Finset.range n, f (8 * k + 7) := by
  induction n with
  | zero => simp
  | succ n ih =>
    rw [show 8 * (n + 1) = 8 * n + 1 + 1 + 1 + 1 + 1 + 1 + 1 + 1 by ring]
    simp only [Finset.sum_range_succ]
    rw [ih]
    abel

/-- A matrix as a table of heads of width 128, eight to a row. -/
abbrev hT (X : ℕ → ℕ → EReal) : ℕ → ℕ → EReal := fun R k => X (R / 8) (128 * (R % 8) + k)

/-- A head of a tile. -/
theorem rd_headSlice {m T r H b : ℕ} (v : (⟨2, ![m, 1024]⟩ : Shape).Idx → EReal) (hs : (⟨2, ![m, 1024]⟩ : Shape).Slices ![0, b] ⟨2, ![m, 128]⟩)
    {X : ℕ → ℕ → EReal} {k : ℕ} (hv : ∀ k < 1024, rd v r k = X (m * T + r) k) (hH : H < 8) (hb : b = 128 * H) (hr : r < m) (hk : k < 128) :
    rd (extractStridedSlice ⟨2, ![m, 128]⟩ ![0, b] v hs) r k = hT X (8 * (m * T + r) + H) k := by
  rw [rd_slice _ _ _ hr hk]
  show rd v (0 + r) (b + k) = _
  rw [Nat.zero_add, hv _ (by omega)]
  show X _ _ = X ((8 * (m * T + r) + H) / 8) (128 * ((8 * (m * T + r) + H) % 8) + k)
  congr 1 <;> omega

end Cert.Rd

end
-- ==== Proof.C26Kernel.lean ====
module

public import proofs.«01_k».proof.Proof.Conv
public import proofs.«01_k».proof.Proof.Gen.Kernel26Ideal.Value
public import Idealize.ShloMosaic.Lib.Tactic

@[expose] public section

set_option maxRecDepth 16384

noncomputable section

namespace Cert.C26

open Cert.Kernel26Ideal Cert.Kernel26Ideal.Gen Cert.Kernel26Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The tiles between their halos, of the gradient, the gate and the value; and the gradients of the two convolutions. -/
abbrev dE : FVec Ideal S1040x512 .f32 := k0_pay6 (grid0.coords t) (iblk m c 0 t) (iblk m c 1 t) (iblk m c 2 t)
abbrev gE : FVec Ideal S1040x512 .f32 := k0_pay7 (grid0.coords t) (iblk m c 3 t) (iblk m c 4 t) (iblk m c 5 t)
abbrev vE : FVec Ideal S1040x512 .f32 := k0_pay10 (k0_pay8 (grid0.coords t) (iblk m c 6 t)) (iblk m c 7 t) (Scalar.cmpi .eq (BitVec.ofNat 32 (grid0.coords t 1).val) 3#32) (iblk m c 8 t) k0_pay9
abbrev dgE : FVec Ideal S1040x512 .f32 := k0_pay13 (dE m c t) (gE m c t) (k0_pay8 (grid0.coords t) (iblk m c 6 t)) (iblk m c 7 t) (Scalar.cmpi .eq (BitVec.ofNat 32 (grid0.coords t 1).val) 3#32) (iblk m c 8 t) k0_pay9 (iblk m c 9 t) (iblk m c 10 t)
abbrev dvE : FVec Ideal S1040x512 .f32 := k0_pay14 (dE m c t) (gE m c t) (iblk m c 9 t)

/-- What the body leaves in output window 11 at a point. -/
theorem outs11 : (outsAt0 m c t.val t.isLt).1 = k0_pay2 (k0_pay15 (iblk m c 9 t) (dgE m c t)) := by
  by_cases h0 : t.val % 4 = 0
  · rw [outsAt0_A m c t h0 (by omega) (by omega) (by omega)]
    dsimp only
    unfold out0_A_11
    rw [View.read_writes_eq_canon]; swap
    · intro y; apply cover0_A_11
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x512) hz2, View.ld_unit_zero (S := S1024x512) hz2, View.ld_unit_zero (S := S3x512) hz2]
  · rw [outsAt0_B m c t h0 (by omega) (by omega) (by omega)]
    dsimp only
    unfold out0_B_11
    rw [View.read_writes_eq_canon]; swap
    · intro y; apply cover0_B_11
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x512) hz2, View.ld_unit_zero (S := S1024x512) hz2, View.ld_unit_zero (S := S3x512) hz2]

/-- What the body leaves in output window 12 at a point. -/
theorem outs12 : (outsAt0 m c t.val t.isLt).2.1 = k0_pay3 (k0_pay16 (iblk m c 10 t) (dvE m c t)) := by
  by_cases h0 : t.val % 4 = 0
  · rw [outsAt0_A m c t h0 (by omega) (by omega) (by omega)]
    dsimp only
    unfold out0_A_12
    rw [View.read_writes_eq_canon]; swap
    · intro y; apply cover0_A_12
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x512) hz2, View.ld_unit_zero (S := S1024x512) hz2, View.ld_unit_zero (S := S3x512) hz2]
  · rw [outsAt0_B m c t h0 (by omega) (by omega) (by omega)]
    dsimp only
    unfold out0_B_12
    rw [View.read_writes_eq_canon]; swap
    · intro y; apply cover0_B_12
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x512) hz2, View.ld_unit_zero (S := S1024x512) hz2, View.ld_unit_zero (S := S3x512) hz2]

/-- The taps at the first row tile: this tile's sums. -/
theorem outs13_A (h0 : t.val % 4 = 0) : (outsAt0 m c t.val t.isLt).2.2.1 = k0_pay17 (gE m c t) (dgE m c t) := by
  rw [outsAt0_A m c t h0 (by omega) (by omega) (by omega)]
  dsimp only
  unfold out0_A_13
  rw [View.read_writes_eq_canon]; swap
  · intro y; apply cover0_A_13
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x512) hz2, View.ld_unit_zero (S := S1024x512) hz2, View.ld_unit_zero (S := S3x512) hz2]

/-- At a later tile: this tile's sums over what the tile before left. -/
theorem outs13_B (h0 : ¬t.val % 4 = 0) (ht : t.val - 1 < cfg0.N) : (outsAt0 m c t.val t.isLt).2.2.1 = k0_pay4 (k0_pay17 (gE m c t) (dgE m c t)) (outsAt0 m c (t.val - 1) ht).2.2.1 := by
  rw [outsAt0_B m c t h0 (by omega) (by omega) (by omega)]
  dsimp only
  unfold out0_B_13
  rw [View.read_writes_eq_canon]; swap
  · intro y; apply cover0_B_13
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_13 t).read_unread, View.ld_unit_zero (S := S8x512) hz2, View.ld_unit_zero (S := S1024x512) hz2, View.ld_unit_zero (S := S3x512) hz2]

/-- The taps at the first row tile: this tile's sums. -/
theorem outs14_A (h0 : t.val % 4 = 0) : (outsAt0 m c t.val t.isLt).2.2.2 = k0_pay1 (vE m c t) (dvE m c t) (k0_pay18 (vE m c t) (dvE m c t)) := by
  rw [outsAt0_A m c t h0 (by omega) (by omega) (by omega)]
  dsimp only
  unfold out0_A_14
  rw [View.read_writes_eq_canon]; swap
  · intro y; apply cover0_A_14
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S8x512) hz2, View.ld_unit_zero (S := S1024x512) hz2, View.ld_unit_zero (S := S3x512) hz2]

/-- At a later tile: this tile's sums over what the tile before left. -/
theorem outs14_B (h0 : ¬t.val % 4 = 0) (ht : t.val - 1 < cfg0.N) : (outsAt0 m c t.val t.isLt).2.2.2 = k0_pay5 (vE m c t) (dvE m c t) (k0_pay18 (vE m c t) (dvE m c t)) (outsAt0 m c (t.val - 1) ht).2.2.2 := by
  rw [outsAt0_B m c t h0 (by omega) (by omega) (by omega)]
  dsimp only
  unfold out0_B_14
  rw [View.read_writes_eq_canon]; swap
  · intro y; apply cover0_B_14
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_14 t).read_unread, View.ld_unit_zero (S := S8x512) hz2, View.ld_unit_zero (S := S1024x512) hz2, View.ld_unit_zero (S := S3x512) hz2]

/-- The arguments read at natural coordinates. -/
abbrev X0 : ℕ → ℕ → EReal := rd (m := 4096) (n := 5632) (m (c.tc.loc main_arg0))
abbrev X1 : ℕ → ℕ → EReal := rd (m := 4096) (n := 5632) (m (c.tc.loc main_arg1))
abbrev X2 : ℕ → ℕ → EReal := rd (m := 4096) (n := 5632) (m (c.tc.loc main_arg2))
abbrev X3 : ℕ → ℕ → EReal := rd (m := 3) (n := 5632) (m (c.tc.loc main_arg3))
abbrev X4 : ℕ → ℕ → EReal := rd (m := 3) (n := 5632) (m (c.tc.loc main_arg4))

/-- The grid's second coordinate is the row tile. -/
theorem gi_val : (grid0.coords t 1).val = t.val % 4 :=
  (by decide +kernel : ∀ t : Fin grid0.N, (grid0.coords t 1).val = t.val % 4) t

theorem t_lt : t.val < 44 := lt_of_lt_of_eq t.isLt (by decide +kernel)

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (512 * (t.val / 4) + k) := by
  have e := (by decide +kernel : ∀ t : Fin grid0.N, win0_0.index t 0 = t.val % 4 * 128 - 1 ∧ win0_0.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (512 * (t.val / 4) + k) := by
  have e := (by decide +kernel : ∀ t : Fin grid0.N, win0_1.index t 0 = t.val % 4 ∧ win0_1.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (512 * (t.val / 4) + k) := by
  have e := (by decide +kernel : ∀ t : Fin grid0.N, win0_2.index t 0 = min ((t.val % 4 + 1) * 128) 511 ∧ win0_2.index t 1 = t.val / 4) t
  rw [rd_in _ hr hk]
  unfold iblk
  rw [View.read_apply]
  show V m c main_arg0 _ = _
  rw [V_main_arg0]
  refine (rd_of_val (m := 4096) (n := 5632) _ _ ?_ ?_).symm
  · show win0_2.index t 0 * 8 + 1 * r = _; omega
  · show win0_2.index t 1 * 512 + 1 * k = _; omega

/-- The eight rows above the tile, window 3. -/
theorem blk3 {r k : ℕ} (hr : r < 8) (hk : k < 512) :
    rd (m := 8) (n := 512) (iblk m c 3 t) r k = X1 m c ((t.val % 4 * 128 - 1) * 8 + r) (512 * (t.val / 4) + k) := by
  have e := (by decide +kernel : ∀ t : Fin grid0.N, win0_3.index t 0 = t.val % 4 * 128 - 1 ∧ win0_3.index t 1 = t.val / 4) t
  rw [rd_in _ hr hk]
  unfold iblk
  rw [View.read_apply]
  show V m c main_arg1 _ = _
  rw [V_main_arg1]
  refine (rd_of_val (m := 4096) (n := 5632) _ _ ?_ ?_).symm
  · show win0_3.index t 0 * 8 + 1 * r = _; omega
  · show win0_3.index t 1 * 512 + 1 * k = _; omega

/-- The tile's rows, window 4. -/
theorem blk4 {r k : ℕ} (hr : r < 1024) (hk : k < 512) :
    rd (m := 1024) (n := 512) (iblk m c 4 t) r k = X1 m c (1024 * (t.val % 4) + r) (512 * (t.val / 4) + k) := by
  have e := (by decide +kernel : ∀ t : Fin grid0.N, win0_4.index t 0 = t.val % 4 ∧ win0_4.index t 1 = t.val / 4) t
  rw [rd_in _ hr hk]
  unfold iblk
  rw [View.read_apply]
  show V m c main_arg1 _ = _
  rw [V_main_arg1]
  refine (rd_of_val (m := 4096) (n := 5632) _ _ ?_ ?_).symm
  · show win0_4.index t 0 * 1024 + 1 * r = _; omega
  · show win0_4.index t 1 * 512 + 1 * k = _; omega

/-- The eight rows below the tile, window 5. -/
theorem blk5 {r k : ℕ} (hr : r < 8) (hk : k < 512) :
    rd (m := 8) (n := 512) (iblk m c 5 t) r k = X1 m c (min ((t.val % 4 + 1) * 128) 511 * 8 + r) (512 * (t.val / 4) + k) := by
  have e := (by decide +kernel : ∀ t : Fin grid0.N, win0_5.index t 0 = min ((t.val % 4 + 1) * 128) 511 ∧ win0_5.index t 1 = t.val / 4) t
  rw [rd_in _ hr hk]
  unfold iblk
  rw [View.read_apply]
  show V m c main_arg1 _ = _
  rw [V_main_arg1]
  refine (rd_of_val (m := 4096) (n := 5632) _ _ ?_ ?_).symm
  · show win0_5.index t 0 * 8 + 1 * r = _; omega
  · show win0_5.index t 1 * 512 + 1 * k = _; omega

/-- The eight rows above the tile, window 6. -/
theorem blk6 {r k : ℕ} (hr : r < 8) (hk : k < 512) :
    rd (m := 8) (n := 512) (iblk m c 6 t) r k = X2 m c ((t.val % 4 * 128 - 1) * 8 + r) (512 * (t.val / 4) + k) := by
  have e := (by decide +kernel : ∀ t : Fin grid0.N, win0_6.index t 0 = t.val % 4 * 128 - 1 ∧ win0_6.index t 1 = t.val / 4) t
  rw [rd_in _ hr hk]
  unfold iblk
  rw [View.read_apply]
  show V m c main_arg2 _ = _
  rw [V_main_arg2]
  refine (rd_of_val (m := 4096) (n := 5632) _ _ ?_ ?_).symm
  · show win0_6.index t 0 * 8 + 1 * r = _; omega
  · show win0_6.index t 1 * 512 + 1 * k = _; omega

/-- The tile's rows, window 7. -/
theorem blk7 {r k : ℕ} (hr : r < 1024) (hk : k < 512) :
    rd (m := 1024) (n := 512) (iblk m c 7 t) r k = X2 m c (1024 * (t.val % 4) + r) (512 * (t.val / 4) + k) := by
  have e := (by decide +kernel : ∀ t : Fin grid0.N, win0_7.index t 0 = t.val % 4 ∧ win0_7.index t 1 = t.val / 4) t
  rw [rd_in _ hr hk]
  unfold iblk
  rw [View.read_apply]
  show V m c main_arg2 _ = _
  rw [V_main_arg2]
  refine (rd_of_val (m := 4096) (n := 5632) _ _ ?_ ?_).symm
  · show win0_7.index t 0 * 1024 + 1 * r = _; omega
  · show win0_7.index t 1 * 512 + 1 * k = _; omega

/-- The eight rows below the tile, window 8. -/
theorem blk8 {r k : ℕ} (hr : r < 8) (hk : k < 512) :
    rd (m := 8) (n := 512) (iblk m c 8 t) r k = X2 m c (min ((t.val % 4 + 1) * 128) 511 * 8 + r) (512 * (t.val / 4) + k) := by
  have e := (by decide +kernel : ∀ t : Fin grid0.N, win0_8.index t 0 = min ((t.val % 4 + 1) * 128) 511 ∧ win0_8.index t 1 = t.val / 4) t
  rw [rd_in _ hr hk]
  unfold iblk
  rw [View.read_apply]
  show V m c main_arg2 _ = _
  rw [V_main_arg2]
  refine (rd_of_val (m := 4096) (n := 5632) _ _ ?_ ?_).symm
  · show win0_8.index t 0 * 8 + 1 * r = _; omega
  · show win0_8.index t 1 * 512 + 1 * k = _; omega

/-- The gate's taps at the tile's columns. -/
theorem blk9 {r k : ℕ} (hr : r < 3) (hk : k < 512) :
    rd (m := 3) (n := 512) (iblk m c 9 t) r k = X3 m c (r) (512 * (t.val / 4) + k) := by
  have e := (by decide +kernel : ∀ t : Fin grid0.N, win0_9.index t 0 = 0 ∧ win0_9.index t 1 = t.val / 4) t
  rw [rd_in _ hr hk]
  unfold iblk
  rw [View.read_apply]
  show V m c main_arg3 _ = _
  rw [V_main_arg3]
  refine (rd_of_val (m := 3) (n := 5632) _ _ ?_ ?_).symm
  · show win0_9.index t 0 * 3 + 1 * r = _; omega
  · show win0_9.index t 1 * 512 + 1 * k = _; omega

/-- The value's taps at the tile's columns. -/
theorem blk10 {r k : ℕ} (hr : r < 3) (hk : k < 512) :
    rd (m := 3) (n := 512) (iblk m c 10 t) r k = X4 m c (r) (512 * (t.val / 4) + k) := by
  have e := (by decide +kernel : ∀ t : Fin grid0.N, win0_10.index t 0 = 0 ∧ win0_10.index t 1 = t.val / 4) t
  rw [rd_in _ hr hk]
  unfold iblk
  rw [View.read_apply]
  show V m c main_arg4 _ = _
  rw [V_main_arg4]
  refine (rd_of_val (m := 3) (n := 5632) _ _ ?_ ?_).symm
  · show win0_10.index t 0 * 3 + 1 * r = _; omega
  · show win0_10.index t 1 * 512 + 1 * k = _; omega

/-- The tile with eight rows on each side, windows 0 to 2, is the array's rows, zero above the first. -/
theorem dE_rd {r k : ℕ} (hr : r < 1040) (hk : k < 512) :
    rd (m := 1040) (n := 512) (dE m c t) r k = halo (X0 m c) (1024 * (t.val % 4) + r) (512 * (t.val / 4) + k) := by
  unfold dE k0_pay6
  dsimp only
  refine rd_tile (tb := 1024) (nI := 4) (X0 m c) (iblk m c 0 t) (iblk m c 2 t) (iblk m c 1 t) _ _ _ (by omega) rfl
    (by omega) (fun R C h => rd_out _ (by omega)) (edge t 0 (by omega) _) (edge t 3 (by omega) _) ?_ ?_ ?_ hr hk
  · intro h r k hr hk; rw [blk0 m c t hr hk]; congr 1; omega
  · intro r k hr hk; exact blk1 m c t hr hk
  · intro h r k hr hk; rw [blk2 m c t hr hk]; congr 1; omega

/-- The tile with eight rows on each side, windows 3 to 5, is the array's rows, zero above the first. -/
theorem gE_rd {r k : ℕ} (hr : r < 1040) (hk : k < 512) :
    rd (m := 1040) (n := 512) (gE m c t) r k = halo (X1 m c) (1024 * (t.val % 4) + r) (512 * (t.val / 4) + k) := by
  unfold gE k0_pay7
  dsimp only
  refine rd_tile (tb := 1024) (nI := 4) (X1 m c) (iblk m c 3 t) (iblk m c 5 t) (iblk m c 4 t) _ _ _ (by omega) rfl
    (by omega) (fun R C h => rd_out _ (by omega)) (edge t 0 (by omega) _) (edge t 3 (by omega) _) ?_ ?_ ?_ hr hk
  · intro h r k hr hk; rw [blk3 m c t hr hk]; congr 1; omega
  · intro r k hr hk; exact blk4 m c t hr hk
  · intro h r k hr hk; rw [blk5 m c t hr hk]; congr 1; omega

/-- The tile with eight rows on each side, windows 6 to 8, is the array's rows, zero above the first. -/
theorem vE_rd {r k : ℕ} (hr : r < 1040) (hk : k < 512) :
    rd (m := 1040) (n := 512) (vE m c t) r k = halo (X2 m c) (1024 * (t.val % 4) + r) (512 * (t.val / 4) + k) := by
  unfold vE k0_pay10 k0_pay8 k0_pay9
  dsimp only
  refine rd_tile (tb := 1024) (nI := 4) (X2 m c) (iblk m c 6 t) (iblk m c 8 t) (iblk m c 7 t) _ _ _ (by omega) rfl
    (by omega) (fun R C h => rd_out _ (by omega)) (edge t 0 (by omega) _) (edge t 3 (by omega) _) ?_ ?_ ?_ hr hk
  · intro h r k hr hk; rw [blk6 m c t hr hk]; congr 1; omega
  · intro r k hr hk; exact blk7 m c t hr hk
  · intro h r k hr hk; rw [blk8 m c t hr hk]; congr 1; omega

/-- The gradients of the gate's convolution and of the value's. -/
def dgN (D G V A B : ℕ → ℕ → EReal) (R C : ℕ) : EReal := dsl (D R C * conv3 V B R C) (conv3 G A R C)
def dvN (D G A : ℕ → ℕ → EReal) (R C : ℕ) : EReal := D R C * (conv3 G A R C * sgm (conv3 G A R C))

theorem cg_rd {r k : ℕ} (hr : 8 + r < 1040) (hk : k < 512) : rd (m := 1040) (n := 512) (k0_pay11 (gE m c t) (iblk m c 9 t)) (8 + r) k
    = conv3 (X1 m c) (X3 m c) (1024 * (t.val % 4) + r) (512 * (t.val / 4) + k) := by
  unfold k0_pay11
  dsimp only
  exact rd_tileConv3 (X1 m c) (X3 m c) (gE m c t) (iblk m c 9 t) slices_S3x512_o0_0_S1x512 slices_S3x512_o1_0_S1x512 slices_S3x512_o2_0_S1x512 broadcasts_S1x512_S1040x512 broadcasts_S1x512_S1040x512 broadcasts_S1x512_S1040x512
    rotates_S1040x512_d0 rotates_S1040x512_d0 (fun _ _ => gE_rd m c t) (fun _ _ => blk9 m c t) hr hk

theorem dgE_rd {r k : ℕ} (hr : 8 + r < 1040) (hk : k < 512) : rd (m := 1040) (n := 512) (dgE m c t) (8 + r) k = dgN (X0 m c) (X1 m c) (X2 m c) (X3 m c) (X4 m c) (1024 * (t.val % 4) + r) (512 * (t.val / 4) + k) := by
  have hc := cg_rd m c t hr hk
  have hd := (dE_rd m c t hr hk).trans (halo_bk0 _)
  have hv := rd_tileConv3 (X2 m c) (X4 m c) (vE m c t) (iblk m c 10 t) slices_S3x512_o0_0_S1x512 slices_S3x512_o1_0_S1x512 slices_S3x512_o2_0_S1x512 broadcasts_S1x512_S1040x512 broadcasts_S1x512_S1040x512 broadcasts_S1x512_S1040x512
    rotates_S1040x512_d0 rotates_S1040x512_d0 (fun _ _ => vE_rd m c t) (fun _ _ => blk10 m c t) hr hk
  unfold dgE k0_pay13 k0_pay12
  dsimp only
  exact (rd_dsl _ _ hr hk).trans (congrArg₂ dsl ((rd_mulf _ _ _ _).trans (congrArg₂ (· * ·) hd hv)) hc)

theorem dvE_rd {r k : ℕ} (hr : 8 + r < 1040) (hk : k < 512) : rd (m := 1040) (n := 512) (dvE m c t) (8 + r) k = dvN (X0 m c) (X1 m c) (X3 m c) (1024 * (t.val % 4) + r) (512 * (t.val / 4) + k) := by
  have hc := cg_rd m c t hr hk
  have hd := (dE_rd m c t hr hk).trans (halo_bk0 _)
  unfold dvE k0_pay14 k0_pay12
  dsimp only
  exact (rd_mulf _ _ _ _).trans (congrArg₂ (· * ·) hd ((rd_mulf _ _ _ _).trans (congrArg₂ (· * ·) hc ((rd_sgm _ hr hk).trans (congrArg sgm hc)))))

/-- Window 11's block at a point: the gradient of the convolution's input. -/
theorem outs11_rd {r k : ℕ} (hr : r < 1024) (hk : k < 512) : rd (m := 1024) (n := 512) (outsAt0 m c t.val t.isLt).1 r k
    = anti3 (dgN (X0 m c) (X1 m c) (X2 m c) (X3 m c) (X4 m c)) (X3 m c) (1024 * (t.val % 4) + r) (512 * (t.val / 4) + k) := by
  rw [outs11]
  unfold k0_pay2 k0_pay15
  dsimp only
  rw [rd_truncf]
  exact rd_tileAnti3 1039#32 1038#32 (dgN (X0 m c) (X1 m c) (X2 m c) (X3 m c) (X4 m c)) (X3 m c) (dgE m c t) (iblk m c 9 t) slices_S3x512_o0_0_S1x512 slices_S3x512_o1_0_S1x512 slices_S3x512_o2_0_S1x512 broadcasts_S1x512_S1040x512 broadcasts_S1x512_S1040x512 broadcasts_S1x512_S1040x512
    rotates_S1040x512_d0 rotates_S1040x512_d0 slices_S1040x512_o8_0_S1024x512 rfl rfl (fun _ _ => dgE_rd m c t) (fun _ _ => blk9 m c t) rfl hr hk

/-- Window 12's block at a point: the gradient of the convolution's input. -/
theorem outs12_rd {r k : ℕ} (hr : r < 1024) (hk : k < 512) : rd (m := 1024) (n := 512) (outsAt0 m c t.val t.isLt).2.1 r k
    = anti3 (dvN (X0 m c) (X1 m c) (X3 m c)) (X4 m c) (1024 * (t.val % 4) + r) (512 * (t.val / 4) + k) := by
  rw [outs12]
  unfold k0_pay3 k0_pay16
  dsimp only
  rw [rd_truncf]
  exact rd_tileAnti3 1039#32 1038#32 (dvN (X0 m c) (X1 m c) (X3 m c)) (X4 m c) (dvE m c t) (iblk m c 10 t) slices_S3x512_o0_0_S1x512 slices_S3x512_o1_0_S1x512 slices_S3x512_o2_0_S1x512 broadcasts_S1x512_S1040x512 broadcasts_S1x512_S1040x512 broadcasts_S1x512_S1040x512
    rotates_S1040x512_d0 rotates_S1040x512_d0 slices_S1040x512_o8_0_S1024x512 rfl rfl (fun _ _ => dvE_rd m c t) (fun _ _ => blk10 m c t) rfl hr hk

/-- One tile's sums of the gradient in the taps. -/
theorem tile13_rd {r k : ℕ} (hr : r < 8) (hk : k < 512) : rd (m := 8) (n := 512) (k0_pay17 (gE m c t) (dgE m c t)) r k
    = if r < 3 then ∑ i ∈ Finset.range 1024, (dgN (X0 m c) (X1 m c) (X2 m c) (X3 m c) (X4 m c)) (1024 * (t.val % 4) + i) (512 * (t.val / 4) + k)
        * bk (X1 m c) (2 - r) (1024 * (t.val % 4) + i) (512 * (t.val / 4) + k) else 0 := by
  unfold k0_pay17
  dsimp only
  have hsum (s : ℕ) (x : FVec Ideal S1040x512 .f32)
      (hx : ∀ r c', 8 + r < 1040 → c' < 512 → rd (m := 1040) (n := 512) x (8 + r) c' = bk (X1 m c) s (1024 * (t.val % 4) + r) (512 * (t.val / 4) + c')) :=
    rd_tileRow (dgN (X0 m c) (X1 m c) (X2 m c) (X3 m c) (X4 m c)) (X1 m c) (dgE m c t) x s slices_S1040x512_o8_0_S1024x512 reduces_S1024x512_S512 (.inl rfl) rfl
      shapeCasts_S512_S1x512 (fun _ _ => dgE_rd m c t) hx rfl hk
  have hb (sb : BitVec 32) (s : ℕ) (h1 : sb.toNat = s) (h2 : s ≤ 8) (r c' : ℕ) (h : 8 + r < 1040) (h' : c' < 512) :=
    rd_tileBack sb (X1 m c) (gE m c t) s rotates_S1040x512_d0 (fun _ _ => gE_rd m c t) h1 h2 h h'
  exact rd_rows3 (fun r => ∑ i ∈ Finset.range 1024, (dgN (X0 m c) (X1 m c) (X2 m c) (X3 m c) (X4 m c)) (1024 * (t.val % 4) + i) (512 * (t.val / 4) + k)
      * bk (X1 m c) (2 - r) (1024 * (t.val % 4) + i) (512 * (t.val / 4) + k)) _ _ _ _ _
    (hsum 2 _ (hb 2#32 2 rfl (by omega))) (hsum 1 _ (hb 1#32 1 rfl (by omega)))
    (hsum 0 _ fun r c' h h' => rd_tileHere (X1 m c) (gE m c t) (fun _ _ => gE_rd m c t) h h') (fun _ => rd_zero _ _)

/-- One tile's sums of the gradient in the taps. -/
theorem tile14_rd {r k : ℕ} (hr : r < 8) (hk : k < 512) : rd (m := 8) (n := 512) (k0_pay1 (vE m c t) (dvE m c t) (k0_pay18 (vE m c t) (dvE m c t))) r k
    = if r < 3 then ∑ i ∈ Finset.range 1024, (dvN (X0 m c) (X1 m c) (X3 m c)) (1024 * (t.val % 4) + i) (512 * (t.val / 4) + k)
        * bk (X2 m c) (2 - r) (1024 * (t.val % 4) + i) (512 * (t.val / 4) + k) else 0 := by
  unfold k0_pay1 k0_pay18
  dsimp only
  have hsum (s : ℕ) (x : FVec Ideal S1040x512 .f32)
      (hx : ∀ r c', 8 + r < 1040 → c' < 512 → rd (m := 1040) (n := 512) x (8 + r) c' = bk (X2 m c) s (1024 * (t.val % 4) + r) (512 * (t.val / 4) + c')) :=
    rd_tileRow (dvN (X0 m c) (X1 m c) (X3 m c)) (X2 m c) (dvE m c t) x s slices_S1040x512_o8_0_S1024x512 reduces_S1024x512_S512 (.inl rfl) rfl
      shapeCasts_S512_S1x512 (fun _ _ => dvE_rd m c t) hx rfl hk
  have hb (sb : BitVec 32) (s : ℕ) (h1 : sb.toNat = s) (h2 : s ≤ 8) (r c' : ℕ) (h : 8 + r < 1040) (h' : c' < 512) :=
    rd_tileBack sb (X2 m c) (vE m c t) s rotates_S1040x512_d0 (fun _ _ => vE_rd m c t) h1 h2 h h'
  exact rd_rows3 (fun r => ∑ i ∈ Finset.range 1024, (dvN (X0 m c) (X1 m c) (X3 m c)) (1024 * (t.val % 4) + i) (512 * (t.val / 4) + k)
      * bk (X2 m c) (2 - r) (1024 * (t.val % 4) + i) (512 * (t.val / 4) + k)) _ _ _ _ _
    (hsum 2 _ (hb 2#32 2 rfl (by omega))) (hsum 1 _ (hb 1#32 1 rfl (by omega)))
    (hsum 0 _ fun r c' h h' => rd_tileHere (X2 m c) (vE m c t) (fun _ _ => vE_rd m c t) h h') (fun _ => rd_zero _ _)

/-- Window 13's block at a point: the gradient of the taps over the rows so far. -/
theorem outs13_rd : ∀ (n : ℕ) (hn : n < cfg0.N) {r k : ℕ} (_ : r < 8) (_ : k < 512),
    rd (m := 8) (n := 512) (outsAt0 m c n hn).2.2.1 r k
      = taps3 (dgN (X0 m c) (X1 m c) (X2 m c) (X3 m c) (X4 m c)) (X1 m c) (1024 * (n % 4 + 1)) r (512 * (n / 4) + k) := by
  intro n
  induction n with
  | zero =>
    intro hn r k hr hk
    have e := outs13_A m c ⟨0, hn⟩ rfl
    rw [show (outsAt0 m c 0 hn).2.2.1 = _ from e, tile13_rd m c _ hr hk]
    unfold taps3
    simp
  | succ n ih =>
    intro hn r k hr hk
    have hN : n + 1 < 44 := t_lt ⟨n + 1, hn⟩
    by_cases h0 : (n + 1) % 4 = 0
    · have e := outs13_A m c ⟨n + 1, hn⟩ h0
      rw [show (outsAt0 m c (n + 1) hn).2.2.1 = _ from e, tile13_rd m c _ hr hk]
      unfold taps3
      dsimp only
      rw [h0]
      simp
    · have e := outs13_B m c ⟨n + 1, hn⟩ h0 (by show n + 1 - 1 < cfg0.N; omega)
      rw [show (outsAt0 m c (n + 1) hn).2.2.1 = _ from e]
      unfold k0_pay4
      dsimp only
      rw [shapeCast_self, rd_addf, tile13_rd m c _ hr hk]
      have h := ih (by omega) hr hk
      rw [show rd (m := 8) (n := 512) (outsAt0 m c (n + 1 - 1) (by omega)).2.2.1 r k = _ from h]
      dsimp only
      rw [show (n + 1) / 4 = n / 4 by omega, show (n + 1) % 4 = n % 4 + 1 by omega,
        show 1024 * (n % 4 + 1 + 1) = 1024 * (n % 4 + 1) + 1024 by omega, taps3_succ]

/-- Window 14's block at a point: the gradient of the taps over the rows so far. -/
theorem outs14_rd : ∀ (n : ℕ) (hn : n < cfg0.N) {r k : ℕ} (_ : r < 8) (_ : k < 512),
    rd (m := 8) (n := 512) (outsAt0 m c n hn).2.2.2 r k
      = taps3 (dvN (X0 m c) (X1 m c) (X3 m c)) (X2 m c) (1024 * (n % 4 + 1)) r (512 * (n / 4) + k) := by
  intro n
  induction n with
  | zero =>
    intro hn r k hr hk
    have e := outs14_A m c ⟨0, hn⟩ rfl
    rw [show (outsAt0 m c 0 hn).2.2.2 = _ from e, tile14_rd m c _ hr hk]
    unfold taps3
    simp
  | succ n ih =>
    intro hn r k hr hk
    have hN : n + 1 < 44 := t_lt ⟨n + 1, hn⟩
    by_cases h0 : (n + 1) % 4 = 0
    · have e := outs14_A m c ⟨n + 1, hn⟩ h0
      rw [show (outsAt0 m c (n + 1) hn).2.2.2 = _ from e, tile14_rd m c _ hr hk]
      unfold taps3
      dsimp only
      rw [h0]
      simp
    · have e := outs14_B m c ⟨n + 1, hn⟩ h0 (by show n + 1 - 1 < cfg0.N; omega)
      rw [show (outsAt0 m c (n + 1) hn).2.2.2 = _ from e]
      unfold k0_pay5
      dsimp only
      rw [shapeCast_self, rd_addf, tile14_rd m c _ hr hk]
      have h := ih (by omega) hr hk
      rw [show rd (m := 8) (n := 512) (outsAt0 m c (n + 1 - 1) (by omega)).2.2.2 r k = _ from h]
      dsimp only
      rw [show (n + 1) / 4 = n / 4 by omega, show (n + 1) % 4 = n % 4 + 1 by omega,
        show 1024 * (n % 4 + 1 + 1) = 1024 * (n % 4 + 1) + 1024 by omega, taps3_succ]

end Cert.C26

end
-- ==== Proof.C26.lean ====
module

public import proofs.«01_k».proof.Proof.Heads
public import proofs.«01_k».proof.Proof.C26Kernel
public import proofs.«01_k».proof.Proof.Gen.Reference26Ideal.Run
public import proofs.«01_k».proof.Proof.Gen.Reference26Ideal.Read
public import proofs.«01_k».proof.Defs
public import proofs.«01_k».proof.Proof.Gen.Pre_finite26

@[expose] public section

set_option maxRecDepth 16384

noncomputable section

namespace Cert.C26

open Cert.Kernel26Ideal Cert.Kernel26Ideal.Gen Cert.Kernel26Ideal.Value Cert.Rd Idealize.ShloMosaic Idealize.ShloMosaic.TcCoe Idealize.SL.Sem
open Idealize.ShloMosaic.Pipeline (Dat)

section Finite

theorem fin_add {a b : EReal} (ha : a ≠ ⊤ ∧ a ≠ ⊥) (hb : b ≠ ⊤ ∧ b ≠ ⊥) : a + b ≠ ⊤ ∧ a + b ≠ ⊥ := by
  lift a to ℝ using ha
  lift b to ℝ using hb
  rw [← EReal.coe_add]
  exact ⟨EReal.coe_ne_top _, EReal.coe_ne_bot _⟩

theorem fin_bk {X : ℕ → ℕ → EReal} (h : ∀ R C, X R C ≠ ⊤ ∧ X R C ≠ ⊥) (s R C : ℕ) : bk X s R C ≠ ⊤ ∧ bk X s R C ≠ ⊥ := by
  unfold bk
  split
  · exact h _ _
  · exact ⟨EReal.zero_ne_top, EReal.zero_ne_bot⟩

/-- The convolution of finite entries is finite. -/
theorem fin_conv3 {X W : ℕ → ℕ → EReal} (h : ∀ R C, X R C ≠ ⊤ ∧ X R C ≠ ⊥) (g : ∀ R C, W R C ≠ ⊤ ∧ W R C ≠ ⊥) (R C : ℕ) :
    conv3 X W R C ≠ ⊤ ∧ conv3 X W R C ≠ ⊥ :=
  fin_add (fin_add (fin_mul (h _ _) (g _ _)) (fin_mul (fin_bk h _ _ _) (g _ _))) (fin_mul (fin_bk h _ _ _) (g _ _))

end Finite

section Reference
open Cert.Reference26Ideal.Read
variable (x0 x1 x2 : FVec Ideal ⟨2, ![4096, 5632]⟩ .f32) (x3 x4 : FVec Ideal ⟨2, ![3, 5632]⟩ .f32) {R C : ℕ}

theorem v3_rd (hR : R < 4096) (hC : C < 5632) : rd (m := 4096) (n := 5632) (val_main_v3 (F := Ideal) x1) R C = bk (rd x1) 2 R C :=
  rd_hostBack 0 x1 _ _ _ (by omega) hR hC
theorem v9_rd (hR : R < 4096) (hC : C < 5632) : rd (m := 4096) (n := 5632) (val_main_v9 (F := Ideal) x1) R C = bk (rd x1) 1 R C :=
  rd_hostBack 1 x1 _ _ _ (by omega) hR hC
theorem v16_rd (hR : R < 4096) (hC : C < 5632) : rd (m := 4096) (n := 5632) (val_main_v16 (F := Ideal) x1) R C = bk (rd x1) 0 R C :=
  rd_hostBack 2 x1 _ _ _ (by omega) hR hC

theorem v22_rd (hR : R < 4096) (hC : C < 5632) : rd (m := 4096) (n := 5632) (val_main_v22 (F := Ideal) x1 x3) R C = conv3 (rd x1) (rd x3) R C := by
  unfold val_main_v22 val_main_v15 val_main_v8 val_main_v14 val_main_v21
  rw [rd_addf, rd_addf, rd_mulf, rd_mulf, rd_mulf, v3_rd x1 hR hC, v9_rd x1 hR hC, v16_rd x1 hR hC]
  exact (congrArg₂ (· + ·) (congrArg₂ (· + ·) (congrArg (_ * ·) (rd_hostTap 0 x3 _ _ _ _ hR hC))
    (congrArg (_ * ·) (rd_hostTap 1 x3 _ _ _ _ hR hC))) (congrArg (_ * ·) (rd_hostTap 2 x3 _ _ _ _ hR hC))).trans (conv3_host _ _ _ _)

theorem v27_rd (hR : R < 4096) (hC : C < 5632) : rd (m := 4096) (n := 5632) (val_main_v27 (F := Ideal) x2) R C = bk (rd x2) 2 R C :=
  rd_hostBack 0 x2 _ _ _ (by omega) hR hC
theorem v33_rd (hR : R < 4096) (hC : C < 5632) : rd (m := 4096) (n := 5632) (val_main_v33 (F := Ideal) x2) R C = bk (rd x2) 1 R C :=
  rd_hostBack 1 x2 _ _ _ (by omega) hR hC
theorem v40_rd (hR : R < 4096) (hC : C < 5632) : rd (m := 4096) (n := 5632) (val_main_v40 (F := Ideal) x2) R C = bk (rd x2) 0 R C :=
  rd_hostBack 2 x2 _ _ _ (by omega) hR hC

theorem v46_rd (hR : R < 4096) (hC : C < 5632) : rd (m := 4096) (n := 5632) (val_main_v46 (F := Ideal) x2 x4) R C = conv3 (rd x2) (rd x4) R C := by
  unfold val_main_v46 val_main_v39 val_main_v32 val_main_v38 val_main_v45
  rw [rd_addf, rd_addf, rd_mulf, rd_mulf, rd_mulf, v27_rd x2 hR hC, v33_rd x2 hR hC, v40_rd x2 hR hC]
  exact (congrArg₂ (· + ·) (congrArg₂ (· + ·) (congrArg (_ * ·) (rd_hostTap 0 x4 _ _ _ _ hR hC))
    (congrArg (_ * ·) (rd_hostTap 1 x4 _ _ _ _ hR hC))) (congrArg (_ * ·) (rd_hostTap 2 x4 _ _ _ _ hR hC))).trans (conv3_host _ _ _ _)

theorem dgN_out (D G V A B : ℕ → ℕ → EReal) (h : D R C = 0) : dgN D G V A B R C = 0 := by
  unfold dgN dsl; rw [h, zero_mul, zero_mul]
theorem dvN_out (D G A : ℕ → ℕ → EReal) (h : D R C = 0) : dvN D G A R C = 0 := by
  unfold dvN; rw [h, zero_mul]

theorem sg_rd (hR : R < 4096) (hC : C < 5632) : rd (m := 4096) (n := 5632) (val_main_v23_2 (F := Ideal) x1 x3) R C = sgm (conv3 (rd x1) (rd x3) R C) :=
  (rd_hostSgm _ _ _ hR hC).trans (congrArg sgm (v22_rd x1 x3 hR hC))

/-- The gradient of the value's convolution. -/
theorem v48_rd (hC : C < 5632) : rd (m := 4096) (n := 5632) (val_main_v48 (F := Ideal) x0 x1 x3) R C = dvN (rd x0) (rd x1) (rd x3) R C := by
  by_cases hR : R < 4096
  · unfold val_main_v48 val_main_v23_0
    rw [rd_mulf, rd_mulf, sg_rd x1 x3 hR hC, v22_rd x1 x3 hR hC, mul_comm]
    rfl
  · rw [rd_out _ (by omega), dvN_out _ _ _ (rd_out _ (by omega))]

/-- The gradient of the gate's convolution, of finite entries. -/
theorem v83_rd (hfin : ∀ R C, rd x0 R C * conv3 (rd x2) (rd x4) R C ≠ ⊤ ∧ rd x0 R C * conv3 (rd x2) (rd x4) R C ≠ ⊥) (hC : C < 5632) :
    rd (m := 4096) (n := 5632) (val_main_v83 (F := Ideal) x0 x1 x2 x3 x4) R C = dgN (rd x0) (rd x1) (rd x2) (rd x3) (rd x4) R C := by
  by_cases hR : R < 4096
  · have hs := sg_rd x1 x3 hR hC
    have hd : rd (m := 4096) (n := 5632) (val_main_v49 (F := Ideal) x0 x2 x4) R C = rd x0 R C * conv3 (rd x2) (rd x4) R C := by
      unfold val_main_v49; rw [rd_mulf, v46_rd x2 x4 hR hC]
    have h1 : rd (m := 4096) (n := 5632) (val_main_call0_v6 (F := Ideal)) R C = 1 := (rd_bcastConst _ _ hR hC).trans c1_eq
    unfold val_main_v83 val_main_call1_v1 val_main_call1_v2 val_main_call1_v0 val_main_v23_1 val_main_call0_v7
    rw [rd_addf, rd_mulf, rd_mulf, rd_mulf, rd_mulf, rd_subf _ _ hR hC, hs, h1, hd, v22_rd x1 x3 hR hC]
    exact dsl_eq _ (hfin R C).1 (hfin R C).2
  · rw [rd_out _ (by omega), dgN_out _ _ _ _ _ (rd_out _ (by omega))]

theorem v74_rd (hC : C < 5632) : rd (m := 4096) (n := 5632) (val_main_v74 (F := Ideal) x0 x1 x3 x4) R C = dvN (rd x0) (rd x1) (rd x3) R C * rd x4 0 C := by
  by_cases hR : R < 4096
  · unfold val_main_v74
    rw [rd_mulf, v48_rd x0 x1 x3 hC]
    exact congrArg (_ * ·) (rd_hostTap 0 x4 _ _ _ _ hR hC)
  · rw [rd_out _ (by omega), dvN_out _ _ _ (rd_out _ (by omega)), zero_mul]
theorem v63_rd (hC : C < 5632) : rd (m := 4096) (n := 5632) (val_main_v63 (F := Ideal) x0 x1 x3 x4) R C = dvN (rd x0) (rd x1) (rd x3) R C * rd x4 1 C := by
  by_cases hR : R < 4096
  · unfold val_main_v63
    rw [rd_mulf, v48_rd x0 x1 x3 hC]
    exact congrArg (_ * ·) (rd_hostTap 1 x4 _ _ _ _ hR hC)
  · rw [rd_out _ (by omega), dvN_out _ _ _ (rd_out _ (by omega)), zero_mul]
theorem v54_rd (hC : C < 5632) : rd (m := 4096) (n := 5632) (val_main_v54 (F := Ideal) x0 x1 x3 x4) R C = dvN (rd x0) (rd x1) (rd x3) R C * rd x4 2 C := by
  by_cases hR : R < 4096
  · unfold val_main_v54
    rw [rd_mulf, v48_rd x0 x1 x3 hC]
    exact congrArg (_ * ·) (rd_hostTap 2 x4 _ _ _ _ hR hC)
  · rw [rd_out _ (by omega), dvN_out _ _ _ (rd_out _ (by omega)), zero_mul]

/-- The gradient of the convolution's input. -/
theorem v118_rd (hR : R < 4096) (hC : C < 5632) :
    rd (m := 4096) (n := 5632) (val_main_v118 (F := Ideal) x0 x1 x3 x4) R C = anti3 (dvN (rd x0) (rd x1) (rd x3)) (rd x4) R C := by
  unfold val_main_v118
  rw [rd_truncf]
  have z := Ideal.ofBits_zero_f32
  refine (rd_hostAnti3 (val_main_v54 (F := Ideal) x0 x1 x3 x4) (val_main_v63 (F := Ideal) x0 x1 x3 x4) (val_main_v74 (F := Ideal) x0 x1 x3 x4)
    _ _ _ _ _ _ _ _ z z z rfl hR hC).trans ?_
  rw [v54_rd x0 x1 x3 x4 hC, v63_rd x0 x1 x3 x4 hC, v74_rd x0 x1 x3 x4 hC]
  exact anti3_host _ _ _ _

/-- The gradient of the taps. -/
theorem v120_rd (hR : R < 8) (hC : C < 5632) :
    rd (m := 8) (n := 5632) (val_main_v120 (F := Ideal) x0 x1 x2 x3) R C = taps3 (dvN (rd x0) (rd x1) (rd x3)) (rd x2) 4096 R C := by
  have z : ∀ i, constant (F := Ideal) ⟨0, ![]⟩ .f32 0x00000000#32 i = (0 : EReal) := fun _ => Ideal.ofBits_zero_f32
  have s0 : rd (m := 1) (n := 5632) (val_main_v76 (F := Ideal) x0 x1 x2 x3) 0 C
      = ∑ R ∈ Finset.range 4096, (dvN (rd x0) (rd x1) (rd x3)) R C * bk (rd x2) (2 - 0) R C :=
    rd_hostRowSum (val_main_v70 (F := Ideal) x0 x1 x2 x3) _ _ _ _ _ _ _ _ (z _) (z _) (fun R hR => by
      unfold val_main_v70; rw [rd_mulf, v27_rd x2 hR hC, v48_rd x0 x1 x3 hC, mul_comm]) hC
  have s1 : rd (m := 1) (n := 5632) (val_main_v65 (F := Ideal) x0 x1 x2 x3) 0 C
      = ∑ R ∈ Finset.range 4096, (dvN (rd x0) (rd x1) (rd x3)) R C * bk (rd x2) (2 - 1) R C :=
    rd_hostRowSum (val_main_v59 (F := Ideal) x0 x1 x2 x3) _ _ _ _ _ _ _ _ (z _) (z _) (fun R hR => by
      unfold val_main_v59; rw [rd_mulf, v33_rd x2 hR hC, v48_rd x0 x1 x3 hC, mul_comm]) hC
  have s2 : rd (m := 1) (n := 5632) (val_main_v56 (F := Ideal) x0 x1 x2 x3) 0 C
      = ∑ R ∈ Finset.range 4096, (dvN (rd x0) (rd x1) (rd x3)) R C * bk (rd x2) (2 - 2) R C :=
    rd_hostRowSum (val_main_v50 (F := Ideal) x0 x1 x2 x3) _ _ _ _ _ _ _ _ (z _) (z _) (fun R hR => by
      unfold val_main_v50; rw [rd_mulf, v40_rd x2 hR hC, v48_rd x0 x1 x3 hC, mul_comm]) hC
  have hp : val_main_call3_v0 (F := Ideal) (Shape.Idx.first Nat.one_pos) = (0 : EReal) := by
    show (((0#32 : BitVec 32).toInt : ℝ) : EReal) = 0
    simp
  exact rd_hostRows3 (fun k => ∑ R ∈ Finset.range 4096, (dvN (rd x0) (rd x1) (rd x3)) R C * bk (rd x2) (2 - k) R C)
    (val_main_v76 (F := Ideal) x0 x1 x2 x3) (val_main_v65 (F := Ideal) x0 x1 x2 x3) (val_main_v56 (F := Ideal) x0 x1 x2 x3)
    _ _ _ _ _ _ _ _ _ (z _) (z _) (z _) hp s0 s1 s2 hR

theorem v108_rd (hfin : ∀ R C, rd x0 R C * conv3 (rd x2) (rd x4) R C ≠ ⊤ ∧ rd x0 R C * conv3 (rd x2) (rd x4) R C ≠ ⊥) (hC : C < 5632) : rd (m := 4096) (n := 5632) (val_main_v108 (F := Ideal) x0 x1 x2 x3 x4) R C = dgN (rd x0) (rd x1) (rd x2) (rd x3) (rd x4) R C * rd x3 0 C := by
  by_cases hR : R < 4096
  · unfold val_main_v108
    rw [rd_mulf, v83_rd x0 x1 x2 x3 x4 hfin hC]
    exact congrArg (_ * ·) (rd_hostTap 0 x3 _ _ _ _ hR hC)
  · rw [rd_out _ (by omega), dgN_out _ _ _ _ _ (rd_out _ (by omega)), zero_mul]
theorem v97_rd (hfin : ∀ R C, rd x0 R C * conv3 (rd x2) (rd x4) R C ≠ ⊤ ∧ rd x0 R C * conv3 (rd x2) (rd x4) R C ≠ ⊥) (hC : C < 5632) : rd (m := 4096) (n := 5632) (val_main_v97 (F := Ideal) x0 x1 x2 x3 x4) R C = dgN (rd x0) (rd x1) (rd x2) (rd x3) (rd x4) R C * rd x3 1 C := by
  by_cases hR : R < 4096
  · unfold val_main_v97
    rw [rd_mulf, v83_rd x0 x1 x2 x3 x4 hfin hC]
    exact congrArg (_ * ·) (rd_hostTap 1 x3 _ _ _ _ hR hC)
  · rw [rd_out _ (by omega), dgN_out _ _ _ _ _ (rd_out _ (by omega)), zero_mul]
theorem v88_rd (hfin : ∀ R C, rd x0 R C * conv3 (rd x2) (rd x4) R C ≠ ⊤ ∧ rd x0 R C * conv3 (rd x2) (rd x4) R C ≠ ⊥) (hC : C < 5632) : rd (m := 4096) (n := 5632) (val_main_v88 (F := Ideal) x0 x1 x2 x3 x4) R C = dgN (rd x0) (rd x1) (rd x2) (rd x3) (rd x4) R C * rd x3 2 C := by
  by_cases hR : R < 4096
  · unfold val_main_v88
    rw [rd_mulf, v83_rd x0 x1 x2 x3 x4 hfin hC]
    exact congrArg (_ * ·) (rd_hostTap 2 x3 _ _ _ _ hR hC)
  · rw [rd_out _ (by omega), dgN_out _ _ _ _ _ (rd_out _ (by omega)), zero_mul]

/-- The gradient of the convolution's input. -/
theorem v117_rd (hfin : ∀ R C, rd x0 R C * conv3 (rd x2) (rd x4) R C ≠ ⊤ ∧ rd x0 R C * conv3 (rd x2) (rd x4) R C ≠ ⊥) (hR : R < 4096) (hC : C < 5632) :
    rd (m := 4096) (n := 5632) (val_main_v117 (F := Ideal) x0 x1 x2 x3 x4) R C = anti3 (dgN (rd x0) (rd x1) (rd x2) (rd x3) (rd x4)) (rd x3) R C := by
  unfold val_main_v117
  rw [rd_truncf]
  have z := Ideal.ofBits_zero_f32
  refine (rd_hostAnti3 (val_main_v88 (F := Ideal) x0 x1 x2 x3 x4) (val_main_v97 (F := Ideal) x0 x1 x2 x3 x4) (val_main_v108 (F := Ideal) x0 x1 x2 x3 x4)
    _ _ _ _ _ _ _ _ z z z rfl hR hC).trans ?_
  rw [v88_rd x0 x1 x2 x3 x4 hfin hC, v97_rd x0 x1 x2 x3 x4 hfin hC, v108_rd x0 x1 x2 x3 x4 hfin hC]
  exact anti3_host _ _ _ _

/-- The gradient of the taps. -/
theorem v119_rd (hfin : ∀ R C, rd x0 R C * conv3 (rd x2) (rd x4) R C ≠ ⊤ ∧ rd x0 R C * conv3 (rd x2) (rd x4) R C ≠ ⊥) (hR : R < 8) (hC : C < 5632) :
    rd (m := 8) (n := 5632) (val_main_v119 (F := Ideal) x0 x1 x2 x3 x4) R C = taps3 (dgN (rd x0) (rd x1) (rd x2) (rd x3) (rd x4)) (rd x1) 4096 R C := by
  have z : ∀ i, constant (F := Ideal) ⟨0, ![]⟩ .f32 0x00000000#32 i = (0 : EReal) := fun _ => Ideal.ofBits_zero_f32
  have s0 : rd (m := 1) (n := 5632) (val_main_v110 (F := Ideal) x0 x1 x2 x3 x4) 0 C
      = ∑ R ∈ Finset.range 4096, (dgN (rd x0) (rd x1) (rd x2) (rd x3) (rd x4)) R C * bk (rd x1) (2 - 0) R C :=
    rd_hostRowSum (val_main_v104 (F := Ideal) x0 x1 x2 x3 x4) _ _ _ _ _ _ _ _ (z _) (z _) (fun R hR => by
      unfold val_main_v104; rw [rd_mulf, v3_rd x1 hR hC, v83_rd x0 x1 x2 x3 x4 hfin hC, mul_comm]) hC
  have s1 : rd (m := 1) (n := 5632) (val_main_v99 (F := Ideal) x0 x1 x2 x3 x4) 0 C
      = ∑ R ∈ Finset.range 4096, (dgN (rd x0) (rd x1) (rd x2) (rd x3) (rd x4)) R C * bk (rd x1) (2 - 1) R C :=
    rd_hostRowSum (val_main_v93 (F := Ideal) x0 x1 x2 x3 x4) _ _ _ _ _ _ _ _ (z _) (z _) (fun R hR => by
      unfold val_main_v93; rw [rd_mulf, v9_rd x1 hR hC, v83_rd x0 x1 x2 x3 x4 hfin hC, mul_comm]) hC
  have s2 : rd (m := 1) (n := 5632) (val_main_v90 (F := Ideal) x0 x1 x2 x3 x4) 0 C
      = ∑ R ∈ Finset.range 4096, (dgN (rd x0) (rd x1) (rd x2) (rd x3) (rd x4)) R C * bk (rd x1) (2 - 2) R C :=
    rd_hostRowSum (val_main_v84 (F := Ideal) x0 x1 x2 x3 x4) _ _ _ _ _ _ _ _ (z _) (z _) (fun R hR => by
      unfold val_main_v84; rw [rd_mulf, v16_rd x1 hR hC, v83_rd x0 x1 x2 x3 x4 hfin hC, mul_comm]) hC
  have hp : val_main_call2_v0 (F := Ideal) (Shape.Idx.first Nat.one_pos) = (0 : EReal) := by
    show (((0#32 : BitVec 32).toInt : ℝ) : EReal) = 0
    simp
  exact rd_hostRows3 (fun k => ∑ R ∈ Finset.range 4096, (dgN (rd x0) (rd x1) (rd x2) (rd x3) (rd x4)) R C * bk (rd x1) (2 - k) R C)
    (val_main_v110 (F := Ideal) x0 x1 x2 x3 x4) (val_main_v99 (F := Ideal) x0 x1 x2 x3 x4) (val_main_v90 (F := Ideal) x0 x1 x2 x3 x4)
    _ _ _ _ _ _ _ _ _ (z _) (z _) (z _) hp s0 s1 s2 hR

end Reference

variable (m : (ℓ : Loc nD τ sig) → Buf (Elt Ideal) ℓ) (c : Dev nD) (ρ : Dev nD → PrngReg)

theorem index11 (t : Fin cfg0.N) : win0_11.index t 0 = t.val % 4 ∧ win0_11.index t 1 = t.val / 4 :=
  (by decide +kernel : ∀ t : Fin grid0.N, win0_11.index t 0 = t.val % 4 ∧ win0_11.index t 1 = t.val / 4) t

/-- Window 11's array after the run. -/
theorem final11 : (dats m 0 c).arrAt 11 cfg0.N = tab (m := 4096) (n := 5632) (anti3 (dgN (X0 m c) (X1 m c) (X2 m c) (X3 m c) (X4 m c)) (X3 m c)) := by
  refine (dats m 0 c).arrAt_eq_of_cover 11 _ (fun t hf => ?_) fun i => ?_
  · rw [flushed11]
    funext j
    rw [View.read_apply]
    show ((outsAt0 m c t.val t.isLt).1) j = (anti3 (dgN (X0 m c) (X1 m c) (X2 m c) (X3 m c) (X4 m c)) (X3 m c)) (win0_11.index t 0 * 1024 + 1 * (j 0).val) (win0_11.index t 1 * 512 + 1 * (j 1).val)
    rw [eq_rd (m := 1024) (n := 512) ((outsAt0 m c t.val t.isLt).1) j]
    rw [outs11_rd m c t (j 0).isLt (j 1).isLt]
    have hi := index11 t
    rw [hi.1, hi.2]
    congr 1 <;> omega
  · have h0 : (i 0).val < 4096 := (i 0).isLt
    have h1 : (i 1).val < 5632 := (i 1).isLt
    have hN : cfg0.N = 44 := by decide +kernel
    let t : Fin cfg0.N := ⟨4 * ((i 1).val / 512) + (i 0).val / 1024, by omega⟩
    refine ⟨t, flush0_11 _, ?_⟩
    show i ∈ ((View.whole main_v0_0).slice (win0_11.rect t)).set
    rw [View.set_slice_whole, Rect.mem_set_unit]
    have hi := index11 t
    have hv : t.val = 4 * ((i 1).val / 512) + (i 0).val / 1024 := rfl
    intro a
    match a with
    | ⟨0, _⟩ => show win0_11.index t 0 * 1024 ≤ (i 0).val ∧ (i 0).val < win0_11.index t 0 * 1024 + 1024
                rw [hi.1]; omega
    | ⟨1, _⟩ => show win0_11.index t 1 * 512 ≤ (i 1).val ∧ (i 1).val < win0_11.index t 1 * 512 + 512
                rw [hi.2]; omega

theorem index12 (t : Fin cfg0.N) : win0_12.index t 0 = t.val % 4 ∧ win0_12.index t 1 = t.val / 4 :=
  (by decide +kernel : ∀ t : Fin grid0.N, win0_12.index t 0 = t.val % 4 ∧ win0_12.index t 1 = t.val / 4) t

/-- Window 12's array after the run. -/
theorem final12 : (dats m 0 c).arrAt 12 cfg0.N = tab (m := 4096) (n := 5632) (anti3 (dvN (X0 m c) (X1 m c) (X3 m c)) (X4 m c)) := by
  refine (dats m 0 c).arrAt_eq_of_cover 12 _ (fun t hf => ?_) fun i => ?_
  · rw [flushed12]
    funext j
    rw [View.read_apply]
    show ((outsAt0 m c t.val t.isLt).2.1) j = (anti3 (dvN (X0 m c) (X1 m c) (X3 m c)) (X4 m c)) (win0_12.index t 0 * 1024 + 1 * (j 0).val) (win0_12.index t 1 * 512 + 1 * (j 1).val)
    rw [eq_rd (m := 1024) (n := 512) ((outsAt0 m c t.val t.isLt).2.1) j]
    rw [outs12_rd m c t (j 0).isLt (j 1).isLt]
    have hi := index12 t
    rw [hi.1, hi.2]
    congr 1 <;> omega
  · have h0 : (i 0).val < 4096 := (i 0).isLt
    have h1 : (i 1).val < 5632 := (i 1).isLt
    have hN : cfg0.N = 44 := by decide +kernel
    let t : Fin cfg0.N := ⟨4 * ((i 1).val / 512) + (i 0).val / 1024, by omega⟩
    refine ⟨t, flush0_12 _, ?_⟩
    show i ∈ ((View.whole main_v0_1).slice (win0_12.rect t)).set
    rw [View.set_slice_whole, Rect.mem_set_unit]
    have hi := index12 t
    have hv : t.val = 4 * ((i 1).val / 512) + (i 0).val / 1024 := rfl
    intro a
    match a with
    | ⟨0, _⟩ => show win0_12.index t 0 * 1024 ≤ (i 0).val ∧ (i 0).val < win0_12.index t 0 * 1024 + 1024
                rw [hi.1]; omega
    | ⟨1, _⟩ => show win0_12.index t 1 * 512 ≤ (i 1).val ∧ (i 1).val < win0_12.index t 1 * 512 + 512
                rw [hi.2]; omega

theorem index13 (t : Fin cfg0.N) : win0_13.index t 0 = 0 ∧ win0_13.index t 1 = t.val / 4 :=
  (by decide +kernel : ∀ t : Fin grid0.N, win0_13.index t 0 = 0 ∧ win0_13.index t 1 = t.val / 4) t

/-- Window 13's array after the run. -/
theorem final13 : (dats m 0 c).arrAt 13 cfg0.N = tab (m := 8) (n := 5632) (taps3 (dgN (X0 m c) (X1 m c) (X2 m c) (X3 m c) (X4 m c)) (X1 m c) 4096) := by
  refine (dats m 0 c).arrAt_eq_of_cover 13 _ (fun t hf => ?_) fun i => ?_
  · rw [flushed13]
    funext j
    rw [View.read_apply]
    show ((outsAt0 m c t.val t.isLt).2.2.1) j = (taps3 (dgN (X0 m c) (X1 m c) (X2 m c) (X3 m c) (X4 m c)) (X1 m c) 4096) (win0_13.index t 0 * 8 + 1 * (j 0).val) (win0_13.index t 1 * 512 + 1 * (j 1).val)
    rw [eq_rd (m := 8) (n := 512) ((outsAt0 m c t.val t.isLt).2.2.1) j]
    rw [outs13_rd m c t.val t.isLt (j 0).isLt (j 1).isLt, (flush0_13 t).mp hf]
    have hi := index13 t
    rw [hi.1, hi.2]
    congr 1 <;> omega
  · have h0 : (i 0).val < 8 := (i 0).isLt
    have h1 : (i 1).val < 5632 := (i 1).isLt
    have hN : cfg0.N = 44 := by decide +kernel
    let t : Fin cfg0.N := ⟨4 * ((i 1).val / 512) + 3, by omega⟩
    refine ⟨t, (flush0_13 _).mpr (by show (4 * ((i 1).val / 512) + 3) % 4 = 3; omega), ?_⟩
    show i ∈ ((View.whole main_v0_2).slice (win0_13.rect t)).set
    rw [View.set_slice_whole, Rect.mem_set_unit]
    have hi := index13 t
    have hv : t.val = 4 * ((i 1).val / 512) + 3 := rfl
    intro a
    match a with
    | ⟨0, _⟩ => show win0_13.index t 0 * 8 ≤ (i 0).val ∧ (i 0).val < win0_13.index t 0 * 8 + 8
                rw [hi.1]; omega
    | ⟨1, _⟩ => show win0_13.index t 1 * 512 ≤ (i 1).val ∧ (i 1).val < win0_13.index t 1 * 512 + 512
                rw [hi.2]; omega

theorem index14 (t : Fin cfg0.N) : win0_14.index t 0 = 0 ∧ win0_14.index t 1 = t.val / 4 :=
  (by decide +kernel : ∀ t : Fin grid0.N, win0_14.index t 0 = 0 ∧ win0_14.index t 1 = t.val / 4) t

/-- Window 14's array after the run. -/
theorem final14 : (dats m 0 c).arrAt 14 cfg0.N = tab (m := 8) (n := 5632) (taps3 (dvN (X0 m c) (X1 m c) (X3 m c)) (X2 m c) 4096) := by
  refine (dats m 0 c).arrAt_eq_of_cover 14 _ (fun t hf => ?_) fun i => ?_
  · rw [flushed14]
    funext j
    rw [View.read_apply]
    show ((outsAt0 m c t.val t.isLt).2.2.2) j = (taps3 (dvN (X0 m c) (X1 m c) (X3 m c)) (X2 m c) 4096) (win0_14.index t 0 * 8 + 1 * (j 0).val) (win0_14.index t 1 * 512 + 1 * (j 1).val)
    rw [eq_rd (m := 8) (n := 512) ((outsAt0 m c t.val t.isLt).2.2.2) j]
    rw [outs14_rd m c t.val t.isLt (j 0).isLt (j 1).isLt, (flush0_14 t).mp hf]
    have hi := index14 t
    rw [hi.1, hi.2]
    congr 1 <;> omega
  · have h0 : (i 0).val < 8 := (i 0).isLt
    have h1 : (i 1).val < 5632 := (i 1).isLt
    have hN : cfg0.N = 44 := by decide +kernel
    let t : Fin cfg0.N := ⟨4 * ((i 1).val / 512) + 3, by omega⟩
    refine ⟨t, (flush0_14 _).mpr (by show (4 * ((i 1).val / 512) + 3) % 4 = 3; omega), ?_⟩
    show i ∈ ((View.whole main_v0_3).slice (win0_14.rect t)).set
    rw [View.set_slice_whole, Rect.mem_set_unit]
    have hi := index14 t
    have hv : t.val = 4 * ((i 1).val / 512) + 3 := rfl
    intro a
    match a with
    | ⟨0, _⟩ => show win0_14.index t 0 * 8 ≤ (i 0).val ∧ (i 0).val < win0_14.index t 0 * 8 + 8
                rw [hi.1]; omega
    | ⟨1, _⟩ => show win0_14.index t 1 * 512 ≤ (i 1).val ∧ (i 1).val < win0_14.index t 1 * 512 + 512
                rw [hi.2]; omega

/-- The kernel's run: the four arrays in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 5632) (anti3 (dgN (X0 m c) (X1 m c) (X2 m c) (X3 m c) (X4 m c)) (X3 m c))
      ∧ r.2.mem ((c : Thread nD τ).loc main_v0_1) = tab (m := 4096) (n := 5632) (anti3 (dvN (X0 m c) (X1 m c) (X3 m c)) (X4 m c))
      ∧ r.2.mem ((c : Thread nD τ).loc main_v0_2) = tab (m := 8) (n := 5632) (taps3 (dgN (X0 m c) (X1 m c) (X2 m c) (X3 m c) (X4 m c)) (X1 m c) 4096)
      ∧ r.2.mem ((c : Thread nD τ).loc main_v0_3) = tab (m := 8) (n := 5632) (taps3 (dvN (X0 m c) (X1 m c) (X3 m c)) (X2 m c) 4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final11 m c), (h c).2.1.trans (final12 m c), (h c).2.2.1.trans (final13 m c),
    (h c).2.2.2.1.trans (final14 m c), (h c).2.2.2.2⟩) (run_blocks m ρ)

/-- With a finite incoming gradient and a finite value half, the kernel and the gradient of the gated activation end with equal arrays. -/
theorem algebraic : Cert.algebraic_Kernel26Ideal_Reference26Ideal_pre_finite26 := by
  intro m ρ m' ρ' hpre hag
  have hfin (c : Dev nD) (R C : ℕ) : X0 m c R C * conv3 (X2 m c) (X4 m c) R C ≠ ⊤ ∧ X0 m c R C * conv3 (X2 m c) (X4 m c) R C ≠ ⊥ := by
    have h := hpre c
    unfold Cert.Pre_finite26.fn at h
    have h1 := ones_and _ _ h
    have h2 := ones_and _ _ h1.1
    exact fin_mul (finite_of_all (m := 4096) (n := 5632) _ _ _ _ h2.1 R C)
      (fin_conv3 (finite_of_all (m := 4096) (n := 5632) _ _ _ _ h2.2) (finite_of_all (m := 3) (n := 5632) _ _ _ _ h1.2) R C)
  refine ⟨_, _, _, _, run m ρ, (θ_run _ _ _).mono (fun _ h c => ⟨(h c).1.trans ?_, (h c).2.1.trans ?_, (h c).2.2.1.trans ?_,
    (h c).2.2.2.1.trans ?_, (h c).2.2.2.2⟩) (Cert.Reference26Ideal.Value.run m' ρ')⟩
  · refine (Cert.Reference26Ideal.Read.val_main_v117_eq _ _).trans ?_
    rw [(hag c).1, (hag c).2.1, (hag c).2.2.1, (hag c).2.2.2.1, (hag c).2.2.2.2]
    exact eq_tab fun r k hr hk => v117_rd _ _ _ _ _ (hfin c) hr hk
  · refine (Cert.Reference26Ideal.Read.val_main_v118_eq _ _).trans ?_
    rw [(hag c).1, (hag c).2.1, (hag c).2.2.2.1, (hag c).2.2.2.2]
    exact eq_tab fun r k hr hk => v118_rd _ _ _ _ hr hk
  · refine (Cert.Reference26Ideal.Read.val_main_v119_eq _ _).trans ?_
    rw [(hag c).1, (hag c).2.1, (hag c).2.2.1, (hag c).2.2.2.1, (hag c).2.2.2.2]
    exact eq_tab fun r k hr hk => v119_rd _ _ _ _ _ (hfin c) hr hk
  · refine (Cert.Reference26Ideal.Read.val_main_v120_eq _ _).trans ?_
    rw [(hag c).1, (hag c).2.1, (hag c).2.2.1, (hag c).2.2.2.1]
    exact eq_tab fun r k hr hk => v120_rd _ _ _ _ hr hk

/-- The gradient's run leaves the arguments as they were; it uses no semaphore. -/
theorem frame_ref : Cert.quiescent_Reference26Ideal := fun m ρ _ =>
  (θ_run Cert.Reference26Ideal.defs _ _).mono (fun r h => ⟨fun c => (h c).2.2.2.2, Idealize.ShloMosaic.sem_eq_zero_of_no_sems (by decide) r.2⟩)
    (Cert.Reference26Ideal.Value.run (F := Ideal) m ρ)

end Cert.C26

end
-- ==== Proof.H24Kernel.lean ====
module

public import proofs.«01_k».proof.Proof.Heads
public import proofs.«01_k».proof.Proof.Gen.Kernel24Ideal.Value
public import Idealize.ShloMosaic.Lib.Tactic

@[expose] public section

set_option maxRecDepth 16384

noncomputable section

namespace Cert.H24

open Cert.Kernel24Ideal Cert.Kernel24Ideal.Gen Cert.Kernel24Ideal.Value Cert.Rd Idealize.ShloMosaic Idealize.ShloMosaic.TcCoe Idealize.SL.Sem
open Idealize.ShloMosaic.Pipeline (Dat)

/-! ## The three gradients, head by head: row 8 r + h of a table of heads is head h of row r -/

/-- The gradient that reaches the normalised head. -/
def wN (D Z G : ℕ → ℕ → EReal) : ℕ → ℕ → EReal := fun R k => D R k * G 0 k * (Z R k * sgm (Z R k))
/-- The gradient of the head. -/
def doN (D O Z G : ℕ → ℕ → EReal) (R k : ℕ) : EReal := hdx O (wN D Z G) (1 / 128) 128 R k
/-- The gradient of the gate. -/
def dzN (D O Z G : ℕ → ℕ → EReal) (R k : ℕ) : EReal := dsl (D R k * (O R k * rw' O (1 / 128) 128 R) * G 0 k) (Z R k)
/-- The terms of the gradient of the scale. -/
def dgN (D O Z : ℕ → ℕ → EReal) (R k : ℕ) : EReal := D R k * (O R k * rw' O (1 / 128) 128 R) * (Z R k * sgm (Z R k))
/-! ## One head in the kernel -/

section Head
variable (d o z : FVec Ideal S256x128 .f32) (g : FVec Ideal S1x128 .f32)

def kR : FVec Ideal S256x1 .f32 :=
  rsqrt (addf (divf (shapeCast S256x1 (multiReduction .add [1] S256 (mulf o o) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32)))
def kOn : FVec Ideal S256x128 .f32 := mulf o (broadcastTo S256x128 (kR o) broadcasts_S256x1_S256x128)
def kS : FVec Ideal S256x128 .f32 :=
  divf (broadcast S256x128 (Scalar.ofBits (F := Ideal) .f32 0x3F800000#32)) (addf (broadcast S256x128 (Scalar.ofBits (F := Ideal) .f32 0x3F800000#32))
    (exp (subf (broadcast S256x128 (Scalar.ofBits (F := Ideal) .f32 0x00000000#32)) z)))
def kSz : FVec Ideal S256x128 .f32 := mulf z (kS z)
def kW : FVec Ideal S256x128 .f32 := mulf (mulf d (broadcastTo S256x128 g broadcasts_S1x128_S256x128)) (kSz z)
def kDo : FVec Ideal S256x128 .f32 :=
  mulf (broadcastTo S256x128 (kR o) broadcasts_S256x1_S256x128) (subf (kW d z g) (mulf (kOn o) (broadcastTo S256x128
    (divf (shapeCast S256x1 (multiReduction .add [1] S256 (mulf (kW d z g) (kOn o)) 0x00000000#32 reduces_S256x128_S256 (.inl rfl) rfl) shapeCasts_S256_S256x1)
      (broadcast S256x1 (Scalar.ofBits (F := Ideal) .f32 0x43000000#32))) broadcasts_S256x1_S256x128)))
def kDz : FVec Ideal S256x128 .f32 :=
  mulf (mulf (mulf d (kOn o)) (broadcastTo S256x128 g broadcasts_S1x128_S256x128))
    (mulf (kS z) (addf (broadcast S256x128 (Scalar.ofBits (F := Ideal) .f32 0x3F800000#32))
      (mulf z (subf (broadcast S256x128 (Scalar.ofBits (F := Ideal) .f32 0x3F800000#32)) (kS z)))))
def kDg (acc : FVec Ideal S1x128 .f32) : FVec Ideal S1x128 .f32 :=
  addf acc (shapeCast S1x128 (multiReduction .add [0] S128 (mulf (mulf d (kOn o)) (kSz z)) 0x00000000#32 reduces_S256x128_S128 (.inl rfl) rfl) shapeCasts_S128_S1x128)

variable {D O Z G : ℕ → ℕ → EReal} {R r q : ℕ}

theorem kR_rd (ho : ∀ k < 128, rd o r k = O R k) (hr : r < 256) : rd (m := 256) (n := 1) (kR o) r 0 = rw' O (1 / 128) 128 R :=
  rd_headRms o _ _ _ _ ho hr
theorem kOn_rd (ho : ∀ k < 128, rd o r k = O R k) (hr : r < 256) (hq : q < 128) :
    rd (m := 256) (n := 128) (kOn o) r q = O R q * rw' O (1 / 128) 128 R :=
  rd_headNorm o (kR o) _ (kR_rd o ho hr) (ho q hq) hr hq
theorem kSz_rd (hz : rd z r q = Z R q) (hr : r < 256) (hq : q < 128) : rd (m := 256) (n := 128) (kSz z) r q = Z R q * sgm (Z R q) := by
  unfold kSz kS
  rw [rd_mulf, rd_sgm _ hr hq, hz]
theorem kW_rd (hd : rd d r q = D R q) (hz : rd z r q = Z R q) (hg : rd g 0 q = G 0 q) (hr : r < 256) (hq : q < 128) :
    rd (m := 256) (n := 128) (kW d z g) r q = wN D Z G R q := by
  unfold kW wN
  rw [rd_mulf, rd_mulf, rd_broadcastRow _ _ hr, hd, hg, kSz_rd z hz hr hq]
theorem kDo_rd (hd : ∀ k < 128, rd d r k = D R k) (ho : ∀ k < 128, rd o r k = O R k) (hz : ∀ k < 128, rd z r k = Z R k)
    (hg : ∀ k < 128, rd g 0 k = G 0 k) (hr : r < 256) (hq : q < 128) : rd (m := 256) (n := 128) (kDo d o z g) r q = doN D O Z G R q :=
  rd_headDx (kW d z g) (kOn o) (kR o) _ _ _ _ _ _ (kR_rd o ho hr) (fun k hk => kW_rd d z g (hd k hk) (hz k hk) (hg k hk) hr hk)
    (fun _ hk => kOn_rd o ho hr hk) hr hq
theorem kDz_rd (hd : ∀ k < 128, rd d r k = D R k) (ho : ∀ k < 128, rd o r k = O R k) (hz : ∀ k < 128, rd z r k = Z R k)
    (hg : ∀ k < 128, rd g 0 k = G 0 k) (hr : r < 256) (hq : q < 128) : rd (m := 256) (n := 128) (kDz d o z g) r q = dzN D O Z G R q := by
  refine (rd_dsl _ z hr hq).trans (congrArg₂ dsl ?_ (hz q hq))
  rw [rd_mulf, rd_mulf, rd_broadcastRow _ _ hr, hd q hq, hg q hq, kOn_rd o ho hr hq]

end Head

section Tile

/-- What a step leaves for each head of a tile, in the heads' order. -/
abbrev eight {α : Type} (f : (b : ℕ) → S256x1024.Slices ![0, b] S256x128 → S1x1024.Slices ![0, b] S1x128 → α) : List α :=
  [f 0 slices_S256x1024_o0_0_S256x128 slices_S1x1024_o0_0_S1x128, f 128 slices_S256x1024_o0_128_S256x128 slices_S1x1024_o0_128_S1x128, f 256 slices_S256x1024_o0_256_S256x128 slices_S1x1024_o0_256_S1x128, f 384 slices_S256x1024_o0_384_S256x128 slices_S1x1024_o0_384_S1x128, f 512 slices_S256x1024_o0_512_S256x128 slices_S1x1024_o0_512_S1x128, f 640 slices_S256x1024_o0_640_S256x128 slices_S1x1024_o0_640_S1x128, f 768 slices_S256x1024_o0_768_S256x128 slices_S1x1024_o0_768_S1x128, f 896 slices_S256x1024_o0_896_S256x128 slices_S1x1024_o0_896_S1x128]
/-- A head's columns. -/
abbrev cut (v : FVec Ideal S256x1024 .f32) (b : ℕ) (h : S256x1024.Slices ![0, b] S256x128) : FVec Ideal S256x128 .f32 :=
  extractStridedSlice S256x128 ![0, b] v h
abbrev cutg (v : FVec Ideal S1x1024 .f32) (b : ℕ) (h : S1x1024.Slices ![0, b] S1x128) : FVec Ideal S1x128 .f32 :=
  extractStridedSlice S1x128 ![0, b] v h
/-- The heads' matrices side by side. -/
def sideBySide (f : (b : ℕ) → S256x1024.Slices ![0, b] S256x128 → S1x1024.Slices ![0, b] S1x128 → FVec Ideal S256x128 .f32) : FVec Ideal S256x1024 .f32 :=
  concatenate S256x1024 1 ((eight f).map fun x => ⟨S256x128, x⟩) concatenates_S256x128_S256x128_S256x128_S256x128_S256x128_S256x128_S256x128_S256x128_S256x1024_d1
theorem sideBySide_rd (f : (b : ℕ) → S256x1024.Slices ![0, b] S256x128 → S1x1024.Slices ![0, b] S1x128 → FVec Ideal S256x128 .f32)
    {r k : ℕ} (A : ℕ → ℕ → EReal) (hf : ∀ H b hs hg, b = 128 * H → H < 8 → ∀ q < 128, rd (m := 256) (n := 128) (f b hs hg) r q = A H q)
    (hr : r < 256) (hk : k < 1024) : rd (m := 256) (n := 1024) (sideBySide f) r k = A (k / 128) (k % 128) := by
  refine rd_concatCols (eight f) (fun _ k => A (k / 128) (k % 128)) _ (fun H hH q hq => ?_) hr hk
  rw [show (128 * H + q) / 128 = H by omega, show (128 * H + q) % 128 = q by omega]
  match H, hH with
  | 0, _ => exact hf 0 0 _ _ rfl (by omega) q hq
  | 1, _ => exact hf 1 128 _ _ rfl (by omega) q hq
  | 2, _ => exact hf 2 256 _ _ rfl (by omega) q hq
  | 3, _ => exact hf 3 384 _ _ rfl (by omega) q hq
  | 4, _ => exact hf 4 512 _ _ rfl (by omega) q hq
  | 5, _ => exact hf 5 640 _ _ rfl (by omega) q hq
  | 6, _ => exact hf 6 768 _ _ rfl (by omega) q hq
  | 7, _ => exact hf 7 896 _ _ rfl (by omega) q hq
  | H + 8, hH => exact absurd hH (by simp)

variable (d o z : FVec Ideal S256x1024 .f32) (g : FVec Ideal S1x1024 .f32) {D O Z G : ℕ → ℕ → EReal} {T r q : ℕ} (H : ℕ) (hH : H < 8)
  {b : ℕ} (hs : S256x1024.Slices ![0, b] S256x128) (hs1 : S1x1024.Slices ![0, b] S1x128)

theorem slg_rd (hg : ∀ k < 1024, rd g 0 k = G 0 (k % 128)) {k : ℕ} (hH : H < 8) (hb : b = 128 * H) (hk : k < 128) :
    rd (m := 1) (n := 128) (extractStridedSlice S1x128 ![0, b] g hs1) 0 k = G 0 k := by
  rw [rd_slice _ _ _ Nat.one_pos hk]
  show rd g (0 + 0) (b + k) = _
  rw [Nat.zero_add, hg _ (by omega)]
  congr 1; omega

variable (hd : ∀ r < 256, ∀ k < 1024, rd d r k = D (256 * T + r) k) (ho : ∀ r < 256, ∀ k < 1024, rd o r k = O (256 * T + r) k)
  (hz : ∀ r < 256, ∀ k < 1024, rd z r k = Z (256 * T + r) k) (hg : ∀ k < 1024, rd g 0 k = G 0 (k % 128))
include hd ho hz hg

/-- The gradient of the heads, the heads of the tile side by side. -/
theorem catDo_rd {k : ℕ} (hr : r < 256) (hk : k < 1024) :
    rd (m := 256) (n := 1024) (sideBySide fun b hs hg => kDo (cut d b hs) (cut o b hs) (cut z b hs) (cutg g b hg)) r k
      = doN (hT D) (hT O) (hT Z) G (8 * (256 * T + r) + k / 128) (k % 128) :=
  sideBySide_rd _ (fun H q => doN (hT D) (hT O) (hT Z) G (8 * (256 * T + r) + H) q) (fun H b hs hs1 hb hH q hq =>
    kDo_rd _ _ _ _ (fun _ => rd_headSlice d hs (hd r hr) hH hb hr) (fun _ => rd_headSlice o hs (ho r hr) hH hb hr)
      (fun _ => rd_headSlice z hs (hz r hr) hH hb hr) (fun _ => slg_rd g H hs1 hg hH hb) hr hq) hr hk

/-- The gradient of the gates, the heads of the tile side by side. -/
theorem catDz_rd {k : ℕ} (hr : r < 256) (hk : k < 1024) :
    rd (m := 256) (n := 1024) (sideBySide fun b hs hg => kDz (cut d b hs) (cut o b hs) (cut z b hs) (cutg g b hg)) r k
      = dzN (hT D) (hT O) (hT Z) G (8 * (256 * T + r) + k / 128) (k % 128) :=
  sideBySide_rd _ (fun H q => dzN (hT D) (hT O) (hT Z) G (8 * (256 * T + r) + H) q) (fun H b hs hs1 hb hH q hq =>
    kDz_rd _ _ _ _ (fun _ => rd_headSlice d hs (hd r hr) hH hb hr) (fun _ => rd_headSlice o hs (ho r hr) hH hb hr)
      (fun _ => rd_headSlice z hs (hz r hr) hH hb hr) (fun _ => slg_rd g H hs1 hg hH hb) hr hq) hr hk

omit hd ho hz hg in
/-- The sums of a tile, head after head. -/
def sumDg : FVec Ideal S1x128 .f32 :=
  (eight fun b hs _ acc => kDg (cut d b hs) (cut o b hs) (cut z b hs) acc).foldl (fun acc f => f acc)
    (broadcast S1x128 (Scalar.ofBits (F := Ideal) .f32 0x00000000#32))

omit hg in
/-- The gradient of the scale over the tile. -/
theorem sumDg_rd {k : ℕ} (hk : k < 128) : rd (m := 1) (n := 128) (sumDg d o z) 0 k
    = ∑ R ∈ Finset.range 2048, dgN (hT D) (hT O) (hT Z) (2048 * T + R) k := by
  have key (H b : ℕ) (hs : S256x1024.Slices ![0, b] S256x128) (hb : b = 128 * H) (hH : H < 8) (acc : FVec Ideal S1x128 .f32) :
      rd (m := 1) (n := 128) (kDg (cut d b hs) (cut o b hs) (cut z b hs) acc) 0 k
      = rd (m := 1) (n := 128) acc 0 k + ∑ r ∈ Finset.range 256, dgN (hT D) (hT O) (hT Z) (2048 * T + (8 * r + H)) k := by
    unfold kDg
    rw [rd_addf, rd_row]
    refine congrArg (_ + ·) ((rd1_sumRows _ _ _ _ _ hk).trans (Finset.sum_congr rfl fun r hr => ?_))
    have hr' := Finset.mem_range.mp hr
    rw [rd_mulf, rd_mulf, kOn_rd _ (fun _ => rd_headSlice o hs (ho r hr') hH hb hr') hr' hk, kSz_rd _ (rd_headSlice z hs (hz r hr') hH hb hr' hk) hr' hk,
      rd_headSlice d hs (hd r hr') hH hb hr' hk, show 8 * (256 * T + r) + H = 2048 * T + (8 * r + H) by ring]
    rfl
  unfold sumDg eight
  simp only [List.foldl_cons, List.foldl_nil]
  rw [key 7 896 _ rfl (by omega), key 6 768 _ rfl (by omega), key 5 640 _ rfl (by omega), key 4 512 _ rfl (by omega), key 3 384 _ rfl (by omega),
    key 2 256 _ rfl (by omega), key 1 128 _ rfl (by omega), key 0 0 _ rfl (by omega), rd_zero, zero_add]
  exact (sum_heads (fun R => dgN (hT D) (hT O) (hT Z) (2048 * T + R) k) 256).symm

end Tile

variable (m : (ℓ : Loc nD τ sig) → Buf (Elt Ideal) ℓ) (c : Dev nD) (t : Fin cfg0.N)

theorem t_lt : t.val < 16 := lt_of_lt_of_eq t.isLt (by decide +kernel)

/-- The tiles at a point. -/
abbrev d : FVec Ideal S256x1024 .f32 := iblk m c 0 t
abbrev o : FVec Ideal S256x1024 .f32 := iblk m c 1 t
abbrev z : FVec Ideal S256x1024 .f32 := iblk m c 2 t
abbrev g : FVec Ideal S1x1024 .f32 := iblk m c 3 t

/-- What the body leaves in output window 4 at a point. -/
theorem outs4 : (outsAt0 m c t.val t.isLt).1 = sideBySide fun b hs hg => kDo (cut (d m c t) b hs) (cut (o m c t) b hs) (cut (z m c t) b hs) (cutg (g m c t) b hg) := by
  have := t_lt t
  by_cases h0 : t.val % 16 = 0
  on_goal 1 => rw [outsAt0_A m c t h0 (by omega)]; dsimp only; unfold out0_A_4
  on_goal 2 => rw [outsAt0_B m c t h0 (by omega)]; dsimp only; unfold out0_B_4
  all_goals
    rw [View.read_writes_eq_canon]; swap
    · intro y; first | (apply cover0_A_4; done) | apply cover0_B_4
    first | unfold kernelRun0_A | unfold kernelRun0_B
    dsimp only
    sl_unfold_words
    rw [View.canon_unit_zero hz2]
    simp only [View.readAt_eq_ld, (hs0_0 t).read_unread, (hs0_1 t).read_unread, (hs0_2 t).read_unread, (hs0_3 t).read_unread, View.ld_unit_zero (S := S256x1024) hz2, View.ld_unit_zero (S := S1x1024) hz2]
    rfl

/-- What the body leaves in output window 5 at a point. -/
theorem outs5 : (outsAt0 m c t.val t.isLt).2.1 = truncf .bf16 (sideBySide fun b hs hg => kDz (cut (d m c t) b hs) (cut (o m c t) b hs) (cut (z m c t) b hs) (cutg (g m c t) b hg)) bitsLt_bf16_f32 := by
  have := t_lt t
  by_cases h0 : t.val % 16 = 0
  on_goal 1 => rw [outsAt0_A m c t h0 (by omega)]; dsimp only; unfold out0_A_5
  on_goal 2 => rw [outsAt0_B m c t h0 (by omega)]; dsimp only; unfold out0_B_5
  all_goals
    rw [View.read_writes_eq_canon]; swap
    · intro y; first | (apply cover0_A_5; done) | apply cover0_B_5
    first | unfold kernelRun0_A | unfold kernelRun0_B
    dsimp only
    sl_unfold_words
    rw [View.canon_unit_zero hz2]
    simp only [View.readAt_eq_ld, (hs0_0 t).read_unread, (hs0_1 t).read_unread, (hs0_2 t).read_unread, (hs0_3 t).read_unread, View.ld_unit_zero (S := S256x1024) hz2, View.ld_unit_zero (S := S1x1024) hz2]
    rfl

/-- The gradient of the scale over the tile, padded. -/
abbrev dgE : FVec Ideal S8x128 .f32 := concatenate S8x128 0 [⟨S1x128, sumDg (d m c t) (o m c t) (z m c t)⟩, ⟨S7x128, broadcast S7x128 (Scalar.ofBits (F := Ideal) .f32 0x00000000#32)⟩] concatenates_S1x128_S7x128_S8x128_d0

/-- The scale's gradient at the first tile: this tile's sums. -/
theorem outs6_A (h0 : t.val % 16 = 0) : (outsAt0 m c t.val t.isLt).2.2 = dgE m c t := by
  have := t_lt t
  rw [outsAt0_A m c t h0 (by omega)]
  dsimp only
  unfold out0_A_6
  rw [View.read_writes_eq_canon]; swap
  · intro y; apply cover0_A_6
  unfold kernelRun0_A
  dsimp only
  sl_unfold_words
  rw [View.canon_unit_zero hz2]
  simp only [View.readAt_eq_ld, (hs0_0 t).read_unread, (hs0_1 t).read_unread, (hs0_2 t).read_unread, (hs0_3 t).read_unread, View.ld_unit_zero (S := S256x1024) hz2, View.ld_unit_zero (S := S1x1024) hz2]
  rfl

/-- At a later tile: this tile's sums over what the tile before left. -/
theorem outs6_B (h0 : ¬t.val % 16 = 0) (ht : t.val - 1 < cfg0.N) : (outsAt0 m c t.val t.isLt).2.2
    = addf (F := Ideal) (outsAt0 m c (t.val - 1) ht).2.2 (dgE m c t) := by
  rw [outsAt0_B m c t h0 (by omega)]
  dsimp only
  unfold out0_B_6
  rw [View.read_writes_eq_canon]; swap
  · intro y; apply cover0_B_6
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_6 t).read_unread, View.ld_unit_zero (S := S256x1024) hz2, View.ld_unit_zero (S := S1x1024) hz2, View.ld_unit_zero (S := S8x128) hz2]
  exact congrArg (addf · (dgE m c t)) (shapeCast_self _ _)

/-- The arguments read at natural coordinates. -/
abbrev X0 : ℕ → ℕ → EReal := rd (m := 4096) (n := 2048) (m (c.tc.loc main_arg0))
abbrev X1 : ℕ → ℕ → EReal := rd (m := 4096) (n := 1024) (m (c.tc.loc main_arg1))
abbrev X2 : ℕ → ℕ → EReal := rd (m := 4096) (n := 7168) (m (c.tc.loc main_arg2))
abbrev X3 : ℕ → ℕ → EReal := rd (m := 1) (n := 128) (m (c.tc.loc main_arg3))

/-- The tiles are the arrays' rows. -/
theorem blk0 : ∀ r < 256, ∀ k < 1024, rd (m := 256) (n := 1024) (iblk m c 0 t) r k = X0 m c (256 * t.val + r) (1024 + k) := by
  intro r hr k hk
  have e := (by decide +kernel : ∀ t : Fin grid0.N, win0_0.index t 0 = t.val ∧ win0_0.index t 1 = 1) t
  rw [rd_in _ hr hk]
  unfold iblk
  rw [View.read_apply]
  show V m c main_arg0 _ = _
  rw [V_main_arg0]
  refine (rd_of_val (m := 4096) (n := 2048) _ _ ?_ ?_).symm
  · show win0_0.index t 0 * 256 + 1 * r = _; omega
  · show win0_0.index t 1 * 1024 + 1 * k = _; omega
theorem blk1 : ∀ r < 256, ∀ k < 1024, rd (m := 256) (n := 1024) (iblk m c 1 t) r k = X1 m c (256 * t.val + r) k := by
  intro r hr k hk
  have e := (by decide +kernel : ∀ t : Fin grid0.N, win0_1.index t 0 = t.val ∧ win0_1.index t 1 = 0) t
  rw [rd_in _ hr hk]
  unfold iblk
  rw [View.read_apply]
  show V m c main_arg1 _ = _
  rw [V_main_arg1]
  refine (rd_of_val (m := 4096) (n := 1024) _ _ ?_ ?_).symm
  · show win0_1.index t 0 * 256 + 1 * r = _; omega
  · show win0_1.index t 1 * 1024 + 1 * k = _; omega
theorem blk2 : ∀ r < 256, ∀ k < 1024, rd (m := 256) (n := 1024) (iblk m c 2 t) r k = X2 m c (256 * t.val + r) (6144 + k) := by
  intro r hr k hk
  have e := (by decide +kernel : ∀ t : Fin grid0.N, win0_2.index t 0 = t.val ∧ win0_2.index t 1 = 6) t
  rw [rd_in _ hr hk]
  unfold iblk
  rw [View.read_apply]
  show V m c main_arg2 _ = _
  rw [V_main_arg2]
  refine (rd_of_val (m := 4096) (n := 7168) _ _ ?_ ?_).symm
  · show win0_2.index t 0 * 256 + 1 * r = _; omega
  · show win0_2.index t 1 * 1024 + 1 * k = _; omega

/-- The scale laid once a head, as the kernel finds it. -/
theorem V_v2 : V m c main_v2 = shapeCast S1x1024 (broadcastInDim S1x1x8x128 ![0, 1, 2, 3] bcast_S1x1x1x128_S1x1x8x128_0_1_2_3
    (shapeCast S1x1x1x128 (m (c.tc.loc main_arg3)) shapeCasts_S1x128_S1x1x1x128)) shapeCasts_S1x1x8x128_S1x1024 := by
  show StableHlo.after hostOps0 _ _ = _
  after_results_simp
  rfl
theorem v2_rd {k : ℕ} (hk : k < 1024) : rd (m := 1) (n := 1024) (V m c main_v2) 0 k = X3 m c 0 (k % 128) := by
  rw [V_v2]
  exact rd_repeat (b := 8) (n := 128) _ _ _ _ hk
theorem blk3 : ∀ k < 1024, rd (m := 1) (n := 1024) (iblk m c 3 t) 0 k = X3 m c 0 (k % 128) := by
  intro k hk
  have e := (by decide +kernel : ∀ t : Fin grid0.N, win0_3.index t 0 = 0 ∧ win0_3.index t 1 = 0) t
  rw [← v2_rd m c hk, rd_in _ Nat.one_pos hk]
  unfold iblk
  rw [View.read_apply]
  show V m c main_v2 _ = _
  refine (rd_of_val (m := 1) (n := 1024) _ _ ?_ ?_).symm
  · show win0_3.index t 0 * 1 + 1 * 0 = _; rw [e.1]
  · show win0_3.index t 1 * 1024 + 1 * k = _; omega

/-- The arguments as tables of heads. -/
abbrev D : ℕ → ℕ → EReal := hT fun R C => X0 m c R (1024 + C)
abbrev O : ℕ → ℕ → EReal := hT (X1 m c)
abbrev Z : ℕ → ℕ → EReal := hT fun R C => X2 m c R (6144 + C)

theorem outs4_rd {r k : ℕ} (hr : r < 256) (hk : k < 1024) : rd (m := 256) (n := 1024) (outsAt0 m c t.val t.isLt).1 r k
    = doN (D m c) (O m c) (Z m c) (X3 m c) (8 * (256 * t.val + r) + k / 128) (k % 128) := by
  rw [outs4]
  exact catDo_rd _ _ _ _ (blk0 m c t) (blk1 m c t) (blk2 m c t) (blk3 m c t) hr hk
theorem outs5_rd {r k : ℕ} (hr : r < 256) (hk : k < 1024) : rd (m := 256) (n := 1024) (outsAt0 m c t.val t.isLt).2.1 r k
    = dzN (D m c) (O m c) (Z m c) (X3 m c) (8 * (256 * t.val + r) + k / 128) (k % 128) := by
  rw [outs5, rd_truncf]
  exact catDz_rd _ _ _ _ (blk0 m c t) (blk1 m c t) (blk2 m c t) (blk3 m c t) hr hk

/-- The scale's gradient over the first n rows, in row 0 of 8. -/
def dgT (D O Z : ℕ → ℕ → EReal) (n r k : ℕ) : EReal := if r < 1 then ∑ R ∈ Finset.range n, dgN D O Z R k else 0

theorem dgE_rd {r k : ℕ} (hk : k < 128) : rd (m := 8) (n := 128) (dgE m c t) r k
    = if r < 1 then ∑ R ∈ Finset.range 2048, dgN (D m c) (O m c) (Z m c) (2048 * t.val + R) k else 0 := by
  unfold dgE
  rw [rd_concat2]
  split
  · rename_i h
    obtain rfl : r = 0 := by omega
    exact sumDg_rd _ _ _ (blk0 m c t) (blk1 m c t) (blk2 m c t) hk
  · exact rd_zero _ _

theorem outs6_rd : ∀ (n : ℕ) (hn : n < cfg0.N) {r k : ℕ} (_ : r < 8) (_ : k < 128),
    rd (m := 8) (n := 128) (outsAt0 m c n hn).2.2 r k = dgT (D m c) (O m c) (Z m c) (2048 * (n + 1)) r k := by
  intro n
  induction n with
  | zero =>
    intro hn r k hr hk
    rw [show (outsAt0 m c 0 hn).2.2 = _ from outs6_A m c ⟨0, hn⟩ rfl, dgE_rd m c _ hk]
    unfold dgT
    simp
  | succ n ih =>
    intro hn r k hr hk
    have hN : n + 1 < 16 := t_lt ⟨n + 1, hn⟩
    rw [show (outsAt0 m c (n + 1) hn).2.2 = _ from outs6_B m c ⟨n + 1, hn⟩ (by show ¬(n + 1) % 16 = 0; omega) (by show n + 1 - 1 < cfg0.N; omega),
      rd_addf, dgE_rd m c _ hk, show rd (m := 8) (n := 128) (outsAt0 m c (n + 1 - 1) (by omega)).2.2 r k = _ from ih (by omega) hr hk]
    unfold dgT
    split
    · rw [show 2048 * (n + 1 + 1) = 2048 * (n + 1) + 2048 by ring, Finset.sum_range_add]
    · rw [add_zero]

end Cert.H24

end
-- ==== Proof.H24.lean ====
module

public import proofs.«01_k».proof.Proof.H24Kernel
public import proofs.«01_k».proof.Proof.Gen.Reference24Ideal.Run
public import proofs.«01_k».proof.Proof.Gen.Reference24Ideal.Read
public import proofs.«01_k».proof.Defs
public import proofs.«01_k».proof.Proof.Gen.Pre_finite24

@[expose] public section

set_option maxRecDepth 16384

noncomputable section

namespace Cert.H24

open Cert.Kernel24Ideal Cert.Kernel24Ideal.Gen Cert.Kernel24Ideal.Value Cert.Rd Idealize.ShloMosaic Idealize.ShloMosaic.TcCoe Idealize.SL.Sem
open Idealize.ShloMosaic.Pipeline (Dat)

section Reference
open Cert.Reference24Ideal.Read
variable (x0 : FVec Ideal ⟨2, ![4096, 2048]⟩ .f32) (x1 : FVec Ideal ⟨2, ![4096, 1024]⟩ .f32) (x2 : FVec Ideal ⟨2, ![4096, 7168]⟩ .f32)
  (x3 : FVec Ideal ⟨2, ![1, 128]⟩ .f32) {R k : ℕ}

/-- The heads of the three matrices. -/
abbrev rD : ℕ → ℕ → EReal := hT fun R C => rd x0 R (1024 + C)
abbrev rO : ℕ → ℕ → EReal := hT (rd x1)
abbrev rZ : ℕ → ℕ → EReal := hT fun R C => rd x2 R (6144 + C)

theorem v1_rd (hR : R < 32768) (hk : k < 128) : rd (m := 32768) (n := 128) (val_main_v1 (F := Ideal) x1) R k = rO x1 R k :=
  rd_cut (a := 4096) (b := 8) (n := 128) x1 _ rfl hR hk
theorem v2_rd' (hR : R < 32768) (hk : k < 128) : rd (m := 32768) (n := 128) (val_main_v2 (F := Ideal) x2) R k = rZ x2 R k := by
  refine (rd_cut (a := 4096) (b := 8) (n := 128) (val_main_v0 (F := Ideal) x2) _ rfl hR hk).trans ?_
  refine (rd_slice (m := 4096) (n := 7168) ![0, 6144] x2 _ (by omega : R / 8 < 4096) (by omega : 128 * (R % 8) + k < 1024)).trans ?_
  show rd x2 (0 + R / 8) (6144 + (128 * (R % 8) + k)) = _
  rw [Nat.zero_add]
theorem v21_rd (hR : R < 4096) (hk : k < 1024) : rd (m := 4096) (n := 1024) (val_main_v21 (F := Ideal) x0) R k = rd x0 R (1024 + k) := by
  refine (rd_slice (m := 4096) (n := 2048) ![0, 1024] x0 _ hR hk).trans ?_
  show rd x0 (0 + R) (1024 + k) = _
  rw [Nat.zero_add]
theorem v22_rd (hR : R < 32768) (hk : k < 128) : rd (m := 32768) (n := 128) (val_main_v22 (F := Ideal) x0) R k = rD x0 R k :=
  (rd_cut (a := 4096) (b := 8) (n := 128) (val_main_v21 (F := Ideal) x0) _ rfl hR hk).trans (v21_rd x0 (by omega) (by omega))

theorem v9_rd (hR : R < 32768) : rd (m := 32768) (n := 1) (val_main_v9 (F := Ideal) x1) R 0 = wsq (rO x1) (1 / 128) 128 R :=
  rd_hostHeadMsq (val_main_v1 (F := Ideal) x1) _ _ _ _ _ (fun _ hk => v1_rd x1 hR hk) hR
theorem v10_rd (hR : R < 32768) : rd (m := 32768) (n := 1) (val_main_v10 (F := Ideal) x1) R 0 = rw' (rO x1) (1 / 128) 128 R :=
  (rd_hostRsqrt _ hR Nat.one_pos).trans (congrArg Ideal.rsqrt (v9_rd x1 hR))
theorem v15_rd (hR : R < 32768) (hk : k < 128) : rd (m := 32768) (n := 128) (val_main_v15 (F := Ideal) x1) R k
    = rO x1 R k * rw' (rO x1) (1 / 128) 128 R := by
  unfold val_main_v15 val_main_v14
  rw [rd_mulf, v1_rd x1 hR hk, rd_bcastCol _ _ hR hk, v10_rd x1 hR]
theorem s_rd (hR : R < 32768) (hk : k < 128) : rd (m := 32768) (n := 128) (val_main_v18_2 (F := Ideal) x2) R k = sgm (rZ x2 R k) :=
  (rd_hostSgm _ _ _ hR hk).trans (congrArg sgm (v2_rd' x2 hR hk))
theorem v24_rd (hR : R < 32768) (hk : k < 128) : rd (m := 32768) (n := 128) (val_main_v24 (F := Ideal) x0 x2) R k
    = rD x0 R k * (rZ x2 R k * sgm (rZ x2 R k)) := by
  unfold val_main_v24 val_main_v18_0
  rw [rd_mulf, rd_mulf, v22_rd x0 hR hk, v2_rd' x2 hR hk, s_rd x2 hR hk]
theorem v30_rd (hR : R < 32768) (hk : k < 128) : rd (m := 32768) (n := 128) (val_main_v30 (F := Ideal) x0 x2 x3) R k
    = wN (rD x0) (rZ x2) (rd x3) R k := by
  unfold val_main_v30 val_main_v29
  rw [rd_mulf, v24_rd x0 x2 hR hk, rd_bcastRow _ _ hR]
  exact mul_right_comm _ _ _
theorem v23_rd (hR : R < 32768) (hk : k < 128) : rd (m := 32768) (n := 128) (val_main_v23 (F := Ideal) x0 x1 x3) R k
    = rD x0 R k * (rO x1 R k * rw' (rO x1) (1 / 128) 128 R) * rd x3 0 k := by
  unfold val_main_v23 val_main_v17 val_main_v16
  rw [rd_mulf, rd_mulf, v15_rd x1 hR hk, v22_rd x0 hR hk, rd_bcastRow _ _ hR, mul_comm]
  simp only [mul_assoc]

/-- The first result: the gradient of the heads. -/
theorem v46_rd {r c : ℕ} (hr : r < 4096) (hc : c < 1024) : rd (m := 4096) (n := 1024) (val_main_v46 (F := Ideal) x0 x1 x2 x3) r c
    = doN (rD x0) (rO x1) (rZ x2) (rd x3) (8 * r + c / 128) (c % 128) := by
  have hR : 8 * r + c / 128 < 32768 := by omega
  refine (rd_uncut (a := 4096) (b := 8) (n := 128) (val_main_v44 (F := Ideal) x0 x1 x2 x3) _ rfl hr hc).trans ?_
  exact rd_hostHeadDx (val_main_v1 (F := Ideal) x1) (val_main_v30 (F := Ideal) x0 x2 x3) (val_main_v10 (F := Ideal) x1) (val_main_v9 (F := Ideal) x1)
    _ _ _ _ _ _ _ _ _ (v10_rd x1 hR) (v9_rd x1 hR) (fun _ hk => v1_rd x1 hR hk) (fun _ hk => v30_rd x0 x2 x3 hR hk) hR (by omega)

/-- The second result: the gradient of the gates, of a finite gradient and scale. -/
theorem v47_rd (hD : ∀ R C, rd (m := 4096) (n := 1024) (val_main_v21 (F := Ideal) x0) R C ≠ ⊤ ∧ rd (m := 4096) (n := 1024) (val_main_v21 (F := Ideal) x0) R C ≠ ⊥) (hG : ∀ R C, rd x3 R C ≠ ⊤ ∧ rd x3 R C ≠ ⊥) {r c : ℕ} (hr : r < 4096) (hc : c < 1024) :
    rd (m := 4096) (n := 1024) (val_main_v47 (F := Ideal) x0 x1 x2 x3) r c
      = dzN (rD x0) (rO x1) (rZ x2) (rd x3) (8 * r + c / 128) (c % 128) := by
  have hR : 8 * r + c / 128 < 32768 := by omega
  have hk : c % 128 < 128 := by omega
  unfold val_main_v47
  rw [rd_truncf]
  refine (rd_uncut (a := 4096) (b := 8) (n := 128) (val_main_v25 (F := Ideal) x0 x1 x2 x3) _ rfl hr hc).trans ?_
  have h1 : rd (m := 32768) (n := 128) (val_main_call0_v6 (F := Ideal)) (8 * r + c / 128) (c % 128) = 1 := (rd_bcastConst _ _ hR hk).trans c1_eq
  unfold val_main_v25 val_main_call1_v1 val_main_call1_v2 val_main_call1_v0 val_main_v18_1 val_main_call0_v7
  rw [rd_addf, rd_mulf, rd_mulf, rd_mulf, rd_mulf, rd_subf _ _ hR hk, s_rd x2 hR hk, h1, v2_rd' x2 hR hk, v23_rd x0 x1 x3 hR hk]
  have d := hD ((8 * r + c / 128) / 8) (128 * ((8 * r + c / 128) % 8) + c % 128)
  rw [v21_rd x0 (by omega) (by omega)] at d
  have hf := fin_mul (fin_mul d (norm_fin (rO x1) (by norm_num : (0 : ℝ) < 1 / 128) (n := 128) (r := 8 * r + c / 128) hk)) (hG 0 (c % 128))
  exact dsl_eq _ hf.1 hf.2

/-- The third result: the gradient of the scale. -/
theorem v48_rd {r c : ℕ} (hr : r < 8) (hc : c < 128) : rd (m := 8) (n := 128) (val_main_v48 (F := Ideal) x0 x1 x2) r c
    = dgT (rD x0) (rO x1) (rZ x2) 32768 r c := by
  have hp : val_main_call2_v0 (F := Ideal) (Shape.Idx.first Nat.one_pos) = (0 : EReal) := by
    show (((0#32 : BitVec 32).toInt : ℝ) : EReal) = 0
    simp
  refine (rd_pad (lo := 0) (hi := 7) (val_main_v28 (F := Ideal) x0 x1 x2) (val_main_call2_v0 (F := Ideal)) _ _ hp).trans ?_
  rw [if_pos ⟨hr, Nat.zero_le _⟩]
  unfold dgT
  split
  · rename_i h
    obtain rfl : r = 0 := by omega
    refine (rd_row _ _ c).trans ((rd1_hostSumRows _ _ _ _ hc).trans ?_)
    refine ((congrArg (· + _) cst0).trans (zero_add _)).trans (Finset.sum_congr rfl fun R hR => ?_)
    have hR' := Finset.mem_range.mp hR
    unfold val_main_v26
    rw [rd_mulf, v15_rd x1 hR' hc, v24_rd x0 x2 hR' hc]
    unfold dgN
    ac_rfl
  · exact rd_out _ (by omega)

end Reference

variable (m : (ℓ : Loc nD τ sig) → Buf (Elt Ideal) ℓ) (c : Dev nD) (ρ : Dev nD → PrngReg)

/-- The three arrays after the run. -/
abbrev y4 : FVec Ideal ⟨2, ![4096, 1024]⟩ .f32 := tab (fun r k => doN (D m c) (O m c) (Z m c) (X3 m c) (8 * r + k / 128) (k % 128))
abbrev y5 : FVec Ideal ⟨2, ![4096, 1024]⟩ .bf16 := tab (fun r k => dzN (D m c) (O m c) (Z m c) (X3 m c) (8 * r + k / 128) (k % 128))
abbrev y6 : FVec Ideal ⟨2, ![8, 128]⟩ .f32 := tab (dgT (D m c) (O m c) (Z m c) 32768)

theorem index4 (t : Fin cfg0.N) : win0_4.index t 0 = t.val ∧ win0_4.index t 1 = 0 :=
  (by decide +kernel : ∀ t : Fin grid0.N, win0_4.index t 0 = t.val ∧ win0_4.index t 1 = 0) t

/-- Window 4's array after the run. -/
theorem final4 : (dats m 0 c).arrAt 4 cfg0.N = y4 m c := by
  refine (dats m 0 c).arrAt_eq_of_cover 4 _ (fun t hf => ?_) fun i => ?_
  · rw [flushed4]
    funext j
    rw [View.read_apply]
    show ((outsAt0 m c t.val t.isLt).1) j = (fun r k => doN (D m c) (O m c) (Z m c) (X3 m c) (8 * r + k / 128) (k % 128)) (win0_4.index t 0 * 256 + 1 * (j 0).val) (win0_4.index t 1 * 1024 + 1 * (j 1).val)
    rw [eq_rd (m := 256) (n := 1024) ((outsAt0 m c t.val t.isLt).1) j]
    rw [outs4_rd m c t (j 0).isLt (j 1).isLt]
    have hi := index4 t
    rw [hi.1, hi.2]
    dsimp only
    congr 2 <;> omega
  · have h0 : (i 0).val < 4096 := (i 0).isLt
    have h1 : (i 1).val < 1024 := (i 1).isLt
    have hN : cfg0.N = 16 := by decide +kernel
    let t : Fin cfg0.N := ⟨(i 0).val / 256, by omega⟩
    refine ⟨t, flush0_4 _, ?_⟩
    show i ∈ ((View.whole main_v3_0).slice (win0_4.rect t)).set
    rw [View.set_slice_whole, Rect.mem_set_unit]
    have hi := index4 t
    have hv : t.val = (i 0).val / 256 := rfl
    intro a
    match a with
    | ⟨0, _⟩ => show win0_4.index t 0 * 256 ≤ (i 0).val ∧ (i 0).val < win0_4.index t 0 * 256 + 256
                rw [hi.1]; omega
    | ⟨1, _⟩ => show win0_4.index t 1 * 1024 ≤ (i 1).val ∧ (i 1).val < win0_4.index t 1 * 1024 + 1024
                rw [hi.2]; omega

theorem index5 (t : Fin cfg0.N) : win0_5.index t 0 = t.val ∧ win0_5.index t 1 = 0 :=
  (by decide +kernel : ∀ t : Fin grid0.N, win0_5.index t 0 = t.val ∧ win0_5.index t 1 = 0) t

/-- Window 5's array after the run. -/
theorem final5 : (dats m 0 c).arrAt 5 cfg0.N = y5 m c := by
  refine (dats m 0 c).arrAt_eq_of_cover 5 _ (fun t hf => ?_) fun i => ?_
  · rw [flushed5]
    funext j
    rw [View.read_apply]
    show ((outsAt0 m c t.val t.isLt).2.1) j = (fun r k => dzN (D m c) (O m c) (Z m c) (X3 m c) (8 * r + k / 128) (k % 128)) (win0_5.index t 0 * 256 + 1 * (j 0).val) (win0_5.index t 1 * 1024 + 1 * (j 1).val)
    rw [eq_rd (m := 256) (n := 1024) ((outsAt0 m c t.val t.isLt).2.1) j]
    rw [outs5_rd m c t (j 0).isLt (j 1).isLt]
    have hi := index5 t
    rw [hi.1, hi.2]
    dsimp only
    congr 2 <;> omega
  · have h0 : (i 0).val < 4096 := (i 0).isLt
    have h1 : (i 1).val < 1024 := (i 1).isLt
    have hN : cfg0.N = 16 := by decide +kernel
    let t : Fin cfg0.N := ⟨(i 0).val / 256, by omega⟩
    refine ⟨t, flush0_5 _, ?_⟩
    show i ∈ ((View.whole main_v3_1).slice (win0_5.rect t)).set
    rw [View.set_slice_whole, Rect.mem_set_unit]
    have hi := index5 t
    have hv : t.val = (i 0).val / 256 := rfl
    intro a
    match a with
    | ⟨0, _⟩ => show win0_5.index t 0 * 256 ≤ (i 0).val ∧ (i 0).val < win0_5.index t 0 * 256 + 256
                rw [hi.1]; omega
    | ⟨1, _⟩ => show win0_5.index t 1 * 1024 ≤ (i 1).val ∧ (i 1).val < win0_5.index t 1 * 1024 + 1024
                rw [hi.2]; omega

theorem index6 (t : Fin cfg0.N) : win0_6.index t 0 = 0 ∧ win0_6.index t 1 = 0 :=
  (by decide +kernel : ∀ t : Fin grid0.N, win0_6.index t 0 = 0 ∧ win0_6.index t 1 = 0) t

/-- Window 6's array after the run. -/
theorem final6 : (dats m 0 c).arrAt 6 cfg0.N = y6 m c := by
  refine (dats m 0 c).arrAt_eq_of_cover 6 _ (fun t hf => ?_) fun i => ?_
  · rw [flushed6]
    funext j
    rw [View.read_apply]
    show ((outsAt0 m c t.val t.isLt).2.2) j = (dgT (D m c) (O m c) (Z m c) 32768) (win0_6.index t 0 * 8 + 1 * (j 0).val) (win0_6.index t 1 * 128 + 1 * (j 1).val)
    rw [eq_rd (m := 8) (n := 128) ((outsAt0 m c t.val t.isLt).2.2) j]
    have e : t.val = 15 := by have := (flush0_6 t).mp hf; have := t_lt t; omega
    rw [outs6_rd m c t.val t.isLt (j 0).isLt (j 1).isLt, e]
    have hi := index6 t
    rw [hi.1, hi.2]
    congr 1 <;> omega
  · have h0 : (i 0).val < 8 := (i 0).isLt
    have h1 : (i 1).val < 128 := (i 1).isLt
    have hN : cfg0.N = 16 := by decide +kernel
    let t : Fin cfg0.N := ⟨15, by omega⟩
    refine ⟨t, (flush0_6 _).mpr rfl, ?_⟩
    show i ∈ ((View.whole main_v3_2).slice (win0_6.rect t)).set
    rw [View.set_slice_whole, Rect.mem_set_unit]
    have hi := index6 t
    have hv : t.val = 15 := rfl
    intro a
    match a with
    | ⟨0, _⟩ => show win0_6.index t 0 * 8 ≤ (i 0).val ∧ (i 0).val < win0_6.index t 0 * 8 + 8
                rw [hi.1]; omega
    | ⟨1, _⟩ => show win0_6.index t 1 * 128 ≤ (i 1).val ∧ (i 1).val < win0_6.index t 1 * 128 + 128
                rw [hi.2]; omega

/-- The kernel's run: the three arrays in closed form, the arguments unchanged. -/
theorem run : θ_run defs (onTc (τ := τ) (main (F := Ideal))) ⟨m, fun _ => 0, ρ⟩ fun r => ∀ c : Dev nD,
      r.2.mem ((c : Thread nD τ).loc main_v3_0) = y4 m c
      ∧ r.2.mem ((c : Thread nD τ).loc main_v3_1) = y5 m c
      ∧ r.2.mem ((c : Thread nD τ).loc main_v3_2) = y6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (run_blocks m ρ)

/-- With a finite incoming gradient and scale, the kernel and the gradient of the gated normalisation end with equal arrays. -/
theorem algebraic : Cert.algebraic_Kernel24Ideal_Reference24Ideal_pre_finite24 := by
  intro m ρ m' ρ' hpre hag
  have hfin (c : Dev nD) := by
    have h := hpre c
    unfold Cert.Pre_finite24.fn at h
    exact ones_and _ _ h
  refine ⟨_, _, _, run m ρ, (θ_run _ _ _).mono (fun _ h c => ⟨(h c).1.trans ?_, (h c).2.1.trans ?_, (h c).2.2.1.trans ?_, (h c).2.2.2⟩)
    (Cert.Reference24Ideal.Value.run m' ρ')⟩
  · refine (Cert.Reference24Ideal.Read.val_main_v46_eq _ _).trans ?_
    rw [(hag c).1, (hag c).2.1, (hag c).2.2.1, (hag c).2.2.2]
    exact eq_tab fun r k hr hk => v46_rd _ _ _ _ hr hk
  · refine (Cert.Reference24Ideal.Read.val_main_v47_eq _ _ _ _).trans ?_
    rw [(hag c).1, (hag c).2.1, (hag c).2.2.1, (hag c).2.2.2]
    exact eq_tab fun r k hr hk => v47_rd _ _ _ _ (finite_of_all (m := 4096) (n := 1024) _ _ _ _ (hfin c).1)
      (finite_of_all (m := 1) (n := 128) _ _ _ _ (hfin c).2) hr hk
  · refine (Cert.Reference24Ideal.Read.val_main_v48_eq _ _ _).trans ?_
    rw [(hag c).1, (hag c).2.1, (hag c).2.2.1]
    exact eq_tab fun r k hr hk => v48_rd _ _ _ hr hk

/-- The gradient's run leaves the arguments as they were; it uses no semaphore. -/
theorem frame_ref : Cert.quiescent_Reference24Ideal := fun m ρ _ =>
  (θ_run Cert.Reference24Ideal.defs _ _).mono (fun r h => ⟨fun c => (h c).2.2.2, Idealize.ShloMosaic.sem_eq_zero_of_no_sems (by decide) r.2⟩)
    (Cert.Reference24Ideal.Value.run (F := Ideal) m ρ)

end Cert.H24

end
-- ==== Proof.H35.lean ====
module

public import proofs.«01_k».proof.Proof.H24
public import proofs.«01_k».proof.Proof.Gen.Kernel35Ideal.Value
public import proofs.«01_k».proof.Proof.Gen.Reference35Ideal.Run
public import proofs.«01_k».proof.Proof.Gen.Reference35Ideal.Read
public import proofs.«01_k».proof.Defs

@[expose] public section

set_option maxRecDepth 16384

noncomputable section

namespace Cert.H35

open Cert.Kernel35Ideal Cert.Kernel35Ideal.Gen Cert.Kernel35Ideal.Value Cert.Rd Idealize.ShloMosaic Idealize.ShloMosaic.TcCoe Idealize.SL.Sem
open Idealize.ShloMosaic.Pipeline (Dat)

/-- The gated normalisation, head by head. -/
def yN (O Z G : ℕ → ℕ → EReal) (R k : ℕ) : EReal := O R k * rw' O (1 / 128) 128 R * G 0 k * (Z R k * sgm (Z R k))

/-! ## One head, and the eight heads of a tile -/

def kY (o z g : FVec Ideal S512x128 .f32) : FVec Ideal S512x128 .f32 :=
  mulf (mulf (mulf o (broadcastTo S512x128 (rsqrt (addf (divf (shapeCast S512x1 (multiReduction .add [1] S512 (mulf o o) 0x00000000#32
        reduces_S512x128_S512 (.inl rfl) rfl) shapeCasts_S512_S512x1) (broadcast S512x1 (Scalar.ofBits (F := Ideal) .f32 0x43000000#32)))
      (broadcast S512x1 (Scalar.ofBits (F := Ideal) .f32 0x358637BD#32)))) broadcasts_S512x1_S512x128)) g)
    (mulf z (divf (broadcast S512x128 (Scalar.ofBits (F := Ideal) .f32 0x3F800000#32)) (addf (broadcast S512x128 (Scalar.ofBits (F := Ideal) .f32 0x3F800000#32))
      (exp (subf (broadcast S512x128 (Scalar.ofBits (F := Ideal) .f32 0x00000000#32)) z)))))
theorem kY_rd (o z g : FVec Ideal S512x128 .f32) {O Z G : ℕ → ℕ → EReal} {R r q : ℕ} (ho : ∀ k < 128, rd o r k = O R k) (hz : rd z r q = Z R q)
    (hg : rd g r q = G 0 q) (hr : r < 512) (hq : q < 128) : rd (m := 512) (n := 128) (kY o z g) r q = yN O Z G R q := by
  unfold kY yN
  rw [rd_mulf]
  exact congrArg₂ (· * ·) ((rd_mulf _ _ _ _).trans (congrArg₂ (· * ·) (rd_headNorm o _ _ (rd_headRms o _ _ _ _ ho hr) (ho q hq) hr hq) hg))
    ((rd_mulf _ _ _ _).trans (congrArg₂ (· * ·) hz ((rd_sgm z hr hq).trans (congrArg sgm hz))))

abbrev eight {α : Type} (f : (b : ℕ) → S512x1024.Slices ![0, b] S512x128 → α) : List α :=
  [f 0 slices_S512x1024_o0_0_S512x128, f 128 slices_S512x1024_o0_128_S512x128, f 256 slices_S512x1024_o0_256_S512x128, f 384 slices_S512x1024_o0_384_S512x128, f 512 slices_S512x1024_o0_512_S512x128, f 640 slices_S512x1024_o0_640_S512x128, f 768 slices_S512x1024_o0_768_S512x128, f 896 slices_S512x1024_o0_896_S512x128]
def sideBySide (f : (b : ℕ) → S512x1024.Slices ![0, b] S512x128 → FVec Ideal S512x128 .f32) : FVec Ideal S512x1024 .f32 :=
  concatenate S512x1024 1 ((eight f).map fun x => ⟨S512x128, x⟩) concatenates_S512x128_S512x128_S512x128_S512x128_S512x128_S512x128_S512x128_S512x128_S512x1024_d1
theorem sideBySide_rd (f : (b : ℕ) → S512x1024.Slices ![0, b] S512x128 → FVec Ideal S512x128 .f32)
    {r k : ℕ} (A : ℕ → ℕ → EReal) (hf : ∀ H b hs, b = 128 * H → H < 8 → ∀ q < 128, rd (m := 512) (n := 128) (f b hs) r q = A H q)
    (hr : r < 512) (hk : k < 1024) : rd (m := 512) (n := 1024) (sideBySide f) r k = A (k / 128) (k % 128) := by
  refine rd_concatCols (eight f) (fun _ k => A (k / 128) (k % 128)) _ (fun H hH q hq => ?_) hr hk
  rw [show (128 * H + q) / 128 = H by omega, show (128 * H + q) % 128 = q by omega]
  match H, hH with
  | 0, _ => exact hf 0 0 _ rfl (by omega) q hq
  | 1, _ => exact hf 1 128 _ rfl (by omega) q hq
  | 2, _ => exact hf 2 256 _ rfl (by omega) q hq
  | 3, _ => exact hf 3 384 _ rfl (by omega) q hq
  | 4, _ => exact hf 4 512 _ rfl (by omega) q hq
  | 5, _ => exact hf 5 640 _ rfl (by omega) q hq
  | 6, _ => exact hf 6 768 _ rfl (by omega) q hq
  | 7, _ => exact hf 7 896 _ rfl (by omega) q hq
  | H + 8, hH => exact absurd hH (by simp)

variable (m : (ℓ : Loc nD τ sig) → Buf (Elt Ideal) ℓ) (c : Dev nD) (ρ : Dev nD → PrngReg) (t : Fin cfg0.N)

/-- The scale spread over the tile's rows. -/
abbrev gS : FVec Ideal S512x1024 .f32 := broadcastTo S512x1024 (shapeCast S1x1024 (iblk m c 2 t) shapeCasts_S1x1024_S1x1024) broadcasts_S1x1024_S512x1024

/-- What the body leaves at a point. -/
theorem outs3 : outsAt0 m c t = truncf .bf16 (sideBySide fun b hs => kY (extractStridedSlice S512x128 ![0, b] (iblk m c 0 t) hs)
    (extractStridedSlice S512x128 ![0, b] (iblk m c 1 t) hs) (extractStridedSlice S512x128 ![0, b] (gS m c t) hs)) bitsLt_bf16_f32 := by
  unfold outsAt0 out0_A_3
  rw [View.read_writes_eq_canon]; swap
  · intro y; apply cover0_A_3
  unfold kernelRun0_A
  dsimp only
  sl_unfold_words
  rw [View.canon_unit_zero hz2]
  simp only [View.readAt_eq_ld, (hs0_0 t).read_unread, (hs0_1 t).read_unread, (hs0_2 t).read_unread, View.ld_unit_zero (S := S512x1024) hz2, View.ld_unit_zero (S := S1x1024) hz2]
  rfl

abbrev X0 : ℕ → ℕ → EReal := rd (m := 4096) (n := 1024) (m (c.tc.loc main_arg0))
abbrev X1 : ℕ → ℕ → EReal := rd (m := 4096) (n := 7168) (m (c.tc.loc main_arg1))
abbrev X2 : ℕ → ℕ → EReal := rd (m := 1) (n := 128) (m (c.tc.loc main_arg2))
abbrev X3 : ℕ → ℕ → EReal := rd (m := 4096) (n := 2048) (m (c.tc.loc main_arg3))
abbrev O : ℕ → ℕ → EReal := hT (X0 m c)
abbrev Z : ℕ → ℕ → EReal := hT fun R C => X1 m c R (6144 + C)

theorem blk0 : ∀ r < 512, ∀ k < 1024, rd (m := 512) (n := 1024) (iblk m c 0 t) r k = X0 m c (512 * t.val + r) (k) := by
  intro r hr k hk
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 1024) _ _ ?_ ?_).symm
  · show win0_0.index t 0 * 512 + 1 * r = _; omega
  · show win0_0.index t 1 * 1024 + 1 * k = _; omega
theorem blk1 : ∀ r < 512, ∀ k < 1024, rd (m := 512) (n := 1024) (iblk m c 1 t) r k = X1 m c (512 * t.val + r) (6144 + k) := by
  intro r hr k hk
  have e := (by decide +kernel : ∀ t : Fin grid0.N, win0_1.index t 0 = t.val ∧ win0_1.index t 1 = 6) t
  rw [rd_in _ hr hk]
  unfold iblk
  rw [View.read_apply]
  show V m c main_arg1 _ = _
  rw [V_main_arg1]
  refine (rd_of_val (m := 4096) (n := 7168) _ _ ?_ ?_).symm
  · show win0_1.index t 0 * 512 + 1 * r = _; omega
  · show win0_1.index t 1 * 1024 + 1 * k = _; omega

/-- The scale laid once a head. -/
theorem V_v2 : V m c main_v2 = shapeCast S1x1024 (broadcastInDim S1x1x8x128 ![0, 1, 2, 3] bcast_S1x1x1x128_S1x1x8x128_0_1_2_3
    (shapeCast S1x1x1x128 (m (c.tc.loc main_arg2)) shapeCasts_S1x128_S1x1x1x128)) shapeCasts_S1x1x8x128_S1x1024 := by
  show StableHlo.after hostOps0 _ _ = _
  after_results_simp
  rfl
theorem V_v3 : V m c main_v3 = m (c.tc.loc main_arg3) := by
  show StableHlo.after hostOps0 _ _ = _
  after_results_simp
  rfl
theorem blk2 : ∀ k < 1024, rd (m := 1) (n := 1024) (iblk m c 2 t) 0 k = X2 m c 0 (k % 128) := by
  intro k hk
  have e := (by decide +kernel : ∀ t : Fin grid0.N, win0_2.index t 0 = 0 ∧ win0_2.index t 1 = 0) t
  refine Eq.trans ?_ (rd_repeat (b := 8) (n := 128) (m (c.tc.loc main_arg2)) shapeCasts_S1x128_S1x1x1x128 bcast_S1x1x1x128_S1x1x8x128_0_1_2_3
    shapeCasts_S1x1x8x128_S1x1024 hk)
  rw [rd_in _ Nat.one_pos hk]
  unfold iblk
  rw [View.read_apply]
  show V m c main_v2 _ = _
  rw [V_v2]
  refine (rd_of_val (m := 1) (n := 1024) _ _ ?_ ?_).symm
  · show win0_2.index t 0 * 1 + 1 * 0 = _; rw [e.1]
  · show win0_2.index t 1 * 1024 + 1 * k = _; omega

theorem outs3_rd {r k : ℕ} (hr : r < 512) (hk : k < 1024) : rd (m := 512) (n := 1024) (outsAt0 m c t) r k
    = yN (O m c) (Z m c) (X2 m c) (8 * (512 * t.val + r) + k / 128) (k % 128) := by
  rw [outs3, rd_truncf]
  refine sideBySide_rd _ (fun H q => yN (O m c) (Z m c) (X2 m c) (8 * (512 * t.val + r) + H) q) (fun H b hs hb hH q hq => ?_) hr hk
  refine kY_rd _ _ _ (fun _ => rd_headSlice _ hs (blk0 m c t r hr) hH hb hr) (rd_headSlice _ hs (X := fun R C => X1 m c R (6144 + C)) (blk1 m c t r hr) hH hb hr hq) ?_ hr hq
  rw [rd_slice _ _ _ hr hq]
  show rd (gS m c t) (0 + r) (b + q) = _
  unfold gS
  rw [Nat.zero_add, rd_broadcastRow _ _ hr]
  refine (congrFun (congrFun (congrArg rd (shapeCast_self (iblk m c 2 t) shapeCasts_S1x1024_S1x1024)) 0) _).trans ((blk2 m c t _ (by omega)).trans ?_)
  congr 1; omega

abbrev yT : FVec Ideal ⟨2, ![4096, 2048]⟩ .bf16 := tab (fun r k => if k < 1024 then X3 m c r k else yN (O m c) (Z m c) (X2 m c) (8 * r + (k - 1024) / 128) ((k - 1024) % 128))

/-- The array after the run: the right half by the kernel, the left half as it was. -/
theorem final3 : (dats m 0 c).arrAt 3 cfg0.N = yT m c := by
  have hi (t : Fin cfg0.N) : win0_3.index t 0 = t.val ∧ win0_3.index t 1 = 1 :=
    (by decide +kernel : ∀ t : Fin grid0.N, win0_3.index t 0 = t.val ∧ win0_3.index t 1 = 1) t
  refine eq_tab fun r k hr hk => ?_
  split
  · rename_i h
    rw [rd_in _ hr hk, entry3 m c _ fun t _ hm => ?_]
    · exact (congrFun (V_v3 m c) _).trans (rd_in (m := 4096) (n := 2048) _ hr hk).symm
    · change _ ∈ ((View.whole main_v3).slice (win0_3.rect t)).set at hm
      rw [View.set_slice_whole, Rect.mem_set_unit] at hm
      have h1 : win0_3.index t 1 * 1024 ≤ k := (hm 1).1
      rw [(hi t).2] at h1
      omega
  · have hN : cfg0.N = 8 := by decide +kernel
    let t : Fin cfg0.N := ⟨r / 512, by omega⟩
    have hv : t.val = r / 512 := rfl
    have h1 : r % 512 < 512 := by omega
    have h2 : k - 1024 < 1024 := by omega
    have e := congrFun (blocks3 m c t (flush0_3 t)) (ValueIdx.ix2 (⟨r % 512, h1⟩ : Fin 512) (⟨k - 1024, h2⟩ : Fin 1024))
    rw [View.read_apply, flushed3] at e
    refine (rd_of_val (m := 4096) (n := 2048) _ _ ?_ ?_).trans (e.trans ((rd_in (m := 512) (n := 1024) (outsAt0 m c t) h1 h2).symm.trans ?_))
    · show win0_3.index t 0 * 512 + 1 * (r % 512) = _; rw [(hi t).1]; omega
    · show win0_3.index t 1 * 1024 + 1 * (k - 1024) = _; rw [(hi t).2]; omega
    · rw [outs3_rd m c t h1 h2]
      congr 1; omega

theorem run : θ_run defs (onTc (τ := τ) (main (F := Ideal))) ⟨m, fun _ => 0, ρ⟩ fun r => ∀ c : Dev nD,
      r.2.mem ((c : Thread nD τ).loc main_v3) = yT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final3 m c), (h c).2⟩) (run_blocks m ρ)

section Reference
open Cert.Reference35Ideal.Read
variable (x0 : FVec Ideal ⟨2, ![4096, 1024]⟩ .f32) (x1 : FVec Ideal ⟨2, ![4096, 7168]⟩ .f32) (x2 : FVec Ideal ⟨2, ![1, 128]⟩ .f32)
  (x3 : FVec Ideal ⟨2, ![4096, 2048]⟩ .bf16) {R k : ℕ}

theorem w17_rd (hR : R < 32768) (hk : k < 128) : rd (m := 32768) (n := 128) (val_main_v17 (F := Ideal) x0 x1 x2) R k
    = yN (hT (rd x0)) (hT fun R C => rd x1 R (6144 + C)) (rd x2) R k := by
  have e13 : rd (m := 32768) (n := 128) (val_main_v13 (F := Ideal) x0) R k = _ := Cert.H24.v15_rd x0 hR hk
  have e3 : rd (m := 32768) (n := 128) (val_main_v3 (F := Ideal) x1) R k = _ := Cert.H24.v2_rd' x1 hR hk
  have es : rd (m := 32768) (n := 128) (val_main_call0_v5 (F := Ideal) x1) R k = _ := Cert.H24.s_rd x1 hR hk
  unfold val_main_v17 val_main_v16 val_main_v15 val_main_v14
  rw [rd_mulf, rd_mulf, rd_mulf, rd_bcastRow _ _ hR, e13, e3, es]
  rfl
theorem w20_rd {r c : ℕ} (hr : r < 4096) (hc : c < 2048) : rd (m := 4096) (n := 2048) (val_main_v20 (F := Ideal) x0 x1 x2 x3) r c
    = if c < 1024 then rd x3 r c else yN (hT (rd x0)) (hT fun R C => rd x1 R (6144 + C)) (rd x2) (8 * r + (c - 1024) / 128) ((c - 1024) % 128) := by
  unfold val_main_v20
  split
  · rename_i h
    refine (rd_concatCols_left _ _ _ hr h).trans ((rd_slice (m := 4096) (n := 2048) ![0, 0] x3 _ hr h).trans ?_)
    show rd x3 (0 + r) (0 + c) = _
    rw [Nat.zero_add, Nat.zero_add]
  · obtain ⟨d, rfl⟩ : ∃ d, c = 1024 + d := ⟨c - 1024, by omega⟩
    refine (rd_concatCols_right _ _ _ hr (by omega : d < 1024)).trans ?_
    unfold val_main_v19
    rw [rd_truncf, Nat.add_sub_cancel_left]
    exact (rd_uncut (a := 4096) (b := 8) (n := 128) (val_main_v17 (F := Ideal) x0 x1 x2) _ rfl hr (by omega)).trans (w17_rd x0 x1 x2 (by omega) (by omega))

end Reference

/-- The kernel and the gated normalisation end with equal arrays. -/
theorem algebraic : Cert.algebraic_Kernel35Ideal_Reference35Ideal := by
  intro m ρ m' ρ' _ hag
  refine ⟨_, run m ρ, (θ_run _ _ _).mono (fun _ h c => ⟨(h c).1.trans ?_, (h c).2⟩) (Cert.Reference35Ideal.Value.run m' ρ')⟩
  refine (Cert.Reference35Ideal.Read.val_main_v20_eq _ _ _ _).trans ?_
  rw [(hag c).1, (hag c).2.1, (hag c).2.2.1, (hag c).2.2.2]
  exact eq_tab fun r k hr hk => w20_rd _ _ _ _ hr hk

theorem frame_ref : Cert.quiescent_Reference35Ideal := fun m ρ _ =>
  (θ_run Cert.Reference35Ideal.defs _ _).mono (fun r h => ⟨fun c => (h c).2, Idealize.ShloMosaic.sem_eq_zero_of_no_sems (by decide) r.2⟩)
    (Cert.Reference35Ideal.Value.run (F := Ideal) m ρ)

end Cert.H35

end
-- ==== Proof.G31.lean ====
/- The decay and beta. -/
module

public import proofs.«01_k».proof.Defs
public import proofs.«01_k».proof.Proof.Heads
public import proofs.«01_k».proof.Proof.Gen.Kernel31Ideal.Value
public import proofs.«01_k».proof.Proof.Gen.Reference31Ideal.Run
public import proofs.«01_k».proof.Proof.Gen.Reference31Ideal.Read

@[expose] public section

set_option maxRecDepth 16384

noncomputable section

namespace Cert.G31

open Cert.Kernel31Ideal Cert.Kernel31Ideal.Gen Cert.Kernel31Ideal.Value Cert.Rd Idealize.ShloMosaic Idealize.ShloMosaic.TcCoe Idealize.SL.Sem

/-- The softplus, as the kernel and the host compute it. -/
def spl (z : EReal) : EReal := max z 0 + Ideal.log (1 + Ideal.exp (-(max z (-z))))

section Reads
variable {M n : ℕ} {r k : ℕ}

/-- A rotation along the columns by `s`. -/
theorem rd_rotateCols (sb : BitVec 32) (x : (⟨2, ![M, n]⟩ : Shape).Idx → EReal) (h : (⟨2, ![M, n]⟩ : Shape).Rotates 1 none)
    (hr : r < M) (hk : k < n) : rd (dynamicRotate 1 sb none x h) r k = rd x r ((k + n - sb.toNat % n) % n) := by
  rw [rd_in _ hr hk, Pointwise.dynamicRotate_apply]
  exact (rd_of_val x _ rfl rfl).symm

/-- The softplus on the host. -/
theorem rd_hostSpl (z : FVec Ideal ⟨2, ![M, n]⟩ .f32) (h1 h2 h3 : (⟨0, ![]⟩ : Shape).BroadcastsInDim ⟨2, ![M, n]⟩ ![]) (hr : r < M) (hk : k < n) :
    rd (select (cmpf .une (subf z (broadcastInDim ⟨2, ![M, n]⟩ ![] h2 (constant (F := Ideal) ⟨0, ![]⟩ .f32 0x00000000#32))) (subf z (broadcastInDim ⟨2, ![M, n]⟩ ![] h2 (constant (F := Ideal) ⟨0, ![]⟩ .f32 0x00000000#32))))
      (addf z (broadcastInDim ⟨2, ![M, n]⟩ ![] h3 (constant (F := Ideal) ⟨0, ![]⟩ .f32 0x00000000#32)))
      (addf (maximumf z (broadcastInDim ⟨2, ![M, n]⟩ ![] h1 (constant (F := Ideal) ⟨0, ![]⟩ .f32 0x00000000#32)))
        (Host.log1p (Host.exp (Host.negf (Host.absf (subf z (broadcastInDim ⟨2, ![M, n]⟩ ![] h2 (constant (F := Ideal) ⟨0, ![]⟩ .f32 0x00000000#32))))))))) r k
      = spl (rd z r k) := by
  have e0 (h : (⟨0, ![]⟩ : Shape).BroadcastsInDim ⟨2, ![M, n]⟩ ![]) : broadcastInDim ⟨2, ![M, n]⟩ ![] h (constant (F := Ideal) ⟨0, ![]⟩ .f32 0x00000000#32)
      (ValueIdx.ix2 ⟨r, hr⟩ ⟨k, hk⟩) = (0 : EReal) := (rd_in _ hr hk).symm.trans ((rd_bcastConst _ _ hr hk).trans Ideal.ofBits_zero_f32)
  rw [rd_in _ hr hk, rd_in _ hr hk]
  have hs (a : EReal) (x y : EReal) : Scalar.select (Ideal.cmp .une a a) x y = y := by simp [Scalar.select, Ideal.cmp]
  refine (hs _ _ _).trans ?_
  show (max (z _ : EReal) (broadcastInDim _ _ h1 _ _)) + Ideal.log (1 + Ideal.exp (-(max ((z _ : EReal) - broadcastInDim _ _ h2 _ _) (-((z _ : EReal) - broadcastInDim _ _ h2 _ _))))) = _
  rw [e0 h1, sub_zero]
  rfl

/-- The softplus in a kernel. -/
theorem rd_spl (z : FVec Ideal ⟨2, ![M, n]⟩ .f32) (hr : r < M) (hk : k < n) :
    rd (addf (maximumf z (broadcast ⟨2, ![M, n]⟩ (Scalar.ofBits (F := Ideal) .f32 0x00000000#32)))
      (log (addf (broadcast ⟨2, ![M, n]⟩ (Scalar.ofBits (F := Ideal) .f32 0x3F800000#32))
        (exp (subf (broadcast ⟨2, ![M, n]⟩ (Scalar.ofBits (F := Ideal) .f32 0x00000000#32)) (absf z)))))) r k = spl (rd z r k) := by
  rw [rd_in _ hr hk, rd_in _ hr hk]
  show max (z _ : EReal) (Ideal.ofBits .f32 0x00000000#32) + Ideal.log (Ideal.ofBits .f32 0x3F800000#32 + Ideal.exp (Ideal.ofBits .f32 0x00000000#32 - max (z _ : EReal) (-(z _ : EReal)))) = _
  rw [c1_eq, Ideal.ofBits_zero_f32, zero_sub]
  rfl

end Reads

variable (m : (ℓ : Loc nD τ sig) → Buf (Elt Ideal) ℓ) (c : Dev nD) (ρ : Dev nD → PrngReg) (t : Fin cfg0.N)

abbrev X0 : ℕ → ℕ → EReal := rd (m := 4096) (n := 128) (m (c.tc.loc main_arg0))
/-- The two rows over the 128 lanes. -/
abbrev P1 : FVec Ideal ⟨2, ![1, 128]⟩ .f32 := Cert.Reference31Ideal.Read.val_main_v0 (F := Ideal) (m (c.tc.loc main_arg1))
abbrev P2 : FVec Ideal ⟨2, ![1, 128]⟩ .f32 := Cert.Reference31Ideal.Read.val_main_v1 (F := Ideal) (m (c.tc.loc main_arg2))

/-- The decay at an entry. -/
def gN (X A D : ℕ → ℕ → EReal) (r k : ℕ) : EReal := -Ideal.exp (A 0 k) * spl (X r k + D 0 k)
/-- Beta at an entry. -/
def bN (X : ℕ → ℕ → EReal) (r k : ℕ) : EReal := sgm (X r ((k + 8) % 128))

theorem blk0 {r k : ℕ} (hr : r < 1024) (hk : k < 128) : rd (m := 1024) (n := 128) (iblk m c 0 t) r k = X0 m c (1024 * t.val + r) k := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 4096) (n := 128) _ _ ?_ ?_).symm
  · show win0_0.index t 0 * 1024 + 1 * r = _; omega
  · show win0_0.index t 1 * 128 + 1 * k = _; omega

theorem V_v0 : V m c main_v0 = P1 m c := by
  show StableHlo.after (List.flatten [hostOps0, hostOps0_1, hostOps0_2, hostOps0_3]) _ _ = _
  simp only [List.flatten_cons, List.flatten_nil, List.append_nil, hostOps0, hostOps0_1, hostOps0_2, hostOps0_3, List.cons_append, List.nil_append]
  after_results_simp
  rfl
theorem V_v1 : V m c main_v1 = P2 m c := by
  show StableHlo.after (List.flatten [hostOps0, hostOps0_1, hostOps0_2, hostOps0_3]) _ _ = _
  simp only [List.flatten_cons, List.flatten_nil, List.append_nil, hostOps0, hostOps0_1, hostOps0_2, hostOps0_3, List.cons_append, List.nil_append]
  after_results_simp
  rfl
theorem blk1 {k : ℕ} (hk : k < 128) : rd (m := 1) (n := 128) (iblk m c 1 t) 0 k = rd (P1 m c) 0 k := by
  have e := (by decide +kernel : ∀ t : Fin grid0.N, win0_1.index t 0 = 0 ∧ win0_1.index t 1 = 0) t
  rw [rd_in _ Nat.one_pos hk]
  unfold iblk
  rw [View.read_apply]
  show V m c main_v0 _ = _
  rw [V_v0]
  refine (rd_of_val (m := 1) (n := 128) _ _ ?_ ?_).symm
  · show win0_1.index t 0 * 1 + 1 * 0 = _; rw [e.1]
  · show win0_1.index t 1 * 128 + 1 * k = _; omega
theorem blk2 {k : ℕ} (hk : k < 128) : rd (m := 1) (n := 128) (iblk m c 2 t) 0 k = rd (P2 m c) 0 k := by
  have e := (by decide +kernel : ∀ t : Fin grid0.N, win0_2.index t 0 = 0 ∧ win0_2.index t 1 = 0) t
  rw [rd_in _ Nat.one_pos hk]
  unfold iblk
  rw [View.read_apply]
  show V m c main_v1 _ = _
  rw [V_v1]
  refine (rd_of_val (m := 1) (n := 128) _ _ ?_ ?_).symm
  · show win0_2.index t 0 * 1 + 1 * 0 = _; rw [e.1]
  · show win0_2.index t 1 * 128 + 1 * k = _; omega

theorem out3_rd {r k : ℕ} (hr : r < 1024) (hk : k < 128) : rd (m := 1024) (n := 128) (out0_3 (iblk m c 0 t) (iblk m c 1 t) (iblk m c 2 t)) r k
    = gN (X0 m c) (rd (P1 m c)) (rd (P2 m c)) (1024 * t.val + r) k := by
  unfold out0_3
  rw [View.canon_unit_zero hz2, View.ld_unit_zero (S := S1024x128) hz2, View.ld_unit_zero (S := S1x128) hz2, View.ld_unit_zero (S := S1x128) hz2]
  unfold k0_pay1
  dsimp only
  have s1 : shapeCast S1x128 (iblk m c 1 t) shapeCasts_S1x128_S1x128 = iblk m c 1 t := shapeCast_self _ _
  have s2 : shapeCast S1x128 (iblk m c 2 t) shapeCasts_S1x128_S1x128 = iblk m c 2 t := shapeCast_self _ _
  rw [s1, s2, rd_mulf]
  refine congrArg₂ (· * ·) ?_ ((rd_spl _ hr hk).trans (congrArg spl ?_))
  · rw [rd_broadcastRow _ _ hr, rd_subf _ _ Nat.one_pos hk, rd_zero, zero_sub, rd_exp _ Nat.one_pos hk]
    exact congrArg (fun z => -Ideal.exp z) (blk1 m c t hk)
  · rw [rd_addf, rd_broadcastRow _ _ hr]
    exact congrArg₂ (· + ·) (blk0 m c t hr hk) (blk2 m c t hk)
theorem out4_rd {r k : ℕ} (hr : r < 1024) (hk : k < 128) : rd (m := 1024) (n := 128) (out0_4 (iblk m c 0 t) (iblk m c 1 t) (iblk m c 2 t)) r k
    = bN (X0 m c) (1024 * t.val + r) k := by
  unfold out0_4
  rw [View.canon_unit_zero hz2, View.ld_unit_zero (S := S1024x128) hz2]
  unfold k0_pay2
  dsimp only
  refine (rd_sgm _ hr hk).trans (congrArg sgm ?_)
  rw [rd_rotateCols _ _ _ hr hk]
  refine (congrArg (rd _ r) ?_).trans (blk0 m c t hr (by omega : (k + 8) % 128 < 128))
  show (k + 128 - 120 % 128) % 128 = _
  omega

theorem final3 : (dats m 0 c).arrAt 3 cfg0.N = tab (m := 4096) (n := 128) (gN (X0 m c) (rd (P1 m c)) (rd (P2 m c))) := by
  have hi (t : Fin cfg0.N) : win0_3.index t 0 = t.val ∧ win0_3.index t 1 = 0 :=
    (by decide +kernel : ∀ t : Fin grid0.N, win0_3.index t 0 = t.val ∧ win0_3.index t 1 = 0) t
  refine eq_tab fun r k hr hk => ?_
  have hN : cfg0.N = 4 := by decide +kernel
  let t : Fin cfg0.N := ⟨r / 1024, by omega⟩
  have h1 : r % 1024 < 1024 := by omega
  have e := congrFun (blocks3 m c t (flush0_3 t)) (ValueIdx.ix2 (⟨r % 1024, h1⟩ : Fin 1024) (⟨k, hk⟩ : Fin 128))
  rw [View.read_apply, flushed3] at e
  refine (rd_of_val (m := 4096) (n := 128) _ _ ?_ ?_).trans (e.trans ((rd_in (m := 1024) (n := 128) (out0_3 (iblk m c 0 t) (iblk m c 1 t) (iblk m c 2 t)) h1 hk).symm.trans ?_))
  · show win0_3.index t 0 * 1024 + 1 * (r % 1024) = _; rw [(hi t).1]; show r / 1024 * 1024 + _ = _; omega
  · show win0_3.index t 1 * 128 + 1 * k = _; rw [(hi t).2]; omega
  · rw [out3_rd m c t h1 hk]
    congr 1; show 1024 * (r / 1024) + _ = _; omega
theorem final4 : (dats m 0 c).arrAt 4 cfg0.N = tab (m := 4096) (n := 128) (bN (X0 m c)) := by
  have hi (t : Fin cfg0.N) : win0_4.index t 0 = t.val ∧ win0_4.index t 1 = 0 :=
    (by decide +kernel : ∀ t : Fin grid0.N, win0_4.index t 0 = t.val ∧ win0_4.index t 1 = 0) t
  refine eq_tab fun r k hr hk => ?_
  have hN : cfg0.N = 4 := by decide +kernel
  let t : Fin cfg0.N := ⟨r / 1024, by omega⟩
  have h1 : r % 1024 < 1024 := by omega
  have e := congrFun (blocks4 m c t (flush0_4 t)) (ValueIdx.ix2 (⟨r % 1024, h1⟩ : Fin 1024) (⟨k, hk⟩ : Fin 128))
  rw [View.read_apply, flushed4] at e
  refine (rd_of_val (m := 4096) (n := 128) _ _ ?_ ?_).trans (e.trans ((rd_in (m := 1024) (n := 128) (out0_4 (iblk m c 0 t) (iblk m c 1 t) (iblk m c 2 t)) h1 hk).symm.trans ?_))
  · show win0_4.index t 0 * 1024 + 1 * (r % 1024) = _; rw [(hi t).1]; show r / 1024 * 1024 + _ = _; omega
  · show win0_4.index t 1 * 128 + 1 * k = _; rw [(hi t).2]; omega
  · rw [out4_rd m c t h1 hk]
    congr 1; show 1024 * (r / 1024) + _ = _; omega

section Reference
open Cert.Reference31Ideal.Read
variable (x0 : FVec Ideal ⟨2, ![4096, 128]⟩ .f32) (x1 x2 : FVec Ideal ⟨2, ![1, 8]⟩ .f32) {r k : ℕ}

theorem g_rd (hr : r < 4096) (hk : k < 128) : rd (m := 4096) (n := 128) (val_main_v11 (F := Ideal) x0 x1 x2) r k
    = gN (rd x0) (rd (val_main_v0 (F := Ideal) x1)) (rd (val_main_v1 (F := Ideal) x2)) r k := by
  unfold val_main_v11
  rw [rd_mulf]
  refine congrArg₂ (· * ·) ?_ ((rd_hostSpl (val_main_v8 (F := Ideal) x0 x2) _ _ _ hr hk).trans (congrArg spl ?_))
  · unfold val_main_v10 val_main_v6 val_main_v5
    rw [rd_bcastRow _ _ hr, rd_hostNegf _ Nat.one_pos hk, rd_hostExp _ Nat.one_pos hk]
  · unfold val_main_v8 val_main_v7
    rw [rd_addf, rd_bcastRow _ _ hr]
theorem b_rd (hr : r < 4096) (hk : k < 128) : rd (m := 4096) (n := 128) (val_main_v17 (F := Ideal) x0) r k = bN (rd x0) r k := by
  refine (rd_hostSgm (val_main_v4 (F := Ideal) x0) _ _ hr hk).trans (congrArg sgm ?_)
  unfold val_main_v4
  by_cases h : k < 120
  · refine (rd_concatCols_left _ _ _ hr h).trans ((rd_slice (m := 4096) (n := 128) ![0, 8] x0 _ hr h).trans ?_)
    show rd x0 (0 + r) (8 + k) = _
    rw [Nat.zero_add, Nat.mod_eq_of_lt (by omega), Nat.add_comm]
  · obtain ⟨d, rfl⟩ : ∃ d, k = 120 + d := ⟨k - 120, by omega⟩
    refine (rd_concatCols_right _ _ _ hr (by omega : d < 8)).trans ((rd_slice (m := 4096) (n := 128) ![0, 0] x0 _ hr (by omega : d < 8)).trans ?_)
    show rd x0 (0 + r) (0 + d) = _
    rw [Nat.zero_add, Nat.zero_add]
    congr 1; omega

end Reference

/-- The kernel and the decay and beta end with equal arrays. -/
theorem algebraic : Cert.algebraic_Kernel31Ideal_Reference31Ideal := by
  intro m ρ m' ρ' _ hag
  refine ⟨_, _, run_blocks m ρ, (θ_run _ _ _).mono (fun _ h c => ⟨(h c).1.trans ?_, (h c).2.1.trans ?_, (h c).2.2⟩) (Cert.Reference31Ideal.Value.run m' ρ')⟩
  · refine (Cert.Reference31Ideal.Read.val_main_v11_eq _ _ _).trans ?_
    rw [(hag c).1, (hag c).2.1, (hag c).2.2, final3 m c]
    exact eq_tab fun r k hr hk => g_rd _ _ _ hr hk
  · refine (Cert.Reference31Ideal.Read.val_main_v17_eq _).trans ?_
    rw [(hag c).1, final4 m c]
    exact eq_tab fun r k hr hk => b_rd _ hr hk

/-- The reference's run leaves the arguments as they were; it uses no semaphore. -/
theorem frame_ref : Cert.quiescent_Reference31Ideal := fun m ρ _ =>
  (θ_run Cert.Reference31Ideal.defs _ _).mono (fun r h => ⟨fun c => (h c).2.2, Idealize.ShloMosaic.sem_eq_zero_of_no_sems (by decide) r.2⟩)
    (Cert.Reference31Ideal.Value.run (F := Ideal) m ρ)

end Cert.G31

end
-- ==== Proof.Sum41.lean ====
/- The sum of the small weights' gradients over the devices. -/
module

public import proofs.«01_k».proof.Defs
public import proofs.«01_k».proof.Proof.Gen.Kernel41Ideal.Value
public import proofs.«01_k».proof.Proof.Gen.Reference41Ideal.Run
public import proofs.«01_k».proof.Proof.Gen.Reference41Ideal.Read

@[expose] public section

noncomputable section

namespace Cert.Sum41

open Idealize.ShloMosaic Idealize.ShloMosaic.TcCoe Idealize.SL.Sem
open Cert.Reference41Ideal.Read

/-- The reference's sum at an entry: the eight devices' entries, added in the kernel's order. -/
theorem ref_sum (x0 : FVec Ideal ⟨3, ![8, 464, 128]⟩ .f32) : val_main_v0 (F := Ideal) x0 = Cert.Kernel41Ideal.Value.G1 (F := Ideal) x0 := by
  funext i
  rw [val_main_v0_apply, val_main_cst_apply]
  refine (congrArg (· + _) (Ideal.ofBits_zero_f32)).trans ((zero_add _).trans ?_)
  rw [Fin.sum_univ_eight]
  refine Eq.trans ?_ ((Cert.Kernel41Ideal.Value.canon1_eq (F := Ideal) x0 i).symm.trans (congrFun (View.canon_unit_zero (S := Cert.Kernel41Ideal.S464x128) Cert.Kernel41Ideal.Value.hz1 _ _) i))
  rfl

/-- The kernel and the reference end with equal arrays. -/
theorem algebraic : Cert.algebraic_Kernel41Ideal_Reference41Ideal := by
  intro m ρ m' ρ' _ hag
  refine ⟨_, Cert.Kernel41Ideal.Value.run m ρ, (θ_run _ _ _).mono (fun _ h c => ⟨(h c).1.trans ?_, (h c).2⟩) (Cert.Reference41Ideal.Value.run m' ρ')⟩
  refine (val_main_v0_eq _).trans ?_
  rw [hag c]
  exact ref_sum _

/-- The reference's run leaves the argument as it was; it uses no semaphore. -/
theorem frame_ref : Cert.quiescent_Reference41Ideal := fun m ρ _ =>
  (θ_run Cert.Reference41Ideal.defs _ _).mono (fun r h => ⟨fun c => (h c).2, Idealize.ShloMosaic.sem_eq_zero_of_no_sems (by decide) r.2⟩)
    (Cert.Reference41Ideal.Value.run (F := Ideal) m ρ)

end Cert.Sum41

end
-- ==== Proof.G25Kernel.lean ====
/- The gradient of the decay and beta, tile by tile. -/
module

public import proofs.«01_k».proof.Proof.G31
public import proofs.«01_k».proof.Proof.Gen.Kernel25Ideal.Value
public import Idealize.ShloMosaic.Lib.Tactic

@[expose] public section

set_option maxRecDepth 16384

noncomputable section

namespace Cert.G25

open Cert.Kernel25Ideal Cert.Kernel25Ideal.Gen Cert.Kernel25Ideal.Value Cert.Rd Idealize.ShloMosaic Idealize.ShloMosaic.TcCoe Idealize.SL.Sem
open Cert.G31 (gN bN rd_rotateCols)

/-- A head's sum over its 128 lanes. -/
def hsum (D : ℕ → ℕ → ℕ → EReal) (r k : ℕ) : EReal := ∑ l ∈ Finset.range 128, D k r l

section Reads
variable {M r k : ℕ}

theorem io_col (hi : (⟨2, ![M, 128]⟩ : Shape).Iotas Kind.tc 32 [1]) (hr : r < M) (hk : k < 128) :
    iota Kind.tc ⟨2, ![M, 128]⟩ 32 [1] hi (ValueIdx.ix2 ⟨r, hr⟩ ⟨k, hk⟩) = BitVec.ofNat 32 k := by
  show BitVec.ofNat 32 (0 * 128 + k) = _
  rw [Nat.zero_mul, Nat.zero_add]

/-- One head's sum put into its column. -/
theorem rd_head (H : ℕ) (sb : BitVec 32) (hs : sb = BitVec.ofNat 32 H) (hH : H < 8) (D : FVec Ideal ⟨3, ![8, M, 128]⟩ .f32)
    (hsl : (⟨3, ![8, M, 128]⟩ : Shape).Slices ![H, 0, 0] ⟨3, ![1, M, 128]⟩) (hc : (⟨3, ![1, M, 128]⟩ : Shape).ShapeCasts ⟨2, ![M, 128]⟩)
    (hred : (⟨2, ![M, 128]⟩ : Shape).Reduces [1] ⟨1, ![M]⟩) (hφ : FKind.Formats FTy.f32) (hacc : 0x00000000#32 = FKind.add.neutral .f32 hφ)
    (hcol : (⟨1, ![M]⟩ : Shape).ShapeCasts ⟨2, ![M, 1]⟩) (hself : (⟨2, ![M, 1]⟩ : Shape).ShapeCasts ⟨2, ![M, 1]⟩)
    (hb : (⟨2, ![M, 1]⟩ : Shape).Broadcasts ⟨2, ![M, 128]⟩) (hi : (⟨2, ![M, 128]⟩ : Shape).Iotas Kind.tc 32 [1]) (y : FVec Ideal ⟨2, ![M, 128]⟩ .f32)
    (hr : r < M) (hk : k < 128) (hy : rd y r k = if k < H then hsum (rd3 D) r k else 0) :
    rd (select (cmpi .eq (iota Kind.tc ⟨2, ![M, 128]⟩ 32 [1] hi) (broadcast ⟨2, ![M, 128]⟩ sb))
      (broadcastTo ⟨2, ![M, 128]⟩ (shapeCast ⟨2, ![M, 1]⟩ (shapeCast ⟨2, ![M, 1]⟩ (multiReduction .add [1] ⟨1, ![M]⟩
        (shapeCast ⟨2, ![M, 128]⟩ (extractStridedSlice ⟨3, ![1, M, 128]⟩ ![H, 0, 0] D hsl) hc) 0x00000000#32 hred hφ hacc) hcol) hself) hb) y) r k
      = if k < H + 1 then hsum (rd3 D) r k else 0 := by
  subst hs
  have e : rd (select (cmpi .eq (iota Kind.tc ⟨2, ![M, 128]⟩ 32 [1] hi) (broadcast ⟨2, ![M, 128]⟩ (BitVec.ofNat 32 H)))
      (broadcastTo ⟨2, ![M, 128]⟩ (shapeCast ⟨2, ![M, 1]⟩ (shapeCast ⟨2, ![M, 1]⟩ (multiReduction .add [1] ⟨1, ![M]⟩
        (shapeCast ⟨2, ![M, 128]⟩ (extractStridedSlice ⟨3, ![1, M, 128]⟩ ![H, 0, 0] D hsl) hc) 0x00000000#32 hred hφ hacc) hcol) hself) hb) y) r k
      = if k = H then hsum (rd3 D) r H else rd y r k := by
    rw [shapeCast_self, rd_in _ hr hk, rd_in _ hr hk]
    show Scalar.select (Scalar.cmpi .eq (iota Kind.tc ⟨2, ![M, 128]⟩ 32 [1] hi _) (BitVec.ofNat 32 H)) _ _ = _
    rw [io_col]
    refine (select_eq (by omega : k < 2 ^ 32) (by omega : H < 2 ^ 32) _ _).trans ?_
    split
    · refine (rd_in _ hr hk).symm.trans ?_
      rw [rd_broadcastCol _ _ hr hk, rd_column _ _ hr, rd1_sumCols _ _ _ _ _ hr]
      refine Finset.sum_congr rfl fun l hl => ?_
      have hl := Finset.mem_range.mp hl
      rw [rd_cast3 _ _ hr hl, rd3_in _ Nat.one_pos hr hl]
      refine (rd3_of_val D _ ?_ ?_ ?_).symm
      · show H + 0 = H; omega
      · show 0 + r = r; omega
      · show 0 + l = l; omega
    · rfl
  rw [e, hy]
  by_cases h : k = H
  · subst h; rw [if_pos rfl, if_pos (by omega)]
  · rw [if_neg h]; by_cases h' : k < H
    · rw [if_pos h', if_pos (by omega)]
    · rw [if_neg h', if_neg (by omega)]

theorem rd_zero' {f : ℕ → ℕ → EReal} (hr : r < M) (hk : k < 128) :
    rd (m := M) (n := 128) (broadcast ⟨2, ![M, 128]⟩ (Scalar.ofBits (F := Ideal) .f32 0x00000000#32)) r k = if k < 0 then f r k else 0 :=
  (rd_zero r k).trans (if_neg (Nat.not_lt_zero _)).symm

/-- The first eight columns kept, zeros elsewhere. -/
theorem rd_first (x : FVec Ideal ⟨2, ![M, 128]⟩ .f32) (hi : (⟨2, ![M, 128]⟩ : Shape).Iotas Kind.tc 32 [1]) (hr : r < M) (hk : k < 128) :
    rd (select (cmpi .slt (iota Kind.tc ⟨2, ![M, 128]⟩ 32 [1] hi) (broadcast ⟨2, ![M, 128]⟩ 8#32)) x
      (broadcast ⟨2, ![M, 128]⟩ (Scalar.ofBits (F := Ideal) .f32 0x00000000#32))) r k = if k < 8 then rd x r k else 0 := by
  rw [rd_in _ hr hk, rd_in _ hr hk]
  have h := (by decide +kernel : ∀ k : Fin 128, Scalar.cmpi .slt (BitVec.ofNat 32 k.val) 8#32 = if k.val < 8 then 1#1 else 0#1) ⟨k, hk⟩
  show Scalar.select (Scalar.cmpi .slt (iota Kind.tc ⟨2, ![M, 128]⟩ 32 [1] hi _) 8#32) (x _ : EReal) (Ideal.ofBits .f32 0x00000000#32) = _
  rw [io_col, h, Ideal.ofBits_zero_f32]
  by_cases h8 : k < 8
  · simp [Scalar.select, h8]
  · simp [Scalar.select, h8]

end Reads

variable (m : (ℓ : Loc nD τ sig) → Buf (Elt Ideal) ℓ) (c : Dev nD) (ρ : Dev nD → PrngReg) (t : Fin cfg0.N)

/-- The lanes' numbers. -/
abbrev io : IVec S1024x128 32 := iota Kind.tc S1024x128 32 [1] iota_S1024x128_d1_w32
/-- The heads' sums of a tile, but for the last. -/
abbrev d7 (D : FVec Ideal S8x1024x128 .f32) : FVec Ideal S1024x128 .f32 := k0_pay17 D io (k0_pay13 D io (k0_pay8 D) k0_pay10 (k0_pay11 D))
abbrev dgT : FVec Ideal S1024x128 .f32 := k0_pay19 (iblk m c 0 t) io (d7 (iblk m c 0 t))
abbrev daT : FVec Ideal S1024x128 .f32 := k0_pay20 (iblk m c 0 t) (iblk m c 2 t) (k0_pay6 (iblk m c 5 t)) (k0_pay7 (iblk m c 6 t)) io (d7 (iblk m c 0 t))
abbrev dbT : FVec Ideal S1024x128 .f32 := k0_pay21 (iblk m c 1 t) (k0_pay5 (iblk m c 4 t)) io
  (k0_pay16 (iblk m c 1 t) io (k0_pay12 (iblk m c 1 t) io (k0_pay9 (iblk m c 1 t))) (k0_pay14 io) (k0_pay15 (iblk m c 1 t))) (k0_pay18 io)

/-- What the body leaves in output window 7 at a point. -/
theorem outs7 : (outsAt0 m c t.val t.isLt).1 = k0_pay2 io (dbT m c t)
    (k0_pay22 (iblk m c 0 t) (iblk m c 2 t) (k0_pay6 (iblk m c 5 t)) (k0_pay7 (iblk m c 6 t)) io (d7 (iblk m c 0 t))) := by
  have hN : t.val < 4 := lt_of_lt_of_eq t.isLt (by decide +kernel)
  by_cases h0 : t.val % 4 = 0
  · rw [outsAt0_A m c t h0 (by omega)]
    dsimp only
    unfold out0_A_7
    rw [View.read_writes_eq_canon]; swap
    · intro y; apply cover0_A_7
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x128) hz2, View.ld_unit_zero (S := S1x128) hz2, View.ld_unit_zero (S := S8x1024x128) hz3]
  · rw [outsAt0_B m c t h0 (by omega)]
    dsimp only
    unfold out0_B_7
    rw [View.read_writes_eq_canon]; swap
    · intro y; apply cover0_B_7
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x128) hz2, View.ld_unit_zero (S := S1x128) hz2, View.ld_unit_zero (S := S8x1024x128) hz3]

/-- The two rows at the first tile: this tile's sums. -/
theorem outs8_A (h0 : t.val % 4 = 0) : (outsAt0 m c t.val t.isLt).2 = k0_pay1 (k0_pay4 (iblk m c 3 t)) io (dgT m c t) (daT m c t) := by
  have hN : t.val < 4 := lt_of_lt_of_eq t.isLt (by decide +kernel)
  rw [outsAt0_A m c t h0 (by omega)]
  dsimp only
  unfold out0_A_8
  rw [View.read_writes_eq_canon]; swap
  · intro y; apply cover0_A_8
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S1024x128) hz2, View.ld_unit_zero (S := S1x128) hz2, View.ld_unit_zero (S := S8x1024x128) hz3]

/-- At a later tile: this tile's sums over what the tile before left. -/
theorem outs8_B (h0 : ¬t.val % 4 = 0) (ht : t.val - 1 < cfg0.N) : (outsAt0 m c t.val t.isLt).2
    = k0_pay3 (k0_pay4 (iblk m c 3 t)) io (dgT m c t) (daT m c t) (outsAt0 m c (t.val - 1) ht).2 := by
  rw [outsAt0_B m c t h0 (by omega)]
  dsimp only
  unfold out0_B_8
  rw [View.read_writes_eq_canon]; swap
  · intro y; apply cover0_B_8
  unfold kernelRun0_B
  dsimp only
  sl_unfold_words
  rw [View.canon_unit_zero hz2]
  simp only [View.readAt_eq_ld, (hs0_8 t).read_unread, View.ld_unit_zero (S := S8x128) hz2, (hs0_0 t).read_unread, (hs0_1 t).read_unread, (hs0_2 t).read_unread, (hs0_3 t).read_unread, (hs0_4 t).read_unread, (hs0_5 t).read_unread, (hs0_6 t).read_unread, View.ld_unit_zero (S := S1024x128) hz2, View.ld_unit_zero (S := S1x128) hz2, View.ld_unit_zero (S := S8x1024x128) hz3]

/-- The arguments read at natural coordinates, and the two rows over the 128 lanes. -/
abbrev X0 : ℕ → ℕ → ℕ → EReal := rd3 (a := 8) (m := 4096) (n := 128) (m (c.tc.loc main_arg0))
abbrev X1 : ℕ → ℕ → ℕ → EReal := rd3 (a := 8) (m := 4096) (n := 128) (m (c.tc.loc main_arg1))
abbrev X2 : ℕ → ℕ → EReal := rd (m := 4096) (n := 128) (m (c.tc.loc main_arg2))
abbrev P3 : FVec Ideal ⟨2, ![1, 128]⟩ .f32 := Cert.Reference31Ideal.Read.val_main_v0 (F := Ideal) (m (c.tc.loc main_arg3))
abbrev P4 : FVec Ideal ⟨2, ![1, 128]⟩ .f32 := Cert.Reference31Ideal.Read.val_main_v1 (F := Ideal) (m (c.tc.loc main_arg4))
abbrev gE : ℕ → ℕ → EReal := gN (X2 m c) (rd (m := 1) (n := 128) (P3 m c)) (rd (m := 1) (n := 128) (P4 m c))

theorem t_lt : t.val < 4 := lt_of_lt_of_eq t.isLt (by decide +kernel)

theorem blk0 {p r k : ℕ} (hp : p < 8) (hr : r < 1024) (hk : k < 128) : rd3 (a := 8) (m := 1024) (n := 128) (iblk m c 0 t) p r k = X0 m c p (1024 * t.val + r) k := by
  have e := (by decide +kernel : ∀ t : Fin grid0.N, win0_0.index t 0 = 0 ∧ win0_0.index t 1 = t.val ∧ win0_0.index t 2 = 0) t
  rw [rd3_in _ hp hr hk]
  unfold iblk
  rw [View.read_apply]
  show V m c main_arg0 _ = _
  rw [V_main_arg0]
  refine (rd3_of_val (a := 8) (m := 4096) (n := 128) _ _ ?_ ?_ ?_).symm
  · show win0_0.index t 0 * 8 + 1 * p = _; omega
  · show win0_0.index t 1 * 1024 + 1 * r = _; omega
  · show win0_0.index t 2 * 128 + 1 * k = _; omega
theorem blk1 {p r k : ℕ} (hp : p < 8) (hr : r < 1024) (hk : k < 128) : rd3 (a := 8) (m := 1024) (n := 128) (iblk m c 1 t) p r k = X1 m c p (1024 * t.val + r) k := by
  have e := (by decide +kernel : ∀ t : Fin grid0.N, win0_1.index t 0 = 0 ∧ win0_1.index t 1 = t.val ∧ win0_1.index t 2 = 0) t
  rw [rd3_in _ hp hr hk]
  unfold iblk
  rw [View.read_apply]
  show V m c main_arg1 _ = _
  rw [V_main_arg1]
  refine (rd3_of_val (a := 8) (m := 4096) (n := 128) _ _ ?_ ?_ ?_).symm
  · show win0_1.index t 0 * 8 + 1 * p = _; omega
  · show win0_1.index t 1 * 1024 + 1 * r = _; omega
  · show win0_1.index t 2 * 128 + 1 * k = _; omega
theorem V_v11 : V m c main_v11 = Cert.Reference31Ideal.Read.val_main_v11 (F := Ideal) (m (c.tc.loc main_arg2)) (m (c.tc.loc main_arg3)) (m (c.tc.loc main_arg4)) := by
  show StableHlo.after (List.flatten [hostOps0, hostOps0_1, hostOps0_2, hostOps0_3, hostOps0_4, hostOps0_5, hostOps0_6, hostOps0_7, hostOps0_8, hostOps0_9]) _ _ = _
  simp only [List.flatten_cons, List.flatten_nil, List.append_nil, hostOps0, hostOps0_1, hostOps0_2, hostOps0_3, hostOps0_4, hostOps0_5, hostOps0_6, hostOps0_7, hostOps0_8, hostOps0_9, List.cons_append, List.nil_append]
  after_results_simp
  rfl
theorem V_v17 : V m c main_v17 = Cert.Reference31Ideal.Read.val_main_v17 (F := Ideal) (m (c.tc.loc main_arg2)) := by
  show StableHlo.after (List.flatten [hostOps0, hostOps0_1, hostOps0_2, hostOps0_3, hostOps0_4, hostOps0_5, hostOps0_6, hostOps0_7, hostOps0_8, hostOps0_9]) _ _ = _
  simp only [List.flatten_cons, List.flatten_nil, List.append_nil, hostOps0, hostOps0_1, hostOps0_2, hostOps0_3, hostOps0_4, hostOps0_5, hostOps0_6, hostOps0_7, hostOps0_8, hostOps0_9, List.cons_append, List.nil_append]
  after_results_simp
  rfl
theorem V_v18 : V m c main_v18 = P3 m c := by
  show StableHlo.after (List.flatten [hostOps0, hostOps0_1, hostOps0_2, hostOps0_3, hostOps0_4, hostOps0_5, hostOps0_6, hostOps0_7, hostOps0_8, hostOps0_9]) _ _ = _
  simp only [List.flatten_cons, List.flatten_nil, List.append_nil, hostOps0, hostOps0_1, hostOps0_2, hostOps0_3, hostOps0_4, hostOps0_5, hostOps0_6, hostOps0_7, hostOps0_8, hostOps0_9, List.cons_append, List.nil_append]
  after_results_simp
  rfl
theorem V_v19 : V m c main_v19 = P4 m c := by
  show StableHlo.after (List.flatten [hostOps0, hostOps0_1, hostOps0_2, hostOps0_3, hostOps0_4, hostOps0_5, hostOps0_6, hostOps0_7, hostOps0_8, hostOps0_9]) _ _ = _
  simp only [List.flatten_cons, List.flatten_nil, List.append_nil, hostOps0, hostOps0_1, hostOps0_2, hostOps0_3, hostOps0_4, hostOps0_5, hostOps0_6, hostOps0_7, hostOps0_8, hostOps0_9, List.cons_append, List.nil_append]
  after_results_simp
  rfl
theorem blk2 {r k : ℕ} (hr : r < 1024) (hk : k < 128) : rd (m := 1024) (n := 128) (iblk m c 2 t) r k = X2 m c (1024 * t.val + r) k := by
  have e := (by decide +kernel : ∀ t : Fin grid0.N, win0_2.index t 0 = t.val ∧ win0_2.index t 1 = 0) t
  have ht := t_lt t
  rw [rd_in _ hr hk]
  unfold iblk
  rw [View.read_apply]
  show V m c main_arg2 _ = _
  rw [V_main_arg2]
  refine (rd_of_val (m := 4096) (n := 128) _ _ ?_ ?_).symm
  · show win0_2.index t 0 * 1024 + 1 * r = _; omega
  · show win0_2.index t 1 * 128 + 1 * k = _; omega
theorem blk3 {r k : ℕ} (hr : r < 1024) (hk : k < 128) : rd (m := 1024) (n := 128) (iblk m c 3 t) r k = gE m c (1024 * t.val + r) k := by
  have e := (by decide +kernel : ∀ t : Fin grid0.N, win0_3.index t 0 = t.val ∧ win0_3.index t 1 = 0) t
  have ht := t_lt t
  rw [rd_in _ hr hk]
  unfold iblk
  rw [View.read_apply]
  show V m c main_v11 _ = _
  rw [V_v11]
  refine (rd_of_val (m := 4096) (n := 128) _ _ ?_ ?_).symm.trans (Cert.G31.g_rd _ _ _ (by omega) hk)
  · show win0_3.index t 0 * 1024 + 1 * r = _; omega
  · show win0_3.index t 1 * 128 + 1 * k = _; omega
theorem blk4 {r k : ℕ} (hr : r < 1024) (hk : k < 128) : rd (m := 1024) (n := 128) (iblk m c 4 t) r k = bN (X2 m c) (1024 * t.val + r) k := by
  have e := (by decide +kernel : ∀ t : Fin grid0.N, win0_4.index t 0 = t.val ∧ win0_4.index t 1 = 0) t
  have ht := t_lt t
  rw [rd_in _ hr hk]
  unfold iblk
  rw [View.read_apply]
  show V m c main_v17 _ = _
  rw [V_v17]
  refine (rd_of_val (m := 4096) (n := 128) _ _ ?_ ?_).symm.trans (Cert.G31.b_rd _ (by omega) hk)
  · show win0_4.index t 0 * 1024 + 1 * r = _; omega
  · show win0_4.index t 1 * 128 + 1 * k = _; omega
theorem blk5 {k : ℕ} (hk : k < 128) : rd (m := 1) (n := 128) (iblk m c 5 t) 0 k = rd (m := 1) (n := 128) (P3 m c) 0 k := by
  have e := (by decide +kernel : ∀ t : Fin grid0.N, win0_5.index t 0 = 0 ∧ win0_5.index t 1 = 0) t
  rw [rd_in _ Nat.one_pos hk]
  unfold iblk
  rw [View.read_apply]
  show V m c main_v18 _ = _
  rw [V_v18]
  refine (rd_of_val (m := 1) (n := 128) _ _ ?_ ?_).symm
  · show win0_5.index t 0 * 1 + 1 * 0 = _; omega
  · show win0_5.index t 1 * 128 + 1 * k = _; omega
theorem blk6 {k : ℕ} (hk : k < 128) : rd (m := 1) (n := 128) (iblk m c 6 t) 0 k = rd (m := 1) (n := 128) (P4 m c) 0 k := by
  have e := (by decide +kernel : ∀ t : Fin grid0.N, win0_6.index t 0 = 0 ∧ win0_6.index t 1 = 0) t
  rw [rd_in _ Nat.one_pos hk]
  unfold iblk
  rw [View.read_apply]
  show V m c main_v19 _ = _
  rw [V_v19]
  refine (rd_of_val (m := 1) (n := 128) _ _ ?_ ?_).symm
  · show win0_6.index t 0 * 1 + 1 * 0 = _; omega
  · show win0_6.index t 1 * 128 + 1 * k = _; omega

/-- The gradient of the decay's input at an entry of the first eight columns. -/
def daN (D : ℕ → ℕ → ℕ → EReal) (X A Dt : ℕ → ℕ → EReal) (r k : ℕ) : EReal := hsum D r k * -Ideal.exp (A 0 k) * sgm (X r k + Dt 0 k)
/-- The gradient of beta's input. -/
def dbN (D : ℕ → ℕ → ℕ → EReal) (X : ℕ → ℕ → EReal) (r k : ℕ) : EReal := hsum D r k * bN X r k * (1 - bN X r k)
abbrev dgE : ℕ → ℕ → EReal := hsum (X0 m c)
abbrev daE : ℕ → ℕ → EReal := daN (X0 m c) (X2 m c) (rd (m := 1) (n := 128) (P3 m c)) (rd (m := 1) (n := 128) (P4 m c))
abbrev dbE : ℕ → ℕ → EReal := dbN (X1 m c) (X2 m c)
/-- The two outputs at an entry. -/
def o7 (da db : ℕ → ℕ → EReal) (r k : ℕ) : EReal := if k < 8 then da r k else if k < 16 then db r (k - 8) else 0
def o8 (dg g da : ℕ → ℕ → EReal) (n R k : ℕ) : EReal :=
  if k < 8 then if R = 0 then ∑ r ∈ Finset.range n, dg r k * g r k else if R = 1 then ∑ r ∈ Finset.range n, da r k else 0 else 0

variable {r k : ℕ}

theorem heads_rd (D : FVec Ideal S8x1024x128 .f32) (hr : r < 1024) (hk : k < 128) :
    rd (m := 1024) (n := 128) (k0_pay19 D io (d7 D)) r k = if k < 8 then hsum (rd3 (a := 8) (m := 1024) (n := 128) D) r k else 0 := by
  unfold d7 k0_pay19 k0_pay17 k0_pay13 k0_pay11 k0_pay10 k0_pay8
  dsimp only
  exact rd_head 7 _ rfl (by omega) _ _ _ _ _ _ _ _ _ _ _ hr hk (rd_head 6 _ rfl (by omega) _ _ _ _ _ _ _ _ _ _ _ hr hk (rd_head 5 _ rfl (by omega) _ _ _ _ _ _ _ _ _ _ _ hr hk (rd_head 4 _ rfl (by omega) _ _ _ _ _ _ _ _ _ _ _ hr hk (rd_head 3 _ rfl (by omega) _ _ _ _ _ _ _ _ _ _ _ hr hk (rd_head 2 _ rfl (by omega) _ _ _ _ _ _ _ _ _ _ _ hr hk (rd_head 1 _ rfl (by omega) _ _ _ _ _ _ _ _ _ _ _ hr hk (rd_head 0 _ rfl (by omega) _ _ _ _ _ _ _ _ _ _ _ hr hk (rd_zero' hr hk))))))))

theorem dgT_rd (hr : r < 1024) (hk : k < 8) : rd (m := 1024) (n := 128) (dgT m c t) r k = dgE m c (1024 * t.val + r) k := by
  rw [heads_rd _ hr (by omega), if_pos hk]
  exact Finset.sum_congr rfl fun l hl => blk0 m c t hk hr (Finset.mem_range.mp hl)

theorem daT_rd (hr : r < 1024) (hk : k < 8) : rd (m := 1024) (n := 128) (daT m c t) r k = daE m c (1024 * t.val + r) k := by
  have hk' : k < 128 := by omega
  unfold daT k0_pay20 k0_pay6 k0_pay7
  dsimp only
  have s1 : shapeCast S1x128 (iblk m c 5 t) shapeCasts_S1x128_S1x128 = iblk m c 5 t := shapeCast_self _ _
  have s2 : shapeCast S1x128 (iblk m c 6 t) shapeCasts_S1x128_S1x128 = iblk m c 6 t := shapeCast_self _ _
  rw [s1, s2, rd_mulf, rd_mulf]
  refine congrArg₂ (· * ·) (congrArg₂ (· * ·) (dgT_rd m c t hr hk) ?_) ((rd_sgm _ hr hk').trans (congrArg sgm ?_))
  · rw [rd_broadcastRow _ _ hr, rd_subf _ _ Nat.one_pos hk', rd_zero, zero_sub, rd_exp _ Nat.one_pos hk']
    exact congrArg (fun z => -Ideal.exp z) (blk5 m c t hk')
  · rw [rd_addf, rd_broadcastRow _ _ hr]
    exact congrArg₂ (· + ·) (blk2 m c t hr hk') (blk6 m c t hk')

theorem dbT_rd (hr : r < 1024) (hk : k < 8) : rd (m := 1024) (n := 128) (dbT m c t) r k = dbE m c (1024 * t.val + r) k := by
  have hk' : k < 128 := by omega
  have hb : rd (m := 1024) (n := 128) (k0_pay5 (iblk m c 4 t)) r k = bN (X2 m c) (1024 * t.val + r) k := by
    unfold k0_pay5
    have s1 : shapeCast S1024x128 (iblk m c 4 t) shapeCasts_S1024x128_S1024x128 = iblk m c 4 t := shapeCast_self _ _
    exact (congrArg (fun x => rd (m := 1024) (n := 128) x r k) s1).trans (blk4 m c t hr hk')
  unfold dbT k0_pay21 k0_pay18 k0_pay16 k0_pay15 k0_pay14 k0_pay12 k0_pay9
  dsimp only
  rw [rd_mulf, rd_mulf, rd_subf _ _ hr hk', rd_broadcast _ hr hk', hb]
  refine congrArg₂ (· * ·) (congrArg (· * _) ?_) (congrArg (· - _) c1_eq)
  have hk := hk'
  refine Eq.trans (rd_head 7 _ rfl (by omega) _ _ _ _ _ _ _ _ _ _ _ hr hk (rd_head 6 _ rfl (by omega) _ _ _ _ _ _ _ _ _ _ _ hr hk (rd_head 5 _ rfl (by omega) _ _ _ _ _ _ _ _ _ _ _ hr hk (rd_head 4 _ rfl (by omega) _ _ _ _ _ _ _ _ _ _ _ hr hk (rd_head 3 _ rfl (by omega) _ _ _ _ _ _ _ _ _ _ _ hr hk (rd_head 2 _ rfl (by omega) _ _ _ _ _ _ _ _ _ _ _ hr hk (rd_head 1 _ rfl (by omega) _ _ _ _ _ _ _ _ _ _ _ hr hk (rd_head 0 _ rfl (by omega) _ _ _ _ _ _ _ _ _ _ _ hr hk (rd_zero' hr hk))))))))) ((if_pos ‹k < 8›).trans ?_)
  exact Finset.sum_congr rfl fun l hl => blk1 m c t ‹k < 8› hr (Finset.mem_range.mp hl)

theorem outs7_rd (hr : r < 1024) (hk : k < 128) : rd (m := 1024) (n := 128) (outsAt0 m c t.val t.isLt).1 r k
    = o7 (daE m c) (dbE m c) (1024 * t.val + r) k := by
  rw [outs7]
  unfold k0_pay2 k0_pay22 o7
  dsimp only
  rw [rd_truncf, rd_addf, rd_first _ _ hr hk, rd_rotateCols _ _ _ hr hk, rd_first _ _ hr (Nat.mod_lt _ (by omega))]
  have e : (k + 128 - (8#32 : BitVec 32).toNat % 128) % 128 = (k + 120) % 128 := by show (k + 128 - 8 % 128) % 128 = _; omega
  rw [e]
  by_cases h : k < 8
  · rw [if_pos h, if_pos h, if_neg (by omega), add_zero]; exact daT_rd m c t hr h
  · rw [if_neg h, if_neg h, zero_add]
    by_cases h' : k < 16
    · have e : (k + 120) % 128 = k - 8 := by omega
      rw [e, if_pos h', if_pos (by omega)]; exact dbT_rd m c t hr (by omega)
    · rw [if_neg h', if_neg (by omega)]

/-- This tile's two rows. -/
theorem tile_rd {R : ℕ} (hR : R < 8) (hk : k < 128) : rd (m := 8) (n := 128) (k0_pay1 (k0_pay4 (iblk m c 3 t)) io (dgT m c t) (daT m c t)) R k
    = o8 (fun r => dgE m c (1024 * t.val + r)) (fun r => gE m c (1024 * t.val + r)) (fun r => daE m c (1024 * t.val + r)) 1024 R k := by
  have hg {r : ℕ} (hr : r < 1024) : rd (m := 1024) (n := 128) (k0_pay4 (iblk m c 3 t)) r k = gE m c (1024 * t.val + r) k := by
    unfold k0_pay4
    have s1 : shapeCast S1024x128 (iblk m c 3 t) shapeCasts_S1024x128_S1024x128 = iblk m c 3 t := shapeCast_self _ _
    exact (congrArg (fun x => rd (m := 1024) (n := 128) x r k) s1).trans (blk3 m c t hr hk)
  unfold k0_pay1 o8
  dsimp only
  rw [rd_concat3]
  match R, hR with
  | 0, _ =>
    rw [if_pos (by omega), rd_row, if_pos rfl]
    refine (rd1_sumRows _ _ _ _ _ hk).trans ?_
    by_cases h : k < 8
    · rw [if_pos h]; refine Finset.sum_congr rfl fun r hr => ?_
      have hr := Finset.mem_range.mp hr
      rw [rd_first _ _ hr hk, if_pos h, rd_mulf, hg hr, dgT_rd m c t hr h]
    · rw [if_neg h]; refine Finset.sum_eq_zero fun r hr => ?_
      rw [rd_first _ _ (Finset.mem_range.mp hr) hk, if_neg h]
  | 1, _ =>
    rw [if_neg (by omega), if_pos (by omega), rd_row, if_neg (by omega : ¬1 = 0), if_pos rfl]
    refine (rd1_sumRows _ _ _ _ _ hk).trans ?_
    by_cases h : k < 8
    · rw [if_pos h]; refine Finset.sum_congr rfl fun r hr => ?_
      have hr := Finset.mem_range.mp hr
      rw [rd_first _ _ hr hk, if_pos h, daT_rd m c t hr h]
    · rw [if_neg h]; refine Finset.sum_eq_zero fun r hr => ?_
      rw [rd_first _ _ (Finset.mem_range.mp hr) hk, if_neg h]
  | R + 2, _ =>
    rw [if_neg (by omega), if_neg (by omega), if_neg (by omega : ¬R + 2 = 0), if_neg (by omega : ¬R + 2 = 1), ite_self]
    exact rd_zero _ _

theorem o8_add (dg g da : ℕ → ℕ → EReal) (a b R k : ℕ) :
    o8 dg g da (a + b) R k = o8 dg g da a R k + o8 (fun r => dg (a + r)) (fun r => g (a + r)) (fun r => da (a + r)) b R k := by
  unfold o8
  split
  · split
    · rw [Finset.sum_range_add]
    · split
      · rw [Finset.sum_range_add]
      · rw [add_zero]
  · rw [add_zero]

theorem outs8_rd : ∀ (n : ℕ) (hn : n < cfg0.N) {R k : ℕ} (_ : R < 8) (_ : k < 128),
    rd (m := 8) (n := 128) (outsAt0 m c n hn).2 R k = o8 (dgE m c) (gE m c) (daE m c) (1024 * n + 1024) R k := by
  intro n
  induction n with
  | zero =>
    intro hn R k hR hk
    rw [outs8_A m c ⟨0, hn⟩ rfl, tile_rd m c _ hR hk]
    simp only [Nat.mul_zero, Nat.zero_add]
  | succ n ih =>
    intro hn R k hR hk
    have hN := t_lt ⟨n + 1, hn⟩
    have hN : n + 1 < 4 := hN
    rw [outs8_B m c ⟨n + 1, hn⟩ (by show ¬(n + 1) % 4 = 0; omega) (by show n + 1 - 1 < _; omega)]
    unfold k0_pay3
    dsimp only
    rw [rd_addf, shapeCast_self, tile_rd m c _ hR hk, o8_add _ _ _ (1024 * (n + 1)) 1024]
    exact congrArg (· + _) (ih (by omega) hR hk)

theorem final7 : (dats m 0 c).arrAt 7 cfg0.N = tab (m := 4096) (n := 128) (o7 (daE m c) (dbE m c)) := by
  have hi (t : Fin cfg0.N) : win0_7.index t 0 = t.val ∧ win0_7.index t 1 = 0 :=
    (by decide +kernel : ∀ t : Fin grid0.N, win0_7.index t 0 = t.val ∧ win0_7.index t 1 = 0) t
  refine eq_tab fun r k hr hk => ?_
  have hN : cfg0.N = 4 := by decide +kernel
  let t : Fin cfg0.N := ⟨r / 1024, by omega⟩
  have h1 : r % 1024 < 1024 := by omega
  have e := congrFun (blocks7 m c t (flush0_7 t)) (ValueIdx.ix2 (⟨r % 1024, h1⟩ : Fin 1024) (⟨k, hk⟩ : Fin 128))
  rw [View.read_apply, flushed7] at e
  refine (rd_of_val (m := 4096) (n := 128) _ _ ?_ ?_).trans (e.trans ((rd_in (m := 1024) (n := 128) (outsAt0 m c t.val t.isLt).1 h1 hk).symm.trans ?_))
  · show win0_7.index t 0 * 1024 + 1 * (r % 1024) = _; rw [(hi t).1]; show r / 1024 * 1024 + _ = _; omega
  · show win0_7.index t 1 * 128 + 1 * k = _; rw [(hi t).2]; omega
  · rw [outs7_rd m c t h1 hk]
    congr 1; show 1024 * (r / 1024) + _ = _; omega

theorem final8 : (dats m 0 c).arrAt 8 cfg0.N = tab (m := 8) (n := 128) (o8 (dgE m c) (gE m c) (daE m c) 4096) := by
  have hi (t : Fin cfg0.N) : win0_8.index t 0 = 0 ∧ win0_8.index t 1 = 0 :=
    (by decide +kernel : ∀ t : Fin grid0.N, win0_8.index t 0 = 0 ∧ win0_8.index t 1 = 0) t
  refine (dats m 0 c).arrAt_eq_of_cover 8 _ (fun t hf => ?_) fun i => ?_
  · rw [flushed8]
    funext j
    rw [View.read_apply]
    show ((outsAt0 m c t.val t.isLt).2) j = o8 (dgE m c) (gE m c) (daE m c) 4096 (win0_8.index t 0 * 8 + 1 * (j 0).val) (win0_8.index t 1 * 128 + 1 * (j 1).val)
    have h3 := (flush0_8 t).mp hf
    have hN := t_lt t
    rw [eq_rd (m := 8) (n := 128) ((outsAt0 m c t.val t.isLt).2) j, outs8_rd m c t.val t.isLt (j 0).isLt (j 1).isLt, (hi t).1, (hi t).2]
    congr 1 <;> omega
  · have h0 : (i 0).val < 8 := (i 0).isLt
    have h1 : (i 1).val < 128 := (i 1).isLt
    have hN : cfg0.N = 4 := by decide +kernel
    let t : Fin cfg0.N := ⟨3, by omega⟩
    refine ⟨t, (flush0_8 _).mpr (by show 3 % 4 = 3; omega), ?_⟩
    show i ∈ ((View.whole main_v20_1).slice (win0_8.rect t)).set
    rw [View.set_slice_whole, Rect.mem_set_unit]
    intro a
    match a with
    | ⟨0, _⟩ => show win0_8.index t 0 * 8 ≤ (i 0).val ∧ (i 0).val < win0_8.index t 0 * 8 + 8
                rw [(hi t).1]; omega
    | ⟨1, _⟩ => show win0_8.index t 1 * 128 ≤ (i 1).val ∧ (i 1).val < win0_8.index t 1 * 128 + 128
                rw [(hi t).2]; omega

end Cert.G25

end
-- ==== Proof.G25.lean ====
/- The gradient of the decay and beta: the kernel's call is the formula's gradient. -/
module

public import proofs.«01_k».proof.Defs
public import proofs.«01_k».proof.Proof.G25Kernel
public import proofs.«01_k».proof.Proof.Gen.Pre_finite25
public import proofs.«01_k».proof.Proof.Gen.Reference25Ideal.Run
public import proofs.«01_k».proof.Proof.Gen.Reference25Ideal.Read

@[expose] public section

set_option maxRecDepth 16384

noncomputable section

namespace Cert.G25

open Cert.Rd Idealize.ShloMosaic Idealize.ShloMosaic.TcCoe Idealize.SL.Sem
open Cert.G31 (spl gN bN rd_hostSpl)

section Reads
variable {m n : ℕ} {r c : ℕ}

/-- A pad below and to the right. -/
theorem rd_padEnd {m' n' p q : ℕ} {u : Shape} (x : (⟨2, ![m, n]⟩ : Shape).Idx → EReal) (v : u.Idx → EReal)
    (h : (⟨2, ![m, n]⟩ : Shape).Pads ![0, 0] ![p, q] ![0, 0] ⟨2, ![m', n']⟩) (hu : 0 < u.numel) (hv : v (Shape.Idx.first hu) = 0)
    (hr : r < m') (hc : c < n') : rd (pad ⟨2, ![m', n']⟩ ![0, 0] ![p, q] ![0, 0] x v h hu) r c = rd x r c := by
  rw [rd_in _ hr hc, pad_apply]
  split
  · exact (rd_of_val x _ (Nat.div_one _) (Nat.div_one _)).symm
  · rename_i hin
    rw [hv, rd_out]
    intro hlt
    apply hin
    intro a
    match a with
    | ⟨0, _⟩ => exact ⟨Nat.zero_le _, Nat.mod_one _, by show (r - 0) / 1 < m; rw [Nat.div_one]; exact hlt.1⟩
    | ⟨1, _⟩ => exact ⟨Nat.zero_le _, Nat.mod_one _, by show (c - 0) / 1 < n; rw [Nat.div_one]; exact hlt.2⟩

/-- Three matrices side by side. -/
theorem rd_concatCols3 {a b d : ℕ} (x : (⟨2, ![m, a]⟩ : Shape).Idx → EReal) (y : (⟨2, ![m, b]⟩ : Shape).Idx → EReal)
    (z : (⟨2, ![m, d]⟩ : Shape).Idx → EReal)
    (h : Shape.Concatenates [⟨2, ![m, a]⟩, ⟨2, ![m, b]⟩, ⟨2, ![m, d]⟩] ⟨2, ![m, n]⟩ 1) (hr : r < m) (hc : c < n) :
    rd (concatenate ⟨2, ![m, n]⟩ 1 [⟨⟨2, ![m, a]⟩, x⟩, ⟨⟨2, ![m, b]⟩, y⟩, ⟨⟨2, ![m, d]⟩, z⟩] h) r c
      = if c < a then rd x r c else if c - a < b then rd y r (c - a) else rd z r (c - a - b) := by
  rw [rd_in _ hr hc, concatenate_cons_apply, concatenateAt_cons]
  split
  · rename_i hlt
    rw [if_pos (by exact hlt)]
    exact (rd_of_val x _ rfl rfl).symm
  · rename_i hlt
    rw [if_neg (by exact hlt), concatenateAt_cons]
    split
    · rename_i hlt
      rw [if_pos (by exact hlt)]
      exact (rd_of_val y _ rfl rfl).symm
    · rename_i hlt
      rw [if_neg (by exact hlt), concatenateAt_singleton]
      exact (rd_of_val z _ rfl rfl).symm

end Reads

/-- The softplus of a finite number. -/
theorem spl_coe (x : ℝ) : spl x = ((max x 0 + Real.log (1 + Real.exp (-(max x (-x)))) : ℝ) : EReal) := by
  have hm (a b : ℝ) : max (a : EReal) b = ((max a b : ℝ) : EReal) := (EReal.coe_strictMono.monotone.map_max).symm
  have h0 : (0 : EReal) = ((0 : ℝ) : EReal) := rfl
  have h1 : (1 : EReal) = ((1 : ℝ) : EReal) := rfl
  have hp : ¬(1 + Real.exp (-(max x (-x))) ≤ 0) := not_le.mpr (by positivity)
  unfold spl
  rw [← EReal.coe_neg x, h0, hm, hm, ← EReal.coe_neg, Ideal.exp_coe, h1, ← EReal.coe_add, Ideal.log_coe, if_neg hp, ← EReal.coe_add]

/-- The softplus's derivative is the logistic function. -/
theorem exp_spl (x : ℝ) : Ideal.exp ((x : EReal) - spl x) = sgm x := by
  rw [spl_coe, sgm_coe, ← EReal.coe_sub, Ideal.exp_coe]
  congr 1
  rcases le_total 0 x with h | h
  · rw [max_eq_left h, max_eq_left (by linarith), sub_add_cancel_left, Real.exp_neg, Real.exp_log (by positivity)]
  · rw [max_eq_right h, max_eq_right (by linarith), neg_neg, zero_add, Real.exp_sub, Real.exp_log (by positivity), Real.exp_neg]
    have := Real.exp_pos x
    field_simp
    ring

/-- A negated sum of finite products times a factor is the sum with the factor's negative. -/
theorem neg_sum {d s : ℕ → EReal} {E : EReal} (n : ℕ) (hd : ∀ r < n, d r ≠ ⊤ ∧ d r ≠ ⊥) (hs : ∀ r < n, s r ≠ ⊤ ∧ s r ≠ ⊥) (hE : E ≠ ⊤ ∧ E ≠ ⊥) :
    -(∑ r ∈ Finset.range n, d r * s r) * E = ∑ r ∈ Finset.range n, d r * (-E * s r) := by
  lift E to ℝ using hE
  have key : ∃ A : ℝ, ∑ r ∈ Finset.range n, d r * s r = A ∧ ∑ r ∈ Finset.range n, d r * (-(E : EReal) * s r) = ((-A * E : ℝ) : EReal) := by
    induction n with
    | zero => exact ⟨0, by simp⟩
    | succ n ih =>
      obtain ⟨A, h1, h2⟩ := ih (fun r hr => hd r (by omega)) (fun r hr => hs r (by omega))
      obtain ⟨x, hx⟩ : ∃ x : ℝ, d n = x := ⟨_, (EReal.coe_toReal (hd n (by omega)).1 (hd n (by omega)).2).symm⟩
      obtain ⟨y, hy⟩ : ∃ y : ℝ, s n = y := ⟨_, (EReal.coe_toReal (hs n (by omega)).1 (hs n (by omega)).2).symm⟩
      refine ⟨A + x * y, ?_, ?_⟩
      · rw [Finset.sum_range_succ, h1, hx, hy, ← EReal.coe_mul, ← EReal.coe_add]
      · rw [Finset.sum_range_succ, h2, hx, hy, ← EReal.coe_neg, ← EReal.coe_mul, ← EReal.coe_mul, ← EReal.coe_add]
        congr 1; ring
  obtain ⟨A, h1, h2⟩ := key
  rw [h1, h2, ← EReal.coe_neg, ← EReal.coe_mul]

section Reference
open Cert.Reference25Ideal.Read
variable (x0 x1 : FVec Ideal ⟨3, ![8, 4096, 128]⟩ .f32) (x2 : FVec Ideal ⟨2, ![4096, 128]⟩ .f32) (x3 x4 : FVec Ideal ⟨2, ![1, 8]⟩ .f32) {r k : ℕ}

theorem cst0 : FloatOps.ofBits (F := Ideal) .f32 0x00000000#32 = (0 : EReal) := Ideal.ofBits_zero_f32

theorem v1_rd (hr : r < 4096) (hk : k < 8) : rd (m := 4096) (n := 8) (val_main_v1 (F := Ideal) x0) r k = hsum (rd3 x0) r k := by
  rw [rd_in _ hr hk, val_main_v1_apply, val_main_v0_apply, val_main_cst_apply, cst0, zero_add]
  unfold hsum
  rw [Finset.sum_range]
  exact Finset.sum_congr rfl fun l _ => (rd3_of_val x0 _ rfl rfl rfl).symm
theorem v3_rd (hr : r < 4096) (hk : k < 8) : rd (m := 4096) (n := 8) (val_main_v3 (F := Ideal) x1) r k = hsum (rd3 x1) r k := v1_rd x1 hr hk

/-- The padding's value. -/
theorem int0 : FloatOps.sitofp (F := Ideal) .f32 (0#32 : BitVec 32) = (0 : EReal) := by
  show (((0#32 : BitVec 32).toInt : ℝ) : EReal) = 0; simp

theorem pad_rd (hk : k < 8) : rd (m := 1) (n := 128) (Cert.Reference31Ideal.Read.val_main_v0 (F := Ideal) x3) 0 k = rd x3 0 k := by
  unfold Cert.Reference31Ideal.Read.val_main_v0
  exact rd_padEnd _ _ _ _ int0 Nat.one_pos (by omega)
theorem pad_rd' (hk : k < 8) : rd (m := 1) (n := 128) (Cert.Reference31Ideal.Read.val_main_v1 (F := Ideal) x4) 0 k = rd x4 0 k := pad_rd x4 hk

/-- The softplus's argument. -/
theorem v9_rd (hr : r < 4096) (hk : k < 8) : rd (m := 4096) (n := 8) (val_main_v9 (F := Ideal) x2 x4) r k = rd x2 r k + rd x4 0 k := by
  unfold val_main_v9 val_main_v4 val_main_v8
  rw [rd_addf, rd_bcastRow _ _ hr]
  refine congrArg (· + _) ((rd_slice (m := 4096) (n := 128) ![0, 0] x2 _ hr hk).trans ?_)
  show rd x2 (0 + r) (0 + k) = _
  rw [Nat.zero_add, Nat.zero_add]

theorem v10_rd (hr : r < 4096) (hk : k < 8) : rd (m := 4096) (n := 8) (val_main_v10_0 (F := Ideal) x2 x4) r k
    = spl (rd (m := 4096) (n := 8) (val_main_v9 (F := Ideal) x2 x4) r k) := rd_hostSpl (val_main_v9 (F := Ideal) x2 x4) _ _ _ hr hk

theorem v101_rd (hr : r < 4096) (hk : k < 8) {x : ℝ} (hx : rd (m := 4096) (n := 8) (val_main_v9 (F := Ideal) x2 x4) r k = x) :
    rd (m := 4096) (n := 8) (val_main_v10_1 (F := Ideal) x2 x4) r k = sgm x := by
  have htop : FloatOps.ofBits (F := Ideal) .f32 0x7F800000#32 = (⊤ : EReal) := by show Ideal.ofBits .f32 0x7F800000#32 = ⊤; simp [Ideal.ofBits, Ideal.ieee]
  have hs (a : EReal) (ha : a ≠ ⊤) (x y : EReal) : Scalar.select (Ideal.cmp .oeq a ⊤) x y = y := by simp [Scalar.select, Ideal.cmp, ha]
  have h10 := (v10_rd x2 x4 hr hk).trans (congrArg spl hx)
  rw [rd_in _ hr hk] at hx h10 ⊢
  rw [val_main_v10_1_apply, val_main_call0_v21_apply, val_main_call0_v16_apply, val_main_call0_v20_apply, val_main_call0_v14_apply, val_main_call0_v18_apply,
    val_main_call0_v13_apply, val_main_call0_v17_apply, val_main_call0_cst_0_apply, val_main_call0_cst_2_apply, htop, hx, h10]
  refine Eq.trans ?_ (exp_spl x)
  refine congrArg Ideal.exp (congrArg₂ (· - ·) (hs _ (EReal.coe_ne_top _) _ _) (hs _ ?_ _ _))
  rw [spl_coe]; exact EReal.coe_ne_top _

/-- The gradient of the decay's input. -/
theorem v28_rd (hr : r < 4096) (hk : k < 8) {x : ℝ} (hx : rd (m := 4096) (n := 8) (val_main_v9 (F := Ideal) x2 x4) r k = x) :
    rd (m := 4096) (n := 8) (val_main_v28 (F := Ideal) x0 x2 x3 x4) r k
      = daN (rd3 x0) (rd x2) (rd (Cert.Reference31Ideal.Read.val_main_v0 (F := Ideal) x3)) (rd (Cert.Reference31Ideal.Read.val_main_v1 (F := Ideal) x4)) r k := by
  unfold val_main_v28 val_main_v24 val_main_v23 val_main_v7 val_main_v6 daN
  rw [rd_mulf, v101_rd x2 x4 hr hk hx, rd_mulf, rd_bcastRow _ _ hr, rd_hostNegf _ Nat.one_pos hk, rd_hostExp _ Nat.one_pos hk, v1_rd x0 hr hk,
    mul_comm (-_), pad_rd x3 hk, pad_rd' x4 hk, ← v9_rd x2 x4 hr hk, hx]

/-- The gradient of beta's input. -/
theorem v22_rd (hr : r < 4096) (hk : k < 8) : rd (m := 4096) (n := 8) (val_main_v22 (F := Ideal) x1 x2) r k = dbN (rd3 x1) (rd x2) r k := by
  have hb : rd (m := 4096) (n := 8) (val_main_v18 (F := Ideal) x2) r k = bN (rd x2) r k := by
    refine (rd_hostSgm (val_main_v5 (F := Ideal) x2) _ _ hr hk).trans (congrArg sgm ((rd_slice (m := 4096) (n := 128) ![0, 8] x2 _ hr hk).trans ?_))
    show rd x2 (0 + r) (8 + k) = _
    rw [Nat.zero_add, Nat.mod_eq_of_lt (by omega), Nat.add_comm]
  unfold val_main_v22 val_main_v21 val_main_v20 val_main_v19 val_main_cst_3 dbN
  rw [rd_mulf, rd_mulf, rd_subf _ _ hr hk, rd_bcastConst _ _ hr hk, hb, v3_rd x1 hr hk, mul_assoc]
  exact congrArg (fun z => _ * (_ * (z - _))) c1_eq

variable (h0 : ∀ r k, r < 4096 → k < 8 → hsum (rd3 x0) r k ≠ ⊤ ∧ hsum (rd3 x0) r k ≠ ⊥)
  (h9 : ∀ r k, rd (m := 4096) (n := 8) (val_main_v9 (F := Ideal) x2 x4) r k ≠ ⊤ ∧ rd (m := 4096) (n := 8) (val_main_v9 (F := Ideal) x2 x4) r k ≠ ⊥)
  (h3 : ∀ r k, rd x3 r k ≠ ⊤ ∧ rd x3 r k ≠ ⊥)

include h9 in
theorem v28_fin (hr : r < 4096) (hk : k < 8) : rd (m := 4096) (n := 8) (val_main_v28 (F := Ideal) x0 x2 x3 x4) r k
      = daN (rd3 x0) (rd x2) (rd (Cert.Reference31Ideal.Read.val_main_v0 (F := Ideal) x3)) (rd (Cert.Reference31Ideal.Read.val_main_v1 (F := Ideal) x4)) r k :=
  v28_rd x0 x2 x3 x4 hr hk (EReal.coe_toReal (h9 r k).1 (h9 r k).2).symm

include h9 in
theorem v35_rd (hr : r < 4096) (hk : k < 128) : rd (m := 4096) (n := 128) (val_main_v35 (F := Ideal) x0 x1 x2 x3 x4) r k
    = o7 (daN (rd3 x0) (rd x2) (rd (Cert.Reference31Ideal.Read.val_main_v0 (F := Ideal) x3)) (rd (Cert.Reference31Ideal.Read.val_main_v1 (F := Ideal) x4)))
      (dbN (rd3 x1) (rd x2)) r k := by
  unfold val_main_v35 val_main_v34 o7
  rw [rd_truncf]
  refine (rd_concatCols3 _ _ _ _ hr hk).trans ?_
  by_cases h : k < 8
  · rw [if_pos h, if_pos h]; exact v28_fin x0 x2 x3 x4 h9 hr h
  · rw [if_neg h, if_neg h]
    by_cases h' : k < 16
    · rw [if_pos h', if_pos (by omega)]; exact v22_rd x1 x2 hr (by omega)
    · rw [if_neg h', if_neg (by omega)]
      exact (rd_bcastConst _ _ hr (by omega)).trans cst0

include h0 h9 h3 in
theorem v37_rd {R : ℕ} (hR : R < 8) (hk : k < 128) : rd (m := 8) (n := 128) (val_main_v37 (F := Ideal) x0 x2 x3 x4) R k
    = o8 (hsum (rd3 x0)) (gN (rd x2) (rd (Cert.Reference31Ideal.Read.val_main_v0 (F := Ideal) x3)) (rd (Cert.Reference31Ideal.Read.val_main_v1 (F := Ideal) x4)))
      (daN (rd3 x0) (rd x2) (rd (Cert.Reference31Ideal.Read.val_main_v0 (F := Ideal) x3)) (rd (Cert.Reference31Ideal.Read.val_main_v1 (F := Ideal) x4))) 4096 R k := by
  unfold val_main_v37 o8
  refine (rd_padEnd _ _ _ _ int0 hR hk).trans ?_
  by_cases h : k < 8
  · rw [if_pos h]
    by_cases h2 : R < 2
    · unfold val_main_v36
      rw [rd_concat2]
      match R, h2 with
      | 0, _ =>
        rw [if_pos (by omega), if_pos rfl]
        unfold val_main_v32 val_main_v31 val_main_v27 val_main_v26 val_main_v25 val_main_v6
        rw [rd_mulf, rd_hostNegf _ Nat.one_pos h, rd_hostExp _ Nat.one_pos h, rd_row, rd1_hostSumRows _ _ _ _ h]
        have hf (r : ℕ) (hr : r < 4096) : spl (rd (m := 4096) (n := 8) (val_main_v9 (F := Ideal) x2 x4) r k) ≠ ⊤ ∧ spl (rd (m := 4096) (n := 8) (val_main_v9 (F := Ideal) x2 x4) r k) ≠ ⊥ := by
          rw [← EReal.coe_toReal (h9 r k).1 (h9 r k).2, spl_coe]
          exact ⟨EReal.coe_ne_top _, EReal.coe_ne_bot _⟩
        have hE : Ideal.exp (rd x3 0 k) ≠ ⊤ ∧ Ideal.exp (rd x3 0 k) ≠ ⊥ := by
          rw [← EReal.coe_toReal (h3 0 k).1 (h3 0 k).2, Ideal.exp_coe]
          exact ⟨EReal.coe_ne_top _, EReal.coe_ne_bot _⟩
        have e1 : ∑ r ∈ Finset.range 4096, rd (m := 4096) (n := 8) ((mulf (val_main_v1 (F := Ideal) x0) (val_main_v10_0 (F := Ideal) x2 x4) : FVec Ideal ⟨2, ![4096, 8]⟩ .f32)) r k
            = ∑ r ∈ Finset.range 4096, hsum (rd3 x0) r k * spl (rd (m := 4096) (n := 8) (val_main_v9 (F := Ideal) x2 x4) r k) :=
          Finset.sum_congr rfl fun r hr => by
            have hr := Finset.mem_range.mp hr
            rw [rd_mulf, v1_rd x0 hr h, v10_rd x2 x4 hr h]
        have e2 : val_main_cst_4 (F := Ideal) (Shape.Idx.first Cert.Reference25Ideal.Gen.h_S_) = (0 : EReal) := cst0
        refine (congrArg (fun z => -z * _) ((congrArg₂ (· + ·) e2 e1).trans (zero_add _))).trans ((neg_sum 4096 (fun r hr => h0 r k hr h) hf hE).trans ?_)
        refine Finset.sum_congr rfl fun r hr => ?_
        have hr := Finset.mem_range.mp hr
        unfold gN
        rw [pad_rd x3 h, pad_rd' x4 h, v9_rd x2 x4 hr h]
      | 1, _ =>
        rw [if_neg (by omega), if_neg (by omega : ¬1 = 0), if_pos rfl]
        unfold val_main_v30 val_main_v29
        rw [rd_row, rd1_hostSumRows _ _ _ _ h]
        have e2 : val_main_cst_5 (F := Ideal) (Shape.Idx.first Cert.Reference25Ideal.Gen.h_S_) = (0 : EReal) := cst0
        refine (congrArg (· + _) e2).trans ((zero_add _).trans ?_)
        exact Finset.sum_congr rfl fun r hr => v28_fin x0 x2 x3 x4 h9 (Finset.mem_range.mp hr) h
    · rw [if_neg (by omega : ¬R = 0), if_neg (by omega : ¬R = 1), rd_out _ (by omega)]
  · rw [if_neg h, rd_out _ (by omega)]

end Reference

open Cert.Kernel25Ideal Cert.Kernel25Ideal.Gen Cert.Kernel25Ideal.Value in
/-- The kernel and the gates' gradient end with equal arrays. -/
theorem algebraic : Cert.algebraic_Kernel25Ideal_Reference25Ideal_pre_finite25 := by
  intro m ρ m' ρ' hpre hag
  have hf (c : Dev nD) := by
    have h := hpre c
    unfold Cert.Pre_finite25.fn Cert.Pre_finite25.fn_part1 at h
    exact ones_and _ _ h
  have h0 (c : Dev nD) (r k : ℕ) (hr : r < 4096) (hk : k < 8) : hsum (X0 m c) r k ≠ ⊤ ∧ hsum (X0 m c) r k ≠ ⊥ := by
    have h := finite_of_all (m := 8) (n := 4096) _ _ _ _ (ones_and _ _ (hf c).1).1 k r
    have e : rd (m := 8) (n := 4096) (Cert.Reference25Ideal.Read.val_main_v0 (F := Ideal) (m (c.tc.loc main_arg0))) k r = hsum (X0 m c) r k := by
      refine Eq.trans ?_ (v1_rd (m (c.tc.loc main_arg0)) hr hk)
      rw [rd_in _ hr hk, Cert.Reference25Ideal.Read.val_main_v1_apply]
      exact rd_of_val _ _ rfl rfl
    rw [← e]; exact h
  have h9 (c : Dev nD) (r k : ℕ) : rd (m := 4096) (n := 8) (Cert.Reference25Ideal.Read.val_main_v9 (F := Ideal) (m (c.tc.loc main_arg2)) (m (c.tc.loc main_arg4))) r k ≠ ⊤
      ∧ rd (m := 4096) (n := 8) (Cert.Reference25Ideal.Read.val_main_v9 (F := Ideal) (m (c.tc.loc main_arg2)) (m (c.tc.loc main_arg4))) r k ≠ ⊥ :=
    finite_of_all (m := 4096) (n := 8) _ _ _ _ (ones_and _ _ (hf c).1).2 r k
  have h3 (c : Dev nD) (r k : ℕ) : rd (m := 1) (n := 8) (m (c.tc.loc main_arg3)) r k ≠ ⊤ ∧ rd (m := 1) (n := 8) (m (c.tc.loc main_arg3)) r k ≠ ⊥ :=
    finite_of_all (m := 1) (n := 8) _ _ _ _ (hf c).2 r k
  refine ⟨_, _, run_blocks m ρ, (θ_run _ _ _).mono (fun _ h c => ⟨(h c).1.trans ?_, (h c).2.1.trans ?_, (h c).2.2⟩) (Cert.Reference25Ideal.Value.run m' ρ')⟩
  · refine (Cert.Reference25Ideal.Read.val_main_v35_eq _ _).trans ?_
    rw [(hag c).1, (hag c).2.1, (hag c).2.2.1, (hag c).2.2.2.1, (hag c).2.2.2.2, final7 m c]
    exact eq_tab fun r k hr hk => v35_rd _ _ _ _ _ (h9 c) hr hk
  · refine (Cert.Reference25Ideal.Read.val_main_v37_eq _ _).trans ?_
    rw [(hag c).1, (hag c).2.2.1, (hag c).2.2.2.1, (hag c).2.2.2.2, final8 m c]
    exact eq_tab fun r k hr hk => v37_rd _ _ _ _ (h0 c) (h9 c) (h3 c) hr hk

/-- The reference's run leaves the arguments as they were; it uses no semaphore. -/
theorem frame_ref : Cert.quiescent_Reference25Ideal := fun m ρ _ =>
  (θ_run Cert.Reference25Ideal.defs _ _).mono (fun r h => ⟨fun c => (h c).2.2, Idealize.ShloMosaic.sem_eq_zero_of_no_sems (by decide) r.2⟩)
    (Cert.Reference25Ideal.Value.run (F := Ideal) m ρ)

end Cert.G25

end
-- ==== Proof.H33.lean ====
module

public import proofs.«01_k».proof.Proof.Conv
public import proofs.«01_k».proof.Proof.Heads
public import proofs.«01_k».proof.Proof.Gen.Kernel33Ideal.Value
public import proofs.«01_k».proof.Proof.Gen.Reference33Ideal.Run
public import proofs.«01_k».proof.Proof.Gen.Reference33Ideal.Read
public import proofs.«01_k».proof.Defs

@[expose] public section

set_option maxRecDepth 16384

noncomputable section

namespace Cert.H33

open Cert.Kernel33Ideal Cert.Kernel33Ideal.Gen Cert.Kernel33Ideal.Value Cert.Rd Idealize.ShloMosaic Idealize.ShloMosaic.TcCoe Idealize.SL.Sem
open Idealize.ShloMosaic.Pipeline (Dat)

/-- The convolution's activation, and that with the queries' and keys' heads normalised. -/
def sN (X W : ℕ → ℕ → EReal) (R C : ℕ) : EReal := conv4 X W R C * sgm (conv4 X W R C)
def lN (S : ℕ → ℕ → EReal) (R C : ℕ) : EReal :=
  S R C * Ideal.rsqrt (∑ k ∈ Finset.range 128, S R (128 * (C / 128) + k) * S R (128 * (C / 128) + k) + cE)
def qkvN (S : ℕ → ℕ → EReal) (R C : ℕ) : EReal := if C < 2048 then lN S R C else S R C

/-! ## One head, and the four heads of a tile -/

/-- The shifted sum of squares of a head, under the root. -/
theorem rd_headL2 {m n r : ℕ} (x : FVec Ideal ⟨2, ![m, n]⟩ .f32) (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) {f : ℕ → EReal} (hx : ∀ k < n, rd x r k = f k) (hr : r < m) :
    rd (rsqrt (addf (shapeCast ⟨2, ![m, 1]⟩ (multiReduction .add [1] ⟨1, ![m]⟩ (mulf x x) 0x00000000#32 h hφ hacc) hs)
        (broadcast ⟨2, ![m, 1]⟩ (Scalar.ofBits (F := Ideal) .f32 0x358637BD#32)))) r 0 = Ideal.rsqrt (∑ k ∈ Finset.range n, f k * f k + cE) := by
  rw [rd_rsqrt _ hr Nat.one_pos, rd_addf, rd_column _ _ hr, rd1_sumCols _ _ _ _ _ hr, rd_broadcast _ hr Nat.one_pos,
    Finset.sum_congr rfl fun k hk => by rw [rd_mulf, hx k (Finset.mem_range.mp hk)]]
  rfl

def kL (o : FVec Ideal S1024x128 .f32) : FVec Ideal S1024x128 .f32 :=
  mulf o (broadcastTo S1024x128 (rsqrt (addf (shapeCast S1024x1 (multiReduction .add [1] S1024 (mulf o o) 0x00000000#32
      reduces_S1024x128_S1024 (.inl rfl) rfl) shapeCasts_S1024_S1024x1) (broadcast S1024x1 (Scalar.ofBits (F := Ideal) .f32 0x358637BD#32))))
    broadcasts_S1024x1_S1024x128)
theorem kL_rd (o : FVec Ideal S1024x128 .f32) {f : ℕ → EReal} {r q : ℕ} (ho : ∀ k < 128, rd (m := 1024) (n := 128) o r k = f k) (hr : r < 1024) (hq : q < 128) :
    rd (m := 1024) (n := 128) (kL o) r q = f q * Ideal.rsqrt (∑ k ∈ Finset.range 128, f k * f k + cE) := by
  unfold kL
  exact rd_headNorm o _ _ (rd_headL2 o _ _ _ _ ho hr) (ho q hq) hr hq

abbrev four {α : Type} (f : (b : ℕ) → S1024x512.Slices ![0, b] S1024x128 → α) : List α :=
  [f 0 slices_S1024x512_o0_0_S1024x128, f 128 slices_S1024x512_o0_128_S1024x128, f 256 slices_S1024x512_o0_256_S1024x128, f 384 slices_S1024x512_o0_384_S1024x128]
def sideBySide (f : (b : ℕ) → S1024x512.Slices ![0, b] S1024x128 → FVec Ideal S1024x128 .f32) : FVec Ideal S1024x512 .f32 :=
  concatenate S1024x512 1 ((four f).map fun x => ⟨S1024x128, x⟩) concatenates_S1024x128_S1024x128_S1024x128_S1024x128_S1024x512_d1
theorem sideBySide_rd (f : (b : ℕ) → S1024x512.Slices ![0, b] S1024x128 → FVec Ideal S1024x128 .f32)
    {r k : ℕ} (A : ℕ → ℕ → EReal) (hf : ∀ H b hs, b = 128 * H → H < 4 → ∀ q < 128, rd (m := 1024) (n := 128) (f b hs) r q = A H q)
    (hr : r < 1024) (hk : k < 512) : rd (m := 1024) (n := 512) (sideBySide f) r k = A (k / 128) (k % 128) := by
  refine rd_concatCols (four f) (fun _ k => A (k / 128) (k % 128)) _ (fun H hH q hq => ?_) hr hk
  rw [show (128 * H + q) / 128 = H by omega, show (128 * H + q) % 128 = q by omega]
  match H, hH with
  | 0, _ => exact hf 0 0 _ rfl (by omega) q hq
  | 1, _ => exact hf 1 128 _ rfl (by omega) q hq
  | 2, _ => exact hf 2 256 _ rfl (by omega) q hq
  | 3, _ => exact hf 3 384 _ rfl (by omega) q hq
  | H + 4, hH => exact absurd hH (by simp)

/-- The four heads of a tile normalised, at the tile's columns of an array. -/
theorem norm_rd (v : FVec Ideal S1024x512 .f32) {S : ℕ → ℕ → EReal} {R J r k : ℕ} (hv : ∀ k < 512, rd (m := 1024) (n := 512) v r k = S R (512 * J + k))
    (hr : r < 1024) (hk : k < 512) :
    rd (m := 1024) (n := 512) (sideBySide fun b hs => kL (extractStridedSlice S1024x128 ![0, b] v hs)) r k = lN S R (512 * J + k) := by
  have hs := sideBySide_rd (fun b hs => kL (extractStridedSlice S1024x128 ![0, b] v hs)) (r := r) (k := k)
    (fun H q => S R (512 * J + (128 * H + q)) * Ideal.rsqrt (∑ k ∈ Finset.range 128, S R (512 * J + (128 * H + k)) * S R (512 * J + (128 * H + k)) + cE))
    (fun H b hs hb hH q hq => kL_rd _ (f := fun q => S R (512 * J + (128 * H + q))) (fun k hk => by
      rw [rd_slice _ _ _ hr hk]
      show rd (m := 1024) (n := 512) v (0 + r) (b + k) = _
      rw [Nat.zero_add, hb, hv _ (by omega)]) hr hq) hr hk
  refine hs.trans ?_
  unfold lN
  rw [Nat.div_add_mod]
  refine congrArg (fun s => _ * Ideal.rsqrt (s + cE)) (Finset.sum_congr rfl fun q _ => ?_)
  rw [show 128 * ((512 * J + k) / 128) + q = 512 * J + (128 * (k / 128) + q) by omega]

variable (m : (ℓ : Loc nD τ sig) → Buf (Elt Ideal) ℓ) (c : Dev nD) (ρ : Dev nD → PrngReg) (t : Fin cfg0.N)

/-- The arguments read at natural coordinates; the columns read; the activation. -/
abbrev X0 : ℕ → ℕ → EReal := rd (m := 4096) (n := 7168) (m (c.tc.loc main_arg0))
abbrev X1 : ℕ → ℕ → EReal := rd (m := 4) (n := 3072) (m (c.tc.loc main_arg1))
abbrev P : ℕ → ℕ → EReal := fun R C => X0 m c R (3072 + C)
abbrev S : ℕ → ℕ → EReal := sN (P m c) (X1 m c)

/-- The grid's coordinates: the column tile and the row tile. -/
theorem gi_val : (grid0.coords t 1).val = t.val % 4 :=
  (by decide +kernel : ∀ t : Fin grid0.N, (grid0.coords t 1).val = t.val % 4) t

theorem t_lt : t.val < 24 := lt_of_lt_of_eq t.isLt (by decide +kernel)

theorem normed : Scalar.cmpi .slt (BitVec.ofNat 32 (grid0.coords t 0).val) 4#32 = if t.val / 4 < 4 then 1#1 else 0#1 :=
  (by decide +kernel : ∀ t : Fin grid0.N, Scalar.cmpi .slt (BitVec.ofNat 32 (grid0.coords t 0).val) 4#32 = if t.val / 4 < 4 then 1#1 else 0#1) t

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (3072 + (512 * (t.val / 4) + k)) := by
  have e := (by decide +kernel : ∀ t : Fin grid0.N, win0_0.index t 0 = t.val % 4 * 128 - 1 ∧ win0_0.index t 1 = t.val / 4 + 6) t
  rw [rd_in _ hr hk]
  unfold iblk
  rw [View.read_apply]
  show V m c main_arg0 _ = _
  rw [V_main_arg0]
  refine (rd_of_val (m := 4096) (n := 7168) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (3072 + (512 * (t.val / 4) + k)) := by
  have e := (by decide +kernel : ∀ t : Fin grid0.N, win0_1.index t 0 = t.val % 4 ∧ win0_1.index t 1 = t.val / 4 + 6) t
  rw [rd_in _ hr hk]
  unfold iblk
  rw [View.read_apply]
  show V m c main_arg0 _ = _
  rw [V_main_arg0]
  refine (rd_of_val (m := 4096) (n := 7168) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (3072 + (512 * (t.val / 4) + k)) := by
  have e := (by decide +kernel : ∀ t : Fin grid0.N, win0_2.index t 0 = min ((t.val % 4 + 1) * 128) 511 ∧ win0_2.index t 1 = t.val / 4 + 6) t
  rw [rd_in _ hr hk]
  unfold iblk
  rw [View.read_apply]
  show V m c main_arg0 _ = _
  rw [V_main_arg0]
  refine (rd_of_val (m := 4096) (n := 7168) _ _ ?_ ?_).symm
  · show win0_2.index t 0 * 8 + 1 * r = _; omega
  · show win0_2.index t 1 * 512 + 1 * k = _; omega

/-- The taps at the tile's columns. -/
theorem blk3 {r k : ℕ} (hr : r < 4) (hk : k < 512) :
    rd (m := 4) (n := 512) (iblk m c 3 t) r k = X1 m c (r) (512 * (t.val / 4) + k) := by
  have e := (by decide +kernel : ∀ t : Fin grid0.N, win0_3.index t 0 = 0 ∧ win0_3.index t 1 = t.val / 4) t
  rw [rd_in _ hr hk]
  unfold iblk
  rw [View.read_apply]
  show V m c main_arg1 _ = _
  rw [V_main_arg1]
  refine (rd_of_val (m := 4) (n := 3072) _ _ ?_ ?_).symm
  · show win0_3.index t 0 * 4 + 1 * r = _; omega
  · show win0_3.index t 1 * 512 + 1 * k = _; omega

/-- The tile with eight rows on each side. -/
abbrev pE : FVec Ideal S1040x512 .f32 := concatenate S1040x512 0
  [⟨S8x512, Scalar.select (Scalar.cmpi .eq (BitVec.ofNat 32 (grid0.coords t 1).val) 0#32) (broadcast S8x512 (Scalar.ofBits (F := Ideal) .f32 0x00000000#32)) (iblk m c 0 t : FVec Ideal S8x512 .f32)⟩,
    ⟨S1024x512, (iblk m c 1 t : FVec Ideal S1024x512 .f32)⟩,
    ⟨S8x512, Scalar.select (Scalar.cmpi .eq (BitVec.ofNat 32 (grid0.coords t 1).val) 3#32) (broadcast S8x512 (Scalar.ofBits (F := Ideal) .f32 0x00000000#32)) (iblk m c 2 t : FVec Ideal S8x512 .f32)⟩]
  concatenates_S8x512_S1024x512_S8x512_S1040x512_d0

/-- It is the array's rows, zero above the first. -/
theorem pE_rd {r k : ℕ} (hr : r < 1040) (hk : k < 512) :
    rd (m := 1040) (n := 512) (pE m c t) r k = halo (P m c) (1024 * (t.val % 4) + r) (512 * (t.val / 4) + k) := by
  refine rd_tile (tb := 1024) (nI := 4) (P m c) (iblk m c 0 t) (iblk m c 2 t) (iblk m c 1 t) _ _ _ (by omega) rfl
    (by omega) (fun R C h => rd_out _ (by omega)) (edge t 0 (by omega) _) (edge t 3 (by omega) _) ?_ ?_ ?_ hr hk
  · intro h r k hr hk; rw [blk0 m c t hr hk]; show X0 m c _ _ = X0 m c _ _; congr 1; omega
  · intro r k hr hk; exact blk1 m c t hr hk
  · intro h r k hr hk; rw [blk2 m c t hr hk]; show X0 m c _ _ = X0 m c _ _; congr 1; omega

/-- The activation at the tile. -/
abbrev sE : FVec Ideal S1024x512 .f32 := k0_pay2 (grid0.coords t) (iblk m c 0 t) (iblk m c 1 t) (iblk m c 2 t) (iblk m c 3 t)
theorem sE_rd {r k : ℕ} (hr : r < 1024) (hk : k < 512) :
    rd (m := 1024) (n := 512) (sE m c t) r k = S m c (1024 * (t.val % 4) + r) (512 * (t.val / 4) + k) := by
  unfold sE k0_pay2
  dsimp only
  rw [rd_mulf, rd_sgm _ hr hk, rd_own _ _ hr hk]
  have hc := rd_tileConv4 (P m c) (X1 m c) (pE m c t) (iblk m c 3 t)
    slices_S4x512_o0_0_S1x512 slices_S4x512_o1_0_S1x512 slices_S4x512_o2_0_S1x512 slices_S4x512_o3_0_S1x512 broadcasts_S1x512_S1040x512
    broadcasts_S1x512_S1040x512 broadcasts_S1x512_S1040x512 broadcasts_S1x512_S1040x512 rotates_S1040x512_d0 rotates_S1040x512_d0 rotates_S1040x512_d0
    (fun _ _ => pE_rd m c t) (fun _ _ => blk3 m c t) (show 8 + r < 1040 by omega) hk
  exact congrArg₂ (· * ·) hc (congrArg sgm hc)

/-- What the body leaves in the output's block. -/
theorem out4_rd {r k : ℕ} (hr : r < 1024) (hk : k < 512) :
    rd (m := 1024) (n := 512) (out0_4 (grid0.coords t) (iblk m c 0 t) (iblk m c 1 t) (iblk m c 2 t) (iblk m c 3 t)) r k
      = qkvN (S m c) (1024 * (t.val % 4) + r) (512 * (t.val / 4) + k) := by
  have ht := t_lt t
  unfold out0_4
  rw [View.canon_unit_zero hz2]
  simp only [View.ld_unit_zero (S := S8x512) hz2, View.ld_unit_zero (S := S1024x512) hz2, View.ld_unit_zero (S := S4x512) hz2]
  rw [normed]
  unfold qkvN
  by_cases h : t.val / 4 < 4
  · rw [if_pos h, if_pos (by omega)]
    exact norm_rd (sE m c t) (fun _ hk => sE_rd m c t hr hk) hr hk
  · rw [if_neg h, if_neg (by omega)]
    exact sE_rd m c t hr hk

theorem index4 : win0_4.index t 0 = t.val % 4 ∧ win0_4.index t 1 = t.val / 4 :=
  (by decide +kernel : ∀ t : Fin grid0.N, win0_4.index t 0 = t.val % 4 ∧ win0_4.index t 1 = t.val / 4) t

/-- Window 4's array after the run. -/
theorem final4 : (dats m 0 c).arrAt 4 cfg0.N = tab (m := 4096) (n := 3072) (qkvN (S m c)) := by
  refine (dats m 0 c).arrAt_eq_of_cover 4 _ (fun t hf => ?_) fun i => ?_
  · rw [flushed4]
    funext j
    rw [View.read_apply]
    show (out0_4 (grid0.coords t) (iblk m c 0 t) (iblk m c 1 t) (iblk m c 2 t) (iblk m c 3 t)) j = (qkvN (S m c)) (win0_4.index t 0 * 1024 + 1 * (j 0).val) (win0_4.index t 1 * 512 + 1 * (j 1).val)
    rw [eq_rd (m := 1024) (n := 512) (out0_4 (grid0.coords t) (iblk m c 0 t) (iblk m c 1 t) (iblk m c 2 t) (iblk m c 3 t)) j]
    rw [out4_rd m c t (j 0).isLt (j 1).isLt]
    have hi := index4 t
    rw [hi.1, hi.2]
    congr 1 <;> omega
  · have h0 : (i 0).val < 4096 := (i 0).isLt
    have h1 : (i 1).val < 3072 := (i 1).isLt
    have hN : cfg0.N = 24 := by decide +kernel
    let t : Fin cfg0.N := ⟨4 * ((i 1).val / 512) + (i 0).val / 1024, by omega⟩
    refine ⟨t, flush0_4 _, ?_⟩
    show i ∈ ((View.whole main_v0).slice (win0_4.rect t)).set
    rw [View.set_slice_whole, Rect.mem_set_unit]
    have hi := index4 t
    have hv : t.val = 4 * ((i 1).val / 512) + (i 0).val / 1024 := rfl
    intro a
    match a with
    | ⟨0, _⟩ => show win0_4.index t 0 * 1024 ≤ (i 0).val ∧ (i 0).val < win0_4.index t 0 * 1024 + 1024
                rw [hi.1]; omega
    | ⟨1, _⟩ => show win0_4.index t 1 * 512 ≤ (i 1).val ∧ (i 1).val < win0_4.index t 1 * 512 + 512
                rw [hi.2]; omega

/-- The kernel's run: the result in closed form, the arguments unchanged. -/
theorem run : θ_run defs (onTc (τ := τ) (main (F := Ideal))) ⟨m, fun _ => 0, ρ⟩ fun r => ∀ c : Dev nD,
      r.2.mem ((c : Thread nD τ).loc main_v0) = tab (m := 4096) (n := 3072) (qkvN (S m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final4 m c), (h c).2⟩) (run_blocks m ρ)

section Reference
open Cert.Reference33Ideal.Read
variable (x0 : FVec Ideal ⟨2, ![4096, 7168]⟩ .f32) (x1 : FVec Ideal ⟨2, ![4, 3072]⟩ .f32) {R C k : ℕ}

/-- The columns read, and the activation. -/
abbrev Q : ℕ → ℕ → EReal := fun R C => rd x0 R (3072 + C)
abbrev T : ℕ → ℕ → EReal := sN (Q x0) (rd x1)

theorem bkQ (s : ℕ) (hR : R < 4096) (hC : C < 3072) : bk (rd (m := 4096) (n := 3072) (val_main_v0 (F := Ideal) x0)) s R C = bk (Q x0) s R C := by
  unfold bk
  split
  · unfold val_main_v0
    rw [rd_slice _ _ _ (by omega) hC]
    show rd x0 (0 + (R - s)) (3072 + C) = _
    rw [Nat.zero_add]
  · rfl

theorem v3_rd (hR : R < 4096) (hC : C < 3072) : rd (m := 4096) (n := 3072) (val_main_v3 (F := Ideal) x0) R C = bk (Q x0) 3 R C :=
  (rd_hostBack 0 (val_main_v0 (F := Ideal) x0) _ _ _ (by omega) hR hC).trans (bkQ x0 _ hR hC)
theorem v9_rd (hR : R < 4096) (hC : C < 3072) : rd (m := 4096) (n := 3072) (val_main_v9 (F := Ideal) x0) R C = bk (Q x0) 2 R C :=
  (rd_hostBack 1 (val_main_v0 (F := Ideal) x0) _ _ _ (by omega) hR hC).trans (bkQ x0 _ hR hC)
theorem v16_rd (hR : R < 4096) (hC : C < 3072) : rd (m := 4096) (n := 3072) (val_main_v16 (F := Ideal) x0) R C = bk (Q x0) 1 R C :=
  (rd_hostBack 2 (val_main_v0 (F := Ideal) x0) _ _ _ (by omega) hR hC).trans (bkQ x0 _ hR hC)
theorem v23_rd (hR : R < 4096) (hC : C < 3072) : rd (m := 4096) (n := 3072) (val_main_v23 (F := Ideal) x0) R C = bk (Q x0) 0 R C :=
  (rd_hostBack 3 (val_main_v0 (F := Ideal) x0) _ _ _ (by omega) hR hC).trans (bkQ x0 _ hR hC)

/-- The convolution, and its activation. -/
theorem v29_rd (hR : R < 4096) (hC : C < 3072) : rd (m := 4096) (n := 3072) (val_main_v29 (F := Ideal) x0 x1) R C = conv4 (Q x0) (rd x1) R C := by
  unfold val_main_v29 val_main_v22 val_main_v15 val_main_v8 val_main_v14 val_main_v21 val_main_v28
  rw [rd_addf, rd_addf, rd_addf, rd_mulf, rd_mulf, rd_mulf, rd_mulf, v3_rd x0 hR hC, v9_rd x0 hR hC, v16_rd x0 hR hC, v23_rd x0 hR hC]
  exact (congrArg₂ (· + ·) (congrArg₂ (· + ·) (congrArg₂ (· + ·) (congrArg (_ * ·) (rd_hostTap 0 x1 _ _ _ _ hR hC))
    (congrArg (_ * ·) (rd_hostTap 1 x1 _ _ _ _ hR hC))) (congrArg (_ * ·) (rd_hostTap 2 x1 _ _ _ _ hR hC)))
    (congrArg (_ * ·) (rd_hostTap 3 x1 _ _ _ _ hR hC))).trans (conv4_host _ _ _ _)
theorem v30_rd (hR : R < 4096) (hC : C < 3072) : rd (m := 4096) (n := 3072) (val_main_v30 (F := Ideal) x0 x1) R C = T x0 x1 R C := by
  unfold val_main_v30
  rw [rd_mulf, v29_rd x0 x1 hR hC]
  exact congrArg (_ * ·) ((rd_hostSgm _ _ _ hR hC).trans (congrArg sgm (v29_rd x0 x1 hR hC)))

/-- The queries' and keys' heads, one under another. -/
theorem v32_rd (hR : R < 65536) (hk : k < 128) :
    rd (m := 65536) (n := 128) (val_main_v32 (F := Ideal) x0 x1) R k = T x0 x1 (R / 16) (128 * (R % 16) + k) := by
  refine (rd_cut (a := 4096) (b := 16) (n := 128) (val_main_v31 (F := Ideal) x0 x1) _ rfl hR hk).trans ?_
  unfold val_main_v31
  refine (rd_slice (m := 4096) (n := 3072) _ _ _ (by omega) (by omega)).trans ?_
  show rd (m := 4096) (n := 3072) (val_main_v30 (F := Ideal) x0 x1) (0 + R / 16) (0 + (128 * (R % 16) + k)) = _
  rw [Nat.zero_add, Nat.zero_add, v30_rd x0 x1 (by omega) (by omega)]
theorem v38_rd (hR : R < 65536) : rd (m := 65536) (n := 1) (val_main_v38 (F := Ideal) x0 x1) R 0
    = Ideal.rsqrt (∑ k ∈ Finset.range 128, T x0 x1 (R / 16) (128 * (R % 16) + k) * T x0 x1 (R / 16) (128 * (R % 16) + k) + cE) := by
  unfold val_main_v38 val_main_v37 val_main_v36 val_main_v35 val_main_v34 val_main_v33 val_main_cst_0 val_main_cst_1
  rw [rd_hostRsqrt _ hR Nat.one_pos, rd_addf, rd_bcastColVec _ _ hR Nat.one_pos, rd1_hostSumCols _ _ _ _ hR, cst0, zero_add,
    rd_bcastConst _ _ hR Nat.one_pos, Finset.sum_congr rfl fun k hk => by rw [rd_mulf, v32_rd x0 x1 hR (Finset.mem_range.mp hk)]]
theorem v41_rd (hR : R < 4096) (hC : C < 2048) : rd (m := 4096) (n := 2048) (val_main_v41 (F := Ideal) x0 x1) R C = lN (T x0 x1) R C := by
  refine (rd_uncut (a := 4096) (b := 16) (n := 128) (val_main_v40 (F := Ideal) x0 x1) _ rfl hR hC).trans ?_
  unfold val_main_v40 val_main_v39
  rw [rd_mulf, rd_bcastCol _ _ (by omega) (by omega), v32_rd x0 x1 (by omega) (by omega), v38_rd x0 x1 (by omega)]
  unfold lN
  rw [show (16 * R + C / 128) / 16 = R by omega, show (16 * R + C / 128) % 16 = C / 128 by omega, Nat.div_add_mod]

/-- The result at an entry. -/
theorem v43_rd (hR : R < 4096) (hC : C < 3072) : rd (m := 4096) (n := 3072) (val_main_v43 (F := Ideal) x0 x1) R C = qkvN (T x0 x1) R C := by
  unfold qkvN val_main_v43
  split
  · next h => exact (rd_concatCols_left _ _ _ hR h).trans (v41_rd x0 x1 hR h)
  · next h =>
    obtain ⟨k, rfl⟩ : ∃ k, C = 2048 + k := ⟨C - 2048, by omega⟩
    refine (rd_concatCols_right _ _ _ hR (show k < 1024 by omega)).trans ?_
    unfold val_main_v42
    refine (rd_slice (m := 4096) (n := 3072) _ _ _ hR (by omega)).trans ?_
    show rd (m := 4096) (n := 3072) (val_main_v30 (F := Ideal) x0 x1) (0 + R) (2048 + k) = _
    rw [Nat.zero_add, v30_rd x0 x1 hR hC]

end Reference

/-- The kernel and the short convolutions end with equal arrays. -/
theorem algebraic : Cert.algebraic_Kernel33Ideal_Reference33Ideal := by
  intro m ρ m' ρ' _ hag
  refine ⟨_, run m ρ, (θ_run _ _ _).mono (fun _ h c => ⟨(h c).1.trans ?_, (h c).2⟩) (Cert.Reference33Ideal.Value.run m' ρ')⟩
  refine (Cert.Reference33Ideal.Read.val_main_v43_eq _ _).trans ?_
  rw [(hag c).1, (hag c).2]
  exact eq_tab fun r k hr hk => v43_rd _ _ hr hk

/-- The reference's run leaves the arguments as they were; it uses no semaphore. -/
theorem frame_ref : Cert.quiescent_Reference33Ideal := fun m ρ _ =>
  (θ_run Cert.Reference33Ideal.defs _ _).mono (fun r h => ⟨fun c => (h c).2, Idealize.ShloMosaic.sem_eq_zero_of_no_sems (by decide) r.2⟩)
    (Cert.Reference33Ideal.Value.run (F := Ideal) m ρ)

end Cert.H33

end
-- ==== Proof.L2.lean ====
module

public import proofs.«01_k».proof.Proof.Conv
public import proofs.«01_k».proof.Proof.Heads

@[expose] public section

noncomputable section

namespace Cert.Rd

open Idealize.ShloMosaic

/-! # The l2 norm of the heads of a convolution's activation, and its gradient -/

/-- A convolution's activation; the gradient through its heads' norms; the gradient of the convolution's result. -/
def actS (X W : ℕ → ℕ → EReal) (R C : ℕ) : EReal := conv4 X W R C * sgm (conv4 X W R C)
def dsN (D S : ℕ → ℕ → EReal) (R C : ℕ) : EReal := hdx (hT S) (hT D) 1 128 (8 * R + C / 128) (C % 128)
def dlN (D X W : ℕ → ℕ → EReal) (R C : ℕ) : EReal := dsl (dsN D (actS X W) R C) (conv4 X W R C)

theorem hT_at (X : ℕ → ℕ → EReal) {R H k : ℕ} (hH : H < 8) : hT X (8 * R + H) k = X R (128 * H + k) := by
  unfold hT
  rw [show (8 * R + H) / 8 = R by omega, show (8 * R + H) % 8 = H by omega]

/-- It is finite for a finite incoming gradient, and zero for a zero one. -/
theorem hdx_fin (X W : ℕ → ℕ → EReal) {φ : ℝ} (hφ : 0 < φ) {n r c : ℕ} (hc : c < n) (hW : ∀ k, W r k ≠ ⊤ ∧ W r k ≠ ⊥) :
    hdx X W φ n r c ≠ ⊤ ∧ hdx X W φ n r c ≠ ⊥ := by
  have hr : rw' X φ n r ≠ ⊤ ∧ rw' X φ n r ≠ ⊥ := by
    rcases wsq_cases X hφ n r with ⟨-, h⟩ | ⟨t, -, -, h⟩
    · rw [h]; exact ⟨EReal.zero_ne_top, EReal.zero_ne_bot⟩
    · rw [h]; exact ⟨EReal.coe_ne_top _, EReal.coe_ne_bot _⟩
  have hs : ∑ k ∈ Finset.range n, W r k * (X r k * rw' X φ n r) ≠ ⊤ ∧ ∑ k ∈ Finset.range n, W r k * (X r k * rw' X φ n r) ≠ ⊥ := by
    refine Finset.sum_induction _ (fun x : EReal => x ≠ ⊤ ∧ x ≠ ⊥) (fun a b ha hb => ?_) ⟨EReal.zero_ne_top, EReal.zero_ne_bot⟩
      fun k hk => fin_mul (hW k) (norm_fin X hφ (Finset.mem_range.mp hk))
    lift a to ℝ using ha
    lift b to ℝ using hb
    rw [← EReal.coe_add]
    exact ⟨EReal.coe_ne_top _, EReal.coe_ne_bot _⟩
  have hp := fin_mul (norm_fin X (r := r) hφ hc) (fin_mul hs (b := (φ : EReal)) ⟨EReal.coe_ne_top _, EReal.coe_ne_bot _⟩)
  unfold hdx
  refine fin_mul hr ?_
  have hw := hW c
  generalize X r c * rw' X φ n r * ((∑ k ∈ Finset.range n, W r k * (X r k * rw' X φ n r)) * (φ : EReal)) = p at hp
  generalize W r c = w at hw
  lift p to ℝ using hp
  lift w to ℝ using hw
  rw [← EReal.coe_sub]
  exact ⟨EReal.coe_ne_top _, EReal.coe_ne_bot _⟩
theorem dsN_fin (D S : ℕ → ℕ → EReal) (hD : ∀ R C, D R C ≠ ⊤ ∧ D R C ≠ ⊥) (R C : ℕ) : dsN D S R C ≠ ⊤ ∧ dsN D S R C ≠ ⊥ :=
  hdx_fin _ _ one_pos (Nat.mod_lt _ (by omega)) fun _ => hD _ _
theorem dlN_out (D X W : ℕ → ℕ → EReal) {R C : ℕ} (hC : C < 1024) (h : ∀ C, D R C = 0) : dlN D X W R C = 0 := by
  have h0 : ∀ k, hT D (8 * R + C / 128) k = 0 := fun k => (hT_at D (by omega)).trans (h _)
  unfold dlN dsl dsN hdx
  rw [h0, Finset.sum_congr rfl fun k _ => by rw [h0, zero_mul], Finset.sum_const_zero, zero_mul, mul_zero, sub_zero, mul_zero, zero_mul]

section Kernel
variable {m n : ℕ} {r c : ℕ}

/-- The reciprocal root of a head's sum of squares. -/
theorem rd_l2r (x : FVec Ideal ⟨2, ![m, n]⟩ .f32) (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) {X : ℕ → ℕ → EReal} {R : ℕ} (hx : ∀ k < n, rd x r k = X R k) (hr : r < m) :
    rd (rsqrt (addf (shapeCast ⟨2, ![m, 1]⟩ (multiReduction .add [1] ⟨1, ![m]⟩ (mulf x x) 0x00000000#32 h hφ hacc) hs)
        (broadcast ⟨2, ![m, 1]⟩ (Scalar.ofBits (F := Ideal) .f32 0x358637BD#32)))) r 0 = rw' X 1 n R := by
  rw [rd_rsqrt _ hr Nat.one_pos, rd_addf, rd_column _ _ hr, rd1_sumCols _ _ _ _ _ hr, rd_broadcast _ hr Nat.one_pos,
    Finset.sum_congr rfl fun k hk => by rw [rd_mulf, hx k (Finset.mem_range.mp hk)]]
  unfold rw' wsq
  rw [EReal.coe_one, mul_one]
  rfl

/-- The gradient through the norm of a head. -/
theorem rd_l2Dx (w xh : FVec Ideal ⟨2, ![m, n]⟩ .f32) (rr : FVec Ideal ⟨2, ![m, 1]⟩ .f32)
    (h : (⟨2, ![m, n]⟩ : Shape).Reduces [1] ⟨1, ![m]⟩)
    (hφ : FKind.Formats FTy.f32) (hacc : 0x00000000#32 = FKind.add.neutral .f32 hφ)
    (hs : (⟨1, ![m]⟩ : Shape).ShapeCasts ⟨2, ![m, 1]⟩) (hb hb' : (⟨2, ![m, 1]⟩ : Shape).Broadcasts ⟨2, ![m, n]⟩)
    {X W : ℕ → ℕ → EReal} {R : ℕ} (hrr : rd rr r 0 = rw' X 1 n R) (hw : ∀ k < n, rd w r k = W R k)
    (hx : ∀ k < n, rd xh r k = X R k * rw' X 1 n R) (hr : r < m) (hc : c < n) :
    rd (mulf (broadcastTo ⟨2, ![m, n]⟩ rr hb) (subf w (mulf xh (broadcastTo ⟨2, ![m, n]⟩
        (shapeCast ⟨2, ![m, 1]⟩ (multiReduction .add [1] ⟨1, ![m]⟩ (mulf w xh) 0x00000000#32 h hφ hacc) hs) hb')))) r c = hdx X W 1 n R c := by
  rw [rd_mulf, rd_broadcastCol _ _ hr hc, rd_subf _ _ hr hc, rd_mulf, rd_broadcastCol _ _ hr hc,
    rd_column _ _ hr, rd1_sumCols _ _ _ _ _ hr,
    Finset.sum_congr rfl fun k hk => by rw [rd_mulf, hw k (Finset.mem_range.mp hk), hx k (Finset.mem_range.mp hk)],
    hrr, hw c hc, hx c hc]
  unfold hdx
  rw [EReal.coe_one, mul_one]

end Kernel

section Formula
variable {m n : ℕ} {r c : ℕ}

/-- The shifted sum of squares of a head. -/
theorem rd_hostL2sq (x : FVec Ideal ⟨2, ![m, n]⟩ .f32) (h : (⟨2, ![m, n]⟩ : Shape).ReducesTo [1] ⟨1, ![m]⟩)
    (hu : 0 < (⟨0, ![]⟩ : Shape).numel) (hs : (⟨1, ![m]⟩ : Shape).BroadcastsInDim ⟨2, ![m, 1]⟩ ![0])
    (hb : (⟨0, ![]⟩ : Shape).BroadcastsInDim ⟨2, ![m, 1]⟩ ![]) {X : ℕ → ℕ → EReal} (hx : ∀ k < n, rd x r k = X r k) (hr : r < m) :
    rd (addf (broadcastInDim ⟨2, ![m, 1]⟩ ![0] hs
          (Host.reduceAdd (mulf x x) (constant (F := Ideal) ⟨0, ![]⟩ .f32 0x00000000#32) h hu))
        (broadcastInDim ⟨2, ![m, 1]⟩ ![] hb (constant (F := Ideal) ⟨0, ![]⟩ .f32 0x358637BD#32))) r 0 = wsq X 1 n r := by
  rw [rd_addf, rd_bcastColVec _ _ hr Nat.one_pos, rd1_hostSumCols _ _ _ _ hr, cst0, zero_add,
    rd_bcastConst _ _ hr Nat.one_pos,
    Finset.sum_congr rfl fun k hk => by rw [rd_mulf, hx k (Finset.mem_range.mp hk)]]
  unfold wsq
  rw [EReal.coe_one, mul_one]

/-- The gradient through the norm of a head, as differentiating the formula prints it. -/
theorem rd_hostL2Dx (x w : FVec Ideal ⟨2, ![m, n]⟩ .f32) (rr s : FVec Ideal ⟨2, ![m, 1]⟩ .f32)
    (h : (⟨2, ![m, n]⟩ : Shape).ReducesTo [1] ⟨1, ![m]⟩) (h' : (⟨2, ![m, 1]⟩ : Shape).ReducesTo [1] ⟨1, ![m]⟩)
    (hu hu' : 0 < (⟨0, ![]⟩ : Shape).numel)
    (hs : (⟨1, ![m]⟩ : Shape).ShapeCasts ⟨2, ![m, 1]⟩)
    (hb : (⟨0, ![]⟩ : Shape).BroadcastsInDim ⟨2, ![m, 1]⟩ ![]) (hv : (⟨1, ![m]⟩ : Shape).BroadcastsInDim ⟨2, ![m, n]⟩ ![0])
    (hd : (⟨2, ![m, 1]⟩ : Shape).BroadcastsInDim ⟨2, ![m, n]⟩ ![0, 1]) {X W : ℕ → ℕ → EReal}
    (hrr : rd rr r 0 = rw' X 1 n r) (hss : rd s r 0 = wsq X 1 n r) (hx : ∀ k < n, rd x r k = X r k)
    (hw : ∀ k < n, rd w r k = W r k) (hr : r < m) (hc : c < n) :
    rd (addf (addf (mulf w (broadcastInDim ⟨2, ![m, n]⟩ ![0, 1] hd rr))
        (mulf x (broadcastInDim ⟨2, ![m, n]⟩ ![0] hv (Host.reduceAdd
          (mulf (shapeCast ⟨2, ![m, 1]⟩ (Host.reduceAdd (mulf x w) (constant (F := Ideal) ⟨0, ![]⟩ .f32 0x00000000#32) h hu) hs)
            (mulf (broadcastInDim ⟨2, ![m, 1]⟩ ![] hb (constant (F := Ideal) ⟨0, ![]⟩ .f32 0xBF000000#32)) (Host.divf rr s)))
          (constant (F := Ideal) ⟨0, ![]⟩ .f32 0x00000000#32) h' hu'))))
        (mulf (broadcastInDim ⟨2, ![m, n]⟩ ![0] hv (Host.reduceAdd
          (mulf (shapeCast ⟨2, ![m, 1]⟩ (Host.reduceAdd (mulf x w) (constant (F := Ideal) ⟨0, ![]⟩ .f32 0x00000000#32) h hu) hs)
            (mulf (broadcastInDim ⟨2, ![m, 1]⟩ ![] hb (constant (F := Ideal) ⟨0, ![]⟩ .f32 0xBF000000#32)) (Host.divf rr s)))
          (constant (F := Ideal) ⟨0, ![]⟩ .f32 0x00000000#32) h' hu')) x)) r c = hdx X W 1 n r c := by
  rw [← hdx_eq X W one_pos, rd_addf, rd_addf, rd_mulf, rd_mulf, rd_mulf, rd_bcastCol _ _ hr hc, rd_bcastColVec _ _ hr hc,
    rd1_hostSumCols _ _ _ _ hr, cst0, zero_add, Finset.sum_range_one, rd_mulf, rd_column _ _ hr,
    rd1_hostSumCols _ _ _ _ hr, cst0, zero_add, rd_mulf, rd_bcastConst _ _ hr Nat.one_pos,
    rd_hostDivf _ _ hr Nat.one_pos, hrr, hss,
    Finset.sum_congr rfl fun k hk => by rw [rd_mulf, hw k (Finset.mem_range.mp hk), hx k (Finset.mem_range.mp hk)], hw c hc, hx c hc]
  unfold hms
  rw [EReal.coe_one, mul_one]

end Formula

end Cert.Rd

end
-- ==== Proof.Q28Kernel.lean ====
module

public import proofs.«01_k».proof.Proof.L2
public import proofs.«01_k».proof.Proof.Gen.Kernel28Ideal.Value
public import Idealize.ShloMosaic.Lib.Tactic

@[expose] public section

set_option maxRecDepth 16384

noncomputable section

namespace Cert.Q28

open Cert.Kernel28Ideal Cert.Kernel28Ideal.Gen Cert.Kernel28Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The gradient's tile between its halos, the projection's, the convolution (its first three taps, all), its activation, and the gradient of the convolution. -/
abbrev dE : FVec Ideal S1040x512 .f32 := k0_pay2 (grid0.coords t) (iblk m c 0 t) (iblk m c 1 t) (iblk m c 2 t)
abbrev pE : FVec Ideal S1040x512 .f32 := k0_pay3 (grid0.coords t) (iblk m c 3 t) (iblk m c 4 t) (iblk m c 5 t)
abbrev c4 : FVec Ideal S1040x512 .f32 := k0_pay4 (grid0.coords t) (iblk m c 3 t) (iblk m c 4 t) (iblk m c 5 t) (iblk m c 6 t)
abbrev cv : FVec Ideal S1040x512 .f32 := k0_pay5 (pE m c t) (iblk m c 6 t) (c4 m c t)
abbrev sg : FVec Ideal S1040x512 .f32 := k0_pay6 (pE m c t) (iblk m c 6 t) (c4 m c t)
abbrev sE : FVec Ideal S1040x512 .f32 := k0_pay7 (pE m c t) (iblk m c 6 t) (c4 m c t)
abbrev gE : FVec Ideal S1040x512 .f32 := k0_pay11 (dE m c t) (cv m c t) (sg m c t) (sE m c t) (k0_pay8 (dE m c t) (pE m c t) (iblk m c 6 t) (c4 m c t)) (k0_pay9 (dE m c t) (pE m c t) (iblk m c 6 t) (c4 m c t)) (k0_pay10 (pE m c t) (iblk m c 6 t) (c4 m c t))
abbrev aE : FVec Ideal S1040x512 .f32 := k0_pay12 (dE m c t) (iblk m c 6 t) (cv m c t) (sg m c t) (sE m c t) (k0_pay8 (dE m c t) (pE m c t) (iblk m c 6 t) (c4 m c t)) (k0_pay9 (dE m c t) (pE m c t) (iblk m c 6 t) (c4 m c t)) (k0_pay10 (pE m c t) (iblk m c 6 t) (c4 m c t))

/-- What the body leaves in output window 7 at a point. -/
theorem outs7 : (outsAt0 m c t.val t.isLt).1 = k0_pay14 (iblk m c 6 t) (gE m c t) (aE m c t) := by
  by_cases h0 : t.val % 4 = 0
  · rw [outsAt0_A m c t h0 (by omega)]
    dsimp only
    unfold out0_A_7
    rw [View.read_writes_eq_canon]; swap
    · intro y; apply cover0_A_7
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]
  · rw [outsAt0_B m c t h0 (by omega)]
    dsimp only
    unfold out0_B_7
    rw [View.read_writes_eq_canon]; swap
    · intro y; apply cover0_B_7
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]

/-- The taps at the first row tile: this tile's sums. -/
theorem outs8_A (h0 : t.val % 4 = 0) : (outsAt0 m c t.val t.isLt).2 = k0_pay13 (pE m c t) (gE m c t) := by
  rw [outsAt0_A m c t h0 (by omega)]
  dsimp only
  unfold out0_A_8
  rw [View.read_writes_eq_canon]; swap
  · intro y; apply cover0_A_8
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]

/-- At a later tile: this tile's sums over what the tile before left. -/
theorem outs8_B (h0 : ¬t.val % 4 = 0) (ht : t.val - 1 < cfg0.N) : (outsAt0 m c t.val t.isLt).2 = k0_pay1 (k0_pay13 (pE m c t) (gE m c t)) (outsAt0 m c (t.val - 1) ht).2 := by
  rw [outsAt0_B m c t h0 (by omega)]
  dsimp only
  unfold out0_B_8
  rw [View.read_writes_eq_canon]; swap
  · intro y; apply cover0_B_8
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, View.ld_unit_zero (S := S8x512) hz2, View.ld_unit_zero (S := S1024x512) hz2, View.ld_unit_zero (S := S4x512) hz2]

/-- The arguments read at natural coordinates. -/
abbrev X0 : ℕ → ℕ → EReal := rd (m := 4096) (n := 1024) (m (c.tc.loc main_arg0))
abbrev X1 : ℕ → ℕ → EReal := rd (m := 4096) (n := 7168) (m (c.tc.loc main_arg1))
abbrev X2 : ℕ → ℕ → EReal := rd (m := 4) (n := 1024) (m (c.tc.loc main_arg2))

/-- The projection's columns that this call reads. -/
abbrev P : ℕ → ℕ → EReal := fun R C => X1 m c R (3072 + C)

/-- The grid's second coordinate is the row tile. -/
theorem gi_val : (grid0.coords t 1).val = t.val % 4 :=
  (by decide +kernel : ∀ t : Fin grid0.N, (grid0.coords t 1).val = t.val % 4) t

theorem t_lt : t.val < 8 := lt_of_lt_of_eq t.isLt (by decide +kernel)

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (512 * (t.val / 4) + k) := by
  have e := (by decide +kernel : ∀ t : Fin grid0.N, win0_0.index t 0 = t.val % 4 * 128 - 1 ∧ win0_0.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (512 * (t.val / 4) + k) := by
  have e := (by decide +kernel : ∀ t : Fin grid0.N, win0_1.index t 0 = t.val % 4 ∧ win0_1.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (512 * (t.val / 4) + k) := by
  have e := (by decide +kernel : ∀ t : Fin grid0.N, win0_2.index t 0 = min ((t.val % 4 + 1) * 128) 511 ∧ win0_2.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_2.index t 0 * 8 + 1 * r = _; omega
  · show win0_2.index t 1 * 512 + 1 * k = _; omega

/-- The eight rows above the tile, window 3. -/
theorem blk3 {r k : ℕ} (hr : r < 8) (hk : k < 512) :
    rd (m := 8) (n := 512) (iblk m c 3 t) r k = P m c ((t.val % 4 * 128 - 1) * 8 + r) (512 * (t.val / 4) + k) := by
  have e := (by decide +kernel : ∀ t : Fin grid0.N, win0_3.index t 0 = t.val % 4 * 128 - 1 ∧ win0_3.index t 1 = t.val / 4 + 6) t
  rw [rd_in _ hr hk]
  unfold iblk
  rw [View.read_apply]
  show V m c main_arg1 _ = _
  rw [V_main_arg1]
  refine (rd_of_val (m := 4096) (n := 7168) _ _ ?_ ?_).symm
  · show win0_3.index t 0 * 8 + 1 * r = _; omega
  · show win0_3.index t 1 * 512 + 1 * k = _; omega

/-- The tile's rows, window 4. -/
theorem blk4 {r k : ℕ} (hr : r < 1024) (hk : k < 512) :
    rd (m := 1024) (n := 512) (iblk m c 4 t) r k = P m c (1024 * (t.val % 4) + r) (512 * (t.val / 4) + k) := by
  have e := (by decide +kernel : ∀ t : Fin grid0.N, win0_4.index t 0 = t.val % 4 ∧ win0_4.index t 1 = t.val / 4 + 6) t
  rw [rd_in _ hr hk]
  unfold iblk
  rw [View.read_apply]
  show V m c main_arg1 _ = _
  rw [V_main_arg1]
  refine (rd_of_val (m := 4096) (n := 7168) _ _ ?_ ?_).symm
  · show win0_4.index t 0 * 1024 + 1 * r = _; omega
  · show win0_4.index t 1 * 512 + 1 * k = _; omega

/-- The eight rows below the tile, window 5. -/
theorem blk5 {r k : ℕ} (hr : r < 8) (hk : k < 512) :
    rd (m := 8) (n := 512) (iblk m c 5 t) r k = P m c (min ((t.val % 4 + 1) * 128) 511 * 8 + r) (512 * (t.val / 4) + k) := by
  have e := (by decide +kernel : ∀ t : Fin grid0.N, win0_5.index t 0 = min ((t.val % 4 + 1) * 128) 511 ∧ win0_5.index t 1 = t.val / 4 + 6) t
  rw [rd_in _ hr hk]
  unfold iblk
  rw [View.read_apply]
  show V m c main_arg1 _ = _
  rw [V_main_arg1]
  refine (rd_of_val (m := 4096) (n := 7168) _ _ ?_ ?_).symm
  · show win0_5.index t 0 * 8 + 1 * r = _; omega
  · show win0_5.index t 1 * 512 + 1 * k = _; omega

/-- The taps at the tile's columns. -/
theorem blk6 {r k : ℕ} (hr : r < 4) (hk : k < 512) :
    rd (m := 4) (n := 512) (iblk m c 6 t) r k = X2 m c (r) (512 * (t.val / 4) + k) := by
  have e := (by decide +kernel : ∀ t : Fin grid0.N, win0_6.index t 0 = 0 ∧ win0_6.index t 1 = t.val / 4) t
  rw [rd_in _ hr hk]
  unfold iblk
  rw [View.read_apply]
  show V m c main_arg2 _ = _
  rw [V_main_arg2]
  refine (rd_of_val (m := 4) (n := 1024) _ _ ?_ ?_).symm
  · show win0_6.index t 0 * 4 + 1 * r = _; omega
  · show win0_6.index t 1 * 512 + 1 * k = _; omega

/-- The tile with eight rows on each side, windows 0 to 2, is the array's rows, zero above the first. -/
theorem dE_rd {r k : ℕ} (hr : r < 1040) (hk : k < 512) :
    rd (m := 1040) (n := 512) (dE m c t) r k = halo (X0 m c) (1024 * (t.val % 4) + r) (512 * (t.val / 4) + k) := by
  unfold dE k0_pay2
  dsimp only
  refine rd_tile (tb := 1024) (nI := 4) (X0 m c) (iblk m c 0 t) (iblk m c 2 t) (iblk m c 1 t) _ _ _ (by omega) rfl
    (by omega) (fun R C h => rd_out _ (by omega)) (edge t 0 (by omega) _) (edge t 3 (by omega) _) ?_ ?_ ?_ hr hk
  · intro h r k hr hk; rw [blk0 m c t hr hk]; congr 1; omega
  · intro r k hr hk; exact blk1 m c t hr hk
  · intro h r k hr hk; rw [blk2 m c t hr hk]; congr 1; omega

/-- The tile with eight rows on each side, windows 3 to 5, is the array's rows, zero above the first. -/
theorem pE_rd {r k : ℕ} (hr : r < 1040) (hk : k < 512) :
    rd (m := 1040) (n := 512) (pE m c t) r k = halo (P m c) (1024 * (t.val % 4) + r) (512 * (t.val / 4) + k) := by
  unfold pE k0_pay3
  dsimp only
  refine rd_tile (tb := 1024) (nI := 4) (P m c) (iblk m c 3 t) (iblk m c 5 t) (iblk m c 4 t) _ _ _ (by omega) rfl
    (by omega) (fun R C h => rd_out _ (by omega)) (edge t 0 (by omega) _) (edge t 3 (by omega) _) ?_ ?_ ?_ hr hk
  · intro h r k hr hk; rw [blk3 m c t hr hk]; congr 1; omega
  · intro r k hr hk; exact blk4 m c t hr hk
  · intro h r k hr hk; rw [blk5 m c t hr hk]; congr 1; omega

/-- The convolution and its activation at the tile's rows and those below. -/
theorem cv_rd {r k : ℕ} (hr : 8 + r < 1040) (hk : k < 512) : rd (m := 1040) (n := 512) (cv m c t) (8 + r) k
    = conv4 (P m c) (X2 m c) (1024 * (t.val % 4) + r) (512 * (t.val / 4) + k) := by
  have hc := rd_tileConv4 (P m c) (X2 m c) (pE m c t) (iblk m c 6 t) slices_S4x512_o0_0_S1x512 slices_S4x512_o1_0_S1x512 slices_S4x512_o2_0_S1x512 slices_S4x512_o3_0_S1x512 broadcasts_S1x512_S1040x512 broadcasts_S1x512_S1040x512 broadcasts_S1x512_S1040x512 broadcasts_S1x512_S1040x512
    rotates_S1040x512_d0 rotates_S1040x512_d0 rotates_S1040x512_d0 (fun _ _ => pE_rd m c t) (fun _ _ => blk6 m c t) hr hk
  unfold cv k0_pay5 c4 k0_pay4
  dsimp only
  exact hc
theorem sg_rd {r k : ℕ} (hr : 8 + r < 1040) (hk : k < 512) : rd (m := 1040) (n := 512) (sg m c t) (8 + r) k
    = sgm (conv4 (P m c) (X2 m c) (1024 * (t.val % 4) + r) (512 * (t.val / 4) + k)) := by
  rw [← cv_rd m c t hr hk]
  unfold sg k0_pay6
  dsimp only
  exact rd_sgm _ hr hk
theorem sE_rd {r k : ℕ} (hr : 8 + r < 1040) (hk : k < 512) : rd (m := 1040) (n := 512) (sE m c t) (8 + r) k
    = actS (P m c) (X2 m c) (1024 * (t.val % 4) + r) (512 * (t.val / 4) + k) := by
  have h : sE m c t = mulf (cv m c t) (sg m c t) := rfl
  rw [h, rd_mulf, cv_rd m c t hr hk, sg_rd m c t hr hk]
  rfl

/-! ## One head, and the four heads of a tile -/

def kD (o w : FVec Ideal S1040x128 .f32) : FVec Ideal S1040x128 .f32 :=
  have v54 : FVec Ideal S1040x1 .f32 := rsqrt (addf (shapeCast S1040x1 (multiReduction .add [1] S1040 (mulf o o) 0x00000000#32
      reduces_S1040x128_S1040 (.inl rfl) rfl) shapeCasts_S1040_S1040x1) (broadcast S1040x1 (Scalar.ofBits (F := Ideal) .f32 0x358637BD#32)))
  have v56 : FVec Ideal S1040x128 .f32 := mulf o (broadcastTo S1040x128 v54 broadcasts_S1040x1_S1040x128)
  mulf (broadcastTo S1040x128 v54 broadcasts_S1040x1_S1040x128) (subf w (mulf v56 (broadcastTo S1040x128
    (shapeCast S1040x1 (multiReduction .add [1] S1040 (mulf w v56) 0x00000000#32 reduces_S1040x128_S1040 (.inl rfl) rfl) shapeCasts_S1040_S1040x1)
    broadcasts_S1040x1_S1040x128)))
theorem kD_rd (o w : FVec Ideal S1040x128 .f32) {X W : ℕ → ℕ → EReal} {R r q : ℕ} (ho : ∀ k < 128, rd (m := 1040) (n := 128) o r k = X R k)
    (hw : ∀ k < 128, rd (m := 1040) (n := 128) w r k = W R k) (hr : r < 1040) (hq : q < 128) :
    rd (m := 1040) (n := 128) (kD o w) r q = hdx X W 1 128 R q := by
  unfold kD
  dsimp only
  have h54 := rd_l2r o reduces_S1040x128_S1040 (.inl rfl) rfl shapeCasts_S1040_S1040x1 ho hr
  refine rd_l2Dx w _ _ _ _ _ _ _ _ h54 hw (fun k hk => ?_) hr hq
  rw [rd_mulf, rd_broadcastCol _ _ hr hk, ho k hk]
  exact congrArg (_ * ·) h54

abbrev four {α : Type} (f : (b : ℕ) → S1040x512.Slices ![0, b] S1040x128 → α) : List α :=
  [f 0 slices_S1040x512_o0_0_S1040x128, f 128 slices_S1040x512_o0_128_S1040x128, f 256 slices_S1040x512_o0_256_S1040x128, f 384 slices_S1040x512_o0_384_S1040x128]
def sideBySide (f : (b : ℕ) → S1040x512.Slices ![0, b] S1040x128 → FVec Ideal S1040x128 .f32) : FVec Ideal S1040x512 .f32 :=
  concatenate S1040x512 1 ((four f).map fun x => ⟨S1040x128, x⟩) concatenates_S1040x128_S1040x128_S1040x128_S1040x128_S1040x512_d1
theorem sideBySide_rd (f : (b : ℕ) → S1040x512.Slices ![0, b] S1040x128 → FVec Ideal S1040x128 .f32)
    {r k : ℕ} (A : ℕ → ℕ → EReal) (hf : ∀ H b hs, b = 128 * H → H < 4 → ∀ q < 128, rd (m := 1040) (n := 128) (f b hs) r q = A H q)
    (hr : r < 1040) (hk : k < 512) : rd (m := 1040) (n := 512) (sideBySide f) r k = A (k / 128) (k % 128) := by
  refine rd_concatCols (four f) (fun _ k => A (k / 128) (k % 128)) _ (fun H hH q hq => ?_) hr hk
  rw [show (128 * H + q) / 128 = H by omega, show (128 * H + q) % 128 = q by omega]
  match H, hH with
  | 0, _ => exact hf 0 0 _ rfl (by omega) q hq
  | 1, _ => exact hf 1 128 _ rfl (by omega) q hq
  | 2, _ => exact hf 2 256 _ rfl (by omega) q hq
  | 3, _ => exact hf 3 384 _ rfl (by omega) q hq
  | H + 4, hH => exact absurd hH (by simp)

/-- The gradient through the heads' norms, at the tile's rows and those below. -/
theorem ds_rd {r k : ℕ} (hr : 8 + r < 1040) (hk : k < 512) : rd (m := 1040) (n := 512) (sideBySide fun b hs =>
      kD (extractStridedSlice S1040x128 ![0, b] (sE m c t) hs) (extractStridedSlice S1040x128 ![0, b] (dE m c t) hs)) (8 + r) k
    = dsN (X0 m c) (actS (P m c) (X2 m c)) (1024 * (t.val % 4) + r) (512 * (t.val / 4) + k) := by
  have ht := t_lt t
  refine (sideBySide_rd _ (fun H q => hdx (hT (actS (P m c) (X2 m c))) (hT (X0 m c)) 1 128 (8 * (1024 * (t.val % 4) + r) + (4 * (t.val / 4) + H)) q)
    (fun H b hs hb hH q hq => kD_rd _ _ (fun k hk => ?_) (fun k hk => ?_) hr hq) hr hk).trans ?_
  · rw [rd_slice _ _ _ hr hk]
    show rd (m := 1040) (n := 512) (sE m c t) (0 + (8 + r)) (b + k) = _
    rw [Nat.zero_add, sE_rd m c t hr (by omega), hT_at _ (by omega)]
    congr 1; omega
  · rw [rd_slice _ _ _ hr hk]
    show rd (m := 1040) (n := 512) (dE m c t) (0 + (8 + r)) (b + k) = _
    rw [Nat.zero_add, (dE_rd m c t hr (by omega)).trans (halo_bk0 _), hT_at _ (by omega)]
    congr 1; omega
  · unfold dsN
    rw [show (512 * (t.val / 4) + k) / 128 = 4 * (t.val / 4) + k / 128 by omega, show (512 * (t.val / 4) + k) % 128 = k % 128 by omega]

theorem gE_rd {r k : ℕ} (hr : 8 + r < 1040) (hk : k < 512) : rd (m := 1040) (n := 512) (gE m c t) (8 + r) k
    = dlN (X0 m c) (P m c) (X2 m c) (1024 * (t.val % 4) + r) (512 * (t.val / 4) + k) := by
  have h1 : rd (broadcast S1040x512 (Scalar.ofBits (F := Ideal) .f32 0x3F800000#32)) (8 + r) k = 1 := (rd_broadcast _ hr hk).trans c1_eq
  have h : gE m c t = mulf (sideBySide fun b hs => kD (extractStridedSlice S1040x128 ![0, b] (sE m c t) hs) (extractStridedSlice S1040x128 ![0, b] (dE m c t) hs))
      (mulf (sg m c t) (addf (broadcast S1040x512 (Scalar.ofBits (F := Ideal) .f32 0x3F800000#32)) (mulf (cv m c t)
        (subf (broadcast S1040x512 (Scalar.ofBits (F := Ideal) .f32 0x3F800000#32)) (sg m c t))))) := rfl
  rw [h, rd_mulf, rd_mulf, rd_addf, rd_mulf, rd_subf _ _ hr hk, h1, sg_rd m c t hr hk, cv_rd m c t hr hk, ds_rd m c t hr hk]
  rfl

/-- Window 7's block at a point: the gradient of the projection's columns. -/
theorem outs7_rd {r k : ℕ} (hr : r < 1024) (hk : k < 512) : rd (m := 1024) (n := 512) (outsAt0 m c t.val t.isLt).1 r k
    = anti4 (dlN (X0 m c) (P m c) (X2 m c)) (X2 m c) (1024 * (t.val % 4) + r) (512 * (t.val / 4) + k) := by
  rw [outs7]
  unfold k0_pay14 aE k0_pay12
  dsimp only
  rw [rd_truncf]
  exact rd_tileAnti4 1039#32 1038#32 1037#32 (dlN (X0 m c) (P m c) (X2 m c)) (X2 m c) (gE m c t) (iblk m c 6 t) slices_S4x512_o0_0_S1x512 slices_S4x512_o1_0_S1x512 slices_S4x512_o2_0_S1x512 slices_S4x512_o3_0_S1x512 broadcasts_S1x512_S1040x512 broadcasts_S1x512_S1040x512 broadcasts_S1x512_S1040x512 broadcasts_S1x512_S1040x512
    rotates_S1040x512_d0 rotates_S1040x512_d0 rotates_S1040x512_d0 slices_S1040x512_o8_0_S1024x512 rfl rfl rfl (fun _ _ => gE_rd m c t) (fun _ _ => blk6 m c t) rfl hr hk

/-- One tile's sums of the gradient in the taps. -/
theorem tile8_rd {r k : ℕ} (hr : r < 8) (hk : k < 512) : rd (m := 8) (n := 512) (k0_pay13 (pE m c t) (gE m c t)) r k
    = if r < 4 then ∑ i ∈ Finset.range 1024, dlN (X0 m c) (P m c) (X2 m c) (1024 * (t.val % 4) + i) (512 * (t.val / 4) + k)
        * bk (P m c) (3 - r) (1024 * (t.val % 4) + i) (512 * (t.val / 4) + k) else 0 := by
  unfold k0_pay13
  dsimp only
  have hsum (s : ℕ) (x : FVec Ideal S1040x512 .f32)
      (hx : ∀ r c', 8 + r < 1040 → c' < 512 → rd (m := 1040) (n := 512) x (8 + r) c' = bk (P m c) s (1024 * (t.val % 4) + r) (512 * (t.val / 4) + c')) :=
    rd_tileRow (dlN (X0 m c) (P m c) (X2 m c)) (P m c) (gE m c t) x s slices_S1040x512_o8_0_S1024x512 reduces_S1024x512_S512 (.inl rfl) rfl
      shapeCasts_S512_S1x512 (fun _ _ => gE_rd m c t) hx rfl hk
  have hb (sb : BitVec 32) (s : ℕ) (h1 : sb.toNat = s) (h2 : s ≤ 8) (r c' : ℕ) (h : 8 + r < 1040) (h' : c' < 512) :=
    rd_tileBack sb (P m c) (pE m c t) s rotates_S1040x512_d0 (fun _ _ => pE_rd m c t) h1 h2 h h'
  exact rd_rows4 (fun r => ∑ i ∈ Finset.range 1024, dlN (X0 m c) (P m c) (X2 m c) (1024 * (t.val % 4) + i) (512 * (t.val / 4) + k)
      * bk (P m c) (3 - r) (1024 * (t.val % 4) + i) (512 * (t.val / 4) + k)) _ _ _ _ _ _
    (hsum 3 _ (hb 3#32 3 rfl (by omega))) (hsum 2 _ (hb 2#32 2 rfl (by omega))) (hsum 1 _ (hb 1#32 1 rfl (by omega)))
    (hsum 0 _ fun r c' h h' => rd_tileHere (P m c) (pE m c t) (fun _ _ => pE_rd m c t) h h') (fun _ => rd_zero _ _)

/-- Window 8's block at a point: the gradient of the taps over the rows so far. -/
theorem outs8_rd : ∀ (n : ℕ) (hn : n < cfg0.N) {r k : ℕ} (_ : r < 8) (_ : k < 512),
    rd (m := 8) (n := 512) (outsAt0 m c n hn).2 r k
      = taps4 (dlN (X0 m c) (P m c) (X2 m c)) (P m c) (1024 * (n % 4 + 1)) r (512 * (n / 4) + k) := by
  intro n
  induction n with
  | zero =>
    intro hn r k hr hk
    have e := outs8_A m c ⟨0, hn⟩ rfl
    rw [show (outsAt0 m c 0 hn).2 = _ from e, tile8_rd m c _ hr hk]
    unfold taps4
    simp
  | succ n ih =>
    intro hn r k hr hk
    have hN : n + 1 < 8 := t_lt ⟨n + 1, hn⟩
    by_cases h0 : (n + 1) % 4 = 0
    · have e := outs8_A m c ⟨n + 1, hn⟩ h0
      rw [show (outsAt0 m c (n + 1) hn).2 = _ from e, tile8_rd m c _ hr hk]
      unfold taps4
      dsimp only
      rw [h0]
      simp
    · have e := outs8_B m c ⟨n + 1, hn⟩ h0 (by show n + 1 - 1 < cfg0.N; omega)
      rw [show (outsAt0 m c (n + 1) hn).2 = _ from e]
      unfold k0_pay1
      dsimp only
      rw [shapeCast_self, rd_addf, tile8_rd m c _ hr hk]
      have h := ih (by omega) hr hk
      rw [show rd (m := 8) (n := 512) (outsAt0 m c (n + 1 - 1) (by omega)).2 r k = _ from h]
      dsimp only
      rw [show (n + 1) / 4 = n / 4 by omega, show (n + 1) % 4 = n % 4 + 1 by omega,
        show 1024 * (n % 4 + 1 + 1) = 1024 * (n % 4 + 1) + 1024 by omega, taps4_succ]

end Cert.Q28

end
-- ==== Proof.Q28.lean ====
module

public import proofs.«01_k».proof.Proof.Conv
public import proofs.«01_k».proof.Proof.Q28Kernel
public import proofs.«01_k».proof.Proof.Gen.Reference28Ideal.Run
public import proofs.«01_k».proof.Proof.Gen.Reference28Ideal.Read
public import proofs.«01_k».proof.Defs
public import proofs.«01_k».proof.Proof.Gen.Pre_finite28

@[expose] public section

set_option maxRecDepth 16384

noncomputable section

namespace Cert.Q28

open Cert.Kernel28Ideal Cert.Kernel28Ideal.Gen Cert.Kernel28Ideal.Value Cert.Rd Idealize.ShloMosaic Idealize.ShloMosaic.TcCoe Idealize.SL.Sem
open Idealize.ShloMosaic.Pipeline (Dat)

section Reference
open Cert.Reference28Ideal.Read
variable (x0 : FVec Ideal ⟨2, ![4096, 1024]⟩ .f32) (x1 : FVec Ideal ⟨2, ![4096, 7168]⟩ .f32) (x2 : FVec Ideal ⟨2, ![4, 1024]⟩ .f32) {R C : ℕ}

/-- The columns read. -/
abbrev Q : ℕ → ℕ → EReal := fun R C => rd x1 R (3072 + C)

theorem bkQ (s : ℕ) (hR : R < 4096) (hC : C < 1024) : bk (rd (m := 4096) (n := 1024) (val_main_v0 (F := Ideal) x1)) s R C = bk (Q x1) s R C := by
  unfold bk
  split
  · unfold val_main_v0
    rw [rd_slice _ _ _ (by omega) hC]
    show rd x1 (0 + (R - s)) (3072 + C) = _
    rw [Nat.zero_add]
  · rfl

theorem v4_rd (hR : R < 4096) (hC : C < 1024) : rd (m := 4096) (n := 1024) (val_main_v4 (F := Ideal) x1) R C = bk (Q x1) 3 R C :=
  (rd_hostBack 0 (val_main_v0 (F := Ideal) x1) _ _ _ (by omega) hR hC).trans (bkQ x1 _ hR hC)
theorem v10_rd (hR : R < 4096) (hC : C < 1024) : rd (m := 4096) (n := 1024) (val_main_v10 (F := Ideal) x1) R C = bk (Q x1) 2 R C :=
  (rd_hostBack 1 (val_main_v0 (F := Ideal) x1) _ _ _ (by omega) hR hC).trans (bkQ x1 _ hR hC)
theorem v17_rd (hR : R < 4096) (hC : C < 1024) : rd (m := 4096) (n := 1024) (val_main_v17 (F := Ideal) x1) R C = bk (Q x1) 1 R C :=
  (rd_hostBack 2 (val_main_v0 (F := Ideal) x1) _ _ _ (by omega) hR hC).trans (bkQ x1 _ hR hC)
theorem v24_rd (hR : R < 4096) (hC : C < 1024) : rd (m := 4096) (n := 1024) (val_main_v24 (F := Ideal) x1) R C = bk (Q x1) 0 R C :=
  (rd_hostBack 3 (val_main_v0 (F := Ideal) x1) _ _ _ (by omega) hR hC).trans (bkQ x1 _ hR hC)

/-- The convolution. -/
theorem v30_rd (hR : R < 4096) (hC : C < 1024) : rd (m := 4096) (n := 1024) (val_main_v30 (F := Ideal) x1 x2) R C = conv4 (Q x1) (rd x2) R C := by
  unfold val_main_v30 val_main_v23 val_main_v16 val_main_v9 val_main_v15 val_main_v22 val_main_v29
  rw [rd_addf, rd_addf, rd_addf, rd_mulf, rd_mulf, rd_mulf, rd_mulf, v4_rd x1 hR hC, v10_rd x1 hR hC, v17_rd x1 hR hC, v24_rd x1 hR hC]
  exact (congrArg₂ (· + ·) (congrArg₂ (· + ·) (congrArg₂ (· + ·) (congrArg (_ * ·) (rd_hostTap 0 x2 _ _ _ _ hR hC))
    (congrArg (_ * ·) (rd_hostTap 1 x2 _ _ _ _ hR hC))) (congrArg (_ * ·) (rd_hostTap 2 x2 _ _ _ _ hR hC)))
    (congrArg (_ * ·) (rd_hostTap 3 x2 _ _ _ _ hR hC))).trans (conv4_host _ _ _ _)

/-- The activation, its heads one under another, and the sums of their squares. -/
theorem s_rd (hR : R < 4096) (hC : C < 1024) : rd (m := 4096) (n := 1024) (val_main_v31_2 (F := Ideal) x1 x2) R C = sgm (conv4 (Q x1) (rd x2) R C) :=
  (rd_hostSgm _ _ _ hR hC).trans (congrArg sgm (v30_rd x1 x2 hR hC))
theorem v32_rd {k : ℕ} (hR : R < 32768) (hk : k < 128) : rd (m := 32768) (n := 128) (val_main_v32 (F := Ideal) x1 x2) R k = hT (actS (Q x1) (rd x2)) R k := by
  refine (rd_cut (a := 4096) (b := 8) (n := 128) (val_main_v31_0 (F := Ideal) x1 x2) _ rfl hR hk).trans ?_
  unfold val_main_v31_0
  rw [rd_mulf, v30_rd x1 x2 (by omega) (by omega), s_rd x1 x2 (by omega) (by omega)]
  rfl
theorem v45_rd {k : ℕ} (hR : R < 32768) (hk : k < 128) : rd (m := 32768) (n := 128) (val_main_v45 (F := Ideal) x0) R k = hT (rd x0) R k :=
  rd_cut (a := 4096) (b := 8) (n := 128) x0 _ rfl hR hk
theorem v37_rd (hR : R < 32768) : rd (m := 32768) (n := 1) (val_main_v37 (F := Ideal) x1 x2) R 0 = wsq (hT (actS (Q x1) (rd x2))) 1 128 R :=
  rd_hostL2sq (val_main_v32 (F := Ideal) x1 x2) _ _ _ _ (fun k hk => v32_rd x1 x2 hR hk) hR
theorem v38_rd (hR : R < 32768) : rd (m := 32768) (n := 1) (val_main_v38 (F := Ideal) x1 x2) R 0 = rw' (hT (actS (Q x1) (rd x2))) 1 128 R := by
  unfold val_main_v38
  rw [rd_hostRsqrt _ hR Nat.one_pos, v37_rd x1 x2 hR]
  rfl

/-- The gradient through the heads' norms. -/
theorem v57_rd {k : ℕ} (hR : R < 32768) (hk : k < 128) : rd (m := 32768) (n := 128) (val_main_v57 (F := Ideal) x0 x1 x2) R k
    = hdx (hT (actS (Q x1) (rd x2))) (hT (rd x0)) 1 128 R k :=
  rd_hostL2Dx (val_main_v32 (F := Ideal) x1 x2) (val_main_v45 (F := Ideal) x0) (val_main_v38 (F := Ideal) x1 x2) (val_main_v37 (F := Ideal) x1 x2)
    _ _ _ _ _ _ _ _ (v38_rd x1 x2 hR) (v37_rd x1 x2 hR) (fun k hk => v32_rd x1 x2 hR hk) (fun k hk => v45_rd x0 hR hk) hR hk
theorem v58_rd (hR : R < 4096) (hC : C < 1024) : rd (m := 4096) (n := 1024) (val_main_v58 (F := Ideal) x0 x1 x2) R C
    = dsN (rd x0) (actS (Q x1) (rd x2)) R C :=
  (rd_uncut (a := 4096) (b := 8) (n := 128) (val_main_v57 (F := Ideal) x0 x1 x2) _ rfl hR hC).trans (v57_rd x0 x1 x2 (by omega) (by omega))

variable (hfin : ∀ R C, rd x0 R C ≠ ⊤ ∧ rd x0 R C ≠ ⊥)
include hfin

/-- The gradient of the convolution. -/
theorem v59_rd (hC : C < 1024) : rd (m := 4096) (n := 1024) (val_main_v59 (F := Ideal) x0 x1 x2) R C = dlN (rd x0) (Q x1) (rd x2) R C := by
  by_cases hR : R < 4096
  · have hs := s_rd x1 x2 hR hC
    have h1 : rd (m := 4096) (n := 1024) (val_main_call0_v6 (F := Ideal)) R C = 1 := (rd_bcastConst _ _ hR hC).trans c1_eq
    have hf := dsN_fin (rd x0) (actS (Q x1) (rd x2)) hfin R C
    unfold val_main_v59 val_main_call1_v1 val_main_call1_v2 val_main_call1_v0 val_main_v31_1 val_main_call0_v7
    rw [rd_addf, rd_mulf, rd_mulf, rd_mulf, rd_mulf, rd_subf _ _ hR hC, hs, h1, v30_rd x1 x2 hR hC, v58_rd x0 x1 x2 hR hC]
    exact dsl_eq _ hf.1 hf.2
  · rw [rd_out _ (by omega), dlN_out _ _ _ hC fun _ => rd_out _ (by omega)]

theorem v95_rd (hC : C < 1024) : rd (m := 4096) (n := 1024) (val_main_v95 (F := Ideal) x0 x1 x2) R C = dlN (rd x0) (Q x1) (rd x2) R C * rd x2 0 C := by
  by_cases hR : R < 4096
  · unfold val_main_v95
    rw [rd_mulf, v59_rd x0 x1 x2 hfin hC]
    exact congrArg (_ * ·) (rd_hostTap 0 x2 _ _ _ _ hR hC)
  · rw [rd_out _ (by omega), dlN_out _ _ _ hC fun _ => rd_out _ (by omega), zero_mul]
theorem v84_rd (hC : C < 1024) : rd (m := 4096) (n := 1024) (val_main_v84 (F := Ideal) x0 x1 x2) R C = dlN (rd x0) (Q x1) (rd x2) R C * rd x2 1 C := by
  by_cases hR : R < 4096
  · unfold val_main_v84
    rw [rd_mulf, v59_rd x0 x1 x2 hfin hC]
    exact congrArg (_ * ·) (rd_hostTap 1 x2 _ _ _ _ hR hC)
  · rw [rd_out _ (by omega), dlN_out _ _ _ hC fun _ => rd_out _ (by omega), zero_mul]
theorem v73_rd (hC : C < 1024) : rd (m := 4096) (n := 1024) (val_main_v73 (F := Ideal) x0 x1 x2) R C = dlN (rd x0) (Q x1) (rd x2) R C * rd x2 2 C := by
  by_cases hR : R < 4096
  · unfold val_main_v73
    rw [rd_mulf, v59_rd x0 x1 x2 hfin hC]
    exact congrArg (_ * ·) (rd_hostTap 2 x2 _ _ _ _ hR hC)
  · rw [rd_out _ (by omega), dlN_out _ _ _ hC fun _ => rd_out _ (by omega), zero_mul]
theorem v64_rd (hC : C < 1024) : rd (m := 4096) (n := 1024) (val_main_v64 (F := Ideal) x0 x1 x2) R C = dlN (rd x0) (Q x1) (rd x2) R C * rd x2 3 C := by
  by_cases hR : R < 4096
  · unfold val_main_v64
    rw [rd_mulf, v59_rd x0 x1 x2 hfin hC]
    exact congrArg (_ * ·) (rd_hostTap 3 x2 _ _ _ _ hR hC)
  · rw [rd_out _ (by omega), dlN_out _ _ _ hC fun _ => rd_out _ (by omega), zero_mul]

/-- The first result: the gradient of the columns. -/
theorem v104_rd (hR : R < 4096) (hC : C < 1024) :
    rd (m := 4096) (n := 1024) (val_main_v104 (F := Ideal) x0 x1 x2) R C = anti4 (dlN (rd x0) (Q x1) (rd x2)) (rd x2) R C := by
  unfold val_main_v104
  rw [rd_truncf]
  have z := Ideal.ofBits_zero_f32
  refine (rd_hostAnti4 (val_main_v64 (F := Ideal) x0 x1 x2) (val_main_v73 (F := Ideal) x0 x1 x2) (val_main_v84 (F := Ideal) x0 x1 x2) (val_main_v95 (F := Ideal) x0 x1 x2)
    _ _ _ _ _ _ _ _ _ _ z z z z rfl hR hC).trans ?_
  rw [v64_rd x0 x1 x2 hfin hC, v73_rd x0 x1 x2 hfin hC, v84_rd x0 x1 x2 hfin hC, v95_rd x0 x1 x2 hfin hC]
  exact anti4_host _ _ _ _

/-- The second result: the gradient of the taps. -/
theorem v105_rd (hR : R < 8) (hC : C < 1024) :
    rd (m := 8) (n := 1024) (val_main_v105 (F := Ideal) x0 x1 x2) R C = taps4 (dlN (rd x0) (Q x1) (rd x2)) (Q x1) 4096 R C := by
  have z : ∀ i, constant (F := Ideal) ⟨0, ![]⟩ .f32 0x00000000#32 i = (0 : EReal) := fun _ => Ideal.ofBits_zero_f32
  have s0 : rd (m := 1) (n := 1024) (val_main_v97 (F := Ideal) x0 x1 x2) 0 C
      = ∑ R ∈ Finset.range 4096, dlN (rd x0) (Q x1) (rd x2) R C * bk (Q x1) (3 - 0) R C :=
    rd_hostRowSum (val_main_v91 (F := Ideal) x0 x1 x2) _ _ _ _ _ _ _ _ (z _) (z _) (fun R hR => by
      unfold val_main_v91; rw [rd_mulf, v4_rd x1 hR hC, v59_rd x0 x1 x2 hfin hC, mul_comm]) hC
  have s1 : rd (m := 1) (n := 1024) (val_main_v86 (F := Ideal) x0 x1 x2) 0 C
      = ∑ R ∈ Finset.range 4096, dlN (rd x0) (Q x1) (rd x2) R C * bk (Q x1) (3 - 1) R C :=
    rd_hostRowSum (val_main_v80 (F := Ideal) x0 x1 x2) _ _ _ _ _ _ _ _ (z _) (z _) (fun R hR => by
      unfold val_main_v80; rw [rd_mulf, v10_rd x1 hR hC, v59_rd x0 x1 x2 hfin hC, mul_comm]) hC
  have s2 : rd (m := 1) (n := 1024) (val_main_v75 (F := Ideal) x0 x1 x2) 0 C
      = ∑ R ∈ Finset.range 4096, dlN (rd x0) (Q x1) (rd x2) R C * bk (Q x1) (3 - 2) R C :=
    rd_hostRowSum (val_main_v69 (F := Ideal) x0 x1 x2) _ _ _ _ _ _ _ _ (z _) (z _) (fun R hR => by
      unfold val_main_v69; rw [rd_mulf, v17_rd x1 hR hC, v59_rd x0 x1 x2 hfin hC, mul_comm]) hC
  have s3 : rd (m := 1) (n := 1024) (val_main_v66 (F := Ideal) x0 x1 x2) 0 C
      = ∑ R ∈ Finset.range 4096, dlN (rd x0) (Q x1) (rd x2) R C * bk (Q x1) (3 - 3) R C :=
    rd_hostRowSum (val_main_v60 (F := Ideal) x0 x1 x2) _ _ _ _ _ _ _ _ (z _) (z _) (fun R hR => by
      unfold val_main_v60; rw [rd_mulf, v24_rd x1 hR hC, v59_rd x0 x1 x2 hfin hC, mul_comm]) hC
  have hp : val_main_call2_v0 (F := Ideal) (Shape.Idx.first Nat.one_pos) = (0 : EReal) := by
    show (((0#32 : BitVec 32).toInt : ℝ) : EReal) = 0
    simp
  exact rd_hostRows4 (fun k => ∑ R ∈ Finset.range 4096, dlN (rd x0) (Q x1) (rd x2) R C * bk (Q x1) (3 - k) R C)
    (val_main_v97 (F := Ideal) x0 x1 x2) (val_main_v86 (F := Ideal) x0 x1 x2) (val_main_v75 (F := Ideal) x0 x1 x2) (val_main_v66 (F := Ideal) x0 x1 x2)
    _ _ _ _ _ _ _ _ _ _ _ (z _) (z _) (z _) (z _) hp s0 s1 s2 s3 hR

end Reference

variable (m : (ℓ : Loc nD τ sig) → Buf (Elt Ideal) ℓ) (c : Dev nD) (ρ : Dev nD → PrngReg)

theorem index7 (t : Fin cfg0.N) : win0_7.index t 0 = t.val % 4 ∧ win0_7.index t 1 = t.val / 4 :=
  (by decide +kernel : ∀ t : Fin grid0.N, win0_7.index t 0 = t.val % 4 ∧ win0_7.index t 1 = t.val / 4) t

/-- Window 7's array after the run. -/
theorem final7 : (dats m 0 c).arrAt 7 cfg0.N = tab (m := 4096) (n := 1024) (anti4 (dlN (X0 m c) (P m c) (X2 m c)) (X2 m c)) := by
  refine (dats m 0 c).arrAt_eq_of_cover 7 _ (fun t hf => ?_) fun i => ?_
  · rw [flushed7]
    funext j
    rw [View.read_apply]
    show ((outsAt0 m c t.val t.isLt).1) j = (anti4 (dlN (X0 m c) (P m c) (X2 m c)) (X2 m c)) (win0_7.index t 0 * 1024 + 1 * (j 0).val) (win0_7.index t 1 * 512 + 1 * (j 1).val)
    rw [eq_rd (m := 1024) (n := 512) ((outsAt0 m c t.val t.isLt).1) j]
    rw [outs7_rd m c t (j 0).isLt (j 1).isLt]
    have hi := index7 t
    rw [hi.1, hi.2]
    congr 1 <;> omega
  · have h0 : (i 0).val < 4096 := (i 0).isLt
    have h1 : (i 1).val < 1024 := (i 1).isLt
    have hN : cfg0.N = 8 := by decide +kernel
    let t : Fin cfg0.N := ⟨4 * ((i 1).val / 512) + (i 0).val / 1024, by omega⟩
    refine ⟨t, flush0_7 _, ?_⟩
    show i ∈ ((View.whole main_v0_0).slice (win0_7.rect t)).set
    rw [View.set_slice_whole, Rect.mem_set_unit]
    have hi := index7 t
    have hv : t.val = 4 * ((i 1).val / 512) + (i 0).val / 1024 := rfl
    intro a
    match a with
    | ⟨0, _⟩ => show win0_7.index t 0 * 1024 ≤ (i 0).val ∧ (i 0).val < win0_7.index t 0 * 1024 + 1024
                rw [hi.1]; omega
    | ⟨1, _⟩ => show win0_7.index t 1 * 512 ≤ (i 1).val ∧ (i 1).val < win0_7.index t 1 * 512 + 512
                rw [hi.2]; omega

theorem index8 (t : Fin cfg0.N) : win0_8.index t 0 = 0 ∧ win0_8.index t 1 = t.val / 4 :=
  (by decide +kernel : ∀ t : Fin grid0.N, win0_8.index t 0 = 0 ∧ win0_8.index t 1 = t.val / 4) t

/-- Window 8's array after the run. -/
theorem final8 : (dats m 0 c).arrAt 8 cfg0.N = tab (m := 8) (n := 1024) (taps4 (dlN (X0 m c) (P m c) (X2 m c)) (P m c) 4096) := by
  refine (dats m 0 c).arrAt_eq_of_cover 8 _ (fun t hf => ?_) fun i => ?_
  · rw [flushed8]
    funext j
    rw [View.read_apply]
    show ((outsAt0 m c t.val t.isLt).2) j = (taps4 (dlN (X0 m c) (P m c) (X2 m c)) (P m c) 4096) (win0_8.index t 0 * 8 + 1 * (j 0).val) (win0_8.index t 1 * 512 + 1 * (j 1).val)
    rw [eq_rd (m := 8) (n := 512) ((outsAt0 m c t.val t.isLt).2) j]
    rw [outs8_rd m c t.val t.isLt (j 0).isLt (j 1).isLt, (flush0_8 t).mp hf]
    have hi := index8 t
    rw [hi.1, hi.2]
    congr 1 <;> omega
  · have h0 : (i 0).val < 8 := (i 0).isLt
    have h1 : (i 1).val < 1024 := (i 1).isLt
    have hN : cfg0.N = 8 := by decide +kernel
    let t : Fin cfg0.N := ⟨4 * ((i 1).val / 512) + 3, by omega⟩
    refine ⟨t, (flush0_8 _).mpr (by show (4 * ((i 1).val / 512) + 3) % 4 = 3; omega), ?_⟩
    show i ∈ ((View.whole main_v0_1).slice (win0_8.rect t)).set
    rw [View.set_slice_whole, Rect.mem_set_unit]
    have hi := index8 t
    have hv : t.val = 4 * ((i 1).val / 512) + 3 := rfl
    intro a
    match a with
    | ⟨0, _⟩ => show win0_8.index t 0 * 8 ≤ (i 0).val ∧ (i 0).val < win0_8.index t 0 * 8 + 8
                rw [hi.1]; omega
    | ⟨1, _⟩ => show win0_8.index t 1 * 512 ≤ (i 1).val ∧ (i 1).val < win0_8.index t 1 * 512 + 512
                rw [hi.2]; omega

/-- The kernel's run: the two arrays in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 1024) (anti4 (dlN (X0 m c) (P m c) (X2 m c)) (X2 m c))
      ∧ r.2.mem ((c : Thread nD τ).loc main_v0_1) = tab (m := 8) (n := 1024) (taps4 (dlN (X0 m c) (P m c) (X2 m c)) (P m c) 4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final7 m c), (h c).2.1.trans (final8 m c), (h c).2.2⟩) (run_blocks m ρ)

/-- With a finite incoming gradient, the kernel and the gradient of the columns' norm, activation and convolution end with equal arrays. -/
theorem algebraic : Cert.algebraic_Kernel28Ideal_Reference28Ideal_pre_finite28 := by
  intro m ρ m' ρ' hpre hag
  have hfin (c : Dev nD) (R C : ℕ) : rd (m := 4096) (n := 1024) (m (c.tc.loc main_arg0)) R C ≠ ⊤ ∧ rd (m := 4096) (n := 1024) (m (c.tc.loc main_arg0)) R C ≠ ⊥ := by
    have h := hpre c
    unfold Cert.Pre_finite28.fn at h
    exact finite_of_all (m := 4096) (n := 1024) _ _ _ _ h R C
  refine ⟨_, _, run m ρ, (θ_run _ _ _).mono (fun _ h c => ⟨(h c).1.trans ?_, (h c).2.1.trans ?_, (h c).2.2⟩) (Cert.Reference28Ideal.Value.run m' ρ')⟩
  · refine (Cert.Reference28Ideal.Read.val_main_v104_eq _).trans ?_
    show Cert.Reference28Ideal.Read.val_main_v104 (F := Ideal) (m' (c.tc.loc Cert.Reference28Ideal.main_arg0)) (m' (c.tc.loc Cert.Reference28Ideal.main_arg1)) (m' (c.tc.loc Cert.Reference28Ideal.main_arg2)) = _
    rw [(hag c).1, (hag c).2.1, (hag c).2.2]
    exact (eq_tab fun r k hr hk => v104_rd _ _ _ (hfin c) hr hk)
  · refine (Cert.Reference28Ideal.Read.val_main_v105_eq _).trans ?_
    show Cert.Reference28Ideal.Read.val_main_v105 (F := Ideal) (m' (c.tc.loc Cert.Reference28Ideal.main_arg0)) (m' (c.tc.loc Cert.Reference28Ideal.main_arg1)) (m' (c.tc.loc Cert.Reference28Ideal.main_arg2)) = _
    rw [(hag c).1, (hag c).2.1, (hag c).2.2]
    exact (eq_tab fun r k hr hk => v105_rd _ _ _ (hfin c) hr hk)

/-- The gradient's run leaves the arguments as they were; it uses no semaphore. -/
theorem frame_ref : Cert.quiescent_Reference28Ideal := fun m ρ _ =>
  (θ_run Cert.Reference28Ideal.defs _ _).mono (fun r h => ⟨fun c => (h c).2.2, Idealize.ShloMosaic.sem_eq_zero_of_no_sems (by decide) r.2⟩)
    (Cert.Reference28Ideal.Value.run (F := Ideal) m ρ)

end Cert.Q28

end
-- ==== Proof.Q34Kernel.lean ====
module

public import proofs.«01_k».proof.Proof.L2
public import proofs.«01_k».proof.Proof.Gen.Kernel34Ideal.Value
public import Idealize.ShloMosaic.Lib.Tactic

@[expose] public section

set_option maxRecDepth 16384

noncomputable section

namespace Cert.Q34

open Cert.Kernel34Ideal Cert.Kernel34Ideal.Gen Cert.Kernel34Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The gradient's tile between its halos, the projection's, the convolution (its first three taps, all), its activation, and the gradient of the convolution. -/
abbrev dE : FVec Ideal S1040x512 .f32 := k0_pay2 (grid0.coords t) (iblk m c 0 t) (iblk m c 1 t) (iblk m c 2 t)
abbrev pE : FVec Ideal S1040x512 .f32 := k0_pay3 (grid0.coords t) (iblk m c 3 t) (iblk m c 4 t) (iblk m c 5 t)
abbrev c4 : FVec Ideal S1040x512 .f32 := k0_pay4 (grid0.coords t) (iblk m c 3 t) (iblk m c 4 t) (iblk m c 5 t) (iblk m c 6 t)
abbrev cv : FVec Ideal S1040x512 .f32 := k0_pay5 (pE m c t) (iblk m c 6 t) (c4 m c t)
abbrev sg : FVec Ideal S1040x512 .f32 := k0_pay6 (pE m c t) (iblk m c 6 t) (c4 m c t)
abbrev sE : FVec Ideal S1040x512 .f32 := k0_pay7 (pE m c t) (iblk m c 6 t) (c4 m c t)
abbrev gE : FVec Ideal S1040x512 .f32 := k0_pay11 (dE m c t) (cv m c t) (sg m c t) (sE m c t) (k0_pay8 (dE m c t) (pE m c t) (iblk m c 6 t) (c4 m c t)) (k0_pay9 (dE m c t) (pE m c t) (iblk m c 6 t) (c4 m c t)) (k0_pay10 (pE m c t) (iblk m c 6 t) (c4 m c t))
abbrev aE : FVec Ideal S1040x512 .f32 := k0_pay12 (dE m c t) (iblk m c 6 t) (cv m c t) (sg m c t) (sE m c t) (k0_pay8 (dE m c t) (pE m c t) (iblk m c 6 t) (c4 m c t)) (k0_pay9 (dE m c t) (pE m c t) (iblk m c 6 t) (c4 m c t)) (k0_pay10 (pE m c t) (iblk m c 6 t) (c4 m c t))

/-- What the body leaves in output window 7 at a point. -/
theorem outs7 : (outsAt0 m c t.val t.isLt).1 = k0_pay14 (iblk m c 6 t) (gE m c t) (aE m c t) := by
  by_cases h0 : t.val % 4 = 0
  · rw [outsAt0_A m c t h0 (by omega)]
    dsimp only
    unfold out0_A_7
    rw [View.read_writes_eq_canon]; swap
    · intro y; apply cover0_A_7
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]
  · rw [outsAt0_B m c t h0 (by omega)]
    dsimp only
    unfold out0_B_7
    rw [View.read_writes_eq_canon]; swap
    · intro y; apply cover0_B_7
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]

/-- The taps at the first row tile: this tile's sums. -/
theorem outs8_A (h0 : t.val % 4 = 0) : (outsAt0 m c t.val t.isLt).2 = k0_pay13 (pE m c t) (gE m c t) := by
  rw [outsAt0_A m c t h0 (by omega)]
  dsimp only
  unfold out0_A_8
  rw [View.read_writes_eq_canon]; swap
  · intro y; apply cover0_A_8
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S8x512) hz2, View.ld_unit_zero (S := S1024x512) hz2, View.ld_unit_zero (S := S4x512) hz2]

/-- At a later tile: this tile's sums over what the tile before left. -/
theorem outs8_B (h0 : ¬t.val % 4 = 0) (ht : t.val - 1 < cfg0.N) : (outsAt0 m c t.val t.isLt).2 = k0_pay1 (k0_pay13 (pE m c t) (gE m c t)) (outsAt0 m c (t.val - 1) ht).2 := by
  rw [outsAt0_B m c t h0 (by omega)]
  dsimp only
  unfold out0_B_8
  rw [View.read_writes_eq_canon]; swap
  · intro y; apply cover0_B_8
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, View.ld_unit_zero (S := S8x512) hz2, View.ld_unit_zero (S := S1024x512) hz2, View.ld_unit_zero (S := S4x512) hz2]

/-- The arguments read at natural coordinates. -/
abbrev X0 : ℕ → ℕ → EReal := rd (m := 4096) (n := 1024) (m (c.tc.loc main_arg0))
abbrev X1 : ℕ → ℕ → EReal := rd (m := 4096) (n := 7168) (m (c.tc.loc main_arg1))
abbrev X2 : ℕ → ℕ → EReal := rd (m := 4) (n := 1024) (m (c.tc.loc main_arg2))

/-- The projection's columns that this call reads. -/
abbrev P : ℕ → ℕ → EReal := fun R C => X1 m c R (4096 + C)

/-- The grid's second coordinate is the row tile. -/
theorem gi_val : (grid0.coords t 1).val = t.val % 4 :=
  (by decide +kernel : ∀ t : Fin grid0.N, (grid0.coords t 1).val = t.val % 4) t

theorem t_lt : t.val < 8 := lt_of_lt_of_eq t.isLt (by decide +kernel)

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (512 * (t.val / 4) + k) := by
  have e := (by decide +kernel : ∀ t : Fin grid0.N, win0_0.index t 0 = t.val % 4 * 128 - 1 ∧ win0_0.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (512 * (t.val / 4) + k) := by
  have e := (by decide +kernel : ∀ t : Fin grid0.N, win0_1.index t 0 = t.val % 4 ∧ win0_1.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (512 * (t.val / 4) + k) := by
  have e := (by decide +kernel : ∀ t : Fin grid0.N, win0_2.index t 0 = min ((t.val % 4 + 1) * 128) 511 ∧ win0_2.index t 1 = t.val / 4) t
  rw [rd_in _ hr hk]
  unfold iblk
  rw [View.read_apply]
  show V m c main_arg0 _ = _
  rw [V_main_arg0]
  refine (rd_of_val (m := 4096) (n := 1024) _ _ ?_ ?_).symm
  · show win0_2.index t 0 * 8 + 1 * r = _; omega
  · show win0_2.index t 1 * 512 + 1 * k = _; omega

/-- The eight rows above the tile, window 3. -/
theorem blk3 {r k : ℕ} (hr : r < 8) (hk : k < 512) :
    rd (m := 8) (n := 512) (iblk m c 3 t) r k = P m c ((t.val % 4 * 128 - 1) * 8 + r) (512 * (t.val / 4) + k) := by
  have e := (by decide +kernel : ∀ t : Fin grid0.N, win0_3.index t 0 = t.val % 4 * 128 - 1 ∧ win0_3.index t 1 = t.val / 4 + 8) t
  rw [rd_in _ hr hk]
  unfold iblk
  rw [View.read_apply]
  show V m c main_arg1 _ = _
  rw [V_main_arg1]
  refine (rd_of_val (m := 4096) (n := 7168) _ _ ?_ ?_).symm
  · show win0_3.index t 0 * 8 + 1 * r = _; omega
  · show win0_3.index t 1 * 512 + 1 * k = _; omega

/-- The tile's rows, window 4. -/
theorem blk4 {r k : ℕ} (hr : r < 1024) (hk : k < 512) :
    rd (m := 1024) (n := 512) (iblk m c 4 t) r k = P m c (1024 * (t.val % 4) + r) (512 * (t.val / 4) + k) := by
  have e := (by decide +kernel : ∀ t : Fin grid0.N, win0_4.index t 0 = t.val % 4 ∧ win0_4.index t 1 = t.val / 4 + 8) t
  rw [rd_in _ hr hk]
  unfold iblk
  rw [View.read_apply]
  show V m c main_arg1 _ = _
  rw [V_main_arg1]
  refine (rd_of_val (m := 4096) (n := 7168) _ _ ?_ ?_).symm
  · show win0_4.index t 0 * 1024 + 1 * r = _; omega
  · show win0_4.index t 1 * 512 + 1 * k = _; omega

/-- The eight rows below the tile, window 5. -/
theorem blk5 {r k : ℕ} (hr : r < 8) (hk : k < 512) :
    rd (m := 8) (n := 512) (iblk m c 5 t) r k = P m c (min ((t.val % 4 + 1) * 128) 511 * 8 + r) (512 * (t.val / 4) + k) := by
  have e := (by decide +kernel : ∀ t : Fin grid0.N, win0_5.index t 0 = min ((t.val % 4 + 1) * 128) 511 ∧ win0_5.index t 1 = t.val / 4 + 8) t
  rw [rd_in _ hr hk]
  unfold iblk
  rw [View.read_apply]
  show V m c main_arg1 _ = _
  rw [V_main_arg1]
  refine (rd_of_val (m := 4096) (n := 7168) _ _ ?_ ?_).symm
  · show win0_5.index t 0 * 8 + 1 * r = _; omega
  · show win0_5.index t 1 * 512 + 1 * k = _; omega

/-- The taps at the tile's columns. -/
theorem blk6 {r k : ℕ} (hr : r < 4) (hk : k < 512) :
    rd (m := 4) (n := 512) (iblk m c 6 t) r k = X2 m c (r) (512 * (t.val / 4) + k) := by
  have e := (by decide +kernel : ∀ t : Fin grid0.N, win0_6.index t 0 = 0 ∧ win0_6.index t 1 = t.val / 4) t
  rw [rd_in _ hr hk]
  unfold iblk
  rw [View.read_apply]
  show V m c main_arg2 _ = _
  rw [V_main_arg2]
  refine (rd_of_val (m := 4) (n := 1024) _ _ ?_ ?_).symm
  · show win0_6.index t 0 * 4 + 1 * r = _; omega
  · show win0_6.index t 1 * 512 + 1 * k = _; omega

/-- The tile with eight rows on each side, windows 0 to 2, is the array's rows, zero above the first. -/
theorem dE_rd {r k : ℕ} (hr : r < 1040) (hk : k < 512) :
    rd (m := 1040) (n := 512) (dE m c t) r k = halo (X0 m c) (1024 * (t.val % 4) + r) (512 * (t.val / 4) + k) := by
  unfold dE k0_pay2
  dsimp only
  refine rd_tile (tb := 1024) (nI := 4) (X0 m c) (iblk m c 0 t) (iblk m c 2 t) (iblk m c 1 t) _ _ _ (by omega) rfl
    (by omega) (fun R C h => rd_out _ (by omega)) (edge t 0 (by omega) _) (edge t 3 (by omega) _) ?_ ?_ ?_ hr hk
  · intro h r k hr hk; rw [blk0 m c t hr hk]; congr 1; omega
  · intro r k hr hk; exact blk1 m c t hr hk
  · intro h r k hr hk; rw [blk2 m c t hr hk]; congr 1; omega

/-- The tile with eight rows on each side, windows 3 to 5, is the array's rows, zero above the first. -/
theorem pE_rd {r k : ℕ} (hr : r < 1040) (hk : k < 512) :
    rd (m := 1040) (n := 512) (pE m c t) r k = halo (P m c) (1024 * (t.val % 4) + r) (512 * (t.val / 4) + k) := by
  unfold pE k0_pay3
  dsimp only
  refine rd_tile (tb := 1024) (nI := 4) (P m c) (iblk m c 3 t) (iblk m c 5 t) (iblk m c 4 t) _ _ _ (by omega) rfl
    (by omega) (fun R C h => rd_out _ (by omega)) (edge t 0 (by omega) _) (edge t 3 (by omega) _) ?_ ?_ ?_ hr hk
  · intro h r k hr hk; rw [blk3 m c t hr hk]; congr 1; omega
  · intro r k hr hk; exact blk4 m c t hr hk
  · intro h r k hr hk; rw [blk5 m c t hr hk]; congr 1; omega

/-- The convolution and its activation at the tile's rows and those below. -/
theorem cv_rd {r k : ℕ} (hr : 8 + r < 1040) (hk : k < 512) : rd (m := 1040) (n := 512) (cv m c t) (8 + r) k
    = conv4 (P m c) (X2 m c) (1024 * (t.val % 4) + r) (512 * (t.val / 4) + k) := by
  have hc := rd_tileConv4 (P m c) (X2 m c) (pE m c t) (iblk m c 6 t) slices_S4x512_o0_0_S1x512 slices_S4x512_o1_0_S1x512 slices_S4x512_o2_0_S1x512 slices_S4x512_o3_0_S1x512 broadcasts_S1x512_S1040x512 broadcasts_S1x512_S1040x512 broadcasts_S1x512_S1040x512 broadcasts_S1x512_S1040x512
    rotates_S1040x512_d0 rotates_S1040x512_d0 rotates_S1040x512_d0 (fun _ _ => pE_rd m c t) (fun _ _ => blk6 m c t) hr hk
  unfold cv k0_pay5 c4 k0_pay4
  dsimp only
  exact hc
theorem sg_rd {r k : ℕ} (hr : 8 + r < 1040) (hk : k < 512) : rd (m := 1040) (n := 512) (sg m c t) (8 + r) k
    = sgm (conv4 (P m c) (X2 m c) (1024 * (t.val % 4) + r) (512 * (t.val / 4) + k)) := by
  rw [← cv_rd m c t hr hk]
  unfold sg k0_pay6
  dsimp only
  exact rd_sgm _ hr hk
theorem sE_rd {r k : ℕ} (hr : 8 + r < 1040) (hk : k < 512) : rd (m := 1040) (n := 512) (sE m c t) (8 + r) k
    = actS (P m c) (X2 m c) (1024 * (t.val % 4) + r) (512 * (t.val / 4) + k) := by
  have h : sE m c t = mulf (cv m c t) (sg m c t) := rfl
  rw [h, rd_mulf, cv_rd m c t hr hk, sg_rd m c t hr hk]
  rfl

/-! ## One head, and the four heads of a tile -/

def kD (o w : FVec Ideal S1040x128 .f32) : FVec Ideal S1040x128 .f32 :=
  have v54 : FVec Ideal S1040x1 .f32 := rsqrt (addf (shapeCast S1040x1 (multiReduction .add [1] S1040 (mulf o o) 0x00000000#32
      reduces_S1040x128_S1040 (.inl rfl) rfl) shapeCasts_S1040_S1040x1) (broadcast S1040x1 (Scalar.ofBits (F := Ideal) .f32 0x358637BD#32)))
  have v56 : FVec Ideal S1040x128 .f32 := mulf o (broadcastTo S1040x128 v54 broadcasts_S1040x1_S1040x128)
  mulf (broadcastTo S1040x128 v54 broadcasts_S1040x1_S1040x128) (subf w (mulf v56 (broadcastTo S1040x128
    (shapeCast S1040x1 (multiReduction .add [1] S1040 (mulf w v56) 0x00000000#32 reduces_S1040x128_S1040 (.inl rfl) rfl) shapeCasts_S1040_S1040x1)
    broadcasts_S1040x1_S1040x128)))
theorem kD_rd (o w : FVec Ideal S1040x128 .f32) {X W : ℕ → ℕ → EReal} {R r q : ℕ} (ho : ∀ k < 128, rd (m := 1040) (n := 128) o r k = X R k)
    (hw : ∀ k < 128, rd (m := 1040) (n := 128) w r k = W R k) (hr : r < 1040) (hq : q < 128) :
    rd (m := 1040) (n := 128) (kD o w) r q = hdx X W 1 128 R q := by
  unfold kD
  dsimp only
  have h54 := rd_l2r o reduces_S1040x128_S1040 (.inl rfl) rfl shapeCasts_S1040_S1040x1 ho hr
  refine rd_l2Dx w _ _ _ _ _ _ _ _ h54 hw (fun k hk => ?_) hr hq
  rw [rd_mulf, rd_broadcastCol _ _ hr hk, ho k hk]
  exact congrArg (_ * ·) h54

abbrev four {α : Type} (f : (b : ℕ) → S1040x512.Slices ![0, b] S1040x128 → α) : List α :=
  [f 0 slices_S1040x512_o0_0_S1040x128, f 128 slices_S1040x512_o0_128_S1040x128, f 256 slices_S1040x512_o0_256_S1040x128, f 384 slices_S1040x512_o0_384_S1040x128]
def sideBySide (f : (b : ℕ) → S1040x512.Slices ![0, b] S1040x128 → FVec Ideal S1040x128 .f32) : FVec Ideal S1040x512 .f32 :=
  concatenate S1040x512 1 ((four f).map fun x => ⟨S1040x128, x⟩) concatenates_S1040x128_S1040x128_S1040x128_S1040x128_S1040x512_d1
theorem sideBySide_rd (f : (b : ℕ) → S1040x512.Slices ![0, b] S1040x128 → FVec Ideal S1040x128 .f32)
    {r k : ℕ} (A : ℕ → ℕ → EReal) (hf : ∀ H b hs, b = 128 * H → H < 4 → ∀ q < 128, rd (m := 1040) (n := 128) (f b hs) r q = A H q)
    (hr : r < 1040) (hk : k < 512) : rd (m := 1040) (n := 512) (sideBySide f) r k = A (k / 128) (k % 128) := by
  refine rd_concatCols (four f) (fun _ k => A (k / 128) (k % 128)) _ (fun H hH q hq => ?_) hr hk
  rw [show (128 * H + q) / 128 = H by omega, show (128 * H + q) % 128 = q by omega]
  match H, hH with
  | 0, _ => exact hf 0 0 _ rfl (by omega) q hq
  | 1, _ => exact hf 1 128 _ rfl (by omega) q hq
  | 2, _ => exact hf 2 256 _ rfl (by omega) q hq
  | 3, _ => exact hf 3 384 _ rfl (by omega) q hq
  | H + 4, hH => exact absurd hH (by simp)

/-- The gradient through the heads' norms, at the tile's rows and those below. -/
theorem ds_rd {r k : ℕ} (hr : 8 + r < 1040) (hk : k < 512) : rd (m := 1040) (n := 512) (sideBySide fun b hs =>
      kD (extractStridedSlice S1040x128 ![0, b] (sE m c t) hs) (extractStridedSlice S1040x128 ![0, b] (dE m c t) hs)) (8 + r) k
    = dsN (X0 m c) (actS (P m c) (X2 m c)) (1024 * (t.val % 4) + r) (512 * (t.val / 4) + k) := by
  have ht := t_lt t
  refine (sideBySide_rd _ (fun H q => hdx (hT (actS (P m c) (X2 m c))) (hT (X0 m c)) 1 128 (8 * (1024 * (t.val % 4) + r) + (4 * (t.val / 4) + H)) q)
    (fun H b hs hb hH q hq => kD_rd _ _ (fun k hk => ?_) (fun k hk => ?_) hr hq) hr hk).trans ?_
  · rw [rd_slice _ _ _ hr hk]
    show rd (m := 1040) (n := 512) (sE m c t) (0 + (8 + r)) (b + k) = _
    rw [Nat.zero_add, sE_rd m c t hr (by omega), hT_at _ (by omega)]
    congr 1; omega
  · rw [rd_slice _ _ _ hr hk]
    show rd (m := 1040) (n := 512) (dE m c t) (0 + (8 + r)) (b + k) = _
    rw [Nat.zero_add, (dE_rd m c t hr (by omega)).trans (halo_bk0 _), hT_at _ (by omega)]
    congr 1; omega
  · unfold dsN
    rw [show (512 * (t.val / 4) + k) / 128 = 4 * (t.val / 4) + k / 128 by omega, show (512 * (t.val / 4) + k) % 128 = k % 128 by omega]

theorem gE_rd {r k : ℕ} (hr : 8 + r < 1040) (hk : k < 512) : rd (m := 1040) (n := 512) (gE m c t) (8 + r) k
    = dlN (X0 m c) (P m c) (X2 m c) (1024 * (t.val % 4) + r) (512 * (t.val / 4) + k) := by
  have h1 : rd (broadcast S1040x512 (Scalar.ofBits (F := Ideal) .f32 0x3F800000#32)) (8 + r) k = 1 := (rd_broadcast _ hr hk).trans c1_eq
  have h : gE m c t = mulf (sideBySide fun b hs => kD (extractStridedSlice S1040x128 ![0, b] (sE m c t) hs) (extractStridedSlice S1040x128 ![0, b] (dE m c t) hs))
      (mulf (sg m c t) (addf (broadcast S1040x512 (Scalar.ofBits (F := Ideal) .f32 0x3F800000#32)) (mulf (cv m c t)
        (subf (broadcast S1040x512 (Scalar.ofBits (F := Ideal) .f32 0x3F800000#32)) (sg m c t))))) := rfl
  rw [h, rd_mulf, rd_mulf, rd_addf, rd_mulf, rd_subf _ _ hr hk, h1, sg_rd m c t hr hk, cv_rd m c t hr hk, ds_rd m c t hr hk]
  rfl

/-- Window 7's block at a point: the gradient of the projection's columns. -/
theorem outs7_rd {r k : ℕ} (hr : r < 1024) (hk : k < 512) : rd (m := 1024) (n := 512) (outsAt0 m c t.val t.isLt).1 r k
    = anti4 (dlN (X0 m c) (P m c) (X2 m c)) (X2 m c) (1024 * (t.val % 4) + r) (512 * (t.val / 4) + k) := by
  rw [outs7]
  unfold k0_pay14 aE k0_pay12
  dsimp only
  rw [rd_truncf]
  exact rd_tileAnti4 1039#32 1038#32 1037#32 (dlN (X0 m c) (P m c) (X2 m c)) (X2 m c) (gE m c t) (iblk m c 6 t) slices_S4x512_o0_0_S1x512 slices_S4x512_o1_0_S1x512 slices_S4x512_o2_0_S1x512 slices_S4x512_o3_0_S1x512 broadcasts_S1x512_S1040x512 broadcasts_S1x512_S1040x512 broadcasts_S1x512_S1040x512 broadcasts_S1x512_S1040x512
    rotates_S1040x512_d0 rotates_S1040x512_d0 rotates_S1040x512_d0 slices_S1040x512_o8_0_S1024x512 rfl rfl rfl (fun _ _ => gE_rd m c t) (fun _ _ => blk6 m c t) rfl hr hk

/-- One tile's sums of the gradient in the taps. -/
theorem tile8_rd {r k : ℕ} (hr : r < 8) (hk : k < 512) : rd (m := 8) (n := 512) (k0_pay13 (pE m c t) (gE m c t)) r k
    = if r < 4 then ∑ i ∈ Finset.range 1024, dlN (X0 m c) (P m c) (X2 m c) (1024 * (t.val % 4) + i) (512 * (t.val / 4) + k)
        * bk (P m c) (3 - r) (1024 * (t.val % 4) + i) (512 * (t.val / 4) + k) else 0 := by
  unfold k0_pay13
  dsimp only
  have hsum (s : ℕ) (x : FVec Ideal S1040x512 .f32)
      (hx : ∀ r c', 8 + r < 1040 → c' < 512 → rd (m := 1040) (n := 512) x (8 + r) c' = bk (P m c) s (1024 * (t.val % 4) + r) (512 * (t.val / 4) + c')) :=
    rd_tileRow (dlN (X0 m c) (P m c) (X2 m c)) (P m c) (gE m c t) x s slices_S1040x512_o8_0_S1024x512 reduces_S1024x512_S512 (.inl rfl) rfl
      shapeCasts_S512_S1x512 (fun _ _ => gE_rd m c t) hx rfl hk
  have hb (sb : BitVec 32) (s : ℕ) (h1 : sb.toNat = s) (h2 : s ≤ 8) (r c' : ℕ) (h : 8 + r < 1040) (h' : c' < 512) :=
    rd_tileBack sb (P m c) (pE m c t) s rotates_S1040x512_d0 (fun _ _ => pE_rd m c t) h1 h2 h h'
  exact rd_rows4 (fun r => ∑ i ∈ Finset.range 1024, dlN (X0 m c) (P m c) (X2 m c) (1024 * (t.val % 4) + i) (512 * (t.val / 4) + k)
      * bk (P m c) (3 - r) (1024 * (t.val % 4) + i) (512 * (t.val / 4) + k)) _ _ _ _ _ _
    (hsum 3 _ (hb 3#32 3 rfl (by omega))) (hsum 2 _ (hb 2#32 2 rfl (by omega))) (hsum 1 _ (hb 1#32 1 rfl (by omega)))
    (hsum 0 _ fun r c' h h' => rd_tileHere (P m c) (pE m c t) (fun _ _ => pE_rd m c t) h h') (fun _ => rd_zero _ _)

/-- Window 8's block at a point: the gradient of the taps over the rows so far. -/
theorem outs8_rd : ∀ (n : ℕ) (hn : n < cfg0.N) {r k : ℕ} (_ : r < 8) (_ : k < 512),
    rd (m := 8) (n := 512) (outsAt0 m c n hn).2 r k
      = taps4 (dlN (X0 m c) (P m c) (X2 m c)) (P m c) (1024 * (n % 4 + 1)) r (512 * (n / 4) + k) := by
  intro n
  induction n with
  | zero =>
    intro hn r k hr hk
    have e := outs8_A m c ⟨0, hn⟩ rfl
    rw [show (outsAt0 m c 0 hn).2 = _ from e, tile8_rd m c _ hr hk]
    unfold taps4
    simp
  | succ n ih =>
    intro hn r k hr hk
    have hN : n + 1 < 8 := t_lt ⟨n + 1, hn⟩
    by_cases h0 : (n + 1) % 4 = 0
    · have e := outs8_A m c ⟨n + 1, hn⟩ h0
      rw [show (outsAt0 m c (n + 1) hn).2 = _ from e, tile8_rd m c _ hr hk]
      unfold taps4
      dsimp only
      rw [h0]
      simp
    · have e := outs8_B m c ⟨n + 1, hn⟩ h0 (by show n + 1 - 1 < cfg0.N; omega)
      rw [show (outsAt0 m c (n + 1) hn).2 = _ from e]
      unfold k0_pay1
      dsimp only
      rw [shapeCast_self, rd_addf, tile8_rd m c _ hr hk]
      have h := ih (by omega) hr hk
      rw [show rd (m := 8) (n := 512) (outsAt0 m c (n + 1 - 1) (by omega)).2 r k = _ from h]
      dsimp only
      rw [show (n + 1) / 4 = n / 4 by omega, show (n + 1) % 4 = n % 4 + 1 by omega,
        show 1024 * (n % 4 + 1 + 1) = 1024 * (n % 4 + 1) + 1024 by omega, taps4_succ]

end Cert.Q34

end
-- ==== Proof.Q34.lean ====
module

public import proofs.«01_k».proof.Proof.Conv
public import proofs.«01_k».proof.Proof.Q34Kernel
public import proofs.«01_k».proof.Proof.Gen.Reference34Ideal.Run
public import proofs.«01_k».proof.Proof.Gen.Reference34Ideal.Read
public import proofs.«01_k».proof.Defs
public import proofs.«01_k».proof.Proof.Gen.Pre_finite34

@[expose] public section

set_option maxRecDepth 16384

noncomputable section

namespace Cert.Q34

open Cert.Kernel34Ideal Cert.Kernel34Ideal.Gen Cert.Kernel34Ideal.Value Cert.Rd Idealize.ShloMosaic Idealize.ShloMosaic.TcCoe Idealize.SL.Sem
open Idealize.ShloMosaic.Pipeline (Dat)

section Reference
open Cert.Reference34Ideal.Read
variable (x0 : FVec Ideal ⟨2, ![4096, 1024]⟩ .f32) (x1 : FVec Ideal ⟨2, ![4096, 7168]⟩ .f32) (x2 : FVec Ideal ⟨2, ![4, 1024]⟩ .f32) {R C : ℕ}

/-- The columns read. -/
abbrev Q : ℕ → ℕ → EReal := fun R C => rd x1 R (4096 + C)

theorem bkQ (s : ℕ) (hR : R < 4096) (hC : C < 1024) : bk (rd (m := 4096) (n := 1024) (val_main_v0 (F := Ideal) x1)) s R C = bk (Q x1) s R C := by
  unfold bk
  split
  · unfold val_main_v0
    rw [rd_slice _ _ _ (by omega) hC]
    show rd x1 (0 + (R - s)) (4096 + C) = _
    rw [Nat.zero_add]
  · rfl

theorem v4_rd (hR : R < 4096) (hC : C < 1024) : rd (m := 4096) (n := 1024) (val_main_v4 (F := Ideal) x1) R C = bk (Q x1) 3 R C :=
  (rd_hostBack 0 (val_main_v0 (F := Ideal) x1) _ _ _ (by omega) hR hC).trans (bkQ x1 _ hR hC)
theorem v10_rd (hR : R < 4096) (hC : C < 1024) : rd (m := 4096) (n := 1024) (val_main_v10 (F := Ideal) x1) R C = bk (Q x1) 2 R C :=
  (rd_hostBack 1 (val_main_v0 (F := Ideal) x1) _ _ _ (by omega) hR hC).trans (bkQ x1 _ hR hC)
theorem v17_rd (hR : R < 4096) (hC : C < 1024) : rd (m := 4096) (n := 1024) (val_main_v17 (F := Ideal) x1) R C = bk (Q x1) 1 R C :=
  (rd_hostBack 2 (val_main_v0 (F := Ideal) x1) _ _ _ (by omega) hR hC).trans (bkQ x1 _ hR hC)
theorem v24_rd (hR : R < 4096) (hC : C < 1024) : rd (m := 4096) (n := 1024) (val_main_v24 (F := Ideal) x1) R C = bk (Q x1) 0 R C :=
  (rd_hostBack 3 (val_main_v0 (F := Ideal) x1) _ _ _ (by omega) hR hC).trans (bkQ x1 _ hR hC)

/-- The convolution. -/
theorem v30_rd (hR : R < 4096) (hC : C < 1024) : rd (m := 4096) (n := 1024) (val_main_v30 (F := Ideal) x1 x2) R C = conv4 (Q x1) (rd x2) R C := by
  unfold val_main_v30 val_main_v23 val_main_v16 val_main_v9 val_main_v15 val_main_v22 val_main_v29
  rw [rd_addf, rd_addf, rd_addf, rd_mulf, rd_mulf, rd_mulf, rd_mulf, v4_rd x1 hR hC, v10_rd x1 hR hC, v17_rd x1 hR hC, v24_rd x1 hR hC]
  exact (congrArg₂ (· + ·) (congrArg₂ (· + ·) (congrArg₂ (· + ·) (congrArg (_ * ·) (rd_hostTap 0 x2 _ _ _ _ hR hC))
    (congrArg (_ * ·) (rd_hostTap 1 x2 _ _ _ _ hR hC))) (congrArg (_ * ·) (rd_hostTap 2 x2 _ _ _ _ hR hC)))
    (congrArg (_ * ·) (rd_hostTap 3 x2 _ _ _ _ hR hC))).trans (conv4_host _ _ _ _)

/-- The activation, its heads one under another, and the sums of their squares. -/
theorem s_rd (hR : R < 4096) (hC : C < 1024) : rd (m := 4096) (n := 1024) (val_main_v31_2 (F := Ideal) x1 x2) R C = sgm (conv4 (Q x1) (rd x2) R C) :=
  (rd_hostSgm _ _ _ hR hC).trans (congrArg sgm (v30_rd x1 x2 hR hC))
theorem v32_rd {k : ℕ} (hR : R < 32768) (hk : k < 128) : rd (m := 32768) (n := 128) (val_main_v32 (F := Ideal) x1 x2) R k = hT (actS (Q x1) (rd x2)) R k := by
  refine (rd_cut (a := 4096) (b := 8) (n := 128) (val_main_v31_0 (F := Ideal) x1 x2) _ rfl hR hk).trans ?_
  unfold val_main_v31_0
  rw [rd_mulf, v30_rd x1 x2 (by omega) (by omega), s_rd x1 x2 (by omega) (by omega)]
  rfl
theorem v45_rd {k : ℕ} (hR : R < 32768) (hk : k < 128) : rd (m := 32768) (n := 128) (val_main_v45 (F := Ideal) x0) R k = hT (rd x0) R k :=
  rd_cut (a := 4096) (b := 8) (n := 128) x0 _ rfl hR hk
theorem v37_rd (hR : R < 32768) : rd (m := 32768) (n := 1) (val_main_v37 (F := Ideal) x1 x2) R 0 = wsq (hT (actS (Q x1) (rd x2))) 1 128 R :=
  rd_hostL2sq (val_main_v32 (F := Ideal) x1 x2) _ _ _ _ (fun k hk => v32_rd x1 x2 hR hk) hR
theorem v38_rd (hR : R < 32768) : rd (m := 32768) (n := 1) (val_main_v38 (F := Ideal) x1 x2) R 0 = rw' (hT (actS (Q x1) (rd x2))) 1 128 R := by
  unfold val_main_v38
  rw [rd_hostRsqrt _ hR Nat.one_pos, v37_rd x1 x2 hR]
  rfl

/-- The gradient through the heads' norms. -/
theorem v57_rd {k : ℕ} (hR : R < 32768) (hk : k < 128) : rd (m := 32768) (n := 128) (val_main_v57 (F := Ideal) x0 x1 x2) R k
    = hdx (hT (actS (Q x1) (rd x2))) (hT (rd x0)) 1 128 R k :=
  rd_hostL2Dx (val_main_v32 (F := Ideal) x1 x2) (val_main_v45 (F := Ideal) x0) (val_main_v38 (F := Ideal) x1 x2) (val_main_v37 (F := Ideal) x1 x2)
    _ _ _ _ _ _ _ _ (v38_rd x1 x2 hR) (v37_rd x1 x2 hR) (fun k hk => v32_rd x1 x2 hR hk) (fun k hk => v45_rd x0 hR hk) hR hk
theorem v58_rd (hR : R < 4096) (hC : C < 1024) : rd (m := 4096) (n := 1024) (val_main_v58 (F := Ideal) x0 x1 x2) R C
    = dsN (rd x0) (actS (Q x1) (rd x2)) R C :=
  (rd_uncut (a := 4096) (b := 8) (n := 128) (val_main_v57 (F := Ideal) x0 x1 x2) _ rfl hR hC).trans (v57_rd x0 x1 x2 (by omega) (by omega))

variable (hfin : ∀ R C, rd x0 R C ≠ ⊤ ∧ rd x0 R C ≠ ⊥)
include hfin

/-- The gradient of the convolution. -/
theorem v59_rd (hC : C < 1024) : rd (m := 4096) (n := 1024) (val_main_v59 (F := Ideal) x0 x1 x2) R C = dlN (rd x0) (Q x1) (rd x2) R C := by
  by_cases hR : R < 4096
  · have hs := s_rd x1 x2 hR hC
    have h1 : rd (m := 4096) (n := 1024) (val_main_call0_v6 (F := Ideal)) R C = 1 := (rd_bcastConst _ _ hR hC).trans c1_eq
    have hf := dsN_fin (rd x0) (actS (Q x1) (rd x2)) hfin R C
    unfold val_main_v59 val_main_call1_v1 val_main_call1_v2 val_main_call1_v0 val_main_v31_1 val_main_call0_v7
    rw [rd_addf, rd_mulf, rd_mulf, rd_mulf, rd_mulf, rd_subf _ _ hR hC, hs, h1, v30_rd x1 x2 hR hC, v58_rd x0 x1 x2 hR hC]
    exact dsl_eq _ hf.1 hf.2
  · rw [rd_out _ (by omega), dlN_out _ _ _ hC fun _ => rd_out _ (by omega)]

theorem v95_rd (hC : C < 1024) : rd (m := 4096) (n := 1024) (val_main_v95 (F := Ideal) x0 x1 x2) R C = dlN (rd x0) (Q x1) (rd x2) R C * rd x2 0 C := by
  by_cases hR : R < 4096
  · unfold val_main_v95
    rw [rd_mulf, v59_rd x0 x1 x2 hfin hC]
    exact congrArg (_ * ·) (rd_hostTap 0 x2 _ _ _ _ hR hC)
  · rw [rd_out _ (by omega), dlN_out _ _ _ hC fun _ => rd_out _ (by omega), zero_mul]
theorem v84_rd (hC : C < 1024) : rd (m := 4096) (n := 1024) (val_main_v84 (F := Ideal) x0 x1 x2) R C = dlN (rd x0) (Q x1) (rd x2) R C * rd x2 1 C := by
  by_cases hR : R < 4096
  · unfold val_main_v84
    rw [rd_mulf, v59_rd x0 x1 x2 hfin hC]
    exact congrArg (_ * ·) (rd_hostTap 1 x2 _ _ _ _ hR hC)
  · rw [rd_out _ (by omega), dlN_out _ _ _ hC fun _ => rd_out _ (by omega), zero_mul]
theorem v73_rd (hC : C < 1024) : rd (m := 4096) (n := 1024) (val_main_v73 (F := Ideal) x0 x1 x2) R C = dlN (rd x0) (Q x1) (rd x2) R C * rd x2 2 C := by
  by_cases hR : R < 4096
  · unfold val_main_v73
    rw [rd_mulf, v59_rd x0 x1 x2 hfin hC]
    exact congrArg (_ * ·) (rd_hostTap 2 x2 _ _ _ _ hR hC)
  · rw [rd_out _ (by omega), dlN_out _ _ _ hC fun _ => rd_out _ (by omega), zero_mul]
theorem v64_rd (hC : C < 1024) : rd (m := 4096) (n := 1024) (val_main_v64 (F := Ideal) x0 x1 x2) R C = dlN (rd x0) (Q x1) (rd x2) R C * rd x2 3 C := by
  by_cases hR : R < 4096
  · unfold val_main_v64
    rw [rd_mulf, v59_rd x0 x1 x2 hfin hC]
    exact congrArg (_ * ·) (rd_hostTap 3 x2 _ _ _ _ hR hC)
  · rw [rd_out _ (by omega), dlN_out _ _ _ hC fun _ => rd_out _ (by omega), zero_mul]

/-- The first result: the gradient of the columns. -/
theorem v104_rd (hR : R < 4096) (hC : C < 1024) :
    rd (m := 4096) (n := 1024) (val_main_v104 (F := Ideal) x0 x1 x2) R C = anti4 (dlN (rd x0) (Q x1) (rd x2)) (rd x2) R C := by
  unfold val_main_v104
  rw [rd_truncf]
  have z := Ideal.ofBits_zero_f32
  refine (rd_hostAnti4 (val_main_v64 (F := Ideal) x0 x1 x2) (val_main_v73 (F := Ideal) x0 x1 x2) (val_main_v84 (F := Ideal) x0 x1 x2) (val_main_v95 (F := Ideal) x0 x1 x2)
    _ _ _ _ _ _ _ _ _ _ z z z z rfl hR hC).trans ?_
  rw [v64_rd x0 x1 x2 hfin hC, v73_rd x0 x1 x2 hfin hC, v84_rd x0 x1 x2 hfin hC, v95_rd x0 x1 x2 hfin hC]
  exact anti4_host _ _ _ _

/-- The second result: the gradient of the taps. -/
theorem v105_rd (hR : R < 8) (hC : C < 1024) :
    rd (m := 8) (n := 1024) (val_main_v105 (F := Ideal) x0 x1 x2) R C = taps4 (dlN (rd x0) (Q x1) (rd x2)) (Q x1) 4096 R C := by
  have z : ∀ i, constant (F := Ideal) ⟨0, ![]⟩ .f32 0x00000000#32 i = (0 : EReal) := fun _ => Ideal.ofBits_zero_f32
  have s0 : rd (m := 1) (n := 1024) (val_main_v97 (F := Ideal) x0 x1 x2) 0 C
      = ∑ R ∈ Finset.range 4096, dlN (rd x0) (Q x1) (rd x2) R C * bk (Q x1) (3 - 0) R C :=
    rd_hostRowSum (val_main_v91 (F := Ideal) x0 x1 x2) _ _ _ _ _ _ _ _ (z _) (z _) (fun R hR => by
      unfold val_main_v91; rw [rd_mulf, v4_rd x1 hR hC, v59_rd x0 x1 x2 hfin hC, mul_comm]) hC
  have s1 : rd (m := 1) (n := 1024) (val_main_v86 (F := Ideal) x0 x1 x2) 0 C
      = ∑ R ∈ Finset.range 4096, dlN (rd x0) (Q x1) (rd x2) R C * bk (Q x1) (3 - 1) R C :=
    rd_hostRowSum (val_main_v80 (F := Ideal) x0 x1 x2) _ _ _ _ _ _ _ _ (z _) (z _) (fun R hR => by
      unfold val_main_v80; rw [rd_mulf, v10_rd x1 hR hC, v59_rd x0 x1 x2 hfin hC, mul_comm]) hC
  have s2 : rd (m := 1) (n := 1024) (val_main_v75 (F := Ideal) x0 x1 x2) 0 C
      = ∑ R ∈ Finset.range 4096, dlN (rd x0) (Q x1) (rd x2) R C * bk (Q x1) (3 - 2) R C :=
    rd_hostRowSum (val_main_v69 (F := Ideal) x0 x1 x2) _ _ _ _ _ _ _ _ (z _) (z _) (fun R hR => by
      unfold val_main_v69; rw [rd_mulf, v17_rd x1 hR hC, v59_rd x0 x1 x2 hfin hC, mul_comm]) hC
  have s3 : rd (m := 1) (n := 1024) (val_main_v66 (F := Ideal) x0 x1 x2) 0 C
      = ∑ R ∈ Finset.range 4096, dlN (rd x0) (Q x1) (rd x2) R C * bk (Q x1) (3 - 3) R C :=
    rd_hostRowSum (val_main_v60 (F := Ideal) x0 x1 x2) _ _ _ _ _ _ _ _ (z _) (z _) (fun R hR => by
      unfold val_main_v60; rw [rd_mulf, v24_rd x1 hR hC, v59_rd x0 x1 x2 hfin hC, mul_comm]) hC
  have hp : val_main_call2_v0 (F := Ideal) (Shape.Idx.first Nat.one_pos) = (0 : EReal) := by
    show (((0#32 : BitVec 32).toInt : ℝ) : EReal) = 0
    simp
  exact rd_hostRows4 (fun k => ∑ R ∈ Finset.range 4096, dlN (rd x0) (Q x1) (rd x2) R C * bk (Q x1) (3 - k) R C)
    (val_main_v97 (F := Ideal) x0 x1 x2) (val_main_v86 (F := Ideal) x0 x1 x2) (val_main_v75 (F := Ideal) x0 x1 x2) (val_main_v66 (F := Ideal) x0 x1 x2)
    _ _ _ _ _ _ _ _ _ _ _ (z _) (z _) (z _) (z _) hp s0 s1 s2 s3 hR

end Reference

variable (m : (ℓ : Loc nD τ sig) → Buf (Elt Ideal) ℓ) (c : Dev nD) (ρ : Dev nD → PrngReg)

theorem index7 (t : Fin cfg0.N) : win0_7.index t 0 = t.val % 4 ∧ win0_7.index t 1 = t.val / 4 :=
  (by decide +kernel : ∀ t : Fin grid0.N, win0_7.index t 0 = t.val % 4 ∧ win0_7.index t 1 = t.val / 4) t

/-- Window 7's array after the run. -/
theorem final7 : (dats m 0 c).arrAt 7 cfg0.N = tab (m := 4096) (n := 1024) (anti4 (dlN (X0 m c) (P m c) (X2 m c)) (X2 m c)) := by
  refine (dats m 0 c).arrAt_eq_of_cover 7 _ (fun t hf => ?_) fun i => ?_
  · rw [flushed7]
    funext j
    rw [View.read_apply]
    show ((outsAt0 m c t.val t.isLt).1) j = (anti4 (dlN (X0 m c) (P m c) (X2 m c)) (X2 m c)) (win0_7.index t 0 * 1024 + 1 * (j 0).val) (win0_7.index t 1 * 512 + 1 * (j 1).val)
    rw [eq_rd (m := 1024) (n := 512) ((outsAt0 m c t.val t.isLt).1) j]
    rw [outs7_rd m c t (j 0).isLt (j 1).isLt]
    have hi := index7 t
    rw [hi.1, hi.2]
    congr 1 <;> omega
  · have h0 : (i 0).val < 4096 := (i 0).isLt
    have h1 : (i 1).val < 1024 := (i 1).isLt
    have hN : cfg0.N = 8 := by decide +kernel
    let t : Fin cfg0.N := ⟨4 * ((i 1).val / 512) + (i 0).val / 1024, by omega⟩
    refine ⟨t, flush0_7 _, ?_⟩
    show i ∈ ((View.whole main_v0_0).slice (win0_7.rect t)).set
    rw [View.set_slice_whole, Rect.mem_set_unit]
    have hi := index7 t
    have hv : t.val = 4 * ((i 1).val / 512) + (i 0).val / 1024 := rfl
    intro a
    match a with
    | ⟨0, _⟩ => show win0_7.index t 0 * 1024 ≤ (i 0).val ∧ (i 0).val < win0_7.index t 0 * 1024 + 1024
                rw [hi.1]; omega
    | ⟨1, _⟩ => show win0_7.index t 1 * 512 ≤ (i 1).val ∧ (i 1).val < win0_7.index t 1 * 512 + 512
                rw [hi.2]; omega

theorem index8 (t : Fin cfg0.N) : win0_8.index t 0 = 0 ∧ win0_8.index t 1 = t.val / 4 :=
  (by decide +kernel : ∀ t : Fin grid0.N, win0_8.index t 0 = 0 ∧ win0_8.index t 1 = t.val / 4) t

/-- Window 8's array after the run. -/
theorem final8 : (dats m 0 c).arrAt 8 cfg0.N = tab (m := 8) (n := 1024) (taps4 (dlN (X0 m c) (P m c) (X2 m c)) (P m c) 4096) := by
  refine (dats m 0 c).arrAt_eq_of_cover 8 _ (fun t hf => ?_) fun i => ?_
  · rw [flushed8]
    funext j
    rw [View.read_apply]
    show ((outsAt0 m c t.val t.isLt).2) j = (taps4 (dlN (X0 m c) (P m c) (X2 m c)) (P m c) 4096) (win0_8.index t 0 * 8 + 1 * (j 0).val) (win0_8.index t 1 * 512 + 1 * (j 1).val)
    rw [eq_rd (m := 8) (n := 512) ((outsAt0 m c t.val t.isLt).2) j]
    rw [outs8_rd m c t.val t.isLt (j 0).isLt (j 1).isLt, (flush0_8 t).mp hf]
    have hi := index8 t
    rw [hi.1, hi.2]
    congr 1 <;> omega
  · have h0 : (i 0).val < 8 := (i 0).isLt
    have h1 : (i 1).val < 1024 := (i 1).isLt
    have hN : cfg0.N = 8 := by decide +kernel
    let t : Fin cfg0.N := ⟨4 * ((i 1).val / 512) + 3, by omega⟩
    refine ⟨t, (flush0_8 _).mpr (by show (4 * ((i 1).val / 512) + 3) % 4 = 3; omega), ?_⟩
    show i ∈ ((View.whole main_v0_1).slice (win0_8.rect t)).set
    rw [View.set_slice_whole, Rect.mem_set_unit]
    have hi := index8 t
    have hv : t.val = 4 * ((i 1).val / 512) + 3 := rfl
    intro a
    match a with
    | ⟨0, _⟩ => show win0_8.index t 0 * 8 ≤ (i 0).val ∧ (i 0).val < win0_8.index t 0 * 8 + 8
                rw [hi.1]; omega
    | ⟨1, _⟩ => show win0_8.index t 1 * 512 ≤ (i 1).val ∧ (i 1).val < win0_8.index t 1 * 512 + 512
                rw [hi.2]; omega

/-- The kernel's run: the two arrays in closed form, the arguments unchanged. -/
theorem run : θ_run defs (onTc (τ := τ) (main (F := Ideal))) ⟨m, fun _ => 0, ρ⟩ fun r => ∀ c : Dev nD,
      r.2.mem ((c : Thread nD τ).loc main_v0_0) = tab (m := 4096) (n := 1024) (anti4 (dlN (X0 m c) (P m c) (X2 m c)) (X2 m c))
      ∧ r.2.mem ((c : Thread nD τ).loc main_v0_1) = tab (m := 8) (n := 1024) (taps4 (dlN (X0 m c) (P m c) (X2 m c)) (P m c) 4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final7 m c), (h c).2.1.trans (final8 m c), (h c).2.2⟩) (run_blocks m ρ)

/-- With a finite incoming gradient, the kernel and the gradient of the columns' norm, activation and convolution end with equal arrays. -/
theorem algebraic : Cert.algebraic_Kernel34Ideal_Reference34Ideal_pre_finite34 := by
  intro m ρ m' ρ' hpre hag
  have hfin (c : Dev nD) (R C : ℕ) : rd (m := 4096) (n := 1024) (m (c.tc.loc main_arg0)) R C ≠ ⊤ ∧ rd (m := 4096) (n := 1024) (m (c.tc.loc main_arg0)) R C ≠ ⊥ := by
    have h := hpre c
    unfold Cert.Pre_finite34.fn at h
    exact finite_of_all (m := 4096) (n := 1024) _ _ _ _ h R C
  refine ⟨_, _, run m ρ, (θ_run _ _ _).mono (fun _ h c => ⟨(h c).1.trans ?_, (h c).2.1.trans ?_, (h c).2.2⟩) (Cert.Reference34Ideal.Value.run m' ρ')⟩
  · refine (Cert.Reference34Ideal.Read.val_main_v104_eq _).trans ?_
    show Cert.Reference34Ideal.Read.val_main_v104 (F := Ideal) (m' (c.tc.loc Cert.Reference34Ideal.main_arg0)) (m' (c.tc.loc Cert.Reference34Ideal.main_arg1)) (m' (c.tc.loc Cert.Reference34Ideal.main_arg2)) = _
    rw [(hag c).1, (hag c).2.1, (hag c).2.2]
    exact (eq_tab fun r k hr hk => v104_rd _ _ _ (hfin c) hr hk)
  · refine (Cert.Reference34Ideal.Read.val_main_v105_eq _).trans ?_
    show Cert.Reference34Ideal.Read.val_main_v105 (F := Ideal) (m' (c.tc.loc Cert.Reference34Ideal.main_arg0)) (m' (c.tc.loc Cert.Reference34Ideal.main_arg1)) (m' (c.tc.loc Cert.Reference34Ideal.main_arg2)) = _
    rw [(hag c).1, (hag c).2.1, (hag c).2.2]
    exact (eq_tab fun r k hr hk => v105_rd _ _ _ (hfin c) hr hk)

/-- The gradient's run leaves the arguments as they were; it uses no semaphore. -/
theorem frame_ref : Cert.quiescent_Reference34Ideal := fun m ρ _ =>
  (θ_run Cert.Reference34Ideal.defs _ _).mono (fun r h => ⟨fun c => (h c).2.2, Idealize.ShloMosaic.sem_eq_zero_of_no_sems (by decide) r.2⟩)
    (Cert.Reference34Ideal.Value.run (F := Ideal) m ρ)

end Cert.Q34

end
-- ==== Proof.Q42.lean ====
module

public import proofs.«01_k».proof.Proof.Conv
public import proofs.«01_k».proof.Proof.Gen.Kernel42Ideal.Value
public import proofs.«01_k».proof.Proof.Gen.Reference42Ideal.Run
public import proofs.«01_k».proof.Proof.Gen.Reference42Ideal.Read
public import proofs.«01_k».proof.Defs

@[expose] public section

set_option maxRecDepth 16384

noncomputable section

namespace Cert.Q42

open Cert.Kernel42Ideal Cert.Kernel42Ideal.Gen Cert.Kernel42Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 4096) (n := 7168) (m (c.tc.loc main_arg0))
abbrev X1 : ℕ → ℕ → EReal := rd (m := 3) (n := 1024) (m (c.tc.loc main_arg1))
abbrev X2 : ℕ → ℕ → EReal := rd (m := 4096) (n := 2048) (m (c.tc.loc main_arg2))

/-- The grid's second coordinate is the row tile. -/
theorem gi_val : (grid0.coords t 1).val = t.val % 4 :=
  (by decide +kernel : ∀ t : Fin grid0.N, (grid0.coords t 1).val = t.val % 4) t

theorem t_lt : t.val < 8 := lt_of_lt_of_eq t.isLt (by decide +kernel)

/-- Zeros at one row tile, the given rows at the others. -/
theorem edge (k : ℕ) (hk : k < 2 ^ 32) (x : FVec Ideal S8x512 .f32) (r q : ℕ) :
    rd (m := 8) (n := 512) (Scalar.select (Scalar.cmpi .eq (BitVec.ofNat 32 (grid0.coords t 1).val) (BitVec.ofNat 32 k))
      (broadcast S8x512 (Scalar.ofBits (F := Ideal) .f32 0x00000000#32)) x) r q = if t.val % 4 = k then 0 else rd (m := 8) (n := 512) x r q := by
  rw [gi_val]; exact rd_edge x (by omega) hk r q

/-- The eight rows above the tile, window 0. -/
theorem blk0 {r k : ℕ} (hr : r < 8) (hk : k < 512) :
    rd (m := 8) (n := 512) (iblk m c 0 t) r k = X0 m c ((t.val % 4 * 128 - 1) * 8 + r) (512 * (t.val / 4) + k) := by
  have e := (by decide +kernel : ∀ t : Fin grid0.N, win0_0.index t 0 = t.val % 4 * 128 - 1 ∧ win0_0.index t 1 = t.val / 4) t
  rw [rd_in _ hr hk]
  unfold iblk
  rw [View.read_apply]
  show V m c main_arg0 _ = _
  rw [V_main_arg0]
  refine (rd_of_val (m := 4096) (n := 7168) _ _ ?_ ?_).symm
  · show win0_0.index t 0 * 8 + 1 * r = _; omega
  · show win0_0.index t 1 * 512 + 1 * k = _; omega

/-- The tile's rows, window 1. -/
theorem blk1 {r k : ℕ} (hr : r < 1024) (hk : k < 512) :
    rd (m := 1024) (n := 512) (iblk m c 1 t) r k = X0 m c (1024 * (t.val % 4) + r) (512 * (t.val / 4) + k) := by
  have e := (by decide +kernel : ∀ t : Fin grid0.N, win0_1.index t 0 = t.val % 4 ∧ win0_1.index t 1 = t.val / 4) t
  rw [rd_in _ hr hk]
  unfold iblk
  rw [View.read_apply]
  show V m c main_arg0 _ = _
  rw [V_main_arg0]
  refine (rd_of_val (m := 4096) (n := 7168) _ _ ?_ ?_).symm
  · show win0_1.index t 0 * 1024 + 1 * r = _; omega
  · show win0_1.index t 1 * 512 + 1 * k = _; omega

/-- The eight rows below the tile, window 2. -/
theorem blk2 {r k : ℕ} (hr : r < 8) (hk : k < 512) :
    rd (m := 8) (n := 512) (iblk m c 2 t) r k = X0 m c (min ((t.val % 4 + 1) * 128) 511 * 8 + r) (512 * (t.val / 4) + k) := by
  have e := (by decide +kernel : ∀ t : Fin grid0.N, win0_2.index t 0 = min ((t.val % 4 + 1) * 128) 511 ∧ win0_2.index t 1 = t.val / 4) t
  rw [rd_in _ hr hk]
  unfold iblk
  rw [View.read_apply]
  show V m c main_arg0 _ = _
  rw [V_main_arg0]
  refine (rd_of_val (m := 4096) (n := 7168) _ _ ?_ ?_).symm
  · show win0_2.index t 0 * 8 + 1 * r = _; omega
  · show win0_2.index t 1 * 512 + 1 * k = _; omega

/-- The gate's rows, window 3. -/
theorem blk3 {r k : ℕ} (hr : r < 1024) (hk : k < 512) :
    rd (m := 1024) (n := 512) (iblk m c 3 t) r k = X0 m c (1024 * (t.val % 4) + r) (1024 + (512 * (t.val / 4) + k)) := by
  have e := (by decide +kernel : ∀ t : Fin grid0.N, win0_3.index t 0 = t.val % 4 ∧ win0_3.index t 1 = t.val / 4 + 2) t
  rw [rd_in _ hr hk]
  unfold iblk
  rw [View.read_apply]
  show V m c main_arg0 _ = _
  rw [V_main_arg0]
  refine (rd_of_val (m := 4096) (n := 7168) _ _ ?_ ?_).symm
  · show win0_3.index t 0 * 1024 + 1 * r = _; omega
  · show win0_3.index t 1 * 512 + 1 * k = _; omega

/-- The eight rows above the tile, window 4. -/
theorem blk4 {r k : ℕ} (hr : r < 8) (hk : k < 512) :
    rd (m := 8) (n := 512) (iblk m c 4 t) r k = X0 m c ((t.val % 4 * 128 - 1) * 8 + r) (2048 + (512 * (t.val / 4) + k)) := by
  have e := (by decide +kernel : ∀ t : Fin grid0.N, win0_4.index t 0 = t.val % 4 * 128 - 1 ∧ win0_4.index t 1 = t.val / 4 + 4) t
  rw [rd_in _ hr hk]
  unfold iblk
  rw [View.read_apply]
  show V m c main_arg0 _ = _
  rw [V_main_arg0]
  refine (rd_of_val (m := 4096) (n := 7168) _ _ ?_ ?_).symm
  · show win0_4.index t 0 * 8 + 1 * r = _; omega
  · show win0_4.index t 1 * 512 + 1 * k = _; omega

/-- The tile's rows, window 5. -/
theorem blk5 {r k : ℕ} (hr : r < 1024) (hk : k < 512) :
    rd (m := 1024) (n := 512) (iblk m c 5 t) r k = X0 m c (1024 * (t.val % 4) + r) (2048 + (512 * (t.val / 4) + k)) := by
  have e := (by decide +kernel : ∀ t : Fin grid0.N, win0_5.index t 0 = t.val % 4 ∧ win0_5.index t 1 = t.val / 4 + 4) t
  rw [rd_in _ hr hk]
  unfold iblk
  rw [View.read_apply]
  show V m c main_arg0 _ = _
  rw [V_main_arg0]
  refine (rd_of_val (m := 4096) (n := 7168) _ _ ?_ ?_).symm
  · show win0_5.index t 0 * 1024 + 1 * r = _; omega
  · show win0_5.index t 1 * 512 + 1 * k = _; omega

/-- The eight rows below the tile, window 6. -/
theorem blk6 {r k : ℕ} (hr : r < 8) (hk : k < 512) :
    rd (m := 8) (n := 512) (iblk m c 6 t) r k = X0 m c (min ((t.val % 4 + 1) * 128) 511 * 8 + r) (2048 + (512 * (t.val / 4) + k)) := by
  have e := (by decide +kernel : ∀ t : Fin grid0.N, win0_6.index t 0 = min ((t.val % 4 + 1) * 128) 511 ∧ win0_6.index t 1 = t.val / 4 + 4) t
  rw [rd_in _ hr hk]
  unfold iblk
  rw [View.read_apply]
  show V m c main_arg0 _ = _
  rw [V_main_arg0]
  refine (rd_of_val (m := 4096) (n := 7168) _ _ ?_ ?_).symm
  · show win0_6.index t 0 * 8 + 1 * r = _; omega
  · show win0_6.index t 1 * 512 + 1 * k = _; omega

/-- The taps at the tile's columns, window 7. -/
theorem blk7 {r k : ℕ} (hr : r < 3) (hk : k < 512) :
    rd (m := 3) (n := 512) (iblk m c 7 t) r k = X1 m c (r) (512 * (t.val / 4) + k) := by
  have e := (by decide +kernel : ∀ t : Fin grid0.N, win0_7.index t 0 = 0 ∧ win0_7.index t 1 = t.val / 4) t
  rw [rd_in _ hr hk]
  unfold iblk
  rw [View.read_apply]
  show V m c main_arg1 _ = _
  rw [V_main_arg1]
  refine (rd_of_val (m := 3) (n := 1024) _ _ ?_ ?_).symm
  · show win0_7.index t 0 * 3 + 1 * r = _; omega
  · show win0_7.index t 1 * 512 + 1 * k = _; omega

/-- The convolved product: the third 1024 columns times the first. -/
def prN (P : ℕ → ℕ → EReal) (R C : ℕ) : EReal := P R (2048 + C) * P R C

/-- Zero above the first row, a product is the product of its factors so extended. -/
theorem halo_mul (A B : ℕ → ℕ → EReal) (R C : ℕ) : halo A R C * halo B R C = halo (fun R C => A R C * B R C) R C := by
  unfold halo
  split
  · rfl
  · exact zero_mul _

/-- The product's tile with eight rows on each side is the product's rows, zero above the first. -/
theorem pE_rd {r k : ℕ} (hr : r < 1040) (hk : k < 512) :
    rd (m := 1040) (n := 512) (k0_pay2 (grid0.coords t) (iblk m c 0 t) (iblk m c 1 t) (iblk m c 2 t) (iblk m c 4 t) (iblk m c 5 t) (iblk m c 6 t)) r k
      = halo (prN (X0 m c)) (1024 * (t.val % 4) + r) (512 * (t.val / 4) + k) := by
  unfold k0_pay2
  dsimp only
  refine (rd_mulf _ _ _ _).trans (Eq.trans (congrArg₂ (· * ·) (?_ : _ = halo (fun R C => X0 m c R (2048 + C)) (1024 * (t.val % 4) + r) (512 * (t.val / 4) + k))
    (?_ : _ = halo (X0 m c) (1024 * (t.val % 4) + r) (512 * (t.val / 4) + k))) (halo_mul _ _ _ _))
  · refine rd_tile (tb := 1024) (nI := 4) (fun R C => X0 m c R (2048 + C)) (iblk m c 4 t) (iblk m c 6 t) (iblk m c 5 t) _ _ _ (by omega) rfl
      (by omega) (fun R C h => rd_out _ (by omega)) (edge t 0 (by omega) _) (edge t 3 (by omega) _) ?_ ?_ ?_ hr hk
    · intro h r k hr hk; rw [blk4 m c t hr hk]; congr 1; omega
    · intro r k hr hk; exact blk5 m c t hr hk
    · intro h r k hr hk; rw [blk6 m c t hr hk]; congr 1; omega
  · refine rd_tile (tb := 1024) (nI := 4) (X0 m c) (iblk m c 0 t) (iblk m c 2 t) (iblk m c 1 t) _ _ _ (by omega) rfl
      (by omega) (fun R C h => rd_out _ (by omega)) (edge t 0 (by omega) _) (edge t 3 (by omega) _) ?_ ?_ ?_ hr hk
    · intro h r k hr hk; rw [blk0 m c t hr hk]; congr 1; omega
    · intro r k hr hk; exact blk1 m c t hr hk
    · intro h r k hr hk; rw [blk2 m c t hr hk]; congr 1; omega

/-- The second 1024 columns times the convolution of the product. -/
def gaN (P W : ℕ → ℕ → EReal) (R C : ℕ) : EReal := P R (1024 + C) * conv3 (prN P) W R C

/-- What the body leaves at a point. -/
theorem outs8 : outsAt0 m c t = k0_pay1 (iblk m c 3 t) (iblk m c 7 t)
    (k0_pay3 (grid0.coords t) (iblk m c 0 t) (iblk m c 1 t) (iblk m c 2 t) (iblk m c 4 t) (iblk m c 5 t) (iblk m c 6 t) (iblk m c 7 t))
    (k0_pay4 (grid0.coords t) (iblk m c 0 t) (iblk m c 1 t) (iblk m c 2 t) (iblk m c 4 t) (iblk m c 5 t) (iblk m c 6 t)) := by
  unfold outsAt0 out0_A_8
  rw [View.read_writes_eq_canon]; swap
  · intro y; apply cover0_A_8
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
    (hs0_5 t).read_unread, (hs0_6 t).read_unread, (hs0_7 t).read_unread, View.ld_unit_zero (S := S8x512) hz2, View.ld_unit_zero (S := S1024x512) hz2,
    View.ld_unit_zero (S := S3x512) hz2]

theorem outs8_rd {r k : ℕ} (hr : r < 1024) (hk : k < 512) :
    rd (m := 1024) (n := 512) (outsAt0 m c t) r k = gaN (X0 m c) (X1 m c) (1024 * (t.val % 4) + r) (512 * (t.val / 4) + k) := by
  rw [outs8]
  unfold k0_pay1 k0_pay3 k0_pay4
  dsimp only
  rw [rd_truncf, rd_mulf, rd_own _ _ hr hk, blk3 m c t hr hk]
  exact congrArg (_ * ·) (rd_tileConv3 (prN (X0 m c)) (X1 m c) (k0_pay2 (grid0.coords t) (iblk m c 0 t) (iblk m c 1 t) (iblk m c 2 t) (iblk m c 4 t) (iblk m c 5 t) (iblk m c 6 t)) (iblk m c 7 t)
    slices_S3x512_o0_0_S1x512 slices_S3x512_o1_0_S1x512 slices_S3x512_o2_0_S1x512 broadcasts_S1x512_S1040x512 broadcasts_S1x512_S1040x512
    broadcasts_S1x512_S1040x512 rotates_S1040x512_d0 rotates_S1040x512_d0 (fun _ _ => pE_rd m c t)
    (fun _ _ => blk7 m c t) (show 8 + r < 1040 by omega) hk)

theorem V_v0 : V m c main_v0 = m (c.tc.loc main_arg2) := by
  show StableHlo.after hostOps0 _ _ = _
  after_results_simp
  rfl

abbrev yT : FVec Ideal ⟨2, ![4096, 2048]⟩ .bf16 := tab fun r k => if k < 1024 then gaN (X0 m c) (X1 m c) r k else X2 m c r k

/-- The array after the run: the left half by the kernel, the right half as it was. -/
theorem final8 : (dats m 0 c).arrAt 8 cfg0.N = yT m c := by
  have hi (t : Fin cfg0.N) : win0_8.index t 0 = t.val % 4 ∧ win0_8.index t 1 = t.val / 4 :=
    (by decide +kernel : ∀ t : Fin grid0.N, win0_8.index t 0 = t.val % 4 ∧ win0_8.index t 1 = t.val / 4) t
  refine eq_tab fun r k hr hk => ?_
  split
  · rename_i h
    have hN : cfg0.N = 8 := by decide +kernel
    let t : Fin cfg0.N := ⟨4 * (k / 512) + r / 1024, by omega⟩
    have hv : t.val = 4 * (k / 512) + r / 1024 := rfl
    have h1 : r % 1024 < 1024 := by omega
    have h2 : k % 512 < 512 := by omega
    have e := congrFun (blocks8 m c t (flush0_8 t)) (ValueIdx.ix2 (⟨r % 1024, h1⟩ : Fin 1024) (⟨k % 512, h2⟩ : Fin 512))
    rw [View.read_apply, flushed8] at e
    refine (rd_of_val (m := 4096) (n := 2048) _ _ ?_ ?_).trans (e.trans ((rd_in (m := 1024) (n := 512) (outsAt0 m c t) h1 h2).symm.trans ?_))
    · show win0_8.index t 0 * 1024 + 1 * (r % 1024) = _; rw [(hi t).1]; omega
    · show win0_8.index t 1 * 512 + 1 * (k % 512) = _; rw [(hi t).2]; omega
    · rw [outs8_rd m c t h1 h2]
      congr 1 <;> omega
  · rw [rd_in _ hr hk, entry8 m c _ fun t _ hm => ?_]
    · exact (congrFun (V_v0 m c) _).trans (rd_in (m := 4096) (n := 2048) _ hr hk).symm
    · change _ ∈ ((View.whole main_v0).slice (win0_8.rect t)).set at hm
      rw [View.set_slice_whole, Rect.mem_set_unit] at hm
      have h1 : k < win0_8.index t 1 * 512 + 512 := (hm 1).2
      have := t_lt t
      rw [(hi t).2] at h1
      omega

/-- The kernel's run: the result in closed form, the arguments unchanged. -/
theorem run : θ_run defs (onTc (τ := τ) (main (F := Ideal))) ⟨m, fun _ => 0, ρ⟩ fun r => ∀ c : Dev nD,
      r.2.mem ((c : Thread nD τ).loc main_v0) = yT m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final8 m c), (h c).2⟩) (run_blocks m ρ)

section Reference
open Cert.Reference42Ideal.Read
variable (x0 : FVec Ideal ⟨2, ![4096, 7168]⟩ .f32) (x1 : FVec Ideal ⟨2, ![3, 1024]⟩ .f32) (x2 : FVec Ideal ⟨2, ![4096, 2048]⟩ .bf16) {r k : ℕ}

theorem v3_rd (hr : r < 4096) (hk : k < 1024) : rd (m := 4096) (n := 1024) (val_main_v3 (F := Ideal) x0) r k = prN (rd x0) r k := by
  unfold val_main_v3 val_main_v2 val_main_v0
  rw [rd_mulf, rd_slice _ _ _ hr hk, rd_slice _ _ _ hr hk]
  show rd x0 (0 + r) (2048 + k) * rd x0 (0 + r) (0 + k) = _
  rw [Nat.zero_add, Nat.zero_add]
  rfl

theorem bk_v3 (s : ℕ) (hr : r < 4096) (hk : k < 1024) : bk (rd (m := 4096) (n := 1024) (val_main_v3 (F := Ideal) x0)) s r k = bk (prN (rd x0)) s r k := by
  unfold bk
  split
  · exact v3_rd x0 (by omega) hk
  · rfl

/-- The convolution of the product. -/
theorem v25_rd (hr : r < 4096) (hk : k < 1024) : rd (m := 4096) (n := 1024) (val_main_v25 (F := Ideal) x0 x1) r k = conv3 (prN (rd x0)) (rd x1) r k := by
  unfold val_main_v25 val_main_v18 val_main_v11 val_main_v17 val_main_v24
  rw [rd_addf, rd_addf, rd_mulf, rd_mulf, rd_mulf]
  exact (congrArg₂ (· + ·) (congrArg₂ (· + ·)
      (congrArg₂ (· * ·) ((rd_hostBack 0 (val_main_v3 (F := Ideal) x0) _ _ _ (by omega) hr hk).trans (bk_v3 x0 _ hr hk)) (rd_hostTap 0 x1 _ _ _ _ hr hk))
      (congrArg₂ (· * ·) ((rd_hostBack 1 (val_main_v3 (F := Ideal) x0) _ _ _ (by omega) hr hk).trans (bk_v3 x0 _ hr hk)) (rd_hostTap 1 x1 _ _ _ _ hr hk)))
      (congrArg₂ (· * ·) ((rd_hostBack 2 (val_main_v3 (F := Ideal) x0) _ _ _ (by omega) hr hk).trans (bk_v3 x0 _ hr hk)) (rd_hostTap 2 x1 _ _ _ _ hr hk))).trans
    (conv3_host _ _ _ _)

/-- The reference's result at an entry. -/
theorem v29_rd (hr : r < 4096) (hk : k < 2048) : rd (m := 4096) (n := 2048) (val_main_v29 (F := Ideal) x0 x1 x2) r k
    = if k < 1024 then gaN (rd x0) (rd x1) r k else rd x2 r k := by
  unfold val_main_v29
  split
  · rename_i h
    refine (rd_concatCols_left _ _ _ hr h).trans ?_
    unfold val_main_v27 val_main_v26 val_main_v1
    rw [rd_truncf, rd_mulf, v25_rd x0 x1 hr h, rd_slice _ _ _ hr h]
    show rd x0 (0 + r) (1024 + k) * _ = _
    rw [Nat.zero_add]
    rfl
  · obtain ⟨d, rfl⟩ : ∃ d, k = 1024 + d := ⟨k - 1024, by omega⟩
    refine (rd_concatCols_right _ _ _ hr (by omega : d < 1024)).trans ((rd_slice (m := 4096) (n := 2048) ![0, 1024] x2 _ hr (by omega)).trans ?_)
    show rd x2 (0 + r) (1024 + d) = _
    rw [Nat.zero_add]

end Reference

/-- The kernel and the gated convolution end with equal arrays. -/
theorem algebraic : Cert.algebraic_Kernel42Ideal_Reference42Ideal := by
  intro m ρ m' ρ' _ hag
  refine ⟨_, run m ρ, (θ_run _ _ _).mono (fun _ h c => ⟨(h c).1.trans ?_, (h c).2⟩) (Cert.Reference42Ideal.Value.run m' ρ')⟩
  refine (Cert.Reference42Ideal.Read.val_main_v29_eq _ _ _).trans ?_
  rw [(hag c).1, (hag c).2.1, (hag c).2.2]
  exact eq_tab fun r k hr hk => v29_rd _ _ _ hr hk

/-- The reference's run leaves the arguments as they were; it uses no semaphore. -/
theorem frame_ref : Cert.quiescent_Reference42Ideal := fun m ρ _ =>
  (θ_run Cert.Reference42Ideal.defs _ _).mono (fun r h => ⟨fun c => (h c).2, Idealize.ShloMosaic.sem_eq_zero_of_no_sems (by decide) r.2⟩)
    (Cert.Reference42Ideal.Value.run (F := Ideal) m ρ)

end Cert.Q42

end
-- ==== Proof.Q43.lean ====
module

public import proofs.«01_k».proof.Proof.Heads
public import proofs.«01_k».proof.Proof.Gen.Kernel43Ideal.Value
public import proofs.«01_k».proof.Proof.Gen.Reference43Ideal.Run
public import proofs.«01_k».proof.Proof.Gen.Reference43Ideal.Read
public import proofs.«01_k».proof.Defs
public import Idealize.ShloMosaic.Lib.Pipeline.ReadBack

@[expose] public section

set_option maxRecDepth 16384

noncomputable section

namespace Cert.Q43

open Cert.Kernel43Ideal Cert.Kernel43Ideal.Gen Cert.Kernel43Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The arguments read at natural coordinates. -/
abbrev X0 : ℕ → ℕ → EReal := rd (m := 2048) (n := 7168) (m (c.tc.loc main_arg0))
abbrev X1 : ℕ → ℕ → EReal := rd (m := 2048) (n := 128) (m (c.tc.loc main_arg1))

/-- The small columns after the main ones. -/
def J (A B : ℕ → ℕ → EReal) (R C : ℕ) : EReal := if C < 7168 then A R C else B R (C - 7168)

theorem blk0 {r k : ℕ} (hr : r < 256) (hk : k < 7168) : rd (m := 256) (n := 7168) (iblk m c 0 t) r k = X0 m c (256 * t.val + r) k := by
  have e := (by decide +kernel : ∀ t : Fin grid0.N, win0_0.index t 0 = t.val ∧ win0_0.index t 1 = 0) t
  rw [rd_in _ hr hk]
  unfold iblk
  rw [View.read_apply]
  show V m c main_arg0 _ = _
  rw [V_main_arg0]
  refine (rd_of_val (m := 2048) (n := 7168) _ _ ?_ ?_).symm
  · show win0_0.index t 0 * 256 + 1 * r = _; omega
  · show win0_0.index t 1 * 7168 + 1 * k = _; omega

theorem blk1 {r k : ℕ} (hr : r < 256) (hk : k < 128) : rd (m := 256) (n := 128) (iblk m c 1 t) r k = X1 m c (256 * t.val + r) k := by
  have e := (by decide +kernel : ∀ t : Fin grid0.N, win0_1.index t 0 = t.val ∧ win0_1.index t 1 = 0) t
  rw [rd_in _ hr hk]
  unfold iblk
  rw [View.read_apply]
  show V m c main_arg1 _ = _
  rw [V_main_arg1]
  refine (rd_of_val (m := 2048) (n := 128) _ _ ?_ ?_).symm
  · show win0_1.index t 0 * 256 + 1 * r = _; omega
  · show win0_1.index t 1 * 128 + 1 * k = _; omega

/-- One store: columns of a tile as one matrix of the stack. -/
theorem pay {N w o : ℕ} (X : FVec Ideal ⟨2, ![256, N]⟩ .f32) (inb) (h : (⟨2, ![256, w]⟩ : Shape).ShapeCasts ⟨3, ![1, 256, w]⟩)
    (x : (⟨3, ![1, 256, w]⟩ : Shape).Idx) :
    shapeCast ⟨3, ![1, 256, w]⟩ (View.ld (Val := Elt Ideal) (e' := .f32) X (Rect.unit (s := ⟨2, ![256, N]⟩) ![0, o] ![256, w] inb)) h x = rd X (x 1).val (o + (x 2).val) := by
  have x0 : (x 0).val = 0 := by have h : (x 0).val < 1 := (x 0).isLt; omega
  refine (eq_rd3 (a := 1) (m := 256) (n := w) _ x).trans ?_
  rw [x0]
  refine (rd3_cast _ h (x 1).isLt (x 2).isLt).trans ?_
  rw [View.ld_unit]
  refine (rd_slice _ _ _ (x 1).isLt (x 2).isLt).trans ?_
  show rd X (0 + _) (o + _) = _
  rw [Nat.zero_add]

/-- The tile's stack of four matrices. -/
abbrev gB (y : S4x256x1796.Idx) : EReal := J (rd (m := 256) (n := 7168) (iblk m c 0 t)) (rd (m := 256) (n := 128) (iblk m c 1 t)) (y 1).val (1796 * (y 0).val + (y 2).val)

/-- What the body leaves at a point. -/
theorem outs2 : outsAt0 m c t = gB m c t := by
  unfold outsAt0 out0_A_2
  rw [View.read_writes_eq_canon]; swap
  · intro y; apply cover0_A_2
  funext y
  have key := View.canon_append_of_piecesOf (Val := Elt Ideal) (e := .f32) (gB m c t) []
    (kernelRun0_A c (grid0.coords t) (ms0_0 t) (hs0_0 t) (ms0_1 t) (hs0_1 t) (ms0_2 t) (hs0_2 t) (iblk m c 0 t) (iblk m c 1 t)).1 ?_ y
    (cover0_A_2 c _ _ _ _ _ _ _ _ _ y)
  · rwa [List.append_nil] at key
  · unfold kernelRun0_A
    dsimp only
    sl_unfold_words
    simp only [View.readAt_eq_ld, (hs0_0 t).read_unread, (hs0_1 t).read_unread]
    unfold k0_pay1 k0_pay2 k0_pay3 k0_pay4 k0_pay5
    refine ⟨fun x => ?_, fun x => ?_, fun x => ?_, fun x => ?_, fun x => ?_, trivial⟩
    · refine (pay (N := 128) (w := 16) (o := 0) (iblk m c 1 t) _ _ x).trans ?_
      have h0 : (x 0).val < 1 := (x 0).isLt
      have h2 : (x 2).val < 16 := (x 2).isLt
      show _ = J _ _ (0 + 1 * (x 1).val) (1796 * (3 + 1 * (x 0).val) + (1780 + 1 * (x 2).val))
      unfold J; rw [if_neg (by omega)]; exact congrArg₂ _ (by omega) (by omega)
    · refine (pay (N := 7168) (w := 1780) (o := 5388) (iblk m c 0 t) _ _ x).trans ?_
      have h0 : (x 0).val < 1 := (x 0).isLt
      have h2 : (x 2).val < 1780 := (x 2).isLt
      show _ = J _ _ (0 + 1 * (x 1).val) (1796 * (3 + 1 * (x 0).val) + (0 + 1 * (x 2).val))
      unfold J; rw [if_pos (by omega)]; exact congrArg₂ _ (by omega) (by omega)
    · refine (pay (N := 7168) (w := 1796) (o := 3592) (iblk m c 0 t) _ _ x).trans ?_
      have h0 : (x 0).val < 1 := (x 0).isLt
      have h2 : (x 2).val < 1796 := (x 2).isLt
      show _ = J _ _ (0 + 1 * (x 1).val) (1796 * (2 + 1 * (x 0).val) + (0 + 1 * (x 2).val))
      unfold J; rw [if_pos (by omega)]; exact congrArg₂ _ (by omega) (by omega)
    · refine (pay (N := 7168) (w := 1796) (o := 1796) (iblk m c 0 t) _ _ x).trans ?_
      have h0 : (x 0).val < 1 := (x 0).isLt
      have h2 : (x 2).val < 1796 := (x 2).isLt
      show _ = J _ _ (0 + 1 * (x 1).val) (1796 * (1 + 1 * (x 0).val) + (0 + 1 * (x 2).val))
      unfold J; rw [if_pos (by omega)]; exact congrArg₂ _ (by omega) (by omega)
    · refine (pay (N := 7168) (w := 1796) (o := 0) (iblk m c 0 t) _ _ x).trans ?_
      have h0 : (x 0).val < 1 := (x 0).isLt
      have h2 : (x 2).val < 1796 := (x 2).isLt
      show _ = J _ _ (0 + 1 * (x 1).val) (1796 * (0 + 1 * (x 0).val) + (0 + 1 * (x 2).val))
      unfold J; rw [if_pos (by omega)]; exact congrArg₂ _ (by omega) (by omega)

/-- The four column shards of the joined matrix. -/
def G (A B : ℕ → ℕ → EReal) (p r k : ℕ) : EReal := J A B r (1796 * p + k)

theorem gB_eq (y : S4x256x1796.Idx) : gB m c t y = G (X0 m c) (X1 m c) (y 0).val (256 * t.val + (y 1).val) (y 2).val := by
  have h0 : (y 0).val < 4 := (y 0).isLt
  have h2 : (y 2).val < 1796 := (y 2).isLt
  unfold gB G J
  split
  · rename_i h; exact blk0 m c t (y 1).isLt h
  · exact blk1 m c t (y 1).isLt (by omega)

theorem index2 : win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0) t

/-- The output array after the run. -/
theorem final2 : (dats m 0 c).arrAt 2 cfg0.N = tab3 (a := 4) (m := 2048) (n := 1796) (G (X0 m c) (X1 m c)) := by
  refine (dats m 0 c).arrAt_eq_of_cover 2 _ (fun t hf => ?_) fun i => ?_
  · rw [flushed2, outs2]
    funext j
    rw [View.read_apply]
    show gB m c t j = G (X0 m c) (X1 m c) (win0_2.index t 0 * 4 + 1 * (j 0).val)
      (win0_2.index t 1 * 256 + 1 * (j 1).val) (win0_2.index t 2 * 1796 + 1 * (j 2).val)
    rw [gB_eq]
    have hi := index2 t
    rw [hi.1, hi.2.1, hi.2.2]
    congr 1 <;> omega
  · have h0 : (i 0).val < 4 := (i 0).isLt
    have h1 : (i 1).val < 2048 := (i 1).isLt
    have h2 : (i 2).val < 1796 := (i 2).isLt
    have hN : cfg0.N = 8 := by decide +kernel
    let t : Fin cfg0.N := ⟨(i 1).val / 256, by omega⟩
    refine ⟨t, flush0_2 _, ?_⟩
    show i ∈ ((View.whole main_v0).slice (win0_2.rect t)).set
    rw [View.set_slice_whole, Rect.mem_set_unit]
    have hi := index2 t
    have hv : t.val = (i 1).val / 256 := rfl
    intro a
    match a with
    | ⟨0, _⟩ => show win0_2.index t 0 * 4 ≤ (i 0).val ∧ (i 0).val < win0_2.index t 0 * 4 + 4
                rw [hi.1]; omega
    | ⟨1, _⟩ => show win0_2.index t 1 * 256 ≤ (i 1).val ∧ (i 1).val < win0_2.index t 1 * 256 + 256
                rw [hi.2.1]; omega
    | ⟨2, _⟩ => show win0_2.index t 2 * 1796 ≤ (i 2).val ∧ (i 2).val < win0_2.index t 2 * 1796 + 1796
                rw [hi.2.2]; omega

/-- The kernel's run: the shards in closed form, the arguments unchanged. -/
theorem run : θ_run defs (onTc (τ := τ) (main (F := Ideal))) ⟨m, fun _ => 0, ρ⟩ fun r => ∀ c : Dev nD,
      r.2.mem ((c : Thread nD τ).loc main_v0) = tab3 (a := 4) (m := 2048) (n := 1796) (G (X0 m c) (X1 m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (run_blocks m ρ)

/-- The reference's result at an entry. -/
theorem ref_rd (x0 : FVec Ideal ⟨2, ![2048, 7168]⟩ .f32) (x1 : FVec Ideal ⟨2, ![2048, 128]⟩ .f32) {p r k : ℕ}
    (hp : p < 4) (hr : r < 2048) (hk : k < 1796) :
    rd3 (a := 4) (m := 2048) (n := 1796) (Cert.Reference43Ideal.Read.val_main_v3 (F := Ideal) x0 x1) p r k = G (rd x0) (rd x1) p r k := by
  rw [rd3_in _ hp hr hk, Cert.Reference43Ideal.Read.val_main_v3_apply, Cert.Reference43Ideal.Read.val_main_v2_apply]
  refine (rd_of_val (m := 2048) (n := 7184) (r := r) (c := 1796 * p + k) _ _ ?_ ?_).symm.trans ?_
  · show ((r * 4 + p) * 1796 + k) / 7184 = r; omega
  · show ((r * 4 + p) * 1796 + k) % 7184 = 1796 * p + k; omega
  · unfold Cert.Reference43Ideal.Read.val_main_v1 G J
    split
    · rename_i h
      exact rd_concatCols_left _ _ _ hr h
    · obtain ⟨d, hd⟩ : ∃ d, 1796 * p + k = 7168 + d := ⟨1796 * p + k - 7168, by omega⟩
      rw [hd]
      refine (rd_concatCols_right _ _ _ hr (by omega : d < 16)).trans ?_
      unfold Cert.Reference43Ideal.Read.val_main_v0
      rw [rd_slice _ _ _ hr (by omega), Nat.add_sub_cancel_left]
      show rd x1 (0 + r) (0 + d) = _
      rw [Nat.zero_add, Nat.zero_add]

/-- The kernel and the reference end with equal arrays. -/
theorem algebraic : Cert.algebraic_Kernel43Ideal_Reference43Ideal := by
  intro m ρ m' ρ' _ hag
  refine ⟨_, run m ρ, (θ_run _ _ _).mono (fun _ h c => ⟨(h c).1.trans ?_, (h c).2⟩) (Cert.Reference43Ideal.Value.run m' ρ')⟩
  refine (Cert.Reference43Ideal.Read.val_main_v3_eq _ _).trans ?_
  rw [(hag c).1, (hag c).2]
  exact eq_tab3 fun p r k hp hr hk => ref_rd _ _ hp hr hk

/-- The reference's run leaves the arguments as they were; it uses no semaphore. -/
theorem frame_ref : Cert.quiescent_Reference43Ideal := fun m ρ _ =>
  (θ_run Cert.Reference43Ideal.defs _ _).mono (fun r h => ⟨fun c => (h c).2, Idealize.ShloMosaic.sem_eq_zero_of_no_sems (by decide) r.2⟩)
    (Cert.Reference43Ideal.Value.run (F := Ideal) m ρ)

end Cert.Q43

end
-- ==== Proof.Q44.lean ====
module

public import proofs.«01_k».proof.Proof.Heads
public import proofs.«01_k».proof.Proof.Gen.Kernel44Ideal.Value
public import proofs.«01_k».proof.Proof.Gen.Reference44Ideal.Run
public import proofs.«01_k».proof.Proof.Gen.Reference44Ideal.Read
public import proofs.«01_k».proof.Defs
public import Idealize.ShloMosaic.Lib.Pipeline.ReadBack

@[expose] public section

set_option maxRecDepth 16384

noncomputable section

namespace Cert.Q44

open Cert.Kernel44Ideal Cert.Kernel44Ideal.Gen Cert.Kernel44Ideal.Value Cert.Rd Idealize.ShloMosaic Idealize.ShloMosaic.TcCoe Idealize.SL.Sem
open Idealize.ShloMosaic.Pipeline (Dat)

variable (m : (ℓ : Loc nD τ sig) → Buf (Elt Ideal) ℓ) (c : Dev nD) (ρ : Dev nD → PrngReg) (t : Fin cfg0.N)

/-- The argument read at natural coordinates. -/
abbrev X0 : ℕ → ℕ → ℕ → EReal := rd3 (a := 4) (m := 2048) (n := 1796) (m (c.tc.loc main_arg0))

/-- The matrix the four column shards join to. -/
def D (X : ℕ → ℕ → ℕ → EReal) (R C : ℕ) : EReal := X (C / 1796) R (C % 1796)

theorem D_eq (X : ℕ → ℕ → ℕ → EReal) {R C p k : ℕ} (hk : k < 1796) (h : C = 1796 * p + k) : D X R C = X p R k := by
  have e1 : C / 1796 = p := by omega
  have e2 : C % 1796 = k := by omega
  unfold D; rw [e1, e2]

/-- The zero the padding holds. -/
abbrev Z : EReal := (FloatOps.ofBits .bf16 0x0000#16 : Ideal .bf16)

/-- The last columns, padded. -/
def P (X : ℕ → ℕ → ℕ → EReal) (R C : ℕ) : EReal := if C < 16 then D X R (7168 + C) else Z

theorem blk0 {p r k : ℕ} (hp : p < 4) (hr : r < 256) (hk : k < 1796) :
    rd3 (a := 4) (m := 256) (n := 1796) (iblk m c 0 t) p r k = X0 m c p (256 * t.val + r) k := by
  have e := (by decide +kernel : ∀ t : Fin grid0.N, win0_0.index t 0 = 0 ∧ win0_0.index t 1 = t.val ∧ win0_0.index t 2 = 0) t
  rw [rd3_in _ hp hr hk]
  unfold iblk
  rw [View.read_apply]
  show V m c main_arg0 _ = _
  rw [V_main_arg0]
  refine (rd3_of_val (a := 4) (m := 2048) (n := 1796) _ _ ?_ ?_ ?_).symm
  · show win0_0.index t 0 * 4 + 1 * p = _; omega
  · show win0_0.index t 1 * 256 + 1 * r = _; omega
  · show win0_0.index t 2 * 1796 + 1 * k = _; omega

/-- One load: a matrix of the stack. -/
theorem load {p : ℕ} (X : FVec Ideal ⟨3, ![4, 256, 1796]⟩ .bf16) (inb) (h : (⟨3, ![1, 256, 1796]⟩ : Shape).ShapeCasts ⟨2, ![256, 1796]⟩)
    {r k : ℕ} (hr : r < 256) (hk : k < 1796) :
    rd (m := 256) (n := 1796) (shapeCast ⟨2, ![256, 1796]⟩ (View.ld (Val := Elt Ideal) (e' := .bf16) X
      (Rect.unit (s := ⟨3, ![4, 256, 1796]⟩) ![p, 0, 0] ![1, 256, 1796] inb)) h) r k = rd3 X p r k := by
  refine (rd_cast3 _ h hr hk).trans ?_
  rw [rd3_in _ Nat.one_pos hr hk]
  refine (rd3_of_val (a := 4) (m := 256) (n := 1796) X _ ?_ ?_ ?_).symm
  · show p + 1 * 0 = p; omega
  · show 0 + 1 * r = r; omega
  · show 0 + 1 * k = k; omega

/-- Columns of the last matrix of the stack. -/
theorem cut {w o : ℕ} (X : FVec Ideal ⟨3, ![4, 256, 1796]⟩ .bf16) (inb) (h : (⟨3, ![1, 256, 1796]⟩ : Shape).ShapeCasts ⟨2, ![256, 1796]⟩)
    (hs) (x : (⟨2, ![256, w]⟩ : Shape).Idx) (hw : o + w ≤ 1796) :
    extractStridedSlice ⟨2, ![256, w]⟩ ![0, o] (shapeCast ⟨2, ![256, 1796]⟩ (View.ld (Val := Elt Ideal) (e' := .bf16) X
      (Rect.unit (s := ⟨3, ![4, 256, 1796]⟩) ![3, 0, 0] ![1, 256, 1796] inb)) h) hs x = rd3 X 3 (x 0).val (o + (x 1).val) := by
  have h0 : (x 0).val < 256 := (x 0).isLt
  have h1 : (x 1).val < w := (x 1).isLt
  refine (eq_rd (m := 256) (n := w) _ x).trans ?_
  refine (rd_slice _ _ _ h0 h1).trans ?_
  refine (load (p := 3) X inb h (by show 0 + _ < _; omega) (by show o + _ < _; omega)).trans ?_
  show rd3 _ 3 (0 + (x 0).val) (o + (x 1).val) = _
  rw [Nat.zero_add]

/-- The tile's stack. -/
abbrev T : ℕ → ℕ → ℕ → EReal := rd3 (a := 4) (m := 256) (n := 1796) (iblk m c 0 t)

abbrev gB1 (y : S256x7168.Idx) : EReal := D (T m c t) (y 0).val (y 1).val
abbrev gB2 (y : S256x128.Idx) : EReal := P (T m c t) (y 0).val (y 1).val

/-- The main columns the body leaves at a point. -/
theorem outs1 : (outsAt0 m c t).1 = gB1 m c t := by
  unfold outsAt0 out0_A_1
  dsimp only
  rw [View.read_writes_eq_canon]; swap
  · intro y; apply cover0_A_1
  funext y
  have key := View.canon_append_of_piecesOf (Val := Elt Ideal) (e := .bf16) (gB1 m c t) []
    (kernelRun0_A c (grid0.coords t) (ms0_0 t) (hs0_0 t) (ms0_1 t) (hs0_1 t) (ms0_2 t) (hs0_2 t) (iblk m c 0 t)).1 ?_ y
    (cover0_A_1 c _ _ _ _ _ _ _ _ y)
  · rwa [List.append_nil] at key
  · unfold kernelRun0_A
    dsimp only
    sl_unfold_words
    simp only [View.readAt_eq_ld, (hs0_0 t).read_unread]
    unfold k0_pay1 k0_pay2 k0_pay3 k0_pay5 k0_pay4
    refine ⟨fun x => ?_, fun x => ?_, fun x => ?_, fun x => ?_, trivial⟩
    · have h0 : (x 0).val < 256 := (x 0).isLt
      have h1 : (x 1).val < 1780 := (x 1).isLt
      refine (cut (w := 1780) (o := 0) (iblk m c 0 t) _ _ slices_S256x1796_o0_0_S256x1780 x (by decide)).trans ?_
      show rd3 _ 3 (x 0).val (0 + (x 1).val) = D (T m c t) (0 + 1 * (x 0).val) (5388 + 1 * (x 1).val)
      rw [D_eq _ (by omega : (x 1).val < 1796) (by omega : 5388 + 1 * (x 1).val = 1796 * 3 + (x 1).val), Nat.one_mul, Nat.zero_add, Nat.zero_add]
    · have h1 : (x 1).val < 1796 := (x 1).isLt
      refine (eq_rd (m := 256) (n := 1796) _ x).trans ?_
      refine (load (p := 2) (iblk m c 0 t) _ _ (x 0).isLt h1).trans ?_
      show _ = D (T m c t) (0 + 1 * (x 0).val) (3592 + 1 * (x 1).val)
      rw [D_eq _ h1 (by omega : 3592 + 1 * (x 1).val = 1796 * 2 + (x 1).val), Nat.one_mul, Nat.zero_add]
    · have h1 : (x 1).val < 1796 := (x 1).isLt
      refine (eq_rd (m := 256) (n := 1796) _ x).trans ?_
      refine (load (p := 1) (iblk m c 0 t) _ _ (x 0).isLt h1).trans ?_
      show _ = D (T m c t) (0 + 1 * (x 0).val) (1796 + 1 * (x 1).val)
      rw [D_eq _ h1 (by omega : 1796 + 1 * (x 1).val = 1796 * 1 + (x 1).val), Nat.one_mul, Nat.zero_add]
    · have h1 : (x 1).val < 1796 := (x 1).isLt
      refine (eq_rd (m := 256) (n := 1796) _ x).trans ?_
      refine (load (p := 0) (iblk m c 0 t) _ _ (x 0).isLt h1).trans ?_
      show _ = D (T m c t) (0 + 1 * (x 0).val) (0 + 1 * (x 1).val)
      rw [D_eq _ h1 (by omega : 0 + 1 * (x 1).val = 1796 * 0 + (x 1).val), Nat.one_mul, Nat.zero_add]

/-- The padded columns the body leaves at a point. -/
theorem outs2 : (outsAt0 m c t).2 = gB2 m c t := by
  unfold outsAt0 out0_A_2
  dsimp only
  rw [View.read_writes_eq_canon]; swap
  · intro y; apply cover0_A_2
  funext y
  unfold kernelRun0_A
  dsimp only
  sl_unfold_words
  simp only [View.readAt_eq_ld, (hs0_0 t).read_unread]
  unfold k0_pay6 k0_pay7 k0_pay4
  by_cases hy : (y 1).val < 16
  · refine View.canon_append_of_piecesOf (Val := Elt Ideal) (e := .bf16) (gB2 m c t) [_] [_] ⟨fun x => ?_, trivial⟩ y
      ⟨_, List.mem_cons_self, ?_⟩
    · have h0 : (x 0).val < 256 := (x 0).isLt
      have h1 : (x 1).val < 16 := (x 1).isLt
      refine (cut (w := 16) (o := 1780) (iblk m c 0 t) _ _ slices_S256x1796_o0_1780_S256x16 x (by decide)).trans ?_
      show rd3 _ 3 (x 0).val (1780 + (x 1).val) = P (T m c t) (0 + 1 * (x 0).val) (0 + 1 * (x 1).val)
      unfold P
      rw [if_pos (by omega), D_eq _ (by omega : 1780 + (x 1).val < 1796) (by omega : 7168 + (0 + 1 * (x 1).val) = 1796 * 3 + (1780 + (x 1).val)), Nat.one_mul, Nat.zero_add]
    · rw [Rect.mem_set_unit]
      intro a
      match a with
      | ⟨0, _⟩ => show 0 ≤ (y 0).val ∧ (y 0).val < 0 + 256; have := (y 0).isLt; exact ⟨Nat.zero_le _, by rw [Nat.zero_add]; exact this⟩
      | ⟨1, _⟩ => show 0 ≤ (y 1).val ∧ (y 1).val < 0 + 16; omega
  · rw [View.canon_cons_of_not_mem _ _ (fun h => by
      rw [Rect.mem_set_unit] at h
      have h1 : 0 ≤ (y 1).val ∧ (y 1).val < 0 + 16 := h 1
      omega)]
    rw [View.canon_unit_zero hz2]
    show Z = P _ _ _
    unfold P; rw [if_neg hy]

theorem gB1_eq (y : S256x7168.Idx) : gB1 m c t y = D (X0 m c) (256 * t.val + (y 0).val) (y 1).val := by
  have h1 : (y 1).val < 7168 := (y 1).isLt
  exact blk0 m c t (by omega) (y 0).isLt (by omega)

theorem gB2_eq (y : S256x128.Idx) : gB2 m c t y = P (X0 m c) (256 * t.val + (y 0).val) (y 1).val := by
  unfold gB2 P
  split
  · exact blk0 m c t (by omega) (y 0).isLt (by omega)
  · rfl

theorem index1 : win0_1.index t 0 = t.val ∧ win0_1.index t 1 = 0 :=
  (by decide +kernel : ∀ t : Fin grid0.N, win0_1.index t 0 = t.val ∧ win0_1.index t 1 = 0) t
theorem index2 : win0_2.index t 0 = t.val ∧ win0_2.index t 1 = 0 :=
  (by decide +kernel : ∀ t : Fin grid0.N, win0_2.index t 0 = t.val ∧ win0_2.index t 1 = 0) t

/-- The main columns after the run. -/
theorem final1 : (dats m 0 c).arrAt 1 cfg0.N = tab (m := 2048) (n := 7168) (D (X0 m c)) := by
  refine (dats m 0 c).arrAt_eq_of_cover 1 _ (fun t hf => ?_) fun i => ?_
  · rw [flushed1, outs1]
    funext j
    rw [View.read_apply]
    show gB1 m c t j = D (X0 m c) (win0_1.index t 0 * 256 + 1 * (j 0).val) (win0_1.index t 1 * 7168 + 1 * (j 1).val)
    rw [gB1_eq]
    have hi := index1 t
    rw [hi.1, hi.2]
    exact congrArg₂ _ (by omega) (by omega)
  · have h0 : (i 0).val < 2048 := (i 0).isLt
    have h1 : (i 1).val < 7168 := (i 1).isLt
    have hN : cfg0.N = 8 := by decide +kernel
    let t : Fin cfg0.N := ⟨(i 0).val / 256, by omega⟩
    refine ⟨t, flush0_1 _, ?_⟩
    show i ∈ ((View.whole main_v0_0).slice (win0_1.rect t)).set
    rw [View.set_slice_whole, Rect.mem_set_unit]
    have hi := index1 t
    have hv : t.val = (i 0).val / 256 := rfl
    intro a
    match a with
    | ⟨0, _⟩ => show win0_1.index t 0 * 256 ≤ (i 0).val ∧ (i 0).val < win0_1.index t 0 * 256 + 256
                rw [hi.1]; omega
    | ⟨1, _⟩ => show win0_1.index t 1 * 7168 ≤ (i 1).val ∧ (i 1).val < win0_1.index t 1 * 7168 + 7168
                rw [hi.2]; omega

/-- The padded columns after the run. -/
theorem final2 : (dats m 0 c).arrAt 2 cfg0.N = tab (m := 2048) (n := 128) (P (X0 m c)) := by
  refine (dats m 0 c).arrAt_eq_of_cover 2 _ (fun t hf => ?_) fun i => ?_
  · rw [flushed2, outs2]
    funext j
    rw [View.read_apply]
    show gB2 m c t j = P (X0 m c) (win0_2.index t 0 * 256 + 1 * (j 0).val) (win0_2.index t 1 * 128 + 1 * (j 1).val)
    rw [gB2_eq]
    have hi := index2 t
    rw [hi.1, hi.2]
    exact congrArg₂ _ (by omega) (by omega)
  · have h0 : (i 0).val < 2048 := (i 0).isLt
    have h1 : (i 1).val < 128 := (i 1).isLt
    have hN : cfg0.N = 8 := by decide +kernel
    let t : Fin cfg0.N := ⟨(i 0).val / 256, by omega⟩
    refine ⟨t, flush0_2 _, ?_⟩
    show i ∈ ((View.whole main_v0_1).slice (win0_2.rect t)).set
    rw [View.set_slice_whole, Rect.mem_set_unit]
    have hi := index2 t
    have hv : t.val = (i 0).val / 256 := rfl
    intro a
    match a with
    | ⟨0, _⟩ => show win0_2.index t 0 * 256 ≤ (i 0).val ∧ (i 0).val < win0_2.index t 0 * 256 + 256
                rw [hi.1]; omega
    | ⟨1, _⟩ => show win0_2.index t 1 * 128 ≤ (i 1).val ∧ (i 1).val < win0_2.index t 1 * 128 + 128
                rw [hi.2]; omega

/-- The kernel's run: both arrays in closed form, the argument unchanged. -/
theorem run : θ_run defs (onTc (τ := τ) (main (F := Ideal))) ⟨m, fun _ => 0, ρ⟩ fun r => ∀ c : Dev nD,
      r.2.mem ((c : Thread nD τ).loc main_v0_0) = tab (m := 2048) (n := 7168) (D (X0 m c))
      ∧ r.2.mem ((c : Thread nD τ).loc main_v0_1) = tab (m := 2048) (n := 128) (P (X0 m c))
      ∧ r.2.mem ((c : Thread nD τ).loc main_arg0) = m ((c : Thread nD τ).loc main_arg0) :=
  (θ_run defs _ _).mono (fun _ h c => ⟨(h c).1.trans (final1 m c), (h c).2.1.trans (final2 m c), (h c).2.2⟩) (run_blocks m ρ)

/-- The joined matrix of the reference at an entry. -/
theorem ref_join (x0 : FVec Ideal ⟨3, ![4, 2048, 1796]⟩ .bf16) {r k : ℕ} (hr : r < 2048) (hk : k < 7184) :
    rd (m := 2048) (n := 7184) (Cert.Reference44Ideal.Read.val_main_v1 (F := Ideal) x0) r k = D (rd3 x0) r k := by
  rw [rd_in _ hr hk, Cert.Reference44Ideal.Read.val_main_v1_apply, Cert.Reference44Ideal.Read.val_main_v0_apply]
  refine (rd3_of_val (a := 4) (m := 2048) (n := 1796) (p := k / 1796) (r := r) (c := k % 1796) x0 _ ?_ ?_ ?_).symm
  · show (r * 7184 + k) / 1796 % 4 = k / 1796; omega
  · show (r * 7184 + k) / 7184 = r; omega
  · show (r * 7184 + k) % 1796 = k % 1796; omega

theorem ref_rd1 (x0 : FVec Ideal ⟨3, ![4, 2048, 1796]⟩ .bf16) {r k : ℕ} (hr : r < 2048) (hk : k < 7168) :
    rd (m := 2048) (n := 7168) (Cert.Reference44Ideal.Read.val_main_v2 (F := Ideal) x0) r k = D (rd3 x0) r k := by
  unfold Cert.Reference44Ideal.Read.val_main_v2
  refine (rd_slice _ _ _ hr hk).trans ?_
  refine (ref_join x0 (by show 0 + _ < _; omega) (by show 0 + _ < _; omega)).trans ?_
  show D _ (0 + r) (0 + k) = _
  rw [Nat.zero_add, Nat.zero_add]

theorem ref_rd2 (x0 : FVec Ideal ⟨3, ![4, 2048, 1796]⟩ .bf16) {r k : ℕ} (hr : r < 2048) (hk : k < 128) :
    rd (m := 2048) (n := 128) (Cert.Reference44Ideal.Read.val_main_v5 (F := Ideal) x0) r k = P (rd3 x0) r k := by
  unfold Cert.Reference44Ideal.Read.val_main_v5 P
  split
  · rename_i h
    refine (rd_concatCols_left _ _ _ hr h).trans ?_
    unfold Cert.Reference44Ideal.Read.val_main_v3
    refine (rd_slice _ _ _ hr h).trans ?_
    refine (ref_join x0 (by show 0 + _ < _; omega) (by show 7168 + _ < _; omega)).trans ?_
    show D _ (0 + r) (7168 + k) = _
    rw [Nat.zero_add]
  · obtain ⟨d, hd⟩ : ∃ d, k = 16 + d := ⟨k - 16, by omega⟩
    rw [hd]
    have hd' : d < 112 := by omega
    refine (rd_concatCols_right _ _ _ hr hd').trans ?_
    rw [rd_in _ hr hd', Cert.Reference44Ideal.Read.val_main_v4_apply, Cert.Reference44Ideal.Read.val_main_cst_apply]

/-- The kernel and the reference end with equal arrays. -/
theorem algebraic : Cert.algebraic_Kernel44Ideal_Reference44Ideal := by
  intro m ρ m' ρ' _ hag
  refine ⟨_, _, run m ρ, (θ_run _ _ _).mono (fun _ h c => ⟨(h c).1.trans ?_, (h c).2.1.trans ?_, (h c).2.2⟩) (Cert.Reference44Ideal.Value.run m' ρ')⟩
  · refine (Cert.Reference44Ideal.Read.val_main_v2_eq _).trans ?_
    rw [hag c]
    exact eq_tab fun r k hr hk => ref_rd1 _ hr hk
  · refine (Cert.Reference44Ideal.Read.val_main_v5_eq _).trans ?_
    rw [hag c]
    exact eq_tab fun r k hr hk => ref_rd2 _ hr hk

/-- The reference's run leaves the argument as it was; it uses no semaphore. -/
theorem frame_ref : Cert.quiescent_Reference44Ideal := fun m ρ _ =>
  (θ_run Cert.Reference44Ideal.defs _ _).mono (fun r h => ⟨fun c => (h c).2.2, Idealize.ShloMosaic.sem_eq_zero_of_no_sems (by decide) r.2⟩)
    (Cert.Reference44Ideal.Value.run (F := Ideal) m ρ)

end Cert.Q44

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel40
public import proofs.«01_k».proof.Proof.Gen.Kernel40.Frame
public import proofs.«01_k».proof.Proof.Gen.Kernel40Ideal
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel41
public import proofs.«01_k».proof.Proof.Gen.Kernel41.Frame
public import proofs.«01_k».proof.Proof.Gen.Kernel41Ideal
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel42
public import proofs.«01_k».proof.Proof.Gen.Kernel42.Frame
public import proofs.«01_k».proof.Proof.Gen.Kernel42Ideal
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.Gen.Kernel43
public import proofs.«01_k».proof.Proof.Gen.Kernel43.Frame
public import proofs.«01_k».proof.Proof.Gen.Kernel43Ideal
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.Gen.Kernel44
public import proofs.«01_k».proof.Proof.Gen.Kernel44.Frame
public import proofs.«01_k».proof.Proof.Gen.Kernel44Ideal
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Reference44Ideal.Read
public import proofs.«01_k».proof.Proof.Gen.Pre_finite24
public import proofs.«01_k».proof.Proof.Gen.Pre_finite25
public import proofs.«01_k».proof.Proof.Gen.Pre_finite26
public import proofs.«01_k».proof.Proof.Gen.Pre_finite27
public import proofs.«01_k».proof.Proof.Gen.Pre_finite28
public import proofs.«01_k».proof.Proof.Gen.Pre_finite34
public import proofs.«01_k».proof.Proof.GaFinal
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Mm19
public import proofs.«01_k».proof.Proof.Mm20
public import proofs.«01_k».proof.Proof.Mm21
public import proofs.«01_k».proof.Proof.Mm22
public import proofs.«01_k».proof.Proof.Adam32
public import proofs.«01_k».proof.Proof.Adam36
public import proofs.«01_k».proof.Proof.Adam37
public import proofs.«01_k».proof.Proof.Adam38
public import proofs.«01_k».proof.Proof.Adam39
public import proofs.«01_k».proof.Proof.Mm23
public import proofs.«01_k».proof.Proof.Mm29
public import proofs.«01_k».proof.Proof.Adam40
public import proofs.«01_k».proof.Proof.C30
public import proofs.«01_k».proof.Proof.C27
public import proofs.«01_k».proof.Proof.C26
public import proofs.«01_k».proof.Proof.H24
public import proofs.«01_k».proof.Proof.H35
public import proofs.«01_k».proof.Proof.G31
public import proofs.«01_k».proof.Proof.Sum41
public import proofs.«01_k».proof.Proof.G25
public import proofs.«01_k».proof.Proof.H33
public import proofs.«01_k».proof.Proof.Q28
public import proofs.«01_k».proof.Proof.Q34
public import proofs.«01_k».proof.Proof.Q42
public import proofs.«01_k».proof.Proof.Q43
public import proofs.«01_k».proof.Proof.Q44
public import Idealize.ShloMosaic.Adequacy
public import Idealize.ShloMosaic.Init

@[expose] public section

noncomputable section

namespace Cert.Proof

open Idealize.ShloMosaic Idealize.SL.Sem

/-- Every claim of the certificate: each program runs and leaves its arguments, and each kernel ends with its reference's arrays. -/
theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel32.Gen.facts, Cert.Kernel32Ideal.Gen.facts, Cert.Reference32Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel23.Gen.facts, Cert.Kernel23Ideal.Gen.facts, Cert.Reference23Ideal.Gen.facts, Cert.Kernel29.Gen.facts, Cert.Kernel29Ideal.Gen.facts, Cert.Reference29Ideal.Gen.facts, Cert.Kernel40.Gen.facts, Cert.Kernel40Ideal.Gen.facts, Cert.Reference40Ideal.Gen.facts, Cert.Kernel30.Gen.facts, Cert.Kernel30Ideal.Gen.facts, Cert.Reference30Ideal.Gen.facts, Cert.Kernel27.Gen.facts, Cert.Kernel27Ideal.Gen.facts, Cert.Reference27Ideal.Gen.facts, Cert.Kernel26.Gen.facts, Cert.Kernel26Ideal.Gen.facts, Cert.Reference26Ideal.Gen.facts, Cert.Kernel24.Gen.facts, Cert.Kernel24Ideal.Gen.facts, Cert.Reference24Ideal.Gen.facts, Cert.Kernel35.Gen.facts, Cert.Kernel35Ideal.Gen.facts, Cert.Reference35Ideal.Gen.facts, Cert.Kernel31.Gen.facts, Cert.Kernel31Ideal.Gen.facts, Cert.Reference31Ideal.Gen.facts, Cert.Kernel41.Gen.facts, Cert.Kernel41Ideal.Gen.facts, Cert.Reference41Ideal.Gen.facts, Cert.Kernel25.Gen.facts, Cert.Kernel25Ideal.Gen.facts, Cert.Reference25Ideal.Gen.facts, Cert.Kernel33.Gen.facts, Cert.Kernel33Ideal.Gen.facts, Cert.Reference33Ideal.Gen.facts, Cert.Kernel28.Gen.facts, Cert.Kernel28Ideal.Gen.facts, Cert.Reference28Ideal.Gen.facts, Cert.Kernel34.Gen.facts, Cert.Kernel34Ideal.Gen.facts, Cert.Reference34Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Pre_finite27.Gen.facts, Cert.Pre_finite26.Gen.facts, Cert.Pre_finite24.Gen.facts, Cert.Pre_finite25.Gen.facts, Cert.Pre_finite28.Gen.facts, Cert.Pre_finite34.Gen.facts,
  fun m ρ _ => Cert.Kernel.Gen.frame m ρ, fun m ρ _ => Cert.KernelIdeal.Gen.frame m ρ, Cert.Ga.frame_ref,
  fun m ρ _ => Cert.Kernel2.Gen.frame m ρ, fun m ρ _ => Cert.Kernel2Ideal.Gen.frame m ρ, Cert.Mm2.frame_ref,
  fun m ρ _ => Cert.Kernel3.Gen.frame m ρ, fun m ρ _ => Cert.Kernel3Ideal.Gen.frame m ρ, Cert.Mm3.frame_ref,
  fun m ρ _ => Cert.Kernel4.Gen.frame m ρ, fun m ρ _ => Cert.Kernel4Ideal.Gen.frame m ρ, Cert.Mm4.frame_ref,
  fun m ρ _ => Cert.Kernel5.Gen.frame m ρ, fun m ρ _ => Cert.Kernel5Ideal.Gen.frame m ρ, Cert.Mm5.frame_ref,
  fun m ρ _ => Cert.Kernel6.Gen.frame m ρ, fun m ρ _ => Cert.Kernel6Ideal.Gen.frame m ρ, Cert.Mm6.frame_ref,
  fun m ρ _ => Cert.Kernel7.Gen.frame m ρ, fun m ρ _ => Cert.Kernel7Ideal.Gen.frame m ρ, Cert.Mm7.frame_ref,
  fun m ρ _ => Cert.Kernel8.Gen.frame m ρ, fun m ρ _ => Cert.Kernel8Ideal.Gen.frame m ρ, Cert.Mm8.frame_ref,
  fun m ρ _ => Cert.Kernel9.Gen.frame m ρ, fun m ρ _ => Cert.Kernel9Ideal.Gen.frame m ρ, Cert.Mm9.frame_ref,
  fun m ρ _ => Cert.Kernel10.Gen.frame m ρ, fun m ρ _ => Cert.Kernel10Ideal.Gen.frame m ρ, Cert.Mm10.frame_ref,
  fun m ρ _ => Cert.Kernel11.Gen.frame m ρ, fun m ρ _ => Cert.Kernel11Ideal.Gen.frame m ρ, Cert.Mm11.frame_ref,
  fun m ρ _ => Cert.Kernel12.Gen.frame m ρ, fun m ρ _ => Cert.Kernel12Ideal.Gen.frame m ρ, Cert.Mm12.frame_ref,
  fun m ρ _ => Cert.Kernel13.Gen.frame m ρ, fun m ρ _ => Cert.Kernel13Ideal.Gen.frame m ρ, Cert.Mm13.frame_ref,
  fun m ρ _ => Cert.Kernel14.Gen.frame m ρ, fun m ρ _ => Cert.Kernel14Ideal.Gen.frame m ρ, Cert.Mm14.frame_ref,
  fun m ρ _ => Cert.Kernel15.Gen.frame m ρ, fun m ρ _ => Cert.Kernel15Ideal.Gen.frame m ρ, Cert.Mm15.frame_ref,
  fun m ρ _ => Cert.Kernel16.Gen.frame m ρ, fun m ρ _ => Cert.Kernel16Ideal.Gen.frame m ρ, Cert.Mm16.frame_ref,
  fun m ρ _ => Cert.Kernel17.Gen.frame m ρ, fun m ρ _ => Cert.Kernel17Ideal.Gen.frame m ρ, Cert.Mm17.frame_ref,
  fun m ρ _ => Cert.Kernel18.Gen.frame m ρ, fun m ρ _ => Cert.Kernel18Ideal.Gen.frame m ρ, Cert.Mm18.frame_ref,
  fun m ρ _ => Cert.Kernel19.Gen.frame m ρ, fun m ρ _ => Cert.Kernel19Ideal.Gen.frame m ρ, Cert.Mm19.frame_ref,
  fun m ρ _ => Cert.Kernel20.Gen.frame m ρ, fun m ρ _ => Cert.Kernel20Ideal.Gen.frame m ρ, Cert.Mm20.frame_ref,
  fun m ρ _ => Cert.Kernel21.Gen.frame m ρ, fun m ρ _ => Cert.Kernel21Ideal.Gen.frame m ρ, Cert.Mm21.frame_ref,
  fun m ρ _ => Cert.Kernel22.Gen.frame m ρ, fun m ρ _ => Cert.Kernel22Ideal.Gen.frame m ρ, Cert.Mm22.frame_ref,
  fun m ρ _ => Cert.Kernel32.Gen.frame m ρ, fun m ρ _ => Cert.Kernel32Ideal.Gen.frame m ρ, Cert.Adam32.frame_ref,
  fun m ρ _ => Cert.Kernel36.Gen.frame m ρ, fun m ρ _ => Cert.Kernel36Ideal.Gen.frame m ρ, Cert.Adam36.frame_ref,
  fun m ρ _ => Cert.Kernel37.Gen.frame m ρ, fun m ρ _ => Cert.Kernel37Ideal.Gen.frame m ρ, Cert.Adam37.frame_ref,
  fun m ρ _ => Cert.Kernel38.Gen.frame m ρ, fun m ρ _ => Cert.Kernel38Ideal.Gen.frame m ρ, Cert.Adam38.frame_ref,
  fun m ρ _ => Cert.Kernel39.Gen.frame m ρ, fun m ρ _ => Cert.Kernel39Ideal.Gen.frame m ρ, Cert.Adam39.frame_ref,
  fun m ρ _ => Cert.Kernel23.Gen.frame m ρ, fun m ρ _ => Cert.Kernel23Ideal.Gen.frame m ρ, Cert.Mm23.frame_ref,
  fun m ρ _ => Cert.Kernel29.Gen.frame m ρ, fun m ρ _ => Cert.Kernel29Ideal.Gen.frame m ρ, Cert.Mm29.frame_ref,
  fun m ρ _ => Cert.Kernel40.Gen.frame m ρ, fun m ρ _ => Cert.Kernel40Ideal.Gen.frame m ρ, Cert.Adam40.frame_ref,
  fun m ρ _ => Cert.Kernel30.Gen.frame m ρ, fun m ρ _ => Cert.Kernel30Ideal.Gen.frame m ρ, Cert.C30.frame_ref,
  fun m ρ _ => Cert.Kernel27.Gen.frame m ρ, fun m ρ _ => Cert.Kernel27Ideal.Gen.frame m ρ, fun m ρ _ => Cert.Kernel27Ideal.Gen.frame m ρ, Cert.C27.frame_ref, fun m ρ _ => Cert.C27.frame_ref m ρ trivial,
  fun m ρ _ => Cert.Kernel26.Gen.frame m ρ, fun m ρ _ => Cert.Kernel26Ideal.Gen.frame m ρ, fun m ρ _ => Cert.Kernel26Ideal.Gen.frame m ρ, Cert.C26.frame_ref, fun m ρ _ => Cert.C26.frame_ref m ρ trivial,
  fun m ρ _ => Cert.Kernel24.Gen.frame m ρ, fun m ρ _ => Cert.Kernel24Ideal.Gen.frame m ρ, fun m ρ _ => Cert.Kernel24Ideal.Gen.frame m ρ, Cert.H24.frame_ref, fun m ρ _ => Cert.H24.frame_ref m ρ trivial,
  fun m ρ _ => Cert.Kernel35.Gen.frame m ρ, fun m ρ _ => Cert.Kernel35Ideal.Gen.frame m ρ, Cert.H35.frame_ref,
  fun m ρ _ => Cert.Kernel31.Gen.frame m ρ, fun m ρ _ => Cert.Kernel31Ideal.Gen.frame m ρ, Cert.G31.frame_ref,
  fun m ρ _ => Cert.Kernel41.Gen.frame m ρ, fun m ρ _ => Cert.Kernel41Ideal.Gen.frame m ρ, Cert.Sum41.frame_ref,
  fun m ρ _ => Cert.Kernel25.Gen.frame m ρ, fun m ρ _ => Cert.Kernel25Ideal.Gen.frame m ρ, fun m ρ _ => Cert.Kernel25Ideal.Gen.frame m ρ, Cert.G25.frame_ref, fun m ρ _ => Cert.G25.frame_ref m ρ trivial,
  fun m ρ _ => Cert.Kernel33.Gen.frame m ρ, fun m ρ _ => Cert.Kernel33Ideal.Gen.frame m ρ, Cert.H33.frame_ref,
  fun m ρ _ => Cert.Kernel28.Gen.frame m ρ, fun m ρ _ => Cert.Kernel28Ideal.Gen.frame m ρ, fun m ρ _ => Cert.Kernel28Ideal.Gen.frame m ρ, Cert.Q28.frame_ref, fun m ρ _ => Cert.Q28.frame_ref m ρ trivial,
  fun m ρ _ => Cert.Kernel34.Gen.frame m ρ, fun m ρ _ => Cert.Kernel34Ideal.Gen.frame m ρ, fun m ρ _ => Cert.Kernel34Ideal.Gen.frame m ρ, Cert.Q34.frame_ref, fun m ρ _ => Cert.Q34.frame_ref m ρ trivial,
  fun m ρ _ => Cert.Kernel42.Gen.frame m ρ, fun m ρ _ => Cert.Kernel42Ideal.Gen.frame m ρ, Cert.Q42.frame_ref,
  fun m ρ _ => Cert.Kernel43.Gen.frame m ρ, fun m ρ _ => Cert.Kernel43Ideal.Gen.frame m ρ, Cert.Q43.frame_ref,
  fun m ρ _ => Cert.Kernel44.Gen.frame m ρ, fun m ρ _ => Cert.Kernel44Ideal.Gen.frame m ρ, Cert.Q44.frame_ref,
  trivial, Cert.Ga.algebraic,
  trivial, Cert.Mm2.algebraic,
  trivial, Cert.Mm3.algebraic,
  trivial, Cert.Mm4.algebraic,
  trivial, Cert.Mm5.algebraic,
  trivial, Cert.Mm6.algebraic,
  trivial, Cert.Mm7.algebraic,
  trivial, Cert.Mm8.algebraic,
  trivial, Cert.Mm9.algebraic,
  trivial, Cert.Mm10.algebraic,
  trivial, Cert.Mm11.algebraic,
  trivial, Cert.Mm12.algebraic,
  trivial, Cert.Mm13.algebraic,
  trivial, Cert.Mm14.algebraic,
  trivial, Cert.Mm15.algebraic,
  trivial, Cert.Mm16.algebraic,
  trivial, Cert.Mm17.algebraic,
  trivial, Cert.Mm18.algebraic,
  trivial, Cert.Mm19.algebraic,
  trivial, Cert.Mm20.algebraic,
  trivial, Cert.Mm21.algebraic,
  trivial, Cert.Mm22.algebraic,
  Cert.Adam32.preserves, Cert.Adam32.algebraic,
  Cert.Adam36.preserves, Cert.Adam36.algebraic,
  Cert.Adam37.preserves, Cert.Adam37.algebraic,
  Cert.Adam38.preserves, Cert.Adam38.algebraic,
  Cert.Adam39.preserves, Cert.Adam39.algebraic,
  trivial, Cert.Mm23.algebraic,
  trivial, Cert.Mm29.algebraic,
  Cert.Adam40.preserves, Cert.Adam40.algebraic,
  trivial, Cert.C30.algebraic,
  trivial, Cert.C27.algebraic,
  trivial, Cert.C26.algebraic,
  trivial, Cert.H24.algebraic,
  trivial, Cert.H35.algebraic,
  trivial, Cert.G31.algebraic,
  trivial, Cert.Sum41.algebraic,
  trivial, Cert.G25.algebraic,
  trivial, Cert.H33.algebraic,
  trivial, Cert.Q28.algebraic,
  trivial, Cert.Q34.algebraic,
  trivial, Cert.Q42.algebraic,
  trivial, Cert.Q43.algebraic,
  trivial, Cert.Q44.algebraic⟩

end Cert.Proof

end
